-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))) = (fun _ => 1#1)

def Pre_FdbKernel (m : (ℓ : Loc Cert.FdbKernel.nD Cert.FdbKernel.τ Cert.FdbKernel.sig) → Buf (Elt Bits) ℓ) : Prop :=
  True

def Pre_FdbKernelIdeal (m : (ℓ : Loc Cert.FdbKernelIdeal.nD Cert.FdbKernelIdeal.τ Cert.FdbKernelIdeal.sig) → Buf (Elt Ideal) ℓ) : Prop :=
  True

def Pre_FdbKernelIdeal_fdb_finite [hPre_fdb_finite : Cert.Pre_fdb_finite.Facts] (m : (ℓ : Loc Cert.FdbKernelIdeal.nD Cert.FdbKernelIdeal.τ Cert.FdbKernelIdeal.sig) → Buf (Elt Ideal) ℓ) : Prop :=
  ∀ c : Dev Cert.FdbKernelIdeal.nD,
    (Cert.Pre_fdb_finite.fn (F := Ideal) (m ((c.tc : Thread Cert.FdbKernelIdeal.nD Cert.FdbKernelIdeal.τ).loc Cert.FdbKernelIdeal.main_arg0)) (m ((c.tc : Thread Cert.FdbKernelIdeal.nD Cert.FdbKernelIdeal.τ).loc Cert.FdbKernelIdeal.main_arg1)) (m ((c.tc : Thread Cert.FdbKernelIdeal.nD Cert.FdbKernelIdeal.τ).loc Cert.FdbKernelIdeal.main_arg2)) (m ((c.tc : Thread Cert.FdbKernelIdeal.nD Cert.FdbKernelIdeal.τ).loc Cert.FdbKernelIdeal.main_arg3))) = (fun _ => 1#1)

def Pre_FdbReferenceIdeal (m : (ℓ : Loc Cert.FdbReferenceIdeal.nD Cert.FdbReferenceIdeal.τ Cert.FdbReferenceIdeal.sig) → Buf (Elt Ideal) ℓ) : Prop :=
  True

def Pre_FdbReferenceIdeal_fdb_finite [hPre_fdb_finite : Cert.Pre_fdb_finite.Facts] (m : (ℓ : Loc Cert.FdbReferenceIdeal.nD Cert.FdbReferenceIdeal.τ Cert.FdbReferenceIdeal.sig) → Buf (Elt Ideal) ℓ) : Prop :=
  ∀ c : Dev Cert.FdbReferenceIdeal.nD,
    (Cert.Pre_fdb_finite.fn (F := Ideal) (m ((c.tc : Thread Cert.FdbReferenceIdeal.nD Cert.FdbReferenceIdeal.τ).loc Cert.FdbReferenceIdeal.main_arg0)) (m ((c.tc : Thread Cert.FdbReferenceIdeal.nD Cert.FdbReferenceIdeal.τ).loc Cert.FdbReferenceIdeal.main_arg1)) (m ((c.tc : Thread Cert.FdbReferenceIdeal.nD Cert.FdbReferenceIdeal.τ).loc Cert.FdbReferenceIdeal.main_arg2)) (m ((c.tc : Thread Cert.FdbReferenceIdeal.nD Cert.FdbReferenceIdeal.τ).loc Cert.FdbReferenceIdeal.main_arg3))) = (fun _ => 1#1)

def Pre_FubKernel (m : (ℓ : Loc Cert.FubKernel.nD Cert.FubKernel.τ Cert.FubKernel.sig) → Buf (Elt Bits) ℓ) : Prop :=
  True

def Pre_FubKernelIdeal (m : (ℓ : Loc Cert.FubKernelIdeal.nD Cert.FubKernelIdeal.τ Cert.FubKernelIdeal.sig) → Buf (Elt Ideal) ℓ) : Prop :=
  True

def Pre_FubReferenceIdeal (m : (ℓ : Loc Cert.FubReferenceIdeal.nD Cert.FubReferenceIdeal.τ Cert.FubReferenceIdeal.sig) → Buf (Elt Ideal) ℓ) : Prop :=
  True

def Pre_DwdKernel (m : (ℓ : Loc Cert.DwdKernel.nD Cert.DwdKernel.τ Cert.DwdKernel.sig) → Buf (Elt Bits) ℓ) : Prop :=
  True

def Pre_DwdKernelIdeal (m : (ℓ : Loc Cert.DwdKernelIdeal.nD Cert.DwdKernelIdeal.τ Cert.DwdKernelIdeal.sig) → Buf (Elt Ideal) ℓ) : Prop :=
  True

def Pre_DwdReferenceIdeal (m : (ℓ : Loc Cert.DwdReferenceIdeal.nD Cert.DwdReferenceIdeal.τ Cert.DwdReferenceIdeal.sig) → Buf (Elt Ideal) ℓ) : Prop :=
  True

def Pre_DwbKernel (m : (ℓ : Loc Cert.DwbKernel.nD Cert.DwbKernel.τ Cert.DwbKernel.sig) → Buf (Elt Bits) ℓ) : Prop :=
  True

def Pre_DwbKernelIdeal (m : (ℓ : Loc Cert.DwbKernelIdeal.nD Cert.DwbKernelIdeal.τ Cert.DwbKernelIdeal.sig) → Buf (Elt Ideal) ℓ) : Prop :=
  True

def Pre_DwbReferenceIdeal (m : (ℓ : Loc Cert.DwbReferenceIdeal.nD Cert.DwbReferenceIdeal.τ Cert.DwbReferenceIdeal.sig) → Buf (Elt Ideal) ℓ) : Prop :=
  True

def Pre_DwaKernel (m : (ℓ : Loc Cert.DwaKernel.nD Cert.DwaKernel.τ Cert.DwaKernel.sig) → Buf (Elt Bits) ℓ) : Prop :=
  True

def Pre_DwaKernelIdeal (m : (ℓ : Loc Cert.DwaKernelIdeal.nD Cert.DwaKernelIdeal.τ Cert.DwaKernelIdeal.sig) → Buf (Elt Ideal) ℓ) : Prop :=
  True

def Pre_DwaReferenceIdeal (m : (ℓ : Loc Cert.DwaReferenceIdeal.nD Cert.DwaReferenceIdeal.τ Cert.DwaReferenceIdeal.sig) → Buf (Elt Ideal) ℓ) : Prop :=
  True

def Pre_MxbKernel (m : (ℓ : Loc Cert.MxbKernel.nD Cert.MxbKernel.τ Cert.MxbKernel.sig) → Buf (Elt Bits) ℓ) : Prop :=
  True

def Pre_MxbKernelIdeal (m : (ℓ : Loc Cert.MxbKernelIdeal.nD Cert.MxbKernelIdeal.τ Cert.MxbKernelIdeal.sig) → Buf (Elt Ideal) ℓ) : Prop :=
  True

def Pre_MxbReferenceIdeal (m : (ℓ : Loc Cert.MxbReferenceIdeal.nD Cert.MxbReferenceIdeal.τ Cert.MxbReferenceIdeal.sig) → Buf (Elt Ideal) ℓ) : Prop :=
  True

def Pre_DwiKernel (m : (ℓ : Loc Cert.DwiKernel.nD Cert.DwiKernel.τ Cert.DwiKernel.sig) → Buf (Elt Bits) ℓ) : Prop :=
  True

def Pre_DwiKernelIdeal (m : (ℓ : Loc Cert.DwiKernelIdeal.nD Cert.DwiKernelIdeal.τ Cert.DwiKernelIdeal.sig) → Buf (Elt Ideal) ℓ) : Prop :=
  True

def Pre_DwiReferenceIdeal (m : (ℓ : Loc Cert.DwiReferenceIdeal.nD Cert.DwiReferenceIdeal.τ Cert.DwiReferenceIdeal.sig) → Buf (Elt Ideal) ℓ) : Prop :=
  True

def Pre_FupKernel (m : (ℓ : Loc Cert.FupKernel.nD Cert.FupKernel.τ Cert.FupKernel.sig) → Buf (Elt Bits) ℓ) : Prop :=
  True

def Pre_FupKernelIdeal (m : (ℓ : Loc Cert.FupKernelIdeal.nD Cert.FupKernelIdeal.τ Cert.FupKernelIdeal.sig) → Buf (Elt Ideal) ℓ) : Prop :=
  True

def Pre_FupReferenceIdeal (m : (ℓ : Loc Cert.FupReferenceIdeal.nD Cert.FupReferenceIdeal.τ Cert.FupReferenceIdeal.sig) → Buf (Elt Ideal) ℓ) : Prop :=
  True

def Pre_MxfKernel (m : (ℓ : Loc Cert.MxfKernel.nD Cert.MxfKernel.τ Cert.MxfKernel.sig) → Buf (Elt Bits) ℓ) : Prop :=
  True

def Pre_MxfKernelIdeal (m : (ℓ : Loc Cert.MxfKernelIdeal.nD Cert.MxfKernelIdeal.τ Cert.MxfKernelIdeal.sig) → Buf (Elt Ideal) ℓ) : Prop :=
  True

def Pre_MxfReferenceIdeal (m : (ℓ : Loc Cert.MxfReferenceIdeal.nD Cert.MxfReferenceIdeal.τ Cert.MxfReferenceIdeal.sig) → Buf (Elt Ideal) ℓ) : Prop :=
  True

def Pre_DlnKernel (m : (ℓ : Loc Cert.DlnKernel.nD Cert.DlnKernel.τ Cert.DlnKernel.sig) → Buf (Elt Bits) ℓ) : Prop :=
  True

def Pre_DlnKernelIdeal (m : (ℓ : Loc Cert.DlnKernelIdeal.nD Cert.DlnKernelIdeal.τ Cert.DlnKernelIdeal.sig) → Buf (Elt Ideal) ℓ) : Prop :=
  True

def Pre_DlnReferenceIdeal (m : (ℓ : Loc Cert.DlnReferenceIdeal.nD Cert.DlnReferenceIdeal.τ Cert.DlnReferenceIdeal.sig) → Buf (Elt Ideal) ℓ) : Prop :=
  True

def Pre_MrgKernel (m : (ℓ : Loc Cert.MrgKernel.nD Cert.MrgKernel.τ Cert.MrgKernel.sig) → Buf (Elt Bits) ℓ) : Prop :=
  True

def Pre_MrgKernelIdeal (m : (ℓ : Loc Cert.MrgKernelIdeal.nD Cert.MrgKernelIdeal.τ Cert.MrgKernelIdeal.sig) → Buf (Elt Ideal) ℓ) : Prop :=
  True

def Pre_MrgReferenceIdeal (m : (ℓ : Loc Cert.MrgReferenceIdeal.nD Cert.MrgReferenceIdeal.τ Cert.MrgReferenceIdeal.sig) → Buf (Elt Ideal) ℓ) : Prop :=
  True

def Pre_DwoKernel (m : (ℓ : Loc Cert.DwoKernel.nD Cert.DwoKernel.τ Cert.DwoKernel.sig) → Buf (Elt Bits) ℓ) : Prop :=
  True

def Pre_DwoKernelIdeal (m : (ℓ : Loc Cert.DwoKernelIdeal.nD Cert.DwoKernelIdeal.τ Cert.DwoKernelIdeal.sig) → Buf (Elt Ideal) ℓ) : Prop :=
  True

def Pre_DwoReferenceIdeal (m : (ℓ : Loc Cert.DwoReferenceIdeal.nD Cert.DwoReferenceIdeal.τ Cert.DwoReferenceIdeal.sig) → Buf (Elt Ideal) ℓ) : Prop :=
  True

def Pre_MgbKernel (m : (ℓ : Loc Cert.MgbKernel.nD Cert.MgbKernel.τ Cert.MgbKernel.sig) → Buf (Elt Bits) ℓ) : Prop :=
  True

def Pre_MgbKernelIdeal (m : (ℓ : Loc Cert.MgbKernelIdeal.nD Cert.MgbKernelIdeal.τ Cert.MgbKernelIdeal.sig) → Buf (Elt Ideal) ℓ) : Prop :=
  True

def Pre_MgbReferenceIdeal (m : (ℓ : Loc Cert.MgbReferenceIdeal.nD Cert.MgbReferenceIdeal.τ Cert.MgbReferenceIdeal.sig) → Buf (Elt Ideal) ℓ) : Prop :=
  True

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_FdbKernel [hFdbKernel : Cert.FdbKernel.Facts] : Prop :=
  ∀ (m : (ℓ : Loc Cert.FdbKernel.nD Cert.FdbKernel.τ Cert.FdbKernel.sig) → Buf (Elt Bits) ℓ) (g : Dev Cert.FdbKernel.nD → PrngReg), Pre_FdbKernel m →
    θ_run (Cert.FdbKernel.defs (F := Bits)) (onTc (τ := Cert.FdbKernel.τ) (Cert.FdbKernel.main (F := Bits))) ⟨m, fun _ => 0, g⟩ (fun r => (∀ c : Dev Cert.FdbKernel.nD,
      r.2.mem ((c.tc : Thread Cert.FdbKernel.nD Cert.FdbKernel.τ).loc Cert.FdbKernel.main_arg0) = m ((c.tc : Thread Cert.FdbKernel.nD Cert.FdbKernel.τ).loc Cert.FdbKernel.main_arg0)
      ∧ r.2.mem ((c.tc : Thread Cert.FdbKernel.nD Cert.FdbKernel.τ).loc Cert.FdbKernel.main_arg1) = m ((c.tc : Thread Cert.FdbKernel.nD Cert.FdbKernel.τ).loc Cert.FdbKernel.main_arg1)
      ∧ r.2.mem ((c.tc : Thread Cert.FdbKernel.nD Cert.FdbKernel.τ).loc Cert.FdbKernel.main_arg2) = m ((c.tc : Thread Cert.FdbKernel.nD Cert.FdbKernel.τ).loc Cert.FdbKernel.main_arg2)
      ∧ r.2.mem ((c.tc : Thread Cert.FdbKernel.nD Cert.FdbKernel.τ).loc Cert.FdbKernel.main_arg3) = m ((c.tc : Thread Cert.FdbKernel.nD Cert.FdbKernel.τ).loc Cert.FdbKernel.main_arg3))
      ∧ r.2.sem = fun _ => 0)

def quiescent_FdbKernelIdeal [hFdbKernelIdeal : Cert.FdbKernelIdeal.Facts] : Prop :=
  ∀ (m : (ℓ : Loc Cert.FdbKernelIdeal.nD Cert.FdbKernelIdeal.τ Cert.FdbKernelIdeal.sig) → Buf (Elt Ideal) ℓ) (g : Dev Cert.FdbKernelIdeal.nD → PrngReg), Pre_FdbKernelIdeal m →
    θ_run (Cert.FdbKernelIdeal.defs (F := Ideal)) (onTc (τ := Cert.FdbKernelIdeal.τ) (Cert.FdbKernelIdeal.main (F := Ideal))) ⟨m, fun _ => 0, g⟩ (fun r => (∀ c : Dev Cert.FdbKernelIdeal.nD,
      r.2.mem ((c.tc : Thread Cert.FdbKernelIdeal.nD Cert.FdbKernelIdeal.τ).loc Cert.FdbKernelIdeal.main_arg0) = m ((c.tc : Thread Cert.FdbKernelIdeal.nD Cert.FdbKernelIdeal.τ).loc Cert.FdbKernelIdeal.main_arg0)
      ∧ r.2.mem ((c.tc : Thread Cert.FdbKernelIdeal.nD Cert.FdbKernelIdeal.τ).loc Cert.FdbKernelIdeal.main_arg1) = m ((c.tc : Thread Cert.FdbKernelIdeal.nD Cert.FdbKernelIdeal.τ).loc Cert.FdbKernelIdeal.main_arg1)
      ∧ r.2.mem ((c.tc : Thread Cert.FdbKernelIdeal.nD Cert.FdbKernelIdeal.τ).loc Cert.FdbKernelIdeal.main_arg2) = m ((c.tc : Thread Cert.FdbKernelIdeal.nD Cert.FdbKernelIdeal.τ).loc Cert.FdbKernelIdeal.main_arg2)
      ∧ r.2.mem ((c.tc : Thread Cert.FdbKernelIdeal.nD Cert.FdbKernelIdeal.τ).loc Cert.FdbKernelIdeal.main_arg3) = m ((c.tc : Thread Cert.FdbKernelIdeal.nD Cert.FdbKernelIdeal.τ).loc Cert.FdbKernelIdeal.main_arg3))
      ∧ r.2.sem = fun _ => 0)

def quiescent_FdbKernelIdeal_pre_fdb_finite [hFdbKernelIdeal : Cert.FdbKernelIdeal.Facts] [hPre_fdb_finite : Cert.Pre_fdb_finite.Facts] : Prop :=
  ∀ (m : (ℓ : Loc Cert.FdbKernelIdeal.nD Cert.FdbKernelIdeal.τ Cert.FdbKernelIdeal.sig) → Buf (Elt Ideal) ℓ) (g : Dev Cert.FdbKernelIdeal.nD → PrngReg), Pre_FdbKernelIdeal_fdb_finite m →
    θ_run (Cert.FdbKernelIdeal.defs (F := Ideal)) (onTc (τ := Cert.FdbKernelIdeal.τ) (Cert.FdbKernelIdeal.main (F := Ideal))) ⟨m, fun _ => 0, g⟩ (fun r => (∀ c : Dev Cert.FdbKernelIdeal.nD,
      r.2.mem ((c.tc : Thread Cert.FdbKernelIdeal.nD Cert.FdbKernelIdeal.τ).loc Cert.FdbKernelIdeal.main_arg0) = m ((c.tc : Thread Cert.FdbKernelIdeal.nD Cert.FdbKernelIdeal.τ).loc Cert.FdbKernelIdeal.main_arg0)
      ∧ r.2.mem ((c.tc : Thread Cert.FdbKernelIdeal.nD Cert.FdbKernelIdeal.τ).loc Cert.FdbKernelIdeal.main_arg1) = m ((c.tc : Thread Cert.FdbKernelIdeal.nD Cert.FdbKernelIdeal.τ).loc Cert.FdbKernelIdeal.main_arg1)
      ∧ r.2.mem ((c.tc : Thread Cert.FdbKernelIdeal.nD Cert.FdbKernelIdeal.τ).loc Cert.FdbKernelIdeal.main_arg2) = m ((c.tc : Thread Cert.FdbKernelIdeal.nD Cert.FdbKernelIdeal.τ).loc Cert.FdbKernelIdeal.main_arg2)
      ∧ r.2.mem ((c.tc : Thread Cert.FdbKernelIdeal.nD Cert.FdbKernelIdeal.τ).loc Cert.FdbKernelIdeal.main_arg3) = m ((c.tc : Thread Cert.FdbKernelIdeal.nD Cert.FdbKernelIdeal.τ).loc Cert.FdbKernelIdeal.main_arg3))
      ∧ r.2.sem = fun _ => 0)

def quiescent_FdbReferenceIdeal [hFdbReferenceIdeal : Cert.FdbReferenceIdeal.Facts] : Prop :=
  ∀ (m : (ℓ : Loc Cert.FdbReferenceIdeal.nD Cert.FdbReferenceIdeal.τ Cert.FdbReferenceIdeal.sig) → Buf (Elt Ideal) ℓ) (g : Dev Cert.FdbReferenceIdeal.nD → PrngReg), Pre_FdbReferenceIdeal m →
    θ_run (Cert.FdbReferenceIdeal.defs (F := Ideal)) (onTc (τ := Cert.FdbReferenceIdeal.τ) (Cert.FdbReferenceIdeal.main (F := Ideal))) ⟨m, fun _ => 0, g⟩ (fun r => (∀ c : Dev Cert.FdbReferenceIdeal.nD,
      r.2.mem ((c.tc : Thread Cert.FdbReferenceIdeal.nD Cert.FdbReferenceIdeal.τ).loc Cert.FdbReferenceIdeal.main_arg0) = m ((c.tc : Thread Cert.FdbReferenceIdeal.nD Cert.FdbReferenceIdeal.τ).loc Cert.FdbReferenceIdeal.main_arg0)
      ∧ r.2.mem ((c.tc : Thread Cert.FdbReferenceIdeal.nD Cert.FdbReferenceIdeal.τ).loc Cert.FdbReferenceIdeal.main_arg1) = m ((c.tc : Thread Cert.FdbReferenceIdeal.nD Cert.FdbReferenceIdeal.τ).loc Cert.FdbReferenceIdeal.main_arg1)
      ∧ r.2.mem ((c.tc : Thread Cert.FdbReferenceIdeal.nD Cert.FdbReferenceIdeal.τ).loc Cert.FdbReferenceIdeal.main_arg2) = m ((c.tc : Thread Cert.FdbReferenceIdeal.nD Cert.FdbReferenceIdeal.τ).loc Cert.FdbReferenceIdeal.main_arg2)
      ∧ r.2.mem ((c.tc : Thread Cert.FdbReferenceIdeal.nD Cert.FdbReferenceIdeal.τ).loc Cert.FdbReferenceIdeal.main_arg3) = m ((c.tc : Thread Cert.FdbReferenceIdeal.nD Cert.FdbReferenceIdeal.τ).loc Cert.FdbReferenceIdeal.main_arg3))
      ∧ r.2.sem = fun _ => 0)

def quiescent_FdbReferenceIdeal_pre_fdb_finite [hFdbReferenceIdeal : Cert.FdbReferenceIdeal.Facts] [hPre_fdb_finite : Cert.Pre_fdb_finite.Facts] : Prop :=
  ∀ (m : (ℓ : Loc Cert.FdbReferenceIdeal.nD Cert.FdbReferenceIdeal.τ Cert.FdbReferenceIdeal.sig) → Buf (Elt Ideal) ℓ) (g : Dev Cert.FdbReferenceIdeal.nD → PrngReg), Pre_FdbReferenceIdeal_fdb_finite m →
    θ_run (Cert.FdbReferenceIdeal.defs (F := Ideal)) (onTc (τ := Cert.FdbReferenceIdeal.τ) (Cert.FdbReferenceIdeal.main (F := Ideal))) ⟨m, fun _ => 0, g⟩ (fun r => (∀ c : Dev Cert.FdbReferenceIdeal.nD,
      r.2.mem ((c.tc : Thread Cert.FdbReferenceIdeal.nD Cert.FdbReferenceIdeal.τ).loc Cert.FdbReferenceIdeal.main_arg0) = m ((c.tc : Thread Cert.FdbReferenceIdeal.nD Cert.FdbReferenceIdeal.τ).loc Cert.FdbReferenceIdeal.main_arg0)
      ∧ r.2.mem ((c.tc : Thread Cert.FdbReferenceIdeal.nD Cert.FdbReferenceIdeal.τ).loc Cert.FdbReferenceIdeal.main_arg1) = m ((c.tc : Thread Cert.FdbReferenceIdeal.nD Cert.FdbReferenceIdeal.τ).loc Cert.FdbReferenceIdeal.main_arg1)
      ∧ r.2.mem ((c.tc : Thread Cert.FdbReferenceIdeal.nD Cert.FdbReferenceIdeal.τ).loc Cert.FdbReferenceIdeal.main_arg2) = m ((c.tc : Thread Cert.FdbReferenceIdeal.nD Cert.FdbReferenceIdeal.τ).loc Cert.FdbReferenceIdeal.main_arg2)
      ∧ r.2.mem ((c.tc : Thread Cert.FdbReferenceIdeal.nD Cert.FdbReferenceIdeal.τ).loc Cert.FdbReferenceIdeal.main_arg3) = m ((c.tc : Thread Cert.FdbReferenceIdeal.nD Cert.FdbReferenceIdeal.τ).loc Cert.FdbReferenceIdeal.main_arg3))
      ∧ r.2.sem = fun _ => 0)

def quiescent_FubKernel [hFubKernel : Cert.FubKernel.Facts] : Prop :=
  ∀ (m : (ℓ : Loc Cert.FubKernel.nD Cert.FubKernel.τ Cert.FubKernel.sig) → Buf (Elt Bits) ℓ) (g : Dev Cert.FubKernel.nD → PrngReg), Pre_FubKernel m →
    θ_run (Cert.FubKernel.defs (F := Bits)) (onTc (τ := Cert.FubKernel.τ) (Cert.FubKernel.main (F := Bits))) ⟨m, fun _ => 0, g⟩ (fun r => (∀ c : Dev Cert.FubKernel.nD,
      r.2.mem ((c.tc : Thread Cert.FubKernel.nD Cert.FubKernel.τ).loc Cert.FubKernel.main_arg0) = m ((c.tc : Thread Cert.FubKernel.nD Cert.FubKernel.τ).loc Cert.FubKernel.main_arg0)
      ∧ r.2.mem ((c.tc : Thread Cert.FubKernel.nD Cert.FubKernel.τ).loc Cert.FubKernel.main_arg1) = m ((c.tc : Thread Cert.FubKernel.nD Cert.FubKernel.τ).loc Cert.FubKernel.main_arg1)
      ∧ r.2.mem ((c.tc : Thread Cert.FubKernel.nD Cert.FubKernel.τ).loc Cert.FubKernel.main_arg2) = m ((c.tc : Thread Cert.FubKernel.nD Cert.FubKernel.τ).loc Cert.FubKernel.main_arg2)
      ∧ r.2.mem ((c.tc : Thread Cert.FubKernel.nD Cert.FubKernel.τ).loc Cert.FubKernel.main_arg3) = m ((c.tc : Thread Cert.FubKernel.nD Cert.FubKernel.τ).loc Cert.FubKernel.main_arg3))
      ∧ r.2.sem = fun _ => 0)

def quiescent_FubKernelIdeal [hFubKernelIdeal : Cert.FubKernelIdeal.Facts] : Prop :=
  ∀ (m : (ℓ : Loc Cert.FubKernelIdeal.nD Cert.FubKernelIdeal.τ Cert.FubKernelIdeal.sig) → Buf (Elt Ideal) ℓ) (g : Dev Cert.FubKernelIdeal.nD → PrngReg), Pre_FubKernelIdeal m →
    θ_run (Cert.FubKernelIdeal.defs (F := Ideal)) (onTc (τ := Cert.FubKernelIdeal.τ) (Cert.FubKernelIdeal.main (F := Ideal))) ⟨m, fun _ => 0, g⟩ (fun r => (∀ c : Dev Cert.FubKernelIdeal.nD,
      r.2.mem ((c.tc : Thread Cert.FubKernelIdeal.nD Cert.FubKernelIdeal.τ).loc Cert.FubKernelIdeal.main_arg0) = m ((c.tc : Thread Cert.FubKernelIdeal.nD Cert.FubKernelIdeal.τ).loc Cert.FubKernelIdeal.main_arg0)
      ∧ r.2.mem ((c.tc : Thread Cert.FubKernelIdeal.nD Cert.FubKernelIdeal.τ).loc Cert.FubKernelIdeal.main_arg1) = m ((c.tc : Thread Cert.FubKernelIdeal.nD Cert.FubKernelIdeal.τ).loc Cert.FubKernelIdeal.main_arg1)
      ∧ r.2.mem ((c.tc : Thread Cert.FubKernelIdeal.nD Cert.FubKernelIdeal.τ).loc Cert.FubKernelIdeal.main_arg2) = m ((c.tc : Thread Cert.FubKernelIdeal.nD Cert.FubKernelIdeal.τ).loc Cert.FubKernelIdeal.main_arg2)
      ∧ r.2.mem ((c.tc : Thread Cert.FubKernelIdeal.nD Cert.FubKernelIdeal.τ).loc Cert.FubKernelIdeal.main_arg3) = m ((c.tc : Thread Cert.FubKernelIdeal.nD Cert.FubKernelIdeal.τ).loc Cert.FubKernelIdeal.main_arg3))
      ∧ r.2.sem = fun _ => 0)

def quiescent_FubReferenceIdeal [hFubReferenceIdeal : Cert.FubReferenceIdeal.Facts] : Prop :=
  ∀ (m : (ℓ : Loc Cert.FubReferenceIdeal.nD Cert.FubReferenceIdeal.τ Cert.FubReferenceIdeal.sig) → Buf (Elt Ideal) ℓ) (g : Dev Cert.FubReferenceIdeal.nD → PrngReg), Pre_FubReferenceIdeal m →
    θ_run (Cert.FubReferenceIdeal.defs (F := Ideal)) (onTc (τ := Cert.FubReferenceIdeal.τ) (Cert.FubReferenceIdeal.main (F := Ideal))) ⟨m, fun _ => 0, g⟩ (fun r => (∀ c : Dev Cert.FubReferenceIdeal.nD,
      r.2.mem ((c.tc : Thread Cert.FubReferenceIdeal.nD Cert.FubReferenceIdeal.τ).loc Cert.FubReferenceIdeal.main_arg0) = m ((c.tc : Thread Cert.FubReferenceIdeal.nD Cert.FubReferenceIdeal.τ).loc Cert.FubReferenceIdeal.main_arg0)
      ∧ r.2.mem ((c.tc : Thread Cert.FubReferenceIdeal.nD Cert.FubReferenceIdeal.τ).loc Cert.FubReferenceIdeal.main_arg1) = m ((c.tc : Thread Cert.FubReferenceIdeal.nD Cert.FubReferenceIdeal.τ).loc Cert.FubReferenceIdeal.main_arg1)
      ∧ r.2.mem ((c.tc : Thread Cert.FubReferenceIdeal.nD Cert.FubReferenceIdeal.τ).loc Cert.FubReferenceIdeal.main_arg2) = m ((c.tc : Thread Cert.FubReferenceIdeal.nD Cert.FubReferenceIdeal.τ).loc Cert.FubReferenceIdeal.main_arg2)
      ∧ r.2.mem ((c.tc : Thread Cert.FubReferenceIdeal.nD Cert.FubReferenceIdeal.τ).loc Cert.FubReferenceIdeal.main_arg3) = m ((c.tc : Thread Cert.FubReferenceIdeal.nD Cert.FubReferenceIdeal.τ).loc Cert.FubReferenceIdeal.main_arg3))
      ∧ r.2.sem = fun _ => 0)

def quiescent_DwdKernel [hDwdKernel : Cert.DwdKernel.Facts] : Prop :=
  ∀ (m : (ℓ : Loc Cert.DwdKernel.nD Cert.DwdKernel.τ Cert.DwdKernel.sig) → Buf (Elt Bits) ℓ) (g : Dev Cert.DwdKernel.nD → PrngReg), Pre_DwdKernel m →
    θ_run (Cert.DwdKernel.defs (F := Bits)) (onTc (τ := Cert.DwdKernel.τ) (Cert.DwdKernel.main (F := Bits))) ⟨m, fun _ => 0, g⟩ (fun r => (∀ c : Dev Cert.DwdKernel.nD,
      r.2.mem ((c.tc : Thread Cert.DwdKernel.nD Cert.DwdKernel.τ).loc Cert.DwdKernel.main_arg0) = m ((c.tc : Thread Cert.DwdKernel.nD Cert.DwdKernel.τ).loc Cert.DwdKernel.main_arg0)
      ∧ r.2.mem ((c.tc : Thread Cert.DwdKernel.nD Cert.DwdKernel.τ).loc Cert.DwdKernel.main_arg1) = m ((c.tc : Thread Cert.DwdKernel.nD Cert.DwdKernel.τ).loc Cert.DwdKernel.main_arg1))
      ∧ r.2.sem = fun _ => 0)

def quiescent_DwdKernelIdeal [hDwdKernelIdeal : Cert.DwdKernelIdeal.Facts] : Prop :=
  ∀ (m : (ℓ : Loc Cert.DwdKernelIdeal.nD Cert.DwdKernelIdeal.τ Cert.DwdKernelIdeal.sig) → Buf (Elt Ideal) ℓ) (g : Dev Cert.DwdKernelIdeal.nD → PrngReg), Pre_DwdKernelIdeal m →
    θ_run (Cert.DwdKernelIdeal.defs (F := Ideal)) (onTc (τ := Cert.DwdKernelIdeal.τ) (Cert.DwdKernelIdeal.main (F := Ideal))) ⟨m, fun _ => 0, g⟩ (fun r => (∀ c : Dev Cert.DwdKernelIdeal.nD,
      r.2.mem ((c.tc : Thread Cert.DwdKernelIdeal.nD Cert.DwdKernelIdeal.τ).loc Cert.DwdKernelIdeal.main_arg0) = m ((c.tc : Thread Cert.DwdKernelIdeal.nD Cert.DwdKernelIdeal.τ).loc Cert.DwdKernelIdeal.main_arg0)
      ∧ r.2.mem ((c.tc : Thread Cert.DwdKernelIdeal.nD Cert.DwdKernelIdeal.τ).loc Cert.DwdKernelIdeal.main_arg1) = m ((c.tc : Thread Cert.DwdKernelIdeal.nD Cert.DwdKernelIdeal.τ).loc Cert.DwdKernelIdeal.main_arg1))
      ∧ r.2.sem = fun _ => 0)

def quiescent_DwdReferenceIdeal [hDwdReferenceIdeal : Cert.DwdReferenceIdeal.Facts] : Prop :=
  ∀ (m : (ℓ : Loc Cert.DwdReferenceIdeal.nD Cert.DwdReferenceIdeal.τ Cert.DwdReferenceIdeal.sig) → Buf (Elt Ideal) ℓ) (g : Dev Cert.DwdReferenceIdeal.nD → PrngReg), Pre_DwdReferenceIdeal m →
    θ_run (Cert.DwdReferenceIdeal.defs (F := Ideal)) (onTc (τ := Cert.DwdReferenceIdeal.τ) (Cert.DwdReferenceIdeal.main (F := Ideal))) ⟨m, fun _ => 0, g⟩ (fun r => (∀ c : Dev Cert.DwdReferenceIdeal.nD,
      r.2.mem ((c.tc : Thread Cert.DwdReferenceIdeal.nD Cert.DwdReferenceIdeal.τ).loc Cert.DwdReferenceIdeal.main_arg0) = m ((c.tc : Thread Cert.DwdReferenceIdeal.nD Cert.DwdReferenceIdeal.τ).loc Cert.DwdReferenceIdeal.main_arg0)
      ∧ r.2.mem ((c.tc : Thread Cert.DwdReferenceIdeal.nD Cert.DwdReferenceIdeal.τ).loc Cert.DwdReferenceIdeal.main_arg1) = m ((c.tc : Thread Cert.DwdReferenceIdeal.nD Cert.DwdReferenceIdeal.τ).loc Cert.DwdReferenceIdeal.main_arg1))
      ∧ r.2.sem = fun _ => 0)

def quiescent_DwbKernel [hDwbKernel : Cert.DwbKernel.Facts] : Prop :=
  ∀ (m : (ℓ : Loc Cert.DwbKernel.nD Cert.DwbKernel.τ Cert.DwbKernel.sig) → Buf (Elt Bits) ℓ) (g : Dev Cert.DwbKernel.nD → PrngReg), Pre_DwbKernel m →
    θ_run (Cert.DwbKernel.defs (F := Bits)) (onTc (τ := Cert.DwbKernel.τ) (Cert.DwbKernel.main (F := Bits))) ⟨m, fun _ => 0, g⟩ (fun r => (∀ c : Dev Cert.DwbKernel.nD,
      r.2.mem ((c.tc : Thread Cert.DwbKernel.nD Cert.DwbKernel.τ).loc Cert.DwbKernel.main_arg0) = m ((c.tc : Thread Cert.DwbKernel.nD Cert.DwbKernel.τ).loc Cert.DwbKernel.main_arg0)
      ∧ r.2.mem ((c.tc : Thread Cert.DwbKernel.nD Cert.DwbKernel.τ).loc Cert.DwbKernel.main_arg1) = m ((c.tc : Thread Cert.DwbKernel.nD Cert.DwbKernel.τ).loc Cert.DwbKernel.main_arg1)
      ∧ r.2.mem ((c.tc : Thread Cert.DwbKernel.nD Cert.DwbKernel.τ).loc Cert.DwbKernel.main_arg2) = m ((c.tc : Thread Cert.DwbKernel.nD Cert.DwbKernel.τ).loc Cert.DwbKernel.main_arg2))
      ∧ r.2.sem = fun _ => 0)

def quiescent_DwbKernelIdeal [hDwbKernelIdeal : Cert.DwbKernelIdeal.Facts] : Prop :=
  ∀ (m : (ℓ : Loc Cert.DwbKernelIdeal.nD Cert.DwbKernelIdeal.τ Cert.DwbKernelIdeal.sig) → Buf (Elt Ideal) ℓ) (g : Dev Cert.DwbKernelIdeal.nD → PrngReg), Pre_DwbKernelIdeal m →
    θ_run (Cert.DwbKernelIdeal.defs (F := Ideal)) (onTc (τ := Cert.DwbKernelIdeal.τ) (Cert.DwbKernelIdeal.main (F := Ideal))) ⟨m, fun _ => 0, g⟩ (fun r => (∀ c : Dev Cert.DwbKernelIdeal.nD,
      r.2.mem ((c.tc : Thread Cert.DwbKernelIdeal.nD Cert.DwbKernelIdeal.τ).loc Cert.DwbKernelIdeal.main_arg0) = m ((c.tc : Thread Cert.DwbKernelIdeal.nD Cert.DwbKernelIdeal.τ).loc Cert.DwbKernelIdeal.main_arg0)
      ∧ r.2.mem ((c.tc : Thread Cert.DwbKernelIdeal.nD Cert.DwbKernelIdeal.τ).loc Cert.DwbKernelIdeal.main_arg1) = m ((c.tc : Thread Cert.DwbKernelIdeal.nD Cert.DwbKernelIdeal.τ).loc Cert.DwbKernelIdeal.main_arg1)
      ∧ r.2.mem ((c.tc : Thread Cert.DwbKernelIdeal.nD Cert.DwbKernelIdeal.τ).loc Cert.DwbKernelIdeal.main_arg2) = m ((c.tc : Thread Cert.DwbKernelIdeal.nD Cert.DwbKernelIdeal.τ).loc Cert.DwbKernelIdeal.main_arg2))
      ∧ r.2.sem = fun _ => 0)

def quiescent_DwbReferenceIdeal [hDwbReferenceIdeal : Cert.DwbReferenceIdeal.Facts] : Prop :=
  ∀ (m : (ℓ : Loc Cert.DwbReferenceIdeal.nD Cert.DwbReferenceIdeal.τ Cert.DwbReferenceIdeal.sig) → Buf (Elt Ideal) ℓ) (g : Dev Cert.DwbReferenceIdeal.nD → PrngReg), Pre_DwbReferenceIdeal m →
    θ_run (Cert.DwbReferenceIdeal.defs (F := Ideal)) (onTc (τ := Cert.DwbReferenceIdeal.τ) (Cert.DwbReferenceIdeal.main (F := Ideal))) ⟨m, fun _ => 0, g⟩ (fun r => (∀ c : Dev Cert.DwbReferenceIdeal.nD,
      r.2.mem ((c.tc : Thread Cert.DwbReferenceIdeal.nD Cert.DwbReferenceIdeal.τ).loc Cert.DwbReferenceIdeal.main_arg0) = m ((c.tc : Thread Cert.DwbReferenceIdeal.nD Cert.DwbReferenceIdeal.τ).loc Cert.DwbReferenceIdeal.main_arg0)
      ∧ r.2.mem ((c.tc : Thread Cert.DwbReferenceIdeal.nD Cert.DwbReferenceIdeal.τ).loc Cert.DwbReferenceIdeal.main_arg1) = m ((c.tc : Thread Cert.DwbReferenceIdeal.nD Cert.DwbReferenceIdeal.τ).loc Cert.DwbReferenceIdeal.main_arg1)
      ∧ r.2.mem ((c.tc : Thread Cert.DwbReferenceIdeal.nD Cert.DwbReferenceIdeal.τ).loc Cert.DwbReferenceIdeal.main_arg2) = m ((c.tc : Thread Cert.DwbReferenceIdeal.nD Cert.DwbReferenceIdeal.τ).loc Cert.DwbReferenceIdeal.main_arg2))
      ∧ r.2.sem = fun _ => 0)

def quiescent_DwaKernel [hDwaKernel : Cert.DwaKernel.Facts] : Prop :=
  ∀ (m : (ℓ : Loc Cert.DwaKernel.nD Cert.DwaKernel.τ Cert.DwaKernel.sig) → Buf (Elt Bits) ℓ) (g : Dev Cert.DwaKernel.nD → PrngReg), Pre_DwaKernel m →
    θ_run (Cert.DwaKernel.defs (F := Bits)) (onTc (τ := Cert.DwaKernel.τ) (Cert.DwaKernel.main (F := Bits))) ⟨m, fun _ => 0, g⟩ (fun r => (∀ c : Dev Cert.DwaKernel.nD,
      r.2.mem ((c.tc : Thread Cert.DwaKernel.nD Cert.DwaKernel.τ).loc Cert.DwaKernel.main_arg0) = m ((c.tc : Thread Cert.DwaKernel.nD Cert.DwaKernel.τ).loc Cert.DwaKernel.main_arg0)
      ∧ r.2.mem ((c.tc : Thread Cert.DwaKernel.nD Cert.DwaKernel.τ).loc Cert.DwaKernel.main_arg1) = m ((c.tc : Thread Cert.DwaKernel.nD Cert.DwaKernel.τ).loc Cert.DwaKernel.main_arg1))
      ∧ r.2.sem = fun _ => 0)

def quiescent_DwaKernelIdeal [hDwaKernelIdeal : Cert.DwaKernelIdeal.Facts] : Prop :=
  ∀ (m : (ℓ : Loc Cert.DwaKernelIdeal.nD Cert.DwaKernelIdeal.τ Cert.DwaKernelIdeal.sig) → Buf (Elt Ideal) ℓ) (g : Dev Cert.DwaKernelIdeal.nD → PrngReg), Pre_DwaKernelIdeal m →
    θ_run (Cert.DwaKernelIdeal.defs (F := Ideal)) (onTc (τ := Cert.DwaKernelIdeal.τ) (Cert.DwaKernelIdeal.main (F := Ideal))) ⟨m, fun _ => 0, g⟩ (fun r => (∀ c : Dev Cert.DwaKernelIdeal.nD,
      r.2.mem ((c.tc : Thread Cert.DwaKernelIdeal.nD Cert.DwaKernelIdeal.τ).loc Cert.DwaKernelIdeal.main_arg0) = m ((c.tc : Thread Cert.DwaKernelIdeal.nD Cert.DwaKernelIdeal.τ).loc Cert.DwaKernelIdeal.main_arg0)
      ∧ r.2.mem ((c.tc : Thread Cert.DwaKernelIdeal.nD Cert.DwaKernelIdeal.τ).loc Cert.DwaKernelIdeal.main_arg1) = m ((c.tc : Thread Cert.DwaKernelIdeal.nD Cert.DwaKernelIdeal.τ).loc Cert.DwaKernelIdeal.main_arg1))
      ∧ r.2.sem = fun _ => 0)

def quiescent_DwaReferenceIdeal [hDwaReferenceIdeal : Cert.DwaReferenceIdeal.Facts] : Prop :=
  ∀ (m : (ℓ : Loc Cert.DwaReferenceIdeal.nD Cert.DwaReferenceIdeal.τ Cert.DwaReferenceIdeal.sig) → Buf (Elt Ideal) ℓ) (g : Dev Cert.DwaReferenceIdeal.nD → PrngReg), Pre_DwaReferenceIdeal m →
    θ_run (Cert.DwaReferenceIdeal.defs (F := Ideal)) (onTc (τ := Cert.DwaReferenceIdeal.τ) (Cert.DwaReferenceIdeal.main (F := Ideal))) ⟨m, fun _ => 0, g⟩ (fun r => (∀ c : Dev Cert.DwaReferenceIdeal.nD,
      r.2.mem ((c.tc : Thread Cert.DwaReferenceIdeal.nD Cert.DwaReferenceIdeal.τ).loc Cert.DwaReferenceIdeal.main_arg0) = m ((c.tc : Thread Cert.DwaReferenceIdeal.nD Cert.DwaReferenceIdeal.τ).loc Cert.DwaReferenceIdeal.main_arg0)
      ∧ r.2.mem ((c.tc : Thread Cert.DwaReferenceIdeal.nD Cert.DwaReferenceIdeal.τ).loc Cert.DwaReferenceIdeal.main_arg1) = m ((c.tc : Thread Cert.DwaReferenceIdeal.nD Cert.DwaReferenceIdeal.τ).loc Cert.DwaReferenceIdeal.main_arg1))
      ∧ r.2.sem = fun _ => 0)

def quiescent_MxbKernel [hMxbKernel : Cert.MxbKernel.Facts] : Prop :=
  ∀ (m : (ℓ : Loc Cert.MxbKernel.nD Cert.MxbKernel.τ Cert.MxbKernel.sig) → Buf (Elt Bits) ℓ) (g : Dev Cert.MxbKernel.nD → PrngReg), Pre_MxbKernel m →
    θ_run (Cert.MxbKernel.defs (F := Bits)) (onTc (τ := Cert.MxbKernel.τ) (Cert.MxbKernel.main (F := Bits))) ⟨m, fun _ => 0, g⟩ (fun r => (∀ c : Dev Cert.MxbKernel.nD,
      r.2.mem ((c.tc : Thread Cert.MxbKernel.nD Cert.MxbKernel.τ).loc Cert.MxbKernel.main_arg0) = m ((c.tc : Thread Cert.MxbKernel.nD Cert.MxbKernel.τ).loc Cert.MxbKernel.main_arg0)
      ∧ r.2.mem ((c.tc : Thread Cert.MxbKernel.nD Cert.MxbKernel.τ).loc Cert.MxbKernel.main_arg1) = m ((c.tc : Thread Cert.MxbKernel.nD Cert.MxbKernel.τ).loc Cert.MxbKernel.main_arg1)
      ∧ r.2.mem ((c.tc : Thread Cert.MxbKernel.nD Cert.MxbKernel.τ).loc Cert.MxbKernel.main_arg2) = m ((c.tc : Thread Cert.MxbKernel.nD Cert.MxbKernel.τ).loc Cert.MxbKernel.main_arg2))
      ∧ r.2.sem = fun _ => 0)

def quiescent_MxbKernelIdeal [hMxbKernelIdeal : Cert.MxbKernelIdeal.Facts] : Prop :=
  ∀ (m : (ℓ : Loc Cert.MxbKernelIdeal.nD Cert.MxbKernelIdeal.τ Cert.MxbKernelIdeal.sig) → Buf (Elt Ideal) ℓ) (g : Dev Cert.MxbKernelIdeal.nD → PrngReg), Pre_MxbKernelIdeal m →
    θ_run (Cert.MxbKernelIdeal.defs (F := Ideal)) (onTc (τ := Cert.MxbKernelIdeal.τ) (Cert.MxbKernelIdeal.main (F := Ideal))) ⟨m, fun _ => 0, g⟩ (fun r => (∀ c : Dev Cert.MxbKernelIdeal.nD,
      r.2.mem ((c.tc : Thread Cert.MxbKernelIdeal.nD Cert.MxbKernelIdeal.τ).loc Cert.MxbKernelIdeal.main_arg0) = m ((c.tc : Thread Cert.MxbKernelIdeal.nD Cert.MxbKernelIdeal.τ).loc Cert.MxbKernelIdeal.main_arg0)
      ∧ r.2.mem ((c.tc : Thread Cert.MxbKernelIdeal.nD Cert.MxbKernelIdeal.τ).loc Cert.MxbKernelIdeal.main_arg1) = m ((c.tc : Thread Cert.MxbKernelIdeal.nD Cert.MxbKernelIdeal.τ).loc Cert.MxbKernelIdeal.main_arg1)
      ∧ r.2.mem ((c.tc : Thread Cert.MxbKernelIdeal.nD Cert.MxbKernelIdeal.τ).loc Cert.MxbKernelIdeal.main_arg2) = m ((c.tc : Thread Cert.MxbKernelIdeal.nD Cert.MxbKernelIdeal.τ).loc Cert.MxbKernelIdeal.main_arg2))
      ∧ r.2.sem = fun _ => 0)

def quiescent_MxbReferenceIdeal [hMxbReferenceIdeal : Cert.MxbReferenceIdeal.Facts] : Prop :=
  ∀ (m : (ℓ : Loc Cert.MxbReferenceIdeal.nD Cert.MxbReferenceIdeal.τ Cert.MxbReferenceIdeal.sig) → Buf (Elt Ideal) ℓ) (g : Dev Cert.MxbReferenceIdeal.nD → PrngReg), Pre_MxbReferenceIdeal m →
    θ_run (Cert.MxbReferenceIdeal.defs (F := Ideal)) (onTc (τ := Cert.MxbReferenceIdeal.τ) (Cert.MxbReferenceIdeal.main (F := Ideal))) ⟨m, fun _ => 0, g⟩ (fun r => (∀ c : Dev Cert.MxbReferenceIdeal.nD,
      r.2.mem ((c.tc : Thread Cert.MxbReferenceIdeal.nD Cert.MxbReferenceIdeal.τ).loc Cert.MxbReferenceIdeal.main_arg0) = m ((c.tc : Thread Cert.MxbReferenceIdeal.nD Cert.MxbReferenceIdeal.τ).loc Cert.MxbReferenceIdeal.main_arg0)
      ∧ r.2.mem ((c.tc : Thread Cert.MxbReferenceIdeal.nD Cert.MxbReferenceIdeal.τ).loc Cert.MxbReferenceIdeal.main_arg1) = m ((c.tc : Thread Cert.MxbReferenceIdeal.nD Cert.MxbReferenceIdeal.τ).loc Cert.MxbReferenceIdeal.main_arg1)
      ∧ r.2.mem ((c.tc : Thread Cert.MxbReferenceIdeal.nD Cert.MxbReferenceIdeal.τ).loc Cert.MxbReferenceIdeal.main_arg2) = m ((c.tc : Thread Cert.MxbReferenceIdeal.nD Cert.MxbReferenceIdeal.τ).loc Cert.MxbReferenceIdeal.main_arg2))
      ∧ r.2.sem = fun _ => 0)

def quiescent_DwiKernel [hDwiKernel : Cert.DwiKernel.Facts] : Prop :=
  ∀ (m : (ℓ : Loc Cert.DwiKernel.nD Cert.DwiKernel.τ Cert.DwiKernel.sig) → Buf (Elt Bits) ℓ) (g : Dev Cert.DwiKernel.nD → PrngReg), Pre_DwiKernel m →
    θ_run (Cert.DwiKernel.defs (F := Bits)) (onTc (τ := Cert.DwiKernel.τ) (Cert.DwiKernel.main (F := Bits))) ⟨m, fun _ => 0, g⟩ (fun r => (∀ c : Dev Cert.DwiKernel.nD,
      r.2.mem ((c.tc : Thread Cert.DwiKernel.nD Cert.DwiKernel.τ).loc Cert.DwiKernel.main_arg0) = m ((c.tc : Thread Cert.DwiKernel.nD Cert.DwiKernel.τ).loc Cert.DwiKernel.main_arg0)
      ∧ r.2.mem ((c.tc : Thread Cert.DwiKernel.nD Cert.DwiKernel.τ).loc Cert.DwiKernel.main_arg1) = m ((c.tc : Thread Cert.DwiKernel.nD Cert.DwiKernel.τ).loc Cert.DwiKernel.main_arg1))
      ∧ r.2.sem = fun _ => 0)

def quiescent_DwiKernelIdeal [hDwiKernelIdeal : Cert.DwiKernelIdeal.Facts] : Prop :=
  ∀ (m : (ℓ : Loc Cert.DwiKernelIdeal.nD Cert.DwiKernelIdeal.τ Cert.DwiKernelIdeal.sig) → Buf (Elt Ideal) ℓ) (g : Dev Cert.DwiKernelIdeal.nD → PrngReg), Pre_DwiKernelIdeal m →
    θ_run (Cert.DwiKernelIdeal.defs (F := Ideal)) (onTc (τ := Cert.DwiKernelIdeal.τ) (Cert.DwiKernelIdeal.main (F := Ideal))) ⟨m, fun _ => 0, g⟩ (fun r => (∀ c : Dev Cert.DwiKernelIdeal.nD,
      r.2.mem ((c.tc : Thread Cert.DwiKernelIdeal.nD Cert.DwiKernelIdeal.τ).loc Cert.DwiKernelIdeal.main_arg0) = m ((c.tc : Thread Cert.DwiKernelIdeal.nD Cert.DwiKernelIdeal.τ).loc Cert.DwiKernelIdeal.main_arg0)
      ∧ r.2.mem ((c.tc : Thread Cert.DwiKernelIdeal.nD Cert.DwiKernelIdeal.τ).loc Cert.DwiKernelIdeal.main_arg1) = m ((c.tc : Thread Cert.DwiKernelIdeal.nD Cert.DwiKernelIdeal.τ).loc Cert.DwiKernelIdeal.main_arg1))
      ∧ r.2.sem = fun _ => 0)

def quiescent_DwiReferenceIdeal [hDwiReferenceIdeal : Cert.DwiReferenceIdeal.Facts] : Prop :=
  ∀ (m : (ℓ : Loc Cert.DwiReferenceIdeal.nD Cert.DwiReferenceIdeal.τ Cert.DwiReferenceIdeal.sig) → Buf (Elt Ideal) ℓ) (g : Dev Cert.DwiReferenceIdeal.nD → PrngReg), Pre_DwiReferenceIdeal m →
    θ_run (Cert.DwiReferenceIdeal.defs (F := Ideal)) (onTc (τ := Cert.DwiReferenceIdeal.τ) (Cert.DwiReferenceIdeal.main (F := Ideal))) ⟨m, fun _ => 0, g⟩ (fun r => (∀ c : Dev Cert.DwiReferenceIdeal.nD,
      r.2.mem ((c.tc : Thread Cert.DwiReferenceIdeal.nD Cert.DwiReferenceIdeal.τ).loc Cert.DwiReferenceIdeal.main_arg0) = m ((c.tc : Thread Cert.DwiReferenceIdeal.nD Cert.DwiReferenceIdeal.τ).loc Cert.DwiReferenceIdeal.main_arg0)
      ∧ r.2.mem ((c.tc : Thread Cert.DwiReferenceIdeal.nD Cert.DwiReferenceIdeal.τ).loc Cert.DwiReferenceIdeal.main_arg1) = m ((c.tc : Thread Cert.DwiReferenceIdeal.nD Cert.DwiReferenceIdeal.τ).loc Cert.DwiReferenceIdeal.main_arg1))
      ∧ r.2.sem = fun _ => 0)

def quiescent_FupKernel [hFupKernel : Cert.FupKernel.Facts] : Prop :=
  ∀ (m : (ℓ : Loc Cert.FupKernel.nD Cert.FupKernel.τ Cert.FupKernel.sig) → Buf (Elt Bits) ℓ) (g : Dev Cert.FupKernel.nD → PrngReg), Pre_FupKernel m →
    θ_run (Cert.FupKernel.defs (F := Bits)) (onTc (τ := Cert.FupKernel.τ) (Cert.FupKernel.main (F := Bits))) ⟨m, fun _ => 0, g⟩ (fun r => (∀ c : Dev Cert.FupKernel.nD,
      r.2.mem ((c.tc : Thread Cert.FupKernel.nD Cert.FupKernel.τ).loc Cert.FupKernel.main_arg0) = m ((c.tc : Thread Cert.FupKernel.nD Cert.FupKernel.τ).loc Cert.FupKernel.main_arg0)
      ∧ r.2.mem ((c.tc : Thread Cert.FupKernel.nD Cert.FupKernel.τ).loc Cert.FupKernel.main_arg1) = m ((c.tc : Thread Cert.FupKernel.nD Cert.FupKernel.τ).loc Cert.FupKernel.main_arg1))
      ∧ r.2.sem = fun _ => 0)

def quiescent_FupKernelIdeal [hFupKernelIdeal : Cert.FupKernelIdeal.Facts] : Prop :=
  ∀ (m : (ℓ : Loc Cert.FupKernelIdeal.nD Cert.FupKernelIdeal.τ Cert.FupKernelIdeal.sig) → Buf (Elt Ideal) ℓ) (g : Dev Cert.FupKernelIdeal.nD → PrngReg), Pre_FupKernelIdeal m →
    θ_run (Cert.FupKernelIdeal.defs (F := Ideal)) (onTc (τ := Cert.FupKernelIdeal.τ) (Cert.FupKernelIdeal.main (F := Ideal))) ⟨m, fun _ => 0, g⟩ (fun r => (∀ c : Dev Cert.FupKernelIdeal.nD,
      r.2.mem ((c.tc : Thread Cert.FupKernelIdeal.nD Cert.FupKernelIdeal.τ).loc Cert.FupKernelIdeal.main_arg0) = m ((c.tc : Thread Cert.FupKernelIdeal.nD Cert.FupKernelIdeal.τ).loc Cert.FupKernelIdeal.main_arg0)
      ∧ r.2.mem ((c.tc : Thread Cert.FupKernelIdeal.nD Cert.FupKernelIdeal.τ).loc Cert.FupKernelIdeal.main_arg1) = m ((c.tc : Thread Cert.FupKernelIdeal.nD Cert.FupKernelIdeal.τ).loc Cert.FupKernelIdeal.main_arg1))
      ∧ r.2.sem = fun _ => 0)

def quiescent_FupReferenceIdeal [hFupReferenceIdeal : Cert.FupReferenceIdeal.Facts] : Prop :=
  ∀ (m : (ℓ : Loc Cert.FupReferenceIdeal.nD Cert.FupReferenceIdeal.τ Cert.FupReferenceIdeal.sig) → Buf (Elt Ideal) ℓ) (g : Dev Cert.FupReferenceIdeal.nD → PrngReg), Pre_FupReferenceIdeal m →
    θ_run (Cert.FupReferenceIdeal.defs (F := Ideal)) (onTc (τ := Cert.FupReferenceIdeal.τ) (Cert.FupReferenceIdeal.main (F := Ideal))) ⟨m, fun _ => 0, g⟩ (fun r => (∀ c : Dev Cert.FupReferenceIdeal.nD,
      r.2.mem ((c.tc : Thread Cert.FupReferenceIdeal.nD Cert.FupReferenceIdeal.τ).loc Cert.FupReferenceIdeal.main_arg0) = m ((c.tc : Thread Cert.FupReferenceIdeal.nD Cert.FupReferenceIdeal.τ).loc Cert.FupReferenceIdeal.main_arg0)
      ∧ r.2.mem ((c.tc : Thread Cert.FupReferenceIdeal.nD Cert.FupReferenceIdeal.τ).loc Cert.FupReferenceIdeal.main_arg1) = m ((c.tc : Thread Cert.FupReferenceIdeal.nD Cert.FupReferenceIdeal.τ).loc Cert.FupReferenceIdeal.main_arg1))
      ∧ r.2.sem = fun _ => 0)

def quiescent_MxfKernel [hMxfKernel : Cert.MxfKernel.Facts] : Prop :=
  ∀ (m : (ℓ : Loc Cert.MxfKernel.nD Cert.MxfKernel.τ Cert.MxfKernel.sig) → Buf (Elt Bits) ℓ) (g : Dev Cert.MxfKernel.nD → PrngReg), Pre_MxfKernel m →
    θ_run (Cert.MxfKernel.defs (F := Bits)) (onTc (τ := Cert.MxfKernel.τ) (Cert.MxfKernel.main (F := Bits))) ⟨m, fun _ => 0, g⟩ (fun r => (∀ c : Dev Cert.MxfKernel.nD,
      r.2.mem ((c.tc : Thread Cert.MxfKernel.nD Cert.MxfKernel.τ).loc Cert.MxfKernel.main_arg0) = m ((c.tc : Thread Cert.MxfKernel.nD Cert.MxfKernel.τ).loc Cert.MxfKernel.main_arg0)
      ∧ r.2.mem ((c.tc : Thread Cert.MxfKernel.nD Cert.MxfKernel.τ).loc Cert.MxfKernel.main_arg1) = m ((c.tc : Thread Cert.MxfKernel.nD Cert.MxfKernel.τ).loc Cert.MxfKernel.main_arg1))
      ∧ r.2.sem = fun _ => 0)

def quiescent_MxfKernelIdeal [hMxfKernelIdeal : Cert.MxfKernelIdeal.Facts] : Prop :=
  ∀ (m : (ℓ : Loc Cert.MxfKernelIdeal.nD Cert.MxfKernelIdeal.τ Cert.MxfKernelIdeal.sig) → Buf (Elt Ideal) ℓ) (g : Dev Cert.MxfKernelIdeal.nD → PrngReg), Pre_MxfKernelIdeal m →
    θ_run (Cert.MxfKernelIdeal.defs (F := Ideal)) (onTc (τ := Cert.MxfKernelIdeal.τ) (Cert.MxfKernelIdeal.main (F := Ideal))) ⟨m, fun _ => 0, g⟩ (fun r => (∀ c : Dev Cert.MxfKernelIdeal.nD,
      r.2.mem ((c.tc : Thread Cert.MxfKernelIdeal.nD Cert.MxfKernelIdeal.τ).loc Cert.MxfKernelIdeal.main_arg0) = m ((c.tc : Thread Cert.MxfKernelIdeal.nD Cert.MxfKernelIdeal.τ).loc Cert.MxfKernelIdeal.main_arg0)
      ∧ r.2.mem ((c.tc : Thread Cert.MxfKernelIdeal.nD Cert.MxfKernelIdeal.τ).loc Cert.MxfKernelIdeal.main_arg1) = m ((c.tc : Thread Cert.MxfKernelIdeal.nD Cert.MxfKernelIdeal.τ).loc Cert.MxfKernelIdeal.main_arg1))
      ∧ r.2.sem = fun _ => 0)

def quiescent_MxfReferenceIdeal [hMxfReferenceIdeal : Cert.MxfReferenceIdeal.Facts] : Prop :=
  ∀ (m : (ℓ : Loc Cert.MxfReferenceIdeal.nD Cert.MxfReferenceIdeal.τ Cert.MxfReferenceIdeal.sig) → Buf (Elt Ideal) ℓ) (g : Dev Cert.MxfReferenceIdeal.nD → PrngReg), Pre_MxfReferenceIdeal m →
    θ_run (Cert.MxfReferenceIdeal.defs (F := Ideal)) (onTc (τ := Cert.MxfReferenceIdeal.τ) (Cert.MxfReferenceIdeal.main (F := Ideal))) ⟨m, fun _ => 0, g⟩ (fun r => (∀ c : Dev Cert.MxfReferenceIdeal.nD,
      r.2.mem ((c.tc : Thread Cert.MxfReferenceIdeal.nD Cert.MxfReferenceIdeal.τ).loc Cert.MxfReferenceIdeal.main_arg0) = m ((c.tc : Thread Cert.MxfReferenceIdeal.nD Cert.MxfReferenceIdeal.τ).loc Cert.MxfReferenceIdeal.main_arg0)
      ∧ r.2.mem ((c.tc : Thread Cert.MxfReferenceIdeal.nD Cert.MxfReferenceIdeal.τ).loc Cert.MxfReferenceIdeal.main_arg1) = m ((c.tc : Thread Cert.MxfReferenceIdeal.nD Cert.MxfReferenceIdeal.τ).loc Cert.MxfReferenceIdeal.main_arg1))
      ∧ r.2.sem = fun _ => 0)

def quiescent_DlnKernel [hDlnKernel : Cert.DlnKernel.Facts] : Prop :=
  ∀ (m : (ℓ : Loc Cert.DlnKernel.nD Cert.DlnKernel.τ Cert.DlnKernel.sig) → Buf (Elt Bits) ℓ) (g : Dev Cert.DlnKernel.nD → PrngReg), Pre_DlnKernel m →
    θ_run (Cert.DlnKernel.defs (F := Bits)) (onTc (τ := Cert.DlnKernel.τ) (Cert.DlnKernel.main (F := Bits))) ⟨m, fun _ => 0, g⟩ (fun r => (∀ c : Dev Cert.DlnKernel.nD,
      r.2.mem ((c.tc : Thread Cert.DlnKernel.nD Cert.DlnKernel.τ).loc Cert.DlnKernel.main_arg0) = m ((c.tc : Thread Cert.DlnKernel.nD Cert.DlnKernel.τ).loc Cert.DlnKernel.main_arg0)
      ∧ r.2.mem ((c.tc : Thread Cert.DlnKernel.nD Cert.DlnKernel.τ).loc Cert.DlnKernel.main_arg1) = m ((c.tc : Thread Cert.DlnKernel.nD Cert.DlnKernel.τ).loc Cert.DlnKernel.main_arg1)
      ∧ r.2.mem ((c.tc : Thread Cert.DlnKernel.nD Cert.DlnKernel.τ).loc Cert.DlnKernel.main_arg2) = m ((c.tc : Thread Cert.DlnKernel.nD Cert.DlnKernel.τ).loc Cert.DlnKernel.main_arg2)
      ∧ r.2.mem ((c.tc : Thread Cert.DlnKernel.nD Cert.DlnKernel.τ).loc Cert.DlnKernel.main_arg3) = m ((c.tc : Thread Cert.DlnKernel.nD Cert.DlnKernel.τ).loc Cert.DlnKernel.main_arg3)
      ∧ r.2.mem ((c.tc : Thread Cert.DlnKernel.nD Cert.DlnKernel.τ).loc Cert.DlnKernel.main_arg4) = m ((c.tc : Thread Cert.DlnKernel.nD Cert.DlnKernel.τ).loc Cert.DlnKernel.main_arg4)
      ∧ r.2.mem ((c.tc : Thread Cert.DlnKernel.nD Cert.DlnKernel.τ).loc Cert.DlnKernel.main_arg5) = m ((c.tc : Thread Cert.DlnKernel.nD Cert.DlnKernel.τ).loc Cert.DlnKernel.main_arg5)
      ∧ r.2.mem ((c.tc : Thread Cert.DlnKernel.nD Cert.DlnKernel.τ).loc Cert.DlnKernel.main_arg6) = m ((c.tc : Thread Cert.DlnKernel.nD Cert.DlnKernel.τ).loc Cert.DlnKernel.main_arg6))
      ∧ r.2.sem = fun _ => 0)

def quiescent_DlnKernelIdeal [hDlnKernelIdeal : Cert.DlnKernelIdeal.Facts] : Prop :=
  ∀ (m : (ℓ : Loc Cert.DlnKernelIdeal.nD Cert.DlnKernelIdeal.τ Cert.DlnKernelIdeal.sig) → Buf (Elt Ideal) ℓ) (g : Dev Cert.DlnKernelIdeal.nD → PrngReg), Pre_DlnKernelIdeal m →
    θ_run (Cert.DlnKernelIdeal.defs (F := Ideal)) (onTc (τ := Cert.DlnKernelIdeal.τ) (Cert.DlnKernelIdeal.main (F := Ideal))) ⟨m, fun _ => 0, g⟩ (fun r => (∀ c : Dev Cert.DlnKernelIdeal.nD,
      r.2.mem ((c.tc : Thread Cert.DlnKernelIdeal.nD Cert.DlnKernelIdeal.τ).loc Cert.DlnKernelIdeal.main_arg0) = m ((c.tc : Thread Cert.DlnKernelIdeal.nD Cert.DlnKernelIdeal.τ).loc Cert.DlnKernelIdeal.main_arg0)
      ∧ r.2.mem ((c.tc : Thread Cert.DlnKernelIdeal.nD Cert.DlnKernelIdeal.τ).loc Cert.DlnKernelIdeal.main_arg1) = m ((c.tc : Thread Cert.DlnKernelIdeal.nD Cert.DlnKernelIdeal.τ).loc Cert.DlnKernelIdeal.main_arg1)
      ∧ r.2.mem ((c.tc : Thread Cert.DlnKernelIdeal.nD Cert.DlnKernelIdeal.τ).loc Cert.DlnKernelIdeal.main_arg2) = m ((c.tc : Thread Cert.DlnKernelIdeal.nD Cert.DlnKernelIdeal.τ).loc Cert.DlnKernelIdeal.main_arg2)
      ∧ r.2.mem ((c.tc : Thread Cert.DlnKernelIdeal.nD Cert.DlnKernelIdeal.τ).loc Cert.DlnKernelIdeal.main_arg3) = m ((c.tc : Thread Cert.DlnKernelIdeal.nD Cert.DlnKernelIdeal.τ).loc Cert.DlnKernelIdeal.main_arg3)
      ∧ r.2.mem ((c.tc : Thread Cert.DlnKernelIdeal.nD Cert.DlnKernelIdeal.τ).loc Cert.DlnKernelIdeal.main_arg4) = m ((c.tc : Thread Cert.DlnKernelIdeal.nD Cert.DlnKernelIdeal.τ).loc Cert.DlnKernelIdeal.main_arg4)
      ∧ r.2.mem ((c.tc : Thread Cert.DlnKernelIdeal.nD Cert.DlnKernelIdeal.τ).loc Cert.DlnKernelIdeal.main_arg5) = m ((c.tc : Thread Cert.DlnKernelIdeal.nD Cert.DlnKernelIdeal.τ).loc Cert.DlnKernelIdeal.main_arg5)
      ∧ r.2.mem ((c.tc : Thread Cert.DlnKernelIdeal.nD Cert.DlnKernelIdeal.τ).loc Cert.DlnKernelIdeal.main_arg6) = m ((c.tc : Thread Cert.DlnKernelIdeal.nD Cert.DlnKernelIdeal.τ).loc Cert.DlnKernelIdeal.main_arg6))
      ∧ r.2.sem = fun _ => 0)

def quiescent_DlnReferenceIdeal [hDlnReferenceIdeal : Cert.DlnReferenceIdeal.Facts] : Prop :=
  ∀ (m : (ℓ : Loc Cert.DlnReferenceIdeal.nD Cert.DlnReferenceIdeal.τ Cert.DlnReferenceIdeal.sig) → Buf (Elt Ideal) ℓ) (g : Dev Cert.DlnReferenceIdeal.nD → PrngReg), Pre_DlnReferenceIdeal m →
    θ_run (Cert.DlnReferenceIdeal.defs (F := Ideal)) (onTc (τ := Cert.DlnReferenceIdeal.τ) (Cert.DlnReferenceIdeal.main (F := Ideal))) ⟨m, fun _ => 0, g⟩ (fun r => (∀ c : Dev Cert.DlnReferenceIdeal.nD,
      r.2.mem ((c.tc : Thread Cert.DlnReferenceIdeal.nD Cert.DlnReferenceIdeal.τ).loc Cert.DlnReferenceIdeal.main_arg0) = m ((c.tc : Thread Cert.DlnReferenceIdeal.nD Cert.DlnReferenceIdeal.τ).loc Cert.DlnReferenceIdeal.main_arg0)
      ∧ r.2.mem ((c.tc : Thread Cert.DlnReferenceIdeal.nD Cert.DlnReferenceIdeal.τ).loc Cert.DlnReferenceIdeal.main_arg1) = m ((c.tc : Thread Cert.DlnReferenceIdeal.nD Cert.DlnReferenceIdeal.τ).loc Cert.DlnReferenceIdeal.main_arg1)
      ∧ r.2.mem ((c.tc : Thread Cert.DlnReferenceIdeal.nD Cert.DlnReferenceIdeal.τ).loc Cert.DlnReferenceIdeal.main_arg2) = m ((c.tc : Thread Cert.DlnReferenceIdeal.nD Cert.DlnReferenceIdeal.τ).loc Cert.DlnReferenceIdeal.main_arg2)
      ∧ r.2.mem ((c.tc : Thread Cert.DlnReferenceIdeal.nD Cert.DlnReferenceIdeal.τ).loc Cert.DlnReferenceIdeal.main_arg3) = m ((c.tc : Thread Cert.DlnReferenceIdeal.nD Cert.DlnReferenceIdeal.τ).loc Cert.DlnReferenceIdeal.main_arg3)
      ∧ r.2.mem ((c.tc : Thread Cert.DlnReferenceIdeal.nD Cert.DlnReferenceIdeal.τ).loc Cert.DlnReferenceIdeal.main_arg4) = m ((c.tc : Thread Cert.DlnReferenceIdeal.nD Cert.DlnReferenceIdeal.τ).loc Cert.DlnReferenceIdeal.main_arg4)
      ∧ r.2.mem ((c.tc : Thread Cert.DlnReferenceIdeal.nD Cert.DlnReferenceIdeal.τ).loc Cert.DlnReferenceIdeal.main_arg5) = m ((c.tc : Thread Cert.DlnReferenceIdeal.nD Cert.DlnReferenceIdeal.τ).loc Cert.DlnReferenceIdeal.main_arg5)
      ∧ r.2.mem ((c.tc : Thread Cert.DlnReferenceIdeal.nD Cert.DlnReferenceIdeal.τ).loc Cert.DlnReferenceIdeal.main_arg6) = m ((c.tc : Thread Cert.DlnReferenceIdeal.nD Cert.DlnReferenceIdeal.τ).loc Cert.DlnReferenceIdeal.main_arg6))
      ∧ r.2.sem = fun _ => 0)

def quiescent_MrgKernel [hMrgKernel : Cert.MrgKernel.Facts] : Prop :=
  ∀ (m : (ℓ : Loc Cert.MrgKernel.nD Cert.MrgKernel.τ Cert.MrgKernel.sig) → Buf (Elt Bits) ℓ) (g : Dev Cert.MrgKernel.nD → PrngReg), Pre_MrgKernel m →
    θ_run (Cert.MrgKernel.defs (F := Bits)) (onTc (τ := Cert.MrgKernel.τ) (Cert.MrgKernel.main (F := Bits))) ⟨m, fun _ => 0, g⟩ (fun r => (∀ c : Dev Cert.MrgKernel.nD,
      r.2.mem ((c.tc : Thread Cert.MrgKernel.nD Cert.MrgKernel.τ).loc Cert.MrgKernel.main_arg0) = m ((c.tc : Thread Cert.MrgKernel.nD Cert.MrgKernel.τ).loc Cert.MrgKernel.main_arg0)
      ∧ r.2.mem ((c.tc : Thread Cert.MrgKernel.nD Cert.MrgKernel.τ).loc Cert.MrgKernel.main_arg1) = m ((c.tc : Thread Cert.MrgKernel.nD Cert.MrgKernel.τ).loc Cert.MrgKernel.main_arg1)
      ∧ r.2.mem ((c.tc : Thread Cert.MrgKernel.nD Cert.MrgKernel.τ).loc Cert.MrgKernel.main_arg2) = m ((c.tc : Thread Cert.MrgKernel.nD Cert.MrgKernel.τ).loc Cert.MrgKernel.main_arg2)
      ∧ r.2.mem ((c.tc : Thread Cert.MrgKernel.nD Cert.MrgKernel.τ).loc Cert.MrgKernel.main_arg3) = m ((c.tc : Thread Cert.MrgKernel.nD Cert.MrgKernel.τ).loc Cert.MrgKernel.main_arg3)
      ∧ r.2.mem ((c.tc : Thread Cert.MrgKernel.nD Cert.MrgKernel.τ).loc Cert.MrgKernel.main_arg4) = m ((c.tc : Thread Cert.MrgKernel.nD Cert.MrgKernel.τ).loc Cert.MrgKernel.main_arg4)
      ∧ r.2.mem ((c.tc : Thread Cert.MrgKernel.nD Cert.MrgKernel.τ).loc Cert.MrgKernel.main_arg5) = m ((c.tc : Thread Cert.MrgKernel.nD Cert.MrgKernel.τ).loc Cert.MrgKernel.main_arg5)
      ∧ r.2.mem ((c.tc : Thread Cert.MrgKernel.nD Cert.MrgKernel.τ).loc Cert.MrgKernel.main_arg6) = m ((c.tc : Thread Cert.MrgKernel.nD Cert.MrgKernel.τ).loc Cert.MrgKernel.main_arg6)
      ∧ r.2.mem ((c.tc : Thread Cert.MrgKernel.nD Cert.MrgKernel.τ).loc Cert.MrgKernel.main_arg7) = m ((c.tc : Thread Cert.MrgKernel.nD Cert.MrgKernel.τ).loc Cert.MrgKernel.main_arg7)
      ∧ r.2.mem ((c.tc : Thread Cert.MrgKernel.nD Cert.MrgKernel.τ).loc Cert.MrgKernel.main_arg8) = m ((c.tc : Thread Cert.MrgKernel.nD Cert.MrgKernel.τ).loc Cert.MrgKernel.main_arg8)
      ∧ r.2.mem ((c.tc : Thread Cert.MrgKernel.nD Cert.MrgKernel.τ).loc Cert.MrgKernel.main_arg9) = m ((c.tc : Thread Cert.MrgKernel.nD Cert.MrgKernel.τ).loc Cert.MrgKernel.main_arg9)
      ∧ r.2.mem ((c.tc : Thread Cert.MrgKernel.nD Cert.MrgKernel.τ).loc Cert.MrgKernel.main_arg10) = m ((c.tc : Thread Cert.MrgKernel.nD Cert.MrgKernel.τ).loc Cert.MrgKernel.main_arg10)
      ∧ r.2.mem ((c.tc : Thread Cert.MrgKernel.nD Cert.MrgKernel.τ).loc Cert.MrgKernel.main_arg11) = m ((c.tc : Thread Cert.MrgKernel.nD Cert.MrgKernel.τ).loc Cert.MrgKernel.main_arg11))
      ∧ r.2.sem = fun _ => 0)

def quiescent_MrgKernelIdeal [hMrgKernelIdeal : Cert.MrgKernelIdeal.Facts] : Prop :=
  ∀ (m : (ℓ : Loc Cert.MrgKernelIdeal.nD Cert.MrgKernelIdeal.τ Cert.MrgKernelIdeal.sig) → Buf (Elt Ideal) ℓ) (g : Dev Cert.MrgKernelIdeal.nD → PrngReg), Pre_MrgKernelIdeal m →
    θ_run (Cert.MrgKernelIdeal.defs (F := Ideal)) (onTc (τ := Cert.MrgKernelIdeal.τ) (Cert.MrgKernelIdeal.main (F := Ideal))) ⟨m, fun _ => 0, g⟩ (fun r => (∀ c : Dev Cert.MrgKernelIdeal.nD,
      r.2.mem ((c.tc : Thread Cert.MrgKernelIdeal.nD Cert.MrgKernelIdeal.τ).loc Cert.MrgKernelIdeal.main_arg0) = m ((c.tc : Thread Cert.MrgKernelIdeal.nD Cert.MrgKernelIdeal.τ).loc Cert.MrgKernelIdeal.main_arg0)
      ∧ r.2.mem ((c.tc : Thread Cert.MrgKernelIdeal.nD Cert.MrgKernelIdeal.τ).loc Cert.MrgKernelIdeal.main_arg1) = m ((c.tc : Thread Cert.MrgKernelIdeal.nD Cert.MrgKernelIdeal.τ).loc Cert.MrgKernelIdeal.main_arg1)
      ∧ r.2.mem ((c.tc : Thread Cert.MrgKernelIdeal.nD Cert.MrgKernelIdeal.τ).loc Cert.MrgKernelIdeal.main_arg2) = m ((c.tc : Thread Cert.MrgKernelIdeal.nD Cert.MrgKernelIdeal.τ).loc Cert.MrgKernelIdeal.main_arg2)
      ∧ r.2.mem ((c.tc : Thread Cert.MrgKernelIdeal.nD Cert.MrgKernelIdeal.τ).loc Cert.MrgKernelIdeal.main_arg3) = m ((c.tc : Thread Cert.MrgKernelIdeal.nD Cert.MrgKernelIdeal.τ).loc Cert.MrgKernelIdeal.main_arg3)
      ∧ r.2.mem ((c.tc : Thread Cert.MrgKernelIdeal.nD Cert.MrgKernelIdeal.τ).loc Cert.MrgKernelIdeal.main_arg4) = m ((c.tc : Thread Cert.MrgKernelIdeal.nD Cert.MrgKernelIdeal.τ).loc Cert.MrgKernelIdeal.main_arg4)
      ∧ r.2.mem ((c.tc : Thread Cert.MrgKernelIdeal.nD Cert.MrgKernelIdeal.τ).loc Cert.MrgKernelIdeal.main_arg5) = m ((c.tc : Thread Cert.MrgKernelIdeal.nD Cert.MrgKernelIdeal.τ).loc Cert.MrgKernelIdeal.main_arg5)
      ∧ r.2.mem ((c.tc : Thread Cert.MrgKernelIdeal.nD Cert.MrgKernelIdeal.τ).loc Cert.MrgKernelIdeal.main_arg6) = m ((c.tc : Thread Cert.MrgKernelIdeal.nD Cert.MrgKernelIdeal.τ).loc Cert.MrgKernelIdeal.main_arg6)
      ∧ r.2.mem ((c.tc : Thread Cert.MrgKernelIdeal.nD Cert.MrgKernelIdeal.τ).loc Cert.MrgKernelIdeal.main_arg7) = m ((c.tc : Thread Cert.MrgKernelIdeal.nD Cert.MrgKernelIdeal.τ).loc Cert.MrgKernelIdeal.main_arg7)
      ∧ r.2.mem ((c.tc : Thread Cert.MrgKernelIdeal.nD Cert.MrgKernelIdeal.τ).loc Cert.MrgKernelIdeal.main_arg8) = m ((c.tc : Thread Cert.MrgKernelIdeal.nD Cert.MrgKernelIdeal.τ).loc Cert.MrgKernelIdeal.main_arg8)
      ∧ r.2.mem ((c.tc : Thread Cert.MrgKernelIdeal.nD Cert.MrgKernelIdeal.τ).loc Cert.MrgKernelIdeal.main_arg9) = m ((c.tc : Thread Cert.MrgKernelIdeal.nD Cert.MrgKernelIdeal.τ).loc Cert.MrgKernelIdeal.main_arg9)
      ∧ r.2.mem ((c.tc : Thread Cert.MrgKernelIdeal.nD Cert.MrgKernelIdeal.τ).loc Cert.MrgKernelIdeal.main_arg10) = m ((c.tc : Thread Cert.MrgKernelIdeal.nD Cert.MrgKernelIdeal.τ).loc Cert.MrgKernelIdeal.main_arg10)
      ∧ r.2.mem ((c.tc : Thread Cert.MrgKernelIdeal.nD Cert.MrgKernelIdeal.τ).loc Cert.MrgKernelIdeal.main_arg11) = m ((c.tc : Thread Cert.MrgKernelIdeal.nD Cert.MrgKernelIdeal.τ).loc Cert.MrgKernelIdeal.main_arg11))
      ∧ r.2.sem = fun _ => 0)

def quiescent_MrgReferenceIdeal [hMrgReferenceIdeal : Cert.MrgReferenceIdeal.Facts] : Prop :=
  ∀ (m : (ℓ : Loc Cert.MrgReferenceIdeal.nD Cert.MrgReferenceIdeal.τ Cert.MrgReferenceIdeal.sig) → Buf (Elt Ideal) ℓ) (g : Dev Cert.MrgReferenceIdeal.nD → PrngReg), Pre_MrgReferenceIdeal m →
    θ_run (Cert.MrgReferenceIdeal.defs (F := Ideal)) (onTc (τ := Cert.MrgReferenceIdeal.τ) (Cert.MrgReferenceIdeal.main (F := Ideal))) ⟨m, fun _ => 0, g⟩ (fun r => (∀ c : Dev Cert.MrgReferenceIdeal.nD,
      r.2.mem ((c.tc : Thread Cert.MrgReferenceIdeal.nD Cert.MrgReferenceIdeal.τ).loc Cert.MrgReferenceIdeal.main_arg0) = m ((c.tc : Thread Cert.MrgReferenceIdeal.nD Cert.MrgReferenceIdeal.τ).loc Cert.MrgReferenceIdeal.main_arg0)
      ∧ r.2.mem ((c.tc : Thread Cert.MrgReferenceIdeal.nD Cert.MrgReferenceIdeal.τ).loc Cert.MrgReferenceIdeal.main_arg1) = m ((c.tc : Thread Cert.MrgReferenceIdeal.nD Cert.MrgReferenceIdeal.τ).loc Cert.MrgReferenceIdeal.main_arg1)
      ∧ r.2.mem ((c.tc : Thread Cert.MrgReferenceIdeal.nD Cert.MrgReferenceIdeal.τ).loc Cert.MrgReferenceIdeal.main_arg2) = m ((c.tc : Thread Cert.MrgReferenceIdeal.nD Cert.MrgReferenceIdeal.τ).loc Cert.MrgReferenceIdeal.main_arg2)
      ∧ r.2.mem ((c.tc : Thread Cert.MrgReferenceIdeal.nD Cert.MrgReferenceIdeal.τ).loc Cert.MrgReferenceIdeal.main_arg3) = m ((c.tc : Thread Cert.MrgReferenceIdeal.nD Cert.MrgReferenceIdeal.τ).loc Cert.MrgReferenceIdeal.main_arg3)
      ∧ r.2.mem ((c.tc : Thread Cert.MrgReferenceIdeal.nD Cert.MrgReferenceIdeal.τ).loc Cert.MrgReferenceIdeal.main_arg4) = m ((c.tc : Thread Cert.MrgReferenceIdeal.nD Cert.MrgReferenceIdeal.τ).loc Cert.MrgReferenceIdeal.main_arg4)
      ∧ r.2.mem ((c.tc : Thread Cert.MrgReferenceIdeal.nD Cert.MrgReferenceIdeal.τ).loc Cert.MrgReferenceIdeal.main_arg5) = m ((c.tc : Thread Cert.MrgReferenceIdeal.nD Cert.MrgReferenceIdeal.τ).loc Cert.MrgReferenceIdeal.main_arg5)
      ∧ r.2.mem ((c.tc : Thread Cert.MrgReferenceIdeal.nD Cert.MrgReferenceIdeal.τ).loc Cert.MrgReferenceIdeal.main_arg6) = m ((c.tc : Thread Cert.MrgReferenceIdeal.nD Cert.MrgReferenceIdeal.τ).loc Cert.MrgReferenceIdeal.main_arg6)
      ∧ r.2.mem ((c.tc : Thread Cert.MrgReferenceIdeal.nD Cert.MrgReferenceIdeal.τ).loc Cert.MrgReferenceIdeal.main_arg7) = m ((c.tc : Thread Cert.MrgReferenceIdeal.nD Cert.MrgReferenceIdeal.τ).loc Cert.MrgReferenceIdeal.main_arg7)
      ∧ r.2.mem ((c.tc : Thread Cert.MrgReferenceIdeal.nD Cert.MrgReferenceIdeal.τ).loc Cert.MrgReferenceIdeal.main_arg8) = m ((c.tc : Thread Cert.MrgReferenceIdeal.nD Cert.MrgReferenceIdeal.τ).loc Cert.MrgReferenceIdeal.main_arg8)
      ∧ r.2.mem ((c.tc : Thread Cert.MrgReferenceIdeal.nD Cert.MrgReferenceIdeal.τ).loc Cert.MrgReferenceIdeal.main_arg9) = m ((c.tc : Thread Cert.MrgReferenceIdeal.nD Cert.MrgReferenceIdeal.τ).loc Cert.MrgReferenceIdeal.main_arg9)
      ∧ r.2.mem ((c.tc : Thread Cert.MrgReferenceIdeal.nD Cert.MrgReferenceIdeal.τ).loc Cert.MrgReferenceIdeal.main_arg10) = m ((c.tc : Thread Cert.MrgReferenceIdeal.nD Cert.MrgReferenceIdeal.τ).loc Cert.MrgReferenceIdeal.main_arg10)
      ∧ r.2.mem ((c.tc : Thread Cert.MrgReferenceIdeal.nD Cert.MrgReferenceIdeal.τ).loc Cert.MrgReferenceIdeal.main_arg11) = m ((c.tc : Thread Cert.MrgReferenceIdeal.nD Cert.MrgReferenceIdeal.τ).loc Cert.MrgReferenceIdeal.main_arg11))
      ∧ r.2.sem = fun _ => 0)

def quiescent_DwoKernel [hDwoKernel : Cert.DwoKernel.Facts] : Prop :=
  ∀ (m : (ℓ : Loc Cert.DwoKernel.nD Cert.DwoKernel.τ Cert.DwoKernel.sig) → Buf (Elt Bits) ℓ) (g : Dev Cert.DwoKernel.nD → PrngReg), Pre_DwoKernel m →
    θ_run (Cert.DwoKernel.defs (F := Bits)) (onTc (τ := Cert.DwoKernel.τ) (Cert.DwoKernel.main (F := Bits))) ⟨m, fun _ => 0, g⟩ (fun r => (∀ c : Dev Cert.DwoKernel.nD,
      r.2.mem ((c.tc : Thread Cert.DwoKernel.nD Cert.DwoKernel.τ).loc Cert.DwoKernel.main_arg0) = m ((c.tc : Thread Cert.DwoKernel.nD Cert.DwoKernel.τ).loc Cert.DwoKernel.main_arg0)
      ∧ r.2.mem ((c.tc : Thread Cert.DwoKernel.nD Cert.DwoKernel.τ).loc Cert.DwoKernel.main_arg1) = m ((c.tc : Thread Cert.DwoKernel.nD Cert.DwoKernel.τ).loc Cert.DwoKernel.main_arg1))
      ∧ r.2.sem = fun _ => 0)

def quiescent_DwoKernelIdeal [hDwoKernelIdeal : Cert.DwoKernelIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg), Pre_DwoKernelIdeal m →
    θ_run (Cert.DwoKernelIdeal.defs (F := Ideal)) (onTc (τ := Cert.DwoKernelIdeal.τ) (Cert.DwoKernelIdeal.main (F := Ideal))) ⟨m, fun _ => 0, g⟩ (fun r => (∀ c : Dev Cert.DwoKernelIdeal.nD,
      r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
      ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1))
      ∧ r.2.sem = fun _ => 0)

def quiescent_DwoReferenceIdeal [hDwoReferenceIdeal : Cert.DwoReferenceIdeal.Facts] : Prop :=
  ∀ (m : (ℓ : Loc Cert.DwoReferenceIdeal.nD Cert.DwoReferenceIdeal.τ Cert.DwoReferenceIdeal.sig) → Buf (Elt Ideal) ℓ) (g : Dev Cert.DwoReferenceIdeal.nD → PrngReg), Pre_DwoReferenceIdeal m →
    θ_run (Cert.DwoReferenceIdeal.defs (F := Ideal)) (onTc (τ := Cert.DwoReferenceIdeal.τ) (Cert.DwoReferenceIdeal.main (F := Ideal))) ⟨m, fun _ => 0, g⟩ (fun r => (∀ c : Dev Cert.DwoReferenceIdeal.nD,
      r.2.mem ((c.tc : Thread Cert.DwoReferenceIdeal.nD Cert.DwoReferenceIdeal.τ).loc Cert.DwoReferenceIdeal.main_arg0) = m ((c.tc : Thread Cert.DwoReferenceIdeal.nD Cert.DwoReferenceIdeal.τ).loc Cert.DwoReferenceIdeal.main_arg0)
      ∧ r.2.mem ((c.tc : Thread Cert.DwoReferenceIdeal.nD Cert.DwoReferenceIdeal.τ).loc Cert.DwoReferenceIdeal.main_arg1) = m ((c.tc : Thread Cert.DwoReferenceIdeal.nD Cert.DwoReferenceIdeal.τ).loc Cert.DwoReferenceIdeal.main_arg1))
      ∧ r.2.sem = fun _ => 0)

def quiescent_MgbKernel [hMgbKernel : Cert.MgbKernel.Facts] : Prop :=
  ∀ (m : (ℓ : Loc Cert.MgbKernel.nD Cert.MgbKernel.τ Cert.MgbKernel.sig) → Buf (Elt Bits) ℓ) (g : Dev Cert.MgbKernel.nD → PrngReg), Pre_MgbKernel m →
    θ_run (Cert.MgbKernel.defs (F := Bits)) (onTc (τ := Cert.MgbKernel.τ) (Cert.MgbKernel.main (F := Bits))) ⟨m, fun _ => 0, g⟩ (fun r => (∀ c : Dev Cert.MgbKernel.nD,
      r.2.mem ((c.tc : Thread Cert.MgbKernel.nD Cert.MgbKernel.τ).loc Cert.MgbKernel.main_arg0) = m ((c.tc : Thread Cert.MgbKernel.nD Cert.MgbKernel.τ).loc Cert.MgbKernel.main_arg0)
      ∧ r.2.mem ((c.tc : Thread Cert.MgbKernel.nD Cert.MgbKernel.τ).loc Cert.MgbKernel.main_arg1) = m ((c.tc : Thread Cert.MgbKernel.nD Cert.MgbKernel.τ).loc Cert.MgbKernel.main_arg1)
      ∧ r.2.mem ((c.tc : Thread Cert.MgbKernel.nD Cert.MgbKernel.τ).loc Cert.MgbKernel.main_arg2) = m ((c.tc : Thread Cert.MgbKernel.nD Cert.MgbKernel.τ).loc Cert.MgbKernel.main_arg2)
      ∧ r.2.mem ((c.tc : Thread Cert.MgbKernel.nD Cert.MgbKernel.τ).loc Cert.MgbKernel.main_arg3) = m ((c.tc : Thread Cert.MgbKernel.nD Cert.MgbKernel.τ).loc Cert.MgbKernel.main_arg3)
      ∧ r.2.mem ((c.tc : Thread Cert.MgbKernel.nD Cert.MgbKernel.τ).loc Cert.MgbKernel.main_arg4) = m ((c.tc : Thread Cert.MgbKernel.nD Cert.MgbKernel.τ).loc Cert.MgbKernel.main_arg4)
      ∧ r.2.mem ((c.tc : Thread Cert.MgbKernel.nD Cert.MgbKernel.τ).loc Cert.MgbKernel.main_arg5) = m ((c.tc : Thread Cert.MgbKernel.nD Cert.MgbKernel.τ).loc Cert.MgbKernel.main_arg5)
      ∧ r.2.mem ((c.tc : Thread Cert.MgbKernel.nD Cert.MgbKernel.τ).loc Cert.MgbKernel.main_arg6) = m ((c.tc : Thread Cert.MgbKernel.nD Cert.MgbKernel.τ).loc Cert.MgbKernel.main_arg6)
      ∧ r.2.mem ((c.tc : Thread Cert.MgbKernel.nD Cert.MgbKernel.τ).loc Cert.MgbKernel.main_arg7) = m ((c.tc : Thread Cert.MgbKernel.nD Cert.MgbKernel.τ).loc Cert.MgbKernel.main_arg7)
      ∧ r.2.mem ((c.tc : Thread Cert.MgbKernel.nD Cert.MgbKernel.τ).loc Cert.MgbKernel.main_arg8) = m ((c.tc : Thread Cert.MgbKernel.nD Cert.MgbKernel.τ).loc Cert.MgbKernel.main_arg8))
      ∧ r.2.sem = fun _ => 0)

def quiescent_MgbKernelIdeal [hMgbKernelIdeal : Cert.MgbKernelIdeal.Facts] : Prop :=
  ∀ (m : (ℓ : Loc Cert.MgbKernelIdeal.nD Cert.MgbKernelIdeal.τ Cert.MgbKernelIdeal.sig) → Buf (Elt Ideal) ℓ) (g : Dev Cert.MgbKernelIdeal.nD → PrngReg), Pre_MgbKernelIdeal m →
    θ_run (Cert.MgbKernelIdeal.defs (F := Ideal)) (onTc (τ := Cert.MgbKernelIdeal.τ) (Cert.MgbKernelIdeal.main (F := Ideal))) ⟨m, fun _ => 0, g⟩ (fun r => (∀ c : Dev Cert.MgbKernelIdeal.nD,
      r.2.mem ((c.tc : Thread Cert.MgbKernelIdeal.nD Cert.MgbKernelIdeal.τ).loc Cert.MgbKernelIdeal.main_arg0) = m ((c.tc : Thread Cert.MgbKernelIdeal.nD Cert.MgbKernelIdeal.τ).loc Cert.MgbKernelIdeal.main_arg0)
      ∧ r.2.mem ((c.tc : Thread Cert.MgbKernelIdeal.nD Cert.MgbKernelIdeal.τ).loc Cert.MgbKernelIdeal.main_arg1) = m ((c.tc : Thread Cert.MgbKernelIdeal.nD Cert.MgbKernelIdeal.τ).loc Cert.MgbKernelIdeal.main_arg1)
      ∧ r.2.mem ((c.tc : Thread Cert.MgbKernelIdeal.nD Cert.MgbKernelIdeal.τ).loc Cert.MgbKernelIdeal.main_arg2) = m ((c.tc : Thread Cert.MgbKernelIdeal.nD Cert.MgbKernelIdeal.τ).loc Cert.MgbKernelIdeal.main_arg2)
      ∧ r.2.mem ((c.tc : Thread Cert.MgbKernelIdeal.nD Cert.MgbKernelIdeal.τ).loc Cert.MgbKernelIdeal.main_arg3) = m ((c.tc : Thread Cert.MgbKernelIdeal.nD Cert.MgbKernelIdeal.τ).loc Cert.MgbKernelIdeal.main_arg3)
      ∧ r.2.mem ((c.tc : Thread Cert.MgbKernelIdeal.nD Cert.MgbKernelIdeal.τ).loc Cert.MgbKernelIdeal.main_arg4) = m ((c.tc : Thread Cert.MgbKernelIdeal.nD Cert.MgbKernelIdeal.τ).loc Cert.MgbKernelIdeal.main_arg4)
      ∧ r.2.mem ((c.tc : Thread Cert.MgbKernelIdeal.nD Cert.MgbKernelIdeal.τ).loc Cert.MgbKernelIdeal.main_arg5) = m ((c.tc : Thread Cert.MgbKernelIdeal.nD Cert.MgbKernelIdeal.τ).loc Cert.MgbKernelIdeal.main_arg5)
      ∧ r.2.mem ((c.tc : Thread Cert.MgbKernelIdeal.nD Cert.MgbKernelIdeal.τ).loc Cert.MgbKernelIdeal.main_arg6) = m ((c.tc : Thread Cert.MgbKernelIdeal.nD Cert.MgbKernelIdeal.τ).loc Cert.MgbKernelIdeal.main_arg6)
      ∧ r.2.mem ((c.tc : Thread Cert.MgbKernelIdeal.nD Cert.MgbKernelIdeal.τ).loc Cert.MgbKernelIdeal.main_arg7) = m ((c.tc : Thread Cert.MgbKernelIdeal.nD Cert.MgbKernelIdeal.τ).loc Cert.MgbKernelIdeal.main_arg7)
      ∧ r.2.mem ((c.tc : Thread Cert.MgbKernelIdeal.nD Cert.MgbKernelIdeal.τ).loc Cert.MgbKernelIdeal.main_arg8) = m ((c.tc : Thread Cert.MgbKernelIdeal.nD Cert.MgbKernelIdeal.τ).loc Cert.MgbKernelIdeal.main_arg8))
      ∧ r.2.sem = fun _ => 0)

def quiescent_MgbReferenceIdeal [hMgbReferenceIdeal : Cert.MgbReferenceIdeal.Facts] : Prop :=
  ∀ (m : (ℓ : Loc Cert.MgbReferenceIdeal.nD Cert.MgbReferenceIdeal.τ Cert.MgbReferenceIdeal.sig) → Buf (Elt Ideal) ℓ) (g : Dev Cert.MgbReferenceIdeal.nD → PrngReg), Pre_MgbReferenceIdeal m →
    θ_run (Cert.MgbReferenceIdeal.defs (F := Ideal)) (onTc (τ := Cert.MgbReferenceIdeal.τ) (Cert.MgbReferenceIdeal.main (F := Ideal))) ⟨m, fun _ => 0, g⟩ (fun r => (∀ c : Dev Cert.MgbReferenceIdeal.nD,
      r.2.mem ((c.tc : Thread Cert.MgbReferenceIdeal.nD Cert.MgbReferenceIdeal.τ).loc Cert.MgbReferenceIdeal.main_arg0) = m ((c.tc : Thread Cert.MgbReferenceIdeal.nD Cert.MgbReferenceIdeal.τ).loc Cert.MgbReferenceIdeal.main_arg0)
      ∧ r.2.mem ((c.tc : Thread Cert.MgbReferenceIdeal.nD Cert.MgbReferenceIdeal.τ).loc Cert.MgbReferenceIdeal.main_arg1) = m ((c.tc : Thread Cert.MgbReferenceIdeal.nD Cert.MgbReferenceIdeal.τ).loc Cert.MgbReferenceIdeal.main_arg1)
      ∧ r.2.mem ((c.tc : Thread Cert.MgbReferenceIdeal.nD Cert.MgbReferenceIdeal.τ).loc Cert.MgbReferenceIdeal.main_arg2) = m ((c.tc : Thread Cert.MgbReferenceIdeal.nD Cert.MgbReferenceIdeal.τ).loc Cert.MgbReferenceIdeal.main_arg2)
      ∧ r.2.mem ((c.tc : Thread Cert.MgbReferenceIdeal.nD Cert.MgbReferenceIdeal.τ).loc Cert.MgbReferenceIdeal.main_arg3) = m ((c.tc : Thread Cert.MgbReferenceIdeal.nD Cert.MgbReferenceIdeal.τ).loc Cert.MgbReferenceIdeal.main_arg3)
      ∧ r.2.mem ((c.tc : Thread Cert.MgbReferenceIdeal.nD Cert.MgbReferenceIdeal.τ).loc Cert.MgbReferenceIdeal.main_arg4) = m ((c.tc : Thread Cert.MgbReferenceIdeal.nD Cert.MgbReferenceIdeal.τ).loc Cert.MgbReferenceIdeal.main_arg4)
      ∧ r.2.mem ((c.tc : Thread Cert.MgbReferenceIdeal.nD Cert.MgbReferenceIdeal.τ).loc Cert.MgbReferenceIdeal.main_arg5) = m ((c.tc : Thread Cert.MgbReferenceIdeal.nD Cert.MgbReferenceIdeal.τ).loc Cert.MgbReferenceIdeal.main_arg5)
      ∧ r.2.mem ((c.tc : Thread Cert.MgbReferenceIdeal.nD Cert.MgbReferenceIdeal.τ).loc Cert.MgbReferenceIdeal.main_arg6) = m ((c.tc : Thread Cert.MgbReferenceIdeal.nD Cert.MgbReferenceIdeal.τ).loc Cert.MgbReferenceIdeal.main_arg6)
      ∧ r.2.mem ((c.tc : Thread Cert.MgbReferenceIdeal.nD Cert.MgbReferenceIdeal.τ).loc Cert.MgbReferenceIdeal.main_arg7) = m ((c.tc : Thread Cert.MgbReferenceIdeal.nD Cert.MgbReferenceIdeal.τ).loc Cert.MgbReferenceIdeal.main_arg7)
      ∧ r.2.mem ((c.tc : Thread Cert.MgbReferenceIdeal.nD Cert.MgbReferenceIdeal.τ).loc Cert.MgbReferenceIdeal.main_arg8) = m ((c.tc : Thread Cert.MgbReferenceIdeal.nD Cert.MgbReferenceIdeal.τ).loc Cert.MgbReferenceIdeal.main_arg8))
      ∧ r.2.sem = fun _ => 0)

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v28_0)) (v1 : (c : Dev Cert.ConvKernelIdeal.nD) → Buf (Elt Ideal) ((c.tc : Thread Cert.ConvKernelIdeal.nD Cert.ConvKernelIdeal.τ).loc Cert.ConvKernelIdeal.main_v28_1)) (v2 : (c : Dev Cert.ConvKernelIdeal.nD) → Buf (Elt Ideal) ((c.tc : Thread Cert.ConvKernelIdeal.nD Cert.ConvKernelIdeal.τ).loc Cert.ConvKernelIdeal.main_v28_2)) (v3 : (c : Dev Cert.ConvKernelIdeal.nD) → Buf (Elt Ideal) ((c.tc : Thread Cert.ConvKernelIdeal.nD Cert.ConvKernelIdeal.τ).loc Cert.ConvKernelIdeal.main_v28_3)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v28_0) = v0 c
          ∧ r.2.mem ((c.tc : Thread Cert.ConvKernelIdeal.nD Cert.ConvKernelIdeal.τ).loc Cert.ConvKernelIdeal.main_v28_1) = v1 c
          ∧ r.2.mem ((c.tc : Thread Cert.ConvKernelIdeal.nD Cert.ConvKernelIdeal.τ).loc Cert.ConvKernelIdeal.main_v28_2) = v2 c
          ∧ r.2.mem ((c.tc : Thread Cert.ConvKernelIdeal.nD Cert.ConvKernelIdeal.τ).loc Cert.ConvKernelIdeal.main_v28_3) = v3 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v70) = v0 c
          ∧ r.2.mem ((c.tc : Thread Cert.ConvReferenceIdeal.nD Cert.ConvReferenceIdeal.τ).loc Cert.ConvReferenceIdeal.main_v71) = v1 c
          ∧ r.2.mem ((c.tc : Thread Cert.ConvReferenceIdeal.nD Cert.ConvReferenceIdeal.τ).loc Cert.ConvReferenceIdeal.main_v72) = v2 c
          ∧ r.2.mem ((c.tc : Thread Cert.ConvReferenceIdeal.nD Cert.ConvReferenceIdeal.τ).loc Cert.ConvReferenceIdeal.main_v73) = v3 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_AttnKernel_AttnKernelIdeal : Prop :=
  IdealRules.named_const.Statement Cert.AttnKernelIdeal.κ "ln2" .f32 0x3F317218#32 ((Real.log 2 : ℝ) : EReal)
  ∧ IdealRules.named_const.Statement Cert.AttnKernelIdeal.κ "mask" .f32 0xF149F2CA#32 ⊥

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)
      ∧ m' ((c.tc : Thread Cert.AttnReferenceIdeal.nD Cert.AttnReferenceIdeal.τ).loc Cert.AttnReferenceIdeal.main_arg5) = m ((c.tc : Thread Cert.AttnKernelIdeal.nD Cert.AttnKernelIdeal.τ).loc Cert.AttnKernelIdeal.main_arg5)) →
    ∃ (v0 : (c : Dev Cert.AttnKernelIdeal.nD) → Buf (Elt Ideal) ((c.tc : Thread Cert.AttnKernelIdeal.nD Cert.AttnKernelIdeal.τ).loc Cert.AttnKernelIdeal.main_v63)) (v1 : (c : Dev Cert.AttnKernelIdeal.nD) → Buf (Elt Ideal) ((c.tc : Thread Cert.AttnKernelIdeal.nD Cert.AttnKernelIdeal.τ).loc Cert.AttnKernelIdeal.main_v64)) (v2 : (c : Dev Cert.AttnKernelIdeal.nD) → Buf (Elt Ideal) ((c.tc : Thread Cert.AttnKernelIdeal.nD Cert.AttnKernelIdeal.τ).loc Cert.AttnKernelIdeal.main_v65)) (v3 : (c : Dev Cert.AttnKernelIdeal.nD) → Buf (Elt Ideal) ((c.tc : Thread Cert.AttnKernelIdeal.nD Cert.AttnKernelIdeal.τ).loc Cert.AttnKernelIdeal.main_v66)) (v4 : (c : Dev Cert.AttnKernelIdeal.nD) → Buf (Elt Ideal) ((c.tc : Thread Cert.AttnKernelIdeal.nD Cert.AttnKernelIdeal.τ).loc Cert.AttnKernelIdeal.main_v67)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v63) = v0 c
          ∧ r.2.mem ((c.tc : Thread Cert.AttnKernelIdeal.nD Cert.AttnKernelIdeal.τ).loc Cert.AttnKernelIdeal.main_v64) = v1 c
          ∧ r.2.mem ((c.tc : Thread Cert.AttnKernelIdeal.nD Cert.AttnKernelIdeal.τ).loc Cert.AttnKernelIdeal.main_v65) = v2 c
          ∧ r.2.mem ((c.tc : Thread Cert.AttnKernelIdeal.nD Cert.AttnKernelIdeal.τ).loc Cert.AttnKernelIdeal.main_v66) = v3 c
          ∧ r.2.mem ((c.tc : Thread Cert.AttnKernelIdeal.nD Cert.AttnKernelIdeal.τ).loc Cert.AttnKernelIdeal.main_v67) = v4 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
          ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v68) = v0 c
          ∧ r.2.mem ((c.tc : Thread Cert.AttnReferenceIdeal.nD Cert.AttnReferenceIdeal.τ).loc Cert.AttnReferenceIdeal.main_v63) = v1 c
          ∧ r.2.mem ((c.tc : Thread Cert.AttnReferenceIdeal.nD Cert.AttnReferenceIdeal.τ).loc Cert.AttnReferenceIdeal.main_v66) = v2 c
          ∧ r.2.mem ((c.tc : Thread Cert.AttnReferenceIdeal.nD Cert.AttnReferenceIdeal.τ).loc Cert.AttnReferenceIdeal.main_v64) = v3 c
          ∧ r.2.mem ((c.tc : Thread Cert.AttnReferenceIdeal.nD Cert.AttnReferenceIdeal.τ).loc Cert.AttnReferenceIdeal.main_v46) = v4 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5))

def preserves_FdbKernel_FdbKernelIdeal : Prop :=
  True

def algebraic_FdbKernelIdeal_FdbReferenceIdeal_pre_fdb_finite [hFdbKernelIdeal : Cert.FdbKernelIdeal.Facts] [hFdbReferenceIdeal : Cert.FdbReferenceIdeal.Facts] [hPre_fdb_finite : Cert.Pre_fdb_finite.Facts] : Prop :=
  ∀ (m : (ℓ : Loc Cert.FdbKernelIdeal.nD Cert.FdbKernelIdeal.τ Cert.FdbKernelIdeal.sig) → Buf (Elt Ideal) ℓ) (g : Dev Cert.FdbKernelIdeal.nD → PrngReg)
    (m' : (ℓ : Loc Cert.FdbReferenceIdeal.nD Cert.FdbReferenceIdeal.τ Cert.FdbReferenceIdeal.sig) → Buf (Elt Ideal) ℓ) (g' : Dev Cert.FdbReferenceIdeal.nD → PrngReg), Pre_FdbKernelIdeal_fdb_finite m →
    (∀ c : Dev Cert.FdbKernelIdeal.nD,
      m' ((c.tc : Thread Cert.FdbReferenceIdeal.nD Cert.FdbReferenceIdeal.τ).loc Cert.FdbReferenceIdeal.main_arg0) = m ((c.tc : Thread Cert.FdbKernelIdeal.nD Cert.FdbKernelIdeal.τ).loc Cert.FdbKernelIdeal.main_arg0)
      ∧ m' ((c.tc : Thread Cert.FdbReferenceIdeal.nD Cert.FdbReferenceIdeal.τ).loc Cert.FdbReferenceIdeal.main_arg1) = m ((c.tc : Thread Cert.FdbKernelIdeal.nD Cert.FdbKernelIdeal.τ).loc Cert.FdbKernelIdeal.main_arg1)
      ∧ m' ((c.tc : Thread Cert.FdbReferenceIdeal.nD Cert.FdbReferenceIdeal.τ).loc Cert.FdbReferenceIdeal.main_arg2) = m ((c.tc : Thread Cert.FdbKernelIdeal.nD Cert.FdbKernelIdeal.τ).loc Cert.FdbKernelIdeal.main_arg2)
      ∧ m' ((c.tc : Thread Cert.FdbReferenceIdeal.nD Cert.FdbReferenceIdeal.τ).loc Cert.FdbReferenceIdeal.main_arg3) = m ((c.tc : Thread Cert.FdbKernelIdeal.nD Cert.FdbKernelIdeal.τ).loc Cert.FdbKernelIdeal.main_arg3)) →
    ∃ (v0 : (c : Dev Cert.FdbKernelIdeal.nD) → Buf (Elt Ideal) ((c.tc : Thread Cert.FdbKernelIdeal.nD Cert.FdbKernelIdeal.τ).loc Cert.FdbKernelIdeal.main_v2_0)) (v1 : (c : Dev Cert.FdbKernelIdeal.nD) → Buf (Elt Ideal) ((c.tc : Thread Cert.FdbKernelIdeal.nD Cert.FdbKernelIdeal.τ).loc Cert.FdbKernelIdeal.main_v2_1)),
      θ_run (Cert.FdbKernelIdeal.defs (F := Ideal)) (onTc (τ := Cert.FdbKernelIdeal.τ) (Cert.FdbKernelIdeal.main (F := Ideal))) ⟨m, fun _ => 0, g⟩ (fun r => ∀ c : Dev Cert.FdbKernelIdeal.nD,
          r.2.mem ((c.tc : Thread Cert.FdbKernelIdeal.nD Cert.FdbKernelIdeal.τ).loc Cert.FdbKernelIdeal.main_v2_0) = v0 c
          ∧ r.2.mem ((c.tc : Thread Cert.FdbKernelIdeal.nD Cert.FdbKernelIdeal.τ).loc Cert.FdbKernelIdeal.main_v2_1) = v1 c
          ∧ r.2.mem ((c.tc : Thread Cert.FdbKernelIdeal.nD Cert.FdbKernelIdeal.τ).loc Cert.FdbKernelIdeal.main_arg0) = m ((c.tc : Thread Cert.FdbKernelIdeal.nD Cert.FdbKernelIdeal.τ).loc Cert.FdbKernelIdeal.main_arg0)
          ∧ r.2.mem ((c.tc : Thread Cert.FdbKernelIdeal.nD Cert.FdbKernelIdeal.τ).loc Cert.FdbKernelIdeal.main_arg1) = m ((c.tc : Thread Cert.FdbKernelIdeal.nD Cert.FdbKernelIdeal.τ).loc Cert.FdbKernelIdeal.main_arg1)
          ∧ r.2.mem ((c.tc : Thread Cert.FdbKernelIdeal.nD Cert.FdbKernelIdeal.τ).loc Cert.FdbKernelIdeal.main_arg2) = m ((c.tc : Thread Cert.FdbKernelIdeal.nD Cert.FdbKernelIdeal.τ).loc Cert.FdbKernelIdeal.main_arg2)
          ∧ r.2.mem ((c.tc : Thread Cert.FdbKernelIdeal.nD Cert.FdbKernelIdeal.τ).loc Cert.FdbKernelIdeal.main_arg3) = m ((c.tc : Thread Cert.FdbKernelIdeal.nD Cert.FdbKernelIdeal.τ).loc Cert.FdbKernelIdeal.main_arg3))
      ∧ θ_run (Cert.FdbReferenceIdeal.defs (F := Ideal)) (onTc (τ := Cert.FdbReferenceIdeal.τ) (Cert.FdbReferenceIdeal.main (F := Ideal))) ⟨m', fun _ => 0, g'⟩ (fun r => ∀ c : Dev Cert.FdbReferenceIdeal.nD,
          r.2.mem ((c.tc : Thread Cert.FdbReferenceIdeal.nD Cert.FdbReferenceIdeal.τ).loc Cert.FdbReferenceIdeal.main_v10) = v0 c
          ∧ r.2.mem ((c.tc : Thread Cert.FdbReferenceIdeal.nD Cert.FdbReferenceIdeal.τ).loc Cert.FdbReferenceIdeal.main_v11) = v1 c
          ∧ r.2.mem ((c.tc : Thread Cert.FdbReferenceIdeal.nD Cert.FdbReferenceIdeal.τ).loc Cert.FdbReferenceIdeal.main_arg0) = m' ((c.tc : Thread Cert.FdbReferenceIdeal.nD Cert.FdbReferenceIdeal.τ).loc Cert.FdbReferenceIdeal.main_arg0)
          ∧ r.2.mem ((c.tc : Thread Cert.FdbReferenceIdeal.nD Cert.FdbReferenceIdeal.τ).loc Cert.FdbReferenceIdeal.main_arg1) = m' ((c.tc : Thread Cert.FdbReferenceIdeal.nD Cert.FdbReferenceIdeal.τ).loc Cert.FdbReferenceIdeal.main_arg1)
          ∧ r.2.mem ((c.tc : Thread Cert.FdbReferenceIdeal.nD Cert.FdbReferenceIdeal.τ).loc Cert.FdbReferenceIdeal.main_arg2) = m' ((c.tc : Thread Cert.FdbReferenceIdeal.nD Cert.FdbReferenceIdeal.τ).loc Cert.FdbReferenceIdeal.main_arg2)
          ∧ r.2.mem ((c.tc : Thread Cert.FdbReferenceIdeal.nD Cert.FdbReferenceIdeal.τ).loc Cert.FdbReferenceIdeal.main_arg3) = m' ((c.tc : Thread Cert.FdbReferenceIdeal.nD Cert.FdbReferenceIdeal.τ).loc Cert.FdbReferenceIdeal.main_arg3))

def preserves_FubKernel_FubKernelIdeal : Prop :=
  True

def algebraic_FubKernelIdeal_FubReferenceIdeal [hFubKernelIdeal : Cert.FubKernelIdeal.Facts] [hFubReferenceIdeal : Cert.FubReferenceIdeal.Facts] : Prop :=
  ∀ (m : (ℓ : Loc Cert.FubKernelIdeal.nD Cert.FubKernelIdeal.τ Cert.FubKernelIdeal.sig) → Buf (Elt Ideal) ℓ) (g : Dev Cert.FubKernelIdeal.nD → PrngReg)
    (m' : (ℓ : Loc Cert.FubReferenceIdeal.nD Cert.FubReferenceIdeal.τ Cert.FubReferenceIdeal.sig) → Buf (Elt Ideal) ℓ) (g' : Dev Cert.FubReferenceIdeal.nD → PrngReg), Pre_FubKernelIdeal m →
    (∀ c : Dev Cert.FubKernelIdeal.nD,
      m' ((c.tc : Thread Cert.FubReferenceIdeal.nD Cert.FubReferenceIdeal.τ).loc Cert.FubReferenceIdeal.main_arg0) = m ((c.tc : Thread Cert.FubKernelIdeal.nD Cert.FubKernelIdeal.τ).loc Cert.FubKernelIdeal.main_arg0)
      ∧ m' ((c.tc : Thread Cert.FubReferenceIdeal.nD Cert.FubReferenceIdeal.τ).loc Cert.FubReferenceIdeal.main_arg1) = m ((c.tc : Thread Cert.FubKernelIdeal.nD Cert.FubKernelIdeal.τ).loc Cert.FubKernelIdeal.main_arg1)
      ∧ m' ((c.tc : Thread Cert.FubReferenceIdeal.nD Cert.FubReferenceIdeal.τ).loc Cert.FubReferenceIdeal.main_arg2) = m ((c.tc : Thread Cert.FubKernelIdeal.nD Cert.FubKernelIdeal.τ).loc Cert.FubKernelIdeal.main_arg2)
      ∧ m' ((c.tc : Thread Cert.FubReferenceIdeal.nD Cert.FubReferenceIdeal.τ).loc Cert.FubReferenceIdeal.main_arg3) = m ((c.tc : Thread Cert.FubKernelIdeal.nD Cert.FubKernelIdeal.τ).loc Cert.FubKernelIdeal.main_arg3)) →
    ∃ (v0 : (c : Dev Cert.FubKernelIdeal.nD) → Buf (Elt Ideal) ((c.tc : Thread Cert.FubKernelIdeal.nD Cert.FubKernelIdeal.τ).loc Cert.FubKernelIdeal.main_v6)),
      θ_run (Cert.FubKernelIdeal.defs (F := Ideal)) (onTc (τ := Cert.FubKernelIdeal.τ) (Cert.FubKernelIdeal.main (F := Ideal))) ⟨m, fun _ => 0, g⟩ (fun r => ∀ c : Dev Cert.FubKernelIdeal.nD,
          r.2.mem ((c.tc : Thread Cert.FubKernelIdeal.nD Cert.FubKernelIdeal.τ).loc Cert.FubKernelIdeal.main_v6) = v0 c
          ∧ r.2.mem ((c.tc : Thread Cert.FubKernelIdeal.nD Cert.FubKernelIdeal.τ).loc Cert.FubKernelIdeal.main_arg0) = m ((c.tc : Thread Cert.FubKernelIdeal.nD Cert.FubKernelIdeal.τ).loc Cert.FubKernelIdeal.main_arg0)
          ∧ r.2.mem ((c.tc : Thread Cert.FubKernelIdeal.nD Cert.FubKernelIdeal.τ).loc Cert.FubKernelIdeal.main_arg1) = m ((c.tc : Thread Cert.FubKernelIdeal.nD Cert.FubKernelIdeal.τ).loc Cert.FubKernelIdeal.main_arg1)
          ∧ r.2.mem ((c.tc : Thread Cert.FubKernelIdeal.nD Cert.FubKernelIdeal.τ).loc Cert.FubKernelIdeal.main_arg2) = m ((c.tc : Thread Cert.FubKernelIdeal.nD Cert.FubKernelIdeal.τ).loc Cert.FubKernelIdeal.main_arg2)
          ∧ r.2.mem ((c.tc : Thread Cert.FubKernelIdeal.nD Cert.FubKernelIdeal.τ).loc Cert.FubKernelIdeal.main_arg3) = m ((c.tc : Thread Cert.FubKernelIdeal.nD Cert.FubKernelIdeal.τ).loc Cert.FubKernelIdeal.main_arg3))
      ∧ θ_run (Cert.FubReferenceIdeal.defs (F := Ideal)) (onTc (τ := Cert.FubReferenceIdeal.τ) (Cert.FubReferenceIdeal.main (F := Ideal))) ⟨m', fun _ => 0, g'⟩ (fun r => ∀ c : Dev Cert.FubReferenceIdeal.nD,
          r.2.mem ((c.tc : Thread Cert.FubReferenceIdeal.nD Cert.FubReferenceIdeal.τ).loc Cert.FubReferenceIdeal.main_v12) = v0 c
          ∧ r.2.mem ((c.tc : Thread Cert.FubReferenceIdeal.nD Cert.FubReferenceIdeal.τ).loc Cert.FubReferenceIdeal.main_arg0) = m' ((c.tc : Thread Cert.FubReferenceIdeal.nD Cert.FubReferenceIdeal.τ).loc Cert.FubReferenceIdeal.main_arg0)
          ∧ r.2.mem ((c.tc : Thread Cert.FubReferenceIdeal.nD Cert.FubReferenceIdeal.τ).loc Cert.FubReferenceIdeal.main_arg1) = m' ((c.tc : Thread Cert.FubReferenceIdeal.nD Cert.FubReferenceIdeal.τ).loc Cert.FubReferenceIdeal.main_arg1)
          ∧ r.2.mem ((c.tc : Thread Cert.FubReferenceIdeal.nD Cert.FubReferenceIdeal.τ).loc Cert.FubReferenceIdeal.main_arg2) = m' ((c.tc : Thread Cert.FubReferenceIdeal.nD Cert.FubReferenceIdeal.τ).loc Cert.FubReferenceIdeal.main_arg2)
          ∧ r.2.mem ((c.tc : Thread Cert.FubReferenceIdeal.nD Cert.FubReferenceIdeal.τ).loc Cert.FubReferenceIdeal.main_arg3) = m' ((c.tc : Thread Cert.FubReferenceIdeal.nD Cert.FubReferenceIdeal.τ).loc Cert.FubReferenceIdeal.main_arg3))

def preserves_DwdKernel_DwdKernelIdeal : Prop :=
  True

def algebraic_DwdKernelIdeal_DwdReferenceIdeal [hDwdKernelIdeal : Cert.DwdKernelIdeal.Facts] [hDwdReferenceIdeal : Cert.DwdReferenceIdeal.Facts] : Prop :=
  ∀ (m : (ℓ : Loc Cert.DwdKernelIdeal.nD Cert.DwdKernelIdeal.τ Cert.DwdKernelIdeal.sig) → Buf (Elt Ideal) ℓ) (g : Dev Cert.DwdKernelIdeal.nD → PrngReg)
    (m' : (ℓ : Loc Cert.DwdReferenceIdeal.nD Cert.DwdReferenceIdeal.τ Cert.DwdReferenceIdeal.sig) → Buf (Elt Ideal) ℓ) (g' : Dev Cert.DwdReferenceIdeal.nD → PrngReg), Pre_DwdKernelIdeal m →
    (∀ c : Dev Cert.DwdKernelIdeal.nD,
      m' ((c.tc : Thread Cert.DwdReferenceIdeal.nD Cert.DwdReferenceIdeal.τ).loc Cert.DwdReferenceIdeal.main_arg0) = m ((c.tc : Thread Cert.DwdKernelIdeal.nD Cert.DwdKernelIdeal.τ).loc Cert.DwdKernelIdeal.main_arg0)
      ∧ m' ((c.tc : Thread Cert.DwdReferenceIdeal.nD Cert.DwdReferenceIdeal.τ).loc Cert.DwdReferenceIdeal.main_arg1) = m ((c.tc : Thread Cert.DwdKernelIdeal.nD Cert.DwdKernelIdeal.τ).loc Cert.DwdKernelIdeal.main_arg1)) →
    ∃ (v0 : (c : Dev Cert.DwdKernelIdeal.nD) → Buf (Elt Ideal) ((c.tc : Thread Cert.DwdKernelIdeal.nD Cert.DwdKernelIdeal.τ).loc Cert.DwdKernelIdeal.main_v0)),
      θ_run (Cert.DwdKernelIdeal.defs (F := Ideal)) (onTc (τ := Cert.DwdKernelIdeal.τ) (Cert.DwdKernelIdeal.main (F := Ideal))) ⟨m, fun _ => 0, g⟩ (fun r => ∀ c : Dev Cert.DwdKernelIdeal.nD,
          r.2.mem ((c.tc : Thread Cert.DwdKernelIdeal.nD Cert.DwdKernelIdeal.τ).loc Cert.DwdKernelIdeal.main_v0) = v0 c
          ∧ r.2.mem ((c.tc : Thread Cert.DwdKernelIdeal.nD Cert.DwdKernelIdeal.τ).loc Cert.DwdKernelIdeal.main_arg0) = m ((c.tc : Thread Cert.DwdKernelIdeal.nD Cert.DwdKernelIdeal.τ).loc Cert.DwdKernelIdeal.main_arg0)
          ∧ r.2.mem ((c.tc : Thread Cert.DwdKernelIdeal.nD Cert.DwdKernelIdeal.τ).loc Cert.DwdKernelIdeal.main_arg1) = m ((c.tc : Thread Cert.DwdKernelIdeal.nD Cert.DwdKernelIdeal.τ).loc Cert.DwdKernelIdeal.main_arg1))
      ∧ θ_run (Cert.DwdReferenceIdeal.defs (F := Ideal)) (onTc (τ := Cert.DwdReferenceIdeal.τ) (Cert.DwdReferenceIdeal.main (F := Ideal))) ⟨m', fun _ => 0, g'⟩ (fun r => ∀ c : Dev Cert.DwdReferenceIdeal.nD,
          r.2.mem ((c.tc : Thread Cert.DwdReferenceIdeal.nD Cert.DwdReferenceIdeal.τ).loc Cert.DwdReferenceIdeal.main_v7) = v0 c
          ∧ r.2.mem ((c.tc : Thread Cert.DwdReferenceIdeal.nD Cert.DwdReferenceIdeal.τ).loc Cert.DwdReferenceIdeal.main_arg0) = m' ((c.tc : Thread Cert.DwdReferenceIdeal.nD Cert.DwdReferenceIdeal.τ).loc Cert.DwdReferenceIdeal.main_arg0)
          ∧ r.2.mem ((c.tc : Thread Cert.DwdReferenceIdeal.nD Cert.DwdReferenceIdeal.τ).loc Cert.DwdReferenceIdeal.main_arg1) = m' ((c.tc : Thread Cert.DwdReferenceIdeal.nD Cert.DwdReferenceIdeal.τ).loc Cert.DwdReferenceIdeal.main_arg1))

def preserves_DwbKernel_DwbKernelIdeal : Prop :=
  True

def algebraic_DwbKernelIdeal_DwbReferenceIdeal [hDwbKernelIdeal : Cert.DwbKernelIdeal.Facts] [hDwbReferenceIdeal : Cert.DwbReferenceIdeal.Facts] : Prop :=
  ∀ (m : (ℓ : Loc Cert.DwbKernelIdeal.nD Cert.DwbKernelIdeal.τ Cert.DwbKernelIdeal.sig) → Buf (Elt Ideal) ℓ) (g : Dev Cert.DwbKernelIdeal.nD → PrngReg)
    (m' : (ℓ : Loc Cert.DwbReferenceIdeal.nD Cert.DwbReferenceIdeal.τ Cert.DwbReferenceIdeal.sig) → Buf (Elt Ideal) ℓ) (g' : Dev Cert.DwbReferenceIdeal.nD → PrngReg), Pre_DwbKernelIdeal m →
    (∀ c : Dev Cert.DwbKernelIdeal.nD,
      m' ((c.tc : Thread Cert.DwbReferenceIdeal.nD Cert.DwbReferenceIdeal.τ).loc Cert.DwbReferenceIdeal.main_arg0) = m ((c.tc : Thread Cert.DwbKernelIdeal.nD Cert.DwbKernelIdeal.τ).loc Cert.DwbKernelIdeal.main_arg0)
      ∧ m' ((c.tc : Thread Cert.DwbReferenceIdeal.nD Cert.DwbReferenceIdeal.τ).loc Cert.DwbReferenceIdeal.main_arg1) = m ((c.tc : Thread Cert.DwbKernelIdeal.nD Cert.DwbKernelIdeal.τ).loc Cert.DwbKernelIdeal.main_arg1)
      ∧ m' ((c.tc : Thread Cert.DwbReferenceIdeal.nD Cert.DwbReferenceIdeal.τ).loc Cert.DwbReferenceIdeal.main_arg2) = m ((c.tc : Thread Cert.DwbKernelIdeal.nD Cert.DwbKernelIdeal.τ).loc Cert.DwbKernelIdeal.main_arg2)) →
    ∃ (v0 : (c : Dev Cert.DwbKernelIdeal.nD) → Buf (Elt Ideal) ((c.tc : Thread Cert.DwbKernelIdeal.nD Cert.DwbKernelIdeal.τ).loc Cert.DwbKernelIdeal.main_v0)),
      θ_run (Cert.DwbKernelIdeal.defs (F := Ideal)) (onTc (τ := Cert.DwbKernelIdeal.τ) (Cert.DwbKernelIdeal.main (F := Ideal))) ⟨m, fun _ => 0, g⟩ (fun r => ∀ c : Dev Cert.DwbKernelIdeal.nD,
          r.2.mem ((c.tc : Thread Cert.DwbKernelIdeal.nD Cert.DwbKernelIdeal.τ).loc Cert.DwbKernelIdeal.main_v0) = v0 c
          ∧ r.2.mem ((c.tc : Thread Cert.DwbKernelIdeal.nD Cert.DwbKernelIdeal.τ).loc Cert.DwbKernelIdeal.main_arg0) = m ((c.tc : Thread Cert.DwbKernelIdeal.nD Cert.DwbKernelIdeal.τ).loc Cert.DwbKernelIdeal.main_arg0)
          ∧ r.2.mem ((c.tc : Thread Cert.DwbKernelIdeal.nD Cert.DwbKernelIdeal.τ).loc Cert.DwbKernelIdeal.main_arg1) = m ((c.tc : Thread Cert.DwbKernelIdeal.nD Cert.DwbKernelIdeal.τ).loc Cert.DwbKernelIdeal.main_arg1)
          ∧ r.2.mem ((c.tc : Thread Cert.DwbKernelIdeal.nD Cert.DwbKernelIdeal.τ).loc Cert.DwbKernelIdeal.main_arg2) = m ((c.tc : Thread Cert.DwbKernelIdeal.nD Cert.DwbKernelIdeal.τ).loc Cert.DwbKernelIdeal.main_arg2))
      ∧ θ_run (Cert.DwbReferenceIdeal.defs (F := Ideal)) (onTc (τ := Cert.DwbReferenceIdeal.τ) (Cert.DwbReferenceIdeal.main (F := Ideal))) ⟨m', fun _ => 0, g'⟩ (fun r => ∀ c : Dev Cert.DwbReferenceIdeal.nD,
          r.2.mem ((c.tc : Thread Cert.DwbReferenceIdeal.nD Cert.DwbReferenceIdeal.τ).loc Cert.DwbReferenceIdeal.main_v10) = v0 c
          ∧ r.2.mem ((c.tc : Thread Cert.DwbReferenceIdeal.nD Cert.DwbReferenceIdeal.τ).loc Cert.DwbReferenceIdeal.main_arg0) = m' ((c.tc : Thread Cert.DwbReferenceIdeal.nD Cert.DwbReferenceIdeal.τ).loc Cert.DwbReferenceIdeal.main_arg0)
          ∧ r.2.mem ((c.tc : Thread Cert.DwbReferenceIdeal.nD Cert.DwbReferenceIdeal.τ).loc Cert.DwbReferenceIdeal.main_arg1) = m' ((c.tc : Thread Cert.DwbReferenceIdeal.nD Cert.DwbReferenceIdeal.τ).loc Cert.DwbReferenceIdeal.main_arg1)
          ∧ r.2.mem ((c.tc : Thread Cert.DwbReferenceIdeal.nD Cert.DwbReferenceIdeal.τ).loc Cert.DwbReferenceIdeal.main_arg2) = m' ((c.tc : Thread Cert.DwbReferenceIdeal.nD Cert.DwbReferenceIdeal.τ).loc Cert.DwbReferenceIdeal.main_arg2))

def preserves_DwaKernel_DwaKernelIdeal : Prop :=
  True

def algebraic_DwaKernelIdeal_DwaReferenceIdeal [hDwaKernelIdeal : Cert.DwaKernelIdeal.Facts] [hDwaReferenceIdeal : Cert.DwaReferenceIdeal.Facts] : Prop :=
  ∀ (m : (ℓ : Loc Cert.DwaKernelIdeal.nD Cert.DwaKernelIdeal.τ Cert.DwaKernelIdeal.sig) → Buf (Elt Ideal) ℓ) (g : Dev Cert.DwaKernelIdeal.nD → PrngReg)
    (m' : (ℓ : Loc Cert.DwaReferenceIdeal.nD Cert.DwaReferenceIdeal.τ Cert.DwaReferenceIdeal.sig) → Buf (Elt Ideal) ℓ) (g' : Dev Cert.DwaReferenceIdeal.nD → PrngReg), Pre_DwaKernelIdeal m →
    (∀ c : Dev Cert.DwaKernelIdeal.nD,
      m' ((c.tc : Thread Cert.DwaReferenceIdeal.nD Cert.DwaReferenceIdeal.τ).loc Cert.DwaReferenceIdeal.main_arg0) = m ((c.tc : Thread Cert.DwaKernelIdeal.nD Cert.DwaKernelIdeal.τ).loc Cert.DwaKernelIdeal.main_arg0)
      ∧ m' ((c.tc : Thread Cert.DwaReferenceIdeal.nD Cert.DwaReferenceIdeal.τ).loc Cert.DwaReferenceIdeal.main_arg1) = m ((c.tc : Thread Cert.DwaKernelIdeal.nD Cert.DwaKernelIdeal.τ).loc Cert.DwaKernelIdeal.main_arg1)) →
    ∃ (v0 : (c : Dev Cert.DwaKernelIdeal.nD) → Buf (Elt Ideal) ((c.tc : Thread Cert.DwaKernelIdeal.nD Cert.DwaKernelIdeal.τ).loc Cert.DwaKernelIdeal.main_v3)),
      θ_run (Cert.DwaKernelIdeal.defs (F := Ideal)) (onTc (τ := Cert.DwaKernelIdeal.τ) (Cert.DwaKernelIdeal.main (F := Ideal))) ⟨m, fun _ => 0, g⟩ (fun r => ∀ c : Dev Cert.DwaKernelIdeal.nD,
          r.2.mem ((c.tc : Thread Cert.DwaKernelIdeal.nD Cert.DwaKernelIdeal.τ).loc Cert.DwaKernelIdeal.main_v3) = v0 c
          ∧ r.2.mem ((c.tc : Thread Cert.DwaKernelIdeal.nD Cert.DwaKernelIdeal.τ).loc Cert.DwaKernelIdeal.main_arg0) = m ((c.tc : Thread Cert.DwaKernelIdeal.nD Cert.DwaKernelIdeal.τ).loc Cert.DwaKernelIdeal.main_arg0)
          ∧ r.2.mem ((c.tc : Thread Cert.DwaKernelIdeal.nD Cert.DwaKernelIdeal.τ).loc Cert.DwaKernelIdeal.main_arg1) = m ((c.tc : Thread Cert.DwaKernelIdeal.nD Cert.DwaKernelIdeal.τ).loc Cert.DwaKernelIdeal.main_arg1))
      ∧ θ_run (Cert.DwaReferenceIdeal.defs (F := Ideal)) (onTc (τ := Cert.DwaReferenceIdeal.τ) (Cert.DwaReferenceIdeal.main (F := Ideal))) ⟨m', fun _ => 0, g'⟩ (fun r => ∀ c : Dev Cert.DwaReferenceIdeal.nD,
          r.2.mem ((c.tc : Thread Cert.DwaReferenceIdeal.nD Cert.DwaReferenceIdeal.τ).loc Cert.DwaReferenceIdeal.main_v6) = v0 c
          ∧ r.2.mem ((c.tc : Thread Cert.DwaReferenceIdeal.nD Cert.DwaReferenceIdeal.τ).loc Cert.DwaReferenceIdeal.main_arg0) = m' ((c.tc : Thread Cert.DwaReferenceIdeal.nD Cert.DwaReferenceIdeal.τ).loc Cert.DwaReferenceIdeal.main_arg0)
          ∧ r.2.mem ((c.tc : Thread Cert.DwaReferenceIdeal.nD Cert.DwaReferenceIdeal.τ).loc Cert.DwaReferenceIdeal.main_arg1) = m' ((c.tc : Thread Cert.DwaReferenceIdeal.nD Cert.DwaReferenceIdeal.τ).loc Cert.DwaReferenceIdeal.main_arg1))

def preserves_MxbKernel_MxbKernelIdeal : Prop :=
  True

def algebraic_MxbKernelIdeal_MxbReferenceIdeal [hMxbKernelIdeal : Cert.MxbKernelIdeal.Facts] [hMxbReferenceIdeal : Cert.MxbReferenceIdeal.Facts] : Prop :=
  ∀ (m : (ℓ : Loc Cert.MxbKernelIdeal.nD Cert.MxbKernelIdeal.τ Cert.MxbKernelIdeal.sig) → Buf (Elt Ideal) ℓ) (g : Dev Cert.MxbKernelIdeal.nD → PrngReg)
    (m' : (ℓ : Loc Cert.MxbReferenceIdeal.nD Cert.MxbReferenceIdeal.τ Cert.MxbReferenceIdeal.sig) → Buf (Elt Ideal) ℓ) (g' : Dev Cert.MxbReferenceIdeal.nD → PrngReg), Pre_MxbKernelIdeal m →
    (∀ c : Dev Cert.MxbKernelIdeal.nD,
      m' ((c.tc : Thread Cert.MxbReferenceIdeal.nD Cert.MxbReferenceIdeal.τ).loc Cert.MxbReferenceIdeal.main_arg0) = m ((c.tc : Thread Cert.MxbKernelIdeal.nD Cert.MxbKernelIdeal.τ).loc Cert.MxbKernelIdeal.main_arg0)
      ∧ m' ((c.tc : Thread Cert.MxbReferenceIdeal.nD Cert.MxbReferenceIdeal.τ).loc Cert.MxbReferenceIdeal.main_arg1) = m ((c.tc : Thread Cert.MxbKernelIdeal.nD Cert.MxbKernelIdeal.τ).loc Cert.MxbKernelIdeal.main_arg1)
      ∧ m' ((c.tc : Thread Cert.MxbReferenceIdeal.nD Cert.MxbReferenceIdeal.τ).loc Cert.MxbReferenceIdeal.main_arg2) = m ((c.tc : Thread Cert.MxbKernelIdeal.nD Cert.MxbKernelIdeal.τ).loc Cert.MxbKernelIdeal.main_arg2)) →
    ∃ (v0 : (c : Dev Cert.MxbKernelIdeal.nD) → Buf (Elt Ideal) ((c.tc : Thread Cert.MxbKernelIdeal.nD Cert.MxbKernelIdeal.τ).loc Cert.MxbKernelIdeal.main_v10)),
      θ_run (Cert.MxbKernelIdeal.defs (F := Ideal)) (onTc (τ := Cert.MxbKernelIdeal.τ) (Cert.MxbKernelIdeal.main (F := Ideal))) ⟨m, fun _ => 0, g⟩ (fun r => ∀ c : Dev Cert.MxbKernelIdeal.nD,
          r.2.mem ((c.tc : Thread Cert.MxbKernelIdeal.nD Cert.MxbKernelIdeal.τ).loc Cert.MxbKernelIdeal.main_v10) = v0 c
          ∧ r.2.mem ((c.tc : Thread Cert.MxbKernelIdeal.nD Cert.MxbKernelIdeal.τ).loc Cert.MxbKernelIdeal.main_arg0) = m ((c.tc : Thread Cert.MxbKernelIdeal.nD Cert.MxbKernelIdeal.τ).loc Cert.MxbKernelIdeal.main_arg0)
          ∧ r.2.mem ((c.tc : Thread Cert.MxbKernelIdeal.nD Cert.MxbKernelIdeal.τ).loc Cert.MxbKernelIdeal.main_arg1) = m ((c.tc : Thread Cert.MxbKernelIdeal.nD Cert.MxbKernelIdeal.τ).loc Cert.MxbKernelIdeal.main_arg1)
          ∧ r.2.mem ((c.tc : Thread Cert.MxbKernelIdeal.nD Cert.MxbKernelIdeal.τ).loc Cert.MxbKernelIdeal.main_arg2) = m ((c.tc : Thread Cert.MxbKernelIdeal.nD Cert.MxbKernelIdeal.τ).loc Cert.MxbKernelIdeal.main_arg2))
      ∧ θ_run (Cert.MxbReferenceIdeal.defs (F := Ideal)) (onTc (τ := Cert.MxbReferenceIdeal.τ) (Cert.MxbReferenceIdeal.main (F := Ideal))) ⟨m', fun _ => 0, g'⟩ (fun r => ∀ c : Dev Cert.MxbReferenceIdeal.nD,
          r.2.mem ((c.tc : Thread Cert.MxbReferenceIdeal.nD Cert.MxbReferenceIdeal.τ).loc Cert.MxbReferenceIdeal.main_v8) = v0 c
          ∧ r.2.mem ((c.tc : Thread Cert.MxbReferenceIdeal.nD Cert.MxbReferenceIdeal.τ).loc Cert.MxbReferenceIdeal.main_arg0) = m' ((c.tc : Thread Cert.MxbReferenceIdeal.nD Cert.MxbReferenceIdeal.τ).loc Cert.MxbReferenceIdeal.main_arg0)
          ∧ r.2.mem ((c.tc : Thread Cert.MxbReferenceIdeal.nD Cert.MxbReferenceIdeal.τ).loc Cert.MxbReferenceIdeal.main_arg1) = m' ((c.tc : Thread Cert.MxbReferenceIdeal.nD Cert.MxbReferenceIdeal.τ).loc Cert.MxbReferenceIdeal.main_arg1)
          ∧ r.2.mem ((c.tc : Thread Cert.MxbReferenceIdeal.nD Cert.MxbReferenceIdeal.τ).loc Cert.MxbReferenceIdeal.main_arg2) = m' ((c.tc : Thread Cert.MxbReferenceIdeal.nD Cert.MxbReferenceIdeal.τ).loc Cert.MxbReferenceIdeal.main_arg2))

def preserves_DwiKernel_DwiKernelIdeal : Prop :=
  True

def algebraic_DwiKernelIdeal_DwiReferenceIdeal [hDwiKernelIdeal : Cert.DwiKernelIdeal.Facts] [hDwiReferenceIdeal : Cert.DwiReferenceIdeal.Facts] : Prop :=
  ∀ (m : (ℓ : Loc Cert.DwiKernelIdeal.nD Cert.DwiKernelIdeal.τ Cert.DwiKernelIdeal.sig) → Buf (Elt Ideal) ℓ) (g : Dev Cert.DwiKernelIdeal.nD → PrngReg)
    (m' : (ℓ : Loc Cert.DwiReferenceIdeal.nD Cert.DwiReferenceIdeal.τ Cert.DwiReferenceIdeal.sig) → Buf (Elt Ideal) ℓ) (g' : Dev Cert.DwiReferenceIdeal.nD → PrngReg), Pre_DwiKernelIdeal m →
    (∀ c : Dev Cert.DwiKernelIdeal.nD,
      m' ((c.tc : Thread Cert.DwiReferenceIdeal.nD Cert.DwiReferenceIdeal.τ).loc Cert.DwiReferenceIdeal.main_arg0) = m ((c.tc : Thread Cert.DwiKernelIdeal.nD Cert.DwiKernelIdeal.τ).loc Cert.DwiKernelIdeal.main_arg0)
      ∧ m' ((c.tc : Thread Cert.DwiReferenceIdeal.nD Cert.DwiReferenceIdeal.τ).loc Cert.DwiReferenceIdeal.main_arg1) = m ((c.tc : Thread Cert.DwiKernelIdeal.nD Cert.DwiKernelIdeal.τ).loc Cert.DwiKernelIdeal.main_arg1)) →
    ∃ (v0 : (c : Dev Cert.DwiKernelIdeal.nD) → Buf (Elt Ideal) ((c.tc : Thread Cert.DwiKernelIdeal.nD Cert.DwiKernelIdeal.τ).loc Cert.DwiKernelIdeal.main_v7)),
      θ_run (Cert.DwiKernelIdeal.defs (F := Ideal)) (onTc (τ := Cert.DwiKernelIdeal.τ) (Cert.DwiKernelIdeal.main (F := Ideal))) ⟨m, fun _ => 0, g⟩ (fun r => ∀ c : Dev Cert.DwiKernelIdeal.nD,
          r.2.mem ((c.tc : Thread Cert.DwiKernelIdeal.nD Cert.DwiKernelIdeal.τ).loc Cert.DwiKernelIdeal.main_v7) = v0 c
          ∧ r.2.mem ((c.tc : Thread Cert.DwiKernelIdeal.nD Cert.DwiKernelIdeal.τ).loc Cert.DwiKernelIdeal.main_arg0) = m ((c.tc : Thread Cert.DwiKernelIdeal.nD Cert.DwiKernelIdeal.τ).loc Cert.DwiKernelIdeal.main_arg0)
          ∧ r.2.mem ((c.tc : Thread Cert.DwiKernelIdeal.nD Cert.DwiKernelIdeal.τ).loc Cert.DwiKernelIdeal.main_arg1) = m ((c.tc : Thread Cert.DwiKernelIdeal.nD Cert.DwiKernelIdeal.τ).loc Cert.DwiKernelIdeal.main_arg1))
      ∧ θ_run (Cert.DwiReferenceIdeal.defs (F := Ideal)) (onTc (τ := Cert.DwiReferenceIdeal.τ) (Cert.DwiReferenceIdeal.main (F := Ideal))) ⟨m', fun _ => 0, g'⟩ (fun r => ∀ c : Dev Cert.DwiReferenceIdeal.nD,
          r.2.mem ((c.tc : Thread Cert.DwiReferenceIdeal.nD Cert.DwiReferenceIdeal.τ).loc Cert.DwiReferenceIdeal.main_v6) = v0 c
          ∧ r.2.mem ((c.tc : Thread Cert.DwiReferenceIdeal.nD Cert.DwiReferenceIdeal.τ).loc Cert.DwiReferenceIdeal.main_arg0) = m' ((c.tc : Thread Cert.DwiReferenceIdeal.nD Cert.DwiReferenceIdeal.τ).loc Cert.DwiReferenceIdeal.main_arg0)
          ∧ r.2.mem ((c.tc : Thread Cert.DwiReferenceIdeal.nD Cert.DwiReferenceIdeal.τ).loc Cert.DwiReferenceIdeal.main_arg1) = m' ((c.tc : Thread Cert.DwiReferenceIdeal.nD Cert.DwiReferenceIdeal.τ).loc Cert.DwiReferenceIdeal.main_arg1))

def preserves_FupKernel_FupKernelIdeal : Prop :=
  True

def algebraic_FupKernelIdeal_FupReferenceIdeal [hFupKernelIdeal : Cert.FupKernelIdeal.Facts] [hFupReferenceIdeal : Cert.FupReferenceIdeal.Facts] : Prop :=
  ∀ (m : (ℓ : Loc Cert.FupKernelIdeal.nD Cert.FupKernelIdeal.τ Cert.FupKernelIdeal.sig) → Buf (Elt Ideal) ℓ) (g : Dev Cert.FupKernelIdeal.nD → PrngReg)
    (m' : (ℓ : Loc Cert.FupReferenceIdeal.nD Cert.FupReferenceIdeal.τ Cert.FupReferenceIdeal.sig) → Buf (Elt Ideal) ℓ) (g' : Dev Cert.FupReferenceIdeal.nD → PrngReg), Pre_FupKernelIdeal m →
    (∀ c : Dev Cert.FupKernelIdeal.nD,
      m' ((c.tc : Thread Cert.FupReferenceIdeal.nD Cert.FupReferenceIdeal.τ).loc Cert.FupReferenceIdeal.main_arg0) = m ((c.tc : Thread Cert.FupKernelIdeal.nD Cert.FupKernelIdeal.τ).loc Cert.FupKernelIdeal.main_arg0)
      ∧ m' ((c.tc : Thread Cert.FupReferenceIdeal.nD Cert.FupReferenceIdeal.τ).loc Cert.FupReferenceIdeal.main_arg1) = m ((c.tc : Thread Cert.FupKernelIdeal.nD Cert.FupKernelIdeal.τ).loc Cert.FupKernelIdeal.main_arg1)) →
    ∃ (v0 : (c : Dev Cert.FupKernelIdeal.nD) → Buf (Elt Ideal) ((c.tc : Thread Cert.FupKernelIdeal.nD Cert.FupKernelIdeal.τ).loc Cert.FupKernelIdeal.main_v3_0)) (v1 : (c : Dev Cert.FupKernelIdeal.nD) → Buf (Elt Ideal) ((c.tc : Thread Cert.FupKernelIdeal.nD Cert.FupKernelIdeal.τ).loc Cert.FupKernelIdeal.main_v3_1)) (v2 : (c : Dev Cert.FupKernelIdeal.nD) → Buf (Elt Ideal) ((c.tc : Thread Cert.FupKernelIdeal.nD Cert.FupKernelIdeal.τ).loc Cert.FupKernelIdeal.main_v3_2)),
      θ_run (Cert.FupKernelIdeal.defs (F := Ideal)) (onTc (τ := Cert.FupKernelIdeal.τ) (Cert.FupKernelIdeal.main (F := Ideal))) ⟨m, fun _ => 0, g⟩ (fun r => ∀ c : Dev Cert.FupKernelIdeal.nD,
          r.2.mem ((c.tc : Thread Cert.FupKernelIdeal.nD Cert.FupKernelIdeal.τ).loc Cert.FupKernelIdeal.main_v3_0) = v0 c
          ∧ r.2.mem ((c.tc : Thread Cert.FupKernelIdeal.nD Cert.FupKernelIdeal.τ).loc Cert.FupKernelIdeal.main_v3_1) = v1 c
          ∧ r.2.mem ((c.tc : Thread Cert.FupKernelIdeal.nD Cert.FupKernelIdeal.τ).loc Cert.FupKernelIdeal.main_v3_2) = v2 c
          ∧ r.2.mem ((c.tc : Thread Cert.FupKernelIdeal.nD Cert.FupKernelIdeal.τ).loc Cert.FupKernelIdeal.main_arg0) = m ((c.tc : Thread Cert.FupKernelIdeal.nD Cert.FupKernelIdeal.τ).loc Cert.FupKernelIdeal.main_arg0)
          ∧ r.2.mem ((c.tc : Thread Cert.FupKernelIdeal.nD Cert.FupKernelIdeal.τ).loc Cert.FupKernelIdeal.main_arg1) = m ((c.tc : Thread Cert.FupKernelIdeal.nD Cert.FupKernelIdeal.τ).loc Cert.FupKernelIdeal.main_arg1))
      ∧ θ_run (Cert.FupReferenceIdeal.defs (F := Ideal)) (onTc (τ := Cert.FupReferenceIdeal.τ) (Cert.FupReferenceIdeal.main (F := Ideal))) ⟨m', fun _ => 0, g'⟩ (fun r => ∀ c : Dev Cert.FupReferenceIdeal.nD,
          r.2.mem ((c.tc : Thread Cert.FupReferenceIdeal.nD Cert.FupReferenceIdeal.τ).loc Cert.FupReferenceIdeal.main_v6) = v0 c
          ∧ r.2.mem ((c.tc : Thread Cert.FupReferenceIdeal.nD Cert.FupReferenceIdeal.τ).loc Cert.FupReferenceIdeal.main_v7) = v1 c
          ∧ r.2.mem ((c.tc : Thread Cert.FupReferenceIdeal.nD Cert.FupReferenceIdeal.τ).loc Cert.FupReferenceIdeal.main_v8) = v2 c
          ∧ r.2.mem ((c.tc : Thread Cert.FupReferenceIdeal.nD Cert.FupReferenceIdeal.τ).loc Cert.FupReferenceIdeal.main_arg0) = m' ((c.tc : Thread Cert.FupReferenceIdeal.nD Cert.FupReferenceIdeal.τ).loc Cert.FupReferenceIdeal.main_arg0)
          ∧ r.2.mem ((c.tc : Thread Cert.FupReferenceIdeal.nD Cert.FupReferenceIdeal.τ).loc Cert.FupReferenceIdeal.main_arg1) = m' ((c.tc : Thread Cert.FupReferenceIdeal.nD Cert.FupReferenceIdeal.τ).loc Cert.FupReferenceIdeal.main_arg1))

def preserves_MxfKernel_MxfKernelIdeal : Prop :=
  True

def algebraic_MxfKernelIdeal_MxfReferenceIdeal [hMxfKernelIdeal : Cert.MxfKernelIdeal.Facts] [hMxfReferenceIdeal : Cert.MxfReferenceIdeal.Facts] : Prop :=
  ∀ (m : (ℓ : Loc Cert.MxfKernelIdeal.nD Cert.MxfKernelIdeal.τ Cert.MxfKernelIdeal.sig) → Buf (Elt Ideal) ℓ) (g : Dev Cert.MxfKernelIdeal.nD → PrngReg)
    (m' : (ℓ : Loc Cert.MxfReferenceIdeal.nD Cert.MxfReferenceIdeal.τ Cert.MxfReferenceIdeal.sig) → Buf (Elt Ideal) ℓ) (g' : Dev Cert.MxfReferenceIdeal.nD → PrngReg), Pre_MxfKernelIdeal m →
    (∀ c : Dev Cert.MxfKernelIdeal.nD,
      m' ((c.tc : Thread Cert.MxfReferenceIdeal.nD Cert.MxfReferenceIdeal.τ).loc Cert.MxfReferenceIdeal.main_arg0) = m ((c.tc : Thread Cert.MxfKernelIdeal.nD Cert.MxfKernelIdeal.τ).loc Cert.MxfKernelIdeal.main_arg0)
      ∧ m' ((c.tc : Thread Cert.MxfReferenceIdeal.nD Cert.MxfReferenceIdeal.τ).loc Cert.MxfReferenceIdeal.main_arg1) = m ((c.tc : Thread Cert.MxfKernelIdeal.nD Cert.MxfKernelIdeal.τ).loc Cert.MxfKernelIdeal.main_arg1)) →
    ∃ (v0 : (c : Dev Cert.MxfKernelIdeal.nD) → Buf (Elt Ideal) ((c.tc : Thread Cert.MxfKernelIdeal.nD Cert.MxfKernelIdeal.τ).loc Cert.MxfKernelIdeal.main_v8)),
      θ_run (Cert.MxfKernelIdeal.defs (F := Ideal)) (onTc (τ := Cert.MxfKernelIdeal.τ) (Cert.MxfKernelIdeal.main (F := Ideal))) ⟨m, fun _ => 0, g⟩ (fun r => ∀ c : Dev Cert.MxfKernelIdeal.nD,
          r.2.mem ((c.tc : Thread Cert.MxfKernelIdeal.nD Cert.MxfKernelIdeal.τ).loc Cert.MxfKernelIdeal.main_v8) = v0 c
          ∧ r.2.mem ((c.tc : Thread Cert.MxfKernelIdeal.nD Cert.MxfKernelIdeal.τ).loc Cert.MxfKernelIdeal.main_arg0) = m ((c.tc : Thread Cert.MxfKernelIdeal.nD Cert.MxfKernelIdeal.τ).loc Cert.MxfKernelIdeal.main_arg0)
          ∧ r.2.mem ((c.tc : Thread Cert.MxfKernelIdeal.nD Cert.MxfKernelIdeal.τ).loc Cert.MxfKernelIdeal.main_arg1) = m ((c.tc : Thread Cert.MxfKernelIdeal.nD Cert.MxfKernelIdeal.τ).loc Cert.MxfKernelIdeal.main_arg1))
      ∧ θ_run (Cert.MxfReferenceIdeal.defs (F := Ideal)) (onTc (τ := Cert.MxfReferenceIdeal.τ) (Cert.MxfReferenceIdeal.main (F := Ideal))) ⟨m', fun _ => 0, g'⟩ (fun r => ∀ c : Dev Cert.MxfReferenceIdeal.nD,
          r.2.mem ((c.tc : Thread Cert.MxfReferenceIdeal.nD Cert.MxfReferenceIdeal.τ).loc Cert.MxfReferenceIdeal.main_v2) = v0 c
          ∧ r.2.mem ((c.tc : Thread Cert.MxfReferenceIdeal.nD Cert.MxfReferenceIdeal.τ).loc Cert.MxfReferenceIdeal.main_arg0) = m' ((c.tc : Thread Cert.MxfReferenceIdeal.nD Cert.MxfReferenceIdeal.τ).loc Cert.MxfReferenceIdeal.main_arg0)
          ∧ r.2.mem ((c.tc : Thread Cert.MxfReferenceIdeal.nD Cert.MxfReferenceIdeal.τ).loc Cert.MxfReferenceIdeal.main_arg1) = m' ((c.tc : Thread Cert.MxfReferenceIdeal.nD Cert.MxfReferenceIdeal.τ).loc Cert.MxfReferenceIdeal.main_arg1))

def preserves_DlnKernel_DlnKernelIdeal : Prop :=
  True

def algebraic_DlnKernelIdeal_DlnReferenceIdeal [hDlnKernelIdeal : Cert.DlnKernelIdeal.Facts] [hDlnReferenceIdeal : Cert.DlnReferenceIdeal.Facts] : Prop :=
  ∀ (m : (ℓ : Loc Cert.DlnKernelIdeal.nD Cert.DlnKernelIdeal.τ Cert.DlnKernelIdeal.sig) → Buf (Elt Ideal) ℓ) (g : Dev Cert.DlnKernelIdeal.nD → PrngReg)
    (m' : (ℓ : Loc Cert.DlnReferenceIdeal.nD Cert.DlnReferenceIdeal.τ Cert.DlnReferenceIdeal.sig) → Buf (Elt Ideal) ℓ) (g' : Dev Cert.DlnReferenceIdeal.nD → PrngReg), Pre_DlnKernelIdeal m →
    (∀ c : Dev Cert.DlnKernelIdeal.nD,
      m' ((c.tc : Thread Cert.DlnReferenceIdeal.nD Cert.DlnReferenceIdeal.τ).loc Cert.DlnReferenceIdeal.main_arg0) = m ((c.tc : Thread Cert.DlnKernelIdeal.nD Cert.DlnKernelIdeal.τ).loc Cert.DlnKernelIdeal.main_arg0)
      ∧ m' ((c.tc : Thread Cert.DlnReferenceIdeal.nD Cert.DlnReferenceIdeal.τ).loc Cert.DlnReferenceIdeal.main_arg1) = m ((c.tc : Thread Cert.DlnKernelIdeal.nD Cert.DlnKernelIdeal.τ).loc Cert.DlnKernelIdeal.main_arg1)
      ∧ m' ((c.tc : Thread Cert.DlnReferenceIdeal.nD Cert.DlnReferenceIdeal.τ).loc Cert.DlnReferenceIdeal.main_arg2) = m ((c.tc : Thread Cert.DlnKernelIdeal.nD Cert.DlnKernelIdeal.τ).loc Cert.DlnKernelIdeal.main_arg2)
      ∧ m' ((c.tc : Thread Cert.DlnReferenceIdeal.nD Cert.DlnReferenceIdeal.τ).loc Cert.DlnReferenceIdeal.main_arg3) = m ((c.tc : Thread Cert.DlnKernelIdeal.nD Cert.DlnKernelIdeal.τ).loc Cert.DlnKernelIdeal.main_arg3)
      ∧ m' ((c.tc : Thread Cert.DlnReferenceIdeal.nD Cert.DlnReferenceIdeal.τ).loc Cert.DlnReferenceIdeal.main_arg4) = m ((c.tc : Thread Cert.DlnKernelIdeal.nD Cert.DlnKernelIdeal.τ).loc Cert.DlnKernelIdeal.main_arg4)
      ∧ m' ((c.tc : Thread Cert.DlnReferenceIdeal.nD Cert.DlnReferenceIdeal.τ).loc Cert.DlnReferenceIdeal.main_arg5) = m ((c.tc : Thread Cert.DlnKernelIdeal.nD Cert.DlnKernelIdeal.τ).loc Cert.DlnKernelIdeal.main_arg5)
      ∧ m' ((c.tc : Thread Cert.DlnReferenceIdeal.nD Cert.DlnReferenceIdeal.τ).loc Cert.DlnReferenceIdeal.main_arg6) = m ((c.tc : Thread Cert.DlnKernelIdeal.nD Cert.DlnKernelIdeal.τ).loc Cert.DlnKernelIdeal.main_arg6)) →
    ∃ (v0 : (c : Dev Cert.DlnKernelIdeal.nD) → Buf (Elt Ideal) ((c.tc : Thread Cert.DlnKernelIdeal.nD Cert.DlnKernelIdeal.τ).loc Cert.DlnKernelIdeal.main_v6_0)) (v1 : (c : Dev Cert.DlnKernelIdeal.nD) → Buf (Elt Ideal) ((c.tc : Thread Cert.DlnKernelIdeal.nD Cert.DlnKernelIdeal.τ).loc Cert.DlnKernelIdeal.main_v6_1)) (v2 : (c : Dev Cert.DlnKernelIdeal.nD) → Buf (Elt Ideal) ((c.tc : Thread Cert.DlnKernelIdeal.nD Cert.DlnKernelIdeal.τ).loc Cert.DlnKernelIdeal.main_v6_2)),
      θ_run (Cert.DlnKernelIdeal.defs (F := Ideal)) (onTc (τ := Cert.DlnKernelIdeal.τ) (Cert.DlnKernelIdeal.main (F := Ideal))) ⟨m, fun _ => 0, g⟩ (fun r => ∀ c : Dev Cert.DlnKernelIdeal.nD,
          r.2.mem ((c.tc : Thread Cert.DlnKernelIdeal.nD Cert.DlnKernelIdeal.τ).loc Cert.DlnKernelIdeal.main_v6_0) = v0 c
          ∧ r.2.mem ((c.tc : Thread Cert.DlnKernelIdeal.nD Cert.DlnKernelIdeal.τ).loc Cert.DlnKernelIdeal.main_v6_1) = v1 c
          ∧ r.2.mem ((c.tc : Thread Cert.DlnKernelIdeal.nD Cert.DlnKernelIdeal.τ).loc Cert.DlnKernelIdeal.main_v6_2) = v2 c
          ∧ r.2.mem ((c.tc : Thread Cert.DlnKernelIdeal.nD Cert.DlnKernelIdeal.τ).loc Cert.DlnKernelIdeal.main_arg0) = m ((c.tc : Thread Cert.DlnKernelIdeal.nD Cert.DlnKernelIdeal.τ).loc Cert.DlnKernelIdeal.main_arg0)
          ∧ r.2.mem ((c.tc : Thread Cert.DlnKernelIdeal.nD Cert.DlnKernelIdeal.τ).loc Cert.DlnKernelIdeal.main_arg1) = m ((c.tc : Thread Cert.DlnKernelIdeal.nD Cert.DlnKernelIdeal.τ).loc Cert.DlnKernelIdeal.main_arg1)
          ∧ r.2.mem ((c.tc : Thread Cert.DlnKernelIdeal.nD Cert.DlnKernelIdeal.τ).loc Cert.DlnKernelIdeal.main_arg2) = m ((c.tc : Thread Cert.DlnKernelIdeal.nD Cert.DlnKernelIdeal.τ).loc Cert.DlnKernelIdeal.main_arg2)
          ∧ r.2.mem ((c.tc : Thread Cert.DlnKernelIdeal.nD Cert.DlnKernelIdeal.τ).loc Cert.DlnKernelIdeal.main_arg3) = m ((c.tc : Thread Cert.DlnKernelIdeal.nD Cert.DlnKernelIdeal.τ).loc Cert.DlnKernelIdeal.main_arg3)
          ∧ r.2.mem ((c.tc : Thread Cert.DlnKernelIdeal.nD Cert.DlnKernelIdeal.τ).loc Cert.DlnKernelIdeal.main_arg4) = m ((c.tc : Thread Cert.DlnKernelIdeal.nD Cert.DlnKernelIdeal.τ).loc Cert.DlnKernelIdeal.main_arg4)
          ∧ r.2.mem ((c.tc : Thread Cert.DlnKernelIdeal.nD Cert.DlnKernelIdeal.τ).loc Cert.DlnKernelIdeal.main_arg5) = m ((c.tc : Thread Cert.DlnKernelIdeal.nD Cert.DlnKernelIdeal.τ).loc Cert.DlnKernelIdeal.main_arg5)
          ∧ r.2.mem ((c.tc : Thread Cert.DlnKernelIdeal.nD Cert.DlnKernelIdeal.τ).loc Cert.DlnKernelIdeal.main_arg6) = m ((c.tc : Thread Cert.DlnKernelIdeal.nD Cert.DlnKernelIdeal.τ).loc Cert.DlnKernelIdeal.main_arg6))
      ∧ θ_run (Cert.DlnReferenceIdeal.defs (F := Ideal)) (onTc (τ := Cert.DlnReferenceIdeal.τ) (Cert.DlnReferenceIdeal.main (F := Ideal))) ⟨m', fun _ => 0, g'⟩ (fun r => ∀ c : Dev Cert.DlnReferenceIdeal.nD,
          r.2.mem ((c.tc : Thread Cert.DlnReferenceIdeal.nD Cert.DlnReferenceIdeal.τ).loc Cert.DlnReferenceIdeal.main_v30) = v0 c
          ∧ r.2.mem ((c.tc : Thread Cert.DlnReferenceIdeal.nD Cert.DlnReferenceIdeal.τ).loc Cert.DlnReferenceIdeal.main_v26) = v1 c
          ∧ r.2.mem ((c.tc : Thread Cert.DlnReferenceIdeal.nD Cert.DlnReferenceIdeal.τ).loc Cert.DlnReferenceIdeal.main_v37) = v2 c
          ∧ r.2.mem ((c.tc : Thread Cert.DlnReferenceIdeal.nD Cert.DlnReferenceIdeal.τ).loc Cert.DlnReferenceIdeal.main_arg0) = m' ((c.tc : Thread Cert.DlnReferenceIdeal.nD Cert.DlnReferenceIdeal.τ).loc Cert.DlnReferenceIdeal.main_arg0)
          ∧ r.2.mem ((c.tc : Thread Cert.DlnReferenceIdeal.nD Cert.DlnReferenceIdeal.τ).loc Cert.DlnReferenceIdeal.main_arg1) = m' ((c.tc : Thread Cert.DlnReferenceIdeal.nD Cert.DlnReferenceIdeal.τ).loc Cert.DlnReferenceIdeal.main_arg1)
          ∧ r.2.mem ((c.tc : Thread Cert.DlnReferenceIdeal.nD Cert.DlnReferenceIdeal.τ).loc Cert.DlnReferenceIdeal.main_arg2) = m' ((c.tc : Thread Cert.DlnReferenceIdeal.nD Cert.DlnReferenceIdeal.τ).loc Cert.DlnReferenceIdeal.main_arg2)
          ∧ r.2.mem ((c.tc : Thread Cert.DlnReferenceIdeal.nD Cert.DlnReferenceIdeal.τ).loc Cert.DlnReferenceIdeal.main_arg3) = m' ((c.tc : Thread Cert.DlnReferenceIdeal.nD Cert.DlnReferenceIdeal.τ).loc Cert.DlnReferenceIdeal.main_arg3)
          ∧ r.2.mem ((c.tc : Thread Cert.DlnReferenceIdeal.nD Cert.DlnReferenceIdeal.τ).loc Cert.DlnReferenceIdeal.main_arg4) = m' ((c.tc : Thread Cert.DlnReferenceIdeal.nD Cert.DlnReferenceIdeal.τ).loc Cert.DlnReferenceIdeal.main_arg4)
          ∧ r.2.mem ((c.tc : Thread Cert.DlnReferenceIdeal.nD Cert.DlnReferenceIdeal.τ).loc Cert.DlnReferenceIdeal.main_arg5) = m' ((c.tc : Thread Cert.DlnReferenceIdeal.nD Cert.DlnReferenceIdeal.τ).loc Cert.DlnReferenceIdeal.main_arg5)
          ∧ r.2.mem ((c.tc : Thread Cert.DlnReferenceIdeal.nD Cert.DlnReferenceIdeal.τ).loc Cert.DlnReferenceIdeal.main_arg6) = m' ((c.tc : Thread Cert.DlnReferenceIdeal.nD Cert.DlnReferenceIdeal.τ).loc Cert.DlnReferenceIdeal.main_arg6))

def preserves_MrgKernel_MrgKernelIdeal : Prop :=
  True

def algebraic_MrgKernelIdeal_MrgReferenceIdeal [hMrgKernelIdeal : Cert.MrgKernelIdeal.Facts] [hMrgReferenceIdeal : Cert.MrgReferenceIdeal.Facts] : Prop :=
  ∀ (m : (ℓ : Loc Cert.MrgKernelIdeal.nD Cert.MrgKernelIdeal.τ Cert.MrgKernelIdeal.sig) → Buf (Elt Ideal) ℓ) (g : Dev Cert.MrgKernelIdeal.nD → PrngReg)
    (m' : (ℓ : Loc Cert.MrgReferenceIdeal.nD Cert.MrgReferenceIdeal.τ Cert.MrgReferenceIdeal.sig) → Buf (Elt Ideal) ℓ) (g' : Dev Cert.MrgReferenceIdeal.nD → PrngReg), Pre_MrgKernelIdeal m →
    (∀ c : Dev Cert.MrgKernelIdeal.nD,
      m' ((c.tc : Thread Cert.MrgReferenceIdeal.nD Cert.MrgReferenceIdeal.τ).loc Cert.MrgReferenceIdeal.main_arg0) = m ((c.tc : Thread Cert.MrgKernelIdeal.nD Cert.MrgKernelIdeal.τ).loc Cert.MrgKernelIdeal.main_arg0)
      ∧ m' ((c.tc : Thread Cert.MrgReferenceIdeal.nD Cert.MrgReferenceIdeal.τ).loc Cert.MrgReferenceIdeal.main_arg1) = m ((c.tc : Thread Cert.MrgKernelIdeal.nD Cert.MrgKernelIdeal.τ).loc Cert.MrgKernelIdeal.main_arg1)
      ∧ m' ((c.tc : Thread Cert.MrgReferenceIdeal.nD Cert.MrgReferenceIdeal.τ).loc Cert.MrgReferenceIdeal.main_arg2) = m ((c.tc : Thread Cert.MrgKernelIdeal.nD Cert.MrgKernelIdeal.τ).loc Cert.MrgKernelIdeal.main_arg2)
      ∧ m' ((c.tc : Thread Cert.MrgReferenceIdeal.nD Cert.MrgReferenceIdeal.τ).loc Cert.MrgReferenceIdeal.main_arg3) = m ((c.tc : Thread Cert.MrgKernelIdeal.nD Cert.MrgKernelIdeal.τ).loc Cert.MrgKernelIdeal.main_arg3)
      ∧ m' ((c.tc : Thread Cert.MrgReferenceIdeal.nD Cert.MrgReferenceIdeal.τ).loc Cert.MrgReferenceIdeal.main_arg4) = m ((c.tc : Thread Cert.MrgKernelIdeal.nD Cert.MrgKernelIdeal.τ).loc Cert.MrgKernelIdeal.main_arg4)
      ∧ m' ((c.tc : Thread Cert.MrgReferenceIdeal.nD Cert.MrgReferenceIdeal.τ).loc Cert.MrgReferenceIdeal.main_arg5) = m ((c.tc : Thread Cert.MrgKernelIdeal.nD Cert.MrgKernelIdeal.τ).loc Cert.MrgKernelIdeal.main_arg5)
      ∧ m' ((c.tc : Thread Cert.MrgReferenceIdeal.nD Cert.MrgReferenceIdeal.τ).loc Cert.MrgReferenceIdeal.main_arg6) = m ((c.tc : Thread Cert.MrgKernelIdeal.nD Cert.MrgKernelIdeal.τ).loc Cert.MrgKernelIdeal.main_arg6)
      ∧ m' ((c.tc : Thread Cert.MrgReferenceIdeal.nD Cert.MrgReferenceIdeal.τ).loc Cert.MrgReferenceIdeal.main_arg7) = m ((c.tc : Thread Cert.MrgKernelIdeal.nD Cert.MrgKernelIdeal.τ).loc Cert.MrgKernelIdeal.main_arg7)
      ∧ m' ((c.tc : Thread Cert.MrgReferenceIdeal.nD Cert.MrgReferenceIdeal.τ).loc Cert.MrgReferenceIdeal.main_arg8) = m ((c.tc : Thread Cert.MrgKernelIdeal.nD Cert.MrgKernelIdeal.τ).loc Cert.MrgKernelIdeal.main_arg8)
      ∧ m' ((c.tc : Thread Cert.MrgReferenceIdeal.nD Cert.MrgReferenceIdeal.τ).loc Cert.MrgReferenceIdeal.main_arg9) = m ((c.tc : Thread Cert.MrgKernelIdeal.nD Cert.MrgKernelIdeal.τ).loc Cert.MrgKernelIdeal.main_arg9)
      ∧ m' ((c.tc : Thread Cert.MrgReferenceIdeal.nD Cert.MrgReferenceIdeal.τ).loc Cert.MrgReferenceIdeal.main_arg10) = m ((c.tc : Thread Cert.MrgKernelIdeal.nD Cert.MrgKernelIdeal.τ).loc Cert.MrgKernelIdeal.main_arg10)
      ∧ m' ((c.tc : Thread Cert.MrgReferenceIdeal.nD Cert.MrgReferenceIdeal.τ).loc Cert.MrgReferenceIdeal.main_arg11) = m ((c.tc : Thread Cert.MrgKernelIdeal.nD Cert.MrgKernelIdeal.τ).loc Cert.MrgKernelIdeal.main_arg11)) →
    ∃ (v0 : (c : Dev Cert.MrgKernelIdeal.nD) → Buf (Elt Ideal) ((c.tc : Thread Cert.MrgKernelIdeal.nD Cert.MrgKernelIdeal.τ).loc Cert.MrgKernelIdeal.main_v16_0)) (v1 : (c : Dev Cert.MrgKernelIdeal.nD) → Buf (Elt Ideal) ((c.tc : Thread Cert.MrgKernelIdeal.nD Cert.MrgKernelIdeal.τ).loc Cert.MrgKernelIdeal.main_v16_1)) (v2 : (c : Dev Cert.MrgKernelIdeal.nD) → Buf (Elt Ideal) ((c.tc : Thread Cert.MrgKernelIdeal.nD Cert.MrgKernelIdeal.τ).loc Cert.MrgKernelIdeal.main_v16_2)) (v3 : (c : Dev Cert.MrgKernelIdeal.nD) → Buf (Elt Ideal) ((c.tc : Thread Cert.MrgKernelIdeal.nD Cert.MrgKernelIdeal.τ).loc Cert.MrgKernelIdeal.main_v16_3)) (v4 : (c : Dev Cert.MrgKernelIdeal.nD) → Buf (Elt Ideal) ((c.tc : Thread Cert.MrgKernelIdeal.nD Cert.MrgKernelIdeal.τ).loc Cert.MrgKernelIdeal.main_v16_4)) (v5 : (c : Dev Cert.MrgKernelIdeal.nD) → Buf (Elt Ideal) ((c.tc : Thread Cert.MrgKernelIdeal.nD Cert.MrgKernelIdeal.τ).loc Cert.MrgKernelIdeal.main_v16_5)),
      θ_run (Cert.MrgKernelIdeal.defs (F := Ideal)) (onTc (τ := Cert.MrgKernelIdeal.τ) (Cert.MrgKernelIdeal.main (F := Ideal))) ⟨m, fun _ => 0, g⟩ (fun r => ∀ c : Dev Cert.MrgKernelIdeal.nD,
          r.2.mem ((c.tc : Thread Cert.MrgKernelIdeal.nD Cert.MrgKernelIdeal.τ).loc Cert.MrgKernelIdeal.main_v16_0) = v0 c
          ∧ r.2.mem ((c.tc : Thread Cert.MrgKernelIdeal.nD Cert.MrgKernelIdeal.τ).loc Cert.MrgKernelIdeal.main_v16_1) = v1 c
          ∧ r.2.mem ((c.tc : Thread Cert.MrgKernelIdeal.nD Cert.MrgKernelIdeal.τ).loc Cert.MrgKernelIdeal.main_v16_2) = v2 c
          ∧ r.2.mem ((c.tc : Thread Cert.MrgKernelIdeal.nD Cert.MrgKernelIdeal.τ).loc Cert.MrgKernelIdeal.main_v16_3) = v3 c
          ∧ r.2.mem ((c.tc : Thread Cert.MrgKernelIdeal.nD Cert.MrgKernelIdeal.τ).loc Cert.MrgKernelIdeal.main_v16_4) = v4 c
          ∧ r.2.mem ((c.tc : Thread Cert.MrgKernelIdeal.nD Cert.MrgKernelIdeal.τ).loc Cert.MrgKernelIdeal.main_v16_5) = v5 c
          ∧ r.2.mem ((c.tc : Thread Cert.MrgKernelIdeal.nD Cert.MrgKernelIdeal.τ).loc Cert.MrgKernelIdeal.main_arg0) = m ((c.tc : Thread Cert.MrgKernelIdeal.nD Cert.MrgKernelIdeal.τ).loc Cert.MrgKernelIdeal.main_arg0)
          ∧ r.2.mem ((c.tc : Thread Cert.MrgKernelIdeal.nD Cert.MrgKernelIdeal.τ).loc Cert.MrgKernelIdeal.main_arg1) = m ((c.tc : Thread Cert.MrgKernelIdeal.nD Cert.MrgKernelIdeal.τ).loc Cert.MrgKernelIdeal.main_arg1)
          ∧ r.2.mem ((c.tc : Thread Cert.MrgKernelIdeal.nD Cert.MrgKernelIdeal.τ).loc Cert.MrgKernelIdeal.main_arg2) = m ((c.tc : Thread Cert.MrgKernelIdeal.nD Cert.MrgKernelIdeal.τ).loc Cert.MrgKernelIdeal.main_arg2)
          ∧ r.2.mem ((c.tc : Thread Cert.MrgKernelIdeal.nD Cert.MrgKernelIdeal.τ).loc Cert.MrgKernelIdeal.main_arg3) = m ((c.tc : Thread Cert.MrgKernelIdeal.nD Cert.MrgKernelIdeal.τ).loc Cert.MrgKernelIdeal.main_arg3)
          ∧ r.2.mem ((c.tc : Thread Cert.MrgKernelIdeal.nD Cert.MrgKernelIdeal.τ).loc Cert.MrgKernelIdeal.main_arg4) = m ((c.tc : Thread Cert.MrgKernelIdeal.nD Cert.MrgKernelIdeal.τ).loc Cert.MrgKernelIdeal.main_arg4)
          ∧ r.2.mem ((c.tc : Thread Cert.MrgKernelIdeal.nD Cert.MrgKernelIdeal.τ).loc Cert.MrgKernelIdeal.main_arg5) = m ((c.tc : Thread Cert.MrgKernelIdeal.nD Cert.MrgKernelIdeal.τ).loc Cert.MrgKernelIdeal.main_arg5)
          ∧ r.2.mem ((c.tc : Thread Cert.MrgKernelIdeal.nD Cert.MrgKernelIdeal.τ).loc Cert.MrgKernelIdeal.main_arg6) = m ((c.tc : Thread Cert.MrgKernelIdeal.nD Cert.MrgKernelIdeal.τ).loc Cert.MrgKernelIdeal.main_arg6)
          ∧ r.2.mem ((c.tc : Thread Cert.MrgKernelIdeal.nD Cert.MrgKernelIdeal.τ).loc Cert.MrgKernelIdeal.main_arg7) = m ((c.tc : Thread Cert.MrgKernelIdeal.nD Cert.MrgKernelIdeal.τ).loc Cert.MrgKernelIdeal.main_arg7)
          ∧ r.2.mem ((c.tc : Thread Cert.MrgKernelIdeal.nD Cert.MrgKernelIdeal.τ).loc Cert.MrgKernelIdeal.main_arg8) = m ((c.tc : Thread Cert.MrgKernelIdeal.nD Cert.MrgKernelIdeal.τ).loc Cert.MrgKernelIdeal.main_arg8)
          ∧ r.2.mem ((c.tc : Thread Cert.MrgKernelIdeal.nD Cert.MrgKernelIdeal.τ).loc Cert.MrgKernelIdeal.main_arg9) = m ((c.tc : Thread Cert.MrgKernelIdeal.nD Cert.MrgKernelIdeal.τ).loc Cert.MrgKernelIdeal.main_arg9)
          ∧ r.2.mem ((c.tc : Thread Cert.MrgKernelIdeal.nD Cert.MrgKernelIdeal.τ).loc Cert.MrgKernelIdeal.main_arg10) = m ((c.tc : Thread Cert.MrgKernelIdeal.nD Cert.MrgKernelIdeal.τ).loc Cert.MrgKernelIdeal.main_arg10)
          ∧ r.2.mem ((c.tc : Thread Cert.MrgKernelIdeal.nD Cert.MrgKernelIdeal.τ).loc Cert.MrgKernelIdeal.main_arg11) = m ((c.tc : Thread Cert.MrgKernelIdeal.nD Cert.MrgKernelIdeal.τ).loc Cert.MrgKernelIdeal.main_arg11))
      ∧ θ_run (Cert.MrgReferenceIdeal.defs (F := Ideal)) (onTc (τ := Cert.MrgReferenceIdeal.τ) (Cert.MrgReferenceIdeal.main (F := Ideal))) ⟨m', fun _ => 0, g'⟩ (fun r => ∀ c : Dev Cert.MrgReferenceIdeal.nD,
          r.2.mem ((c.tc : Thread Cert.MrgReferenceIdeal.nD Cert.MrgReferenceIdeal.τ).loc Cert.MrgReferenceIdeal.main_v62) = v0 c
          ∧ r.2.mem ((c.tc : Thread Cert.MrgReferenceIdeal.nD Cert.MrgReferenceIdeal.τ).loc Cert.MrgReferenceIdeal.main_v63) = v1 c
          ∧ r.2.mem ((c.tc : Thread Cert.MrgReferenceIdeal.nD Cert.MrgReferenceIdeal.τ).loc Cert.MrgReferenceIdeal.main_v64) = v2 c
          ∧ r.2.mem ((c.tc : Thread Cert.MrgReferenceIdeal.nD Cert.MrgReferenceIdeal.τ).loc Cert.MrgReferenceIdeal.main_v61) = v3 c
          ∧ r.2.mem ((c.tc : Thread Cert.MrgReferenceIdeal.nD Cert.MrgReferenceIdeal.τ).loc Cert.MrgReferenceIdeal.main_v57) = v4 c
          ∧ r.2.mem ((c.tc : Thread Cert.MrgReferenceIdeal.nD Cert.MrgReferenceIdeal.τ).loc Cert.MrgReferenceIdeal.main_v71) = v5 c
          ∧ r.2.mem ((c.tc : Thread Cert.MrgReferenceIdeal.nD Cert.MrgReferenceIdeal.τ).loc Cert.MrgReferenceIdeal.main_arg0) = m' ((c.tc : Thread Cert.MrgReferenceIdeal.nD Cert.MrgReferenceIdeal.τ).loc Cert.MrgReferenceIdeal.main_arg0)
          ∧ r.2.mem ((c.tc : Thread Cert.MrgReferenceIdeal.nD Cert.MrgReferenceIdeal.τ).loc Cert.MrgReferenceIdeal.main_arg1) = m' ((c.tc : Thread Cert.MrgReferenceIdeal.nD Cert.MrgReferenceIdeal.τ).loc Cert.MrgReferenceIdeal.main_arg1)
          ∧ r.2.mem ((c.tc : Thread Cert.MrgReferenceIdeal.nD Cert.MrgReferenceIdeal.τ).loc Cert.MrgReferenceIdeal.main_arg2) = m' ((c.tc : Thread Cert.MrgReferenceIdeal.nD Cert.MrgReferenceIdeal.τ).loc Cert.MrgReferenceIdeal.main_arg2)
          ∧ r.2.mem ((c.tc : Thread Cert.MrgReferenceIdeal.nD Cert.MrgReferenceIdeal.τ).loc Cert.MrgReferenceIdeal.main_arg3) = m' ((c.tc : Thread Cert.MrgReferenceIdeal.nD Cert.MrgReferenceIdeal.τ).loc Cert.MrgReferenceIdeal.main_arg3)
          ∧ r.2.mem ((c.tc : Thread Cert.MrgReferenceIdeal.nD Cert.MrgReferenceIdeal.τ).loc Cert.MrgReferenceIdeal.main_arg4) = m' ((c.tc : Thread Cert.MrgReferenceIdeal.nD Cert.MrgReferenceIdeal.τ).loc Cert.MrgReferenceIdeal.main_arg4)
          ∧ r.2.mem ((c.tc : Thread Cert.MrgReferenceIdeal.nD Cert.MrgReferenceIdeal.τ).loc Cert.MrgReferenceIdeal.main_arg5) = m' ((c.tc : Thread Cert.MrgReferenceIdeal.nD Cert.MrgReferenceIdeal.τ).loc Cert.MrgReferenceIdeal.main_arg5)
          ∧ r.2.mem ((c.tc : Thread Cert.MrgReferenceIdeal.nD Cert.MrgReferenceIdeal.τ).loc Cert.MrgReferenceIdeal.main_arg6) = m' ((c.tc : Thread Cert.MrgReferenceIdeal.nD Cert.MrgReferenceIdeal.τ).loc Cert.MrgReferenceIdeal.main_arg6)
          ∧ r.2.mem ((c.tc : Thread Cert.MrgReferenceIdeal.nD Cert.MrgReferenceIdeal.τ).loc Cert.MrgReferenceIdeal.main_arg7) = m' ((c.tc : Thread Cert.MrgReferenceIdeal.nD Cert.MrgReferenceIdeal.τ).loc Cert.MrgReferenceIdeal.main_arg7)
          ∧ r.2.mem ((c.tc : Thread Cert.MrgReferenceIdeal.nD Cert.MrgReferenceIdeal.τ).loc Cert.MrgReferenceIdeal.main_arg8) = m' ((c.tc : Thread Cert.MrgReferenceIdeal.nD Cert.MrgReferenceIdeal.τ).loc Cert.MrgReferenceIdeal.main_arg8)
          ∧ r.2.mem ((c.tc : Thread Cert.MrgReferenceIdeal.nD Cert.MrgReferenceIdeal.τ).loc Cert.MrgReferenceIdeal.main_arg9) = m' ((c.tc : Thread Cert.MrgReferenceIdeal.nD Cert.MrgReferenceIdeal.τ).loc Cert.MrgReferenceIdeal.main_arg9)
          ∧ r.2.mem ((c.tc : Thread Cert.MrgReferenceIdeal.nD Cert.MrgReferenceIdeal.τ).loc Cert.MrgReferenceIdeal.main_arg10) = m' ((c.tc : Thread Cert.MrgReferenceIdeal.nD Cert.MrgReferenceIdeal.τ).loc Cert.MrgReferenceIdeal.main_arg10)
          ∧ r.2.mem ((c.tc : Thread Cert.MrgReferenceIdeal.nD Cert.MrgReferenceIdeal.τ).loc Cert.MrgReferenceIdeal.main_arg11) = m' ((c.tc : Thread Cert.MrgReferenceIdeal.nD Cert.MrgReferenceIdeal.τ).loc Cert.MrgReferenceIdeal.main_arg11))

def preserves_DwoKernel_DwoKernelIdeal : Prop :=
  True

def algebraic_DwoKernelIdeal_DwoReferenceIdeal [hDwoKernelIdeal : Cert.DwoKernelIdeal.Facts] [hDwoReferenceIdeal : Cert.DwoReferenceIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg)
    (m' : (ℓ : Loc Cert.DwoReferenceIdeal.nD Cert.DwoReferenceIdeal.τ Cert.DwoReferenceIdeal.sig) → Buf (Elt Ideal) ℓ) (g' : Dev Cert.DwoReferenceIdeal.nD → PrngReg), Pre_DwoKernelIdeal m →
    (∀ c : Dev Cert.DwoKernelIdeal.nD,
      m' ((c.tc : Thread Cert.DwoReferenceIdeal.nD Cert.DwoReferenceIdeal.τ).loc Cert.DwoReferenceIdeal.main_arg0) = m ((c.tc : Thread Cert.DwoKernelIdeal.nD Cert.DwoKernelIdeal.τ).loc Cert.DwoKernelIdeal.main_arg0)
      ∧ m' ((c.tc : Thread Cert.DwoReferenceIdeal.nD Cert.DwoReferenceIdeal.τ).loc Cert.DwoReferenceIdeal.main_arg1) = m ((c.tc : Thread Cert.DwoKernelIdeal.nD Cert.DwoKernelIdeal.τ).loc Cert.DwoKernelIdeal.main_arg1)) →
    ∃ (v0 : (c : Dev Cert.DwoKernelIdeal.nD) → Buf (Elt Ideal) ((c.tc : Thread Cert.DwoKernelIdeal.nD Cert.DwoKernelIdeal.τ).loc Cert.DwoKernelIdeal.main_v0)),
      θ_run (Cert.DwoKernelIdeal.defs (F := Ideal)) (onTc (τ := Cert.DwoKernelIdeal.τ) (Cert.DwoKernelIdeal.main (F := Ideal))) ⟨m, fun _ => 0, g⟩ (fun r => ∀ c : Dev Cert.DwoKernelIdeal.nD,
          r.2.mem ((c.tc : Thread Cert.DwoKernelIdeal.nD Cert.DwoKernelIdeal.τ).loc Cert.DwoKernelIdeal.main_v0) = v0 c
          ∧ r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
          ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1))
      ∧ θ_run (Cert.DwoReferenceIdeal.defs (F := Ideal)) (onTc (τ := Cert.DwoReferenceIdeal.τ) (Cert.DwoReferenceIdeal.main (F := Ideal))) ⟨m', fun _ => 0, g'⟩ (fun r => ∀ c : Dev Cert.DwoReferenceIdeal.nD,
          r.2.mem ((c.tc : Thread Cert.DwoReferenceIdeal.nD Cert.DwoReferenceIdeal.τ).loc Cert.DwoReferenceIdeal.main_v7) = v0 c
          ∧ r.2.mem ((c.tc : Thread Cert.DwoReferenceIdeal.nD Cert.DwoReferenceIdeal.τ).loc Cert.DwoReferenceIdeal.main_arg0) = m' ((c.tc : Thread Cert.DwoReferenceIdeal.nD Cert.DwoReferenceIdeal.τ).loc Cert.DwoReferenceIdeal.main_arg0)
          ∧ r.2.mem ((c.tc : Thread Cert.DwoReferenceIdeal.nD Cert.DwoReferenceIdeal.τ).loc Cert.DwoReferenceIdeal.main_arg1) = m' ((c.tc : Thread Cert.DwoReferenceIdeal.nD Cert.DwoReferenceIdeal.τ).loc Cert.DwoReferenceIdeal.main_arg1))

def preserves_MgbKernel_MgbKernelIdeal : Prop :=
  True

def algebraic_MgbKernelIdeal_MgbReferenceIdeal [hMgbKernelIdeal : Cert.MgbKernelIdeal.Facts] [hMgbReferenceIdeal : Cert.MgbReferenceIdeal.Facts] : Prop :=
  ∀ (m : (ℓ : Loc Cert.MgbKernelIdeal.nD Cert.MgbKernelIdeal.τ Cert.MgbKernelIdeal.sig) → Buf (Elt Ideal) ℓ) (g : Dev Cert.MgbKernelIdeal.nD → PrngReg)
    (m' : (ℓ : Loc Cert.MgbReferenceIdeal.nD Cert.MgbReferenceIdeal.τ Cert.MgbReferenceIdeal.sig) → Buf (Elt Ideal) ℓ) (g' : Dev Cert.MgbReferenceIdeal.nD → PrngReg), Pre_MgbKernelIdeal m →
    (∀ c : Dev Cert.MgbKernelIdeal.nD,
      m' ((c.tc : Thread Cert.MgbReferenceIdeal.nD Cert.MgbReferenceIdeal.τ).loc Cert.MgbReferenceIdeal.main_arg0) = m ((c.tc : Thread Cert.MgbKernelIdeal.nD Cert.MgbKernelIdeal.τ).loc Cert.MgbKernelIdeal.main_arg0)
      ∧ m' ((c.tc : Thread Cert.MgbReferenceIdeal.nD Cert.MgbReferenceIdeal.τ).loc Cert.MgbReferenceIdeal.main_arg1) = m ((c.tc : Thread Cert.MgbKernelIdeal.nD Cert.MgbKernelIdeal.τ).loc Cert.MgbKernelIdeal.main_arg1)
      ∧ m' ((c.tc : Thread Cert.MgbReferenceIdeal.nD Cert.MgbReferenceIdeal.τ).loc Cert.MgbReferenceIdeal.main_arg2) = m ((c.tc : Thread Cert.MgbKernelIdeal.nD Cert.MgbKernelIdeal.τ).loc Cert.MgbKernelIdeal.main_arg2)
      ∧ m' ((c.tc : Thread Cert.MgbReferenceIdeal.nD Cert.MgbReferenceIdeal.τ).loc Cert.MgbReferenceIdeal.main_arg3) = m ((c.tc : Thread Cert.MgbKernelIdeal.nD Cert.MgbKernelIdeal.τ).loc Cert.MgbKernelIdeal.main_arg3)
      ∧ m' ((c.tc : Thread Cert.MgbReferenceIdeal.nD Cert.MgbReferenceIdeal.τ).loc Cert.MgbReferenceIdeal.main_arg4) = m ((c.tc : Thread Cert.MgbKernelIdeal.nD Cert.MgbKernelIdeal.τ).loc Cert.MgbKernelIdeal.main_arg4)
      ∧ m' ((c.tc : Thread Cert.MgbReferenceIdeal.nD Cert.MgbReferenceIdeal.τ).loc Cert.MgbReferenceIdeal.main_arg5) = m ((c.tc : Thread Cert.MgbKernelIdeal.nD Cert.MgbKernelIdeal.τ).loc Cert.MgbKernelIdeal.main_arg5)
      ∧ m' ((c.tc : Thread Cert.MgbReferenceIdeal.nD Cert.MgbReferenceIdeal.τ).loc Cert.MgbReferenceIdeal.main_arg6) = m ((c.tc : Thread Cert.MgbKernelIdeal.nD Cert.MgbKernelIdeal.τ).loc Cert.MgbKernelIdeal.main_arg6)
      ∧ m' ((c.tc : Thread Cert.MgbReferenceIdeal.nD Cert.MgbReferenceIdeal.τ).loc Cert.MgbReferenceIdeal.main_arg7) = m ((c.tc : Thread Cert.MgbKernelIdeal.nD Cert.MgbKernelIdeal.τ).loc Cert.MgbKernelIdeal.main_arg7)
      ∧ m' ((c.tc : Thread Cert.MgbReferenceIdeal.nD Cert.MgbReferenceIdeal.τ).loc Cert.MgbReferenceIdeal.main_arg8) = m ((c.tc : Thread Cert.MgbKernelIdeal.nD Cert.MgbKernelIdeal.τ).loc Cert.MgbKernelIdeal.main_arg8)) →
    ∃ (v0 : (c : Dev Cert.MgbKernelIdeal.nD) → Buf (Elt Ideal) ((c.tc : Thread Cert.MgbKernelIdeal.nD Cert.MgbKernelIdeal.τ).loc Cert.MgbKernelIdeal.main_v12_0)) (v1 : (c : Dev Cert.MgbKernelIdeal.nD) → Buf (Elt Ideal) ((c.tc : Thread Cert.MgbKernelIdeal.nD Cert.MgbKernelIdeal.τ).loc Cert.MgbKernelIdeal.main_v12_1)) (v2 : (c : Dev Cert.MgbKernelIdeal.nD) → Buf (Elt Ideal) ((c.tc : Thread Cert.MgbKernelIdeal.nD Cert.MgbKernelIdeal.τ).loc Cert.MgbKernelIdeal.main_v13)) (v3 : (c : Dev Cert.MgbKernelIdeal.nD) → Buf (Elt Ideal) ((c.tc : Thread Cert.MgbKernelIdeal.nD Cert.MgbKernelIdeal.τ).loc Cert.MgbKernelIdeal.main_v12_3)) (v4 : (c : Dev Cert.MgbKernelIdeal.nD) → Buf (Elt Ideal) ((c.tc : Thread Cert.MgbKernelIdeal.nD Cert.MgbKernelIdeal.τ).loc Cert.MgbKernelIdeal.main_v14)) (v5 : (c : Dev Cert.MgbKernelIdeal.nD) → Buf (Elt Ideal) ((c.tc : Thread Cert.MgbKernelIdeal.nD Cert.MgbKernelIdeal.τ).loc Cert.MgbKernelIdeal.main_v15)) (v6 : (c : Dev Cert.MgbKernelIdeal.nD) → Buf (Elt Ideal) ((c.tc : Thread Cert.MgbKernelIdeal.nD Cert.MgbKernelIdeal.τ).loc Cert.MgbKernelIdeal.main_v12_6)),
      θ_run (Cert.MgbKernelIdeal.defs (F := Ideal)) (onTc (τ := Cert.MgbKernelIdeal.τ) (Cert.MgbKernelIdeal.main (F := Ideal))) ⟨m, fun _ => 0, g⟩ (fun r => ∀ c : Dev Cert.MgbKernelIdeal.nD,
          r.2.mem ((c.tc : Thread Cert.MgbKernelIdeal.nD Cert.MgbKernelIdeal.τ).loc Cert.MgbKernelIdeal.main_v12_0) = v0 c
          ∧ r.2.mem ((c.tc : Thread Cert.MgbKernelIdeal.nD Cert.MgbKernelIdeal.τ).loc Cert.MgbKernelIdeal.main_v12_1) = v1 c
          ∧ r.2.mem ((c.tc : Thread Cert.MgbKernelIdeal.nD Cert.MgbKernelIdeal.τ).loc Cert.MgbKernelIdeal.main_v13) = v2 c
          ∧ r.2.mem ((c.tc : Thread Cert.MgbKernelIdeal.nD Cert.MgbKernelIdeal.τ).loc Cert.MgbKernelIdeal.main_v12_3) = v3 c
          ∧ r.2.mem ((c.tc : Thread Cert.MgbKernelIdeal.nD Cert.MgbKernelIdeal.τ).loc Cert.MgbKernelIdeal.main_v14) = v4 c
          ∧ r.2.mem ((c.tc : Thread Cert.MgbKernelIdeal.nD Cert.MgbKernelIdeal.τ).loc Cert.MgbKernelIdeal.main_v15) = v5 c
          ∧ r.2.mem ((c.tc : Thread Cert.MgbKernelIdeal.nD Cert.MgbKernelIdeal.τ).loc Cert.MgbKernelIdeal.main_v12_6) = v6 c
          ∧ r.2.mem ((c.tc : Thread Cert.MgbKernelIdeal.nD Cert.MgbKernelIdeal.τ).loc Cert.MgbKernelIdeal.main_arg0) = m ((c.tc : Thread Cert.MgbKernelIdeal.nD Cert.MgbKernelIdeal.τ).loc Cert.MgbKernelIdeal.main_arg0)
          ∧ r.2.mem ((c.tc : Thread Cert.MgbKernelIdeal.nD Cert.MgbKernelIdeal.τ).loc Cert.MgbKernelIdeal.main_arg1) = m ((c.tc : Thread Cert.MgbKernelIdeal.nD Cert.MgbKernelIdeal.τ).loc Cert.MgbKernelIdeal.main_arg1)
          ∧ r.2.mem ((c.tc : Thread Cert.MgbKernelIdeal.nD Cert.MgbKernelIdeal.τ).loc Cert.MgbKernelIdeal.main_arg2) = m ((c.tc : Thread Cert.MgbKernelIdeal.nD Cert.MgbKernelIdeal.τ).loc Cert.MgbKernelIdeal.main_arg2)
          ∧ r.2.mem ((c.tc : Thread Cert.MgbKernelIdeal.nD Cert.MgbKernelIdeal.τ).loc Cert.MgbKernelIdeal.main_arg3) = m ((c.tc : Thread Cert.MgbKernelIdeal.nD Cert.MgbKernelIdeal.τ).loc Cert.MgbKernelIdeal.main_arg3)
          ∧ r.2.mem ((c.tc : Thread Cert.MgbKernelIdeal.nD Cert.MgbKernelIdeal.τ).loc Cert.MgbKernelIdeal.main_arg4) = m ((c.tc : Thread Cert.MgbKernelIdeal.nD Cert.MgbKernelIdeal.τ).loc Cert.MgbKernelIdeal.main_arg4)
          ∧ r.2.mem ((c.tc : Thread Cert.MgbKernelIdeal.nD Cert.MgbKernelIdeal.τ).loc Cert.MgbKernelIdeal.main_arg5) = m ((c.tc : Thread Cert.MgbKernelIdeal.nD Cert.MgbKernelIdeal.τ).loc Cert.MgbKernelIdeal.main_arg5)
          ∧ r.2.mem ((c.tc : Thread Cert.MgbKernelIdeal.nD Cert.MgbKernelIdeal.τ).loc Cert.MgbKernelIdeal.main_arg6) = m ((c.tc : Thread Cert.MgbKernelIdeal.nD Cert.MgbKernelIdeal.τ).loc Cert.MgbKernelIdeal.main_arg6)
          ∧ r.2.mem ((c.tc : Thread Cert.MgbKernelIdeal.nD Cert.MgbKernelIdeal.τ).loc Cert.MgbKernelIdeal.main_arg7) = m ((c.tc : Thread Cert.MgbKernelIdeal.nD Cert.MgbKernelIdeal.τ).loc Cert.MgbKernelIdeal.main_arg7)
          ∧ r.2.mem ((c.tc : Thread Cert.MgbKernelIdeal.nD Cert.MgbKernelIdeal.τ).loc Cert.MgbKernelIdeal.main_arg8) = m ((c.tc : Thread Cert.MgbKernelIdeal.nD Cert.MgbKernelIdeal.τ).loc Cert.MgbKernelIdeal.main_arg8))
      ∧ θ_run (Cert.MgbReferenceIdeal.defs (F := Ideal)) (onTc (τ := Cert.MgbReferenceIdeal.τ) (Cert.MgbReferenceIdeal.main (F := Ideal))) ⟨m', fun _ => 0, g'⟩ (fun r => ∀ c : Dev Cert.MgbReferenceIdeal.nD,
          r.2.mem ((c.tc : Thread Cert.MgbReferenceIdeal.nD Cert.MgbReferenceIdeal.τ).loc Cert.MgbReferenceIdeal.main_v51) = v0 c
          ∧ r.2.mem ((c.tc : Thread Cert.MgbReferenceIdeal.nD Cert.MgbReferenceIdeal.τ).loc Cert.MgbReferenceIdeal.main_v52) = v1 c
          ∧ r.2.mem ((c.tc : Thread Cert.MgbReferenceIdeal.nD Cert.MgbReferenceIdeal.τ).loc Cert.MgbReferenceIdeal.main_v71) = v2 c
          ∧ r.2.mem ((c.tc : Thread Cert.MgbReferenceIdeal.nD Cert.MgbReferenceIdeal.τ).loc Cert.MgbReferenceIdeal.main_v56) = v3 c
          ∧ r.2.mem ((c.tc : Thread Cert.MgbReferenceIdeal.nD Cert.MgbReferenceIdeal.τ).loc Cert.MgbReferenceIdeal.main_v72) = v4 c
          ∧ r.2.mem ((c.tc : Thread Cert.MgbReferenceIdeal.nD Cert.MgbReferenceIdeal.τ).loc Cert.MgbReferenceIdeal.main_v69) = v5 c
          ∧ r.2.mem ((c.tc : Thread Cert.MgbReferenceIdeal.nD Cert.MgbReferenceIdeal.τ).loc Cert.MgbReferenceIdeal.main_v75) = v6 c
          ∧ r.2.mem ((c.tc : Thread Cert.MgbReferenceIdeal.nD Cert.MgbReferenceIdeal.τ).loc Cert.MgbReferenceIdeal.main_arg0) = m' ((c.tc : Thread Cert.MgbReferenceIdeal.nD Cert.MgbReferenceIdeal.τ).loc Cert.MgbReferenceIdeal.main_arg0)
          ∧ r.2.mem ((c.tc : Thread Cert.MgbReferenceIdeal.nD Cert.MgbReferenceIdeal.τ).loc Cert.MgbReferenceIdeal.main_arg1) = m' ((c.tc : Thread Cert.MgbReferenceIdeal.nD Cert.MgbReferenceIdeal.τ).loc Cert.MgbReferenceIdeal.main_arg1)
          ∧ r.2.mem ((c.tc : Thread Cert.MgbReferenceIdeal.nD Cert.MgbReferenceIdeal.τ).loc Cert.MgbReferenceIdeal.main_arg2) = m' ((c.tc : Thread Cert.MgbReferenceIdeal.nD Cert.MgbReferenceIdeal.τ).loc Cert.MgbReferenceIdeal.main_arg2)
          ∧ r.2.mem ((c.tc : Thread Cert.MgbReferenceIdeal.nD Cert.MgbReferenceIdeal.τ).loc Cert.MgbReferenceIdeal.main_arg3) = m' ((c.tc : Thread Cert.MgbReferenceIdeal.nD Cert.MgbReferenceIdeal.τ).loc Cert.MgbReferenceIdeal.main_arg3)
          ∧ r.2.mem ((c.tc : Thread Cert.MgbReferenceIdeal.nD Cert.MgbReferenceIdeal.τ).loc Cert.MgbReferenceIdeal.main_arg4) = m' ((c.tc : Thread Cert.MgbReferenceIdeal.nD Cert.MgbReferenceIdeal.τ).loc Cert.MgbReferenceIdeal.main_arg4)
          ∧ r.2.mem ((c.tc : Thread Cert.MgbReferenceIdeal.nD Cert.MgbReferenceIdeal.τ).loc Cert.MgbReferenceIdeal.main_arg5) = m' ((c.tc : Thread Cert.MgbReferenceIdeal.nD Cert.MgbReferenceIdeal.τ).loc Cert.MgbReferenceIdeal.main_arg5)
          ∧ r.2.mem ((c.tc : Thread Cert.MgbReferenceIdeal.nD Cert.MgbReferenceIdeal.τ).loc Cert.MgbReferenceIdeal.main_arg6) = m' ((c.tc : Thread Cert.MgbReferenceIdeal.nD Cert.MgbReferenceIdeal.τ).loc Cert.MgbReferenceIdeal.main_arg6)
          ∧ r.2.mem ((c.tc : Thread Cert.MgbReferenceIdeal.nD Cert.MgbReferenceIdeal.τ).loc Cert.MgbReferenceIdeal.main_arg7) = m' ((c.tc : Thread Cert.MgbReferenceIdeal.nD Cert.MgbReferenceIdeal.τ).loc Cert.MgbReferenceIdeal.main_arg7)
          ∧ r.2.mem ((c.tc : Thread Cert.MgbReferenceIdeal.nD Cert.MgbReferenceIdeal.τ).loc Cert.MgbReferenceIdeal.main_arg8) = m' ((c.tc : Thread Cert.MgbReferenceIdeal.nD Cert.MgbReferenceIdeal.τ).loc Cert.MgbReferenceIdeal.main_arg8))

def Claim : Prop :=
  ∃ (hConvKernel : Cert.ConvKernel.Facts) (hConvKernelIdeal : Cert.ConvKernelIdeal.Facts) (hConvReferenceIdeal : Cert.ConvReferenceIdeal.Facts) (hAttnKernel : Cert.AttnKernel.Facts) (hAttnKernelIdeal : Cert.AttnKernelIdeal.Facts) (hAttnReferenceIdeal : Cert.AttnReferenceIdeal.Facts) (hFdbKernel : Cert.FdbKernel.Facts) (hFdbKernelIdeal : Cert.FdbKernelIdeal.Facts) (hFdbReferenceIdeal : Cert.FdbReferenceIdeal.Facts) (hFubKernel : Cert.FubKernel.Facts) (hFubKernelIdeal : Cert.FubKernelIdeal.Facts) (hFubReferenceIdeal : Cert.FubReferenceIdeal.Facts) (hDwdKernel : Cert.DwdKernel.Facts) (hDwdKernelIdeal : Cert.DwdKernelIdeal.Facts) (hDwdReferenceIdeal : Cert.DwdReferenceIdeal.Facts) (hDwbKernel : Cert.DwbKernel.Facts) (hDwbKernelIdeal : Cert.DwbKernelIdeal.Facts) (hDwbReferenceIdeal : Cert.DwbReferenceIdeal.Facts) (hDwaKernel : Cert.DwaKernel.Facts) (hDwaKernelIdeal : Cert.DwaKernelIdeal.Facts) (hDwaReferenceIdeal : Cert.DwaReferenceIdeal.Facts) (hMxbKernel : Cert.MxbKernel.Facts) (hMxbKernelIdeal : Cert.MxbKernelIdeal.Facts) (hMxbReferenceIdeal : Cert.MxbReferenceIdeal.Facts) (hDwiKernel : Cert.DwiKernel.Facts) (hDwiKernelIdeal : Cert.DwiKernelIdeal.Facts) (hDwiReferenceIdeal : Cert.DwiReferenceIdeal.Facts) (hFupKernel : Cert.FupKernel.Facts) (hFupKernelIdeal : Cert.FupKernelIdeal.Facts) (hFupReferenceIdeal : Cert.FupReferenceIdeal.Facts) (hMxfKernel : Cert.MxfKernel.Facts) (hMxfKernelIdeal : Cert.MxfKernelIdeal.Facts) (hMxfReferenceIdeal : Cert.MxfReferenceIdeal.Facts) (hDlnKernel : Cert.DlnKernel.Facts) (hDlnKernelIdeal : Cert.DlnKernelIdeal.Facts) (hDlnReferenceIdeal : Cert.DlnReferenceIdeal.Facts) (hMrgKernel : Cert.MrgKernel.Facts) (hMrgKernelIdeal : Cert.MrgKernelIdeal.Facts) (hMrgReferenceIdeal : Cert.MrgReferenceIdeal.Facts) (hDwoKernel : Cert.DwoKernel.Facts) (hDwoKernelIdeal : Cert.DwoKernelIdeal.Facts) (hDwoReferenceIdeal : Cert.DwoReferenceIdeal.Facts) (hMgbKernel : Cert.MgbKernel.Facts) (hMgbKernelIdeal : Cert.MgbKernelIdeal.Facts) (hMgbReferenceIdeal : Cert.MgbReferenceIdeal.Facts) (hPre_attn_finite : Cert.Pre_attn_finite.Facts) (hPre_fdb_finite : Cert.Pre_fdb_finite.Facts),
    quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_FdbKernel (hFdbKernel := hFdbKernel)
    ∧ quiescent_FdbKernelIdeal (hFdbKernelIdeal := hFdbKernelIdeal)
    ∧ quiescent_FdbKernelIdeal_pre_fdb_finite (hFdbKernelIdeal := hFdbKernelIdeal) (hPre_fdb_finite := hPre_fdb_finite)
    ∧ quiescent_FdbReferenceIdeal (hFdbReferenceIdeal := hFdbReferenceIdeal)
    ∧ quiescent_FdbReferenceIdeal_pre_fdb_finite (hFdbReferenceIdeal := hFdbReferenceIdeal) (hPre_fdb_finite := hPre_fdb_finite)
    ∧ quiescent_FubKernel (hFubKernel := hFubKernel)
    ∧ quiescent_FubKernelIdeal (hFubKernelIdeal := hFubKernelIdeal)
    ∧ quiescent_FubReferenceIdeal (hFubReferenceIdeal := hFubReferenceIdeal)
    ∧ quiescent_DwdKernel (hDwdKernel := hDwdKernel)
    ∧ quiescent_DwdKernelIdeal (hDwdKernelIdeal := hDwdKernelIdeal)
    ∧ quiescent_DwdReferenceIdeal (hDwdReferenceIdeal := hDwdReferenceIdeal)
    ∧ quiescent_DwbKernel (hDwbKernel := hDwbKernel)
    ∧ quiescent_DwbKernelIdeal (hDwbKernelIdeal := hDwbKernelIdeal)
    ∧ quiescent_DwbReferenceIdeal (hDwbReferenceIdeal := hDwbReferenceIdeal)
    ∧ quiescent_DwaKernel (hDwaKernel := hDwaKernel)
    ∧ quiescent_DwaKernelIdeal (hDwaKernelIdeal := hDwaKernelIdeal)
    ∧ quiescent_DwaReferenceIdeal (hDwaReferenceIdeal := hDwaReferenceIdeal)
    ∧ quiescent_MxbKernel (hMxbKernel := hMxbKernel)
    ∧ quiescent_MxbKernelIdeal (hMxbKernelIdeal := hMxbKernelIdeal)
    ∧ quiescent_MxbReferenceIdeal (hMxbReferenceIdeal := hMxbReferenceIdeal)
    ∧ quiescent_DwiKernel (hDwiKernel := hDwiKernel)
    ∧ quiescent_DwiKernelIdeal (hDwiKernelIdeal := hDwiKernelIdeal)
    ∧ quiescent_DwiReferenceIdeal (hDwiReferenceIdeal := hDwiReferenceIdeal)
    ∧ quiescent_FupKernel (hFupKernel := hFupKernel)
    ∧ quiescent_FupKernelIdeal (hFupKernelIdeal := hFupKernelIdeal)
    ∧ quiescent_FupReferenceIdeal (hFupReferenceIdeal := hFupReferenceIdeal)
    ∧ quiescent_MxfKernel (hMxfKernel := hMxfKernel)
    ∧ quiescent_MxfKernelIdeal (hMxfKernelIdeal := hMxfKernelIdeal)
    ∧ quiescent_MxfReferenceIdeal (hMxfReferenceIdeal := hMxfReferenceIdeal)
    ∧ quiescent_DlnKernel (hDlnKernel := hDlnKernel)
    ∧ quiescent_DlnKernelIdeal (hDlnKernelIdeal := hDlnKernelIdeal)
    ∧ quiescent_DlnReferenceIdeal (hDlnReferenceIdeal := hDlnReferenceIdeal)
    ∧ quiescent_MrgKernel (hMrgKernel := hMrgKernel)
    ∧ quiescent_MrgKernelIdeal (hMrgKernelIdeal := hMrgKernelIdeal)
    ∧ quiescent_MrgReferenceIdeal (hMrgReferenceIdeal := hMrgReferenceIdeal)
    ∧ quiescent_DwoKernel (hDwoKernel := hDwoKernel)
    ∧ quiescent_DwoKernelIdeal (hDwoKernelIdeal := hDwoKernelIdeal)
    ∧ quiescent_DwoReferenceIdeal (hDwoReferenceIdeal := hDwoReferenceIdeal)
    ∧ quiescent_MgbKernel (hMgbKernel := hMgbKernel)
    ∧ quiescent_MgbKernelIdeal (hMgbKernelIdeal := hMgbKernelIdeal)
    ∧ quiescent_MgbReferenceIdeal (hMgbReferenceIdeal := hMgbReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_FdbKernel_FdbKernelIdeal
    ∧ algebraic_FdbKernelIdeal_FdbReferenceIdeal_pre_fdb_finite (hFdbKernelIdeal := hFdbKernelIdeal) (hFdbReferenceIdeal := hFdbReferenceIdeal) (hPre_fdb_finite := hPre_fdb_finite)
    ∧ preserves_FubKernel_FubKernelIdeal
    ∧ algebraic_FubKernelIdeal_FubReferenceIdeal (hFubKernelIdeal := hFubKernelIdeal) (hFubReferenceIdeal := hFubReferenceIdeal)
    ∧ preserves_DwdKernel_DwdKernelIdeal
    ∧ algebraic_DwdKernelIdeal_DwdReferenceIdeal (hDwdKernelIdeal := hDwdKernelIdeal) (hDwdReferenceIdeal := hDwdReferenceIdeal)
    ∧ preserves_DwbKernel_DwbKernelIdeal
    ∧ algebraic_DwbKernelIdeal_DwbReferenceIdeal (hDwbKernelIdeal := hDwbKernelIdeal) (hDwbReferenceIdeal := hDwbReferenceIdeal)
    ∧ preserves_DwaKernel_DwaKernelIdeal
    ∧ algebraic_DwaKernelIdeal_DwaReferenceIdeal (hDwaKernelIdeal := hDwaKernelIdeal) (hDwaReferenceIdeal := hDwaReferenceIdeal)
    ∧ preserves_MxbKernel_MxbKernelIdeal
    ∧ algebraic_MxbKernelIdeal_MxbReferenceIdeal (hMxbKernelIdeal := hMxbKernelIdeal) (hMxbReferenceIdeal := hMxbReferenceIdeal)
    ∧ preserves_DwiKernel_DwiKernelIdeal
    ∧ algebraic_DwiKernelIdeal_DwiReferenceIdeal (hDwiKernelIdeal := hDwiKernelIdeal) (hDwiReferenceIdeal := hDwiReferenceIdeal)
    ∧ preserves_FupKernel_FupKernelIdeal
    ∧ algebraic_FupKernelIdeal_FupReferenceIdeal (hFupKernelIdeal := hFupKernelIdeal) (hFupReferenceIdeal := hFupReferenceIdeal)
    ∧ preserves_MxfKernel_MxfKernelIdeal
    ∧ algebraic_MxfKernelIdeal_MxfReferenceIdeal (hMxfKernelIdeal := hMxfKernelIdeal) (hMxfReferenceIdeal := hMxfReferenceIdeal)
    ∧ preserves_DlnKernel_DlnKernelIdeal
    ∧ algebraic_DlnKernelIdeal_DlnReferenceIdeal (hDlnKernelIdeal := hDlnKernelIdeal) (hDlnReferenceIdeal := hDlnReferenceIdeal)
    ∧ preserves_MrgKernel_MrgKernelIdeal
    ∧ algebraic_MrgKernelIdeal_MrgReferenceIdeal (hMrgKernelIdeal := hMrgKernelIdeal) (hMrgReferenceIdeal := hMrgReferenceIdeal)
    ∧ preserves_DwoKernel_DwoKernelIdeal
    ∧ algebraic_DwoKernelIdeal_DwoReferenceIdeal (hDwoKernelIdeal := hDwoKernelIdeal) (hDwoReferenceIdeal := hDwoReferenceIdeal)
    ∧ preserves_MgbKernel_MgbKernelIdeal
    ∧ algebraic_MgbKernelIdeal_MgbReferenceIdeal (hMgbKernelIdeal := hMgbKernelIdeal) (hMgbReferenceIdeal := hMgbReferenceIdeal)
-- ==== Pre_attn_finite.lean ====
abbrev S8448x8x64 : Shape := ⟨3, ![8448, 8, 64]⟩
abbrev S8448x8x32 : Shape := ⟨3, ![8448, 8, 32]⟩
abbrev S8448x32 : Shape := ⟨2, ![8448, 32]⟩
abbrev S_ : Shape := ⟨0, ![]⟩

class Facts : Prop where
  bcast_S_S8448x8x64 : S_.BroadcastsInDim S8448x8x64 (![] : Fin 0 → Fin S8448x8x64.rank)
  reducesTo_S8448x8x64_S_d0_1_2 : S8448x8x64.ReducesTo [0, 1, 2] S_
  h_S_ : 0 < S_.numel
  bcast_S_S8448x8x32 : S_.BroadcastsInDim S8448x8x32 (![] : Fin 0 → Fin S8448x8x32.rank)
  reducesTo_S8448x8x32_S_d0_1_2 : S8448x8x32.ReducesTo [0, 1, 2] S_
  bcast_S_S8448x32 : S_.BroadcastsInDim S8448x32 (![] : Fin 0 → Fin S8448x32.rank)
  reducesTo_S8448x32_S_d0_1 : S8448x32.ReducesTo [0, 1] S_

variable [Facts]

def fn_part1 {F : FTy → Type} [FloatOps F] (main_arg4 : FVec F S8448x8x64 .f32) (main_arg5 : FVec F S8448x8x64 .f32) (main_v13 : IVec S_ 1) (main_v16 : IVec S8448x32 1) : IVec S_ 1 :=
  let main_c_5 : IVec S_ 1 := constantI S_ 1 1#1
  let main_v17 : IVec S_ 1 := (fun x v => Host.reduce IntOp.andi x v reducesTo_S8448x32_S_d0_1 h_S_) main_v16 main_c_5
  let main_v18 : IVec S_ 1 := andi main_v13 main_v17
  let main_v19 : FVec F S8448x8x64 .f32 := Host.absf main_arg4
  let main_cst_6 : FVec F S_ .f32 := constant S_ .f32 0x7F800000#32
  let main_v20 : FVec F S8448x8x64 .f32 := broadcastInDim S8448x8x64 ![] bcast_S_S8448x8x64 main_cst_6
  let main_v21 : IVec S8448x8x64 1 := cmpf .olt main_v19 main_v20
  let main_c_7 : IVec S_ 1 := constantI S_ 1 1#1
  let main_v22 : IVec S_ 1 := (fun x v => Host.reduce IntOp.andi x v reducesTo_S8448x8x64_S_d0_1_2 h_S_) main_v21 main_c_7
  let main_v23 : IVec S_ 1 := andi main_v18 main_v22
  let main_v24 : FVec F S8448x8x64 .f32 := Host.absf main_arg5
  let main_cst_8 : FVec F S_ .f32 := constant S_ .f32 0x7F800000#32
  let main_v25 : FVec F S8448x8x64 .f32 := broadcastInDim S8448x8x64 ![] bcast_S_S8448x8x64 main_cst_8
  let main_v26 : IVec S8448x8x64 1 := cmpf .olt main_v24 main_v25
  let main_c_9 : IVec S_ 1 := constantI S_ 1 1#1
  let main_v27 : IVec S_ 1 := (fun x v => Host.reduce IntOp.andi x v reducesTo_S8448x8x64_S_d0_1_2 h_S_) main_v26 main_c_9
  let main_v28 : IVec S_ 1 := andi main_v23 main_v27
  main_v28

def fn {F : FTy → Type} [FloatOps F] (main_arg0 : FVec F S8448x8x64 .f32) (main_arg1 : FVec F S8448x8x32 .f32) (main_arg2 : FVec F S8448x8x64 .f32) (main_arg3 : FVec F S8448x32 .f32) (main_arg4 : FVec F S8448x8x64 .f32) (main_arg5 : FVec F S8448x8x64 .f32) : IVec S_ 1 :=
  let main_v0 : FVec F S8448x8x64 .f32 := Host.absf main_arg0
  let main_cst : FVec F S_ .f32 := constant S_ .f32 0x7F800000#32
  let main_v1 : FVec F S8448x8x64 .f32 := broadcastInDim S8448x8x64 ![] bcast_S_S8448x8x64 main_cst
  let main_v2 : IVec S8448x8x64 1 := cmpf .olt main_v0 main_v1
  let main_c : IVec S_ 1 := constantI S_ 1 1#1
  let main_v3 : IVec S_ 1 := (fun x v => Host.reduce IntOp.andi x v reducesTo_S8448x8x64_S_d0_1_2 h_S_) main_v2 main_c
  let main_v4 : FVec F S8448x8x32 .f32 := Host.absf main_arg1
  let main_cst_0 : FVec F S_ .f32 := constant S_ .f32 0x7F800000#32
  let main_v5 : FVec F S8448x8x32 .f32 := broadcastInDim S8448x8x32 ![] bcast_S_S8448x8x32 main_cst_0
  let main_v6 : IVec S8448x8x32 1 := cmpf .olt main_v4 main_v5
  let main_c_1 : IVec S_ 1 := constantI S_ 1 1#1
  let main_v7 : IVec S_ 1 := (fun x v => Host.reduce IntOp.andi x v reducesTo_S8448x8x32_S_d0_1_2 h_S_) main_v6 main_c_1
  let main_v8 : IVec S_ 1 := andi main_v3 main_v7
  let main_v9 : FVec F S8448x8x64 .f32 := Host.absf main_arg2
  let main_cst_2 : FVec F S_ .f32 := constant S_ .f32 0x7F800000#32
  let main_v10 : FVec F S8448x8x64 .f32 := broadcastInDim S8448x8x64 ![] bcast_S_S8448x8x64 main_cst_2
  let main_v11 : IVec S8448x8x64 1 := cmpf .olt main_v9 main_v10
  let main_c_3 : IVec S_ 1 := constantI S_ 1 1#1
  let main_v12 : IVec S_ 1 := (fun x v => Host.reduce IntOp.andi x v reducesTo_S8448x8x64_S_d0_1_2 h_S_) main_v11 main_c_3
  let main_v13 : IVec S_ 1 := andi main_v8 main_v12
  let main_v14 : FVec F S8448x32 .f32 := Host.absf main_arg3
  let main_cst_4 : FVec F S_ .f32 := constant S_ .f32 0x7F800000#32
  let main_v15 : FVec F S8448x32 .f32 := broadcastInDim S8448x32 ![] bcast_S_S8448x32 main_cst_4
  let main_v16 : IVec S8448x32 1 := cmpf .olt main_v14 main_v15
  fn_part1 (F := F) main_arg4 main_arg5 main_v13 main_v16
-- ==== Pre_fdb_finite.lean ====
abbrev S8448x1024 : Shape := ⟨2, ![8448, 1024]⟩
abbrev S8448x2816 : Shape := ⟨2, ![8448, 2816]⟩
abbrev S2816x1024 : Shape := ⟨2, ![2816, 1024]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8448x2816 : S_.BroadcastsInDim S8448x2816 (![] : Fin 0 → Fin S8448x2816.rank)
  reducesTo_S8448x2816_S_d0_1 : S8448x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S8448x1024 .bf16) (main_arg1 : FVec F S8448x2816 .bf16) (main_arg2 : FVec F S8448x2816 .bf16) (main_arg3 : FVec F S2816x1024 .f32) : IVec S_ 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_c : IVec S_ 1 := constantI S_ 1 1#1
  let main_v4 : IVec S_ 1 := (fun x v => Host.reduce IntOp.andi x v reducesTo_S8448x1024_S_d0_1 h_S_) main_v3 main_c
  let main_v5 : FVec F S8448x2816 .f32 := (extf .f32 · bitsLt_bf16_f32) main_arg2
  let main_v6 : FVec F S8448x2816 .f32 := Host.absf main_v5
  let main_cst_0 : FVec F S_ .f32 := constant S_ .f32 0x7F800000#32
  let main_v7 : FVec F S8448x2816 .f32 := broadcastInDim S8448x2816 ![] bcast_S_S8448x2816 main_cst_0
  let main_v8 : IVec S8448x2816 1 := cmpf .olt main_v6 main_v7
  let main_c_1 : IVec S_ 1 := constantI S_ 1 1#1
  let main_v9 : IVec S_ 1 := (fun x v => Host.reduce IntOp.andi x v reducesTo_S8448x2816_S_d0_1 h_S_) main_v8 main_c_1
  let main_v10 : IVec S_ 1 := andi main_v4 main_v9
  let main_v11 : FVec F S2816x1024 .f32 := Host.absf main_arg3
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v10 main_v14
  main_v15
-- ==== ConvKernel.lean ====
abbrev S8448x512 : Shape := ⟨2, ![8448, 512]⟩
abbrev S8448x4096 : Shape := ⟨2, ![8448, 4096]⟩
abbrev S3x512 : Shape := ⟨2, ![3, 512]⟩
abbrev S_ : Shape := ⟨0, ![]⟩
abbrev S2x512 : Shape := ⟨2, ![2, 512]⟩
abbrev S8450x512 : Shape := ⟨2, ![8450, 512]⟩
abbrev S1x512 : Shape := ⟨2, ![1, 512]⟩
abbrev S512 : Shape := ⟨1, ![512]⟩
abbrev S768x512 : Shape := ⟨2, ![768, 512]⟩
abbrev S768x1536 : Shape := ⟨2, ![768, 1536]⟩
abbrev S776x512 : Shape := ⟨2, ![776, 512]⟩
abbrev S8x512 : Shape := ⟨2, ![8, 512]⟩

abbrev nBuf : Space → Nat
  | .hbm => 37
  | .vmem => 17
  | .smem => 0
  | _ => 0

abbrev bufTy : (tb : Table) → Fin (tcTables nBuf tb) → BufTy
  | .hbm, ⟨0, _⟩ => ⟨S8448x512, .f32⟩
  | .hbm, ⟨1, _⟩ => ⟨S8448x4096, .bf16⟩
  | .hbm, ⟨2, _⟩ => ⟨S3x512, .f32⟩
  | .hbm, ⟨3, _⟩ => ⟨S8448x4096, .bf16⟩
  | .hbm, ⟨4, _⟩ => ⟨S8448x4096, .f32⟩
  | .hbm, ⟨5, _⟩ => ⟨S8448x512, .f32⟩
  | .hbm, ⟨6, _⟩ => ⟨S8448x512, .f32⟩
  | .hbm, ⟨7, _⟩ => ⟨S8448x512, .f32⟩
  | .hbm, ⟨8, _⟩ => ⟨S8448x512, .f32⟩
  | .hbm, ⟨9, _⟩ => ⟨S_, .f32⟩
  | .hbm, ⟨10, _⟩ => ⟨S2x512, .f32⟩
  | .hbm, ⟨11, _⟩ => ⟨S8450x512, .f32⟩
  | .hbm, ⟨12, _⟩ => ⟨S8448x512, .f32⟩
  | .hbm, ⟨13, _⟩ => ⟨S1x512, .f32⟩
  | .hbm, ⟨14, _⟩ => ⟨S512, .f32⟩
  | .hbm, ⟨15, _⟩ => ⟨S1x512, .f32⟩
  | .hbm, ⟨16, _⟩ => ⟨S8448x512, .f32⟩
  | .hbm, ⟨17, _⟩ => ⟨S8448x512, .f32⟩
  | .hbm, ⟨18, _⟩ => ⟨S8448x512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S8448x512, .f32⟩
  | .hbm, ⟨23, _⟩ => ⟨S8448x512, .f32⟩
  | .hbm, ⟨24, _⟩ => ⟨S8448x512, .f32⟩
  | .hbm, ⟨25, _⟩ => ⟨S8448x512, .f32⟩
  | .hbm, ⟨26, _⟩ => ⟨S1x512, .f32⟩
  | .hbm, ⟨27, _⟩ => ⟨S512, .f32⟩
  | .hbm, ⟨28, _⟩ => ⟨S1x512, .f32⟩
  | .hbm, ⟨29, _⟩ => ⟨S8448x512, .f32⟩
  | .hbm, ⟨30, _⟩ => ⟨S8448x512, .f32⟩
  | .hbm, ⟨31, _⟩ => ⟨S8448x512, .f32⟩
  | .hbm, ⟨32, _⟩ => ⟨S8448x512, .bf16⟩
  | .hbm, ⟨33, _⟩ => ⟨S8448x4096, .bf16⟩
  | .hbm, ⟨34, _⟩ => ⟨S1x512, .f32⟩
  | .hbm, ⟨35, _⟩ => ⟨S1x512, .f32⟩
  | .hbm, ⟨36, _⟩ => ⟨S1x512, .f32⟩
  | .local _ .vmem, ⟨0, _⟩ => ⟨S768x512, .f32⟩
  | .local _ .vmem, ⟨1, _⟩ => ⟨S768x512, .f32⟩
  | .local _ .vmem, ⟨2, _⟩ => ⟨S768x512, .bf16⟩
  | .local _ .vmem, ⟨3, _⟩ => ⟨S768x512, .bf16⟩
  | .local _ .vmem, ⟨4, _⟩ => ⟨S768x512, .bf16⟩
  | .local _ .vmem, ⟨5, _⟩ => ⟨S768x512, .bf16⟩
  | .local _ .vmem, ⟨6, _⟩ => ⟨S768x512, .bf16⟩
  | .local _ .vmem, ⟨7, _⟩ => ⟨S768x512, .bf16⟩
  | .local _ .vmem, ⟨8, _⟩ => ⟨S768x512, .bf16⟩
  | .local _ .vmem, ⟨9, _⟩ => ⟨S768x512, .bf16⟩
  | .local _ .vmem, ⟨10, _⟩ => ⟨S3x512, .f32⟩
  | .local _ .vmem, ⟨11, _⟩ => ⟨S768x1536, .bf16⟩
  | .local _ .vmem, ⟨12, _⟩ => ⟨S768x1536, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S776x512, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev main_v28_2 : Ref sig .tc := ⟨.hbm, 35, rfl⟩
abbrev main_v28_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c10_i32 : BitVec 32 := 10#32
  let v0 : BitVec 32 := Scalar.subi c10_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c10_i32 : BitVec 32 := 10#32
  let v0 : BitVec 32 := Scalar.subi c10_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvReferenceIdeal.lean ====
abbrev S8448x512 : Shape := ⟨2, ![8448, 512]⟩
abbrev S8448x4096 : Shape := ⟨2, ![8448, 4096]⟩
abbrev S3x512 : Shape := ⟨2, ![3, 512]⟩
abbrev S_ : Shape := ⟨0, ![]⟩
abbrev S2x512 : Shape := ⟨2, ![2, 512]⟩
abbrev S8450x512 : Shape := ⟨2, ![8450, 512]⟩
abbrev S1x512 : Shape := ⟨2, ![1, 512]⟩
abbrev S512 : Shape := ⟨1, ![512]⟩
abbrev S8448x2560 : Shape := ⟨2, ![8448, 2560]⟩

abbrev nBuf : Space → Nat
  | .hbm => 92
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x4096, .bf16⟩
  | .hbm, ⟨2, _⟩ => ⟨S3x512, .f32⟩
  | .hbm, ⟨3, _⟩ => ⟨S8448x4096, .bf16⟩
  | .hbm, ⟨4, _⟩ => ⟨S8448x4096, .f32⟩
  | .hbm, ⟨5, _⟩ => ⟨S8448x512, .f32⟩
  | .hbm, ⟨6, _⟩ => ⟨S8448x512, .f32⟩
  | .hbm, ⟨7, _⟩ => ⟨S8448x512, .f32⟩
  | .hbm, ⟨8, _⟩ => ⟨S8448x512, .f32⟩
  | .hbm, ⟨9, _⟩ => ⟨S_, .f32⟩
  | .hbm, ⟨10, _⟩ => ⟨S2x512, .f32⟩
  | .hbm, ⟨11, _⟩ => ⟨S8450x512, .f32⟩
  | .hbm, ⟨12, _⟩ => ⟨S_, .f32⟩
  | .hbm, ⟨13, _⟩ => ⟨S2x512, .f32⟩
  | .hbm, ⟨14, _⟩ => ⟨S8448x512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S8448x512, .f32⟩
  | .hbm, ⟨19, _⟩ => ⟨S8448x512, .f32⟩
  | .hbm, ⟨20, _⟩ => ⟨S8448x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S8448x512, .f32⟩
  | .hbm, ⟨25, _⟩ => ⟨S8448x512, .f32⟩
  | .hbm, ⟨26, _⟩ => ⟨S8448x512, .f32⟩
  | .hbm, ⟨27, _⟩ => ⟨S8448x512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S8448x512, .f32⟩
  | .hbm, ⟨32, _⟩ => ⟨S8448x512, .f32⟩
  | .hbm, ⟨33, _⟩ => ⟨S8448x512, .f32⟩
  | .hbm, ⟨34, _⟩ => ⟨S8448x512, .f32⟩
  | .hbm, ⟨35, _⟩ => ⟨S8448x512, .f32⟩
  | .hbm, ⟨36, _⟩ => ⟨S8448x512, .f32⟩
  | .hbm, ⟨37, _⟩ => ⟨S8448x512, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S8448x512, .f32⟩
  | .hbm, ⟨42, _⟩ => ⟨S8448x512, .f32⟩
  | .hbm, ⟨43, _⟩ => ⟨S_, .f32⟩
  | .hbm, ⟨44, _⟩ => ⟨S512, .f32⟩
  | .hbm, ⟨45, _⟩ => ⟨S1x512, .f32⟩
  | .hbm, ⟨46, _⟩ => ⟨S_, .f32⟩
  | .hbm, ⟨47, _⟩ => ⟨S3x512, .f32⟩
  | .hbm, ⟨48, _⟩ => ⟨S_, .f32⟩
  | .hbm, ⟨49, _⟩ => ⟨S8450x512, .f32⟩
  | .hbm, ⟨50, _⟩ => ⟨S8448x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S8448x512, .f32⟩
  | .hbm, ⟨55, _⟩ => ⟨S8448x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S_, .f32⟩
  | .hbm, ⟨60, _⟩ => ⟨S3x512, .f32⟩
  | .hbm, ⟨61, _⟩ => ⟨S3x512, .f32⟩
  | .hbm, ⟨62, _⟩ => ⟨S_, .f32⟩
  | .hbm, ⟨63, _⟩ => ⟨S8450x512, .f32⟩
  | .hbm, ⟨64, _⟩ => ⟨S8450x512, .f32⟩
  | .hbm, ⟨65, _⟩ => ⟨S8448x512, .f32⟩
  | .hbm, ⟨66, _⟩ => ⟨S_, .f32⟩
  | .hbm, ⟨67, _⟩ => ⟨S512, .f32⟩
  | .hbm, ⟨68, _⟩ => ⟨S1x512, .f32⟩
  | .hbm, ⟨69, _⟩ => ⟨S8448x512, .f32⟩
  | .hbm, ⟨70, _⟩ => ⟨S8448x512, .f32⟩
  | .hbm, ⟨71, _⟩ => ⟨S_, .f32⟩
  | .hbm, ⟨72, _⟩ => ⟨S512, .f32⟩
  | .hbm, ⟨73, _⟩ => ⟨S1x512, .f32⟩
  | .hbm, ⟨74, _⟩ => ⟨S_, .f32⟩
  | .hbm, ⟨75, _⟩ => ⟨S3x512, .f32⟩
  | .hbm, ⟨76, _⟩ => ⟨S3x512, .f32⟩
  | .hbm, ⟨77, _⟩ => ⟨S_, .f32⟩
  | .hbm, ⟨78, _⟩ => ⟨S8450x512, .f32⟩
  | .hbm, ⟨79, _⟩ => ⟨S8450x512, .f32⟩
  | .hbm, ⟨80, _⟩ => ⟨S2x512, .f32⟩
  | .hbm, ⟨81, _⟩ => ⟨S8448x512, .f32⟩
  | .hbm, ⟨82, _⟩ => ⟨S8448x512, .f32⟩
  | .hbm, ⟨83, _⟩ => ⟨S8448x512, .f32⟩
  | .hbm, ⟨84, _⟩ => ⟨S8448x512, .bf16⟩
  | .hbm, ⟨85, _⟩ => ⟨S8448x512, .bf16⟩
  | .hbm, ⟨86, _⟩ => ⟨S8448x512, .bf16⟩
  | .hbm, ⟨87, _⟩ => ⟨S8448x2560, .bf16⟩
  | .hbm, ⟨88, _⟩ => ⟨S8448x4096, .bf16⟩
  | .hbm, ⟨89, _⟩ => ⟨S1x512, .f32⟩
  | .hbm, ⟨90, _⟩ => ⟨S1x512, .f32⟩
  | .hbm, ⟨91, _⟩ => ⟨S1x512, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== AttnKernel.lean ====
abbrev S8448x8x64 : Shape := ⟨3, ![8448, 8, 64]⟩
abbrev S8448x8x32 : Shape := ⟨3, ![8448, 8, 32]⟩
abbrev S8448x32 : Shape := ⟨2, ![8448, 32]⟩
abbrev S8448 : Shape := ⟨1, ![8448]⟩
abbrev S8x8448x8448 : Shape := ⟨3, ![8, 8448, 8448]⟩
abbrev S8448x8448x8 : Shape := ⟨3, ![8448, 8448, 8]⟩
abbrev S_ : Shape := ⟨0, ![]⟩
abbrev S1x1x8448 : Shape := ⟨3, ![1, 1, 8448]⟩
abbrev S1x8448x1 : Shape := ⟨3, ![1, 8448, 1]⟩
abbrev S1x8448x8448 : Shape := ⟨3, ![1, 8448, 8448]⟩
abbrev S8x8448 : Shape := ⟨2, ![8, 8448]⟩
abbrev S8x8448x1 : Shape := ⟨3, ![8, 8448, 1]⟩
abbrev S8x64x8448 : Shape := ⟨3, ![8, 64, 8448]⟩
abbrev S8448x8x96 : Shape := ⟨3, ![8448, 8, 96]⟩
abbrev S8448x8x256 : Shape := ⟨3, ![8448, 8, 256]⟩
abbrev S8448x2048 : Shape := ⟨2, ![8448, 2048]⟩
abbrev S8448x8x128 : Shape := ⟨3, ![8448, 8, 128]⟩
abbrev S8448x1024 : Shape := ⟨2, ![8448, 1024]⟩
abbrev S8448x96 : Shape := ⟨2, ![8448, 96]⟩
abbrev S8448x128 : Shape := ⟨2, ![8448, 128]⟩
abbrev S8448x8 : Shape := ⟨2, ![8448, 8]⟩
abbrev S8448x8x1 : Shape := ⟨3, ![8448, 8, 1]⟩
abbrev S768x256 : Shape := ⟨2, ![768, 256]⟩
abbrev S768x128 : Shape := ⟨2, ![768, 128]⟩
abbrev S768x768 : Shape := ⟨2, ![768, 768]⟩

abbrev nBuf : Space → Nat
  | .hbm => 92
  | .vmem => 21
  | .smem => 0
  | _ => 0

abbrev bufTy : (tb : Table) → Fin (tcTables nBuf tb) → BufTy
  | .hbm, ⟨0, _⟩ => ⟨S8448x8x64, .f32⟩
  | .hbm, ⟨1, _⟩ => ⟨S8448x8x32, .f32⟩
  | .hbm, ⟨2, _⟩ => ⟨S8448x8x64, .f32⟩
  | .hbm, ⟨3, _⟩ => ⟨S8448x32, .f32⟩
  | .hbm, ⟨4, _⟩ => ⟨S8448x8x64, .f32⟩
  | .hbm, ⟨5, _⟩ => ⟨S8448x8x64, .f32⟩
  | .hbm, ⟨6, _⟩ => ⟨S8448, .i32⟩
  | .hbm, ⟨7, _⟩ => ⟨S8x8448x8448, .f32⟩
  | .hbm, ⟨8, _⟩ => ⟨S8448x8448x8, .f32⟩
  | .hbm, ⟨9, _⟩ => ⟨S8x8448x8448, .f32⟩
  | .hbm, ⟨10, _⟩ => ⟨S8x8448x8448, .f32⟩
  | .hbm, ⟨11, _⟩ => ⟨S_, .f32⟩
  | .hbm, ⟨12, _⟩ => ⟨S8x8448x8448, .f32⟩
  | .hbm, ⟨13, _⟩ => ⟨S8x8448x8448, .f32⟩
  | .hbm, ⟨14, _⟩ => ⟨S1x1x8448, .i32⟩
  | .hbm, ⟨15, _⟩ => ⟨S1x8448x1, .i32⟩
  | .hbm, ⟨16, _⟩ => ⟨S1x8448x8448, .i32⟩
  | .hbm, ⟨17, _⟩ => ⟨S1x8448x8448, .i32⟩
  | .hbm, ⟨18, _⟩ => ⟨S1x8448x8448, .i1⟩
  | .hbm, ⟨19, _⟩ => ⟨S_, .f32⟩
  | .hbm, ⟨20, _⟩ => ⟨S_, .f32⟩
  | .hbm, ⟨21, _⟩ => ⟨S8x8448x8448, .i1⟩
  | .hbm, ⟨22, _⟩ => ⟨S8x8448x8448, .f32⟩
  | .hbm, ⟨23, _⟩ => ⟨S8x8448x8448, .f32⟩
  | .hbm, ⟨24, _⟩ => ⟨S_, .f32⟩
  | .hbm, ⟨25, _⟩ => ⟨S8x8448, .f32⟩
  | .hbm, ⟨26, _⟩ => ⟨S8x8448x1, .f32⟩
  | .hbm, ⟨27, _⟩ => ⟨S8x8448x8448, .f32⟩
  | .hbm, ⟨28, _⟩ => ⟨S8x8448x8448, .f32⟩
  | .hbm, ⟨29, _⟩ => ⟨S8x8448x8448, .f32⟩
  | .hbm, ⟨30, _⟩ => ⟨S_, .f32⟩
  | .hbm, ⟨31, _⟩ => ⟨S8x8448, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x8448, .f32⟩
  | .hbm, ⟨39, _⟩ => ⟨S8x8448, .f32⟩
  | .hbm, ⟨40, _⟩ => ⟨S8x8448, .f32⟩
  | .hbm, ⟨41, _⟩ => ⟨S8x8448, .f32⟩
  | .hbm, ⟨42, _⟩ => ⟨S8x8448x1, .f32⟩
  | .hbm, ⟨43, _⟩ => ⟨S8x8448x8448, .f32⟩
  | .hbm, ⟨44, _⟩ => ⟨S8x8448x8448, .f32⟩
  | .hbm, ⟨45, _⟩ => ⟨S8x64x8448, .f32⟩
  | .hbm, ⟨46, _⟩ => ⟨S8448x8x64, .f32⟩
  | .hbm, ⟨47, _⟩ => ⟨S_, .f32⟩
  | .hbm, ⟨48, _⟩ => ⟨S8448x8x64, .f32⟩
  | .hbm, ⟨49, _⟩ => ⟨S_, .f32⟩
  | .hbm, ⟨50, _⟩ => ⟨S8448x8x96, .f32⟩
  | .hbm, ⟨51, _⟩ => ⟨S8448x8x256, .f32⟩
  | .hbm, ⟨52, _⟩ => ⟨S8448x8x256, .f32⟩
  | .hbm, ⟨53, _⟩ => ⟨S8448x8x256, .f32⟩
  | .hbm, ⟨54, _⟩ => ⟨S8448x2048, .f32⟩
  | .hbm, ⟨55, _⟩ => ⟨S8448x2048, .bf16⟩
  | .hbm, ⟨56, _⟩ => ⟨S8448x8x128, .f32⟩
  | .hbm, ⟨57, _⟩ => ⟨S8448x1024, .f32⟩
  | .hbm, ⟨58, _⟩ => ⟨S8448x1024, .bf16⟩
  | .hbm, ⟨59, _⟩ => ⟨S_, .f32⟩
  | .hbm, ⟨60, _⟩ => ⟨S8448x96, .f32⟩
  | .hbm, ⟨61, _⟩ => ⟨S8448x128, .f32⟩
  | .hbm, ⟨62, _⟩ => ⟨S8448x128, .bf16⟩
  | .hbm, ⟨63, _⟩ => ⟨S_, .f32⟩
  | .hbm, ⟨64, _⟩ => ⟨S8448x8x64, .f32⟩
  | .hbm, ⟨65, _⟩ => ⟨S8448x8x128, .f32⟩
  | .hbm, ⟨66, _⟩ => ⟨S8448x1024, .f32⟩
  | .hbm, ⟨67, _⟩ => ⟨S8448x1024, .bf16⟩
  | .hbm, ⟨68, _⟩ => ⟨S8448x8, .f32⟩
  | .hbm, ⟨69, _⟩ => ⟨S8448x8x1, .f32⟩
  | .hbm, ⟨70, _⟩ => ⟨S8448x8x128, .f32⟩
  | .hbm, ⟨71, _⟩ => ⟨S8448x1024, .f32⟩
  | .hbm, ⟨72, _⟩ => ⟨S8448x8x64, .f32⟩
  | .hbm, ⟨73, _⟩ => ⟨S_, .f32⟩
  | .hbm, ⟨74, _⟩ => ⟨S8448x8, .f32⟩
  | .hbm, ⟨75, _⟩ => ⟨S8448x8x1, .f32⟩
  | .hbm, ⟨76, _⟩ => ⟨S8448x8x128, .f32⟩
  | .hbm, ⟨77, _⟩ => ⟨S8448x1024, .f32⟩
  | .hbm, ⟨78, _⟩ => ⟨S8448x2048, .bf16⟩
  | .hbm, ⟨79, _⟩ => ⟨S8448x1024, .f32⟩
  | .hbm, ⟨80, _⟩ => ⟨S8448x128, .f32⟩
  | .hbm, ⟨81, _⟩ => ⟨S8448x2048, .f32⟩
  | .hbm, ⟨82, _⟩ => ⟨S8448x8x256, .f32⟩
  | .hbm, ⟨83, _⟩ => ⟨S_, .f32⟩
  | .hbm, ⟨84, _⟩ => ⟨S8448x8x256, .f32⟩
  | .hbm, ⟨85, _⟩ => ⟨S8448x8x256, .f32⟩
  | .hbm, ⟨86, _⟩ => ⟨S8448x8x128, .f32⟩
  | .hbm, ⟨87, _⟩ => ⟨S8448x8x64, .f32⟩
  | .hbm, ⟨88, _⟩ => ⟨S8448x8x32, .f32⟩
  | .hbm, ⟨89, _⟩ => ⟨S8448x8x64, .f32⟩
  | .hbm, ⟨90, _⟩ => ⟨S8448x32, .f32⟩
  | .hbm, ⟨91, _⟩ => ⟨S8448x8x64, .f32⟩
  | .local _ .vmem, ⟨0, _⟩ => ⟨S768x256, .bf16⟩
  | .local _ .vmem, ⟨1, _⟩ => ⟨S768x256, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S768x128, .bf16⟩
  | .local _ .vmem, ⟨6, _⟩ => ⟨S768x128, .bf16⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S768x128, .f32⟩
  | .local _ .vmem, ⟨11, _⟩ => ⟨S768x256, .bf16⟩
  | .local _ .vmem, ⟨12, _⟩ => ⟨S768x256, .bf16⟩
  | .local _ .vmem, ⟨13, _⟩ => ⟨S8448x128, .f32⟩
  | .local _ .vmem, ⟨14, _⟩ => ⟨S8448x128, .f32⟩
  | .local _ .vmem, ⟨15, _⟩ => ⟨S8448x128, .f32⟩
  | .local _ .vmem, ⟨16, _⟩ => ⟨S768x256, .f32⟩
  | .local _ .vmem, ⟨17, _⟩ => ⟨S768x768, .f32⟩
  | .local _ .vmem, ⟨18, _⟩ => ⟨S768x768, .f32⟩
  | .local _ .vmem, ⟨19, _⟩ => ⟨S768x768, .f32⟩
  | .local _ .vmem, ⟨20, _⟩ => ⟨S768x768, .f32⟩
  | _, _ => ⟨S8448x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57_0 : Ref sig .tc := ⟨.hbm, 78, rfl⟩
abbrev main_v57_1 : Ref sig .tc := ⟨.hbm, 79, rfl⟩
abbrev main_v57_2 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 11], ![false, false]⟩

def k0_mult1 : BitVec 32 :=
  let c0_i32_5 : BitVec 32 := 0#32
  c0_i32_5
def k0_mult2 : BitVec 32 :=
  let c0_i32_7 : BitVec 32 := 0#32
  c0_i32_7
@[reducible] def k0_t1_loop (i : grid0.Coords) : Scf.Loop 32 :=
  let c0_i32_25 : BitVec 32 := 0#32
  let arg1 : BitVec 32 := BitVec.ofNat 32 (i 1).val
  let c0_i32_19 : BitVec 32 := 0#32
  let v34 : BitVec 1 := Scalar.cmpi .sgt arg1 c0_i32_19
  let v35 : BitVec 32 := Scalar.extui v34
  let c0_i32_20 : BitVec 32 := 0#32
  let v36 : BitVec 1 := Scalar.cmpi .slt arg1 c0_i32_20
  let v37 : BitVec 32 := Scalar.extui v36
  let v38 : BitVec 32 := Scalar.subi v35 v37
  let c2_i32 : BitVec 32 := 2#32
  let c0_i32_21 : BitVec 32 := 0#32
  let v39 : BitVec 1 := Scalar.cmpi .sgt c2_i32 c0_i32_21
  let v40 : BitVec 32 := Scalar.extui v39
  let c0_i32_22 : BitVec 32 := 0#32
  let v41 : BitVec 1 := Scalar.cmpi .slt c2_i32 c0_i32_22
  let v42 : BitVec 32 := Scalar.extui v41
  let v43 : BitVec 32 := Scalar.subi v40 v42
  let v44 : BitVec 1 := Scalar.cmpi .ne v38 v43
  let v45 : BitVec 32 := Scalar.remsi arg1 c2_i32
  let c0_i32_23 : BitVec 32 := 0#32
  let v46 : BitVec 1 := Scalar.cmpi .ne v45 c0_i32_23
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_27 : BitVec 32 := 1#32
  ⟨c0_i32_25, v54, c1_i32_27⟩
def k0_mult3 (i : grid0.Coords) (k0_t1 : Fin (k0_t1_loop i).trips) : BitVec 32 :=
  let c2_i32_49 : BitVec 32 := 2#32
  let c0_i32_25 : BitVec 32 := 0#32
  let c1_i32_27 : BitVec 32 := 1#32
  let arg16 : BitVec 32 := Scf.iv c0_i32_25 c1_i32_27 k0_t1
  let v84 : BitVec 32 := Scalar.muli c2_i32_49 arg16
  let c1_i32_50 : BitVec 32 := 1#32
  let v85 : BitVec 32 := Scalar.addi v84 c1_i32_50
  let c768_i32 : BitVec 32 := 768#32
  let v86 : BitVec 32 := Scalar.muli v85 c768_i32
  v86
def k0_off1 (i : grid0.Coords) (k0_t1 : Fin (k0_t1_loop i).trips) (c1_i32_50 : BitVec 32) : Fin 2 → Nat :=
  let c2_i32_49 : BitVec 32 := 2#32
  let c0_i32_25 : BitVec 32 := 0#32
  let c1_i32_27 : BitVec 32 := 1#32
  let arg16 : BitVec 32 := Scf.iv c0_i32_25 c1_i32_27 k0_t1
  let v84 : BitVec 32 := Scalar.muli c2_i32_49 arg16
  let v85 : BitVec 32 := Scalar.addi v84 c1_i32_50
  let c768_i32 : BitVec 32 := 768#32
  let v86 : BitVec 32 := Scalar.muli v85 c768_i32
  let v87 : BitVec 32 := v86
  let v88 : Index := Scalar.indexCast v87
  let c0_51 : Index := 0#32
  ![v88.toNat, 0]
def k0_mult4 (i : grid0.Coords) (k0_t1 : Fin (k0_t1_loop i).trips) : BitVec 32 :=
  let c2_i32_49 : BitVec 32 := 2#32
  let c0_i32_25 : BitVec 32 := 0#32
  let c1_i32_27 : BitVec 32 := 1#32
  let arg16 : BitVec 32 := Scf.iv c0_i32_25 c1_i32_27 k0_t1
  let v84 : BitVec 32 := Scalar.muli c2_i32_49 arg16
  let c1_i32_50 : BitVec 32 := 1#32
  let v85 : BitVec 32 := Scalar.addi v84 c1_i32_50
  let c768_i32_52 : BitVec 32 := 768#32
  let v91 : BitVec 32 := Scalar.muli v85 c768_i32_52
  v91
def k0_mult5 (i : grid0.Coords) (k0_t1 : Fin (k0_t1_loop i).trips) : BitVec 32 :=
  let c2_i32_64 : BitVec 32 := 2#32
  let c0_i32_25 : BitVec 32 := 0#32
  let c1_i32_27 : BitVec 32 := 1#32
  let arg16 : BitVec 32 := Scf.iv c0_i32_25 c1_i32_27 k0_t1
  let v109 : BitVec 32 := Scalar.muli c2_i32_64 arg16
  let c768_i32_65 : BitVec 32 := 768#32
  let v110 : BitVec 32 := Scalar.muli v109 c768_i32_65
  v110
def k0_off2 (i : grid0.Coords) (k0_t1 : Fin (k0_t1_loop i).trips) : Fin 2 → Nat :=
  let c2_i32_64 : BitVec 32 := 2#32
  let c0_i32_25 : BitVec 32 := 0#32
  let c1_i32_27 : BitVec 32 := 1#32
  let arg16 : BitVec 32 := Scf.iv c0_i32_25 c1_i32_27 k0_t1
  let v109 : BitVec 32 := Scalar.muli c2_i32_64 arg16
  let c768_i32_65 : BitVec 32 := 768#32
  let v110 : BitVec 32 := Scalar.muli v109 c768_i32_65
  let v111 : BitVec 32 := v110
  let v130 : Index := Scalar.indexCast v111
  let c0_78 : Index := 0#32
  ![v130.toNat, 0]
def k0_mult6 (i : grid0.Coords) (k0_t1 : Fin (k0_t1_loop i).trips) : BitVec 32 :=
  let c2_i32_92 : BitVec 32 := 2#32
  let c0_i32_25 : BitVec 32 := 0#32
  let c1_i32_27 : BitVec 32 := 1#32
  let arg16 : BitVec 32 := Scf.iv c0_i32_25 c1_i32_27 k0_t1
  let v162 : BitVec 32 := Scalar.muli c2_i32_92 arg16
  let c2_i32_93 : BitVec 32 := 2#32
  let v163 : BitVec 32 := Scalar.addi v162 c2_i32_93
  let c768_i32_94 : BitVec 32 := 768#32
  let v164 : BitVec 32 := Scalar.muli v163 c768_i32_94
  v164
def k0_mult7 (i : grid0.Coords) (k0_t1 : Fin (k0_t1_loop i).trips) : BitVec 32 :=
  let c2_i32_92 : BitVec 32 := 2#32
  let c0_i32_25 : BitVec 32 := 0#32
  let c1_i32_27 : BitVec 32 := 1#32
  let arg16 : BitVec 32 := Scf.iv c0_i32_25 c1_i32_27 k0_t1
  let v162 : BitVec 32 := Scalar.muli c2_i32_92 arg16
  let c2_i32_93 : BitVec 32 := 2#32
  let v163 : BitVec 32 := Scalar.addi v162 c2_i32_93
  let c768_i32_96 : BitVec 32 := 768#32
  let v169 : BitVec 32 := Scalar.muli v163 c768_i32_96
  v169
def k0_mult8 (i : grid0.Coords) (k0_t1 : Fin (k0_t1_loop i).trips) : BitVec 32 :=
  let c2_i32_108 : BitVec 32 := 2#32
  let c0_i32_25 : BitVec 32 := 0#32
  let c1_i32_27 : BitVec 32 := 1#32
  let arg16 : BitVec 32 := Scf.iv c0_i32_25 c1_i32_27 k0_t1
  let v187 : BitVec 32 := Scalar.muli c2_i32_108 arg16
  let c1_i32_109 : BitVec 32 := 1#32
  let v188 : BitVec 32 := Scalar.addi v187 c1_i32_109
  let c768_i32_110 : BitVec 32 := 768#32
  let v189 : BitVec 32 := Scalar.muli v188 c768_i32_110
  v189
@[reducible] def k0_t2_loop (i : grid0.Coords) : Scf.Loop 32 :=
  let c0_i32_25 : BitVec 32 := 0#32
  let arg1 : BitVec 32 := BitVec.ofNat 32 (i 1).val
  let c0_i32_19 : BitVec 32 := 0#32
  let v34 : BitVec 1 := Scalar.cmpi .sgt arg1 c0_i32_19
  let v35 : BitVec 32 := Scalar.extui v34
  let c0_i32_20 : BitVec 32 := 0#32
  let v36 : BitVec 1 := Scalar.cmpi .slt arg1 c0_i32_20
  let v37 : BitVec 32 := Scalar.extui v36
  let v38 : BitVec 32 := Scalar.subi v35 v37
  let c2_i32 : BitVec 32 := 2#32
  let c0_i32_21 : BitVec 32 := 0#32
  let v39 : BitVec 1 := Scalar.cmpi .sgt c2_i32 c0_i32_21
  let v40 : BitVec 32 := Scalar.extui v39
  let c0_i32_22 : BitVec 32 := 0#32
  let v41 : BitVec 1 := Scalar.cmpi .slt c2_i32 c0_i32_22
  let v42 : BitVec 32 := Scalar.extui v41
  let v43 : BitVec 32 := Scalar.subi v40 v42
  let v44 : BitVec 1 := Scalar.cmpi .ne v38 v43
  let v45 : BitVec 32 := Scalar.remsi arg1 c2_i32
  let c0_i32_23 : BitVec 32 := 0#32
  let v46 : BitVec 1 := Scalar.cmpi .ne v45 c0_i32_23
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let v51 : BitVec 32 := Scalar.addi c0_i32_25 v50
  let c1_i32_28 : BitVec 32 := 1#32
  ⟨v54, v51, c1_i32_28⟩
def k0_mult9 (i : grid0.Coords) (k0_t2 : Fin (k0_t2_loop i).trips) : BitVec 32 :=
  let c2_i32_49 : BitVec 32 := 2#32
  let c0_i32_25 : BitVec 32 := 0#32
  let arg1 : BitVec 32 := BitVec.ofNat 32 (i 1).val
  let c0_i32_19 : BitVec 32 := 0#32
  let v34 : BitVec 1 := Scalar.cmpi .sgt arg1 c0_i32_19
  let v35 : BitVec 32 := Scalar.extui v34
  let c0_i32_20 : BitVec 32 := 0#32
  let v36 : BitVec 1 := Scalar.cmpi .slt arg1 c0_i32_20
  let v37 : BitVec 32 := Scalar.extui v36
  let v38 : BitVec 32 := Scalar.subi v35 v37
  let c2_i32 : BitVec 32 := 2#32
  let c0_i32_21 : BitVec 32 := 0#32
  let v39 : BitVec 1 := Scalar.cmpi .sgt c2_i32 c0_i32_21
  let v40 : BitVec 32 := Scalar.extui v39
  let c0_i32_22 : BitVec 32 := 0#32
  let v41 : BitVec 1 := Scalar.cmpi .slt c2_i32 c0_i32_22
  let v42 : BitVec 32 := Scalar.extui v41
  let v43 : BitVec 32 := Scalar.subi v40 v42
  let v44 : BitVec 1 := Scalar.cmpi .ne v38 v43
  let v45 : BitVec 32 := Scalar.remsi arg1 c2_i32
  let c0_i32_23 : BitVec 32 := 0#32
  let v46 : BitVec 1 := Scalar.cmpi .ne v45 c0_i32_23
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg16 : BitVec 32 := Scf.iv v54 c1_i32_28 k0_t2
  let v84 : BitVec 32 := Scalar.muli c2_i32_49 arg16
  let c1_i32_50 : BitVec 32 := 1#32
  let v85 : BitVec 32 := Scalar.addi v84 c1_i32_50
  let c768_i32 : BitVec 32 := 768#32
  let v86 : BitVec 32 := Scalar.muli v85 c768_i32
  v86
def k0_off3 (i : grid0.Coords) (k0_t2 : Fin (k0_t2_loop i).trips) (c1_i32_50 : BitVec 32) : Fin 2 → Nat :=
  let c2_i32_49 : BitVec 32 := 2#32
  let c0_i32_25 : BitVec 32 := 0#32
  let arg1 : BitVec 32 := BitVec.ofNat 32 (i 1).val
  let c0_i32_19 : BitVec 32 := 0#32
  let v34 : BitVec 1 := Scalar.cmpi .sgt arg1 c0_i32_19
  let v35 : BitVec 32 := Scalar.extui v34
  let c0_i32_20 : BitVec 32 := 0#32
  let v36 : BitVec 1 := Scalar.cmpi .slt arg1 c0_i32_20
  let v37 : BitVec 32 := Scalar.extui v36
  let v38 : BitVec 32 := Scalar.subi v35 v37
  let c2_i32 : BitVec 32 := 2#32
  let c0_i32_21 : BitVec 32 := 0#32
  let v39 : BitVec 1 := Scalar.cmpi .sgt c2_i32 c0_i32_21
  let v40 : BitVec 32 := Scalar.extui v39
  let c0_i32_22 : BitVec 32 := 0#32
  let v41 : BitVec 1 := Scalar.cmpi .slt c2_i32 c0_i32_22
  let v42 : BitVec 32 := Scalar.extui v41
  let v43 : BitVec 32 := Scalar.subi v40 v42
  let v44 : BitVec 1 := Scalar.cmpi .ne v38 v43
  let v45 : BitVec 32 := Scalar.remsi arg1 c2_i32
  let c0_i32_23 : BitVec 32 := 0#32
  let v46 : BitVec 1 := Scalar.cmpi .ne v45 c0_i32_23
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg16 : BitVec 32 := Scf.iv v54 c1_i32_28 k0_t2
  let v84 : BitVec 32 := Scalar.muli c2_i32_49 arg16
  let v85 : BitVec 32 := Scalar.addi v84 c1_i32_50
  let c768_i32 : BitVec 32 := 768#32
  let v86 : BitVec 32 := Scalar.muli v85 c768_i32
  let v87 : BitVec 32 := v86
  let v88 : Index := Scalar.indexCast v87
  let c0_51 : Index := 0#32
  ![v88.toNat, 0]
def k0_mult10 (i : grid0.Coords) (k0_t2 : Fin (k0_t2_loop i).trips) : BitVec 32 :=
  let c2_i32_49 : BitVec 32 := 2#32
  let c0_i32_25 : BitVec 32 := 0#32
  let arg1 : BitVec 32 := BitVec.ofNat 32 (i 1).val
  let c0_i32_19 : BitVec 32 := 0#32
  let v34 : BitVec 1 := Scalar.cmpi .sgt arg1 c0_i32_19
  let v35 : BitVec 32 := Scalar.extui v34
  let c0_i32_20 : BitVec 32 := 0#32
  let v36 : BitVec 1 := Scalar.cmpi .slt arg1 c0_i32_20
  let v37 : BitVec 32 := Scalar.extui v36
  let v38 : BitVec 32 := Scalar.subi v35 v37
  let c2_i32 : BitVec 32 := 2#32
  let c0_i32_21 : BitVec 32 := 0#32
  let v39 : BitVec 1 := Scalar.cmpi .sgt c2_i32 c0_i32_21
  let v40 : BitVec 32 := Scalar.extui v39
  let c0_i32_22 : BitVec 32 := 0#32
  let v41 : BitVec 1 := Scalar.cmpi .slt c2_i32 c0_i32_22
  let v42 : BitVec 32 := Scalar.extui v41
  let v43 : BitVec 32 := Scalar.subi v40 v42
  let v44 : BitVec 1 := Scalar.cmpi .ne v38 v43
  let v45 : BitVec 32 := Scalar.remsi arg1 c2_i32
  let c0_i32_23 : BitVec 32 := 0#32
  let v46 : BitVec 1 := Scalar.cmpi .ne v45 c0_i32_23
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg16 : BitVec 32 := Scf.iv v54 c1_i32_28 k0_t2
  let v84 : BitVec 32 := Scalar.muli c2_i32_49 arg16
  let c1_i32_50 : BitVec 32 := 1#32
  let v85 : BitVec 32 := Scalar.addi v84 c1_i32_50
  let c768_i32_52 : BitVec 32 := 768#32
  let v91 : BitVec 32 := Scalar.muli v85 c768_i32_52
  v91
def k0_mult11 (i : grid0.Coords) (k0_t2 : Fin (k0_t2_loop i).trips) : BitVec 32 :=
  let c2_i32_64 : BitVec 32 := 2#32
  let c0_i32_25 : BitVec 32 := 0#32
  let arg1 : BitVec 32 := BitVec.ofNat 32 (i 1).val
  let c0_i32_19 : BitVec 32 := 0#32
  let v34 : BitVec 1 := Scalar.cmpi .sgt arg1 c0_i32_19
  let v35 : BitVec 32 := Scalar.extui v34
  let c0_i32_20 : BitVec 32 := 0#32
  let v36 : BitVec 1 := Scalar.cmpi .slt arg1 c0_i32_20
  let v37 : BitVec 32 := Scalar.extui v36
  let v38 : BitVec 32 := Scalar.subi v35 v37
  let c2_i32 : BitVec 32 := 2#32
  let c0_i32_21 : BitVec 32 := 0#32
  let v39 : BitVec 1 := Scalar.cmpi .sgt c2_i32 c0_i32_21
  let v40 : BitVec 32 := Scalar.extui v39
  let c0_i32_22 : BitVec 32 := 0#32
  let v41 : BitVec 1 := Scalar.cmpi .slt c2_i32 c0_i32_22
  let v42 : BitVec 32 := Scalar.extui v41
  let v43 : BitVec 32 := Scalar.subi v40 v42
  let v44 : BitVec 1 := Scalar.cmpi .ne v38 v43
  let v45 : BitVec 32 := Scalar.remsi arg1 c2_i32
  let c0_i32_23 : BitVec 32 := 0#32
  let v46 : BitVec 1 := Scalar.cmpi .ne v45 c0_i32_23
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg16 : BitVec 32 := Scf.iv v54 c1_i32_28 k0_t2
  let v109 : BitVec 32 := Scalar.muli c2_i32_64 arg16
  let c768_i32_65 : BitVec 32 := 768#32
  let v110 : BitVec 32 := Scalar.muli v109 c768_i32_65
  v110
def k0_off4 (i : grid0.Coords) (k0_t2 : Fin (k0_t2_loop i).trips) : Fin 2 → Nat :=
  let c2_i32_64 : BitVec 32 := 2#32
  let c0_i32_25 : BitVec 32 := 0#32
  let arg1 : BitVec 32 := BitVec.ofNat 32 (i 1).val
  let c0_i32_19 : BitVec 32 := 0#32
  let v34 : BitVec 1 := Scalar.cmpi .sgt arg1 c0_i32_19
  let v35 : BitVec 32 := Scalar.extui v34
  let c0_i32_20 : BitVec 32 := 0#32
  let v36 : BitVec 1 := Scalar.cmpi .slt arg1 c0_i32_20
  let v37 : BitVec 32 := Scalar.extui v36
  let v38 : BitVec 32 := Scalar.subi v35 v37
  let c2_i32 : BitVec 32 := 2#32
  let c0_i32_21 : BitVec 32 := 0#32
  let v39 : BitVec 1 := Scalar.cmpi .sgt c2_i32 c0_i32_21
  let v40 : BitVec 32 := Scalar.extui v39
  let c0_i32_22 : BitVec 32 := 0#32
  let v41 : BitVec 1 := Scalar.cmpi .slt c2_i32 c0_i32_22
  let v42 : BitVec 32 := Scalar.extui v41
  let v43 : BitVec 32 := Scalar.subi v40 v42
  let v44 : BitVec 1 := Scalar.cmpi .ne v38 v43
  let v45 : BitVec 32 := Scalar.remsi arg1 c2_i32
  let c0_i32_23 : BitVec 32 := 0#32
  let v46 : BitVec 1 := Scalar.cmpi .ne v45 c0_i32_23
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg16 : BitVec 32 := Scf.iv v54 c1_i32_28 k0_t2
  let v109 : BitVec 32 := Scalar.muli c2_i32_64 arg16
  let c768_i32_65 : BitVec 32 := 768#32
  let v110 : BitVec 32 := Scalar.muli v109 c768_i32_65
  let v111 : BitVec 32 := v110
  let v130 : Index := Scalar.indexCast v111
  let c0_78 : Index := 0#32
  ![v130.toNat, 0]
def k0_mult12 (i : grid0.Coords) (k0_t2 : Fin (k0_t2_loop i).trips) : BitVec 32 :=
  let c2_i32_92 : BitVec 32 := 2#32
  let c0_i32_25 : BitVec 32 := 0#32
  let arg1 : BitVec 32 := BitVec.ofNat 32 (i 1).val
  let c0_i32_19 : BitVec 32 := 0#32
  let v34 : BitVec 1 := Scalar.cmpi .sgt arg1 c0_i32_19
  let v35 : BitVec 32 := Scalar.extui v34
  let c0_i32_20 : BitVec 32 := 0#32
  let v36 : BitVec 1 := Scalar.cmpi .slt arg1 c0_i32_20
  let v37 : BitVec 32 := Scalar.extui v36
  let v38 : BitVec 32 := Scalar.subi v35 v37
  let c2_i32 : BitVec 32 := 2#32
  let c0_i32_21 : BitVec 32 := 0#32
  let v39 : BitVec 1 := Scalar.cmpi .sgt c2_i32 c0_i32_21
  let v40 : BitVec 32 := Scalar.extui v39
  let c0_i32_22 : BitVec 32 := 0#32
  let v41 : BitVec 1 := Scalar.cmpi .slt c2_i32 c0_i32_22
  let v42 : BitVec 32 := Scalar.extui v41
  let v43 : BitVec 32 := Scalar.subi v40 v42
  let v44 : BitVec 1 := Scalar.cmpi .ne v38 v43
  let v45 : BitVec 32 := Scalar.remsi arg1 c2_i32
  let c0_i32_23 : BitVec 32 := 0#32
  let v46 : BitVec 1 := Scalar.cmpi .ne v45 c0_i32_23
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg16 : BitVec 32 := Scf.iv v54 c1_i32_28 k0_t2
  let v162 : BitVec 32 := Scalar.muli c2_i32_92 arg16
  let c2_i32_93 : BitVec 32 := 2#32
  let v163 : BitVec 32 := Scalar.addi v162 c2_i32_93
  let c768_i32_94 : BitVec 32 := 768#32
  let v164 : BitVec 32 := Scalar.muli v163 c768_i32_94
  v164
def k0_mult13 (i : grid0.Coords) (k0_t2 : Fin (k0_t2_loop i).trips) : BitVec 32 :=
  let c2_i32_92 : BitVec 32 := 2#32
  let c0_i32_25 : BitVec 32 := 0#32
  let arg1 : BitVec 32 := BitVec.ofNat 32 (i 1).val
  let c0_i32_19 : BitVec 32 := 0#32
  let v34 : BitVec 1 := Scalar.cmpi .sgt arg1 c0_i32_19
  let v35 : BitVec 32 := Scalar.extui v34
  let c0_i32_20 : BitVec 32 := 0#32
  let v36 : BitVec 1 := Scalar.cmpi .slt arg1 c0_i32_20
  let v37 : BitVec 32 := Scalar.extui v36
  let v38 : BitVec 32 := Scalar.subi v35 v37
  let c2_i32 : BitVec 32 := 2#32
  let c0_i32_21 : BitVec 32 := 0#32
  let v39 : BitVec 1 := Scalar.cmpi .sgt c2_i32 c0_i32_21
  let v40 : BitVec 32 := Scalar.extui v39
  let c0_i32_22 : BitVec 32 := 0#32
  let v41 : BitVec 1 := Scalar.cmpi .slt c2_i32 c0_i32_22
  let v42 : BitVec 32 := Scalar.extui v41
  let v43 : BitVec 32 := Scalar.subi v40 v42
  let v44 : BitVec 1 := Scalar.cmpi .ne v38 v43
  let v45 : BitVec 32 := Scalar.remsi arg1 c2_i32
  let c0_i32_23 : BitVec 32 := 0#32
  let v46 : BitVec 1 := Scalar.cmpi .ne v45 c0_i32_23
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg16 : BitVec 32 := Scf.iv v54 c1_i32_28 k0_t2
  let v162 : BitVec 32 := Scalar.muli c2_i32_92 arg16
  let c2_i32_93 : BitVec 32 := 2#32
  let v163 : BitVec 32 := Scalar.addi v162 c2_i32_93
  let c768_i32_96 : BitVec 32 := 768#32
  let v169 : BitVec 32 := Scalar.muli v163 c768_i32_96
  v169
def k0_mult14 (i : grid0.Coords) (k0_t2 : Fin (k0_t2_loop i).trips) : BitVec 32 :=
  let c2_i32_108 : BitVec 32 := 2#32
  let c0_i32_25 : BitVec 32 := 0#32
  let arg1 : BitVec 32 := BitVec.ofNat 32 (i 1).val
  let c0_i32_19 : BitVec 32 := 0#32
  let v34 : BitVec 1 := Scalar.cmpi .sgt arg1 c0_i32_19
  let v35 : BitVec 32 := Scalar.extui v34
  let c0_i32_20 : BitVec 32 := 0#32
  let v36 : BitVec 1 := Scalar.cmpi .slt arg1 c0_i32_20
  let v37 : BitVec 32 := Scalar.extui v36
  let v38 : BitVec 32 := Scalar.subi v35 v37
  let c2_i32 : BitVec 32 := 2#32
  let c0_i32_21 : BitVec 32 := 0#32
  let v39 : BitVec 1 := Scalar.cmpi .sgt c2_i32 c0_i32_21
  let v40 : BitVec 32 := Scalar.extui v39
  let c0_i32_22 : BitVec 32 := 0#32
  let v41 : BitVec 1 := Scalar.cmpi .slt c2_i32 c0_i32_22
  let v42 : BitVec 32 := Scalar.extui v41
  let v43 : BitVec 32 := Scalar.subi v40 v42
  let v44 : BitVec 1 := Scalar.cmpi .ne v38 v43
  let v45 : BitVec 32 := Scalar.remsi arg1 c2_i32
  let c0_i32_23 : BitVec 32 := 0#32
  let v46 : BitVec 1 := Scalar.cmpi .ne v45 c0_i32_23
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_25
  let c1_i32_26 : BitVec 32 := 1#32
  let v52 : BitVec 32 := Scalar.divsi v50 c1_i32_26
  let v53 : BitVec 32 := Scalar.muli v52 c1_i32_26
  let v54 : BitVec 32 := Scalar.addi c0_i32_25 v53
  let c1_i32_28 : BitVec 32 := 1#32
  let arg16 : BitVec 32 := Scf.iv v54 c1_i32_28 k0_t2
  let v187 : BitVec 32 := Scalar.muli c2_i32_108 arg16
  let c1_i32_109 : BitVec 32 := 1#32
  let v188 : BitVec 32 := Scalar.addi v187 c1_i32_109
  let c768_i32_110 : BitVec 32 := 768#32
  let v189 : BitVec 32 := Scalar.muli v188 c768_i32_110
  v189
def k0_cond3 (i : grid0.Coords) : BitVec 1 :=
  let arg1 : BitVec 32 := BitVec.ofNat 32 (i 1).val
  let c2_i32_29 : BitVec 32 := 2#32
  let c0_i32_30 : BitVec 32 := 0#32
  let v55 : BitVec 1 := Scalar.cmpi .eq c2_i32_29 c0_i32_30
  let c1_i32_31 : BitVec 32 := 1#32
  let v56 : BitVec 32 := Scalar.select v55 c1_i32_31 c2_i32_29
  let v57 : BitVec 32 := Scalar.remsi arg1 v56
  let c0_i32_33 : BitVec 32 := 0#32
  let v59 : BitVec 1 := Scalar.cmpi .slt v57 c0_i32_33
  let c0_i32_34 : BitVec 32 := 0#32
  let v60 : BitVec 1 := Scalar.cmpi .slt v56 c0_i32_34
  let v61 : BitVec 1 := Scalar.xori v59 v60
  let c0_i32_32 : BitVec 32 := 0#32
  let v58 : BitVec 1 := Scalar.cmpi .ne v57 c0_i32_32
  let v62 : BitVec 1 := Scalar.andi v61 v58
  let v63 : BitVec 32 := Scalar.addi v57 v56
  let v64 : BitVec 32 := Scalar.select v62 v63 v57
  let c1_i32_35 : BitVec 32 := 1#32
  let v65 : BitVec 1 := Scalar.cmpi .eq v64 c1_i32_35
  let v66 : BitVec 32 := Scalar.extui v65
  let c0_i32_36 : BitVec 32 := 0#32
  let v67 : BitVec 1 := Scalar.cmpi .ne v66 c0_i32_36
  v67

def k0_mult15 (i : grid0.Coords) : BitVec 32 :=
  let arg1 : BitVec 32 := BitVec.ofNat 32 (i 1).val
  let c768_i32 : BitVec 32 := 768#32
  let v84 : BitVec 32 := Scalar.muli arg1 c768_i32
  v84
def k0_off5 (i : grid0.Coords) : Fin 2 → Nat :=
  let arg1 : BitVec 32 := BitVec.ofNat 32 (i 1).val
  let c768_i32 : BitVec 32 := 768#32
  let v84 : BitVec 32 := Scalar.muli arg1 c768_i32
  let v85 : BitVec 32 := v84
  let v86 : Index := Scalar.indexCast v85
  let c0_49 : Index := 0#32
  ![v86.toNat, 0]
def k0_mult16 (i : grid0.Coords) : BitVec 32 :=
  let arg1 : BitVec 32 := BitVec.ofNat 32 (i 1).val
  let c768_i32_50 : BitVec 32 := 768#32
  let v89 : BitVec 32 := Scalar.muli arg1 c768_i32_50
  v89
def k0_mult17 (i : grid0.Coords) : BitVec 32 :=
  let arg1 : BitVec 32 := BitVec.ofNat 32 (i 1).val
  let c1_i32_62 : BitVec 32 := 1#32
  let v107 : BitVec 32 := Scalar.subi arg1 c1_i32_62
  let c768_i32_63 : BitVec 32 := 768#32
  let v108 : BitVec 32 := Scalar.muli v107 c768_i32_63
  v108
def k0_off6 (i : grid0.Coords) : Fin 2 → Nat :=
  let arg1 : BitVec 32 := BitVec.ofNat 32 (i 1).val
  let c1_i32_62 : BitVec 32 := 1#32
  let v107 : BitVec 32 := Scalar.subi arg1 c1_i32_62
  let c768_i32_63 : BitVec 32 := 768#32
  let v108 : BitVec 32 := Scalar.muli v107 c768_i32_63
  let v109 : BitVec 32 := v108
  let v128 : Index := Scalar.indexCast v109
  let c0_76 : Index := 0#32
  ![v128.toNat, 0]
def k0_mult18 (i : grid0.Coords) : BitVec 32 :=
  let arg1 : BitVec 32 := BitVec.ofNat 32 (i 1).val
  let c768_i32_90 : BitVec 32 := 768#32
  let v160 : BitVec 32 := Scalar.muli arg1 c768_i32_90
  v160
def k0_cond4 (i : grid0.Coords) : BitVec 1 :=
  let arg1 : BitVec 32 := BitVec.ofNat 32 (i 1).val
  let c2_i32_37 : BitVec 32 := 2#32
  let c0_i32_38 : BitVec 32 := 0#32
  let v68 : BitVec 1 := Scalar.cmpi .eq c2_i32_37 c0_i32_38
  let c1_i32_39 : BitVec 32 := 1#32
  let v69 : BitVec 32 := Scalar.select v68 c1_i32_39 c2_i32_37
  let v70 : BitVec 32 := Scalar.remsi arg1 v69
  let c0_i32_41 : BitVec 32 := 0#32
  let v72 : BitVec 1 := Scalar.cmpi .slt v70 c0_i32_41
  let c0_i32_42 : BitVec 32 := 0#32
  let v73 : BitVec 1 := Scalar.cmpi .slt v69 c0_i32_42
  let v74 : BitVec 1 := Scalar.xori v72 v73
  let c0_i32_40 : BitVec 32 := 0#32
  let v71 : BitVec 1 := Scalar.cmpi .ne v70 c0_i32_40
  let v75 : BitVec 1 := Scalar.andi v74 v71
  let v76 : BitVec 32 := Scalar.addi v70 v69
  let v77 : BitVec 32 := Scalar.select v75 v76 v70
  let c0_i32_43 : BitVec 32 := 0#32
  let v78 : BitVec 1 := Scalar.cmpi .eq v77 c0_i32_43
  let v79 : BitVec 32 := Scalar.extui v78
  let c0_i32_44 : BitVec 32 := 0#32
  let v80 : BitVec 1 := Scalar.cmpi .ne v79 c0_i32_44
  v80

def k0_mult19 (i : grid0.Coords) : BitVec 32 :=
  let arg1 : BitVec 32 := BitVec.ofNat 32 (i 1).val
  let c768_i32 : BitVec 32 := 768#32
  let v84 : BitVec 32 := Scalar.muli arg1 c768_i32
  v84
def k0_off7 (i : grid0.Coords) : Fin 2 → Nat :=
  let arg1 : BitVec 32 := BitVec.ofNat 32 (i 1).val
  let c768_i32 : BitVec 32 := 768#32
  let v84 : BitVec 32 := Scalar.muli arg1 c768_i32
  let v85 : BitVec 32 := v84
  let v109 : Index := Scalar.indexCast v85
  let c0_62 : Index := 0#32
  ![v109.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8448x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8448x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8448x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== AttnKernelIdeal.lean ====
variable {F : FTy → Type} [FloatOps F] [Named F]
def κ : String → Option EReal := fun
  | "ln2" => some ((Real.log 2 : ℝ) : EReal)
  | "mask" => some ⊥
  | _ => none
-- ==== AttnReferenceIdeal.lean ====
abbrev S8448x8x64 : Shape := ⟨3, ![8448, 8, 64]⟩
abbrev S8448x8x32 : Shape := ⟨3, ![8448, 8, 32]⟩
abbrev S8448x32 : Shape := ⟨2, ![8448, 32]⟩
abbrev S8448 : Shape := ⟨1, ![8448]⟩
abbrev S8x8448x8448 : Shape := ⟨3, ![8, 8448, 8448]⟩
abbrev S8448x8448x8 : Shape := ⟨3, ![8448, 8448, 8]⟩
abbrev S_ : Shape := ⟨0, ![]⟩
abbrev S1x1x8448 : Shape := ⟨3, ![1, 1, 8448]⟩
abbrev S1x8448x1 : Shape := ⟨3, ![1, 8448, 1]⟩
abbrev S1x8448x8448 : Shape := ⟨3, ![1, 8448, 8448]⟩
abbrev S8x8448 : Shape := ⟨2, ![8, 8448]⟩
abbrev S8x8448x1 : Shape := ⟨3, ![8, 8448, 1]⟩
abbrev S8x64x8448 : Shape := ⟨3, ![8, 64, 8448]⟩
abbrev S8x8448x64 : Shape := ⟨3, ![8, 8448, 64]⟩

abbrev nBuf : Space → Nat
  | .hbm => 97
  | .vmem => 0
  | .smem => 0
  | _ => 0

abbrev bufTy : (tb : Table) → Fin (tcTables nBuf tb) → BufTy
  | .hbm, ⟨0, _⟩ => ⟨S8448x8x64, .f32⟩
  | .hbm, ⟨1, _⟩ => ⟨S8448x8x32, .f32⟩
  | .hbm, ⟨2, _⟩ => ⟨S8448x8x64, .f32⟩
  | .hbm, ⟨3, _⟩ => ⟨S8448x32, .f32⟩
  | .hbm, ⟨4, _⟩ => ⟨S8448x8x64, .f32⟩
  | .hbm, ⟨5, _⟩ => ⟨S8448x8x64, .f32⟩
  | .hbm, ⟨6, _⟩ => ⟨S8448, .i32⟩
  | .hbm, ⟨7, _⟩ => ⟨S8x8448x8448, .f32⟩
  | .hbm, ⟨8, _⟩ => ⟨S8448x8448x8, .f32⟩
  | .hbm, ⟨9, _⟩ => ⟨S8x8448x8448, .f32⟩
  | .hbm, ⟨10, _⟩ => ⟨S8x8448x8448, .f32⟩
  | .hbm, ⟨11, _⟩ => ⟨S_, .f32⟩
  | .hbm, ⟨12, _⟩ => ⟨S8x8448x8448, .f32⟩
  | .hbm, ⟨13, _⟩ => ⟨S8x8448x8448, .f32⟩
  | .hbm, ⟨14, _⟩ => ⟨S1x1x8448, .i32⟩
  | .hbm, ⟨15, _⟩ => ⟨S1x8448x1, .i32⟩
  | .hbm, ⟨16, _⟩ => ⟨S1x8448x8448, .i32⟩
  | .hbm, ⟨17, _⟩ => ⟨S1x8448x8448, .i32⟩
  | .hbm, ⟨18, _⟩ => ⟨S1x8448x8448, .i1⟩
  | .hbm, ⟨19, _⟩ => ⟨S_, .f32⟩
  | .hbm, ⟨20, _⟩ => ⟨S_, .f32⟩
  | .hbm, ⟨21, _⟩ => ⟨S8x8448x8448, .i1⟩
  | .hbm, ⟨22, _⟩ => ⟨S8x8448x8448, .f32⟩
  | .hbm, ⟨23, _⟩ => ⟨S8x8448x8448, .f32⟩
  | .hbm, ⟨24, _⟩ => ⟨S_, .f32⟩
  | .hbm, ⟨25, _⟩ => ⟨S8x8448x8448, .f32⟩
  | .hbm, ⟨26, _⟩ => ⟨S_, .f32⟩
  | .hbm, ⟨27, _⟩ => ⟨S8x8448, .f32⟩
  | .hbm, ⟨28, _⟩ => ⟨S8x8448x1, .f32⟩
  | .hbm, ⟨29, _⟩ => ⟨S8x8448x8448, .f32⟩
  | .hbm, ⟨30, _⟩ => ⟨S8x8448x8448, .i1⟩
  | .hbm, ⟨31, _⟩ => ⟨S8x8448x8448, .f32⟩
  | .hbm, ⟨32, _⟩ => ⟨S_, .f32⟩
  | .hbm, ⟨33, _⟩ => ⟨S8x8448, .f32⟩
  | .hbm, ⟨34, _⟩ => ⟨S_, .f32⟩
  | .hbm, ⟨35, _⟩ => ⟨S8x8448, .f32⟩
  | .hbm, ⟨36, _⟩ => ⟨S8x8448, .f32⟩
  | .hbm, ⟨37, _⟩ => ⟨S_, .f32⟩
  | .hbm, ⟨38, _⟩ => ⟨S8x8448, .f32⟩
  | .hbm, ⟨39, _⟩ => ⟨S8x8448, .i1⟩
  | .hbm, ⟨40, _⟩ => ⟨S_, .f32⟩
  | .hbm, ⟨41, _⟩ => ⟨S8x8448, .f32⟩
  | .hbm, ⟨42, _⟩ => ⟨S8x8448, .i1⟩
  | .hbm, ⟨43, _⟩ => ⟨S_, .f32⟩
  | .hbm, ⟨44, _⟩ => ⟨S8x8448, .f32⟩
  | .hbm, ⟨45, _⟩ => ⟨S_, .f32⟩
  | .hbm, ⟨46, _⟩ => ⟨S8x8448, .f32⟩
  | .hbm, ⟨47, _⟩ => ⟨S_, .f32⟩
  | .hbm, ⟨48, _⟩ => ⟨S8x8448, .f32⟩
  | .hbm, ⟨49, _⟩ => ⟨S8x8448, .f32⟩
  | .hbm, ⟨50, _⟩ => ⟨S8x8448, .f32⟩
  | .hbm, ⟨51, _⟩ => ⟨S8x8448x1, .f32⟩
  | .hbm, ⟨52, _⟩ => ⟨S8x8448x8448, .f32⟩
  | .hbm, ⟨53, _⟩ => ⟨S8x8448x8448, .f32⟩
  | .hbm, ⟨54, _⟩ => ⟨S8x8448x8448, .f32⟩
  | .hbm, ⟨55, _⟩ => ⟨S_, .f32⟩
  | .hbm, ⟨56, _⟩ => ⟨S8x8448, .f32⟩
  | .hbm, ⟨57, _⟩ => ⟨S8x8448x1, .f32⟩
  | .hbm, ⟨58, _⟩ => ⟨S8x8448x8448, .f32⟩
  | .hbm, ⟨59, _⟩ => ⟨S8x8448x8448, .f32⟩
  | .hbm, ⟨60, _⟩ => ⟨S8x8448x1, .f32⟩
  | .hbm, ⟨61, _⟩ => ⟨S_, .f32⟩
  | .hbm, ⟨62, _⟩ => ⟨S8x8448x1, .f32⟩
  | .hbm, ⟨63, _⟩ => ⟨S8x8448x1, .f32⟩
  | .hbm, ⟨64, _⟩ => ⟨S8x64x8448, .f32⟩
  | .hbm, ⟨65, _⟩ => ⟨S8448x8x64, .f32⟩
  | .hbm, ⟨66, _⟩ => ⟨S8x64x8448, .f32⟩
  | .hbm, ⟨67, _⟩ => ⟨S8x8448x8448, .f32⟩
  | .hbm, ⟨68, _⟩ => ⟨S8x64x8448, .f32⟩
  | .hbm, ⟨69, _⟩ => ⟨S8448x8x64, .f32⟩
  | .hbm, ⟨70, _⟩ => ⟨S8x8448x8448, .f32⟩
  | .hbm, ⟨71, _⟩ => ⟨S8x8448x8448, .f32⟩
  | .hbm, ⟨72, _⟩ => ⟨S8x8448x8448, .f32⟩
  | .hbm, ⟨73, _⟩ => ⟨S_, .f32⟩
  | .hbm, ⟨74, _⟩ => ⟨S8x8448, .f32⟩
  | .hbm, ⟨75, _⟩ => ⟨S8x8448x1, .f32⟩
  | .hbm, ⟨76, _⟩ => ⟨S8x8448x1, .f32⟩
  | .hbm, ⟨77, _⟩ => ⟨S8x8448x8448, .f32⟩
  | .hbm, ⟨78, _⟩ => ⟨S8x8448x8448, .f32⟩
  | .hbm, ⟨79, _⟩ => ⟨S_, .f32⟩
  | .hbm, ⟨80, _⟩ => ⟨S8x8448, .f32⟩
  | .hbm, ⟨81, _⟩ => ⟨S8x8448x8448, .f32⟩
  | .hbm, ⟨82, _⟩ => ⟨S8x8448x8448, .f32⟩
  | .hbm, ⟨83, _⟩ => ⟨S8x8448x8448, .f32⟩
  | .hbm, ⟨84, _⟩ => ⟨S_, .f32⟩
  | .hbm, ⟨85, _⟩ => ⟨S8x8448x8448, .f32⟩
  | .hbm, ⟨86, _⟩ => ⟨S8x8448x8448, .f32⟩
  | .hbm, ⟨87, _⟩ => ⟨S_, .f32⟩
  | .hbm, ⟨88, _⟩ => ⟨S8x8448x8448, .f32⟩
  | .hbm, ⟨89, _⟩ => ⟨S8x8448x8448, .f32⟩
  | .hbm, ⟨90, _⟩ => ⟨S8448x8448x8, .f32⟩
  | .hbm, ⟨91, _⟩ => ⟨S8448x8x32, .f32⟩
  | .hbm, ⟨92, _⟩ => ⟨S8448x32, .f32⟩
  | .hbm, ⟨93, _⟩ => ⟨S8x8448x64, .f32⟩
  | .hbm, ⟨94, _⟩ => ⟨S8448x8x64, .f32⟩
  | .hbm, ⟨95, _⟩ => ⟨S8x8448x64, .f32⟩
  | .hbm, ⟨96, _⟩ => ⟨S8448x8x64, .f32⟩
  | _, _ => ⟨S8448x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_v12_1 : Ref sig .tc := ⟨.hbm, 21, rfl⟩
abbrev main_call0_v2 : Ref sig .tc := ⟨.hbm, 22, rfl⟩
abbrev main_v12_0 : Ref sig .tc := ⟨.hbm, 23, rfl⟩
abbrev main_call0_cst : Ref sig .tc := ⟨.hbm, 24, rfl⟩
abbrev main_v12_2 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== FdbKernel.lean ====
abbrev S8448x1024 : Shape := ⟨2, ![8448, 1024]⟩
abbrev S8448x2816 : Shape := ⟨2, ![8448, 2816]⟩
abbrev S2816x1024 : Shape := ⟨2, ![2816, 1024]⟩
abbrev S4x704x1024 : Shape := ⟨3, ![4, 704, 1024]⟩
abbrev S768x1024 : Shape := ⟨2, ![768, 1024]⟩
abbrev S2x704x1024 : Shape := ⟨3, ![2, 704, 1024]⟩
abbrev S768x1408 : Shape := ⟨2, ![768, 1408]⟩
abbrev S1x704x1024 : Shape := ⟨3, ![1, 704, 1024]⟩
abbrev S704x1024 : Shape := ⟨2, ![704, 1024]⟩
abbrev S1408x1024 : Shape := ⟨2, ![1408, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S8448x2816, .bf16⟩
  | .hbm, ⟨3, _⟩ => ⟨S2816x1024, .f32⟩
  | .hbm, ⟨4, _⟩ => ⟨S2816x1024, .bf16⟩
  | .hbm, ⟨5, _⟩ => ⟨S4x704x1024, .bf16⟩
  | .hbm, ⟨6, _⟩ => ⟨S8448x2816, .bf16⟩
  | .hbm, ⟨7, _⟩ => ⟨S8448x2816, .bf16⟩
  | .local _ .vmem, ⟨0, _⟩ => ⟨S768x1024, .bf16⟩
  | .local _ .vmem, ⟨1, _⟩ => ⟨S768x1024, .bf16⟩
  | .local _ .vmem, ⟨2, _⟩ => ⟨S2x704x1024, .bf16⟩
  | .local _ .vmem, ⟨3, _⟩ => ⟨S2x704x1024, .bf16⟩
  | .local _ .vmem, ⟨4, _⟩ => ⟨S768x1408, .bf16⟩
  | .local _ .vmem, ⟨5, _⟩ => ⟨S768x1408, .bf16⟩
  | .local _ .vmem, ⟨6, _⟩ => ⟨S768x1408, .bf16⟩
  | .local _ .vmem, ⟨7, _⟩ => ⟨S768x1408, .bf16⟩
  | .local _ .vmem, ⟨8, _⟩ => ⟨S768x1408, .bf16⟩
  | .local _ .vmem, ⟨9, _⟩ => ⟨S768x1408, .bf16⟩
  | .local _ .vmem, ⟨10, _⟩ => ⟨S768x1408, .bf16⟩
  | .local _ .vmem, ⟨11, _⟩ => ⟨S768x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FdbReferenceIdeal.lean ====
abbrev S8448x1024 : Shape := ⟨2, ![8448, 1024]⟩
abbrev S8448x2816 : Shape := ⟨2, ![8448, 2816]⟩
abbrev S2816x1024 : Shape := ⟨2, ![2816, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S8448x2816, .bf16⟩
  | .hbm, ⟨3, _⟩ => ⟨S2816x1024, .f32⟩
  | .hbm, ⟨4, _⟩ => ⟨S8448x2816, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S_, .f32⟩
  | .hbm, ⟨9, _⟩ => ⟨S8448x2816, .f32⟩
  | .hbm, ⟨10, _⟩ => ⟨S8448x2816, .f32⟩
  | .hbm, ⟨11, _⟩ => ⟨S_, .f32⟩
  | .hbm, ⟨12, _⟩ => ⟨S8448x2816, .f32⟩
  | .hbm, ⟨13, _⟩ => ⟨S8448x2816, .f32⟩
  | .hbm, ⟨14, _⟩ => ⟨S_, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x1024, .f32⟩
  | .hbm, ⟨21, _⟩ => ⟨S8448x1024, .f32⟩
  | .hbm, ⟨22, _⟩ => ⟨S8448x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .bf16⟩
  | .hbm, ⟨30, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== FubKernel.lean ====
abbrev S8448x2816 : Shape := ⟨2, ![8448, 2816]⟩
abbrev S1024x5632 : Shape := ⟨2, ![1024, 5632]⟩
abbrev S8448x1024 : Shape := ⟨2, ![8448, 1024]⟩
abbrev S1024x4x1408 : Shape := ⟨3, ![1024, 4, 1408]⟩
abbrev S4x1024x1408 : Shape := ⟨3, ![4, 1024, 1408]⟩
abbrev S_ : Shape := ⟨0, ![]⟩
abbrev S768x2816 : Shape := ⟨2, ![768, 2816]⟩
abbrev S2x512x1408 : Shape := ⟨3, ![2, 512, 1408]⟩
abbrev S768x512 : Shape := ⟨2, ![768, 512]⟩
abbrev S1x512x1408 : Shape := ⟨3, ![1, 512, 1408]⟩
abbrev S512x1408 : Shape := ⟨2, ![512, 1408]⟩
abbrev S512x2816 : Shape := ⟨2, ![512, 2816]⟩

abbrev nBuf : Space → Nat
  | .hbm => 12
  | .vmem => 12
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S1024x5632, .f32⟩
  | .hbm, ⟨3, _⟩ => ⟨S8448x1024, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S_, .f32⟩
  | .hbm, ⟨8, _⟩ => ⟨S8448x1024, .f32⟩
  | .hbm, ⟨9, _⟩ => ⟨S8448x1024, .f32⟩
  | .hbm, ⟨10, _⟩ => ⟨S8448x1024, .bf16⟩
  | .hbm, ⟨11, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S2x512x1408, .bf16⟩
  | .local _ .vmem, ⟨3, _⟩ => ⟨S2x512x1408, .bf16⟩
  | .local _ .vmem, ⟨4, _⟩ => ⟨S768x2816, .bf16⟩
  | .local _ .vmem, ⟨5, _⟩ => ⟨S768x2816, .bf16⟩
  | .local _ .vmem, ⟨6, _⟩ => ⟨S2x512x1408, .bf16⟩
  | .local _ .vmem, ⟨7, _⟩ => ⟨S2x512x1408, .bf16⟩
  | .local _ .vmem, ⟨8, _⟩ => ⟨S768x512, .bf16⟩
  | .local _ .vmem, ⟨9, _⟩ => ⟨S768x512, .bf16⟩
  | .local _ .vmem, ⟨10, _⟩ => ⟨S768x512, .f32⟩
  | .local _ .vmem, ⟨11, _⟩ => ⟨S768x512, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FubReferenceIdeal.lean ====
abbrev S8448x2816 : Shape := ⟨2, ![8448, 2816]⟩
abbrev S1024x5632 : Shape := ⟨2, ![1024, 5632]⟩
abbrev S8448x1024 : Shape := ⟨2, ![8448, 1024]⟩
abbrev S_ : Shape := ⟨0, ![]⟩
abbrev S8448x5632 : Shape := ⟨2, ![8448, 5632]⟩

abbrev nBuf : Space → Nat
  | .hbm => 20
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S1024x5632, .f32⟩
  | .hbm, ⟨3, _⟩ => ⟨S8448x1024, .f32⟩
  | .hbm, ⟨4, _⟩ => ⟨S_, .f32⟩
  | .hbm, ⟨5, _⟩ => ⟨S8448x1024, .f32⟩
  | .hbm, ⟨6, _⟩ => ⟨S8448x5632, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S8448x2816, .f32⟩
  | .hbm, ⟨13, _⟩ => ⟨S8448x2816, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S8448x5632, .f32⟩
  | .hbm, ⟨18, _⟩ => ⟨S8448x1024, .f32⟩
  | .hbm, ⟨19, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== DwdKernel.lean ====
abbrev S8448x2816 : Shape := ⟨2, ![8448, 2816]⟩
abbrev S8448x1024 : Shape := ⟨2, ![8448, 1024]⟩
abbrev S4x704x1024 : Shape := ⟨3, ![4, 704, 1024]⟩
abbrev S768x1408 : Shape := ⟨2, ![768, 1408]⟩
abbrev S768x1024 : Shape := ⟨2, ![768, 1024]⟩
abbrev S2x704x1024 : Shape := ⟨3, ![2, 704, 1024]⟩
abbrev S1408x1024 : Shape := ⟨2, ![1408, 1024]⟩
abbrev S704x1024 : Shape := ⟨2, ![704, 1024]⟩
abbrev S1x704x1024 : Shape := ⟨3, ![1, 704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S4x704x1024, .bf16⟩
  | .local _ .vmem, ⟨0, _⟩ => ⟨S768x1408, .bf16⟩
  | .local _ .vmem, ⟨1, _⟩ => ⟨S768x1408, .bf16⟩
  | .local _ .vmem, ⟨2, _⟩ => ⟨S768x1024, .bf16⟩
  | .local _ .vmem, ⟨3, _⟩ => ⟨S768x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwdReferenceIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S8448x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S4x704x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwbKernel.lean ====
abbrev S8448x1024 : Shape := ⟨2, ![8448, 1024]⟩
abbrev S8448x2816 : Shape := ⟨2, ![8448, 2816]⟩
abbrev S4x1024x1408 : Shape := ⟨3, ![4, 1024, 1408]⟩
abbrev S768x512 : Shape := ⟨2, ![768, 512]⟩
abbrev S768x2816 : Shape := ⟨2, ![768, 2816]⟩
abbrev S2x512x1408 : Shape := ⟨3, ![2, 512, 1408]⟩
abbrev S512x2816 : Shape := ⟨2, ![512, 2816]⟩
abbrev S512x1408 : Shape := ⟨2, ![512, 1408]⟩
abbrev S1x512x1408 : Shape := ⟨3, ![1, 512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S4x1024x1408, .bf16⟩
  | .hbm, ⟨3, _⟩ => ⟨S4x1024x1408, .bf16⟩
  | .local _ .vmem, ⟨0, _⟩ => ⟨S768x512, .bf16⟩
  | .local _ .vmem, ⟨1, _⟩ => ⟨S768x512, .bf16⟩
  | .local _ .vmem, ⟨2, _⟩ => ⟨S768x2816, .bf16⟩
  | .local _ .vmem, ⟨3, _⟩ => ⟨S768x2816, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x2816, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwbReferenceIdeal.lean ====
abbrev S8448x1024 : Shape := ⟨2, ![8448, 1024]⟩
abbrev S8448x2816 : Shape := ⟨2, ![8448, 2816]⟩
abbrev S4x1024x1408 : Shape := ⟨3, ![4, 1024, 1408]⟩
abbrev S_ : Shape := ⟨0, ![]⟩
abbrev S1024x2816 : Shape := ⟨2, ![1024, 2816]⟩
abbrev S2816x1024 : Shape := ⟨2, ![2816, 1024]⟩
abbrev S2x1024x1408 : Shape := ⟨3, ![2, 1024, 1408]⟩
abbrev S1024x2x1408 : Shape := ⟨3, ![1024, 2, 1408]⟩

abbrev nBuf : Space → Nat
  | .hbm => 15
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S4x1024x1408, .bf16⟩
  | .hbm, ⟨3, _⟩ => ⟨S_, .f32⟩
  | .hbm, ⟨4, _⟩ => ⟨S1024x2816, .f32⟩
  | .hbm, ⟨5, _⟩ => ⟨S8448x1024, .f32⟩
  | .hbm, ⟨6, _⟩ => ⟨S8448x2816, .f32⟩
  | .hbm, ⟨7, _⟩ => ⟨S8448x2816, .f32⟩
  | .hbm, ⟨8, _⟩ => ⟨S2816x1024, .f32⟩
  | .hbm, ⟨9, _⟩ => ⟨S1024x2816, .f32⟩
  | .hbm, ⟨10, _⟩ => ⟨S1024x2816, .bf16⟩
  | .hbm, ⟨11, _⟩ => ⟨S2x1024x1408, .bf16⟩
  | .hbm, ⟨12, _⟩ => ⟨S1024x2x1408, .bf16⟩
  | .hbm, ⟨13, _⟩ => ⟨S2x1024x1408, .bf16⟩
  | .hbm, ⟨14, _⟩ => ⟨S4x1024x1408, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DwaKernel.lean ====
abbrev S8448x1024 : Shape := ⟨2, ![8448, 1024]⟩
abbrev S8448x2816 : Shape := ⟨2, ![8448, 2816]⟩
abbrev S4x1024x1408 : Shape := ⟨3, ![4, 1024, 1408]⟩
abbrev S768x512 : Shape := ⟨2, ![768, 512]⟩
abbrev S768x2816 : Shape := ⟨2, ![768, 2816]⟩
abbrev S2x512x1408 : Shape := ⟨3, ![2, 512, 1408]⟩
abbrev S512x2816 : Shape := ⟨2, ![512, 2816]⟩
abbrev S512x1408 : Shape := ⟨2, ![512, 1408]⟩
abbrev S1x512x1408 : Shape := ⟨3, ![1, 512, 1408]⟩
abbrev S2x1024x1408 : Shape := ⟨3, ![2, 1024, 1408]⟩
abbrev S1024x2x1408 : Shape := ⟨3, ![1024, 2, 1408]⟩
abbrev S1024x2816 : Shape := ⟨2, ![1024, 2816]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S4x1024x1408, .bf16⟩
  | .hbm, ⟨3, _⟩ => ⟨S2x1024x1408, .bf16⟩
  | .hbm, ⟨4, _⟩ => ⟨S1024x2x1408, .bf16⟩
  | .hbm, ⟨5, _⟩ => ⟨S1024x2816, .bf16⟩
  | .local _ .vmem, ⟨0, _⟩ => ⟨S768x512, .bf16⟩
  | .local _ .vmem, ⟨1, _⟩ => ⟨S768x512, .bf16⟩
  | .local _ .vmem, ⟨2, _⟩ => ⟨S768x2816, .bf16⟩
  | .local _ .vmem, ⟨3, _⟩ => ⟨S768x2816, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x2816, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwaReferenceIdeal.lean ====
abbrev S8448x1024 : Shape := ⟨2, ![8448, 1024]⟩
abbrev S8448x2816 : Shape := ⟨2, ![8448, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S_, .f32⟩
  | .hbm, ⟨3, _⟩ => ⟨S1024x2816, .f32⟩
  | .hbm, ⟨4, _⟩ => ⟨S8448x1024, .f32⟩
  | .hbm, ⟨5, _⟩ => ⟨S8448x2816, .f32⟩
  | .hbm, ⟨6, _⟩ => ⟨S8448x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MxbKernel.lean ====
abbrev S8448x4000 : Shape := ⟨2, ![8448, 4000]⟩
abbrev S1024x4000 : Shape := ⟨2, ![1024, 4000]⟩
abbrev S8448x1024 : Shape := ⟨2, ![8448, 1024]⟩
abbrev S8448x1952 : Shape := ⟨2, ![8448, 1952]⟩
abbrev S_ : Shape := ⟨0, ![]⟩
abbrev S8448x96 : Shape := ⟨2, ![8448, 96]⟩
abbrev S8448x2048 : Shape := ⟨2, ![8448, 2048]⟩
abbrev S8448x4096 : Shape := ⟨2, ![8448, 4096]⟩
abbrev S1024x1952 : Shape := ⟨2, ![1024, 1952]⟩
abbrev S1024x96 : Shape := ⟨2, ![1024, 96]⟩
abbrev S1024x2048 : Shape := ⟨2, ![1024, 2048]⟩
abbrev S1024x4096 : Shape := ⟨2, ![1024, 4096]⟩
abbrev S768x4096 : Shape := ⟨2, ![768, 4096]⟩
abbrev S512x4096 : Shape := ⟨2, ![512, 4096]⟩
abbrev S768x512 : Shape := ⟨2, ![768, 512]⟩

abbrev nBuf : Space → Nat
  | .hbm => 16
  | .vmem => 8
  | .smem => 0
  | _ => 0

abbrev bufTy : (tb : Table) → Fin (tcTables nBuf tb) → BufTy
  | .hbm, ⟨0, _⟩ => ⟨S8448x4000, .bf16⟩
  | .hbm, ⟨1, _⟩ => ⟨S1024x4000, .f32⟩
  | .hbm, ⟨2, _⟩ => ⟨S8448x1024, .f32⟩
  | .hbm, ⟨3, _⟩ => ⟨S8448x1952, .bf16⟩
  | .hbm, ⟨4, _⟩ => ⟨S_, .bf16⟩
  | .hbm, ⟨5, _⟩ => ⟨S8448x96, .bf16⟩
  | .hbm, ⟨6, _⟩ => ⟨S8448x2048, .bf16⟩
  | .hbm, ⟨7, _⟩ => ⟨S8448x4096, .bf16⟩
  | .hbm, ⟨8, _⟩ => ⟨S1024x4000, .bf16⟩
  | .hbm, ⟨9, _⟩ => ⟨S1024x1952, .bf16⟩
  | .hbm, ⟨10, _⟩ => ⟨S_, .bf16⟩
  | .hbm, ⟨11, _⟩ => ⟨S1024x96, .bf16⟩
  | .hbm, ⟨12, _⟩ => ⟨S1024x2048, .bf16⟩
  | .hbm, ⟨13, _⟩ => ⟨S1024x4096, .bf16⟩
  | .hbm, ⟨14, _⟩ => ⟨S8448x1024, .bf16⟩
  | .hbm, ⟨15, _⟩ => ⟨S8448x1024, .f32⟩
  | .local _ .vmem, ⟨0, _⟩ => ⟨S768x4096, .bf16⟩
  | .local _ .vmem, ⟨1, _⟩ => ⟨S768x4096, .bf16⟩
  | .local _ .vmem, ⟨2, _⟩ => ⟨S512x4096, .bf16⟩
  | .local _ .vmem, ⟨3, _⟩ => ⟨S512x4096, .bf16⟩
  | .local _ .vmem, ⟨4, _⟩ => ⟨S768x512, .bf16⟩
  | .local _ .vmem, ⟨5, _⟩ => ⟨S768x512, .bf16⟩
  | .local _ .vmem, ⟨6, _⟩ => ⟨S768x512, .f32⟩
  | .local _ .vmem, ⟨7, _⟩ => ⟨S768x512, .f32⟩
  | _, _ => ⟨S8448x4000, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MxbReferenceIdeal.lean ====
abbrev S8448x4000 : Shape := ⟨2, ![8448, 4000]⟩
abbrev S1024x4000 : Shape := ⟨2, ![1024, 4000]⟩
abbrev S8448x1024 : Shape := ⟨2, ![8448, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8448x4000, .bf16⟩
  | .hbm, ⟨1, _⟩ => ⟨S1024x4000, .f32⟩
  | .hbm, ⟨2, _⟩ => ⟨S8448x1024, .f32⟩
  | .hbm, ⟨3, _⟩ => ⟨S_, .f32⟩
  | .hbm, ⟨4, _⟩ => ⟨S8448x1024, .f32⟩
  | .hbm, ⟨5, _⟩ => ⟨S8448x4000, .f32⟩
  | .hbm, ⟨6, _⟩ => ⟨S_, .f32⟩
  | .hbm, ⟨7, _⟩ => ⟨S8448x1024, .f32⟩
  | .hbm, ⟨8, _⟩ => ⟨S8448x1024, .f32⟩
  | .hbm, ⟨9, _⟩ => ⟨S8448x4000, .f32⟩
  | .hbm, ⟨10, _⟩ => ⟨S_, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S8448x1024, .f32⟩
  | _, _ => ⟨S8448x4000, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== DwiKernel.lean ====
abbrev S8448x1024 : Shape := ⟨2, ![8448, 1024]⟩
abbrev S8448x4000 : Shape := ⟨2, ![8448, 4000]⟩
abbrev S8448x1952 : Shape := ⟨2, ![8448, 1952]⟩
abbrev S_ : Shape := ⟨0, ![]⟩
abbrev S8448x96 : Shape := ⟨2, ![8448, 96]⟩
abbrev S8448x2048 : Shape := ⟨2, ![8448, 2048]⟩
abbrev S8448x4096 : Shape := ⟨2, ![8448, 4096]⟩
abbrev S1024x4096 : Shape := ⟨2, ![1024, 4096]⟩
abbrev S768x512 : Shape := ⟨2, ![768, 512]⟩
abbrev S768x4096 : Shape := ⟨2, ![768, 4096]⟩
abbrev S512x4096 : Shape := ⟨2, ![512, 4096]⟩
abbrev S1024x1952 : Shape := ⟨2, ![1024, 1952]⟩
abbrev S1024x2048 : Shape := ⟨2, ![1024, 2048]⟩
abbrev S1024x4000 : Shape := ⟨2, ![1024, 4000]⟩

abbrev nBuf : Space → Nat
  | .hbm => 11
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x4000, .bf16⟩
  | .hbm, ⟨2, _⟩ => ⟨S8448x1952, .bf16⟩
  | .hbm, ⟨3, _⟩ => ⟨S_, .bf16⟩
  | .hbm, ⟨4, _⟩ => ⟨S8448x96, .bf16⟩
  | .hbm, ⟨5, _⟩ => ⟨S8448x2048, .bf16⟩
  | .hbm, ⟨6, _⟩ => ⟨S8448x4096, .bf16⟩
  | .hbm, ⟨7, _⟩ => ⟨S1024x4096, .bf16⟩
  | .hbm, ⟨8, _⟩ => ⟨S1024x1952, .bf16⟩
  | .hbm, ⟨9, _⟩ => ⟨S1024x2048, .bf16⟩
  | .hbm, ⟨10, _⟩ => ⟨S1024x4000, .bf16⟩
  | .local _ .vmem, ⟨0, _⟩ => ⟨S768x512, .bf16⟩
  | .local _ .vmem, ⟨1, _⟩ => ⟨S768x512, .bf16⟩
  | .local _ .vmem, ⟨2, _⟩ => ⟨S768x4096, .bf16⟩
  | .local _ .vmem, ⟨3, _⟩ => ⟨S768x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwiReferenceIdeal.lean ====
abbrev S8448x1024 : Shape := ⟨2, ![8448, 1024]⟩
abbrev S8448x4000 : Shape := ⟨2, ![8448, 4000]⟩
abbrev S_ : Shape := ⟨0, ![]⟩
abbrev S1024x4000 : Shape := ⟨2, ![1024, 4000]⟩
abbrev S4000x1024 : Shape := ⟨2, ![4000, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x4000, .bf16⟩
  | .hbm, ⟨2, _⟩ => ⟨S_, .f32⟩
  | .hbm, ⟨3, _⟩ => ⟨S1024x4000, .f32⟩
  | .hbm, ⟨4, _⟩ => ⟨S8448x1024, .f32⟩
  | .hbm, ⟨5, _⟩ => ⟨S8448x4000, .f32⟩
  | .hbm, ⟨6, _⟩ => ⟨S8448x4000, .f32⟩
  | .hbm, ⟨7, _⟩ => ⟨S4000x1024, .f32⟩
  | .hbm, ⟨8, _⟩ => ⟨S1024x4000, .f32⟩
  | .hbm, ⟨9, _⟩ => ⟨S1024x4000, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FupKernel.lean ====
abbrev S8448x1024 : Shape := ⟨2, ![8448, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8448x2816 : Shape := ⟨2, ![8448, 2816]⟩
abbrev S768x1024 : Shape := ⟨2, ![768, 1024]⟩
abbrev S1x1024x1408 : Shape := ⟨3, ![1, 1024, 1408]⟩
abbrev S768x1408 : Shape := ⟨2, ![768, 1408]⟩
abbrev S1024x1408 : Shape := ⟨2, ![1024, 1408]⟩

abbrev nBuf : Space → Nat
  | .hbm => 8
  | .vmem => 12
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S8448x2816, .bf16⟩
  | .hbm, ⟨6, _⟩ => ⟨S8448x2816, .bf16⟩
  | .hbm, ⟨7, _⟩ => ⟨S8448x2816, .bf16⟩
  | .local _ .vmem, ⟨0, _⟩ => ⟨S768x1024, .bf16⟩
  | .local _ .vmem, ⟨1, _⟩ => ⟨S768x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S768x1408, .bf16⟩
  | .local _ .vmem, ⟨7, _⟩ => ⟨S768x1408, .bf16⟩
  | .local _ .vmem, ⟨8, _⟩ => ⟨S768x1408, .bf16⟩
  | .local _ .vmem, ⟨9, _⟩ => ⟨S768x1408, .bf16⟩
  | .local _ .vmem, ⟨10, _⟩ => ⟨S768x1408, .bf16⟩
  | .local _ .vmem, ⟨11, _⟩ => ⟨S768x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FupReferenceIdeal.lean ====
abbrev S8448x1024 : Shape := ⟨2, ![8448, 1024]⟩
abbrev S1024x5632 : Shape := ⟨2, ![1024, 5632]⟩
abbrev S8448x5632 : Shape := ⟨2, ![8448, 5632]⟩
abbrev S8448x2816 : Shape := ⟨2, ![8448, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .f32⟩
  | .hbm, ⟨2, _⟩ => ⟨S8448x1024, .f32⟩
  | .hbm, ⟨3, _⟩ => ⟨S8448x5632, .f32⟩
  | .hbm, ⟨4, _⟩ => ⟨S8448x2816, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S_, .f32⟩
  | .hbm, ⟨9, _⟩ => ⟨S8448x2816, .f32⟩
  | .hbm, ⟨10, _⟩ => ⟨S8448x2816, .f32⟩
  | .hbm, ⟨11, _⟩ => ⟨S_, .f32⟩
  | .hbm, ⟨12, _⟩ => ⟨S8448x2816, .f32⟩
  | .hbm, ⟨13, _⟩ => ⟨S8448x2816, .f32⟩
  | .hbm, ⟨14, _⟩ => ⟨S8448x2816, .f32⟩
  | .hbm, ⟨15, _⟩ => ⟨S8448x2816, .f32⟩
  | .hbm, ⟨16, _⟩ => ⟨S8448x2816, .bf16⟩
  | .hbm, ⟨17, _⟩ => ⟨S8448x2816, .bf16⟩
  | .hbm, ⟨18, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== MxfKernel.lean ====
abbrev S8448x1024 : Shape := ⟨2, ![8448, 1024]⟩
abbrev S1024x4000 : Shape := ⟨2, ![1024, 4000]⟩
abbrev S1024x1952 : Shape := ⟨2, ![1024, 1952]⟩
abbrev S_ : Shape := ⟨0, ![]⟩
abbrev S1024x96 : Shape := ⟨2, ![1024, 96]⟩
abbrev S1024x2048 : Shape := ⟨2, ![1024, 2048]⟩
abbrev S1024x4096 : Shape := ⟨2, ![1024, 4096]⟩
abbrev S8448x4096 : Shape := ⟨2, ![8448, 4096]⟩
abbrev S768x1024 : Shape := ⟨2, ![768, 1024]⟩
abbrev S1024x1024 : Shape := ⟨2, ![1024, 1024]⟩
abbrev S8448x1952 : Shape := ⟨2, ![8448, 1952]⟩
abbrev S8448x2048 : Shape := ⟨2, ![8448, 2048]⟩
abbrev S8448x4000 : Shape := ⟨2, ![8448, 4000]⟩

abbrev nBuf : Space → Nat
  | .hbm => 12
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x4000, .f32⟩
  | .hbm, ⟨2, _⟩ => ⟨S1024x4000, .bf16⟩
  | .hbm, ⟨3, _⟩ => ⟨S1024x1952, .bf16⟩
  | .hbm, ⟨4, _⟩ => ⟨S_, .bf16⟩
  | .hbm, ⟨5, _⟩ => ⟨S1024x96, .bf16⟩
  | .hbm, ⟨6, _⟩ => ⟨S1024x2048, .bf16⟩
  | .hbm, ⟨7, _⟩ => ⟨S1024x4096, .bf16⟩
  | .hbm, ⟨8, _⟩ => ⟨S8448x4096, .bf16⟩
  | .hbm, ⟨9, _⟩ => ⟨S8448x1952, .bf16⟩
  | .hbm, ⟨10, _⟩ => ⟨S8448x2048, .bf16⟩
  | .hbm, ⟨11, _⟩ => ⟨S8448x4000, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MxfReferenceIdeal.lean ====
abbrev S8448x1024 : Shape := ⟨2, ![8448, 1024]⟩
abbrev S1024x4000 : Shape := ⟨2, ![1024, 4000]⟩
abbrev S8448x4000 : Shape := ⟨2, ![8448, 4000]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x4000, .f32⟩
  | .hbm, ⟨2, _⟩ => ⟨S8448x1024, .f32⟩
  | .hbm, ⟨3, _⟩ => ⟨S8448x4000, .f32⟩
  | .hbm, ⟨4, _⟩ => ⟨S8448x4000, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DlnKernel.lean ====
abbrev S8448x2816 : Shape := ⟨2, ![8448, 2816]⟩
abbrev S2816x1024 : Shape := ⟨2, ![2816, 1024]⟩
abbrev S8448x1024 : Shape := ⟨2, ![8448, 1024]⟩
abbrev S1024 : Shape := ⟨1, ![1024]⟩
abbrev S4x704x1024 : Shape := ⟨3, ![4, 704, 1024]⟩
abbrev S1x1024 : Shape := ⟨2, ![1, 1024]⟩
abbrev S8448x1 : Shape := ⟨2, ![8448, 1]⟩
abbrev S768x2816 : Shape := ⟨2, ![768, 2816]⟩
abbrev S768x1024 : Shape := ⟨2, ![768, 1024]⟩
abbrev S768x1 : Shape := ⟨2, ![768, 1]⟩
abbrev S1x704x1024 : Shape := ⟨3, ![1, 704, 1024]⟩
abbrev S704x1024 : Shape := ⟨2, ![704, 1024]⟩
abbrev S768 : Shape := ⟨1, ![768]⟩

abbrev nBuf : Space → Nat
  | .hbm => 16
  | .vmem => 15
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .f32⟩
  | .hbm, ⟨2, _⟩ => ⟨S8448x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S2816x1024, .bf16⟩
  | .hbm, ⟨8, _⟩ => ⟨S4x704x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8448x1024, .f32⟩
  | .hbm, ⟨14, _⟩ => ⟨S8448x1, .f32⟩
  | .hbm, ⟨15, _⟩ => ⟨S8448x1024, .bf16⟩
  | .local _ .vmem, ⟨0, _⟩ => ⟨S768x2816, .bf16⟩
  | .local _ .vmem, ⟨1, _⟩ => ⟨S768x2816, .bf16⟩
  | .local _ .vmem, ⟨2, _⟩ => ⟨S4x704x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S768x1024, .f32⟩
  | .local _ .vmem, ⟨10, _⟩ => ⟨S768x1024, .f32⟩
  | .local _ .vmem, ⟨11, _⟩ => ⟨S768x1, .f32⟩
  | .local _ .vmem, ⟨12, _⟩ => ⟨S768x1, .f32⟩
  | .local _ .vmem, ⟨13, _⟩ => ⟨S768x1024, .bf16⟩
  | .local _ .vmem, ⟨14, _⟩ => ⟨S768x1024, .bf16⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DlnReferenceIdeal.lean ====
abbrev S8448x2816 : Shape := ⟨2, ![8448, 2816]⟩
abbrev S2816x1024 : Shape := ⟨2, ![2816, 1024]⟩
abbrev S8448x1024 : Shape := ⟨2, ![8448, 1024]⟩
abbrev S1024 : Shape := ⟨1, ![1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩

abbrev nBuf : Space → Nat
  | .hbm => 52
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .f32⟩
  | .hbm, ⟨2, _⟩ => ⟨S8448x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S8448x1024, .f32⟩
  | .hbm, ⟨9, _⟩ => ⟨S8448x1024, .f32⟩
  | .hbm, ⟨10, _⟩ => ⟨S1x1024, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448x1024, .f32⟩
  | .hbm, ⟨15, _⟩ => ⟨S8448x1024, .f32⟩
  | .hbm, ⟨16, _⟩ => ⟨S8448x2816, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S_, .f32⟩
  | .hbm, ⟨23, _⟩ => ⟨S8448, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448, .f32⟩
  | .hbm, ⟨33, _⟩ => ⟨S8448x1, .f32⟩
  | .hbm, ⟨34, _⟩ => ⟨S_, .f32⟩
  | .hbm, ⟨35, _⟩ => ⟨S8448x1, .f32⟩
  | .hbm, ⟨36, _⟩ => ⟨S8448x1, .f32⟩
  | .hbm, ⟨37, _⟩ => ⟨S_, .f32⟩
  | .hbm, ⟨38, _⟩ => ⟨S8448x1, .f32⟩
  | .hbm, ⟨39, _⟩ => ⟨S8448x1, .f32⟩
  | .hbm, ⟨40, _⟩ => ⟨S8448x1, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S8448x1024, .f32⟩
  | .hbm, ⟨45, _⟩ => ⟨S1x1024, .f32⟩
  | .hbm, ⟨46, _⟩ => ⟨S8448x1024, .f32⟩
  | .hbm, ⟨47, _⟩ => ⟨S8448x1024, .f32⟩
  | .hbm, ⟨48, _⟩ => ⟨S1x1024, .f32⟩
  | .hbm, ⟨49, _⟩ => ⟨S8448x1024, .f32⟩
  | .hbm, ⟨50, _⟩ => ⟨S8448x1024, .f32⟩
  | .hbm, ⟨51, _⟩ => ⟨S8448x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== MrgKernel.lean ====
abbrev S8448x512 : Shape := ⟨2, ![8448, 512]⟩
abbrev S8448x8x128 : Shape := ⟨3, ![8448, 8, 128]⟩
abbrev S8448x4000 : Shape := ⟨2, ![8448, 4000]⟩
abbrev S2x1024 : Shape := ⟨2, ![2, 1024]⟩
abbrev S512x1024 : Shape := ⟨2, ![512, 1024]⟩
abbrev S1024x1024 : Shape := ⟨2, ![1024, 1024]⟩
abbrev S8448x1024 : Shape := ⟨2, ![8448, 1024]⟩
abbrev S1024 : Shape := ⟨1, ![1024]⟩
abbrev S8x64x1024 : Shape := ⟨3, ![8, 64, 1024]⟩
abbrev S_ : Shape := ⟨0, ![]⟩
abbrev S8x128x1024 : Shape := ⟨3, ![8, 128, 1024]⟩
abbrev S8448x1952 : Shape := ⟨2, ![8448, 1952]⟩
abbrev S8448x96 : Shape := ⟨2, ![8448, 96]⟩
abbrev S8448x2048 : Shape := ⟨2, ![8448, 2048]⟩
abbrev S8448x4096 : Shape := ⟨2, ![8448, 4096]⟩
abbrev S1x1024 : Shape := ⟨2, ![1, 1024]⟩
abbrev S8448x1 : Shape := ⟨2, ![8448, 1]⟩
abbrev S384x512 : Shape := ⟨2, ![384, 512]⟩
abbrev S384x1024 : Shape := ⟨2, ![384, 1024]⟩
abbrev S384x1 : Shape := ⟨2, ![384, 1]⟩
abbrev S384 : Shape := ⟨1, ![384]⟩

abbrev nBuf : Space → Nat
  | .hbm => 36
  | .vmem => 30
  | .smem => 0
  | _ => 0

abbrev bufTy : (tb : Table) → Fin (tcTables nBuf tb) → BufTy
  | .hbm, ⟨0, _⟩ => ⟨S8448x512, .bf16⟩
  | .hbm, ⟨1, _⟩ => ⟨S8448x8x128, .bf16⟩
  | .hbm, ⟨2, _⟩ => ⟨S8448x4000, .bf16⟩
  | .hbm, ⟨3, _⟩ => ⟨S2x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8448x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S512x1024, .bf16⟩
  | .hbm, ⟨13, _⟩ => ⟨S8x64x1024, .bf16⟩
  | .hbm, ⟨14, _⟩ => ⟨S_, .bf16⟩
  | .hbm, ⟨15, _⟩ => ⟨S8x64x1024, .bf16⟩
  | .hbm, ⟨16, _⟩ => ⟨S8x128x1024, .bf16⟩
  | .hbm, ⟨17, _⟩ => ⟨S1024x1024, .bf16⟩
  | .hbm, ⟨18, _⟩ => ⟨S8448x1024, .bf16⟩
  | .hbm, ⟨19, _⟩ => ⟨S8448x1952, .bf16⟩
  | .hbm, ⟨20, _⟩ => ⟨S_, .bf16⟩
  | .hbm, ⟨21, _⟩ => ⟨S8448x96, .bf16⟩
  | .hbm, ⟨22, _⟩ => ⟨S8448x2048, .bf16⟩
  | .hbm, ⟨23, _⟩ => ⟨S8448x4096, .bf16⟩
  | .hbm, ⟨24, _⟩ => ⟨S512x1024, .bf16⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S8448x1024, .bf16⟩
  | .hbm, ⟨31, _⟩ => ⟨S8448x1024, .bf16⟩
  | .hbm, ⟨32, _⟩ => ⟨S8448x1024, .bf16⟩
  | .hbm, ⟨33, _⟩ => ⟨S8448x1024, .f32⟩
  | .hbm, ⟨34, _⟩ => ⟨S8448x1, .f32⟩
  | .hbm, ⟨35, _⟩ => ⟨S8448x1024, .bf16⟩
  | .local _ .vmem, ⟨0, _⟩ => ⟨S384x512, .bf16⟩
  | .local _ .vmem, ⟨1, _⟩ => ⟨S384x512, .bf16⟩
  | .local _ .vmem, ⟨2, _⟩ => ⟨S384x1024, .bf16⟩
  | .local _ .vmem, ⟨3, _⟩ => ⟨S384x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .bf16⟩
  | .local _ .vmem, ⟨8, _⟩ => ⟨S2x1024, .f32⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S384x1024, .f32⟩
  | .local _ .vmem, ⟨13, _⟩ => ⟨S384x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S384x1024, .bf16⟩
  | .local _ .vmem, ⟨19, _⟩ => ⟨S384x1024, .bf16⟩
  | .local _ .vmem, ⟨20, _⟩ => ⟨S384x1024, .bf16⟩
  | .local _ .vmem, ⟨21, _⟩ => ⟨S384x1024, .bf16⟩
  | .local _ .vmem, ⟨22, _⟩ => ⟨S384x1024, .bf16⟩
  | .local _ .vmem, ⟨23, _⟩ => ⟨S384x1024, .bf16⟩
  | .local _ .vmem, ⟨24, _⟩ => ⟨S384x1024, .f32⟩
  | .local _ .vmem, ⟨25, _⟩ => ⟨S384x1024, .f32⟩
  | .local _ .vmem, ⟨26, _⟩ => ⟨S384x1, .f32⟩
  | .local _ .vmem, ⟨27, _⟩ => ⟨S384x1, .f32⟩
  | .local _ .vmem, ⟨28, _⟩ => ⟨S384x1024, .bf16⟩
  | .local _ .vmem, ⟨29, _⟩ => ⟨S384x1024, .bf16⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S384x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S384x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S384x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MrgReferenceIdeal.lean ====
abbrev S8448x512 : Shape := ⟨2, ![8448, 512]⟩
abbrev S8448x8x128 : Shape := ⟨3, ![8448, 8, 128]⟩
abbrev S8448x4000 : Shape := ⟨2, ![8448, 4000]⟩
abbrev S2x1024 : Shape := ⟨2, ![2, 1024]⟩
abbrev S512x1024 : Shape := ⟨2, ![512, 1024]⟩
abbrev S1024x1024 : Shape := ⟨2, ![1024, 1024]⟩
abbrev S8448x1024 : Shape := ⟨2, ![8448, 1024]⟩
abbrev S1024 : Shape := ⟨1, ![1024]⟩
abbrev S8448x8x64 : Shape := ⟨3, ![8448, 8, 64]⟩
abbrev S1x1024 : Shape := ⟨2, ![1, 1024]⟩
abbrev S_ : Shape := ⟨0, ![]⟩
abbrev S8448 : Shape := ⟨1, ![8448]⟩
abbrev S8448x1 : Shape := ⟨2, ![8448, 1]⟩

abbrev nBuf : Space → Nat
  | .hbm => 94
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x8x128, .bf16⟩
  | .hbm, ⟨2, _⟩ => ⟨S8448x4000, .bf16⟩
  | .hbm, ⟨3, _⟩ => ⟨S2x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8448x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S8448x4000, .f32⟩
  | .hbm, ⟨13, _⟩ => ⟨S8448x1024, .f32⟩
  | .hbm, ⟨14, _⟩ => ⟨S8448x1024, .f32⟩
  | .hbm, ⟨15, _⟩ => ⟨S8448x8x128, .f32⟩
  | .hbm, ⟨16, _⟩ => ⟨S8448x8x64, .f32⟩
  | .hbm, ⟨17, _⟩ => ⟨S8448x512, .f32⟩
  | .hbm, ⟨18, _⟩ => ⟨S8448x512, .f32⟩
  | .hbm, ⟨19, _⟩ => ⟨S8448x1024, .f32⟩
  | .hbm, ⟨20, _⟩ => ⟨S8448x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S_, .f32⟩
  | .hbm, ⟨43, _⟩ => ⟨S8448x1024, .f32⟩
  | .hbm, ⟨44, _⟩ => ⟨S8448x1024, .f32⟩
  | .hbm, ⟨45, _⟩ => ⟨S_, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S1x1024, .f32⟩
  | .hbm, ⟨51, _⟩ => ⟨S8448x1024, .f32⟩
  | .hbm, ⟨52, _⟩ => ⟨S8448x1024, .f32⟩
  | .hbm, ⟨53, _⟩ => ⟨S1x1024, .f32⟩
  | .hbm, ⟨54, _⟩ => ⟨S8448x1024, .f32⟩
  | .hbm, ⟨55, _⟩ => ⟨S8448x1024, .f32⟩
  | .hbm, ⟨56, _⟩ => ⟨S_, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S8448x1024, .f32⟩
  | .hbm, ⟨61, _⟩ => ⟨S_, .f32⟩
  | .hbm, ⟨62, _⟩ => ⟨S8448, .f32⟩
  | .hbm, ⟨63, _⟩ => ⟨S8448x1, .f32⟩
  | .hbm, ⟨64, _⟩ => ⟨S_, .f32⟩
  | .hbm, ⟨65, _⟩ => ⟨S8448x1, .f32⟩
  | .hbm, ⟨66, _⟩ => ⟨S8448x1, .f32⟩
  | .hbm, ⟨67, _⟩ => ⟨S8448x1024, .f32⟩
  | .hbm, ⟨68, _⟩ => ⟨S8448x1024, .f32⟩
  | .hbm, ⟨69, _⟩ => ⟨S8448x1024, .f32⟩
  | .hbm, ⟨70, _⟩ => ⟨S_, .f32⟩
  | .hbm, ⟨71, _⟩ => ⟨S8448, .f32⟩
  | .hbm, ⟨72, _⟩ => ⟨S8448x1, .f32⟩
  | .hbm, ⟨73, _⟩ => ⟨S_, .f32⟩
  | .hbm, ⟨74, _⟩ => ⟨S8448x1, .f32⟩
  | .hbm, ⟨75, _⟩ => ⟨S8448x1, .f32⟩
  | .hbm, ⟨76, _⟩ => ⟨S_, .f32⟩
  | .hbm, ⟨77, _⟩ => ⟨S8448x1, .f32⟩
  | .hbm, ⟨78, _⟩ => ⟨S8448x1, .f32⟩
  | .hbm, ⟨79, _⟩ => ⟨S8448x1, .f32⟩
  | .hbm, ⟨80, _⟩ => ⟨S8448x1024, .f32⟩
  | .hbm, ⟨81, _⟩ => ⟨S8448x1024, .f32⟩
  | .hbm, ⟨82, _⟩ => ⟨S8448x1024, .f32⟩
  | .hbm, ⟨83, _⟩ => ⟨S8448x1024, .f32⟩
  | .hbm, ⟨84, _⟩ => ⟨S8448x1024, .bf16⟩
  | .hbm, ⟨85, _⟩ => ⟨S8448x1024, .bf16⟩
  | .hbm, ⟨86, _⟩ => ⟨S8448x1024, .bf16⟩
  | .hbm, ⟨87, _⟩ => ⟨S1x1024, .f32⟩
  | .hbm, ⟨88, _⟩ => ⟨S8448x1024, .f32⟩
  | .hbm, ⟨89, _⟩ => ⟨S8448x1024, .f32⟩
  | .hbm, ⟨90, _⟩ => ⟨S1x1024, .f32⟩
  | .hbm, ⟨91, _⟩ => ⟨S8448x1024, .f32⟩
  | .hbm, ⟨92, _⟩ => ⟨S8448x1024, .f32⟩
  | .hbm, ⟨93, _⟩ => ⟨S8448x1024, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_4 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== DwoKernel.lean ====
abbrev S8448x1024 : Shape := ⟨2, ![8448, 1024]⟩
abbrev S4x256x1024 : Shape := ⟨3, ![4, 256, 1024]⟩
abbrev S768x1024 : Shape := ⟨2, ![768, 1024]⟩
abbrev S1024x1024 : Shape := ⟨2, ![1024, 1024]⟩
abbrev S256x1024 : Shape := ⟨2, ![256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S4x256x1024, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S4x256x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwoReferenceIdeal.lean ====
abbrev S8448x1024 : Shape := ⟨2, ![8448, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S4x256x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MgbKernel.lean ====
abbrev S8448x1024 : Shape := ⟨2, ![8448, 1024]⟩
abbrev S8448x8x128 : Shape := ⟨3, ![8448, 8, 128]⟩
abbrev S8448x4000 : Shape := ⟨2, ![8448, 4000]⟩
abbrev S2x1024 : Shape := ⟨2, ![2, 1024]⟩
abbrev S1024x1024 : Shape := ⟨2, ![1024, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S8448x1952 : Shape := ⟨2, ![8448, 1952]⟩
abbrev S8448x96 : Shape := ⟨2, ![8448, 96]⟩
abbrev S8448x2048 : Shape := ⟨2, ![8448, 2048]⟩
abbrev S8448x4096 : Shape := ⟨2, ![8448, 4096]⟩
abbrev S8448x512 : Shape := ⟨2, ![8448, 512]⟩
abbrev S384x1024 : Shape := ⟨2, ![384, 1024]⟩
abbrev S384x2048 : Shape := ⟨2, ![384, 2048]⟩
abbrev S384x512 : Shape := ⟨2, ![384, 512]⟩
abbrev S1x1024 : Shape := ⟨2, ![1, 1024]⟩
abbrev S1024 : Shape := ⟨1, ![1024]⟩
abbrev S384x128 : Shape := ⟨2, ![384, 128]⟩
abbrev S384 : Shape := ⟨1, ![384]⟩
abbrev S384x1 : Shape := ⟨2, ![384, 1]⟩

abbrev nBuf : Space → Nat
  | .hbm => 33
  | .vmem => 29
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x8x128, .bf16⟩
  | .hbm, ⟨4, _⟩ => ⟨S8448x4000, .bf16⟩
  | .hbm, ⟨5, _⟩ => ⟨S2x1024, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S512x1024, .bf16⟩
  | .hbm, ⟨10, _⟩ => ⟨S8x64x1024, .bf16⟩
  | .hbm, ⟨11, _⟩ => ⟨S_, .bf16⟩
  | .hbm, ⟨12, _⟩ => ⟨S8x64x1024, .bf16⟩
  | .hbm, ⟨13, _⟩ => ⟨S8x128x1024, .bf16⟩
  | .hbm, ⟨14, _⟩ => ⟨S1024x1024, .bf16⟩
  | .hbm, ⟨15, _⟩ => ⟨S1024x1024, .bf16⟩
  | .hbm, ⟨16, _⟩ => ⟨S8448x1952, .bf16⟩
  | .hbm, ⟨17, _⟩ => ⟨S_, .bf16⟩
  | .hbm, ⟨18, _⟩ => ⟨S8448x96, .bf16⟩
  | .hbm, ⟨19, _⟩ => ⟨S8448x2048, .bf16⟩
  | .hbm, ⟨20, _⟩ => ⟨S8448x4096, .bf16⟩
  | .hbm, ⟨21, _⟩ => ⟨S512x1024, .bf16⟩
  | .hbm, ⟨22, _⟩ => ⟨S8448x1024, .bf16⟩
  | .hbm, ⟨23, _⟩ => ⟨S8448x1024, .bf16⟩
  | .hbm, ⟨24, _⟩ => ⟨S8448x1024, .bf16⟩
  | .hbm, ⟨25, _⟩ => ⟨S8448x4096, .bf16⟩
  | .hbm, ⟨26, _⟩ => ⟨S8448x512, .f32⟩
  | .hbm, ⟨27, _⟩ => ⟨S8448x1024, .bf16⟩
  | .hbm, ⟨28, _⟩ => ⟨S8448x1024, .f32⟩
  | .hbm, ⟨29, _⟩ => ⟨S2x1024, .f32⟩
  | .hbm, ⟨30, _⟩ => ⟨S8448x2048, .bf16⟩
  | .hbm, ⟨31, _⟩ => ⟨S8448x8x128, .bf16⟩
  | .hbm, ⟨32, _⟩ => ⟨S8448x8x128, .f32⟩
  | .local _ .vmem, ⟨0, _⟩ => ⟨S384x1024, .bf16⟩
  | .local _ .vmem, ⟨1, _⟩ => ⟨S384x1024, .bf16⟩
  | .local _ .vmem, ⟨2, _⟩ => ⟨S1024x1024, .bf16⟩
  | .local _ .vmem, ⟨3, _⟩ => ⟨S384x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .bf16⟩
  | .local _ .vmem, ⟨8, _⟩ => ⟨S384x1024, .bf16⟩
  | .local _ .vmem, ⟨9, _⟩ => ⟨S384x1024, .bf16⟩
  | .local _ .vmem, ⟨10, _⟩ => ⟨S384x1024, .bf16⟩
  | .local _ .vmem, ⟨11, _⟩ => ⟨S2x1024, .f32⟩
  | .local _ .vmem, ⟨12, _⟩ => ⟨S512x1024, .bf16⟩
  | .local _ .vmem, ⟨13, _⟩ => ⟨S1024x1024, .bf16⟩
  | .local _ .vmem, ⟨14, _⟩ => ⟨S384x1024, .bf16⟩
  | .local _ .vmem, ⟨15, _⟩ => ⟨S384x1024, .bf16⟩
  | .local _ .vmem, ⟨16, _⟩ => ⟨S384x1024, .bf16⟩
  | .local _ .vmem, ⟨17, _⟩ => ⟨S384x1024, .bf16⟩
  | .local _ .vmem, ⟨18, _⟩ => ⟨S384x1024, .bf16⟩
  | .local _ .vmem, ⟨19, _⟩ => ⟨S384x1024, .bf16⟩
  | .local _ .vmem, ⟨20, _⟩ => ⟨S384x2048, .bf16⟩
  | .local _ .vmem, ⟨21, _⟩ => ⟨S384x2048, .bf16⟩
  | .local _ .vmem, ⟨22, _⟩ => ⟨S384x512, .f32⟩
  | .local _ .vmem, ⟨23, _⟩ => ⟨S384x512, .f32⟩
  | .local _ .vmem, ⟨24, _⟩ => ⟨S384x1024, .bf16⟩
  | .local _ .vmem, ⟨25, _⟩ => ⟨S384x1024, .bf16⟩
  | .local _ .vmem, ⟨26, _⟩ => ⟨S384x1024, .f32⟩
  | .local _ .vmem, ⟨27, _⟩ => ⟨S384x1024, .f32⟩
  | .local _ .vmem, ⟨28, _⟩ => ⟨S2x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev main_v12_5 : Ref sig .tc := ⟨.hbm, 28, rfl⟩
abbrev main_v12_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MgbReferenceIdeal.lean ====
abbrev S8448x1024 : Shape := ⟨2, ![8448, 1024]⟩
abbrev S8448x8x128 : Shape := ⟨3, ![8448, 8, 128]⟩
abbrev S8448x4000 : Shape := ⟨2, ![8448, 4000]⟩
abbrev S2x1024 : Shape := ⟨2, ![2, 1024]⟩
abbrev S1024x1024 : Shape := ⟨2, ![1024, 1024]⟩
abbrev S512x1024 : Shape := ⟨2, ![512, 1024]⟩
abbrev S1x1024 : Shape := ⟨2, ![1, 1024]⟩
abbrev S1024 : Shape := ⟨1, ![1024]⟩
abbrev S_ : Shape := ⟨0, ![]⟩
abbrev S8448x512 : Shape := ⟨2, ![8448, 512]⟩
abbrev S8448x8x64 : Shape := ⟨3, ![8448, 8, 64]⟩
abbrev S8448x8 : Shape := ⟨2, ![8448, 8]⟩
abbrev S8448x8x1 : Shape := ⟨3, ![8448, 8, 1]⟩
abbrev S8448x2048 : Shape := ⟨2, ![8448, 2048]⟩

abbrev nBuf : Space → Nat
  | .hbm => 98
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x8x128, .bf16⟩
  | .hbm, ⟨4, _⟩ => ⟨S8448x4000, .bf16⟩
  | .hbm, ⟨5, _⟩ => ⟨S2x1024, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S8448x4000, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S_, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S1x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S_, .f32⟩
  | .hbm, ⟨40, _⟩ => ⟨S8448x1024, .f32⟩
  | .hbm, ⟨41, _⟩ => ⟨S8448x1024, .f32⟩
  | .hbm, ⟨42, _⟩ => ⟨S_, .f32⟩
  | .hbm, ⟨43, _⟩ => ⟨S8448x1024, .f32⟩
  | .hbm, ⟨44, _⟩ => ⟨S8448x1024, .f32⟩
  | .hbm, ⟨45, _⟩ => ⟨S_, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S8448x1024, .f32⟩
  | .hbm, ⟨63, _⟩ => ⟨S8448x1024, .f32⟩
  | .hbm, ⟨64, _⟩ => ⟨S8448x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S_, .f32⟩
  | .hbm, ⟨69, _⟩ => ⟨S1024, .f32⟩
  | .hbm, ⟨70, _⟩ => ⟨S8448x1024, .bf16⟩
  | .hbm, ⟨71, _⟩ => ⟨S8448x1024, .bf16⟩
  | .hbm, ⟨72, _⟩ => ⟨S_, .f32⟩
  | .hbm, ⟨73, _⟩ => ⟨S8448x512, .f32⟩
  | .hbm, ⟨74, _⟩ => ⟨S8448x1024, .f32⟩
  | .hbm, ⟨75, _⟩ => ⟨S8448x1024, .f32⟩
  | .hbm, ⟨76, _⟩ => ⟨S8448x512, .f32⟩
  | .hbm, ⟨77, _⟩ => ⟨S8448x8x128, .f32⟩
  | .hbm, ⟨78, _⟩ => ⟨S8448x8x64, .f32⟩
  | .hbm, ⟨79, _⟩ => ⟨S8448x512, .f32⟩
  | .hbm, ⟨80, _⟩ => ⟨S8448x1024, .f32⟩
  | .hbm, ⟨81, _⟩ => ⟨S8448x1024, .f32⟩
  | .hbm, ⟨82, _⟩ => ⟨S8448x512, .f32⟩
  | .hbm, ⟨83, _⟩ => ⟨S8448x8x64, .f32⟩
  | .hbm, ⟨84, _⟩ => ⟨S_, .f32⟩
  | .hbm, ⟨85, _⟩ => ⟨S8448x8x128, .f32⟩
  | .hbm, ⟨86, _⟩ => ⟨S8448x8x128, .f32⟩
  | .hbm, ⟨87, _⟩ => ⟨S8448x8x128, .f32⟩
  | .hbm, ⟨88, _⟩ => ⟨S_, .f32⟩
  | .hbm, ⟨89, _⟩ => ⟨S8448x8, .f32⟩
  | .hbm, ⟨90, _⟩ => ⟨S8448x8x1, .f32⟩
  | .hbm, ⟨91, _⟩ => ⟨S8448x8x128, .f32⟩
  | .hbm, ⟨92, _⟩ => ⟨S8448x2048, .f32⟩
  | .hbm, ⟨93, _⟩ => ⟨S8448x2048, .bf16⟩
  | .hbm, ⟨94, _⟩ => ⟨S8448x8x128, .bf16⟩
  | .hbm, ⟨95, _⟩ => ⟨S1x1024, .f32⟩
  | .hbm, ⟨96, _⟩ => ⟨S1x1024, .f32⟩
  | .hbm, ⟨97, _⟩ => ⟨S2x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Proof.ConvBody.lean ====
module
public import proofs.«01_k».proof.Proof.Gen.ConvKernelIdeal.Value
public import Idealize.ShloMosaic.Lib.Pointwise
public import Idealize.ShloMosaic.Lib.WritesUnit
public import Idealize.ShloMosaic.Lib.Tactic
@[expose] public section
noncomputable section
open Idealize.ShloMosaic Idealize.ShloMosaic.TcCoe Idealize.SL.Sem
namespace Cert.ConvKernelIdeal.Hand
open Cert.ConvKernelIdeal Cert.ConvKernelIdeal.Gen
variable {F : FTy → Type} [FloatOps F]

/-- The offsets of a load or store of a whole rank-2 buffer. -/
theorem hz : (![0, 0] : Fin 2 → Nat) = fun _ => 0 := funext fun a => by fin_cases a <;> rfl

/-- The scratch a point computes with: its own 768 rows of `dy * b`, and below them the 8 rows it was handed. -/
def buf (D : Vec F S768x512 .f32) (xs : Vec F S776x512 .f32) : Vec F S776x512 .f32 := fun y =>
  if h : (y 0).val < 768 then D (ix2 ⟨(y 0).val, h⟩ ⟨(y 1).val, (y 1).isLt⟩) else xs y

/-- The scratch the first point is handed: zeros in the 8 rows. -/
def zrows : Vec F S776x512 .f32 := fun y => (k0_pay5 (F := F)) (ix2 ⟨(y 0).val - 768, by have := (y 0).isLt; simp only [S776x512, Shape.size, Matrix.cons_val_zero] at this; omega⟩ ⟨(y 1).val, (y 1).isLt⟩)

/-- The rows of the scratch moved by one, and by two. -/
def sh1 (B : Vec F S776x512 .f32) : Vec F S768x512 .f32 := View.ld B (Rect.unit ![1, 0] ![768, 512] inb_S776x512_S768x512_1_0)
def sh2 (B : Vec F S776x512 .f32) : Vec F S768x512 .f32 := View.ld B (Rect.unit ![2, 0] ![768, 512] inb_S776x512_S768x512_2_0)

theorem read_buf (arg12 : Memref sig .tc .vmem S776x512 .f32) (harg12 : arg12.IsWhole) (D : Vec F S768x512 .f32) (xs : Vec F S776x512 .f32) :
    View.read (Elt F) arg12.view (arg12.view.writes (Elt F) (harg12.unread xs)
      [⟨Rect.unit ![0, 0] ![768, 512] inb_S776x512_S768x512_0_0, D⟩]) = buf D xs := by
  funext y
  rw [View.read_writes_cons_rows (d := ![776, 512]) (o := 0) (W := 768) (off := ![0, 0]) (size := ![768, 512]) arg12.view _ _ _ _ y rfl rfl rfl]
  unfold buf
  have hy : (y 0).val < 776 := (y 0).isLt
  by_cases h : (y 0).val < 768
  · rw [dif_pos (by omega), dif_pos h]
    congr 1
    funext a; fin_cases a <;> rfl
  · rw [dif_neg (by omega), dif_neg h, View.writes_nil, harg12.read_unread]

theorem readCov_buf (arg12 : Memref sig .tc .vmem S776x512 .f32) (D : Vec F S768x512 .f32) (r : Rect S776x512) :
    arg12.view.readCov [(⟨Rect.unit ![0, 0] ![768, 512] inb_S776x512_S768x512_0_0, D⟩ : View.Piece (Elt F) S776x512 .f32),
      ⟨Rect.unit ![768, 0] ![8, 512] inb_S776x512_S8x512_768_0, k0_pay5⟩] r.toLoadRect = View.ld (buf D zrows) r := by
  rw [View.readCov_eq_canon']
  funext j
  show _ = buf D zrows (r.toLoadRect.idx j)
  generalize r.toLoadRect.idx j = y
  rw [← View.read_writes_junk_apply_eq_canon arg12.view]
  have hy : (y 0).val < 776 := (y 0).isLt
  rw [View.read_writes_cons_rows (d := ![776, 512]) (o := 0) (W := 768) (off := ![0, 0]) (size := ![768, 512]) arg12.view _ _ _ _ y rfl rfl rfl,
    View.read_writes_cons_rows (d := ![776, 512]) (o := 768) (W := 8) (off := ![768, 0]) (size := ![8, 512]) arg12.view _ _ _ _ y rfl rfl rfl]
  unfold buf
  by_cases h : (y 0).val < 768
  · rw [dif_pos (by omega), dif_pos h]
    congr 1
    funext a; fin_cases a <;> rfl
  · rw [dif_neg (by omega), dif_neg h, dif_pos (by omega)]
    unfold zrows
    congr 1
    funext a; fin_cases a <;> rfl

theorem carry_canon (arg12 : Memref sig .tc .vmem S776x512 .f32) (D : Vec F S768x512 .f32) (L : List (View.Piece (Elt F) S776x512 .f32)) (y : S776x512.Idx) (hy : 768 ≤ (y 0).val) :
    View.canon ((⟨Rect.unit ![768, 0] ![8, 512] inb_S776x512_S8x512_768_0,
          k0_pay4
            (arg12.view.readCov ((⟨Rect.unit ![0, 0] ![768, 512] inb_S776x512_S768x512_0_0, D⟩ : View.Piece (Elt F) S776x512 .f32) :: L)
              (Rect.unit (s := S776x512) ![0, 0] ![8, 512] inb_S776x512_S8x512_0_0).toLoadRect)⟩ : View.Piece (Elt F) S776x512 .f32) ::
        (⟨Rect.unit ![0, 0] ![768, 512] inb_S776x512_S768x512_0_0, D⟩ : View.Piece (Elt F) S776x512 .f32) :: L) y
      = D (ix2 ⟨(y 0).val - 768, by have h : (y 0).val < 776 := (y 0).isLt; omega⟩ ⟨(y 1).val, (y 1).isLt⟩) := by
  have hy' : (y 0).val < 776 := (y 0).isLt
  rw [← View.read_writes_junk_apply_eq_canon arg12.view,
    View.read_writes_cons_rows (d := ![776, 512]) (o := 768) (W := 8) (off := ![768, 0]) (size := ![8, 512]) arg12.view _ _ _ _ y rfl rfl rfl, dif_pos (by omega)]
  unfold k0_pay4
  dsimp only
  rw [shapeCast_self, View.readCov_eq_canon']
  dsimp only
  rw [← View.read_writes_junk_apply_eq_canon arg12.view,
    View.read_writes_cons_rows_of_mem (d := ![776, 512]) (o := 0) (off := ![0, 0]) (size := ![768, 512]) arg12.view _ _ _ _ _
      (ix2 ⟨(y 0).val - 768, by omega⟩ ⟨(y 1).val, (y 1).isLt⟩) rfl]
  · show 0 + 1 * ((y 0).val - 768) = 0 + ((y 0).val - 768)
    omega
  · show 0 + 1 * ((y 1).val - 0) = (y 1).val
    omega

theorem out0_A_6_eq  (c : Dev nD) (i : grid0.Coords) (arg1 : Memref sig .tc .vmem S768x512 .f32) (harg1 : arg1.IsWhole) (arg2 : Memref sig .tc .vmem S768x512 .bf16) (harg2 : arg2.IsWhole) (arg3 : Memref sig .tc .vmem S768x512 .bf16) (harg3 : arg3.IsWhole) (arg4 : Memref sig .tc .vmem S768x512 .bf16) (harg4 : arg4.IsWhole) (arg5 : Memref sig .tc .vmem S768x512 .bf16) (harg5 : arg5.IsWhole) (arg6 : Memref sig .tc .vmem S3x512 .f32) (harg6 : arg6.IsWhole) (arg8 : Memref sig .tc .vmem S768x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S776x512 .f32) (harg12 : arg12.IsWhole) (hc0 : cond0_0 i)
    (x0 : Vec F S768x512 .f32) (x1 : Vec F S768x512 .bf16) (x2 : Vec F S768x512 .bf16) (x3 : Vec F S768x512 .bf16) (x4 : Vec F S768x512 .bf16) (x5 : Vec F S3x512 .f32)  :
    out0_A_6 c i arg1 harg1 arg2 harg2 arg3 harg3 arg4 harg4 arg5 harg5 arg6 harg6 arg8 harg8 arg9 harg9 arg10 harg10 arg11 harg11 arg12 harg12 hc0 x0 x1 x2 x3 x4 x5 = k0_pay14 x0 x2 x3 x1 (sh1 (buf (k0_pay12 x0 x1) zrows)) (sh2 (buf (k0_pay12 x0 x1) zrows)) x5 x4 := by
  unfold out0_A_6
  rw [View.read_writes_eq_canon _ _ _ (cover0_A_6 c i arg1 harg1 arg2 harg2 arg3 harg3 arg4 harg4 arg5 harg5 arg6 harg6 arg8 harg8 arg9 harg9 arg10 harg10 arg11 harg11 arg12 harg12 hc0 x0 x1 x2 x3 x4 x5)]
  unfold kernelRun0_A
  dsimp only
  sl_unfold_words
  first
  | rw [View.canon_unit_zero hz]
  | rw [View.canon_cons_unit_zero (S := S1x512) hz, View.readCov_unit_zero (S := S1x512) _ hz]
  simp only [View.readAt_eq_ld, harg1.read_unread, harg2.read_unread, harg3.read_unread, harg4.read_unread, harg5.read_unread, harg6.read_unread, harg9.read_unread, harg10.read_unread, harg11.read_unread, View.ld_unit_zero (S := S1x512) hz, View.ld_unit_zero (S := S768x512) hz, View.ld_unit_zero (S := S3x512) hz]
  try simp only [read_buf, readCov_buf]
  try rfl

theorem out0_A_7_eq  (c : Dev nD) (i : grid0.Coords) (arg1 : Memref sig .tc .vmem S768x512 .f32) (harg1 : arg1.IsWhole) (arg2 : Memref sig .tc .vmem S768x512 .bf16) (harg2 : arg2.IsWhole) (arg3 : Memref sig .tc .vmem S768x512 .bf16) (harg3 : arg3.IsWhole) (arg4 : Memref sig .tc .vmem S768x512 .bf16) (harg4 : arg4.IsWhole) (arg5 : Memref sig .tc .vmem S768x512 .bf16) (harg5 : arg5.IsWhole) (arg6 : Memref sig .tc .vmem S3x512 .f32) (harg6 : arg6.IsWhole) (arg8 : Memref sig .tc .vmem S768x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S776x512 .f32) (harg12 : arg12.IsWhole) (hc0 : cond0_0 i)
    (x0 : Vec F S768x512 .f32) (x1 : Vec F S768x512 .bf16) (x2 : Vec F S768x512 .bf16) (x3 : Vec F S768x512 .bf16) (x4 : Vec F S768x512 .bf16) (x5 : Vec F S3x512 .f32)  :
    out0_A_7 c i arg1 harg1 arg2 harg2 arg3 harg3 arg4 harg4 arg5 harg5 arg6 harg6 arg8 harg8 arg9 harg9 arg10 harg10 arg11 harg11 arg12 harg12 hc0 x0 x1 x2 x3 x4 x5 = k0_pay1 (sh2 (buf (k0_pay12 x0 x1) zrows)) (k0_pay13 x2 x3) k0_pay6 := by
  unfold out0_A_7
  rw [View.read_writes_eq_canon _ _ _ (cover0_A_7 c i arg1 harg1 arg2 harg2 arg3 harg3 arg4 harg4 arg5 harg5 arg6 harg6 arg8 harg8 arg9 harg9 arg10 harg10 arg11 harg11 arg12 harg12 hc0 x0 x1 x2 x3 x4 x5)]
  unfold kernelRun0_A
  dsimp only
  sl_unfold_words
  first
  | rw [View.canon_unit_zero hz]
  | rw [View.canon_cons_unit_zero (S := S1x512) hz, View.readCov_unit_zero (S := S1x512) _ hz]
  simp only [View.readAt_eq_ld, harg1.read_unread, harg2.read_unread, harg3.read_unread, harg4.read_unread, harg5.read_unread, harg6.read_unread, harg9.read_unread, harg10.read_unread, harg11.read_unread, View.ld_unit_zero (S := S1x512) hz, View.ld_unit_zero (S := S768x512) hz, View.ld_unit_zero (S := S3x512) hz]
  try simp only [read_buf, readCov_buf]
  try rfl

theorem out0_A_8_eq  (c : Dev nD) (i : grid0.Coords) (arg1 : Memref sig .tc .vmem S768x512 .f32) (harg1 : arg1.IsWhole) (arg2 : Memref sig .tc .vmem S768x512 .bf16) (harg2 : arg2.IsWhole) (arg3 : Memref sig .tc .vmem S768x512 .bf16) (harg3 : arg3.IsWhole) (arg4 : Memref sig .tc .vmem S768x512 .bf16) (harg4 : arg4.IsWhole) (arg5 : Memref sig .tc .vmem S768x512 .bf16) (harg5 : arg5.IsWhole) (arg6 : Memref sig .tc .vmem S3x512 .f32) (harg6 : arg6.IsWhole) (arg8 : Memref sig .tc .vmem S768x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S776x512 .f32) (harg12 : arg12.IsWhole) (hc0 : cond0_0 i)
    (x0 : Vec F S768x512 .f32) (x1 : Vec F S768x512 .bf16) (x2 : Vec F S768x512 .bf16) (x3 : Vec F S768x512 .bf16) (x4 : Vec F S768x512 .bf16) (x5 : Vec F S3x512 .f32)  :
    out0_A_8 c i arg1 harg1 arg2 harg2 arg3 harg3 arg4 harg4 arg5 harg5 arg6 harg6 arg8 harg8 arg9 harg9 arg10 harg10 arg11 harg11 arg12 harg12 hc0 x0 x1 x2 x3 x4 x5 = k0_pay2 (sh1 (buf (k0_pay12 x0 x1) zrows)) (k0_pay13 x2 x3) k0_pay7 := by
  unfold out0_A_8
  rw [View.read_writes_eq_canon _ _ _ (cover0_A_8 c i arg1 harg1 arg2 harg2 arg3 harg3 arg4 harg4 arg5 harg5 arg6 harg6 arg8 harg8 arg9 harg9 arg10 harg10 arg11 harg11 arg12 harg12 hc0 x0 x1 x2 x3 x4 x5)]
  unfold kernelRun0_A
  dsimp only
  sl_unfold_words
  first
  | rw [View.canon_unit_zero hz]
  | rw [View.canon_cons_unit_zero (S := S1x512) hz, View.readCov_unit_zero (S := S1x512) _ hz]
  simp only [View.readAt_eq_ld, harg1.read_unread, harg2.read_unread, harg3.read_unread, harg4.read_unread, harg5.read_unread, harg6.read_unread, harg9.read_unread, harg10.read_unread, harg11.read_unread, View.ld_unit_zero (S := S1x512) hz, View.ld_unit_zero (S := S768x512) hz, View.ld_unit_zero (S := S3x512) hz]
  try simp only [read_buf, readCov_buf]
  try rfl

theorem out0_A_9_eq  (c : Dev nD) (i : grid0.Coords) (arg1 : Memref sig .tc .vmem S768x512 .f32) (harg1 : arg1.IsWhole) (arg2 : Memref sig .tc .vmem S768x512 .bf16) (harg2 : arg2.IsWhole) (arg3 : Memref sig .tc .vmem S768x512 .bf16) (harg3 : arg3.IsWhole) (arg4 : Memref sig .tc .vmem S768x512 .bf16) (harg4 : arg4.IsWhole) (arg5 : Memref sig .tc .vmem S768x512 .bf16) (harg5 : arg5.IsWhole) (arg6 : Memref sig .tc .vmem S3x512 .f32) (harg6 : arg6.IsWhole) (arg8 : Memref sig .tc .vmem S768x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S776x512 .f32) (harg12 : arg12.IsWhole) (hc0 : cond0_0 i)
    (x0 : Vec F S768x512 .f32) (x1 : Vec F S768x512 .bf16) (x2 : Vec F S768x512 .bf16) (x3 : Vec F S768x512 .bf16) (x4 : Vec F S768x512 .bf16) (x5 : Vec F S3x512 .f32)  :
    out0_A_9 c i arg1 harg1 arg2 harg2 arg3 harg3 arg4 harg4 arg5 harg5 arg6 harg6 arg8 harg8 arg9 harg9 arg10 harg10 arg11 harg11 arg12 harg12 hc0 x0 x1 x2 x3 x4 x5 = k0_pay3 (k0_pay11 x0 x1) (k0_pay13 x2 x3) k0_pay8 := by
  unfold out0_A_9
  rw [View.read_writes_eq_canon _ _ _ (cover0_A_9 c i arg1 harg1 arg2 harg2 arg3 harg3 arg4 harg4 arg5 harg5 arg6 harg6 arg8 harg8 arg9 harg9 arg10 harg10 arg11 harg11 arg12 harg12 hc0 x0 x1 x2 x3 x4 x5)]
  unfold kernelRun0_A
  dsimp only
  sl_unfold_words
  first
  | rw [View.canon_unit_zero hz]
  | rw [View.canon_cons_unit_zero (S := S1x512) hz, View.readCov_unit_zero (S := S1x512) _ hz]
  simp only [View.readAt_eq_ld, harg1.read_unread, harg2.read_unread, harg3.read_unread, harg4.read_unread, harg5.read_unread, harg6.read_unread, harg9.read_unread, harg10.read_unread, harg11.read_unread, View.ld_unit_zero (S := S1x512) hz, View.ld_unit_zero (S := S768x512) hz, View.ld_unit_zero (S := S3x512) hz]
  try simp only [read_buf, readCov_buf]
  try rfl

theorem sout0_A_0_eq  (c : Dev nD) (i : grid0.Coords) (arg1 : Memref sig .tc .vmem S768x512 .f32) (harg1 : arg1.IsWhole) (arg2 : Memref sig .tc .vmem S768x512 .bf16) (harg2 : arg2.IsWhole) (arg3 : Memref sig .tc .vmem S768x512 .bf16) (harg3 : arg3.IsWhole) (arg4 : Memref sig .tc .vmem S768x512 .bf16) (harg4 : arg4.IsWhole) (arg5 : Memref sig .tc .vmem S768x512 .bf16) (harg5 : arg5.IsWhole) (arg6 : Memref sig .tc .vmem S3x512 .f32) (harg6 : arg6.IsWhole) (arg8 : Memref sig .tc .vmem S768x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S776x512 .f32) (harg12 : arg12.IsWhole) (hc0 : cond0_0 i)
    (x0 : Vec F S768x512 .f32) (x1 : Vec F S768x512 .bf16) (x2 : Vec F S768x512 .bf16) (x3 : Vec F S768x512 .bf16) (x4 : Vec F S768x512 .bf16) (x5 : Vec F S3x512 .f32)  (y : S776x512.Idx) (hy : 768 ≤ (y 0).val) :
    sout0_A_0 c i arg1 harg1 arg2 harg2 arg3 harg3 arg4 harg4 arg5 harg5 arg6 harg6 arg8 harg8 arg9 harg9 arg10 harg10 arg11 harg11 arg12 harg12 hc0 x0 x1 x2 x3 x4 x5 y = k0_pay12 x0 x1 (ix2 ⟨(y 0).val - 768, by have h : (y 0).val < 776 := (y 0).isLt; omega⟩ ⟨(y 1).val, (y 1).isLt⟩) := by
  unfold sout0_A_0
  rw [View.read_writes_eq_canon _ _ _ (scover0_A_0 c i arg1 harg1 arg2 harg2 arg3 harg3 arg4 harg4 arg5 harg5 arg6 harg6 arg8 harg8 arg9 harg9 arg10 harg10 arg11 harg11 arg12 harg12 hc0 x0 x1 x2 x3 x4 x5)]
  unfold kernelRun0_A
  dsimp only
  sl_unfold_words
  rw [carry_canon _ _ _ y hy]
  simp only [View.readAt_eq_ld, harg1.read_unread, harg2.read_unread, View.ld_unit_zero (S := S768x512) hz]

theorem out0_B_6_eq  (c : Dev nD) (i : grid0.Coords) (arg1 : Memref sig .tc .vmem S768x512 .f32) (harg1 : arg1.IsWhole) (arg2 : Memref sig .tc .vmem S768x512 .bf16) (harg2 : arg2.IsWhole) (arg3 : Memref sig .tc .vmem S768x512 .bf16) (harg3 : arg3.IsWhole) (arg4 : Memref sig .tc .vmem S768x512 .bf16) (harg4 : arg4.IsWhole) (arg5 : Memref sig .tc .vmem S768x512 .bf16) (harg5 : arg5.IsWhole) (arg6 : Memref sig .tc .vmem S3x512 .f32) (harg6 : arg6.IsWhole) (arg8 : Memref sig .tc .vmem S768x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S776x512 .f32) (harg12 : arg12.IsWhole) (hc0 : ¬cond0_0 i)
    (x0 : Vec F S768x512 .f32) (x1 : Vec F S768x512 .bf16) (x2 : Vec F S768x512 .bf16) (x3 : Vec F S768x512 .bf16) (x4 : Vec F S768x512 .bf16) (x5 : Vec F S3x512 .f32) (xo7 : Vec F S1x512 .f32) (xo8 : Vec F S1x512 .f32) (xo9 : Vec F S1x512 .f32) (xs0 : Vec F S776x512 .f32)  :
    out0_B_6 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xs0 = k0_pay14 x0 x2 x3 x1 (sh1 (buf (k0_pay12 x0 x1) xs0)) (sh2 (buf (k0_pay12 x0 x1) xs0)) x5 x4 := by
  unfold out0_B_6
  rw [View.read_writes_eq_canon _ _ _ (cover0_B_6 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xs0)]
  unfold kernelRun0_B
  dsimp only
  sl_unfold_words
  first
  | rw [View.canon_unit_zero hz]
  | rw [View.canon_cons_unit_zero (S := S1x512) hz, View.readCov_unit_zero (S := S1x512) _ hz]
  simp only [View.readAt_eq_ld, harg1.read_unread, harg2.read_unread, harg3.read_unread, harg4.read_unread, harg5.read_unread, harg6.read_unread, harg9.read_unread, harg10.read_unread, harg11.read_unread, View.ld_unit_zero (S := S1x512) hz, View.ld_unit_zero (S := S768x512) hz, View.ld_unit_zero (S := S3x512) hz]
  try simp only [read_buf, readCov_buf]
  try rfl

theorem out0_B_7_eq  (c : Dev nD) (i : grid0.Coords) (arg1 : Memref sig .tc .vmem S768x512 .f32) (harg1 : arg1.IsWhole) (arg2 : Memref sig .tc .vmem S768x512 .bf16) (harg2 : arg2.IsWhole) (arg3 : Memref sig .tc .vmem S768x512 .bf16) (harg3 : arg3.IsWhole) (arg4 : Memref sig .tc .vmem S768x512 .bf16) (harg4 : arg4.IsWhole) (arg5 : Memref sig .tc .vmem S768x512 .bf16) (harg5 : arg5.IsWhole) (arg6 : Memref sig .tc .vmem S3x512 .f32) (harg6 : arg6.IsWhole) (arg8 : Memref sig .tc .vmem S768x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S776x512 .f32) (harg12 : arg12.IsWhole) (hc0 : ¬cond0_0 i)
    (x0 : Vec F S768x512 .f32) (x1 : Vec F S768x512 .bf16) (x2 : Vec F S768x512 .bf16) (x3 : Vec F S768x512 .bf16) (x4 : Vec F S768x512 .bf16) (x5 : Vec F S3x512 .f32) (xo7 : Vec F S1x512 .f32) (xo8 : Vec F S1x512 .f32) (xo9 : Vec F S1x512 .f32) (xs0 : Vec F S776x512 .f32)  :
    out0_B_7 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xs0 = k0_pay1 (sh2 (buf (k0_pay12 x0 x1) xs0)) (k0_pay13 x2 x3) xo7 := by
  unfold out0_B_7
  rw [View.read_writes_eq_canon _ _ _ (cover0_B_7 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xs0)]
  unfold kernelRun0_B
  dsimp only
  sl_unfold_words
  first
  | rw [View.canon_unit_zero hz]
  | rw [View.canon_cons_unit_zero (S := S1x512) hz, View.readCov_unit_zero (S := S1x512) _ hz]
  simp only [View.readAt_eq_ld, harg1.read_unread, harg2.read_unread, harg3.read_unread, harg4.read_unread, harg5.read_unread, harg6.read_unread, harg9.read_unread, harg10.read_unread, harg11.read_unread, View.ld_unit_zero (S := S1x512) hz, View.ld_unit_zero (S := S768x512) hz, View.ld_unit_zero (S := S3x512) hz]
  try simp only [read_buf, readCov_buf]
  try rfl

theorem out0_B_8_eq  (c : Dev nD) (i : grid0.Coords) (arg1 : Memref sig .tc .vmem S768x512 .f32) (harg1 : arg1.IsWhole) (arg2 : Memref sig .tc .vmem S768x512 .bf16) (harg2 : arg2.IsWhole) (arg3 : Memref sig .tc .vmem S768x512 .bf16) (harg3 : arg3.IsWhole) (arg4 : Memref sig .tc .vmem S768x512 .bf16) (harg4 : arg4.IsWhole) (arg5 : Memref sig .tc .vmem S768x512 .bf16) (harg5 : arg5.IsWhole) (arg6 : Memref sig .tc .vmem S3x512 .f32) (harg6 : arg6.IsWhole) (arg8 : Memref sig .tc .vmem S768x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S776x512 .f32) (harg12 : arg12.IsWhole) (hc0 : ¬cond0_0 i)
    (x0 : Vec F S768x512 .f32) (x1 : Vec F S768x512 .bf16) (x2 : Vec F S768x512 .bf16) (x3 : Vec F S768x512 .bf16) (x4 : Vec F S768x512 .bf16) (x5 : Vec F S3x512 .f32) (xo7 : Vec F S1x512 .f32) (xo8 : Vec F S1x512 .f32) (xo9 : Vec F S1x512 .f32) (xs0 : Vec F S776x512 .f32)  :
    out0_B_8 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xs0 = k0_pay2 (sh1 (buf (k0_pay12 x0 x1) xs0)) (k0_pay13 x2 x3) xo8 := by
  unfold out0_B_8
  rw [View.read_writes_eq_canon _ _ _ (cover0_B_8 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xs0)]
  unfold kernelRun0_B
  dsimp only
  sl_unfold_words
  first
  | rw [View.canon_unit_zero hz]
  | rw [View.canon_cons_unit_zero (S := S1x512) hz, View.readCov_unit_zero (S := S1x512) _ hz]
  simp only [View.readAt_eq_ld, harg1.read_unread, harg2.read_unread, harg3.read_unread, harg4.read_unread, harg5.read_unread, harg6.read_unread, harg9.read_unread, harg10.read_unread, harg11.read_unread, View.ld_unit_zero (S := S1x512) hz, View.ld_unit_zero (S := S768x512) hz, View.ld_unit_zero (S := S3x512) hz]
  try simp only [read_buf, readCov_buf]
  try rfl

theorem out0_B_9_eq  (c : Dev nD) (i : grid0.Coords) (arg1 : Memref sig .tc .vmem S768x512 .f32) (harg1 : arg1.IsWhole) (arg2 : Memref sig .tc .vmem S768x512 .bf16) (harg2 : arg2.IsWhole) (arg3 : Memref sig .tc .vmem S768x512 .bf16) (harg3 : arg3.IsWhole) (arg4 : Memref sig .tc .vmem S768x512 .bf16) (harg4 : arg4.IsWhole) (arg5 : Memref sig .tc .vmem S768x512 .bf16) (harg5 : arg5.IsWhole) (arg6 : Memref sig .tc .vmem S3x512 .f32) (harg6 : arg6.IsWhole) (arg8 : Memref sig .tc .vmem S768x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S776x512 .f32) (harg12 : arg12.IsWhole) (hc0 : ¬cond0_0 i)
    (x0 : Vec F S768x512 .f32) (x1 : Vec F S768x512 .bf16) (x2 : Vec F S768x512 .bf16) (x3 : Vec F S768x512 .bf16) (x4 : Vec F S768x512 .bf16) (x5 : Vec F S3x512 .f32) (xo7 : Vec F S1x512 .f32) (xo8 : Vec F S1x512 .f32) (xo9 : Vec F S1x512 .f32) (xs0 : Vec F S776x512 .f32)  :
    out0_B_9 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xs0 = k0_pay3 (k0_pay11 x0 x1) (k0_pay13 x2 x3) xo9 := by
  unfold out0_B_9
  rw [View.read_writes_eq_canon _ _ _ (cover0_B_9 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xs0)]
  unfold kernelRun0_B
  dsimp only
  sl_unfold_words
  first
  | rw [View.canon_unit_zero hz]
  | rw [View.canon_cons_unit_zero (S := S1x512) hz, View.readCov_unit_zero (S := S1x512) _ hz]
  simp only [View.readAt_eq_ld, harg1.read_unread, harg2.read_unread, harg3.read_unread, harg4.read_unread, harg5.read_unread, harg6.read_unread, harg9.read_unread, harg10.read_unread, harg11.read_unread, View.ld_unit_zero (S := S1x512) hz, View.ld_unit_zero (S := S768x512) hz, View.ld_unit_zero (S := S3x512) hz]
  try simp only [read_buf, readCov_buf]
  try rfl

theorem sout0_B_0_eq  (c : Dev nD) (i : grid0.Coords) (arg1 : Memref sig .tc .vmem S768x512 .f32) (harg1 : arg1.IsWhole) (arg2 : Memref sig .tc .vmem S768x512 .bf16) (harg2 : arg2.IsWhole) (arg3 : Memref sig .tc .vmem S768x512 .bf16) (harg3 : arg3.IsWhole) (arg4 : Memref sig .tc .vmem S768x512 .bf16) (harg4 : arg4.IsWhole) (arg5 : Memref sig .tc .vmem S768x512 .bf16) (harg5 : arg5.IsWhole) (arg6 : Memref sig .tc .vmem S3x512 .f32) (harg6 : arg6.IsWhole) (arg8 : Memref sig .tc .vmem S768x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S776x512 .f32) (harg12 : arg12.IsWhole) (hc0 : ¬cond0_0 i)
    (x0 : Vec F S768x512 .f32) (x1 : Vec F S768x512 .bf16) (x2 : Vec F S768x512 .bf16) (x3 : Vec F S768x512 .bf16) (x4 : Vec F S768x512 .bf16) (x5 : Vec F S3x512 .f32) (xo7 : Vec F S1x512 .f32) (xo8 : Vec F S1x512 .f32) (xo9 : Vec F S1x512 .f32) (xs0 : Vec F S776x512 .f32)  (y : S776x512.Idx) (hy : 768 ≤ (y 0).val) :
    sout0_B_0 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xs0 y = k0_pay12 x0 x1 (ix2 ⟨(y 0).val - 768, by have h : (y 0).val < 776 := (y 0).isLt; omega⟩ ⟨(y 1).val, (y 1).isLt⟩) := by
  unfold sout0_B_0
  rw [View.read_writes_eq_canon _ _ _ (scover0_B_0 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xs0)]
  unfold kernelRun0_B
  dsimp only
  sl_unfold_words
  rw [carry_canon _ _ _ y hy]
  simp only [View.readAt_eq_ld, harg1.read_unread, harg2.read_unread, View.ld_unit_zero (S := S768x512) hz]

end Cert.ConvKernelIdeal.Hand
end
-- ==== Proof.ConvPoint.lean ====
module
public import proofs.«01_k».proof.Proof.ConvBody
@[expose] public section
set_option maxRecDepth 16384
noncomputable section
open Idealize.ShloMosaic Idealize.ShloMosaic.TcCoe Idealize.SL.Sem
namespace Cert.ConvKernelIdeal.Hand
open Cert.ConvKernelIdeal Cert.ConvKernelIdeal.Gen

/-! What one point computes, index by index, over the extended reals. -/

theorem pay12_apply (x0 : Vec Ideal S768x512 .f32) (x1 : Vec Ideal S768x512 .bf16) (r : Fin 768) (j : Fin 512) :
    k0_pay12 x0 x1 (ix2 r j) = x0 (ix2 r j) * x1 (ix2 r j) := by
  unfold k0_pay12 k0_pay11
  pointwise

theorem pay11_apply (x0 : Vec Ideal S768x512 .f32) (x1 : Vec Ideal S768x512 .bf16) (r : Fin 768) (j : Fin 512) :
    k0_pay11 x0 x1 (ix2 r j) = x0 (ix2 r j) * x1 (ix2 r j) := by
  unfold k0_pay11
  pointwise

theorem pay13_apply (x0 : Vec Ideal S768x512 .bf16) (x1 : Vec Ideal S768x512 .bf16) (r : Fin 768) (j : Fin 512) :
    k0_pay13 x0 x1 (ix2 r j) = x0 (ix2 r j) * x1 (ix2 r j) := by
  unfold k0_pay13 k0_pay9 k0_pay10
  pointwise

theorem pay1_apply (v15 v28 : Vec Ideal S768x512 .f32) (v38 : Vec Ideal S1x512 .f32) (a : Fin 1) (j : Fin 512) :
    k0_pay1 v15 v28 v38 (ix2 a j) = v38 (ix2 a j) + ∑ r : Fin 768, v15 (ix2 r j) * v28 (ix2 r j) := by
  unfold k0_pay1
  pointwise

theorem pay2_apply (v15 v28 : Vec Ideal S768x512 .f32) (v38 : Vec Ideal S1x512 .f32) (a : Fin 1) (j : Fin 512) :
    k0_pay2 v15 v28 v38 (ix2 a j) = v38 (ix2 a j) + ∑ r : Fin 768, v15 (ix2 r j) * v28 (ix2 r j) := by
  unfold k0_pay2
  pointwise

theorem pay3_apply (v15 v28 : Vec Ideal S768x512 .f32) (v38 : Vec Ideal S1x512 .f32) (a : Fin 1) (j : Fin 512) :
    k0_pay3 v15 v28 v38 (ix2 a j) = v38 (ix2 a j) + ∑ r : Fin 768, v15 (ix2 r j) * v28 (ix2 r j) := by
  unfold k0_pay3
  pointwise

theorem pay5_apply (i : S8x512.Idx) : k0_pay5 (F := Ideal) i = 0 := by
  unfold k0_pay5
  pointwise
theorem pay6_apply (i : S1x512.Idx) : k0_pay6 (F := Ideal) i = 0 := by
  unfold k0_pay6
  pointwise
theorem pay7_apply (i : S1x512.Idx) : k0_pay7 (F := Ideal) i = 0 := by
  unfold k0_pay7
  pointwise
theorem pay8_apply (i : S1x512.Idx) : k0_pay8 (F := Ideal) i = 0 := by
  unfold k0_pay8
  pointwise

/-- The block of the three columns' gradients at row `r`, column `j` of its 1536. -/
theorem pay14_apply (x0 : Vec Ideal S768x512 .f32) (x2 x3 x1 : Vec Ideal S768x512 .bf16) (d1 d2 : Vec Ideal S768x512 .f32)
    (w : Vec Ideal S3x512 .f32) (cv : Vec Ideal S768x512 .bf16) (r : Fin 768) (j : Fin 1536) :
    k0_pay14 x0 x2 x3 x1 d1 d2 w cv (ix2 r j) =
      if h : j.val < 512 then x0 (ix2 r ⟨j.val, h⟩) * cv (ix2 r ⟨j.val, h⟩)
      else if h' : j.val - 512 < 512 then
        (w (ix2 2 ⟨j.val - 512, by omega⟩) * (x0 (ix2 r ⟨j.val - 512, by omega⟩) * x1 (ix2 r ⟨j.val - 512, by omega⟩))
          + w (ix2 1 ⟨j.val - 512, by omega⟩) * d1 (ix2 r ⟨j.val - 512, by omega⟩)
          + w (ix2 0 ⟨j.val - 512, by omega⟩) * d2 (ix2 r ⟨j.val - 512, by omega⟩)) * x3 (ix2 r ⟨j.val - 512, by omega⟩)
      else
        (w (ix2 2 ⟨j.val - 512 - 512, by omega⟩) * (x0 (ix2 r ⟨j.val - 512 - 512, by omega⟩) * x1 (ix2 r ⟨j.val - 512 - 512, by omega⟩))
          + w (ix2 1 ⟨j.val - 512 - 512, by omega⟩) * d1 (ix2 r ⟨j.val - 512 - 512, by omega⟩)
          + w (ix2 0 ⟨j.val - 512 - 512, by omega⟩) * d2 (ix2 r ⟨j.val - 512 - 512, by omega⟩)) * x2 (ix2 r ⟨j.val - 512 - 512, by omega⟩) := by
  unfold k0_pay14 k0_pay9 k0_pay10 k0_pay11
  pointwise

end Cert.ConvKernelIdeal.Hand
end
-- ==== Proof.Rows.lean ====
module
public import Idealize.ShloMosaic.Lib.Pointwise
@[expose] public section
noncomputable section
open Idealize.ShloMosaic
namespace Cert.Rows

/-! Matrices read at natural-number coordinates, zero outside, and sums over rows taken block by block. -/

/-- The entry of a matrix at natural-number coordinates: zero where there is none. -/
def at2 {a b : ℕ} (x : (⟨2, ![a, b]⟩ : Shape).Idx → EReal) (i j : ℕ) : EReal :=
  if h : i < a ∧ j < b then x (ix2 ⟨i, h.1⟩ ⟨j, h.2⟩) else 0

theorem at2_eq {a b : ℕ} (x : (⟨2, ![a, b]⟩ : Shape).Idx → EReal) (i : Fin a) (j : Fin b) :
    at2 x i.val j.val = x (ix2 i j) := dif_pos ⟨i.isLt, j.isLt⟩

theorem at2_mk {a b : ℕ} (x : (⟨2, ![a, b]⟩ : Shape).Idx → EReal) {i j : ℕ} (hi : i < a) (hj : j < b) :
    at2 x i j = x (ix2 ⟨i, hi⟩ ⟨j, hj⟩) := dif_pos ⟨hi, hj⟩

theorem at2_row {a b : ℕ} (x : (⟨2, ![a, b]⟩ : Shape).Idx → EReal) {i j : ℕ} (h : a ≤ i) : at2 x i j = 0 :=
  dif_neg fun h' => by omega

/-- The rows of one block, added to the sum over the rows of the blocks after it. -/
theorem sum_block {f : ℕ → EReal} {n a c : ℕ} (h : a + n ≤ c) :
    (∑ i ∈ Finset.Ico (a + n) c, f i) + ∑ r : Fin n, f (a + r.val) = ∑ i ∈ Finset.Ico a c, f i := by
  rw [← Finset.sum_Ico_consecutive f (Nat.le_add_right a n) h, add_comm, Finset.sum_Ico_eq_sum_range f a (a + n),
    Nat.add_sub_cancel_left, Finset.sum_range]

/-- The rows of the blocks before it, and one block. -/
theorem sum_block_up {f : ℕ → EReal} {n a : ℕ} :
    (∑ i ∈ Finset.range a, f i) + ∑ r : Fin n, f (a + r.val) = ∑ i ∈ Finset.range (a + n), f i := by
  rw [Finset.sum_range_add, Finset.sum_range (fun k => f (a + k))]

end Cert.Rows
end
-- ==== Proof.ConvTerms.lean ====
module
public import proofs.«01_k».proof.Proof.Rows
@[expose] public section
noncomputable section
open Idealize.ShloMosaic
namespace Cert.ConvTerms
open Cert.Rows

/-! The gradient of the gated short convolution, written as a function of the arguments at natural-number rows and columns. -/

variable (dy : (⟨2, ![8448, 512]⟩ : Shape).Idx → EReal) (p : (⟨2, ![8448, 4096]⟩ : Shape).Idx → EReal) (w : (⟨2, ![3, 512]⟩ : Shape).Idx → EReal) (cv : (⟨2, ![8448, 512]⟩ : Shape).Idx → EReal)

/-- The gradient at the convolution's output. -/
def Dc (t j : ℕ) : EReal := at2 (a := 8448) (b := 512) dy t j * at2 (a := 8448) (b := 4096) p t j
/-- The convolution's input. -/
def Ec (t j : ℕ) : EReal := at2 (a := 8448) (b := 4096) p t (512 + j) * at2 (a := 8448) (b := 4096) p t (1024 + j)
/-- The gradient at the convolution's input. -/
def De (t j : ℕ) : EReal :=
  at2 (a := 3) (b := 512) w 2 j * Dc dy p t j + at2 (a := 3) (b := 512) w 1 j * Dc dy p (t + 1) j
    + at2 (a := 3) (b := 512) w 0 j * Dc dy p (t + 2) j
/-- The three columns' gradients. -/
def Gp (t j : ℕ) : EReal :=
  if j < 512 then at2 (a := 8448) (b := 512) dy t j * at2 (a := 8448) (b := 512) cv t j
  else if j - 512 < 512 then De dy p w t (j - 512) * at2 (a := 8448) (b := 4096) p t (1024 + (j - 512))
  else De dy p w t (j - 512 - 512) * at2 (a := 8448) (b := 4096) p t (512 + (j - 512 - 512))

theorem Dc_row {t j : ℕ} (h : 8448 ≤ t) : Dc dy p t j = 0 := by
  unfold Dc; rw [at2_row _ h, zero_mul]

/-- A sum over all rows of a term that takes the row before, and zero at the first row. -/
theorem sum_shift1 (f : ℕ → EReal) (h : f 8448 = 0) {g : Fin 8448 → EReal} (h0 : ∀ x : Fin 8448, x.val = 0 → g x = 0)
    (hg : ∀ x : Fin 8448, 0 < x.val → g x = f x.val) : ∑ x, g x = ∑ i ∈ Finset.range 8448, f (i + 1) := by
  have e : ∑ x, g x = ∑ x : Fin 8448, (fun n => if n = 0 then 0 else f n) x.val := Finset.sum_congr rfl fun x _ => by
    by_cases hx : x.val = 0
    · rw [h0 x hx]; simp only [hx, if_true]
    · rw [hg x (by omega)]; simp only [hx, if_false]
  rw [e, ← Finset.sum_range (fun n => if n = 0 then (0 : EReal) else f n), Finset.sum_range_succ (fun i => f (i + 1)) 8447, h, add_zero,
    Finset.sum_range_succ' _ 8447]
  simp

/-- A sum over the rows but the first two, taken over all rows. -/
theorem sum_shift2 (f : ℕ → EReal) (h : f 8448 = 0) (h' : f 8449 = 0) :
    ∑ x : Fin 8446, f (2 + x.val) = ∑ i ∈ Finset.range 8448, f (i + 2) := by
  rw [Finset.sum_range_succ (fun i => f (i + 2)) 8447, Finset.sum_range_succ (fun i => f (i + 2)) 8446, h, h', add_zero, add_zero,
    Finset.sum_range]
  exact Finset.sum_congr rfl fun x _ => by rw [Nat.add_comm]

end Cert.ConvTerms
end
-- ==== Proof.ConvRun.lean ====
module
public import proofs.«01_k».proof.Proof.ConvPoint
public import proofs.«01_k».proof.Proof.ConvTerms
@[expose] public section
set_option maxRecDepth 16384
noncomputable section
open Idealize.ShloMosaic Idealize.ShloMosaic.TcCoe Idealize.SL.Sem
namespace Cert.ConvKernelIdeal.Hand
open Cert.ConvKernelIdeal Cert.ConvKernelIdeal.Gen Cert.Rows Cert.ConvTerms
variable (m : (ℓ : Loc nD τ sig) → Buf (Elt Ideal) ℓ)

/-! What the whole grid computes: the points go from the last rows to the first. -/

theorem hN (t : Fin cfg0.N) : t.val < 11 := lt_of_lt_of_eq t.isLt N_0

theorem index_rows : ∀ t : Fin cfg0.N, win0_0.index t 0 = 10 - t.val ∧ win0_0.index t 1 = 0 ∧ win0_1.index t 0 = 10 - t.val ∧ win0_1.index t 1 = 0
    ∧ win0_2.index t 0 = 10 - t.val ∧ win0_2.index t 1 = 1 ∧ win0_3.index t 0 = 10 - t.val ∧ win0_3.index t 1 = 2
    ∧ win0_4.index t 0 = 10 - t.val ∧ win0_4.index t 1 = 0 ∧ win0_5.index t 0 = 0 ∧ win0_5.index t 1 = 0 ∧ win0_6.index t 0 = 10 - t.val ∧ win0_6.index t 1 = 0 :=
  (by decide +kernel : ∀ t : Fin grid0.N, win0_0.index t 0 = 10 - t.val ∧ win0_0.index t 1 = 0 ∧ win0_1.index t 0 = 10 - t.val ∧ win0_1.index t 1 = 0
    ∧ win0_2.index t 0 = 10 - t.val ∧ win0_2.index t 1 = 1 ∧ win0_3.index t 0 = 10 - t.val ∧ win0_3.index t 1 = 2
    ∧ win0_4.index t 0 = 10 - t.val ∧ win0_4.index t 1 = 0 ∧ win0_5.index t 0 = 0 ∧ win0_5.index t 1 = 0 ∧ win0_6.index t 0 = 10 - t.val ∧ win0_6.index t 1 = 0)

theorem iblk0_apply (c : Dev nD) (t : Fin cfg0.N) (r : Fin 768) (j : Fin 512) :
    (iblk m c 0 t : Vec Ideal S768x512 .f32) (ix2 r j) = at2 (a := 8448) (b := 512) (V m c main_arg0) (768 * (10 - t.val) + r.val) j.val := by
  have hi := index_rows t
  have ht := hN t
  rw [at2_mk _ (by omega) (by omega)]
  unfold iblk
  rw [View.read_apply]
  show V m c main_arg0 _ = V m c main_arg0 _
  congr 1
  funext a
  apply Fin.ext
  match a with
  | ⟨0, _⟩ => show win0_0.index t 0 * 768 + 1 * r.val = 768 * (10 - t.val) + r.val; rw [hi.1]; omega
  | ⟨1, _⟩ => show win0_0.index t 1 * 512 + 1 * j.val = j.val; rw [hi.2.1]; omega

theorem iblk1_apply (c : Dev nD) (t : Fin cfg0.N) (r : Fin 768) (j : Fin 512) :
    (iblk m c 1 t : Vec Ideal S768x512 .bf16) (ix2 r j) = at2 (a := 8448) (b := 4096) (V m c main_arg1) (768 * (10 - t.val) + r.val) j.val := by
  have hi := index_rows t
  have ht := hN t
  rw [at2_mk _ (by omega) (by omega)]
  unfold iblk
  rw [View.read_apply]
  show V m c main_arg1 _ = V m c main_arg1 _
  congr 1
  funext a
  apply Fin.ext
  match a with
  | ⟨0, _⟩ => show win0_1.index t 0 * 768 + 1 * r.val = 768 * (10 - t.val) + r.val; rw [hi.2.2.1]; omega
  | ⟨1, _⟩ => show win0_1.index t 1 * 512 + 1 * j.val = j.val; rw [hi.2.2.2.1]; omega

theorem iblk2_apply (c : Dev nD) (t : Fin cfg0.N) (r : Fin 768) (j : Fin 512) :
    (iblk m c 2 t : Vec Ideal S768x512 .bf16) (ix2 r j) = at2 (a := 8448) (b := 4096) (V m c main_arg1) (768 * (10 - t.val) + r.val) (512 + j.val) := by
  have hi := index_rows t
  have ht := hN t
  rw [at2_mk _ (by omega) (by omega)]
  unfold iblk
  rw [View.read_apply]
  show V m c main_arg1 _ = V m c main_arg1 _
  congr 1
  funext a
  apply Fin.ext
  match a with
  | ⟨0, _⟩ => show win0_2.index t 0 * 768 + 1 * r.val = 768 * (10 - t.val) + r.val; rw [hi.2.2.2.2.1]; omega
  | ⟨1, _⟩ => show win0_2.index t 1 * 512 + 1 * j.val = (512 + j.val); rw [hi.2.2.2.2.2.1]; omega

theorem iblk3_apply (c : Dev nD) (t : Fin cfg0.N) (r : Fin 768) (j : Fin 512) :
    (iblk m c 3 t : Vec Ideal S768x512 .bf16) (ix2 r j) = at2 (a := 8448) (b := 4096) (V m c main_arg1) (768 * (10 - t.val) + r.val) (1024 + j.val) := by
  have hi := index_rows t
  have ht := hN t
  rw [at2_mk _ (by omega) (by omega)]
  unfold iblk
  rw [View.read_apply]
  show V m c main_arg1 _ = V m c main_arg1 _
  congr 1
  funext a
  apply Fin.ext
  match a with
  | ⟨0, _⟩ => show win0_3.index t 0 * 768 + 1 * r.val = 768 * (10 - t.val) + r.val; rw [hi.2.2.2.2.2.2.1]; omega
  | ⟨1, _⟩ => show win0_3.index t 1 * 512 + 1 * j.val = (1024 + j.val); rw [hi.2.2.2.2.2.2.2.1]; omega

theorem iblk4_apply (c : Dev nD) (t : Fin cfg0.N) (r : Fin 768) (j : Fin 512) :
    (iblk m c 4 t : Vec Ideal S768x512 .bf16) (ix2 r j) = at2 (a := 8448) (b := 512) (V m c main_v27) (768 * (10 - t.val) + r.val) j.val := by
  have hi := index_rows t
  have ht := hN t
  rw [at2_mk _ (by omega) (by omega)]
  unfold iblk
  rw [View.read_apply]
  show V m c main_v27 _ = V m c main_v27 _
  congr 1
  funext a
  apply Fin.ext
  match a with
  | ⟨0, _⟩ => show win0_4.index t 0 * 768 + 1 * r.val = 768 * (10 - t.val) + r.val; rw [hi.2.2.2.2.2.2.2.2.1]; omega
  | ⟨1, _⟩ => show win0_4.index t 1 * 512 + 1 * j.val = j.val; rw [hi.2.2.2.2.2.2.2.2.2.1]; omega

theorem iblk5_apply (c : Dev nD) (t : Fin cfg0.N) (r : Fin 3) (j : Fin 512) :
    (iblk m c 5 t : Vec Ideal S3x512 .f32) (ix2 r j) = at2 (a := 3) (b := 512) (V m c main_arg2) r.val j.val := by
  have hi := index_rows t
  rw [at2_eq]
  unfold iblk
  rw [View.read_apply]
  show V m c main_arg2 _ = V m c main_arg2 _
  congr 1
  funext a
  apply Fin.ext
  match a with
  | ⟨0, _⟩ => show win0_5.index t 0 * 3 + 1 * r.val = r.val; rw [hi.2.2.2.2.2.2.2.2.2.2.1]; omega
  | ⟨1, _⟩ => show win0_5.index t 1 * 512 + 1 * j.val = j.val; rw [hi.2.2.2.2.2.2.2.2.2.2.2.1]; omega

/-! The scratch at a row -/

theorem buf_lo (D : Vec Ideal S768x512 .f32) (xs : Vec Ideal S776x512 .f32) (r : Fin 776) (j : Fin 512) (h : r.val < 768) :
    buf D xs (ix2 r j) = D (ix2 ⟨r.val, h⟩ j) := dif_pos h
theorem buf_hi (D : Vec Ideal S768x512 .f32) (xs : Vec Ideal S776x512 .f32) (r : Fin 776) (j : Fin 512) (h : 768 ≤ r.val) :
    buf D xs (ix2 r j) = xs (ix2 r j) := dif_neg (by show ¬ r.val < 768; omega)

section Shift
variable {f : ℕ → ℕ → EReal} {r0 : ℕ} {D : Vec Ideal S768x512 .f32} {xs : Vec Ideal S776x512 .f32}
  (hD : ∀ (r : Fin 768) (j : Fin 512), D (ix2 r j) = f (r0 + r.val) j.val)
  (hx : ∀ (r : Fin 776) (j : Fin 512), 768 ≤ r.val → xs (ix2 r j) = f (r0 + r.val) j.val)
include hD hx

theorem buf_apply (r : Fin 776) (j : Fin 512) : buf D xs (ix2 r j) = f (r0 + r.val) j.val := by
  by_cases h : r.val < 768
  · rw [buf_lo _ _ _ _ h, hD]
  · rw [buf_hi _ _ _ _ (by omega), hx _ _ (by omega)]

theorem sh1_apply (r : Fin 768) (j : Fin 512) : sh1 (buf D xs) (ix2 r j) = f (r0 + r.val + 1) j.val := by
  have h := buf_apply hD hx ⟨r.val + 1, by omega⟩ j
  rw [show r0 + r.val + 1 = r0 + (r.val + 1) by omega]
  refine Eq.trans ?_ h
  show buf D xs _ = buf D xs _
  congr 1
  funext a
  apply Fin.ext
  match a with
  | ⟨0, _⟩ => show 1 + 1 * r.val = r.val + 1; omega
  | ⟨1, _⟩ => show 0 + 1 * j.val = j.val; omega

theorem sh2_apply (r : Fin 768) (j : Fin 512) : sh2 (buf D xs) (ix2 r j) = f (r0 + r.val + 2) j.val := by
  have h := buf_apply hD hx ⟨r.val + 2, by omega⟩ j
  rw [show r0 + r.val + 2 = r0 + (r.val + 2) by omega]
  refine Eq.trans ?_ h
  show buf D xs _ = buf D xs _
  congr 1
  funext a
  apply Fin.ext
  match a with
  | ⟨0, _⟩ => show 2 + 1 * r.val = r.val + 2; omega
  | ⟨1, _⟩ => show 0 + 1 * j.val = j.val; omega
end Shift

theorem zrows_apply (y : S776x512.Idx) : zrows (F := Ideal) y = 0 := pay5_apply _

/-! One point, from the blocks it reads and what the point before left -/

section Point
variable (dy : S8448x512.Idx → EReal) (p : S8448x4096.Idx → EReal) (w : S3x512.Idx → EReal) (cv : S8448x512.Idx → EReal)

/-- What holds of the five buffers after the point whose first row is `r0`. -/
def Good (r0 : ℕ) (o : Vec Ideal S768x1536 .bf16 × Vec Ideal S1x512 .f32 × Vec Ideal S1x512 .f32 × Vec Ideal S1x512 .f32 × Vec Ideal S776x512 .f32) : Prop :=
  (∀ (r : Fin 768) (j : Fin 1536), o.1 (ix2 r j) = Gp dy p w cv (r0 + r.val) j.val)
  ∧ (∀ (a : Fin 1) (j : Fin 512), o.2.1 (ix2 a j) = ∑ i ∈ Finset.Ico r0 8448, Dc dy p (i + 2) j.val * Ec p i j.val)
  ∧ (∀ (a : Fin 1) (j : Fin 512), o.2.2.1 (ix2 a j) = ∑ i ∈ Finset.Ico r0 8448, Dc dy p (i + 1) j.val * Ec p i j.val)
  ∧ (∀ (a : Fin 1) (j : Fin 512), o.2.2.2.1 (ix2 a j) = ∑ i ∈ Finset.Ico r0 8448, Dc dy p i j.val * Ec p i j.val)
  ∧ (∀ (r : Fin 776) (j : Fin 512), 768 ≤ r.val → o.2.2.2.2 (ix2 r j) = Dc dy p (r0 + (r.val - 768)) j.val)

variable {dy p w cv}
theorem good_step {r0 : ℕ} (hr : r0 + 768 ≤ 8448)
    {x0 : Vec Ideal S768x512 .f32} {x1 x2 x3 x4 : Vec Ideal S768x512 .bf16} {x5 : Vec Ideal S3x512 .f32}
    (h0 : ∀ (r : Fin 768) (j : Fin 512), x0 (ix2 r j) = at2 (a := 8448) (b := 512) dy (r0 + r.val) j.val)
    (h1 : ∀ (r : Fin 768) (j : Fin 512), x1 (ix2 r j) = at2 (a := 8448) (b := 4096) p (r0 + r.val) j.val)
    (h2 : ∀ (r : Fin 768) (j : Fin 512), x2 (ix2 r j) = at2 (a := 8448) (b := 4096) p (r0 + r.val) (512 + j.val))
    (h3 : ∀ (r : Fin 768) (j : Fin 512), x3 (ix2 r j) = at2 (a := 8448) (b := 4096) p (r0 + r.val) (1024 + j.val))
    (h4 : ∀ (r : Fin 768) (j : Fin 512), x4 (ix2 r j) = at2 (a := 8448) (b := 512) cv (r0 + r.val) j.val)
    (h5 : ∀ (r : Fin 3) (j : Fin 512), x5 (ix2 r j) = at2 (a := 3) (b := 512) w r.val j.val)
    {b0 b1 b2 : Vec Ideal S1x512 .f32} {xs so : Vec Ideal S776x512 .f32}
    (hb0 : ∀ (a : Fin 1) (j : Fin 512), b0 (ix2 a j) = ∑ i ∈ Finset.Ico (r0 + 768) 8448, Dc dy p (i + 2) j.val * Ec p i j.val)
    (hb1 : ∀ (a : Fin 1) (j : Fin 512), b1 (ix2 a j) = ∑ i ∈ Finset.Ico (r0 + 768) 8448, Dc dy p (i + 1) j.val * Ec p i j.val)
    (hb2 : ∀ (a : Fin 1) (j : Fin 512), b2 (ix2 a j) = ∑ i ∈ Finset.Ico (r0 + 768) 8448, Dc dy p i j.val * Ec p i j.val)
    (hxs : ∀ (r : Fin 776) (j : Fin 512), 768 ≤ r.val → xs (ix2 r j) = Dc dy p (r0 + r.val) j.val)
    (hso : ∀ (y : S776x512.Idx) (hy : 768 ≤ (y 0).val), so y = k0_pay12 x0 x1 (ix2 ⟨(y 0).val - 768, by have h : (y 0).val < 776 := (y 0).isLt; omega⟩ ⟨(y 1).val, (y 1).isLt⟩)) :
    Good dy p w cv r0 (k0_pay14 x0 x2 x3 x1 (sh1 (buf (k0_pay12 x0 x1) xs)) (sh2 (buf (k0_pay12 x0 x1) xs)) x5 x4,
      k0_pay1 (sh2 (buf (k0_pay12 x0 x1) xs)) (k0_pay13 x2 x3) b0,
      k0_pay2 (sh1 (buf (k0_pay12 x0 x1) xs)) (k0_pay13 x2 x3) b1,
      k0_pay3 (k0_pay11 x0 x1) (k0_pay13 x2 x3) b2, so) := by
  have hD : ∀ (r : Fin 768) (j : Fin 512), k0_pay12 x0 x1 (ix2 r j) = Dc dy p (r0 + r.val) j.val := fun r j => by
    rw [pay12_apply, h0, h1]; rfl
  have hE : ∀ (r : Fin 768) (j : Fin 512), k0_pay13 x2 x3 (ix2 r j) = Ec p (r0 + r.val) j.val := fun r j => by
    rw [pay13_apply, h2, h3]; rfl
  have hs1 := sh1_apply hD hxs
  have hs2 := sh2_apply hD hxs
  refine ⟨fun r j => ?_, fun a j => ?_, fun a j => ?_, fun a j => ?_, fun r j hr' => ?_⟩
  · show k0_pay14 _ _ _ _ _ _ _ _ (ix2 r j) = _
    rw [pay14_apply]
    unfold Gp
    by_cases hj : j.val < 512
    · rw [dif_pos hj, if_pos hj, h0, h4]
    · rw [dif_neg hj, if_neg hj]
      by_cases hj' : j.val - 512 < 512
      · rw [dif_pos hj', if_pos hj', h0, h1, h3, h5, h5, h5, hs1, hs2]; rfl
      · rw [dif_neg hj', if_neg hj', h0, h1, h2, h5, h5, h5, hs1, hs2]; rfl
  · show k0_pay1 _ _ _ (ix2 a j) = _
    rw [pay1_apply, hb0, ← sum_block hr]
    congr 1
    exact Finset.sum_congr rfl fun r _ => by rw [hs2, hE]
  · show k0_pay2 _ _ _ (ix2 a j) = _
    rw [pay2_apply, hb1, ← sum_block hr]
    congr 1
    exact Finset.sum_congr rfl fun r _ => by rw [hs1, hE]
  · show k0_pay3 _ _ _ (ix2 a j) = _
    rw [pay3_apply, hb2, ← sum_block hr]
    congr 1
    exact Finset.sum_congr rfl fun r _ => by rw [pay11_apply, h0, h1, hE]; rfl
  · show so (ix2 r j) = _
    rw [hso (ix2 r j) hr']
    exact hD ⟨r.val - 768, by omega⟩ j
end Point

/-- After every point: the rows it wrote, the sums over the rows from its own to the last, and what it hands on. -/
theorem good_all (c : Dev nD) : ∀ (n : ℕ) (hn : n < cfg0.N),
    Good (V m c main_arg0) (V m c main_arg1) (V m c main_arg2) (V m c main_v27) (768 * (10 - n)) (outsAt0 m c n hn) := by
  intro n
  induction n with
  | zero =>
    intro hn
    have e := outsAt0_A m c ⟨0, hn⟩ rfl
    simp only [out0_A_6_eq, out0_A_7_eq, out0_A_8_eq, out0_A_9_eq] at e
    rw [show outsAt0 m c 0 hn = _ from e]
    refine good_step (by omega) (iblk0_apply m c _) (iblk1_apply m c _) (iblk2_apply m c _) (iblk3_apply m c _) (iblk4_apply m c _) (iblk5_apply m c _)
      (fun a j => ?_) (fun a j => ?_) (fun a j => ?_) (fun r j hr => ?_) (fun y hy => sout0_A_0_eq _ _ _ _ _ _ _ _ _ _ _ _ _ _ _ _ _ _ _ _ _ _ _ _ _ _ _ _ _ _ _ y hy)
    · rw [pay6_apply]
      show _ = ∑ i ∈ Finset.Ico 8448 8448, _
      rw [Finset.Ico_self, Finset.sum_empty]
    · rw [pay7_apply]
      show _ = ∑ i ∈ Finset.Ico 8448 8448, _
      rw [Finset.Ico_self, Finset.sum_empty]
    · rw [pay8_apply]
      show _ = ∑ i ∈ Finset.Ico 8448 8448, _
      rw [Finset.Ico_self, Finset.sum_empty]
    · rw [zrows_apply, Dc_row _ _ (by show 8448 ≤ 7680 + r.val; omega)]
  | succ n ih =>
    intro hn
    have hn' : n + 1 < 11 := lt_of_lt_of_eq hn N_0
    have g := ih (by omega)
    have e := outsAt0_B m c ⟨n + 1, hn⟩ (by show ¬ (n + 1) % 11 = 0; omega)
    simp only [out0_B_6_eq, out0_B_7_eq, out0_B_8_eq, out0_B_9_eq] at e
    rw [show outsAt0 m c (n + 1) hn = _ from e]
    have hr : 768 * (10 - (n + 1)) + 768 = 768 * (10 - n) := by omega
    refine good_step (by omega) (iblk0_apply m c _) (iblk1_apply m c _) (iblk2_apply m c _) (iblk3_apply m c _) (iblk4_apply m c _) (iblk5_apply m c _)
      (fun a j => ?_) (fun a j => ?_) (fun a j => ?_) (fun r j h => ?_) (fun y hy => sout0_B_0_eq _ _ _ _ _ _ _ _ _ _ _ _ _ _ _ _ _ _ _ _ _ _ _ _ _ _ _ _ _ _ _ _ _ _ _ y hy)
    · show _ = ∑ i ∈ Finset.Ico (768 * (10 - (n + 1)) + 768) 8448, _
      rw [hr]; exact g.2.1 a j
    · show _ = ∑ i ∈ Finset.Ico (768 * (10 - (n + 1)) + 768) 8448, _
      rw [hr]; exact g.2.2.1 a j
    · show _ = ∑ i ∈ Finset.Ico (768 * (10 - (n + 1)) + 768) 8448, _
      rw [hr]; exact g.2.2.2.1 a j
    · have h2 := g.2.2.2.2 r j h
      rw [show 768 * (10 - n) + (r.val - 768) = 768 * (10 - (n + 1)) + r.val by omega] at h2
      exact h2

/-! The four result arrays after the run -/

theorem flush6 (t : Fin cfg0.N) : (cfg0.win 6).flush t = true := (by decide +kernel : ∀ t : Fin grid0.N, win0_6.flush t = true) t

theorem geom6 : ∀ t : Fin cfg0.N, win0_6.kind.off (win0_6.index t 0) (win0_6.size 0) = 768 * (10 - t.val) ∧ win0_6.kind.off (win0_6.index t 1) (win0_6.size 1) = 0
    ∧ ∀ a, win0_6.xsize (grid0.coords t) a = (![768, 1536] : Fin 2 → ℕ) a :=
  (by decide +kernel : ∀ t : Fin grid0.N, win0_6.kind.off (win0_6.index t 0) (win0_6.size 0) = 768 * (10 - t.val) ∧ win0_6.kind.off (win0_6.index t 1) (win0_6.size 1) = 0
    ∧ ∀ a, win0_6.xsize (grid0.coords t) a = (![768, 1536] : Fin 2 → ℕ) a)

theorem mem6 (t : Fin cfg0.N) (i : S8448x4096.Idx) (h : i ∈ ((cfg0.win 6).blk t).view.set) : (i 1).val < 1536 := by
  have h' : i ∈ ((View.whole main_v28_0).slice (win0_6.rect t)).set := h
  rw [View.set_slice_whole, Rect.mem_set_unit] at h'
  obtain ⟨_, h1, hx⟩ := geom6 t
  have h2 : (i 1).val < win0_6.kind.off (win0_6.index t 1) (win0_6.size 1) + win0_6.xsize (grid0.coords t) 1 := (h' 1).2
  rw [h1, hx 1] at h2
  exact lt_of_lt_of_eq h2 (Nat.zero_add _)

/-- A column past the 1536 keeps what the array held. -/
theorem dp_rest (c : Dev nD) (i : S8448x4096.Idx) (h : 1536 ≤ (i 1).val) :
    (dats m 0 c).arrAt 6 cfg0.N i = V m c main_v28_0 i :=
  Value.entry6 m c i fun t _ hm => by have := mem6 t i hm; omega

/-- A column of the first 1536 holds the gradient. -/
theorem dp_cols (c : Dev nD) (t : Fin 8448) (j : Fin 1536) :
    (dats m 0 c).arrAt 6 cfg0.N (ix2 t ⟨j.val, by omega⟩ : S8448x4096.Idx)
      = Gp (V m c main_arg0) (V m c main_arg1) (V m c main_arg2) (V m c main_v27) t.val j.val := by
  have hq : t.val / 768 ≤ 10 := by omega
  let n : Fin cfg0.N := ⟨10 - t.val / 768, lt_of_lt_of_eq (show 10 - t.val / 768 < 11 by omega) N_0.symm⟩
  have hgm := geom6 n
  have hb := congrFun (Value.blocks6 m c n (flush6 n)) (fun a => ⟨((ix2 ⟨t.val - 768 * (t.val / 768), by omega⟩ j : S768x1536.Idx) a).val, lt_of_lt_of_eq ((ix2 ⟨t.val - 768 * (t.val / 768), by omega⟩ j : S768x1536.Idx) a).isLt (hgm.2.2 a).symm⟩)
  rw [Value.flushed6] at hb
  have hg := (good_all m c n.val n.isLt).1 ⟨t.val - 768 * (t.val / 768), by omega⟩ j
  have e : 768 * (10 - n.val) + (t.val - 768 * (t.val / 768)) = t.val := by
    show 768 * (10 - (10 - t.val / 768)) + (t.val - 768 * (t.val / 768)) = t.val
    omega
  rw [show 768 * (10 - n.val) + ((⟨t.val - 768 * (t.val / 768), by omega⟩ : Fin 768).val) = t.val from e] at hg
  rw [View.read_apply] at hb
  refine Eq.trans ?_ (hb.trans (Eq.trans ?_ hg))
  · show _ = (dats m 0 c).arrAt 6 cfg0.N _
    congr 1
    funext a
    apply Fin.ext
    match a with
    | ⟨0, _⟩ =>
      show t.val = win0_6.kind.off (win0_6.index n 0) (win0_6.size 0) + 1 * (t.val - 768 * (t.val / 768))
      rw [hgm.1]; omega
    | ⟨1, _⟩ =>
      show j.val = win0_6.kind.off (win0_6.index n 1) (win0_6.size 1) + 1 * j.val
      rw [hgm.2.1]; omega
  · rfl

/-- The gradient of the convolution's weight 0: the sum over every row. -/
theorem dw0_row (c : Dev nD) (a : Fin 1) (j : Fin 512) :
    (dats m 0 c).arrAt 7 cfg0.N (ix2 a j : S1x512.Idx)
      = ∑ i ∈ Finset.range 8448, Dc (V m c main_arg0) (V m c main_arg1) (i + 2) j.val * Ec (V m c main_arg1) i j.val := by
  have hidx : ∀ t : Fin cfg0.N, win0_7.index t 0 = 0 ∧ win0_7.index t 1 = 0 ∧ (win0_7.flush t = true → t.val = 10) :=
    (by decide +kernel : ∀ t : Fin grid0.N, win0_7.index t 0 = 0 ∧ win0_7.index t 1 = 0 ∧ (win0_7.flush t = true → t.val = 10))
  have hlast : (cfg0.win 7).flush (⟨10, lt_of_lt_of_eq (by omega) N_0.symm⟩ : Fin cfg0.N) = true :=
    (by decide +kernel : win0_7.flush (⟨10, lt_of_lt_of_eq (by omega) N_0.symm⟩ : Fin grid0.N) = true)
  let n : Fin cfg0.N := ⟨10, lt_of_lt_of_eq (by omega) N_0.symm⟩
  have hb := congrFun ((dats m 0 c).read_blk_arrAt_eq_flushed 7 (fun t t' ht ht' hne => absurd (Fin.ext (((hidx t).2.2 ht).trans ((hidx t').2.2 ht').symm)) hne) cfg0.N n n.isLt hlast)
    (ix2 a j : S1x512.Idx)
  have hi := hidx n
  rw [Value.flushed7] at hb
  have hg := (good_all m c n.val n.isLt).2.1 a j
  rw [Finset.range_eq_Ico]
  rw [View.read_apply] at hb
  refine Eq.trans ?_ (hb.trans (Eq.trans ?_ hg))
  · show _ = (dats m 0 c).arrAt 7 cfg0.N _
    congr 1
    funext b
    apply Fin.ext
    match b with
    | ⟨0, _⟩ => show a.val = win0_7.index n 0 * 1 + 1 * a.val; rw [hi.1]; omega
    | ⟨1, _⟩ => show j.val = win0_7.index n 1 * 512 + 1 * j.val; rw [hi.2.1]; omega
  · rfl

/-- The gradient of the convolution's weight 1: the sum over every row. -/
theorem dw1_row (c : Dev nD) (a : Fin 1) (j : Fin 512) :
    (dats m 0 c).arrAt 8 cfg0.N (ix2 a j : S1x512.Idx)
      = ∑ i ∈ Finset.range 8448, Dc (V m c main_arg0) (V m c main_arg1) (i + 1) j.val * Ec (V m c main_arg1) i j.val := by
  have hidx : ∀ t : Fin cfg0.N, win0_8.index t 0 = 0 ∧ win0_8.index t 1 = 0 ∧ (win0_8.flush t = true → t.val = 10) :=
    (by decide +kernel : ∀ t : Fin grid0.N, win0_8.index t 0 = 0 ∧ win0_8.index t 1 = 0 ∧ (win0_8.flush t = true → t.val = 10))
  have hlast : (cfg0.win 8).flush (⟨10, lt_of_lt_of_eq (by omega) N_0.symm⟩ : Fin cfg0.N) = true :=
    (by decide +kernel : win0_8.flush (⟨10, lt_of_lt_of_eq (by omega) N_0.symm⟩ : Fin grid0.N) = true)
  let n : Fin cfg0.N := ⟨10, lt_of_lt_of_eq (by omega) N_0.symm⟩
  have hb := congrFun ((dats m 0 c).read_blk_arrAt_eq_flushed 8 (fun t t' ht ht' hne => absurd (Fin.ext (((hidx t).2.2 ht).trans ((hidx t').2.2 ht').symm)) hne) cfg0.N n n.isLt hlast)
    (ix2 a j : S1x512.Idx)
  have hi := hidx n
  rw [Value.flushed8] at hb
  have hg := (good_all m c n.val n.isLt).2.2.1 a j
  rw [Finset.range_eq_Ico]
  rw [View.read_apply] at hb
  refine Eq.trans ?_ (hb.trans (Eq.trans ?_ hg))
  · show _ = (dats m 0 c).arrAt 8 cfg0.N _
    congr 1
    funext b
    apply Fin.ext
    match b with
    | ⟨0, _⟩ => show a.val = win0_8.index n 0 * 1 + 1 * a.val; rw [hi.1]; omega
    | ⟨1, _⟩ => show j.val = win0_8.index n 1 * 512 + 1 * j.val; rw [hi.2.1]; omega
  · rfl

/-- The gradient of the convolution's weight 2: the sum over every row. -/
theorem dw2_row (c : Dev nD) (a : Fin 1) (j : Fin 512) :
    (dats m 0 c).arrAt 9 cfg0.N (ix2 a j : S1x512.Idx)
      = ∑ i ∈ Finset.range 8448, Dc (V m c main_arg0) (V m c main_arg1) (i) j.val * Ec (V m c main_arg1) i j.val := by
  have hidx : ∀ t : Fin cfg0.N, win0_9.index t 0 = 0 ∧ win0_9.index t 1 = 0 ∧ (win0_9.flush t = true → t.val = 10) :=
    (by decide +kernel : ∀ t : Fin grid0.N, win0_9.index t 0 = 0 ∧ win0_9.index t 1 = 0 ∧ (win0_9.flush t = true → t.val = 10))
  have hlast : (cfg0.win 9).flush (⟨10, lt_of_lt_of_eq (by omega) N_0.symm⟩ : Fin cfg0.N) = true :=
    (by decide +kernel : win0_9.flush (⟨10, lt_of_lt_of_eq (by omega) N_0.symm⟩ : Fin grid0.N) = true)
  let n : Fin cfg0.N := ⟨10, lt_of_lt_of_eq (by omega) N_0.symm⟩
  have hb := congrFun ((dats m 0 c).read_blk_arrAt_eq_flushed 9 (fun t t' ht ht' hne => absurd (Fin.ext (((hidx t).2.2 ht).trans ((hidx t').2.2 ht').symm)) hne) cfg0.N n n.isLt hlast)
    (ix2 a j : S1x512.Idx)
  have hi := hidx n
  rw [Value.flushed9] at hb
  have hg := (good_all m c n.val n.isLt).2.2.2.1 a j
  rw [Finset.range_eq_Ico]
  rw [View.read_apply] at hb
  refine Eq.trans ?_ (hb.trans (Eq.trans ?_ hg))
  · show _ = (dats m 0 c).arrAt 9 cfg0.N _
    congr 1
    funext b
    apply Fin.ext
    match b with
    | ⟨0, _⟩ => show a.val = win0_9.index n 0 * 1 + 1 * a.val; rw [hi.1]; omega
    | ⟨1, _⟩ => show j.val = win0_9.index n 1 * 512 + 1 * j.val; rw [hi.2.1]; omega
  · rfl
end Cert.ConvKernelIdeal.Hand
end
-- ==== Proof.ConvRef.lean ====
module
public import proofs.«01_k».proof.Proof.Gen.ConvReferenceIdeal.Read
public import proofs.«01_k».proof.Proof.ConvTerms
@[expose] public section
set_option maxRecDepth 16384
noncomputable section
open Idealize.ShloMosaic Idealize.ShloMosaic.TcCoe Idealize.SL.Sem
namespace Cert.ConvReferenceIdeal.Hand
open Cert.ConvReferenceIdeal Cert.ConvReferenceIdeal.Gen Cert.ConvReferenceIdeal.Read Cert.Rows Cert.ConvTerms

/-! The reference's results at an index. -/

variable (x0 : S8448x512.Idx → EReal) (x1 : S8448x4096.Idx → EReal) (x2 : S3x512.Idx → EReal) (x3 : S8448x4096.Idx → EReal)

theorem v29_apply (t : Fin 8448) (j : Fin 512) :
    val_main_v29 (F := Ideal) x0 x1 (ix2 t j) = Dc x0 x1 t.val j.val := by
  unfold Dc
  rw [at2_eq, at2_mk _ t.isLt (show j.val < 4096 by omega), mul_comm]
  unfold val_main_v29 val_main_v1 val_main_v0
  pointwise

/-- The gradient at the convolution's input. -/
theorem v63_apply (t : Fin 8448) (j : Fin 512) :
    val_main_v63 (F := Ideal) x0 x1 x2 (ix2 t j) = De x0 x1 x2 t.val j.val := by
  have h29 := v29_apply x0 x1
  unfold val_main_v63 val_main_v61 val_main_v60 val_main_v50 val_main_v49 val_main_v39 val_main_v35 val_main_v44 val_main_v55
    val_main_v34 val_main_v43 val_main_v54 val_main_v24 val_main_v17 val_main_v11 val_main_v23 val_main_v16 val_main_v10
    val_main_v22 val_main_v15 val_main_v9 val_main_cst_4 val_main_cst_8 val_main_cst_12
  generalize val_main_v29 (F := Ideal) x0 x1 = e at h29 ⊢
  pointwise
  unfold De
  rw [at2_mk x2 (show 2 < 3 by omega) j.isLt, at2_mk x2 (show 1 < 3 by omega) j.isLt, at2_mk x2 (show 0 < 3 by omega) j.isLt, h29, mul_comm]
  congr 1
  · congr 1
    by_cases h : 2 + t.val - 1 < 8448
    · rw [dif_pos ⟨by omega, h⟩, h29, mul_comm]
      congr 2
      show 2 + t.val - 1 = t.val + 1
      omega
    · rw [dif_neg (by omega), Dc_row _ _ (by omega), mul_zero]
  · by_cases h : 2 + t.val < 8448
    · rw [dif_pos h, h29, mul_comm]
      congr 2
      show 2 + t.val = t.val + 2
      omega
    · rw [dif_neg h, Dc_row _ _ (by omega), mul_zero]

theorem v59_apply (a : Fin 3) (j : Fin 512) :
    val_main_v59 (F := Ideal) x0 x1 (ix2 a j) =
      if a.val = 0 then ∑ i ∈ Finset.range 8448, Dc x0 x1 (i + 2) j.val * Ec x1 i j.val
      else if a.val = 1 then ∑ i ∈ Finset.range 8448, Dc x0 x1 (i + 1) j.val * Ec x1 i j.val
      else ∑ i ∈ Finset.range 8448, Dc x0 x1 i j.val * Ec x1 i j.val := by
  have h29 := v29_apply x0 x1
  have hE : ∀ (i : Fin 8448) (j : Fin 512), Ec x1 i.val j.val = x1 (ix2 i ⟨512 + j.val, by omega⟩) * x1 (ix2 i ⟨1024 + j.val, by omega⟩) := fun i j => by
    unfold Ec
    rw [at2_mk x1 i.isLt (show 512 + j.val < 4096 by omega), at2_mk x1 i.isLt (show 1024 + j.val < 4096 by omega)]
  unfold val_main_v59 val_main_v58 val_main_v48 val_main_v47 val_main_v38 val_main_v57 val_main_v46 val_main_v37
    val_main_v56 val_main_v45 val_main_v36 val_main_v53 val_main_v42 val_main_v33 val_main_v52 val_main_v41 val_main_v32
    val_main_v51 val_main_v40 val_main_v31 val_main_v8 val_main_v14 val_main_v21 val_main_v6 val_main_v5 val_main_v4 val_main_v3 val_main_v2 val_main_v0 val_main_cst
    val_main_cst_3 val_main_cst_7 val_main_cst_11 val_main_cst_1 val_main_cst_2 val_main_cst_5 val_main_cst_6 val_main_cst_9 val_main_cst_10
  generalize val_main_v29 (F := Ideal) x0 x1 = e at h29 ⊢
  pointwise
  fin_cases a
  · rw [dif_neg (by decide), dif_neg (by decide), dif_pos (by decide), if_pos rfl, zero_add, zero_add, Fin.sum_univ_one]
    simp only [zero_mul, Finset.sum_const_zero, zero_add]
    refine Eq.trans ?_ (sum_shift2 (fun n => Dc x0 x1 n j.val * Ec x1 (n - 2) j.val) (by rw [Dc_row _ _ (by omega), zero_mul]) (by rw [Dc_row _ _ (by omega), zero_mul]))
    refine Finset.sum_congr rfl fun x _ => ?_
    have hx : x.val < 8448 := lt_trans x.isLt (by decide)
    rw [h29, mul_comm]
    have e2 : 2 + x.val - 2 = x.val := by omega
    refine congrArg _ (Eq.trans (hE ⟨x.val, hx⟩ j).symm ?_)
    show Ec x1 x.val j.val = Ec x1 (2 + x.val - 2) j.val
    rw [e2]
  · rw [dif_neg (by decide), dif_pos (by decide), dif_neg (by decide), if_neg (by decide), if_pos rfl, zero_add, add_zero, Fin.sum_univ_one]
    refine sum_shift1 (fun n => Dc x0 x1 n j.val * Ec x1 (n - 1) j.val) (by rw [Dc_row _ _ (by omega), zero_mul]) (fun x hx => ?_) (fun x hx => ?_)
    · rw [dif_pos (by omega), zero_mul]
    · rw [dif_neg (by omega), h29, mul_comm]
      have hx' : 1 + x.val - 2 < 8448 := by omega
      have e2 : 1 + x.val - 2 = x.val - 1 := by omega
      refine congrArg _ (Eq.trans (hE ⟨1 + x.val - 2, hx'⟩ j).symm ?_)
      show Ec x1 (1 + x.val - 2) j.val = _
      rw [e2]
  · rw [dif_pos (by decide), dif_neg (by decide), dif_neg (by decide), if_neg (by decide), if_neg (by decide), add_zero, add_zero, Fin.sum_univ_one]
    rw [Finset.sum_range]
    exact Finset.sum_congr rfl fun i _ => by rw [h29, hE, mul_comm]

theorem v70_pick (t : Fin 8448) (j : Fin 4096) :
    val_main_v70 (F := Ideal) x0 x1 x2 x3 (ix2 t j) =
      if h : j.val < 512 then x0 (ix2 t ⟨j.val, h⟩) * val_main_v27 (F := Ideal) x1 x2 (ix2 t ⟨j.val, h⟩)
      else if h : j.val - 512 < 512 then val_main_v63 (F := Ideal) x0 x1 x2 (ix2 t ⟨j.val - 512, h⟩) * x1 (ix2 t ⟨1024 + (j.val - 512), by omega⟩)
      else if h : j.val - 512 - 512 < 512 then x1 (ix2 t ⟨512 + (j.val - 512 - 512), by omega⟩) * val_main_v63 (F := Ideal) x0 x1 x2 (ix2 t ⟨j.val - 512 - 512, h⟩)
      else x3 (ix2 t ⟨1536 + (j.val - 512 - 512 - 512), by omega⟩) := by
  unfold val_main_v70 val_main_v69 val_main_v68 val_main_v67 val_main_v66 val_main_v65 val_main_v64 val_main_v30 val_main_v3 val_main_v2 val_main_v0
  generalize val_main_v63 (F := Ideal) x0 x1 x2 = e
  generalize val_main_v27 (F := Ideal) x1 x2 = cv
  pointwise

/-- The first result at an index. -/
theorem v70_apply (t : Fin 8448) (j : Fin 4096) :
    val_main_v70 (F := Ideal) x0 x1 x2 x3 (ix2 t j) =
      if j.val < 1536 then Gp x0 x1 x2 (val_main_v27 (F := Ideal) x1 x2) t.val j.val else x3 (ix2 t j) := by
  have h63 := v63_apply x0 x1 x2
  rw [v70_pick]
  unfold Gp
  by_cases h : j.val < 512
  · rw [dif_pos h, if_pos (by omega), if_pos h, at2_mk x0 t.isLt h, at2_mk (val_main_v27 (F := Ideal) x1 x2) t.isLt h]
  · rw [dif_neg h]
    by_cases h1 : j.val - 512 < 512
    · rw [dif_pos h1, if_pos (by omega), if_neg h, if_pos h1, h63, at2_mk x1 t.isLt (show 1024 + (j.val - 512) < 4096 by omega)]
    · rw [dif_neg h1]
      by_cases h2 : j.val - 512 - 512 < 512
      · rw [dif_pos h2, if_pos (by omega), if_neg h, if_neg h1, h63, at2_mk x1 t.isLt (show 512 + (j.val - 512 - 512) < 4096 by omega), mul_comm]
      · rw [dif_neg h2, if_neg (by omega)]
        congr 2
        apply Fin.ext
        show 1536 + (j.val - 512 - 512 - 512) = j.val
        omega

end Cert.ConvReferenceIdeal.Hand
end
-- ==== Proof.ConvAlg.lean ====
module
public import proofs.«01_k».proof.Defs
public import proofs.«01_k».proof.Proof.ConvRun
public import proofs.«01_k».proof.Proof.ConvRef
@[expose] public section
set_option maxRecDepth 16384
noncomputable section
open Idealize.ShloMosaic Idealize.ShloMosaic.TcCoe Idealize.SL.Sem
namespace Cert.ConvAlg
open Cert.ConvKernelIdeal Cert.ConvKernelIdeal.Gen Cert.ConvKernelIdeal.Hand Cert.Rows Cert.ConvTerms
variable (m : (ℓ : Loc nD τ sig) → Buf (Elt Ideal) ℓ)

/-- The saved convolution the kernel is handed is the reference's. -/
theorem saved_conv (c : Dev nD) : (V m c main_v27 : S8448x512.Idx → EReal)
    = Cert.ConvReferenceIdeal.Read.val_main_v27 (F := Ideal) (m ((c : Thread nD τ).loc main_arg1)) (m ((c : Thread nD τ).loc main_arg2)) := by
  unfold V
  after_results_simp
  rfl

/-- The result array starts as the array it is written over. -/
theorem entry_dp (c : Dev nD) : V m c main_v28_0 = m ((c : Thread nD τ).loc main_arg3) := by
  unfold V
  after_results_simp
  rfl

/-- The gradient columns: the kernel's array is the reference's. -/
theorem dp_eq (c : Dev nD) : (dats m 0 c).arrAt 6 cfg0.N
    = Cert.ConvReferenceIdeal.Read.val_main_v70 (F := Ideal) (m ((c : Thread nD τ).loc main_arg0)) (m ((c : Thread nD τ).loc main_arg1))
        (m ((c : Thread nD τ).loc main_arg2)) (m ((c : Thread nD τ).loc main_arg3)) := by
  funext i
  obtain ⟨t, j, rfl⟩ : ∃ (t : Fin 8448) (j : Fin 4096), i = (ix2 t j : S8448x4096.Idx) := ⟨i 0, i 1, eq_ix2 i⟩
  rw [Cert.ConvReferenceIdeal.Hand.v70_apply]
  by_cases h : j.val < 1536
  · rw [if_pos h]
    refine (dp_cols m c t ⟨j.val, h⟩).trans ?_
    rw [saved_conv, V_main_arg0, V_main_arg1, V_main_arg2]
  · rw [if_neg h]
    refine (dp_rest m c _ (by show 1536 ≤ j.val; omega)).trans ?_
    rw [entry_dp]

/-- Row 0 of the filter's gradient: the kernel's array is the reference's. -/
theorem dw0_eq (c : Dev nD) : (dats m 0 c).arrAt 7 cfg0.N
    = Cert.ConvReferenceIdeal.Read.val_main_v71 (F := Ideal) (m ((c : Thread nD τ).loc main_arg0)) (m ((c : Thread nD τ).loc main_arg1)) := by
  funext i
  obtain ⟨a, j, rfl⟩ : ∃ (a : Fin 1) (j : Fin 512), i = (ix2 a j : S1x512.Idx) := ⟨i 0, i 1, eq_ix2 i⟩
  refine (dw0_row m c a j).trans ?_
  rw [V_main_arg0, V_main_arg1]
  have h := Cert.ConvReferenceIdeal.Hand.v59_apply (m ((c : Thread nD τ).loc main_arg0)) (m ((c : Thread nD τ).loc main_arg1)) 0 j
  refine h.symm.trans ?_
  unfold Cert.ConvReferenceIdeal.Read.val_main_v71
  generalize Cert.ConvReferenceIdeal.Read.val_main_v59 (F := Ideal) (m ((c : Thread nD τ).loc main_arg0)) (m ((c : Thread nD τ).loc main_arg1)) = e
  pointwise

/-- Row 1 of the filter's gradient: the kernel's array is the reference's. -/
theorem dw1_eq (c : Dev nD) : (dats m 0 c).arrAt 8 cfg0.N
    = Cert.ConvReferenceIdeal.Read.val_main_v72 (F := Ideal) (m ((c : Thread nD τ).loc main_arg0)) (m ((c : Thread nD τ).loc main_arg1)) := by
  funext i
  obtain ⟨a, j, rfl⟩ : ∃ (a : Fin 1) (j : Fin 512), i = (ix2 a j : S1x512.Idx) := ⟨i 0, i 1, eq_ix2 i⟩
  refine (dw1_row m c a j).trans ?_
  rw [V_main_arg0, V_main_arg1]
  have h := Cert.ConvReferenceIdeal.Hand.v59_apply (m ((c : Thread nD τ).loc main_arg0)) (m ((c : Thread nD τ).loc main_arg1)) 1 j
  refine h.symm.trans ?_
  unfold Cert.ConvReferenceIdeal.Read.val_main_v72
  generalize Cert.ConvReferenceIdeal.Read.val_main_v59 (F := Ideal) (m ((c : Thread nD τ).loc main_arg0)) (m ((c : Thread nD τ).loc main_arg1)) = e
  pointwise

/-- Row 2 of the filter's gradient: the kernel's array is the reference's. -/
theorem dw2_eq (c : Dev nD) : (dats m 0 c).arrAt 9 cfg0.N
    = Cert.ConvReferenceIdeal.Read.val_main_v73 (F := Ideal) (m ((c : Thread nD τ).loc main_arg0)) (m ((c : Thread nD τ).loc main_arg1)) := by
  funext i
  obtain ⟨a, j, rfl⟩ : ∃ (a : Fin 1) (j : Fin 512), i = (ix2 a j : S1x512.Idx) := ⟨i 0, i 1, eq_ix2 i⟩
  refine (dw2_row m c a j).trans ?_
  rw [V_main_arg0, V_main_arg1]
  have h := Cert.ConvReferenceIdeal.Hand.v59_apply (m ((c : Thread nD τ).loc main_arg0)) (m ((c : Thread nD τ).loc main_arg1)) 2 j
  refine h.symm.trans ?_
  unfold Cert.ConvReferenceIdeal.Read.val_main_v73
  generalize Cert.ConvReferenceIdeal.Read.val_main_v59 (F := Ideal) (m ((c : Thread nD τ).loc main_arg0)) (m ((c : Thread nD τ).loc main_arg1)) = e
  pointwise

/-- The kernel computes the reference's four results. -/
theorem algebraic : Cert.algebraic_ConvKernelIdeal_ConvReferenceIdeal := by
  intro m g m' g' _ hag
  refine ⟨fun c => (dats m 0 c).arrAt 6 cfg0.N, fun c => (dats m 0 c).arrAt 7 cfg0.N, fun c => (dats m 0 c).arrAt 8 cfg0.N,
    fun c => (dats m 0 c).arrAt 9 cfg0.N, Cert.ConvKernelIdeal.Value.run_blocks m g, ?_⟩
  refine (θ_run _ _ _).mono (fun r h c => ?_) (Cert.ConvReferenceIdeal.Value.run m' g')
  obtain ⟨h0, h1, h2, h3, ha⟩ := h c
  obtain ⟨e0, e1, e2, e3⟩ := hag c
  refine ⟨?_, ?_, ?_, ?_, ha⟩
  · refine Eq.trans ?_ (dp_eq m c).symm
    rw [← e0, ← e1, ← e2, ← e3]
    exact h0.trans (Cert.ConvReferenceIdeal.Read.val_main_v70_eq m' c)
  · refine Eq.trans ?_ (dw0_eq m c).symm
    rw [← e0, ← e1]
    exact h1.trans (Cert.ConvReferenceIdeal.Read.val_main_v71_eq _ _)
  · refine Eq.trans ?_ (dw1_eq m c).symm
    rw [← e0, ← e1]
    exact h2.trans (Cert.ConvReferenceIdeal.Read.val_main_v72_eq _ _)
  · refine Eq.trans ?_ (dw2_eq m c).symm
    rw [← e0, ← e1]
    exact h3.trans (Cert.ConvReferenceIdeal.Read.val_main_v73_eq _ _)

/-- The reference runs, leaves its arguments unchanged and ends with every counter at zero. -/
theorem frame_reference : Cert.quiescent_ConvReferenceIdeal := by
  intro m ρ _
  exact (θ_run Cert.ConvReferenceIdeal.defs _ _).mono (fun r h => ⟨fun c => (h c).2.2.2.2,
      Idealize.ShloMosaic.sem_eq_zero_of_no_sems (by decide) r.2⟩) (Cert.ConvReferenceIdeal.Value.run (F := Ideal) m ρ)

end Cert.ConvAlg
end
-- ==== Proof.AttnReal.lean ====
module
public import proofs.«01_k».proof.Proof.Gen.AttnReferenceIdeal.Read
public import Idealize.ShloMosaic.Lib.Pointwise
public import Idealize.ShloMosaic.Lib.WordCmp
@[expose] public section
set_option maxRecDepth 16384
noncomputable section
open Idealize.ShloMosaic Idealize.ShloMosaic.TcCoe Idealize.SL.Sem
namespace Cert.AttnAlg

/-! The attention gradient over the real numbers. -/

/-- An array of real numbers as an array of extended reals. -/
def up3 {a b c : ℕ} (f : Fin a → Fin b → Fin c → ℝ) : (⟨3, ![a, b, c]⟩ : Shape).Idx → EReal := fun i => ((f (i 0) (i 1) (i 2) : ℝ) : EReal)
def up2 {a b : ℕ} (f : Fin a → Fin b → ℝ) : (⟨2, ![a, b]⟩ : Shape).Idx → EReal := fun i => ((f (i 0) (i 1) : ℝ) : EReal)

theorem exists_up3 {a b c : ℕ} (x : (⟨3, ![a, b, c]⟩ : Shape).Idx → EReal) (h : ∀ i, x i ≠ ⊤ ∧ x i ≠ ⊥) : ∃ f, x = up3 f :=
  ⟨fun i j k => (x (ix3 i j k)).toReal, funext fun i => by
    rw [eq_ix3 i]; exact (EReal.coe_toReal (h _).1 (h _).2).symm⟩
theorem exists_up2 {a b : ℕ} (x : (⟨2, ![a, b]⟩ : Shape).Idx → EReal) (h : ∀ i, x i ≠ ⊤ ∧ x i ≠ ⊥) : ∃ f, x = up2 f :=
  ⟨fun i j => (x (ix2 i j)).toReal, funext fun i => by
    rw [eq_ix2 i]; exact (EReal.coe_toReal (h _).1 (h _).2).symm⟩

/-- A number whose size is below infinity is a real number. -/
theorem finite_of (x : EReal) (h : FloatOps.cmpf (F := Ideal) (φ := .f32) .olt (FloatOps.hostAbsf (F := Ideal) (φ := .f32) x) (FloatOps.ofBits (F := Ideal) .f32 0x7F800000#32) = 1#1) : x ≠ ⊤ ∧ x ≠ ⊥ := by
  rw [show (FloatOps.ofBits (F := Ideal) .f32 0x7F800000#32 : EReal) = ⊤ by show Ideal.ofBits .f32 0x7F800000#32 = ⊤; simp [Ideal.ofBits, Ideal.ieee]] at h
  have h' : BitVec.ofBool (decide (max x (-x) < ⊤)) = 1#1 := h
  have h2 : max x (-x) < ⊤ := by
    by_contra hc
    rw [decide_eq_false hc] at h'
    exact absurd h' (by decide)
  rw [max_lt_iff] at h2
  refine ⟨h2.1.ne, fun hb => ?_⟩
  rw [hb, EReal.neg_bot] at h2
  exact h2.2.ne rfl

/-- A sum of real numbers, read as extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- The arrays of the attention: queries (plain and rotated), keys (plain and rotated), values, and the gradient of the output. -/
structure Args where
  q : Fin 8448 → Fin 8 → Fin 64 → ℝ
  qr : Fin 8448 → Fin 8 → Fin 32 → ℝ
  k : Fin 8448 → Fin 8 → Fin 64 → ℝ
  kr : Fin 8448 → Fin 32 → ℝ
  v : Fin 8448 → Fin 8 → Fin 64 → ℝ
  d : Fin 8448 → Fin 8 → Fin 64 → ℝ

variable (A : Args) (w : ℝ) (M : Fin 8 → Fin 8448 → ℝ)

/-- The scaled score of a query and a key. -/
def S (h : Fin 8) (q k : Fin 8448) : ℝ := ((∑ e : Fin 64, A.q q h e * A.k k h e) + ∑ e : Fin 32, A.kr k e * A.qr q h e) * w
/-- The exponential of a score less the row's maximum, zero after the query. -/
def E (h : Fin 8) (q k : Fin 8448) : ℝ := if k ≤ q then Real.exp (S A w h q k - M h q) else 0
/-- The row's sum. -/
def L (h : Fin 8) (q : Fin 8448) : ℝ := ∑ k : Fin 8448, E A w M h q k
/-- The probability. -/
def Y (h : Fin 8) (q k : Fin 8448) : ℝ := E A w M h q k / L A w M h q
/-- The gradient of the probability. -/
def DP (h : Fin 8) (q k : Fin 8448) : ℝ := ∑ e : Fin 64, A.d q h e * A.v k h e
/-- The row's mean of it. -/
def Mean (h : Fin 8) (q : Fin 8448) : ℝ := ∑ k : Fin 8448, Y A w M h q k * DP A h q k
/-- The gradient of the score. -/
def DS (h : Fin 8) (q k : Fin 8448) : ℝ := Y A w M h q k * (DP A h q k - Mean A w M h q)

theorem E_nonneg (h : Fin 8) (q k : Fin 8448) : 0 ≤ E A w M h q k := by
  unfold E; split_ifs
  · exact (Real.exp_pos _).le
  · exact le_rfl
theorem L_pos (h : Fin 8) (q : Fin 8448) : 0 < L A w M h q := by
  refine lt_of_lt_of_le ?_ (Finset.single_le_sum (f := fun k => E A w M h q k) (fun k _ => E_nonneg A w M h q k) (Finset.mem_univ q))
  show 0 < E A w M h q q
  unfold E; rw [if_pos le_rfl]; exact Real.exp_pos _

/-- The mean of the gradient is the output's product with its gradient. -/
theorem Mean_eq (h : Fin 8) (q : Fin 8448) : Mean A w M h q = ∑ e : Fin 64, A.d q h e * ∑ k : Fin 8448, A.v k h e * Y A w M h q k := by
  unfold Mean DP
  simp only [Finset.mul_sum]
  rw [Finset.sum_comm]
  exact Finset.sum_congr rfl fun e _ => Finset.sum_congr rfl fun k _ => by ring

/-- The score's gradient as the chain rule through the quotient gives it. -/
theorem DS_eq (h : Fin 8) (q k : Fin 8448) :
    (DP A h q k / L A w M h q + (0 + -(0 + ∑ j : Fin 8448, DP A h q j * (1 / (L A w M h q * L A w M h q)) * E A w M h q j))) * E A w M h q k = DS A w M h q k := by
  have hL := (L_pos A w M h q).ne'
  have hs : (∑ j : Fin 8448, DP A h q j * (1 / (L A w M h q * L A w M h q)) * E A w M h q j) = Mean A w M h q / L A w M h q := by
    unfold Mean Y
    rw [Finset.sum_div]
    exact Finset.sum_congr rfl fun j _ => by field_simp
  rw [hs]; unfold DS Y
  field_simp
  ring

/-- A base-2 power of a base-2 logarithm: the probability as the kernel reads it off the saved row. -/
theorem pow_eq (h : Fin 8) (q k : Fin 8448) (hk : k ≤ q) :
    Real.rpow 2 (S A w h q k * (1 / Real.log 2) - (M h q + Real.log (L A w M h q)) * (1 / Real.log 2)) = Y A w M h q k := by
  have h2 : Real.log 2 ≠ 0 := (Real.log_pos (by norm_num)).ne'
  rw [Real.rpow_eq_pow]
  rw [Real.rpow_def_of_pos (by norm_num : (0 : ℝ) < 2)]
  unfold Y E; rw [if_pos hk]
  have e : Real.log 2 * (S A w h q k * (1 / Real.log 2) - (M h q + Real.log (L A w M h q)) * (1 / Real.log 2)) = (S A w h q k - M h q) - Real.log (L A w M h q) := by
    field_simp; ring
  rw [e, Real.exp_sub, Real.exp_log (L_pos A w M h q)]

theorem Y_after (h : Fin 8) (q k : Fin 8448) (hk : ¬ k ≤ q) : Y A w M h q k = 0 := by
  unfold Y E; rw [if_neg hk, zero_div]

/-- Sums over blocks of 768 rows are sums over the rows. -/
theorem sum_rows {β : Type} [AddCommMonoid β] (f : Fin 8448 → β) :
    (∑ i : Fin 11, ∑ r : Fin 768, f ⟨768 * i.val + r.val, by omega⟩) = ∑ q : Fin 8448, f q := by
  rw [← Fintype.sum_prod_type']
  refine Fintype.sum_equiv (finProdFinEquiv (m := 11) (n := 768)) _ _ fun p => ?_
  refine congrArg f (Fin.ext ?_)
  show 768 * p.1.val + p.2.val = p.2.val + 768 * p.1.val
  omega

end Cert.AttnAlg
-- ==== Proof.AttnRef.lean ====
module
public import proofs.«01_k».proof.Proof.AttnReal
public import Idealize.ShloMosaic.Lib.KernelVsHost
public import Idealize.ShloMosaic.Lib.TwoAxisContraction
@[expose] public section
set_option maxRecDepth 16384
noncomputable section
open Idealize.ShloMosaic Idealize.ShloMosaic.TcCoe Idealize.SL.Sem
namespace Cert.AttnAlg
open Cert.AttnReferenceIdeal Cert.AttnReferenceIdeal.Gen Cert.AttnReferenceIdeal.Read

/-! The reference's lines, index by index, on arrays of real numbers. -/

variable (A : Args) (w : ℝ) (hw : (FloatOps.ofBits (F := Ideal) .f32 0x3DD105EC#32 : EReal) = ((w : ℝ) : EReal))

theorem word_bot : (FloatOps.ofBits (F := Ideal) .f32 0xFF800000#32 : EReal) = ⊥ := by
  show Ideal.ofBits .f32 0xFF800000#32 = ⊥
  simp [Ideal.ofBits, Ideal.ieee]
theorem word_zero : (FloatOps.ofBits (F := Ideal) .f32 0x00000000#32 : EReal) = 0 := by
  show Ideal.ofBits .f32 0x00000000#32 = 0
  simp [Ideal.ofBits, Ideal.ieee]
theorem word_one : (FloatOps.ofBits (F := Ideal) .f32 0x3F800000#32 : EReal) = ((1 : ℝ) : EReal) := by
  show Ideal.ofBits .f32 0x3F800000#32 = ((1 : ℝ) : EReal)
  simp [Ideal.ofBits, Ideal.ieee]
  rw [← EReal.coe_mul]; norm_num
theorem word_two : (FloatOps.ofBits (F := Ideal) .f32 0x40000000#32 : EReal) = ((2 : ℝ) : EReal) := by
  show Ideal.ofBits .f32 0x40000000#32 = ((2 : ℝ) : EReal)
  simp [Ideal.ofBits, Ideal.ieee]
  rw [← EReal.coe_mul]; norm_num

/-- A key is visible to a query that does not precede it. -/
theorem mask_at (h : Fin 8) (q k : Fin 8448) : val_main_v12_1 (F := Ideal) (ix3 h q k) = BitVec.ofBool (decide (k ≤ q)) := by
  rw [val_main_v12_1_apply, val_main_v11_apply, val_main_v9_apply, val_main_v7_apply, val_main_v10_apply, val_main_v8_apply, val_main_v0_apply, val_main_v0_apply]
  exact WordCmp.cmpi_sle_ofNat (w := 32) (a := k.val) (b := q.val) (by omega) (by omega)

include hw in
/-- The masked scores. -/
theorem score_at (h : Fin 8) (q k : Fin 8448) :
    val_main_v12_0 (F := Ideal) (up3 A.q) (up3 A.qr) (up3 A.k) (up2 A.kr) (ix3 h q k) = if k ≤ q then ((S A w h q k : ℝ) : EReal) else ⊥ := by
  have h6 : val_main_v6 (F := Ideal) (up3 A.q) (up3 A.qr) (up3 A.k) (up2 A.kr) (ix3 h q k) = ((S A w h q k : ℝ) : EReal) := by
    rw [val_main_v6_apply, val_main_v4_apply, val_main_v1_apply, val_main_v3_apply, val_main_v2_apply, val_main_v5_apply, val_main_cst_apply, hw]
    show ((∑ e : Fin 64, ((A.q q h e : ℝ) : EReal) * ((A.k k h e : ℝ) : EReal)) + ∑ e : Fin 32, ((A.kr k e : ℝ) : EReal) * ((A.qr q h e : ℝ) : EReal)) * (w : EReal) = _
    simp only [← EReal.coe_mul, coe_sum, ← EReal.coe_add]
    rfl
  rw [val_main_v12_0_apply, mask_at, h6, val_main_call0_v2_apply, val_main_call0_v0_apply, val_main_cst_0_apply, word_bot]
  by_cases hk : k ≤ q
  · rw [if_pos hk, decide_eq_true hk]; rfl
  · rw [if_neg hk, decide_eq_false hk]; rfl

theorem fold_real (f : Fin 8448 → EReal) (ht : ∀ k, f k < ⊤) (hb : ∃ k, ⊥ < f k) : ∃ r : ℝ, (Finset.univ : Finset (Fin 8448)).fold max ⊥ f = (r : EReal) := by
  obtain ⟨k, hk⟩ := hb
  have h1 : (Finset.univ : Finset (Fin 8448)).fold max ⊥ f < ⊤ := (Finset.fold_max_lt _).2 ⟨bot_lt_top, fun k _ => ht k⟩
  have h2 : ⊥ < (Finset.univ : Finset (Fin 8448)).fold max ⊥ f := (Finset.lt_fold_max _).2 (.inr ⟨k, Finset.mem_univ k, hk⟩)
  exact ⟨_, (EReal.coe_toReal h1.ne h2.ne').symm⟩

/-- The maximum over the last axis is a fold. -/
theorem row_max (y : FVec Ideal S8x8448x8448 .f32) (h : Fin 8) (q : Fin 8448) :
    Host.reduce FloatOps.maximumf y (constant (F := Ideal) S_ .f32 0xFF800000#32) reducesTo_S8x8448x8448_S8x8448_d2 h_S_ (ix2 h q)
      = (Finset.univ : Finset (Fin 8448)).fold max ⊥ (fun k => y (ix3 h q k)) := by
  have hr : S8x8448x8448.Reduces [2] S8x8448 := by decide
  have hl : (fun k : Fin 8448 => y (ix3 h q k)) = y ∘ hr.lift (ix2 h q) := funext fun k =>
    congrArg y (funext fun a => Fin.ext (by match a with | ⟨0, _⟩ => rfl | ⟨1, _⟩ => rfl | ⟨2, _⟩ => rfl))
  rw [hl]
  refine (Host.reduce_eq_fold_single (FloatOps.maximumf (F := Ideal) (φ := .f32)) y (constant (F := Ideal) S_ .f32 0xFF800000#32) reducesTo_S8x8448x8448_S8x8448_d2 hr h_S_ (ix2 h q)).trans ?_
  exact congrArg (fun b : EReal => (Finset.univ : Finset (Fin 8448)).fold max b (y ∘ hr.lift (ix2 h q))) word_bot

include hw in
/-- Each row's maximum is a real number. -/
theorem exists_max : ∃ M : Fin 8 → Fin 8448 → ℝ, ∀ h q, val_main_v13 (F := Ideal) (up3 A.q) (up3 A.qr) (up3 A.k) (up2 A.kr) (ix2 h q) = ((M h q : ℝ) : EReal) := by
  have key : ∀ h q, ∃ r : ℝ, val_main_v13 (F := Ideal) (up3 A.q) (up3 A.qr) (up3 A.k) (up2 A.kr) (ix2 h q) = (r : EReal) := fun h q => by
    obtain ⟨r, hr⟩ := fold_real (fun k => val_main_v12_0 (F := Ideal) (up3 A.q) (up3 A.qr) (up3 A.k) (up2 A.kr) (ix3 h q k)) (fun k => by
      rw [score_at A w hw]; split_ifs
      · exact EReal.coe_lt_top _
      · exact bot_lt_top) ⟨q, by rw [score_at A w hw, if_pos le_rfl]; exact EReal.bot_lt_coe _⟩
    exact ⟨r, (row_max _ h q).trans hr⟩
  choose M hM using key
  exact ⟨M, hM⟩

/-- The maximum the reference subtracts. -/
theorem v20_eq (x0 x2 : S8448x8x64.Idx → EReal) (x1 : S8448x8x32.Idx → EReal) (x3 : S8448x32.Idx → EReal) :
    val_main_v20 (F := Ideal) x0 x1 x2 x3 = val_main_v13 (F := Ideal) x0 x1 x2 x3 := funext fun i => by
  rw [val_main_v20_apply, val_main_v19_apply, val_main_cst_3_apply, word_bot]
  exact max_eq_right bot_le

variable (M : Fin 8 → Fin 8448 → ℝ)
  (hM : ∀ h q, val_main_v13 (F := Ideal) (up3 A.q) (up3 A.qr) (up3 A.k) (up2 A.kr) (ix2 h q) = ((M h q : ℝ) : EReal))

include hw hM in
theorem exp_at (h : Fin 8) (q k : Fin 8448) :
    val_main_v33 (F := Ideal) (up3 A.q) (up3 A.qr) (up3 A.k) (up2 A.kr) (ix3 h q k) = ((E A w M h q k : ℝ) : EReal) := by
  rw [val_main_v33_apply, val_main_v32_apply, val_main_v31_apply, val_main_v30_apply, v20_eq, score_at A w hw]
  have e : val_main_v13 (F := Ideal) (up3 A.q) (up3 A.qr) (up3 A.k) (up2 A.kr) (idx_main_v30 (idx_main_v31 (ix3 h q k))) = ((M h q : ℝ) : EReal) := by
    rw [← hM h q]; exact congrArg _ (funext fun a => by match a with | ⟨0, _⟩ => rfl | ⟨1, _⟩ => rfl)
  rw [e]
  unfold E
  by_cases hk : k ≤ q
  · rw [if_pos hk, if_pos hk]
    show Ideal.exp (((S A w h q k : ℝ) : EReal) - ((M h q : ℝ) : EReal)) = _
    rw [← EReal.coe_sub]; rfl
  · rw [if_neg hk, if_neg hk]
    show Ideal.exp ((⊥ : EReal) - ((M h q : ℝ) : EReal)) = _
    rw [EReal.bot_sub]; rfl

include hw hM in
theorem sum_at (h : Fin 8) (q : Fin 8448) :
    val_main_v34 (F := Ideal) (up3 A.q) (up3 A.qr) (up3 A.k) (up2 A.kr) (ix2 h q) = ((L A w M h q : ℝ) : EReal) := by
  rw [val_main_v34_apply, val_main_cst_9_apply, word_zero, zero_add]
  unfold L
  rw [← coe_sum]
  refine Finset.sum_congr rfl fun k _ => (Eq.trans ?_ (exp_at A w hw M hM h q k))
  exact congrArg _ (funext fun a => by match a with | ⟨0, _⟩ => rfl | ⟨1, _⟩ => rfl | ⟨2, _⟩ => rfl)

theorem div_real (x : ℝ) {y : ℝ} (hy : y ≠ 0) : Ideal.div ((x : ℝ) : EReal) ((y : ℝ) : EReal) = ((x / y : ℝ) : EReal) := by
  rw [Ideal.div_coe hy, ← EReal.coe_mul]; congr 1; ring

include hw hM in
theorem row_at (h : Fin 8) (q : Fin 8448) (u : Fin 1) :
    val_main_v35 (F := Ideal) (up3 A.q) (up3 A.qr) (up3 A.k) (up2 A.kr) (ix3 h q u) = ((L A w M h q : ℝ) : EReal) := by
  rw [val_main_v35_apply, ← sum_at A w hw M hM h q]
  exact congrArg _ (funext fun a => by match a with | ⟨0, _⟩ => rfl | ⟨1, _⟩ => rfl)

include hw hM in
theorem prob_at (h : Fin 8) (q k : Fin 8448) :
    val_main_v37 (F := Ideal) (up3 A.q) (up3 A.qr) (up3 A.k) (up2 A.kr) (ix3 h q k) = ((Y A w M h q k : ℝ) : EReal) := by
  rw [val_main_v37_apply, val_main_v36_apply, exp_at A w hw M hM]
  rw [show idx_main_v36 (ix3 h q k) = ix3 h q 0 from funext fun a => by match a with | ⟨0, _⟩ => rfl | ⟨1, _⟩ => rfl | ⟨2, _⟩ => rfl, row_at A w hw M hM]
  exact div_real _ (L_pos A w M h q).ne'

theorem dp_at (h : Fin 8) (q k : Fin 8448) :
    val_main_v44 (F := Ideal) (up3 A.v) (up3 A.d) (ix3 h q k) = ((DP A h q k : ℝ) : EReal) := by
  rw [val_main_v44_apply]
  simp only [val_main_v43_apply]
  show (∑ e : Fin 64, ((A.d q h e : ℝ) : EReal) * ((A.v k h e : ℝ) : EReal)) = _
  simp only [← EReal.coe_mul, coe_sum]
  rfl

include hw hM in
theorem ds_at (h : Fin 8) (q k : Fin 8448) :
    val_main_v61 (F := Ideal) (up3 A.q) (up3 A.qr) (up3 A.k) (up2 A.kr) (up3 A.v) (up3 A.d) (ix3 h q k) = ((DS A w M h q k * w : ℝ) : EReal) := by
  have hL := (L_pos A w M h q).ne'
  have h40 : ∀ u : Fin 1, val_main_v40 (F := Ideal) (up3 A.q) (up3 A.qr) (up3 A.k) (up2 A.kr) (ix3 h q u) = ((1 / (L A w M h q * L A w M h q) : ℝ) : EReal) := fun u => by
    rw [val_main_v40_apply, val_main_v39_apply, val_main_cst_10_apply, val_main_v38_apply, row_at A w hw M hM, word_one]
    show Ideal.div _ (((L A w M h q : ℝ) : EReal) * ((L A w M h q : ℝ) : EReal)) = _
    rw [← EReal.coe_mul]; exact div_real _ (mul_ne_zero hL hL)
  have h49 : ∀ j, val_main_v49 (F := Ideal) (up3 A.q) (up3 A.qr) (up3 A.k) (up2 A.kr) (up3 A.v) (up3 A.d) (ix3 h q j)
      = ((DP A h q j * (1 / (L A w M h q * L A w M h q)) * E A w M h q j : ℝ) : EReal) := fun j => by
    rw [val_main_v49_apply, val_main_v48_apply, val_main_v47_apply, dp_at, exp_at A w hw M hM]
    rw [show idx_main_v47 (ix3 h q j) = ix3 h q 0 from funext fun a => by match a with | ⟨0, _⟩ => rfl | ⟨1, _⟩ => rfl | ⟨2, _⟩ => rfl, h40]
    show (_ : EReal) * _ * _ = _
    rw [← EReal.coe_mul, ← EReal.coe_mul]
  have h50 : val_main_v50 (F := Ideal) (up3 A.q) (up3 A.qr) (up3 A.k) (up2 A.kr) (up3 A.v) (up3 A.d) (ix2 h q)
      = ((0 + ∑ j : Fin 8448, DP A h q j * (1 / (L A w M h q * L A w M h q)) * E A w M h q j : ℝ) : EReal) := by
    rw [val_main_v50_apply, val_main_cst_11_apply, word_zero, EReal.coe_add, ← coe_sum, EReal.coe_zero]
    refine congrArg (0 + ·) (Finset.sum_congr rfl fun j _ => Eq.trans ?_ (h49 j))
    exact congrArg _ (funext fun a => by match a with | ⟨0, _⟩ => rfl | ⟨1, _⟩ => rfl | ⟨2, _⟩ => rfl)
  have h55 : val_main_v55 (F := Ideal) (up3 A.q) (up3 A.qr) (up3 A.k) (up2 A.kr) (up3 A.v) (up3 A.d) (ix2 h q)
      = ((0 + -(0 + ∑ j : Fin 8448, DP A h q j * (1 / (L A w M h q * L A w M h q)) * E A w M h q j) : ℝ) : EReal) := by
    rw [val_main_v55_apply, val_main_cst_12_apply, word_zero, EReal.coe_add, EReal.coe_zero, Fin.sum_univ_one, val_main_v52_apply, val_main_v51_apply]
    rw [show idx_main_v51 (idx_main_v55 (ix2 h q) 0) = ix2 h q from funext fun a => Fin.ext (by
      match a with
      | ⟨0, _⟩ => show ((h.val * 8448 + q.val) * 1 + 0) / 8448 = h.val; omega
      | ⟨1, _⟩ => show ((h.val * 8448 + q.val) * 1 + 0) % 8448 = q.val; omega), h50]
    rfl
  have h58 : val_main_v58 (F := Ideal) (up3 A.q) (up3 A.qr) (up3 A.k) (up2 A.kr) (up3 A.v) (up3 A.d) (ix3 h q k) = ((DS A w M h q k : ℝ) : EReal) := by
    rw [val_main_v58_apply, val_main_v57_apply, val_main_v54_apply, val_main_v53_apply, val_main_v56_apply, dp_at, exp_at A w hw M hM]
    rw [show idx_main_v53 (ix3 h q k) = ix3 h q 0 from funext fun a => by match a with | ⟨0, _⟩ => rfl | ⟨1, _⟩ => rfl | ⟨2, _⟩ => rfl, row_at A w hw M hM]
    rw [show idx_main_v56 (ix3 h q k) = ix2 h q from funext fun a => by match a with | ⟨0, _⟩ => rfl | ⟨1, _⟩ => rfl, h55]
    show (Ideal.div _ _ + _) * _ = _
    rw [div_real _ hL, ← EReal.coe_add, ← EReal.coe_mul, DS_eq]
  rw [val_main_v61_apply, val_main_v59_apply, mask_at, h58, val_main_call1_v0_apply, val_main_call1_cst_apply, word_zero, val_main_v60_apply, val_main_cst_13_apply, hw]
  by_cases hk : k ≤ q
  · rw [decide_eq_true hk]
    show ((DS A w M h q k : ℝ) : EReal) * _ = _
    rw [← EReal.coe_mul]
  · rw [decide_eq_false hk]
    show (0 : EReal) * _ = _
    rw [zero_mul, DS, Y_after A w M h q k hk, zero_mul, zero_mul, EReal.coe_zero]

include hw hM in
theorem ref_dv (k : Fin 8448) (h : Fin 8) (e : Fin 64) :
    val_main_v46 (F := Ideal) (up3 A.q) (up3 A.qr) (up3 A.k) (up2 A.kr) (up3 A.d) (ix3 k h e) = ((∑ q : Fin 8448, A.d q h e * Y A w M h q k : ℝ) : EReal) := by
  rw [val_main_v46_apply, val_main_v45_apply, ← coe_sum]
  refine Finset.sum_congr rfl fun q _ => ?_
  rw [EReal.coe_mul, ← prob_at A w hw M hM h q k, val_main_v43_apply]
  exact congrArg₂ (· * ·) rfl (congrArg _ (funext fun a => by match a with | ⟨0, _⟩ => rfl | ⟨1, _⟩ => rfl | ⟨2, _⟩ => rfl))

include hw hM in
theorem ref_dqr (q : Fin 8448) (h : Fin 8) (e : Fin 32) :
    val_main_v63 (F := Ideal) (up3 A.q) (up3 A.qr) (up3 A.k) (up2 A.kr) (up3 A.v) (up3 A.d) (ix3 q h e)
      = ((∑ k : Fin 8448, DS A w M h q k * w * A.kr k e : ℝ) : EReal) := by
  rw [val_main_v63_apply, ← coe_sum]
  refine Finset.sum_congr rfl fun k _ => ?_
  rw [EReal.coe_mul, ← ds_at A w hw M hM h q k, val_main_v62_apply]
  exact congrArg₂ (· * ·) (congrArg _ (funext fun a => by match a with | ⟨0, _⟩ => rfl | ⟨1, _⟩ => rfl | ⟨2, _⟩ => rfl)) rfl

include hw hM in
theorem ref_dk (k : Fin 8448) (h : Fin 8) (e : Fin 64) :
    val_main_v66 (F := Ideal) (up3 A.q) (up3 A.qr) (up3 A.k) (up2 A.kr) (up3 A.v) (up3 A.d) (ix3 k h e)
      = ((∑ q : Fin 8448, DS A w M h q k * w * A.q q h e : ℝ) : EReal) := by
  rw [val_main_v66_apply, val_main_v65_apply, ← coe_sum]
  refine Finset.sum_congr rfl fun q _ => ?_
  rw [EReal.coe_mul, ← ds_at A w hw M hM h q k]
  exact congrArg₂ (· * ·) (congrArg _ (funext fun a => by match a with | ⟨0, _⟩ => rfl | ⟨1, _⟩ => rfl | ⟨2, _⟩ => rfl)) rfl

include hw hM in
theorem ref_dq (q : Fin 8448) (h : Fin 8) (e : Fin 64) :
    val_main_v68 (F := Ideal) (up3 A.q) (up3 A.qr) (up3 A.k) (up2 A.kr) (up3 A.v) (up3 A.d) (ix3 q h e)
      = ((∑ k : Fin 8448, DS A w M h q k * w * A.k k h e : ℝ) : EReal) := by
  rw [val_main_v68_apply, val_main_v67_apply, ← coe_sum]
  refine Finset.sum_congr rfl fun k _ => ?_
  rw [EReal.coe_mul, ← ds_at A w hw M hM h q k]
  exact congrArg₂ (· * ·) (congrArg _ (funext fun a => by match a with | ⟨0, _⟩ => rfl | ⟨1, _⟩ => rfl | ⟨2, _⟩ => rfl)) rfl

include hw hM in
theorem ref_dkr (k : Fin 8448) (e : Fin 32) :
    val_main_v64 (F := Ideal) (up3 A.q) (up3 A.qr) (up3 A.k) (up2 A.kr) (up3 A.v) (up3 A.d) (ix2 k e)
      = ((∑ q : Fin 8448, ∑ h : Fin 8, DS A w M h q k * w * A.qr q h e : ℝ) : EReal) := by
  have hd : ∀ q h, val_main_v62 (F := Ideal) (up3 A.q) (up3 A.qr) (up3 A.k) (up2 A.kr) (up3 A.v) (up3 A.d) (ix3 k q h) = ((DS A w M h q k * w : ℝ) : EReal) := fun q h => by
    rw [val_main_v62_apply, ← ds_at A w hw M hM h q k]
    exact congrArg _ (funext fun a => by match a with | ⟨0, _⟩ => rfl | ⟨1, _⟩ => rfl | ⟨2, _⟩ => rfl)
  unfold val_main_v64
  generalize val_main_v62 (F := Ideal) (up3 A.q) (up3 A.qr) (up3 A.k) (up2 A.kr) (up3 A.v) (up3 A.d) = y at hd ⊢
  simp only [Host.dotGeneral]
  rw [Ideal.dotGeneral_apply]
  rw [ValueIdx.sum_contr2 dot_S8448x8448x8_S8448x8x32_S8448x32_12_01_0_2_n_n 8448 8 rfl rfl rfl, ← coe_sum]
  refine Finset.sum_congr rfl fun q _ => ?_
  rw [← coe_sum]
  refine Finset.sum_congr rfl fun h _ => ?_
  rw [EReal.coe_mul, ← hd q h]
  refine congrArg₂ (fun a b : EReal => a * b) (congrArg y (funext fun a => Fin.ext ?_)) ((congrArg (up3 A.qr) (funext fun a => Fin.ext ?_) : _ = up3 A.qr (ix3 q h e)))
  · match a with
    | ⟨0, _⟩ => rfl
    | ⟨1, _⟩ => rfl
    | ⟨2, _⟩ => rfl
  · match a with
    | ⟨0, _⟩ => rfl
    | ⟨1, _⟩ => rfl
    | ⟨2, _⟩ => rfl

end Cert.AttnAlg
-- ==== Proof.AttnOff.lean ====
module

public import proofs.«01_k».proof.Proof.Gen.AttnKernelIdeal.Frame
public import proofs.«01_k».proof.Proof.Gen.AttnKernelIdeal.Loops

@[expose] public section

set_option warn.classDefReducibility false

noncomputable section

/-! Where the attention's body reads and writes its key rows: closed forms of the offsets and of the loop counts. -/

namespace Cert.AttnKernelIdeal.Hand

open Idealize.ShloMosaic Idealize.SL.Sem

/-- The loop takes one trip per pair of key blocks before the diagonal block. -/
theorem trips1 : ∀ i : grid0.Coords, (k0_t1_loop i).trips = (i 1).val / 2 := by decide +kernel

/-- The remainder loop takes no trip. -/
theorem trips2 : ∀ i : grid0.Coords, (k0_t2_loop i).trips = 0 := by decide +kernel

/-- A trip's second key block, and the next trip's first. -/
theorem off1_eq : ∀ (i : grid0.Coords) (k : Fin (k0_t1_loop i).trips),
    k0_off1 i k 1#32 = ![768 * (2 * k.val + 1), 0] ∧ k0_off1 i k 2#32 = ![768 * (2 * k.val + 2), 0] := by decide +kernel

/-- A trip's first key block. -/
theorem off2_eq : ∀ (i : grid0.Coords) (k : Fin (k0_t1_loop i).trips), k0_off2 i k = ![768 * (2 * k.val), 0] := by decide +kernel

/-- The diagonal block of an odd point. -/
theorem off5_eq : ∀ i : grid0.Coords, k0_off5 i = ![768 * (i 1).val, 0] := by decide +kernel

/-- The block before the diagonal. -/
theorem off6_eq : ∀ i : grid0.Coords, k0_cond3 i = 1#1 → k0_off6 i = ![768 * ((i 1).val - 1), 0] := by decide +kernel

/-- The diagonal block of an even point. -/
theorem off7_eq : ∀ i : grid0.Coords, k0_off7 i = ![768 * (i 1).val, 0] := by decide +kernel

end Cert.AttnKernelIdeal.Hand

end
-- ==== Proof.AttnStep.lean ====
module

public import Idealize.ShloMosaic.Lib.Exec
public import Idealize.ShloMosaic.Lib.Tactic
public import Idealize.ShloMosaic.Lib.Memref
public import Idealize.ShloMosaic.Lib.Pipeline.Kit
public import Idealize.ShloMosaic.Lib.Pipeline.ValueKit.Geometry
public import Idealize.ShloMosaic.Lib.Pipeline.Value

@[expose] public section

noncomputable section

/-! Loads and stores of a memref owned at known contents, as steps from contents to contents. -/

namespace Cert.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U] {Lvl : Type} {Λ : Labels}
local notation "𝕄" => MT nD τ sig Ix Val Name U Lvl

variable [Preorder Lvl] {defs : Defs nD τ sig Val Λ} (𝒱 : Variants) (c : Thread nD τ)
  (bd : Option 𝒱.V) {Γ : PendingWaitsCtx sig Ix} (E : Set Name)
variable {s : Shape} {e : EltTy} {α : Type} {Q : α → sProp (MT nD τ sig Ix Val Name U Lvl)}

/-- A load through a rectangle of a memref owned at `X` continues at `X`'s part there. -/
theorem own_load {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k (fun x => X (r.emb x))) Q)
        -∗ wp frame (wpE' defs 𝒱 c bd Γ) E (.op (.load m r.toLoadRect hl) k) Q) := by
  have hS : m.view.setOn r.toLoadRect.set ⊆ m.view.set := View.setOn_subset_set _ _
  unfold owns
  iintro ⟨%f, %hf, H⟩ Hk
  iapply (wp_load 𝒱 c bd E (m := m) (r := r.toLoadRect) (f := f) (q := q) hS) $$ H
  iintro H
  subst hf
  iapply Hk
  iexists f
  isplitr
  · ipureintro; rfl
  iexact H

/-- A load of the whole memref. -/
theorem own_load_all {cs : CoreSpace} {m : Memref sig c.2.kind cs s e} {off : Fin s.rank → ℕ} (hz : off = fun _ => 0)
    {inb : ∀ a, off a + s.size a ≤ s.size a} {hl : m.view.LoadsAt (Rect.unit off s.size inb).toLoadRect}
    {k : (s.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k X) Q)
        -∗ wp frame (wpE' defs 𝒱 c bd Γ) E (.op (.load m (Rect.unit off s.size inb).toLoadRect hl) k) Q) := by
  have h : (fun x : (Rect.unit off s.size inb).shape.Idx => X ((Rect.unit off s.size inb).emb x)) = X := by
    subst hz; exact View.ld_unit_zero (S := s) rfl inb X
  exact (own_load 𝒱 c bd E (r := Rect.unit off s.size inb)).trans (by rw [h])

/-- A store through a rectangle of a memref owned at `X` leaves `X` with the payload laid over it. -/
theorem own_store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE' defs 𝒱 c bd Γ) E (k ⟨⟩) Q)
        -∗ wp frame (wpE' defs 𝒱 c bd Γ) E (.op (.store m r w Finset.univ hx hm) k) Q) := by
  have hS : (m.access r).setOn Finset.univ ⊆ m.view.set := by
    rw [View.setOn_univ]; exact View.set_slice_subset _ _
  unfold owns
  iintro ⟨%f, %hf, H⟩ Hk
  iapply (wp_store 𝒱 c bd E (m := m) (r := r) (f := f) (w := w) (S := m.view.set) hS) $$ H
  iintro H
  subst hf
  iapply Hk
  iexists _
  isplitr
  rotate_left
  · iexact H
  · ipureintro
    funext y
    by_cases hy : y ∈ r.set
    · rw [← Rect.map_emb_univ] at hy
      obtain ⟨x, -, rfl⟩ := Finset.mem_map.mp hy
      rw [Rect.overlay_emb]
      exact View.read_slice_write_emb r f w (Finset.mem_univ x)
    · rw [Rect.overlay_of_not_mem r _ _ hy]
      exact View.read_slice_write_of_not_mem r f w _ (by rw [Rect.map_emb_univ]; exact hy)

/-- A store of the whole memref. -/
theorem own_store_all {cs : CoreSpace} {m : Memref sig c.2.kind cs s e} {off : Fin s.rank → ℕ} (hz : off = fun _ => 0)
    {inb : ∀ a, off a + s.size a ≤ s.size a} {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare w -∗ wp frame (wpE' defs 𝒱 c bd Γ) E (k ⟨⟩) Q)
        -∗ wp frame (wpE' defs 𝒱 c bd Γ) E (.op (.store m (Rect.unit off s.size inb) w Finset.univ hx hm) k) Q) := by
  have h : (Rect.unit off s.size inb).overlay X w = w := by
    funext y
    have hy : (Rect.unit off s.size inb).emb y = y := by
      subst hz
      exact funext fun a => Fin.ext ((ValueKit.rect_emb_unit_val _ _ _ _ _).trans (Nat.zero_add _))
    conv_lhs => rw [← hy]
    exact Rect.overlay_emb _ _ _ _
  exact (own_store 𝒱 c bd E (r := Rect.unit off s.size inb)).trans (by rw [h])

end Cert.Steps

end
-- ==== Proof.AttnTrip.lean ====
module

public import proofs.«01_k».proof.Proof.AttnOff
public import proofs.«01_k».proof.Proof.AttnStep

@[expose] public section

set_option maxRecDepth 16384
set_option maxHeartbeats 4000000

noncomputable section

/-! One trip of the attention gradient's loop over key blocks. -/

namespace Cert.AttnKernelIdeal.Hand

open Cert.AttnKernelIdeal Cert.AttnKernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The literal zero offsets. -/
theorem zero2 : (![0, 0] : Fin 2 → ℕ) = fun _ => 0 := by decide

section Rows

variable {α : Type}

/-- The rectangle of key block `n`. -/
abbrev rowsR (n : ℕ) : Rect S8448x128 :=
  Rect.unit (s := S8448x128) ![768 * (n % 11), 0] S768x128.size (Fin.forall_fin_two.mpr ⟨by
    show 768 * (n % 11) + 768 ≤ 8448; omega, by show 0 + 128 ≤ 128; omega⟩)

/-- The rows of key block `n`. -/
def rowsOf (X : S8448x128.Idx → α) (n : ℕ) : S768x128.Idx → α := fun x => X ((rowsR n).emb x)

/-- The array with the rows of key block `n` replaced. -/
def layRows (X : S8448x128.Idx → α) (n : ℕ) (w : S768x128.Idx → α) : S8448x128.Idx → α := (rowsR n).overlay X w

end Rows

section Rules

variable (𝒱 : Variants) (c : Thread nD τ) (bd : Option 𝒱.V) (E : Set ℕ) {β : Type} {Q : β → sProp (MT nD τ sig Unit (Elt F) ℕ (UR sig nD τ) ℕ)}
  {e : EltTy} {cs : CoreSpace} {m : Memref sig c.2.kind cs S8448x128 e} {off : Fin 2 → ℕ} {n : ℕ}
  {inb : ∀ a, off a + S768x128.size a ≤ S8448x128.size a} {X : S8448x128.Idx → Elt F e}

/-- A load of key block `n`. -/
theorem own_load_rows (hoff : off = ![768 * (n % 11), 0])
    {hl : m.view.LoadsAt (Rect.unit (s := S8448x128) off S768x128.size inb).toLoadRect}
    {k : (S768x128.Idx → Elt F e) → Prog (TpuEff nD τ sig (Elt F) Λ₀ c.2) β} {q : PosShare TreeShare} :
    (owns c m q X : sProp 𝕄)
      ⊢ iprop((owns c m q X -∗ wp frame (wpE (defs₀ (F := F)) 𝒱 c bd) E (k (rowsOf X n)) Q)
        -∗ wp frame (wpE (defs₀ (F := F)) 𝒱 c bd) E (.op (.load m (Rect.unit (s := S8448x128) off S768x128.size inb).toLoadRect hl) k) Q) := by
  subst hoff
  exact own_load 𝒱 c bd E (r := rowsR n)

/-- A store of key block `n`. -/
theorem own_store_rows (hoff : off = ![768 * (n % 11), 0]) {w : S768x128.Idx → Elt F e}
    {hx : (m.access (Rect.unit (s := S8448x128) off S768x128.size inb)).Stores Finset.univ}
    {hm : (Finset.univ : Finset (Rect.unit (s := S8448x128) off S768x128.size inb).shape.Idx) = Finset.univ
      ∨ ∀ a, (Rect.unit (s := S8448x128) off S768x128.size inb).stride a = 1}
    {k : PUnit → Prog (TpuEff nD τ sig (Elt F) Λ₀ c.2) β} :
    (owns c m fullShare X : sProp 𝕄)
      ⊢ iprop((owns c m fullShare (layRows X n w) -∗ wp frame (wpE (defs₀ (F := F)) 𝒱 c bd) E (k ⟨⟩) Q)
        -∗ wp frame (wpE (defs₀ (F := F)) 𝒱 c bd) E (.op (.store m (Rect.unit (s := S8448x128) off S768x128.size inb) w Finset.univ hx hm) k) Q) := by
  subst hoff
  exact own_store 𝒱 c bd E (r := rowsR n)

end Rules

section Offsets

variable (i : grid0.Coords)

theorem trip_lt (k : Fin (k0_t1_loop i).trips) : 2 * k.val + 1 < 10 := by
  have h : k.val < (i 1).val / 2 := (trips1 i) ▸ k.isLt; have : (i 1).val < 11 := (i 1).isLt; omega

theorem off1a (k : Fin (k0_t1_loop i).trips) : k0_off1 i k 1#32 = ![768 * ((2 * k.val + 1) % 11), 0] := by
  rw [(off1_eq i k).1, Nat.mod_eq_of_lt (by have := trip_lt i k; omega)]

theorem off1b (k : Fin (k0_t1_loop i).trips) : k0_off1 i k 2#32 = ![768 * ((2 * k.val + 2) % 11), 0] := by
  rw [(off1_eq i k).2, Nat.mod_eq_of_lt (by have := trip_lt i k; omega)]

theorem off2a (k : Fin (k0_t1_loop i).trips) : k0_off2 i k = ![768 * ((2 * k.val) % 11), 0] := by
  rw [off2_eq i k, Nat.mod_eq_of_lt (by have := trip_lt i k; omega)]

theorem off5a : k0_off5 i = ![768 * ((i 1).val % 11), 0] := by
  rw [off5_eq i, Nat.mod_eq_of_lt (show (i 1).val < 11 from (i 1).isLt)]

theorem off6a (h : k0_cond3 i = 1#1) : k0_off6 i = ![768 * (((i 1).val - 1) % 11), 0] := by
  rw [off6_eq i h, Nat.mod_eq_of_lt (by have : (i 1).val < 11 := (i 1).isLt; omega)]

theorem off7a : k0_off7 i = ![768 * ((i 1).val % 11), 0] := by
  rw [off7_eq i, Nat.mod_eq_of_lt (show (i 1).val < 11 from (i 1).isLt)]

end Offsets

/-- The six blocks a point of the grid reads. -/
structure Inp (F : FTy → Type) where
  q : Vec F S768x256 .bf16
  kv : Vec F S8448x128 .bf16
  kr : Vec F S8448x128 .bf16
  cot : Vec F S768x128 .bf16
  lse : Vec F S768x128 .f32
  dl : Vec F S768x128 .f32

/-- What a point accumulates, and the scores and products fetched ahead. -/
structure Acc (F : FTy → Type) where
  dkv : Vec F S8448x128 .f32
  dkr : Vec F S8448x128 .f32
  dq : Vec F S768x256 .f32
  s : Vec F S768x768 .f32
  p : Vec F S768x768 .f32

/-- The scores of the query block against key block `n`. -/
def scores (x : Inp F) (n : ℕ) : Vec F S768x768 .f32 := k0_pay5 (rowsOf x.kv n) (rowsOf x.kr n) x.q

/-- The cotangent's products with the values of key block `n`. -/
def prods (x : Inp F) (n : ℕ) : Vec F S768x768 .f32 := k0_pay6 (rowsOf x.kv n) x.cot

/-- The gradient of the scores. -/
def dscore (x : Inp F) (s p : Vec F S768x768 .f32) : FVec F S768x768 .bf16 := k0_pay18 s x.lse p x.dl

/-- One key block's share of the three gradients, from its scores and products. -/
def block (x : Inp F) (n : ℕ) (s p : Vec F S768x768 .f32) (a : Acc F) : Acc F :=
  { a with
    dkv := layRows a.dkv n (k0_pay20 s x.lse p x.dl x.q (rowsOf a.dkv n) x.cot)
    dkr := layRows a.dkr n (k0_pay21 s x.lse p x.dl x.q (rowsOf a.dkr n))
    dq := k0_pay67 (dscore x s p) (k0_pay22 (rowsOf x.kv n)) (rowsOf x.kr n) a.dq }

/-- The scores and products of key block `n`, fetched. -/
def fetch (x : Inp F) (n : ℕ) (a : Acc F) : Acc F := { a with s := scores x n, p := prods x n }

/-- A trip of the loop: two key blocks, the next one's scores fetched in between. -/
def pair (x : Inp F) (j : ℕ) (a : Acc F) : Acc F :=
  block x (2 * j + 1) (scores x (2 * j + 1)) (prods x (2 * j + 1)) (fetch x (2 * j + 2) (block x (2 * j) a.s a.p a))

/-- The trips before trip `j`. -/
def pairs (x : Inp F) (a : Acc F) : ℕ → Acc F
  | 0 => a
  | j + 1 => pair x j (pairs x a j)

/-- The scores of the diagonal block, those of later keys masked. -/
def masked (s : Vec F S768x768 .f32) : Vec F S768x768 .f32 :=
  select (cmpi .sle (iota .tc S768x768 32 [1] iota_S768x768_d1_w32) (iota .tc S768x768 32 [0] iota_S768x768_d0_w32)) s
    (broadcast S768x768 (Named.named κ "mask" 0xF149F2CA#32 : F .f32))

section Pays

variable (s p : Vec F S768x768 .f32) (l d : Vec F S768x128 .f32) (q : Vec F S768x256 .bf16) (o : Vec F S768x128 .f32) (t b r : Vec F S768x128 .bf16)
  (A : Vec F S768x256 .f32)

theorem pay15_eq : k0_pay15 b r q = k0_pay5 b r q := rfl
theorem pay16_eq : k0_pay16 b t = k0_pay6 b t := rfl
theorem pay43_eq : k0_pay43 b r q = k0_pay5 b r q := rfl
theorem pay44_eq : k0_pay44 b t = k0_pay6 b t := rfl
theorem pay64_eq : k0_pay64 b r q = k0_pay5 b r q := rfl
theorem pay66_eq : k0_pay66 (k0_pay65 b t) = k0_pay6 b t := rfl
theorem pay8_eq : k0_pay8 (k0_pay7 s l) p d = k0_pay18 s l p d := rfl
theorem pay10_eq : k0_pay10 (k0_pay7 s l) p d q o t = k0_pay20 s l p d q o t := rfl
theorem pay11_eq : k0_pay11 (k0_pay7 s l) p d q o = k0_pay21 s l p d q o := rfl
theorem pay13_eq : k0_pay13 (k0_pay18 s l p d) (k0_pay12 b r) A (constant S768x256 .f32 0x00000000#32) = k0_pay67 (k0_pay18 s l p d) (k0_pay22 b) r A := rfl
theorem pay48_eq : k0_pay48 (k0_pay45 s l) p d q o t = k0_pay20 s l p d q o t := rfl
theorem pay49_eq : k0_pay49 (k0_pay45 s l) p d q o = k0_pay21 s l p d q o := rfl
theorem pay51_eq : k0_pay51 (k0_pay50 (k0_pay45 s l) p d b r A) = k0_pay67 (k0_pay18 s l p d) (k0_pay22 b) r A := rfl
theorem pay52_eq : k0_pay52 s l = k0_pay17 (masked s) l := rfl
theorem pay53_eq : k0_pay53 s l p d = k0_pay18 (masked s) l p d := rfl
theorem pay55_eq : k0_pay55 s l p d q o t = k0_pay20 (masked s) l p d q o t := rfl
theorem pay69_eq : k0_pay69 (k0_pay54 s l p d q) o = k0_pay21 (masked s) l p d q o := rfl
theorem pay70_eq (e : FVec F S768x768 .bf16) : k0_pay70 e b r A = k0_pay67 e (k0_pay22 b) r A := rfl
theorem pay57_eq : k0_pay57 s l p d = k0_pay18 (masked s) l p d := rfl
theorem pay59_eq : k0_pay59 s l p d q o t = k0_pay20 (masked s) l p d q o t := rfl
theorem pay1_eq : k0_pay1 (k0_pay58 s l p d q) o = k0_pay21 (masked s) l p d q o := rfl
theorem pay2_eq (e : FVec F S768x768 .bf16) : k0_pay2 e b r A = k0_pay67 e (k0_pay22 b) r A := rfl

end Pays

section Body

variable
  (arg2 : Memref sig .tc .vmem S768x256 .bf16) (harg2 : arg2.IsWhole)
  (arg3 : Memref sig .tc .vmem S8448x128 .bf16) (harg3 : arg3.IsWhole)
  (arg4 : Memref sig .tc .vmem S8448x128 .bf16) (harg4 : arg4.IsWhole)
  (arg5 : Memref sig .tc .vmem S768x128 .bf16) (harg5 : arg5.IsWhole)
  (arg6 : Memref sig .tc .vmem S768x128 .f32) (harg6 : arg6.IsWhole)
  (arg7 : Memref sig .tc .vmem S768x128 .f32) (harg7 : arg7.IsWhole)
  (arg8 : Memref sig .tc .vmem S768x256 .bf16) (harg8 : arg8.IsWhole)
  (arg9 : Memref sig .tc .vmem S8448x128 .f32) (harg9 : arg9.IsWhole)
  (arg10 : Memref sig .tc .vmem S8448x128 .f32) (harg10 : arg10.IsWhole)
  (arg11 : Memref sig .tc .vmem S768x256 .f32) (harg11 : arg11.IsWhole)
  (arg12 : Memref sig .tc .vmem S768x768 .f32) (harg12 : arg12.IsWhole)
  (arg13 : Memref sig .tc .vmem S768x768 .f32) (harg13 : arg13.IsWhole)
  (arg14 : Memref sig .tc .vmem S768x768 .f32) (harg14 : arg14.IsWhole)
  (arg15 : Memref sig .tc .vmem S768x768 .f32) (harg15 : arg15.IsWhole)

/-- The body's buffers, owned at their contents. -/
def Res (c : Dev nD) (x : Inp F) (o : Vec F S768x256 .bf16) (a : Acc F) (s1 p1 : Vec F S768x768 .f32) : sProp 𝕄 :=
  iprop(owns (c : Thread nD τ) arg2 fullShare x.q ∗ owns (c : Thread nD τ) arg3 fullShare x.kv ∗ owns (c : Thread nD τ) arg4 fullShare x.kr ∗ owns (c : Thread nD τ) arg5 fullShare x.cot ∗ owns (c : Thread nD τ) arg6 fullShare x.lse ∗ owns (c : Thread nD τ) arg7 fullShare x.dl ∗ owns (c : Thread nD τ) arg8 fullShare o ∗ owns (c : Thread nD τ) arg9 fullShare a.dkv ∗ owns (c : Thread nD τ) arg10 fullShare a.dkr ∗ owns (c : Thread nD τ) arg11 fullShare a.dq ∗ owns (c : Thread nD τ) arg12 fullShare a.s ∗ owns (c : Thread nD τ) arg13 fullShare s1 ∗ owns (c : Thread nD τ) arg14 fullShare a.p ∗ owns (c : Thread nD τ) arg15 fullShare p1)

/-- One trip of the loop takes the contents by `pair`. -/
theorem trip_sound (c : Dev nD) (i : grid0.Coords) (arg1 : BitVec 32) (v29 : FVec F S768x768 .f32) (x : Inp F) (o : Vec F S768x256 .bf16)
    (a : Acc F) (s1 p1 : Vec F S768x768 .f32) (k0_t1 : Fin (k0_t1_loop i).trips) :
    Res (F := F) arg2 arg3 arg4 arg5 arg6 arg7 arg8 arg9 arg10 arg11 arg12 arg13 arg14 arg15 c x o a s1 p1
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v29 k0_t1 ())
          (fun _ => Res (F := F) arg2 arg3 arg4 arg5 arg6 arg7 arg8 arg9 arg10 arg11 arg12 arg13 arg14 arg15 c x o (pair x k0_t1.val a) (scores x (2 * k0_t1.val + 1)) (prods x (2 * k0_t1.val + 1))) := by
  unfold Res
  iintro ⟨H2, H3, H4, H5, H6, H7, H8, H9, H10, H11, H12, H13, H14, H15⟩
  simp only [k0_t1_body, k0_part1_eq_skeleton, k0_part1_skel, k0_part2_eq_skeleton, k0_part2_skel, k0_part3_eq_skeleton, k0_part3_skel, k0_part4_eq_skeleton, k0_part4_skel, pay15_eq, pay16_eq, pay8_eq, pay10_eq, pay11_eq, pay13_eq, Prog.bind_lift, Prog.bind_op, Prog.bind_ret, Prog.pure_eq_ret]
  iapply (own_load_rows Variants.none (c : Thread nD τ) none Set.univ (off1a i k0_t1)) $$ H3; iintro H3
  iapply (own_load_rows Variants.none (c : Thread nD τ) none Set.univ (off1a i k0_t1)) $$ H4; iintro H4
  iapply (own_load_all Variants.none (c : Thread nD τ) none Set.univ zero2) $$ H2; iintro H2
  iapply (own_load_all Variants.none (c : Thread nD τ) none Set.univ zero2) $$ H13; iintro H13
  iapply (own_store_all Variants.none (c : Thread nD τ) none Set.univ zero2) $$ H13; iintro H13
  iapply (own_load_all Variants.none (c : Thread nD τ) none Set.univ zero2) $$ H5; iintro H5
  iapply (own_load_all Variants.none (c : Thread nD τ) none Set.univ zero2) $$ H15; iintro H15
  iapply (own_store_all Variants.none (c : Thread nD τ) none Set.univ zero2) $$ H15; iintro H15
  iapply (own_load_all Variants.none (c : Thread nD τ) none Set.univ zero2) $$ H12; iintro H12
  iapply (own_load_all Variants.none (c : Thread nD τ) none Set.univ zero2) $$ H6; iintro H6
  iapply (own_load_all Variants.none (c : Thread nD τ) none Set.univ zero2) $$ H14; iintro H14
  iapply (own_load_all Variants.none (c : Thread nD τ) none Set.univ zero2) $$ H7; iintro H7
  iapply (own_load_all Variants.none (c : Thread nD τ) none Set.univ zero2) $$ H2; iintro H2
  iapply (own_load_rows Variants.none (c : Thread nD τ) none Set.univ (off2a i k0_t1)) $$ H9; iintro H9
  iapply (own_load_all Variants.none (c : Thread nD τ) none Set.univ zero2) $$ H5; iintro H5
  iapply (own_load_rows Variants.none (c : Thread nD τ) none Set.univ (off2a i k0_t1)) $$ H9; iintro H9
  iapply (own_store_rows Variants.none (c : Thread nD τ) none Set.univ (off2a i k0_t1)) $$ H9; iintro H9
  iapply (own_load_rows Variants.none (c : Thread nD τ) none Set.univ (off2a i k0_t1)) $$ H10; iintro H10
  iapply (own_load_rows Variants.none (c : Thread nD τ) none Set.univ (off2a i k0_t1)) $$ H10; iintro H10
  iapply (own_store_rows Variants.none (c : Thread nD τ) none Set.univ (off2a i k0_t1)) $$ H10; iintro H10
  iapply (own_load_rows Variants.none (c : Thread nD τ) none Set.univ (off2a i k0_t1)) $$ H3; iintro H3
  iapply (own_load_rows Variants.none (c : Thread nD τ) none Set.univ (off2a i k0_t1)) $$ H4; iintro H4
  iapply (own_load_all Variants.none (c : Thread nD τ) none Set.univ zero2) $$ H11; iintro H11
  iapply (own_load_all Variants.none (c : Thread nD τ) none Set.univ zero2) $$ H11; iintro H11
  iapply (own_store_all Variants.none (c : Thread nD τ) none Set.univ zero2) $$ H11; iintro H11
  iapply (own_load_rows Variants.none (c : Thread nD τ) none Set.univ (off1b i k0_t1)) $$ H3; iintro H3
  iapply (own_load_rows Variants.none (c : Thread nD τ) none Set.univ (off1b i k0_t1)) $$ H4; iintro H4
  iapply (own_load_all Variants.none (c : Thread nD τ) none Set.univ zero2) $$ H2; iintro H2
  iapply (own_load_all Variants.none (c : Thread nD τ) none Set.univ zero2) $$ H12; iintro H12
  iapply (own_store_all Variants.none (c : Thread nD τ) none Set.univ zero2) $$ H12; iintro H12
  iapply (own_load_all Variants.none (c : Thread nD τ) none Set.univ zero2) $$ H5; iintro H5
  iapply (own_load_all Variants.none (c : Thread nD τ) none Set.univ zero2) $$ H14; iintro H14
  iapply (own_store_all Variants.none (c : Thread nD τ) none Set.univ zero2) $$ H14; iintro H14
  iapply (own_load_all Variants.none (c : Thread nD τ) none Set.univ zero2) $$ H13; iintro H13
  iapply (own_load_all Variants.none (c : Thread nD τ) none Set.univ zero2) $$ H6; iintro H6
  iapply (own_load_all Variants.none (c : Thread nD τ) none Set.univ zero2) $$ H15; iintro H15
  iapply (own_load_all Variants.none (c : Thread nD τ) none Set.univ zero2) $$ H7; iintro H7
  iapply (own_load_all Variants.none (c : Thread nD τ) none Set.univ zero2) $$ H2; iintro H2
  iapply (own_load_rows Variants.none (c : Thread nD τ) none Set.univ (off1a i k0_t1)) $$ H9; iintro H9
  iapply (own_load_all Variants.none (c : Thread nD τ) none Set.univ zero2) $$ H5; iintro H5
  iapply (own_load_rows Variants.none (c : Thread nD τ) none Set.univ (off1a i k0_t1)) $$ H9; iintro H9
  iapply (own_store_rows Variants.none (c : Thread nD τ) none Set.univ (off1a i k0_t1)) $$ H9; iintro H9
  iapply (own_load_rows Variants.none (c : Thread nD τ) none Set.univ (off1a i k0_t1)) $$ H10; iintro H10
  iapply (own_load_rows Variants.none (c : Thread nD τ) none Set.univ (off1a i k0_t1)) $$ H10; iintro H10
  iapply (own_store_rows Variants.none (c : Thread nD τ) none Set.univ (off1a i k0_t1)) $$ H10; iintro H10
  iapply (own_load_rows Variants.none (c : Thread nD τ) none Set.univ (off1a i k0_t1)) $$ H3; iintro H3
  iapply (own_load_rows Variants.none (c : Thread nD τ) none Set.univ (off1a i k0_t1)) $$ H4; iintro H4
  iapply (own_load_all Variants.none (c : Thread nD τ) none Set.univ zero2) $$ H11; iintro H11
  iapply (own_load_all Variants.none (c : Thread nD τ) none Set.univ zero2) $$ H11; iintro H11
  iapply (own_store_all Variants.none (c : Thread nD τ) none Set.univ zero2) $$ H11; iintro H11
  rw [wp_ret]; imodintro
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Body

end Cert.AttnKernelIdeal.Hand

end
-- ==== Proof.AttnPays.lean ====
module
public import proofs.«01_k».proof.Proof.AttnTrip
public import proofs.«01_k».proof.Proof.Rows
@[expose] public section
set_option maxRecDepth 16384
noncomputable section
open Idealize.ShloMosaic Idealize.ShloMosaic.TcCoe Idealize.SL.Sem
namespace Cert.AttnKernelIdeal.Hand
open Cert.AttnKernelIdeal Cert.AttnKernelIdeal.Gen

/-! What the body's pure lines compute, index by index, over the extended reals. -/

/-- Two tiles side by side. -/
def beside (b r : Vec Ideal S768x128 .bf16) (c : Fin 768) (e : Fin 256) : EReal :=
  if h : e.val < 128 then b (ix2 c ⟨e.val, h⟩) else r (ix2 c ⟨e.val - 128, by omega⟩)

/-- Six copies of a tile side by side repeat its lanes. -/
theorem tiles_apply (l : Vec Ideal S768x128 .f32) (i c : Fin 768) :
    (if h : c.val < 128 then l (ix2 i ⟨c.val, h⟩)
      else if h : c.val - 128 < 128 then l (ix2 i ⟨c.val - 128, h⟩)
      else if h : c.val - 128 - 128 < 128 then l (ix2 i ⟨c.val - 128 - 128, h⟩)
      else if h : c.val - 128 - 128 - 128 < 128 then l (ix2 i ⟨c.val - 128 - 128 - 128, h⟩)
      else if h : c.val - 128 - 128 - 128 - 128 < 128 then l (ix2 i ⟨c.val - 128 - 128 - 128 - 128, h⟩)
      else l (ix2 i ⟨c.val - 128 - 128 - 128 - 128 - 128, by omega⟩))
    = l (ix2 i ⟨c.val % 128, Nat.mod_lt _ (by omega)⟩) := by
  split_ifs <;> exact congrArg (fun k => l (ix2 i k)) (Fin.ext (by dsimp only; omega))

/-- The named constants' values. -/
theorem ln2_eq : (Named.named (F := Ideal) κ "ln2" (φ := .f32) 0x3F317218#32 : EReal) = ((Real.log 2 : ℝ) : EReal) := rfl
theorem mask_eq : (Named.named (F := Ideal) κ "mask" (φ := .f32) 0xF149F2CA#32 : EReal) = ⊥ := rfl

theorem pay3_apply (A : Vec Ideal S768x256 .f32) (i : S768x256.Idx) : k0_pay3 A i = A i := by
  unfold k0_pay3
  pointwise

theorem pay5_apply (b r : Vec Ideal S768x128 .bf16) (q : Vec Ideal S768x256 .bf16) (i c : Fin 768) :
    k0_pay5 b r q (ix2 i c) = ∑ e : Fin 256, q (ix2 i e) * beside b r c e := by
  unfold k0_pay5 k0_pay4 beside
  pointwise

theorem pay6_apply (b t : Vec Ideal S768x128 .bf16) (i c : Fin 768) :
    k0_pay6 b t (ix2 i c) = ∑ e : Fin 128, t (ix2 i e) * b (ix2 c e) := by
  unfold k0_pay6 k0_pay4
  pointwise

theorem pay60_apply (i : S8448x128.Idx) : k0_pay60 (F := Ideal) i = 0 := by
  unfold k0_pay60
  pointwise
theorem pay61_apply (i : S8448x128.Idx) : k0_pay61 (F := Ideal) i = 0 := by
  unfold k0_pay61
  pointwise
theorem pay62_apply (i : S768x256.Idx) : k0_pay62 (F := Ideal) i = 0 := by
  unfold k0_pay62
  pointwise

theorem pay17_apply (s : Vec Ideal S768x768 .f32) (l : Vec Ideal S768x128 .f32) (i c : Fin 768) :
    k0_pay17 s l (ix2 i c) = Ideal.exp2 (s (ix2 i c) - l (ix2 i ⟨c.val % 128, Nat.mod_lt _ (by omega)⟩)) := by
  unfold k0_pay17
  pointwise
  exact congrArg (fun k => Ideal.exp2 (s (ix2 i c) - k)) (tiles_apply l i c)

theorem pay18_apply (s p : Vec Ideal S768x768 .f32) (l d : Vec Ideal S768x128 .f32) (i c : Fin 768) :
    k0_pay18 s l p d (ix2 i c) = k0_pay17 s l (ix2 i c) * (p (ix2 i c) - d (ix2 i ⟨c.val % 128, Nat.mod_lt _ (by omega)⟩)) := by
  unfold k0_pay18
  generalize k0_pay17 s l = w
  pointwise
  exact congrArg (fun k => w (ix2 i c) * (p (ix2 i c) - k)) (tiles_apply d i c)

theorem pay19_apply (s p : Vec Ideal S768x768 .f32) (l d : Vec Ideal S768x128 .f32) (q : Vec Ideal S768x256 .bf16) (c : Fin 768) (e : Fin 256) :
    k0_pay19 s l p d q (ix2 c e) = (∑ i : Fin 768, k0_pay18 s l p d (ix2 i c) * q (ix2 i e)) * ((Real.log 2 : ℝ) : EReal) := by
  unfold k0_pay19
  generalize k0_pay18 s l p d = w
  pointwise
  rfl

theorem pay20_apply (s p : Vec Ideal S768x768 .f32) (l d : Vec Ideal S768x128 .f32) (q : Vec Ideal S768x256 .bf16) (o : Vec Ideal S768x128 .f32)
    (t : Vec Ideal S768x128 .bf16) (c : Fin 768) (e : Fin 128) :
    k0_pay20 s l p d q o t (ix2 c e) = o (ix2 c e) + ((∑ i : Fin 768, k0_pay17 s l (ix2 i c) * t (ix2 i e))
      + k0_pay19 s l p d q (ix2 c ⟨e.val, by omega⟩)) := by
  unfold k0_pay20
  generalize k0_pay19 s l p d q = w
  generalize k0_pay17 s l = v
  pointwise

theorem pay21_apply (s p : Vec Ideal S768x768 .f32) (l d : Vec Ideal S768x128 .f32) (q : Vec Ideal S768x256 .bf16) (o : Vec Ideal S768x128 .f32)
    (c : Fin 768) (e : Fin 128) :
    k0_pay21 s l p d q o (ix2 c e) = o (ix2 c e) + k0_pay19 s l p d q (ix2 c ⟨128 + e.val, by omega⟩) := by
  unfold k0_pay21
  generalize k0_pay19 s l p d q = w
  pointwise

theorem pay67_apply (w : FVec Ideal S768x768 .bf16) (b r : Vec Ideal S768x128 .bf16) (A : Vec Ideal S768x256 .f32) (i : Fin 768) (e : Fin 256) :
    k0_pay67 w (k0_pay22 b) r A (ix2 i e) = A (ix2 i e) + ∑ c : Fin 768, w (ix2 i c) * beside b r c e := by
  unfold k0_pay67 k0_pay22 beside
  pointwise

theorem masked_apply (s : Vec Ideal S768x768 .f32) (i c : Fin 768) :
    masked s (ix2 i c) = if c.val ≤ i.val then s (ix2 i c) else ⊥ := by
  unfold masked
  pointwise
  rw [WordCmp.cmpi_sle_ofNat (by omega) (by omega)]
  by_cases h : c.val ≤ i.val
  · rw [if_pos h, decide_eq_true h]; rfl
  · rw [if_neg h, decide_eq_false h]; rfl

end Cert.AttnKernelIdeal.Hand
end
-- ==== Proof.AttnBody.lean ====
module

public import proofs.«01_k».proof.Proof.AttnTrip

@[expose] public section

set_option maxRecDepth 16384
set_option maxHeartbeats 4000000

noncomputable section

/-! The body of the attention gradient at a point of the grid. -/

namespace Cert.AttnKernelIdeal.Hand

open Cert.AttnKernelIdeal Cert.AttnKernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The query block is the first. -/
abbrev Cnd1 (i : grid0.Coords) : Prop :=
  Scalar.cmpi .ne (Scalar.extui (Scalar.cmpi .eq (BitVec.ofNat 32 (i 1).val) 0#32) : BitVec 32) 0#32 = 1#1

/-- The query block and the head are the first. -/
abbrev Cnd2 (i : grid0.Coords) : Prop :=
  Scalar.cmpi .ne (Scalar.extui (Scalar.andi (Scalar.cmpi .eq (BitVec.ofNat 32 (i 1).val) 0#32)
    (Scalar.cmpi .eq (BitVec.ofNat 32 (i 0).val) 0#32)) : BitVec 32) 0#32 = 1#1

theorem cnd1_iff : ∀ i : grid0.Coords, Cnd1 i ↔ (i 1).val = 0 := by decide +kernel

theorem cnd2_iff : ∀ i : grid0.Coords, Cnd2 i ↔ (i 1).val = 0 ∧ (i 0).val = 0 := by decide +kernel

theorem cnd3_iff : ∀ i : grid0.Coords, k0_cond3 i = 1#1 ↔ (i 1).val % 2 = 1 := by decide +kernel

theorem cnd4_iff : ∀ i : grid0.Coords, k0_cond4 i = 1#1 ↔ ¬ (i 1).val % 2 = 1 := by decide +kernel

/-- What a point of head `h` and query block `n` starts from. -/
def start (h n : ℕ) (x : Inp F) (a : Acc F) : Acc F where
  dkv := if n = 0 then k0_pay60 else a.dkv
  dkr := if n = 0 ∧ h = 0 then k0_pay61 else a.dkr
  dq := k0_pay62
  s := scores x 0
  p := prods x 0

/-- The blocks left after the loop: the diagonal one, and the one before it where the block number is odd. -/
def finish (n : ℕ) (x : Inp F) (a : Acc F) : Acc F :=
  if n % 2 = 1 then block x n (masked (scores x n)) (prods x n) (block x (n - 1) a.s a.p a)
  else block x n (masked a.s) a.p a

/-- What a point of head `h` and query block `n` makes of what it accumulates. -/
def point (h n : ℕ) (x : Inp F) (a : Acc F) : Acc F := finish n x (pairs x (start h n x a) (n / 2))

section Body

variable
  (arg2 : Memref sig .tc .vmem S768x256 .bf16) (harg2 : arg2.IsWhole)
  (arg3 : Memref sig .tc .vmem S8448x128 .bf16) (harg3 : arg3.IsWhole)
  (arg4 : Memref sig .tc .vmem S8448x128 .bf16) (harg4 : arg4.IsWhole)
  (arg5 : Memref sig .tc .vmem S768x128 .bf16) (harg5 : arg5.IsWhole)
  (arg6 : Memref sig .tc .vmem S768x128 .f32) (harg6 : arg6.IsWhole)
  (arg7 : Memref sig .tc .vmem S768x128 .f32) (harg7 : arg7.IsWhole)
  (arg8 : Memref sig .tc .vmem S768x256 .bf16) (harg8 : arg8.IsWhole)
  (arg9 : Memref sig .tc .vmem S8448x128 .f32) (harg9 : arg9.IsWhole)
  (arg10 : Memref sig .tc .vmem S8448x128 .f32) (harg10 : arg10.IsWhole)
  (arg11 : Memref sig .tc .vmem S768x256 .f32) (harg11 : arg11.IsWhole)
  (arg12 : Memref sig .tc .vmem S768x768 .f32) (harg12 : arg12.IsWhole)
  (arg13 : Memref sig .tc .vmem S768x768 .f32) (harg13 : arg13.IsWhole)
  (arg14 : Memref sig .tc .vmem S768x768 .f32) (harg14 : arg14.IsWhole)
  (arg15 : Memref sig .tc .vmem S768x768 .f32) (harg15 : arg15.IsWhole)
/-- The head of the body: the accumulators cleared where they start, the first scores fetched. -/
theorem head_sound (c : Dev nD) (i : grid0.Coords) (x : Inp F) (o : Vec F S768x256 .bf16) (a : Acc F) (s1 p1 : Vec F S768x768 .f32) :
    Res (F := F) arg2 arg3 arg4 arg5 arg6 arg7 arg8 arg9 arg10 arg11 arg12 arg13 arg14 arg15 c x o a s1 p1
      ⊢ wp frame (wpE (defs₀ (F := F)) Variants.none (c : Thread nD τ) none) Set.univ (k0_part13 (F := F) i arg2 harg2 arg3 harg3 arg4 harg4 arg5 harg5 arg6 harg6 arg7 harg7 arg8 harg8 arg9 harg9 arg10 harg10 arg11 harg11 arg12 harg12 arg13 harg13 arg14 harg14 arg15 harg15)
          (fun r => iprop(⌜r.2 = k0_pay65 (rowsOf x.kv 0) x.cot⌝ ∗ Res (F := F) arg2 arg3 arg4 arg5 arg6 arg7 arg8 arg9 arg10 arg11 arg12 arg13 arg14 arg15 c x o { start (i 0).val (i 1).val x a with p := a.p } s1 p1)) := by
  unfold Res
  iintro ⟨H2, H3, H4, H5, H6, H7, H8, H9, H10, H11, H12, H13, H14, H15⟩
  by_cases h1 : Cnd1 i <;> by_cases h2 : Cnd2 i
  · simp only [k0_part13_eq_skeleton, k0_part13_skel, dif_pos h1, dif_pos h2, pay64_eq, Prog.bind_lift, Prog.bind_op, Prog.bind_ret, Prog.pure_eq_ret]
    iapply (own_load_all Variants.none (c : Thread nD τ) none Set.univ zero2) $$ H9; iintro H9
    iapply (own_store_all Variants.none (c : Thread nD τ) none Set.univ zero2) $$ H9; iintro H9
    iapply (own_load_all Variants.none (c : Thread nD τ) none Set.univ zero2) $$ H10; iintro H10
    iapply (own_store_all Variants.none (c : Thread nD τ) none Set.univ zero2) $$ H10; iintro H10
    iapply (own_load_all Variants.none (c : Thread nD τ) none Set.univ zero2) $$ H11; iintro H11
    iapply (own_store_all Variants.none (c : Thread nD τ) none Set.univ zero2) $$ H11; iintro H11
    iapply (own_load_rows Variants.none (c : Thread nD τ) none Set.univ (n := 0) rfl) $$ H3; iintro H3
    iapply (own_load_rows Variants.none (c : Thread nD τ) none Set.univ (n := 0) rfl) $$ H4; iintro H4
    iapply (own_load_all Variants.none (c : Thread nD τ) none Set.univ zero2) $$ H2; iintro H2
    iapply (own_load_all Variants.none (c : Thread nD τ) none Set.univ zero2) $$ H12; iintro H12
    iapply (own_store_all Variants.none (c : Thread nD τ) none Set.univ zero2) $$ H12; iintro H12
    iapply (own_load_all Variants.none (c : Thread nD τ) none Set.univ zero2) $$ H5; iintro H5
    iapply (own_load_all Variants.none (c : Thread nD τ) none Set.univ zero2) $$ H14; iintro H14
    rw [wp_ret]; imodintro
    simp only [start, if_pos ((cnd1_iff i).mp h1), if_pos ((cnd2_iff i).mp h2)]
    isplitr; · ipureintro; trivial
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · simp only [k0_part13_eq_skeleton, k0_part13_skel, dif_pos h1, dif_neg h2, pay64_eq, Prog.bind_lift, Prog.bind_op, Prog.bind_ret, Prog.pure_eq_ret]
    iapply (own_load_all Variants.none (c : Thread nD τ) none Set.univ zero2) $$ H9; iintro H9
    iapply (own_store_all Variants.none (c : Thread nD τ) none Set.univ zero2) $$ H9; iintro H9
    iapply (own_load_all Variants.none (c : Thread nD τ) none Set.univ zero2) $$ H11; iintro H11
    iapply (own_store_all Variants.none (c : Thread nD τ) none Set.univ zero2) $$ H11; iintro H11
    iapply (own_load_rows Variants.none (c : Thread nD τ) none Set.univ (n := 0) rfl) $$ H3; iintro H3
    iapply (own_load_rows Variants.none (c : Thread nD τ) none Set.univ (n := 0) rfl) $$ H4; iintro H4
    iapply (own_load_all Variants.none (c : Thread nD τ) none Set.univ zero2) $$ H2; iintro H2
    iapply (own_load_all Variants.none (c : Thread nD τ) none Set.univ zero2) $$ H12; iintro H12
    iapply (own_store_all Variants.none (c : Thread nD τ) none Set.univ zero2) $$ H12; iintro H12
    iapply (own_load_all Variants.none (c : Thread nD τ) none Set.univ zero2) $$ H5; iintro H5
    iapply (own_load_all Variants.none (c : Thread nD τ) none Set.univ zero2) $$ H14; iintro H14
    rw [wp_ret]; imodintro
    simp only [start, if_pos ((cnd1_iff i).mp h1), if_neg (fun h => h2 ((cnd2_iff i).mpr h))]
    isplitr; · ipureintro; trivial
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · simp only [k0_part13_eq_skeleton, k0_part13_skel, dif_neg h1, dif_pos h2, pay64_eq, Prog.bind_lift, Prog.bind_op, Prog.bind_ret, Prog.pure_eq_ret]
    iapply (own_load_all Variants.none (c : Thread nD τ) none Set.univ zero2) $$ H10; iintro H10
    iapply (own_store_all Variants.none (c : Thread nD τ) none Set.univ zero2) $$ H10; iintro H10
    iapply (own_load_all Variants.none (c : Thread nD τ) none Set.univ zero2) $$ H11; iintro H11
    iapply (own_store_all Variants.none (c : Thread nD τ) none Set.univ zero2) $$ H11; iintro H11
    iapply (own_load_rows Variants.none (c : Thread nD τ) none Set.univ (n := 0) rfl) $$ H3; iintro H3
    iapply (own_load_rows Variants.none (c : Thread nD τ) none Set.univ (n := 0) rfl) $$ H4; iintro H4
    iapply (own_load_all Variants.none (c : Thread nD τ) none Set.univ zero2) $$ H2; iintro H2
    iapply (own_load_all Variants.none (c : Thread nD τ) none Set.univ zero2) $$ H12; iintro H12
    iapply (own_store_all Variants.none (c : Thread nD τ) none Set.univ zero2) $$ H12; iintro H12
    iapply (own_load_all Variants.none (c : Thread nD τ) none Set.univ zero2) $$ H5; iintro H5
    iapply (own_load_all Variants.none (c : Thread nD τ) none Set.univ zero2) $$ H14; iintro H14
    rw [wp_ret]; imodintro
    simp only [start, if_neg (fun h => h1 ((cnd1_iff i).mpr h)), if_pos ((cnd2_iff i).mp h2)]
    isplitr; · ipureintro; trivial
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · simp only [k0_part13_eq_skeleton, k0_part13_skel, dif_neg h1, dif_neg h2, pay64_eq, Prog.bind_lift, Prog.bind_op, Prog.bind_ret, Prog.pure_eq_ret]
    iapply (own_load_all Variants.none (c : Thread nD τ) none Set.univ zero2) $$ H11; iintro H11
    iapply (own_store_all Variants.none (c : Thread nD τ) none Set.univ zero2) $$ H11; iintro H11
    iapply (own_load_rows Variants.none (c : Thread nD τ) none Set.univ (n := 0) rfl) $$ H3; iintro H3
    iapply (own_load_rows Variants.none (c : Thread nD τ) none Set.univ (n := 0) rfl) $$ H4; iintro H4
    iapply (own_load_all Variants.none (c : Thread nD τ) none Set.univ zero2) $$ H2; iintro H2
    iapply (own_load_all Variants.none (c : Thread nD τ) none Set.univ zero2) $$ H12; iintro H12
    iapply (own_store_all Variants.none (c : Thread nD τ) none Set.univ zero2) $$ H12; iintro H12
    iapply (own_load_all Variants.none (c : Thread nD τ) none Set.univ zero2) $$ H5; iintro H5
    iapply (own_load_all Variants.none (c : Thread nD τ) none Set.univ zero2) $$ H14; iintro H14
    rw [wp_ret]; imodintro
    simp only [start, if_neg (fun h => h1 ((cnd1_iff i).mpr h)), if_neg (fun h => h2 ((cnd2_iff i).mpr h))]
    isplitr; · ipureintro; trivial
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The loop and the blocks of an odd point. -/
theorem mid_sound (c : Dev nD) (i : grid0.Coords) (arg1 : BitVec 32) (v29 : FVec F S768x768 .f32) (x : Inp F) (o : Vec F S768x256 .bf16) (a : Acc F)
    (s1 p1 : Vec F S768x768 .f32) (hv : v29 = k0_pay65 (rowsOf x.kv 0) x.cot) :
    Res (F := F) arg2 arg3 arg4 arg5 arg6 arg7 arg8 arg9 arg10 arg11 arg12 arg13 arg14 arg15 c x o { start (i 0).val (i 1).val x a with p := a.p } s1 p1
      ⊢ wp frame (wpE (defs₀ (F := F)) Variants.none (c : Thread nD τ) none) Set.univ (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg1 v29)
          (fun _ => iprop(∃ s1 p1, Res (F := F) arg2 arg3 arg4 arg5 arg6 arg7 arg8 arg9 arg10 arg11 arg12 arg13 arg14 arg15 c x o
            (if (i 1).val % 2 = 1 then point (i 0).val (i 1).val x a else pairs x (start (i 0).val (i 1).val x a) ((i 1).val / 2)) s1 p1)) := by
  subst hv
  have hloop : ∀ (k : Fin (k0_t1_loop i).trips) (u : PUnit),
      iprop(∃ s1 p1, Res (F := F) arg2 arg3 arg4 arg5 arg6 arg7 arg8 arg9 arg10 arg11 arg12 arg13 arg14 arg15 c x o (pairs x (start (i 0).val (i 1).val x a) k.val) s1 p1)
        ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 (k0_pay65 (rowsOf x.kv 0) x.cot) k u)
          (fun _ => iprop(∃ s1 p1, Res (F := F) arg2 arg3 arg4 arg5 arg6 arg7 arg8 arg9 arg10 arg11 arg12 arg13 arg14 arg15 c x o (pairs x (start (i 0).val (i 1).val x a) (k.val + 1)) s1 p1)) := by
    intro k u
    iintro ⟨%s, %p, H⟩
    iapply wp_wand $$ [H]
    · iapply (trip_sound (F := F) arg2 harg2 arg3 harg3 arg4 harg4 arg5 harg5 arg6 harg6 arg7 harg7 arg8 harg8 arg9 harg9 arg10 harg10 arg11 harg11 arg12 harg12 arg13 harg13 arg14 harg14 arg15 harg15 c i arg1 _ x o _ s p k) $$ H
    · iintro %r H
      iexists _; iexists _; iexact H
  rw [k0_part14_eq_skeleton]; unfold k0_part14_skel
  simp only [pay66_eq, Prog.bind_lift, Prog.bind_op, Prog.bind_ret, Prog.pure_eq_ret]
  unfold Res
  iintro ⟨H2, H3, H4, H5, H6, H7, H8, H9, H10, H11, H12, H13, H14, H15⟩
  iapply (own_store_all Variants.none (c : Thread nD τ) none Set.univ zero2) $$ H14; iintro H14

  iapply (Scf.wp_for_bind frame (wpE (defs₀ (F := F)) Variants.none (c : Thread nD τ) none) Set.univ _ _ _ (k0_t1_ok i) ⟨⟩ _
      (fun k _ => iprop(∃ s1 p1, Res (F := F) arg2 arg3 arg4 arg5 arg6 arg7 arg8 arg9 arg10 arg11 arg12 arg13 arg14 arg15 c x o (pairs x (start (i 0).val (i 1).val x a) k) s1 p1)) hloop) $$ [H2 H3 H4 H5 H6 H7 H8 H9 H10 H11 H12 H13 H14 H15]
  · iexists _; iexists _; unfold Res
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %u H
  iapply (Scf.wp_for_bind frame (wpE (defs₀ (F := F)) Variants.none (c : Thread nD τ) none) Set.univ _ _ _ (k0_t2_ok i) ⟨⟩ _
      (fun _ _ => iprop(∃ s1 p1, Res (F := F) arg2 arg3 arg4 arg5 arg6 arg7 arg8 arg9 arg10 arg11 arg12 arg13 arg14 arg15 c x o (pairs x (start (i 0).val (i 1).val x a) (k0_t1_loop i).trips) s1 p1))
      (fun k _ => absurd (Nat.lt_of_lt_of_eq k.isLt (trips2 i)) (Nat.not_lt_zero _))) $$ H
  iintro %u' ⟨%s, %p, H⟩
  by_cases h3 : k0_cond3 i = 1#1
  · rw [if_pos ((cnd3_iff i).mp h3), trips1]
    simp only [dif_pos h3, k0_part9_eq_skeleton, k0_part9_skel, k0_part10_eq_skeleton, k0_part10_skel, k0_part11_eq_skeleton, k0_part11_skel, pay43_eq, pay44_eq, pay64_eq, pay48_eq, pay49_eq, pay51_eq, pay53_eq, pay55_eq, pay69_eq, pay70_eq, pay57_eq, pay59_eq, pay1_eq, pay2_eq, Prog.bind_lift, Prog.bind_op, Prog.bind_ret, Prog.pure_eq_ret]
    unfold Res
    icases H with ⟨H2, H3, H4, H5, H6, H7, H8, H9, H10, H11, H12, H13, H14, H15⟩
    iapply (own_load_rows Variants.none (c : Thread nD τ) none Set.univ (off5a i)) $$ H3; iintro H3
    iapply (own_load_rows Variants.none (c : Thread nD τ) none Set.univ (off5a i)) $$ H4; iintro H4
    iapply (own_load_all Variants.none (c : Thread nD τ) none Set.univ zero2) $$ H2; iintro H2
    iapply (own_load_all Variants.none (c : Thread nD τ) none Set.univ zero2) $$ H13; iintro H13
    iapply (own_store_all Variants.none (c : Thread nD τ) none Set.univ zero2) $$ H13; iintro H13
    iapply (own_load_all Variants.none (c : Thread nD τ) none Set.univ zero2) $$ H5; iintro H5
    iapply (own_load_all Variants.none (c : Thread nD τ) none Set.univ zero2) $$ H15; iintro H15
    iapply (own_store_all Variants.none (c : Thread nD τ) none Set.univ zero2) $$ H15; iintro H15
    iapply (own_load_all Variants.none (c : Thread nD τ) none Set.univ zero2) $$ H12; iintro H12
    iapply (own_load_all Variants.none (c : Thread nD τ) none Set.univ zero2) $$ H6; iintro H6
    iapply (own_load_all Variants.none (c : Thread nD τ) none Set.univ zero2) $$ H14; iintro H14
    iapply (own_load_all Variants.none (c : Thread nD τ) none Set.univ zero2) $$ H7; iintro H7
    iapply (own_load_all Variants.none (c : Thread nD τ) none Set.univ zero2) $$ H2; iintro H2
    iapply (own_load_rows Variants.none (c : Thread nD τ) none Set.univ (off6a i h3)) $$ H9; iintro H9
    iapply (own_load_all Variants.none (c : Thread nD τ) none Set.univ zero2) $$ H5; iintro H5
    iapply (own_load_rows Variants.none (c : Thread nD τ) none Set.univ (off6a i h3)) $$ H9; iintro H9
    iapply (own_store_rows Variants.none (c : Thread nD τ) none Set.univ (off6a i h3)) $$ H9; iintro H9
    iapply (own_load_rows Variants.none (c : Thread nD τ) none Set.univ (off6a i h3)) $$ H10; iintro H10
    iapply (own_load_rows Variants.none (c : Thread nD τ) none Set.univ (off6a i h3)) $$ H10; iintro H10
    iapply (own_store_rows Variants.none (c : Thread nD τ) none Set.univ (off6a i h3)) $$ H10; iintro H10
    iapply (own_load_rows Variants.none (c : Thread nD τ) none Set.univ (off6a i h3)) $$ H3; iintro H3
    iapply (own_load_rows Variants.none (c : Thread nD τ) none Set.univ (off6a i h3)) $$ H4; iintro H4
    iapply (own_load_all Variants.none (c : Thread nD τ) none Set.univ zero2) $$ H11; iintro H11
    iapply (own_load_all Variants.none (c : Thread nD τ) none Set.univ zero2) $$ H11; iintro H11
    iapply (own_store_all Variants.none (c : Thread nD τ) none Set.univ zero2) $$ H11; iintro H11
    iapply (own_load_all Variants.none (c : Thread nD τ) none Set.univ zero2) $$ H13; iintro H13
    iapply (own_load_all Variants.none (c : Thread nD τ) none Set.univ zero2) $$ H6; iintro H6
    iapply (own_load_all Variants.none (c : Thread nD τ) none Set.univ zero2) $$ H15; iintro H15
    iapply (own_load_all Variants.none (c : Thread nD τ) none Set.univ zero2) $$ H7; iintro H7
    iapply (own_load_all Variants.none (c : Thread nD τ) none Set.univ zero2) $$ H2; iintro H2
    iapply (own_load_rows Variants.none (c : Thread nD τ) none Set.univ (off5a i)) $$ H9; iintro H9
    iapply (own_load_all Variants.none (c : Thread nD τ) none Set.univ zero2) $$ H5; iintro H5
    iapply (own_load_rows Variants.none (c : Thread nD τ) none Set.univ (off5a i)) $$ H9; iintro H9
    iapply (own_store_rows Variants.none (c : Thread nD τ) none Set.univ (off5a i)) $$ H9; iintro H9
    iapply (own_load_rows Variants.none (c : Thread nD τ) none Set.univ (off5a i)) $$ H10; iintro H10
    iapply (own_load_rows Variants.none (c : Thread nD τ) none Set.univ (off5a i)) $$ H10; iintro H10
    iapply (own_store_rows Variants.none (c : Thread nD τ) none Set.univ (off5a i)) $$ H10; iintro H10
    iapply (own_load_rows Variants.none (c : Thread nD τ) none Set.univ (off5a i)) $$ H3; iintro H3
    iapply (own_load_rows Variants.none (c : Thread nD τ) none Set.univ (off5a i)) $$ H4; iintro H4
    iapply (own_load_all Variants.none (c : Thread nD τ) none Set.univ zero2) $$ H11; iintro H11
    iapply (own_load_all Variants.none (c : Thread nD τ) none Set.univ zero2) $$ H11; iintro H11
    iapply (own_store_all Variants.none (c : Thread nD τ) none Set.univ zero2) $$ H11; iintro H11
    rw [wp_ret]; imodintro
    simp only [point, finish, if_pos ((cnd3_iff i).mp h3)]
    iexists _; iexists _
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [if_neg (fun h => h3 ((cnd3_iff i).mpr h)), trips1]
    simp only [dif_neg h3, Prog.bind_lift, Prog.bind_op, Prog.bind_ret, Prog.pure_eq_ret]
    rw [wp_ret]; imodintro
    iexists s; iexists p; unfold Res; iexact H

/-- The body of a point: the accumulators' new contents are `point`, and the block of the queries' gradient is written. -/
theorem body_sound (c : Dev nD) (i : grid0.Coords) (x : Inp F) (o : Vec F S768x256 .bf16) (a : Acc F) (s1 p1 : Vec F S768x768 .f32) :
    Res (F := F) arg2 arg3 arg4 arg5 arg6 arg7 arg8 arg9 arg10 arg11 arg12 arg13 arg14 arg15 c x o a s1 p1
      ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(∃ s1 p1, Res (F := F) arg2 arg3 arg4 arg5 arg6 arg7 arg8 arg9 arg10 arg11 arg12 arg13 arg14 arg15 c x (k0_pay3 (point (i 0).val (i 1).val x a).dq) (point (i 0).val (i 1).val x a) s1 p1)) := by
  rw [cc0_attn_bwd_eq_skeleton]; unfold cc0_attn_bwd_skel
  rw [wp_bind]
  iintro H
  iapply wp_wand $$ [H]
  · iapply (head_sound (F := F) arg2 harg2 arg3 harg3 arg4 harg4 arg5 harg5 arg6 harg6 arg7 harg7 arg8 harg8 arg9 harg9 arg10 harg10 arg11 harg11 arg12 harg12 arg13 harg13 arg14 harg14 arg15 harg15 c i x o a s1 p1) $$ H
  iintro %r ⟨%hr, H⟩
  obtain ⟨arg1, v29⟩ := r
  dsimp only at hr ⊢
  rw [wp_bind]
  iapply wp_wand $$ [H]
  · iapply (mid_sound (F := F) arg2 harg2 arg3 harg3 arg4 harg4 arg5 harg5 arg6 harg6 arg7 harg7 arg8 harg8 arg9 harg9 arg10 harg10 arg11 harg11 arg12 harg12 arg13 harg13 arg14 harg14 arg15 harg15 c i arg1 v29 x o a s1 p1 hr) $$ H
  iintro %u ⟨%s, %p, H⟩
  by_cases h4 : k0_cond4 i = 1#1
  · rw [if_neg ((cnd4_iff i).mp h4)]
    simp only [dif_pos h4, k0_part12_eq_skeleton, k0_part12_skel, pay43_eq, pay44_eq, pay64_eq, pay48_eq, pay49_eq, pay51_eq, pay53_eq, pay55_eq, pay69_eq, pay70_eq, pay57_eq, pay59_eq, pay1_eq, pay2_eq, Prog.bind_lift, Prog.bind_op, Prog.bind_ret, Prog.pure_eq_ret]
    unfold Res
    icases H with ⟨H2, H3, H4, H5, H6, H7, H8, H9, H10, H11, H12, H13, H14, H15⟩
    iapply (own_load_all Variants.none (c : Thread nD τ) none Set.univ zero2) $$ H12; iintro H12
    iapply (own_load_all Variants.none (c : Thread nD τ) none Set.univ zero2) $$ H6; iintro H6
    iapply (own_load_all Variants.none (c : Thread nD τ) none Set.univ zero2) $$ H14; iintro H14
    iapply (own_load_all Variants.none (c : Thread nD τ) none Set.univ zero2) $$ H7; iintro H7
    iapply (own_load_all Variants.none (c : Thread nD τ) none Set.univ zero2) $$ H2; iintro H2
    iapply (own_load_rows Variants.none (c : Thread nD τ) none Set.univ (off7a i)) $$ H9; iintro H9
    iapply (own_load_all Variants.none (c : Thread nD τ) none Set.univ zero2) $$ H5; iintro H5
    iapply (own_load_rows Variants.none (c : Thread nD τ) none Set.univ (off7a i)) $$ H9; iintro H9
    iapply (own_store_rows Variants.none (c : Thread nD τ) none Set.univ (off7a i)) $$ H9; iintro H9
    iapply (own_load_rows Variants.none (c : Thread nD τ) none Set.univ (off7a i)) $$ H10; iintro H10
    iapply (own_load_rows Variants.none (c : Thread nD τ) none Set.univ (off7a i)) $$ H10; iintro H10
    iapply (own_store_rows Variants.none (c : Thread nD τ) none Set.univ (off7a i)) $$ H10; iintro H10
    iapply (own_load_rows Variants.none (c : Thread nD τ) none Set.univ (off7a i)) $$ H3; iintro H3
    iapply (own_load_rows Variants.none (c : Thread nD τ) none Set.univ (off7a i)) $$ H4; iintro H4
    iapply (own_load_all Variants.none (c : Thread nD τ) none Set.univ zero2) $$ H11; iintro H11
    iapply (own_load_all Variants.none (c : Thread nD τ) none Set.univ zero2) $$ H11; iintro H11
    iapply (own_store_all Variants.none (c : Thread nD τ) none Set.univ zero2) $$ H11; iintro H11
    iapply (own_load_all Variants.none (c : Thread nD τ) none Set.univ zero2) $$ H11; iintro H11
    iapply (own_load_all Variants.none (c : Thread nD τ) none Set.univ zero2) $$ H8; iintro H8
    iapply (own_store_all Variants.none (c : Thread nD τ) none Set.univ zero2) $$ H8; iintro H8
    rw [wp_ret]; imodintro
    simp only [point, finish, if_neg ((cnd4_iff i).mp h4)]
    iexists _; iexists _
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · have hodd : (i 1).val % 2 = 1 := not_not.mp fun h => h4 ((cnd4_iff i).mpr h)
    rw [if_pos hodd]
    simp only [dif_neg h4, Prog.bind_lift, Prog.bind_op, Prog.bind_ret, Prog.pure_eq_ret]
    unfold Res
    icases H with ⟨H2, H3, H4, H5, H6, H7, H8, H9, H10, H11, H12, H13, H14, H15⟩
    iapply (own_load_all Variants.none (c : Thread nD τ) none Set.univ zero2) $$ H11; iintro H11
    iapply (own_load_all Variants.none (c : Thread nD τ) none Set.univ zero2) $$ H8; iintro H8
    iapply (own_store_all Variants.none (c : Thread nD τ) none Set.univ zero2) $$ H8; iintro H8
    rw [wp_ret]; imodintro
    iexists _; iexists _
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Body

end Cert.AttnKernelIdeal.Hand

end
-- ==== Proof.AttnPoint.lean ====
module
public import proofs.«01_k».proof.Proof.AttnPays
public import proofs.«01_k».proof.Proof.AttnBody
@[expose] public section
set_option maxRecDepth 16384
noncomputable section
open Idealize.ShloMosaic Idealize.ShloMosaic.TcCoe Idealize.SL.Sem
namespace Cert.AttnKernelIdeal.Hand
open Cert.AttnKernelIdeal Cert.AttnKernelIdeal.Gen

/-! What a point adds to the three gradients, index by index, over the extended reals. -/

/-- Row `c` of key block `n`. -/
def key (n : ℕ) (hn : n < 11) (c : Fin 768) : Fin 8448 := ⟨768 * n + c.val, by omega⟩

/-- Lane `k` of a lane tile. -/
def lane (k : Fin 8448) : Fin 128 := ⟨k.val % 128, Nat.mod_lt _ (by omega)⟩

theorem rowsOf_apply {α : Type} (X : S8448x128.Idx → α) (n : ℕ) (hn : n < 11) (c : Fin 768) (e : Fin 128) :
    rowsOf X n (ix2 c e) = X (ix2 (key n hn c) e) := by
  unfold rowsOf
  refine congrArg X (funext fun a => Fin.ext ?_)
  rw [ValueKit.rect_emb_unit_val]
  match a with
  | ⟨0, _⟩ => show 768 * (n % 11) + c.val = 768 * n + c.val; rw [Nat.mod_eq_of_lt hn]
  | ⟨1, _⟩ => show 0 + e.val = e.val; omega

theorem layRows_apply {α : Type} (X : S8448x128.Idx → α) (n : ℕ) (hn : n < 11) (w : S768x128.Idx → α) (k : Fin 8448) (e : Fin 128) :
    layRows X n w (ix2 k e) = if h : 768 * n ≤ k.val ∧ k.val < 768 * n + 768 then w (ix2 ⟨k.val - 768 * n, by omega⟩ e) else X (ix2 k e) := by
  unfold layRows
  by_cases h : 768 * n ≤ k.val ∧ k.val < 768 * n + 768
  · rw [dif_pos h]
    have hk : (ix2 k e : S8448x128.Idx) = (rowsR n).emb (ix2 ⟨k.val - 768 * n, by omega⟩ e : S768x128.Idx) := by
      funext a
      apply Fin.ext
      rw [ValueKit.rect_emb_unit_val]
      match a with
      | ⟨0, _⟩ => show k.val = 768 * (n % 11) + (k.val - 768 * n); rw [Nat.mod_eq_of_lt hn]; omega
      | ⟨1, _⟩ => show e.val = 0 + e.val; omega
    rw [hk, Rect.overlay_emb]
  · rw [dif_neg h]
    refine Rect.overlay_of_not_mem _ _ _ fun hm => h ?_
    rw [Rect.mem_set_unit] at hm
    have h0 : 768 * (n % 11) ≤ k.val ∧ k.val < 768 * (n % 11) + 768 := hm 0
    rwa [Nat.mod_eq_of_lt hn] at h0

variable (x : Inp Ideal) (i : ℕ)

/-- A key row with the values, and the shared rotary key beside it. -/
def cat (k : Fin 8448) (e : Fin 256) : EReal :=
  if h : e.val < 128 then x.kv (ix2 k ⟨e.val, h⟩) else x.kr (ix2 k ⟨e.val - 128, by omega⟩)

/-- The score of a query row and a key. -/
def sc (r : Fin 768) (k : Fin 8448) : EReal := ∑ e : Fin 256, x.q (ix2 r e) * cat x k e

/-- The cotangent's product with a key's value. -/
def pr (r : Fin 768) (k : Fin 8448) : EReal := ∑ e : Fin 128, x.cot (ix2 r e) * x.kv (ix2 k e)

/-- The weight of a key for a query row of block `i`. -/
def wt (r : Fin 768) (k : Fin 8448) : EReal :=
  if k.val ≤ 768 * i + r.val then Ideal.exp2 (sc x r k - x.lse (ix2 r (lane k))) else 0

/-- The score's gradient. -/
def ds (r : Fin 768) (k : Fin 8448) : EReal := wt x i r k * (pr x r k - x.dl (ix2 r (lane k)))

/-- What the point adds to the gradient of the keys and values. -/
def tkv (k : Fin 8448) (e : Fin 128) : EReal :=
  (∑ r : Fin 768, wt x i r k * x.cot (ix2 r e)) + (∑ r : Fin 768, ds x i r k * x.q (ix2 r ⟨e.val, by omega⟩)) * ((Real.log 2 : ℝ) : EReal)

/-- What it adds to the gradient of the shared rotary keys. -/
def tkr (k : Fin 8448) (e : Fin 128) : EReal :=
  (∑ r : Fin 768, ds x i r k * x.q (ix2 r ⟨128 + e.val, by omega⟩)) * ((Real.log 2 : ℝ) : EReal)

/-- A key's share of the gradient of the queries. -/
def tq (r : Fin 768) (e : Fin 256) (k : ℕ) : EReal := if h : k < 8448 then ds x i r ⟨k, h⟩ * cat x ⟨k, h⟩ e else 0

theorem beside_cat (n : ℕ) (hn : n < 11) (c : Fin 768) (e : Fin 256) :
    beside (rowsOf x.kv n) (rowsOf x.kr n) c e = cat x (key n hn c) e := by
  unfold beside cat
  by_cases h : e.val < 128
  · rw [dif_pos h, dif_pos h, rowsOf_apply _ n hn]
  · rw [dif_neg h, dif_neg h, rowsOf_apply _ n hn]

theorem scores_apply (n : ℕ) (hn : n < 11) (r c : Fin 768) : scores x n (ix2 r c) = sc x r (key n hn c) := by
  unfold scores sc
  rw [pay5_apply]
  exact Finset.sum_congr rfl fun e _ => by rw [beside_cat]

theorem prods_apply (n : ℕ) (hn : n < 11) (r c : Fin 768) : prods x n (ix2 r c) = pr x r (key n hn c) := by
  unfold prods pr
  rw [pay6_apply]
  exact Finset.sum_congr rfl fun e _ => by rw [rowsOf_apply _ n hn]

/-- The accumulated gradients `b` are those of `a` and the first `n` key blocks' shares. -/
structure Upto (n : ℕ) (a b : Acc Ideal) : Prop where
  dkv : ∀ (k : Fin 8448) (e : Fin 128), b.dkv (ix2 k e) = a.dkv (ix2 k e) + if k.val < 768 * n then tkv x i k e else 0
  dkr : ∀ (k : Fin 8448) (e : Fin 128), b.dkr (ix2 k e) = a.dkr (ix2 k e) + if k.val < 768 * n then tkr x i k e else 0
  dq : ∀ (r : Fin 768) (e : Fin 256), b.dq (ix2 r e) = a.dq (ix2 r e) + ∑ k ∈ Finset.range (768 * n), tq x i r e k

variable {x i}

/-- The scores block `n` is given: those of later keys at the bottom. -/
def Scored (x : Inp Ideal) (i n : ℕ) (hn : n < 11) (s : Vec Ideal S768x768 .f32) : Prop :=
  ∀ r c : Fin 768, s (ix2 r c) = if (key n hn c).val ≤ 768 * i + r.val then sc x r (key n hn c) else ⊥

theorem pay17_wt {n : ℕ} {hn : n < 11} {s : Vec Ideal S768x768 .f32} (hs : Scored x i n hn s) (r c : Fin 768) :
    k0_pay17 s x.lse (ix2 r c) = wt x i r (key n hn c) := by
  have hl : (⟨c.val % 128, Nat.mod_lt _ (by omega)⟩ : Fin 128) = lane (key n hn c) :=
    Fin.ext (by show c.val % 128 = (768 * n + c.val) % 128; omega)
  rw [pay17_apply, hs r c, hl]
  unfold wt
  by_cases h : (key n hn c).val ≤ 768 * i + r.val
  · rw [if_pos h, if_pos h]
  · rw [if_neg h, if_neg h, EReal.bot_sub, Ideal.exp2_bot]

theorem pay18_ds {n : ℕ} {hn : n < 11} {s : Vec Ideal S768x768 .f32} (hs : Scored x i n hn s) (r c : Fin 768) :
    k0_pay18 s x.lse (prods x n) x.dl (ix2 r c) = ds x i r (key n hn c) := by
  have hl : (⟨c.val % 128, Nat.mod_lt _ (by omega)⟩ : Fin 128) = lane (key n hn c) :=
    Fin.ext (by show c.val % 128 = (768 * n + c.val) % 128; omega)
  rw [pay18_apply, pay17_wt hs, prods_apply x n hn, hl]
  rfl

theorem block_dkv (x : Inp Ideal) (n : ℕ) (s p : Vec Ideal S768x768 .f32) (b : Acc Ideal) :
    (block x n s p b).dkv = layRows b.dkv n (k0_pay20 s x.lse p x.dl x.q (rowsOf b.dkv n) x.cot) := rfl
theorem block_dkr (x : Inp Ideal) (n : ℕ) (s p : Vec Ideal S768x768 .f32) (b : Acc Ideal) :
    (block x n s p b).dkr = layRows b.dkr n (k0_pay21 s x.lse p x.dl x.q (rowsOf b.dkr n)) := rfl
theorem block_dq (x : Inp Ideal) (n : ℕ) (s p : Vec Ideal S768x768 .f32) (b : Acc Ideal) :
    (block x n s p b).dq = k0_pay67 (dscore x s p) (k0_pay22 (rowsOf x.kv n)) (rowsOf x.kr n) b.dq := rfl
theorem upto_fetch {x y : Inp Ideal} {i n j : ℕ} {a b : Acc Ideal} (h : Upto x i n a b) : Upto x i n a (fetch y j b) := ⟨h.dkv, h.dkr, h.dq⟩
theorem upto_refl (x : Inp Ideal) (i : ℕ) (a : Acc Ideal) : Upto x i 0 a a where
  dkv k e := by rw [if_neg (by omega), add_zero]
  dkr k e := by rw [if_neg (by omega), add_zero]
  dq r e := by rw [Nat.mul_zero, Finset.range_zero, Finset.sum_empty, add_zero]

theorem block_upto {n : ℕ} (hn : n < 11) {s : Vec Ideal S768x768 .f32} (hs : Scored x i n hn s) {a b : Acc Ideal} (h : Upto x i n a b) :
    Upto x i (n + 1) a (block x n s (prods x n) b) where
  dkv k e := by
    rw [block_dkv, layRows_apply _ n hn]
    by_cases hk : 768 * n ≤ k.val ∧ k.val < 768 * n + 768
    · rw [dif_pos hk, pay20_apply, rowsOf_apply _ n hn, pay19_apply, if_pos (by omega)]
      have hkk : key n hn ⟨k.val - 768 * n, by omega⟩ = k := Fin.ext (by show 768 * n + (k.val - 768 * n) = k.val; omega)
      rw [hkk, h.dkv k e, if_neg (by omega), add_zero]
      unfold tkv
      simp only [pay17_wt hs, pay18_ds hs, hkk]
    · rw [dif_neg hk, h.dkv k e]
      by_cases hlt : k.val < 768 * n
      · rw [if_pos hlt, if_pos (by omega)]
      · rw [if_neg hlt, if_neg (by omega)]
  dkr k e := by
    rw [block_dkr, layRows_apply _ n hn]
    by_cases hk : 768 * n ≤ k.val ∧ k.val < 768 * n + 768
    · rw [dif_pos hk, pay21_apply, rowsOf_apply _ n hn, pay19_apply, if_pos (by omega)]
      have hkk : key n hn ⟨k.val - 768 * n, by omega⟩ = k := Fin.ext (by show 768 * n + (k.val - 768 * n) = k.val; omega)
      rw [hkk, h.dkr k e, if_neg (by omega), add_zero]
      unfold tkr
      simp only [pay18_ds hs, hkk]
    · rw [dif_neg hk, h.dkr k e]
      by_cases hlt : k.val < 768 * n
      · rw [if_pos hlt, if_pos (by omega)]
      · rw [if_neg hlt, if_neg (by omega)]
  dq r e := by
    rw [block_dq, pay67_apply, h.dq r e, show 768 * (n + 1) = 768 * n + 768 from by ring, ← Rows.sum_block_up, add_assoc]
    refine congrArg (fun y => a.dq (ix2 r e) + (_ + y)) (Finset.sum_congr rfl fun c _ => ?_)
    unfold dscore tq
    rw [pay18_ds hs, beside_cat x n hn, dif_pos (show 768 * n + c.val < 8448 by omega)]
    rfl

theorem scored_scores {n : ℕ} (hn : n < 11) (h : n < i) : Scored x i n hn (scores x n) := fun r c => by
  rw [scores_apply x n hn, if_pos (by show 768 * n + c.val ≤ _; omega)]

theorem scored_masked {n : ℕ} (hn : n < 11) : Scored x n n hn (masked (scores x n)) := fun r c => by
  rw [masked_apply, scores_apply x n hn]
  by_cases h : c.val ≤ r.val
  · rw [if_pos h, if_pos (by show 768 * n + c.val ≤ _; omega)]
  · rw [if_neg h, if_neg (by show ¬(768 * n + c.val ≤ _); omega)]

theorem pairs_upto (hi : i < 11) {a : Acc Ideal} (hs : a.s = scores x 0) (hp : a.p = prods x 0) :
    ∀ j : ℕ, 2 * j ≤ i → Upto x i (2 * j) a (pairs x a j) ∧ (pairs x a j).s = scores x (2 * j) ∧ (pairs x a j).p = prods x (2 * j)
  | 0, _ => ⟨upto_refl x i a, hs, hp⟩
  | j + 1, hj => by
    obtain ⟨h1, h2, h3⟩ := pairs_upto hi hs hp j (by omega)
    have h4 : Upto x i (2 * j + 1) a (block x (2 * j) (pairs x a j).s (pairs x a j).p (pairs x a j)) := by
      rw [h2, h3]
      exact block_upto (by omega) (scored_scores (by omega) (by omega)) h1
    exact ⟨block_upto (n := 2 * j + 1) (by omega) (scored_scores (by omega) (by omega)) (upto_fetch h4), rfl, rfl⟩

/-- A point's gradients: what it starts from and the shares of all blocks up to its own. -/
theorem point_upto (h : ℕ) (hi : i < 11) (a : Acc Ideal) : Upto x i (i + 1) (start h i x a) (point h i x a) := by
  obtain ⟨h1, h2, h3⟩ := pairs_upto (x := x) hi (a := start h i x a) rfl rfl (i / 2) (by omega)
  unfold point finish
  by_cases hodd : i % 2 = 1
  · rw [if_pos hodd, h2, h3]
    have e : 2 * (i / 2) = i - 1 := by omega
    rw [e] at h1 ⊢
    have h5 := block_upto (n := i - 1) (by omega) (scored_scores (by omega) (by omega)) h1
    rw [Nat.sub_add_cancel (by omega)] at h5
    exact block_upto hi (scored_masked hi) h5
  · have e : 2 * (i / 2) = i := by omega
    rw [if_neg hodd, h2, h3, e]
    rw [e] at h1
    exact block_upto hi (scored_masked hi) h1

theorem wt_later {r : Fin 768} {k : Fin 8448} (h : ¬k.val < 768 * (i + 1)) : wt x i r k = 0 := by
  unfold wt
  rw [if_neg (by omega)]

theorem ds_later {r : Fin 768} {k : Fin 8448} (h : ¬k.val < 768 * (i + 1)) : ds x i r k = 0 := by
  unfold ds
  rw [wt_later h, zero_mul]

theorem point_dkv (h : ℕ) (hi : i < 11) (a : Acc Ideal) (k : Fin 8448) (e : Fin 128) :
    (point h i x a).dkv (ix2 k e) = (if i = 0 then 0 else a.dkv (ix2 k e)) + tkv x i k e := by
  have h1 : (start h i x a).dkv (ix2 k e) = if i = 0 then 0 else a.dkv (ix2 k e) := by
    unfold start; dsimp only
    by_cases h0 : i = 0
    · rw [if_pos h0, if_pos h0, pay60_apply]
    · rw [if_neg h0, if_neg h0]
  rw [(point_upto h hi a).dkv, h1]
  by_cases hk : k.val < 768 * (i + 1)
  · rw [if_pos hk]
  · rw [if_neg hk]
    unfold tkv
    simp only [wt_later hk, ds_later hk, zero_mul, Finset.sum_const_zero, add_zero]

theorem point_dkr (h : ℕ) (hi : i < 11) (a : Acc Ideal) (k : Fin 8448) (e : Fin 128) :
    (point h i x a).dkr (ix2 k e) = (if i = 0 ∧ h = 0 then 0 else a.dkr (ix2 k e)) + tkr x i k e := by
  have h1 : (start h i x a).dkr (ix2 k e) = if i = 0 ∧ h = 0 then 0 else a.dkr (ix2 k e) := by
    unfold start; dsimp only
    by_cases h0 : i = 0 ∧ h = 0
    · rw [if_pos h0, if_pos h0, pay61_apply]
    · rw [if_neg h0, if_neg h0]
  rw [(point_upto h hi a).dkr, h1]
  by_cases hk : k.val < 768 * (i + 1)
  · rw [if_pos hk]
  · rw [if_neg hk]
    unfold tkr
    simp only [ds_later hk, zero_mul, Finset.sum_const_zero]

theorem point_dq (h : ℕ) (hi : i < 11) (a : Acc Ideal) (r : Fin 768) (e : Fin 256) :
    (point h i x a).dq (ix2 r e) = ∑ k : Fin 8448, ds x i r k * cat x k e := by
  rw [(point_upto h hi a).dq]
  have h1 : (start h i x a).dq (ix2 r e) = 0 := pay62_apply (ix2 r e)
  have h2 : ∑ k ∈ Finset.range 8448, tq x i r e k = ∑ k ∈ Finset.range (768 * (i + 1)), tq x i r e k := by
    refine (Finset.sum_subset (Finset.range_subset_range.mpr (by omega)) fun k hk hn => ?_).symm
    rw [Finset.mem_range] at hk hn
    unfold tq
    rw [dif_pos hk, ds_later (by exact hn), zero_mul]
  rw [h1, zero_add, ← h2, Finset.sum_range]
  refine Finset.sum_congr rfl fun k _ => ?_
  unfold tq
  rw [dif_pos k.isLt]

end Cert.AttnKernelIdeal.Hand
end
-- ==== Proof.AttnFrame.lean ====
module

public import proofs.«01_k».proof.Proof.AttnBody
public import proofs.«01_k».proof.Proof.Gen.AttnKernelIdeal.Frame
public import Idealize.ShloMosaic.Lib.Pipeline.TableIdle
public import Idealize.ShloMosaic.Lib.Claim

@[expose] public section

set_option maxRecDepth 16384

noncomputable section

/-! The run of the attention gradient: what its buffers hold after each point, the body at a point, the launch. -/

namespace Cert.AttnKernelIdeal.Hand

open Cert.AttnKernelIdeal Cert.AttnKernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- What a point starts from depends on the earlier gradients only where they are not cleared. -/
theorem start_congr (h n : ℕ) (x : Inp F) (a b : Acc F) (h7 : n ≠ 0 → a.dkv = b.dkv) (h8 : ¬(n = 0 ∧ h = 0) → a.dkr = b.dkr) :
    start h n x a = start h n x b := by
  unfold start
  congr 1
  · by_cases hn : n = 0
    · rw [if_pos hn, if_pos hn]
    · rw [if_neg hn, if_neg hn, h7 hn]
  · by_cases hn : n = 0 ∧ h = 0
    · rw [if_pos hn, if_pos hn]
    · rw [if_neg hn, if_neg hn, h8 hn]

/-- So does what it makes of them. -/
theorem point_congr (h n : ℕ) (x : Inp F) (a b : Acc F) (h7 : n ≠ 0 → a.dkv = b.dkv) (h8 : ¬(n = 0 ∧ h = 0) → a.dkr = b.dkr) :
    point h n x a = point h n x b := by
  unfold point; rw [start_congr h n x a b h7 h8]

/-- The blocks the point `t` reads. -/
def inp (c : Dev nD) (t : Fin cfg0.N) : Inp F where
  q := iblk m c 0 t
  kv := iblk m c 1 t
  kr := iblk m c 2 t
  cot := iblk m c 3 t
  lse := iblk m c 4 t
  dl := iblk m c 5 t

/-- The point's head and query block, from its position. -/
theorem coords_eq : ∀ t : Fin cfg0.N, (grid0.coords t 0).val = t.val / 11 ∧ (grid0.coords t 1).val = t.val % 11 :=
  (by decide +kernel : ∀ t : Fin grid0.N, (grid0.coords t 0).val = t.val / 11 ∧ (grid0.coords t 1).val = t.val % 11)

/-- Contents before the first point, all of which it replaces. -/
def acc0 (x : Inp F) : Acc F where
  dkv := k0_pay60
  dkr := k0_pay61
  dq := k0_pay62
  s := scores x 0
  p := prods x 0

/-- What is accumulated after position `n`. -/
def accAt (c : Dev nD) : (n : ℕ) → n < cfg0.N → Acc F
  | 0, hn => point 0 0 (inp m c ⟨0, hn⟩) (acc0 (inp m c ⟨0, hn⟩))
  | n + 1, hn => point ((n + 1) / 11) ((n + 1) % 11) (inp m c ⟨n + 1, hn⟩) (accAt c n (Nat.lt_of_succ_lt hn))

theorem accAt_zero (c : Dev nD) (hn) : accAt m c 0 hn = point (0 / 11) (0 % 11) (inp m c ⟨0, hn⟩) (acc0 (inp m c ⟨0, hn⟩)) := by
  rw [Nat.zero_div, Nat.zero_mod]; rw [accAt]

theorem accAt_succ (c : Dev nD) (n : ℕ) (hn) : accAt m c (n + 1) hn
    = point ((n + 1) / 11) ((n + 1) % 11) (inp m c ⟨n + 1, hn⟩) (accAt m c n (Nat.lt_of_succ_lt hn)) := by
  rw [accAt]

/-- The proof data: after each point every input's buffer holds its block and every output's what is accumulated. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (accAt m c t.val t.isLt).dq
    | ⟨7, _⟩ => (accAt m c t.val t.isLt).dkv
    | ⟨8, _⟩ => (accAt m c t.val t.isLt).dkr
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay3 (accAt m c t.val t.isLt).dq := by dsimp only [dats]
theorem after7 (c : Dev nD) (t : Fin cfg0.N) : (dats m 0 c).after 7 t = (accAt m c t.val t.isLt).dkv := by dsimp only [dats]
theorem after8 (c : Dev nD) (t : Fin cfg0.N) : (dats m 0 c).after 8 t = (accAt m c t.val t.isLt).dkr := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Every window is used at every point. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := by decide +kernel
theorem live8 : ∀ t : Fin cfg0.N, cfg0.idle 8 (grid0.coords t) = false := by decide +kernel

/-- The positions at which output 7's buffer holds nothing of an earlier point: the start of its block. -/
def freshTab7 (n : ℕ) : Bool := n % 11 == 0

theorem freshTab7_step : ∀ t : Fin cfg0.N,
    freshTab7 (t.val + 1) = ((cfg0.win 7).flush t || (cfg0.idle 7 (cfg0.grid.coords t) && freshTab7 t.val)) := by decide +kernel

theorem fresh7_eq (t : Fin cfg0.N) : cfg0.fresh 7 t.val = freshTab7 t.val :=
  Pipeline.Cfg.fresh_tab cfg0 7 freshTab7 rfl freshTab7_step t.val (Nat.le_of_lt t.isLt)

theorem carry7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  rw [live7 t] at hi
  exact absurd hi Bool.false_ne_true

theorem before7 (c : Dev nD) (t : Fin cfg0.N) (h : ¬t.val % 11 = 0) (d) :
    (dats m 0 c).before 7 t d = (accAt m c (t.val - 1) (Nat.lt_of_le_of_lt (Nat.sub_le _ _) t.isLt)).dkv := by
  rw [Dat.before_out_traj _ 7 rfl (fun _ _ => rfl) (carry7 m c) t.val t rfl d,
    if_neg (by rw [fresh7_eq]; unfold freshTab7; simpa using h)]
  dsimp only [dats]

/-- The positions at which output 8's buffer holds nothing of an earlier point: the start of its block. -/
def freshTab8 (n : ℕ) : Bool := n % 88 == 0

theorem freshTab8_step : ∀ t : Fin cfg0.N,
    freshTab8 (t.val + 1) = ((cfg0.win 8).flush t || (cfg0.idle 8 (cfg0.grid.coords t) && freshTab8 t.val)) := by decide +kernel

theorem fresh8_eq (t : Fin cfg0.N) : cfg0.fresh 8 t.val = freshTab8 t.val :=
  Pipeline.Cfg.fresh_tab cfg0 8 freshTab8 rfl freshTab8_step t.val (Nat.le_of_lt t.isLt)

theorem carry8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  rw [live8 t] at hi
  exact absurd hi Bool.false_ne_true

theorem before8 (c : Dev nD) (t : Fin cfg0.N) (h : ¬t.val % 88 = 0) (d) :
    (dats m 0 c).before 8 t d = (accAt m c (t.val - 1) (Nat.lt_of_le_of_lt (Nat.sub_le _ _) t.isLt)).dkr := by
  rw [Dat.before_out_traj _ 8 rfl (fun _ _ => rfl) (carry8 m c) t.val t rfl d,
    if_neg (by rw [fresh8_eq]; unfold freshTab8; simpa using h)]
  dsimp only [dats]

/-- One step of the accumulation, from buffers that need hold the earlier sums only where these are kept. -/
theorem accAt_step (c : Dev nD) (t : Fin cfg0.N) (a : Acc F)
    (h7 : ¬t.val % 11 = 0 → a.dkv = (accAt m c (t.val - 1) (Nat.lt_of_le_of_lt (Nat.sub_le _ _) t.isLt)).dkv)
    (h8 : ¬t.val % 88 = 0 → a.dkr = (accAt m c (t.val - 1) (Nat.lt_of_le_of_lt (Nat.sub_le _ _) t.isLt)).dkr) :
    point (grid0.coords t 0).val (grid0.coords t 1).val (inp m c t) a = accAt m c t.val t.isLt := by
  rw [(coords_eq t).1, (coords_eq t).2]
  obtain ⟨n, hn⟩ := t
  cases n with
  | zero =>
    rw [accAt_zero]
    exact point_congr _ _ _ _ _ (fun h => absurd (Nat.zero_mod 11) h) (fun h => absurd ⟨Nat.zero_mod 11, Nat.zero_div 11⟩ h)
  | succ n =>
    rw [accAt_succ]
    refine point_congr _ _ _ _ _ (fun h => h7 h) fun h => h8 fun h' => h ?_
    have h1 : (n + 1) % 88 = 0 := h'
    have h2 : n + 1 < 88 := hn
    show (n + 1) % 11 = 0 ∧ (n + 1) / 11 = 0
    omega

abbrev ms0 (t : Fin cfg0.N) : Memref sig .tc .vmem S768x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8448x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8448x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S768x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S768x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S768x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S8448x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8448x128 .f32 := win0_8.stage (cfg0.slots t 8)
abbrev hs8 (t : Fin cfg0.N) : (ms8 t).IsWhole := hstage0_8 ((cfg0.slots t 8).cast nbuf0_8)
abbrev sc0 : Memref sig .tc .vmem S768x256 .f32 := Memref.whole cc0_scratch0
abbrev sc1 : Memref sig .tc .vmem S768x768 .f32 := Memref.whole cc0_scratch1
abbrev sc2 : Memref sig .tc .vmem S768x768 .f32 := Memref.whole cc0_scratch2
abbrev sc3 : Memref sig .tc .vmem S768x768 .f32 := Memref.whole cc0_scratch3
abbrev sc4 : Memref sig .tc .vmem S768x768 .f32 := Memref.whole cc0_scratch4

/-- The invariant beside the windows: the scratch buffers at some contents, and the generator register. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- What the body is called with at a point. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  iintro ⟨⟨⟨⟨%e0, HS0⟩, ⟨%e1, HS1⟩, ⟨%e2, HS2⟩, ⟨%e3, HS3⟩, ⟨%e4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hacc := accAt_step m c t { dkv := (dats m 0 c).before 7 t d7, dkr := (dats m 0 c).before 8 t d8, dq := e0, s := e1, p := e3 }
    (fun h => before7 m c t h d7) (fun h => before8 m c t h d8)
  iapply wp_wand $$ [H0 H1 H2 H3 H4 H5 H6 H7 H8 HS0 HS1 HS2 HS3 HS4]
  · iapply (body_sound (F := F) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) c (grid0.coords t) (inp m c t) ((dats m 0 c).before 6 t d6)
      { dkv := (dats m 0 c).before 7 t d7, dkr := (dats m 0 c).before 8 t d8, dq := e0, s := e1, p := e3 } e2 e4)
    unfold Res
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  rw [hacc]
  unfold Res
  iintro %r ⟨%s1, %p1, H0, H1, H2, H3, H4, H5, H6, H7, H8, HS0, HS1, HS2, HS3, HS4⟩
  isplitl [HS0 HS1 HS2 HS3 HS4 Hg]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every execution ends, the arrays at what the proof data gives, the host lines after the call run on them. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end unchanged and every counter at zero. -/
theorem frame_attn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run_quiescent m ρ))

end Cert.AttnKernelIdeal.Hand

end
-- ==== Proof.AttnOut.lean ====
module
public import proofs.«01_k».proof.Proof.AttnPoint
public import proofs.«01_k».proof.Proof.AttnFrame
@[expose] public section
set_option maxRecDepth 16384
noncomputable section
open Idealize.ShloMosaic Idealize.ShloMosaic.TcCoe Idealize.SL.Sem
open Idealize.ShloMosaic.Pipeline (Dat Cfg Window)
namespace Cert.AttnKernelIdeal.Hand
open Cert.AttnKernelIdeal Cert.AttnKernelIdeal.Gen

/-! What the three output arrays hold after the run, as sums over the points. -/

variable (m : (ℓ : Loc nD τ sig) → Buf (Elt Ideal) ℓ)

theorem hN (t : Fin cfg0.N) : t.val < 88 := lt_of_lt_of_eq t.isLt N_0

/-- The point of head `h` and query block `i`. -/
def pt (h : Fin 8) (i : Fin 11) : Fin cfg0.N := ⟨11 * h.val + i.val, lt_of_lt_of_eq (show 11 * h.val + i.val < 88 by omega) N_0.symm⟩

theorem pt_val (h : Fin 8) (i : Fin 11) : (pt h i).val = 11 * h.val + i.val := rfl
theorem pt_mod (h : Fin 8) (i : Fin 11) : (pt h i).val % 11 = i.val := by rw [pt_val]; omega
theorem pt_div (h : Fin 8) (i : Fin 11) : (pt h i).val / 11 = h.val := by rw [pt_val]; omega

theorem idx0 : ∀ t : Fin cfg0.N, win0_0.index t 0 = t.val % 11 ∧ win0_0.index t 1 = t.val / 11 :=
  (by decide +kernel : ∀ t : Fin grid0.N, win0_0.index t 0 = t.val % 11 ∧ win0_0.index t 1 = t.val / 11)
theorem idx1 : ∀ t : Fin cfg0.N, win0_1.index t 0 = 0 ∧ win0_1.index t 1 = t.val / 11 :=
  (by decide +kernel : ∀ t : Fin grid0.N, win0_1.index t 0 = 0 ∧ win0_1.index t 1 = t.val / 11)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val % 11 ∧ win0_3.index t 1 = t.val / 11 :=
  (by decide +kernel : ∀ t : Fin grid0.N, win0_3.index t 0 = t.val % 11 ∧ win0_3.index t 1 = t.val / 11)
theorem idx4 : ∀ t : Fin cfg0.N, win0_4.index t 0 = t.val % 11 ∧ win0_4.index t 1 = t.val / 11 :=
  (by decide +kernel : ∀ t : Fin grid0.N, win0_4.index t 0 = t.val % 11 ∧ win0_4.index t 1 = t.val / 11)
theorem idx5 : ∀ t : Fin cfg0.N, win0_5.index t 0 = t.val % 11 ∧ win0_5.index t 1 = t.val / 11 :=
  (by decide +kernel : ∀ t : Fin grid0.N, win0_5.index t 0 = t.val % 11 ∧ win0_5.index t 1 = t.val / 11)
theorem idx6 : ∀ t : Fin cfg0.N, win0_6.index t 0 = t.val % 11 ∧ win0_6.index t 1 = t.val / 11 :=
  (by decide +kernel : ∀ t : Fin grid0.N, win0_6.index t 0 = t.val % 11 ∧ win0_6.index t 1 = t.val / 11)
theorem idx7 : ∀ t : Fin cfg0.N, win0_7.index t 0 = 0 ∧ win0_7.index t 1 = t.val / 11 :=
  (by decide +kernel : ∀ t : Fin grid0.N, win0_7.index t 0 = 0 ∧ win0_7.index t 1 = t.val / 11)
theorem idx8 : ∀ t : Fin cfg0.N, win0_8.index t 0 = 0 ∧ win0_8.index t 1 = 0 :=
  (by decide +kernel : ∀ t : Fin grid0.N, win0_8.index t 0 = 0 ∧ win0_8.index t 1 = 0)

theorem read0 (A : Vec Ideal S8448x2048 .bf16) (h : Fin 8) (i : Fin 11) (r : Fin 768) (e : Fin 256) :
    ((cfg0.win 0).blk (pt h i)).view.read (Elt Ideal) A (ix2 r e : S768x256.Idx) = A (ix2 ⟨768 * i.val + r.val, by omega⟩ ⟨256 * h.val + e.val, by omega⟩) := by
  rw [View.read_apply]
  show A _ = A _
  congr 1
  funext a
  apply Fin.ext
  match a with
  | ⟨0, _⟩ => show win0_0.index (pt h i) 0 * 768 + 1 * r.val = 768 * i.val + r.val; rw [(idx0 (pt h i)).1, pt_mod]; omega
  | ⟨1, _⟩ => show win0_0.index (pt h i) 1 * 256 + 1 * e.val = 256 * h.val + e.val; rw [(idx0 (pt h i)).2, pt_div]; omega

theorem inp_q (c : Dev nD) (h : Fin 8) (i : Fin 11) (r : Fin 768) (e : Fin 256) :
    (inp m c (pt h i)).q (ix2 r e) = V m c main_v37 (ix2 ⟨768 * i.val + r.val, by omega⟩ ⟨256 * h.val + e.val, by omega⟩ : S8448x2048.Idx) :=
  read0 (V m c main_v37) h i r e

theorem read1 (A : Vec Ideal S8448x1024 .bf16) (h : Fin 8) (i : Fin 11) (r : Fin 8448) (e : Fin 128) :
    ((cfg0.win 1).blk (pt h i)).view.read (Elt Ideal) A (ix2 r e : S8448x128.Idx) = A (ix2 ⟨r.val, by omega⟩ ⟨128 * h.val + e.val, by omega⟩) := by
  rw [View.read_apply]
  show A _ = A _
  congr 1
  funext a
  apply Fin.ext
  match a with
  | ⟨0, _⟩ => show win0_1.index (pt h i) 0 * 8448 + 1 * r.val = r.val; rw [(idx1 (pt h i)).1]; omega
  | ⟨1, _⟩ => show win0_1.index (pt h i) 1 * 128 + 1 * e.val = 128 * h.val + e.val; rw [(idx1 (pt h i)).2, pt_div]; omega

theorem inp_kv (c : Dev nD) (h : Fin 8) (i : Fin 11) (r : Fin 8448) (e : Fin 128) :
    (inp m c (pt h i)).kv (ix2 r e) = V m c main_v40 (ix2 ⟨r.val, by omega⟩ ⟨128 * h.val + e.val, by omega⟩ : S8448x1024.Idx) :=
  read1 (V m c main_v40) h i r e

theorem read2 (A : Vec Ideal S8448x128 .bf16) (h : Fin 8) (i : Fin 11) (r : Fin 8448) (e : Fin 128) :
    ((cfg0.win 2).blk (pt h i)).view.read (Elt Ideal) A (ix2 r e : S8448x128.Idx) = A (ix2 ⟨r.val, by omega⟩ ⟨e.val, by omega⟩) := by
  rw [View.read_apply]
  show A _ = A _
  congr 1
  funext a
  apply Fin.ext
  match a with
  | ⟨0, _⟩ => show win0_2.index (pt h i) 0 * 8448 + 1 * r.val = r.val; rw [(idx2 (pt h i)).1]; omega
  | ⟨1, _⟩ => show win0_2.index (pt h i) 1 * 128 + 1 * e.val = e.val; rw [(idx2 (pt h i)).2]; omega

theorem inp_kr (c : Dev nD) (h : Fin 8) (i : Fin 11) (r : Fin 8448) (e : Fin 128) :
    (inp m c (pt h i)).kr (ix2 r e) = V m c main_v43 (ix2 ⟨r.val, by omega⟩ ⟨e.val, by omega⟩ : S8448x128.Idx) :=
  read2 (V m c main_v43) h i r e

theorem read3 (A : Vec Ideal S8448x1024 .bf16) (h : Fin 8) (i : Fin 11) (r : Fin 768) (e : Fin 128) :
    ((cfg0.win 3).blk (pt h i)).view.read (Elt Ideal) A (ix2 r e : S768x128.Idx) = A (ix2 ⟨768 * i.val + r.val, by omega⟩ ⟨128 * h.val + e.val, by omega⟩) := by
  rw [View.read_apply]
  show A _ = A _
  congr 1
  funext a
  apply Fin.ext
  match a with
  | ⟨0, _⟩ => show win0_3.index (pt h i) 0 * 768 + 1 * r.val = 768 * i.val + r.val; rw [(idx3 (pt h i)).1, pt_mod]; omega
  | ⟨1, _⟩ => show win0_3.index (pt h i) 1 * 128 + 1 * e.val = 128 * h.val + e.val; rw [(idx3 (pt h i)).2, pt_div]; omega

theorem inp_cot (c : Dev nD) (h : Fin 8) (i : Fin 11) (r : Fin 768) (e : Fin 128) :
    (inp m c (pt h i)).cot (ix2 r e) = V m c main_v47 (ix2 ⟨768 * i.val + r.val, by omega⟩ ⟨128 * h.val + e.val, by omega⟩ : S8448x1024.Idx) :=
  read3 (V m c main_v47) h i r e

theorem read4 (A : Vec Ideal S8448x1024 .f32) (h : Fin 8) (i : Fin 11) (r : Fin 768) (e : Fin 128) :
    ((cfg0.win 4).blk (pt h i)).view.read (Elt Ideal) A (ix2 r e : S768x128.Idx) = A (ix2 ⟨768 * i.val + r.val, by omega⟩ ⟨128 * h.val + e.val, by omega⟩) := by
  rw [View.read_apply]
  show A _ = A _
  congr 1
  funext a
  apply Fin.ext
  match a with
  | ⟨0, _⟩ => show win0_4.index (pt h i) 0 * 768 + 1 * r.val = 768 * i.val + r.val; rw [(idx4 (pt h i)).1, pt_mod]; omega
  | ⟨1, _⟩ => show win0_4.index (pt h i) 1 * 128 + 1 * e.val = 128 * h.val + e.val; rw [(idx4 (pt h i)).2, pt_div]; omega

theorem inp_lse (c : Dev nD) (h : Fin 8) (i : Fin 11) (r : Fin 768) (e : Fin 128) :
    (inp m c (pt h i)).lse (ix2 r e) = V m c main_v51 (ix2 ⟨768 * i.val + r.val, by omega⟩ ⟨128 * h.val + e.val, by omega⟩ : S8448x1024.Idx) :=
  read4 (V m c main_v51) h i r e

theorem read5 (A : Vec Ideal S8448x1024 .f32) (h : Fin 8) (i : Fin 11) (r : Fin 768) (e : Fin 128) :
    ((cfg0.win 5).blk (pt h i)).view.read (Elt Ideal) A (ix2 r e : S768x128.Idx) = A (ix2 ⟨768 * i.val + r.val, by omega⟩ ⟨128 * h.val + e.val, by omega⟩) := by
  rw [View.read_apply]
  show A _ = A _
  congr 1
  funext a
  apply Fin.ext
  match a with
  | ⟨0, _⟩ => show win0_5.index (pt h i) 0 * 768 + 1 * r.val = 768 * i.val + r.val; rw [(idx5 (pt h i)).1, pt_mod]; omega
  | ⟨1, _⟩ => show win0_5.index (pt h i) 1 * 128 + 1 * e.val = 128 * h.val + e.val; rw [(idx5 (pt h i)).2, pt_div]; omega

theorem inp_dl (c : Dev nD) (h : Fin 8) (i : Fin 11) (r : Fin 768) (e : Fin 128) :
    (inp m c (pt h i)).dl (ix2 r e) = V m c main_v56 (ix2 ⟨768 * i.val + r.val, by omega⟩ ⟨128 * h.val + e.val, by omega⟩ : S8448x1024.Idx) :=
  read5 (V m c main_v56) h i r e

/-- What position `n` adds to the gradient of the keys and values, and to that of the shared keys. -/
def addKv (c : Dev nD) (k : Fin 8448) (e : Fin 128) (n : ℕ) : EReal := if h : n < cfg0.N then tkv (inp m c ⟨n, h⟩) (n % 11) k e else 0
def addKr (c : Dev nD) (k : Fin 8448) (e : Fin 128) (n : ℕ) : EReal := if h : n < cfg0.N then tkr (inp m c ⟨n, h⟩) (n % 11) k e else 0

theorem accAt_dkv (c : Dev nD) (k : Fin 8448) (e : Fin 128) : ∀ (n : ℕ) (hn : n < cfg0.N),
    (accAt m c n hn).dkv (ix2 k e) = ∑ j ∈ Finset.range (n % 11 + 1), addKv m c k e (11 * (n / 11) + j)
  | 0, hn => by
    rw [accAt_zero, point_dkv _ (by omega), if_pos (by omega), zero_add, show 0 % 11 + 1 = 1 from rfl, Finset.sum_range_one]
    unfold addKv
    rw [dif_pos (show 11 * (0 / 11) + 0 < cfg0.N from hn)]
  | n + 1, hn => by
    have h1 : addKv m c k e (n + 1) = tkv (inp m c ⟨n + 1, hn⟩) ((n + 1) % 11) k e := dif_pos hn
    rw [accAt_succ, point_dkv _ (by omega), ← h1]
    by_cases h0 : (n + 1) % 11 = 0
    · rw [if_pos h0, zero_add, h0, Nat.zero_add, Finset.sum_range_one, show 11 * ((n + 1) / 11) + 0 = n + 1 by omega]
    · rw [if_neg h0, accAt_dkv c k e n, Finset.sum_range_succ _ ((n + 1) % 11), show (n + 1) % 11 = n % 11 + 1 by omega,
        show (n + 1) / 11 = n / 11 by omega, show 11 * (n / 11) + (n % 11 + 1) = n + 1 by omega]

theorem accAt_dkr (c : Dev nD) (k : Fin 8448) (e : Fin 128) : ∀ (n : ℕ) (hn : n < cfg0.N),
    (accAt m c n hn).dkr (ix2 k e) = ∑ j ∈ Finset.range (n + 1), addKr m c k e j
  | 0, hn => by
    rw [accAt_zero, point_dkr _ (by omega), if_pos (by omega), zero_add, show 0 + 1 = 1 from rfl, Finset.sum_range_one]
    unfold addKr
    rw [dif_pos hn]
  | n + 1, hn => by
    have h1 : addKr m c k e (n + 1) = tkr (inp m c ⟨n + 1, hn⟩) ((n + 1) % 11) k e := dif_pos hn
    have h88 : n + 1 < 88 := lt_of_lt_of_eq hn N_0
    rw [accAt_succ, point_dkr _ (by omega), ← h1, if_neg (by omega), accAt_dkr c k e n, Finset.sum_range_succ _ (n + 1)]

theorem accAt_dq (c : Dev nD) (r : Fin 768) (e : Fin 256) (n : ℕ) (hn : n < cfg0.N) :
    (accAt m c n hn).dq (ix2 r e) = ∑ k : Fin 8448, ds (inp m c ⟨n, hn⟩) (n % 11) r k * cat (inp m c ⟨n, hn⟩) k e := by
  cases n with
  | zero => rw [accAt_zero, point_dq _ (by omega)]
  | succ n => rw [accAt_succ, point_dq _ (by omega)]

theorem flush6 : ∀ t : Fin cfg0.N, (cfg0.win 6).flush t = true := (by decide +kernel : ∀ t : Fin grid0.N, win0_6.flush t = true)
theorem flush7 : ∀ t : Fin cfg0.N, (cfg0.win 7).flush t = true ↔ t.val % 11 = 10 := (by decide +kernel : ∀ t : Fin grid0.N, win0_7.flush t = true ↔ t.val % 11 = 10)
theorem flush8 : ∀ t : Fin cfg0.N, (cfg0.win 8).flush t = true ↔ t.val = 87 := (by decide +kernel : ∀ t : Fin grid0.N, win0_8.flush t = true ↔ t.val = 87)

theorem apart6 : ∀ t t' : Fin cfg0.N, (cfg0.win 6).flush t = true → (cfg0.win 6).flush t' = true → t ≠ t' →
    Disjoint ((cfg0.win 6).blk t).view.set ((cfg0.win 6).blk t').view.set := fun t t' _ _ hne =>
  (cfg0.win 6).disjoint_blk fun h => hne (Fin.ext (by
    have h0 : win0_6.index t 0 = win0_6.index t' 0 := congrFun h 0
    have h1 : win0_6.index t 1 = win0_6.index t' 1 := congrFun h 1
    rw [(idx6 t).1, (idx6 t').1] at h0
    rw [(idx6 t).2, (idx6 t').2] at h1
    omega))

theorem apart7 : ∀ t t' : Fin cfg0.N, (cfg0.win 7).flush t = true → (cfg0.win 7).flush t' = true → t ≠ t' →
    Disjoint ((cfg0.win 7).blk t).view.set ((cfg0.win 7).blk t').view.set := fun t t' ht ht' hne =>
  (cfg0.win 7).disjoint_blk fun h => hne (Fin.ext (by
    have h1 : win0_7.index t 1 = win0_7.index t' 1 := congrFun h 1
    rw [(idx7 t).2, (idx7 t').2] at h1
    have h2 := (flush7 t).mp ht
    have h3 := (flush7 t').mp ht'
    omega))

theorem apart8 : ∀ t t' : Fin cfg0.N, (cfg0.win 8).flush t = true → (cfg0.win 8).flush t' = true → t ≠ t' →
    Disjoint ((cfg0.win 8).blk t).view.set ((cfg0.win 8).blk t').view.set := fun t t' ht ht' hne =>
  absurd (Fin.ext (((flush8 t).mp ht).trans ((flush8 t').mp ht').symm)) hne

/-- The queries' gradient array. -/
theorem out6 (c : Dev nD) (h : Fin 8) (i : Fin 11) (r : Fin 768) (e : Fin 256) :
    (dats m 0 c).arrAt 6 cfg0.N (ix2 ⟨768 * i.val + r.val, by omega⟩ ⟨256 * h.val + e.val, by omega⟩ : S8448x2048.Idx)
      = ∑ k : Fin 8448, ds (inp m c (pt h i)) i.val r k * cat (inp m c (pt h i)) k e := by
  have hb := congrFun ((dats m 0 c).read_blk_arrAt_eq_flushed 6 apart6 cfg0.N (pt h i) (pt h i).isLt (flush6 _)) (ix2 r e : S768x256.Idx)
  have hg := accAt_dq m c r e (pt h i).val (pt h i).isLt
  rw [pt_mod] at hg
  rw [View.read_apply] at hb
  refine Eq.trans ?_ (hb.trans (Eq.trans ?_ hg))
  · show _ = (dats m 0 c).arrAt 6 cfg0.N _
    congr 1
    funext b
    apply Fin.ext
    match b with
    | ⟨0, _⟩ => show 768 * i.val + r.val = win0_6.index (pt h i) 0 * 768 + 1 * r.val; rw [(idx6 _).1, pt_mod]; omega
    | ⟨1, _⟩ => show 256 * h.val + e.val = win0_6.index (pt h i) 1 * 256 + 1 * e.val; rw [(idx6 _).2, pt_div]; omega
  · show ((cfg0.win 6).cut (grid0.coords (pt h i)) ((dats m 0 c).after 6 (pt h i))) (ix2 r e : S768x256.Idx) = _
    rw [after6]
    exact pay3_apply _ (ix2 r e)

/-- The keys' and values' gradient array. -/
theorem out7 (c : Dev nD) (h : Fin 8) (k : Fin 8448) (e : Fin 128) :
    (dats m 0 c).arrAt 7 cfg0.N (ix2 k ⟨128 * h.val + e.val, by omega⟩ : S8448x1024.Idx)
      = ∑ i : Fin 11, tkv (inp m c (pt h i)) i.val k e := by
  have hb := congrFun ((dats m 0 c).read_blk_arrAt_eq_flushed 7 apart7 cfg0.N (pt h 10) (pt h 10).isLt ((flush7 _).mpr (pt_mod h 10))) (ix2 k e : S8448x128.Idx)
  have hg := accAt_dkv m c k e (pt h 10).val (pt h 10).isLt
  rw [pt_mod, pt_div] at hg
  have hs : ∑ j ∈ Finset.range (((10 : Fin 11)).val + 1), addKv m c k e (11 * h.val + j) = ∑ i : Fin 11, tkv (inp m c (pt h i)) i.val k e := by
    rw [show ((10 : Fin 11)).val + 1 = 11 from rfl, Finset.sum_range]
    refine Finset.sum_congr rfl fun i _ => ?_
    unfold addKv
    rw [dif_pos (show 11 * h.val + i.val < cfg0.N from (pt h i).isLt), show (11 * h.val + i.val) % 11 = i.val by omega]
    rfl
  rw [hs] at hg
  rw [View.read_apply] at hb
  refine Eq.trans ?_ (hb.trans (Eq.trans ?_ hg))
  · show _ = (dats m 0 c).arrAt 7 cfg0.N _
    congr 1
    funext b
    apply Fin.ext
    match b with
    | ⟨0, _⟩ => show k.val = win0_7.index (pt h 10) 0 * 8448 + 1 * k.val; rw [(idx7 _).1]; omega
    | ⟨1, _⟩ => show 128 * h.val + e.val = win0_7.index (pt h 10) 1 * 128 + 1 * e.val; rw [(idx7 _).2, pt_div]; omega
  · show ((cfg0.win 7).cut (grid0.coords (pt h 10)) ((dats m 0 c).after 7 (pt h 10))) (ix2 k e : S8448x128.Idx) = _
    rw [after7]
    rfl

/-- The shared keys' gradient array. -/
theorem out8 (c : Dev nD) (k : Fin 8448) (e : Fin 128) :
    (dats m 0 c).arrAt 8 cfg0.N (ix2 k e : S8448x128.Idx) = ∑ h : Fin 8, ∑ i : Fin 11, tkr (inp m c (pt h i)) i.val k e := by
  have hb := congrFun ((dats m 0 c).read_blk_arrAt_eq_flushed 8 apart8 cfg0.N (pt 7 10) (pt 7 10).isLt ((flush8 _).mpr rfl)) (ix2 k e : S8448x128.Idx)
  have hg := accAt_dkr m c k e (pt 7 10).val (pt 7 10).isLt
  have hs : ∑ j ∈ Finset.range ((pt 7 10).val + 1), addKr m c k e j = ∑ h : Fin 8, ∑ i : Fin 11, tkr (inp m c (pt h i)) i.val k e := by
    rw [show (pt 7 10).val + 1 = 88 from rfl, Finset.sum_range, ← Fintype.sum_prod_type' (fun (h : Fin 8) (i : Fin 11) => tkr (inp m c (pt h i)) i.val k e)]
    refine (Fintype.sum_equiv (finProdFinEquiv (m := 8) (n := 11)) _ _ fun p => ?_).symm
    unfold addKr
    have hv : (finProdFinEquiv p).val = (pt p.1 p.2).val := by
      rw [finProdFinEquiv_apply_val, pt_val]; omega
    rw [hv, dif_pos (pt p.1 p.2).isLt, pt_mod]
  rw [hs] at hg
  rw [View.read_apply] at hb
  refine Eq.trans ?_ (hb.trans (Eq.trans ?_ hg))
  · show _ = (dats m 0 c).arrAt 8 cfg0.N _
    congr 1
    funext b
    apply Fin.ext
    match b with
    | ⟨0, _⟩ => show k.val = win0_8.index (pt 7 10) 0 * 8448 + 1 * k.val; rw [(idx8 _).1]; omega
    | ⟨1, _⟩ => show e.val = win0_8.index (pt 7 10) 1 * 128 + 1 * e.val; rw [(idx8 _).2]; omega
  · show ((cfg0.win 8).cut (grid0.coords (pt 7 10)) ((dats m 0 c).after 8 (pt 7 10))) (ix2 k e : S8448x128.Idx) = _
    rw [after8]
    rfl

end Cert.AttnKernelIdeal.Hand
end
-- ==== Proof.AttnEntry.lean ====
module
public import proofs.«01_k».proof.Proof.AttnRef
public import proofs.«01_k».proof.Proof.AttnOut
@[expose] public section
set_option maxRecDepth 16384
noncomputable section
open Idealize.ShloMosaic Idealize.ShloMosaic.TcCoe Idealize.SL.Sem
namespace Cert.AttnAlg
open Cert.AttnKernelIdeal Cert.AttnKernelIdeal.Gen Cert.AttnKernelIdeal.Hand
variable (m : (ℓ : Loc nD τ sig) → Buf (Elt Ideal) ℓ)

/-! The arrays the host prepares for the kernel, as expressions of the arguments. -/

/-- One over the logarithm of two. -/
def hostLog2e : FVec Ideal S_ .f32 := Host.divf (constant S_ .f32 0x3F800000#32) (Host.log (constant S_ .f32 0x40000000#32))
/-- The scaled queries. -/
def hostQ (x0 : FVec Ideal S8448x8x64 .f32) (x1 : FVec Ideal S8448x8x32 .f32) : FVec Ideal S8448x8x256 .f32 :=
  mulf (concatenate S8448x8x256 2 [⟨S8448x8x64, x0⟩, ⟨S8448x8x64, broadcastInDim S8448x8x64 ![] bcast_S_S8448x8x64 (constant (F := Ideal) S_ .f32 0x00000000#32)⟩, ⟨S8448x8x32, x1⟩, ⟨S8448x8x96, broadcastInDim S8448x8x96 ![] bcast_S_S8448x8x96 (constant (F := Ideal) S_ .f32 0x00000000#32)⟩] concatenates_S8448x8x64_S8448x8x64_S8448x8x32_S8448x8x96_S8448x8x256_d2)
    (broadcastInDim S8448x8x256 ![] bcast_S_S8448x8x256 (mulf (constant S_ .f32 0x3DD105EC#32) hostLog2e))
/-- The keys beside the values. -/
def hostKv (x2 x4 : FVec Ideal S8448x8x64 .f32) : FVec Ideal S8448x8x128 .f32 :=
  concatenate S8448x8x128 2 [⟨S8448x8x64, x2⟩, ⟨S8448x8x64, x4⟩] concatenates_S8448x8x64_S8448x8x64_S8448x8x128_d2
/-- The shared rotary keys. -/
def hostKr (x3 : FVec Ideal S8448x32 .f32) : FVec Ideal S8448x128 .f32 :=
  concatenate S8448x128 1 [⟨S8448x32, x3⟩, ⟨S8448x96, broadcastInDim S8448x96 ![] bcast_S_S8448x96 (constant (F := Ideal) S_ .f32 0x00000000#32)⟩] concatenates_S8448x32_S8448x96_S8448x128_d1
/-- The output's gradient under the values. -/
def hostD (x5 : FVec Ideal S8448x8x64 .f32) : FVec Ideal S8448x8x128 .f32 :=
  hostKv (broadcastInDim S8448x8x64 ![] bcast_S_S8448x8x64 (constant (F := Ideal) S_ .f32 0x00000000#32)) x5
/-- A row's number on every lane. -/
def hostLanes (y : FVec Ideal S8448x8 .f32) : FVec Ideal S8448x8x128 .f32 :=
  broadcastInDim S8448x8x128 ![0, 1, 2] bcast_S8448x8x1_S8448x8x128_0_1_2 (broadcastInDim S8448x8x1 ![0, 1] bcast_S8448x8_S8448x8x1_0_1 y)
/-- A row's number beside every key. -/
def hostKeys (y : FVec Ideal S8x8448 .f32) : FVec Ideal S8x8448x8448 .f32 :=
  broadcastInDim S8x8448x8448 ![0, 1, 2] bcast_S8x8448x1_S8x8448x8448_0_1_2 (broadcastInDim S8x8448x1 ![0, 1] bcast_S8x8448_S8x8448x1_0_1 y)
/-- The exponentials of masked scores `s` less their maxima `y`. -/
def hostE (s : FVec Ideal S8x8448x8448 .f32) (y : FVec Ideal S8x8448 .f32) : FVec Ideal S8x8448x8448 .f32 := Host.exp (subf s (hostKeys y))
/-- Their sums. -/
def hostL (E : FVec Ideal S8x8448x8448 .f32) : FVec Ideal S8x8448 .f32 :=
  Host.reduceAdd E (constant (F := Ideal) S_ .f32 0x00000000#32) reducesTo_S8x8448x8448_S8x8448_d2 h_S_
/-- The saved rows: the base-2 logarithm of each row's sum. -/
def hostRow (y l : FVec Ideal S8x8448 .f32) : FVec Ideal S8448x8 .f32 :=
  transpose S8448x8 [1, 0] (mulf (addf y (Host.log l)) (broadcastInDim S8x8448 ![] bcast_S_S8x8448 hostLog2e)) transposes_S8x8448_S8448x8_1_0
/-- The output. -/
def hostO (x4 : FVec Ideal S8448x8x64 .f32) (E : FVec Ideal S8x8448x8448 .f32) (l : FVec Ideal S8x8448 .f32) : FVec Ideal S8448x8x64 .f32 :=
  transpose S8448x8x64 [2, 0, 1] (Host.dotGeneral dot_S8448x8x64_S8x8448x8448_S8x64x8448_0_2_2_1_1_0 none x4 (Host.divf E (hostKeys l))) transposes_S8x64x8448_S8448x8x64_2_0_1
/-- The output's product with its gradient. -/
def hostDelta (x5 o : FVec Ideal S8448x8x64 .f32) : FVec Ideal S8448x8 .f32 :=
  Host.reduceAdd (mulf x5 o) (constant (F := Ideal) S_ .f32 0x00000000#32) reducesTo_S8448x8x64_S8448x8_d2 h_S_

theorem V_q (c : Dev nD) : (V m c main_v37 : S8448x2048.Idx → EReal)
    = shapeCast S8448x2048 (hostQ (m ((c : Thread nD τ).loc main_arg0)) (m ((c : Thread nD τ).loc main_arg1))) shapeCasts_S8448x8x256_S8448x2048 := by
  unfold V V0
  simp only [List.flatten_cons, List.flatten_nil, List.append_nil, List.cons_append, List.nil_append]
  after_results_simp
  rfl
theorem V_kv (c : Dev nD) : (V m c main_v40 : S8448x1024.Idx → EReal)
    = shapeCast S8448x1024 (hostKv (m ((c : Thread nD τ).loc main_arg2)) (m ((c : Thread nD τ).loc main_arg4))) shapeCasts_S8448x8x128_S8448x1024 := by
  unfold V V0
  simp only [List.flatten_cons, List.flatten_nil, List.append_nil, List.cons_append, List.nil_append]
  after_results_simp
  rfl
theorem V_kr (c : Dev nD) : (V m c main_v43 : S8448x128.Idx → EReal) = hostKr (m ((c : Thread nD τ).loc main_arg3)) := by
  unfold V V0
  simp only [List.flatten_cons, List.flatten_nil, List.append_nil, List.cons_append, List.nil_append]
  after_results_simp
  rfl
theorem V_cot (c : Dev nD) : (V m c main_v47 : S8448x1024.Idx → EReal)
    = shapeCast S8448x1024 (hostD (m ((c : Thread nD τ).loc main_arg5))) shapeCasts_S8448x8x128_S8448x1024 := by
  unfold V V0
  simp only [List.flatten_cons, List.flatten_nil, List.append_nil, List.cons_append, List.nil_append]
  after_results_simp
  rfl

/-- The masked scores and their maxima are the reference's. -/
abbrev refS (c : Dev nD) : S8x8448x8448.Idx → EReal := Cert.AttnReferenceIdeal.Read.val_main_v12_0 (F := Ideal) (m ((c : Thread nD τ).loc main_arg0)) (m ((c : Thread nD τ).loc main_arg1)) (m ((c : Thread nD τ).loc main_arg2)) (m ((c : Thread nD τ).loc main_arg3))
abbrev refM (c : Dev nD) : S8x8448.Idx → EReal := Cert.AttnReferenceIdeal.Read.val_main_v13 (F := Ideal) (m ((c : Thread nD τ).loc main_arg0)) (m ((c : Thread nD τ).loc main_arg1)) (m ((c : Thread nD τ).loc main_arg2)) (m ((c : Thread nD τ).loc main_arg3))

theorem V_lse (c : Dev nD) : (V m c main_v51 : S8448x1024.Idx → EReal)
    = shapeCast S8448x1024 (hostLanes (hostRow (refM m c) (hostL (hostE (refS m c) (refM m c))))) shapeCasts_S8448x8x128_S8448x1024 := by
  unfold V V0
  simp only [List.flatten_cons, List.flatten_nil, List.append_nil, List.cons_append, List.nil_append]
  after_results_simp
  rfl
theorem V_dl (c : Dev nD) : (V m c main_v56 : S8448x1024.Idx → EReal)
    = shapeCast S8448x1024 (hostLanes (hostDelta (m ((c : Thread nD τ).loc main_arg5)) (hostO (m ((c : Thread nD τ).loc main_arg4)) (hostE (refS m c) (refM m c)) (hostL (hostE (refS m c) (refM m c)))))) shapeCasts_S8448x8x128_S8448x1024 := by
  unfold V V0
  simp only [List.flatten_cons, List.flatten_nil, List.append_nil, List.cons_append, List.nil_append]
  after_results_simp
  rfl

/-! The same read at an index. -/

theorem log_two : (Ideal.log ((2 : ℝ) : EReal)) = ((Real.log 2 : ℝ) : EReal) := by
  rw [Ideal.log_coe, if_neg (by norm_num)]
theorem log2e_apply (i : S_.Idx) : hostLog2e i = ((1 / Real.log 2 : ℝ) : EReal) := by
  unfold hostLog2e
  pointwise
  rw [show Ideal.ofBits FTy.f32 1073741824#32 = ((2 : ℝ) : EReal) from word_two, log_two]
  rw [show (1 : EReal) = ((1 : ℝ) : EReal) from rfl, div_real _ (Real.log_pos (by norm_num)).ne']
theorem hostQ_apply (x0 : S8448x8x64.Idx → EReal) (x1 : S8448x8x32.Idx → EReal) (q : Fin 8448) (h : Fin 8) (e : Fin 256) : hostQ x0 x1 (ix3 q h e)
    = (if h1 : e.val < 64 then x0 (ix3 q h ⟨e.val, h1⟩) else if e.val - 64 < 64 then 0 else if h2 : e.val - 64 - 64 < 32 then x1 (ix3 q h ⟨e.val - 64 - 64, h2⟩) else 0)
      * ((FloatOps.ofBits (F := Ideal) .f32 0x3DD105EC#32 : EReal) * ((1 / Real.log 2 : ℝ) : EReal)) := by
  unfold hostQ
  pointwise
  rw [log2e_apply]
  rfl
theorem hostKv_apply (x0 x1 : S8448x8x64.Idx → EReal) (q : Fin 8448) (h : Fin 8) (e : Fin 128) : hostKv x0 x1 (ix3 q h e)
    = if h1 : e.val < 64 then x0 (ix3 q h ⟨e.val, h1⟩) else x1 (ix3 q h ⟨e.val - 64, by omega⟩) := by
  unfold hostKv
  pointwise
theorem hostD_apply (x1 : S8448x8x64.Idx → EReal) (q : Fin 8448) (h : Fin 8) (e : Fin 128) : hostD x1 (ix3 q h e)
    = if h1 : e.val < 64 then 0 else x1 (ix3 q h ⟨e.val - 64, by omega⟩) := by
  unfold hostD
  rw [hostKv_apply]
  split_ifs
  · exact word_zero
  · rfl
theorem hostKr_apply (x3 : S8448x32.Idx → EReal) (k : Fin 8448) (e : Fin 128) : hostKr x3 (ix2 k e)
    = if h1 : e.val < 32 then x3 (ix2 k ⟨e.val, h1⟩) else 0 := by
  unfold hostKr
  pointwise
theorem hostLanes_apply (x0 : S8448x8.Idx → EReal) (q : Fin 8448) (h : Fin 8) (e : Fin 128) : hostLanes x0 (ix3 q h e) = x0 (ix2 q h) := by
  unfold hostLanes
  pointwise
theorem hostKeys_apply (x0 : S8x8448.Idx → EReal) (q k : Fin 8448) (h : Fin 8) : hostKeys x0 (ix3 h q k) = x0 (ix2 h q) := by
  unfold hostKeys
  pointwise
theorem hostL_apply (x0 : S8x8448x8448.Idx → EReal) (q : Fin 8448) (h : Fin 8) : hostL x0 (ix2 h q) = ∑ k, x0 (ix3 h q k) := by
  unfold hostL
  pointwise
theorem hostRow_apply (x0 x1 : S8x8448.Idx → EReal) (q : Fin 8448) (h : Fin 8) : hostRow x0 x1 (ix2 q h)
    = (x0 (ix2 h q) + Ideal.log (x1 (ix2 h q))) * ((1 / Real.log 2 : ℝ) : EReal) := by
  unfold hostRow
  pointwise
  rw [log2e_apply]
theorem hostDelta_apply (x0 x1 : S8448x8x64.Idx → EReal) (q : Fin 8448) (h : Fin 8) : hostDelta x0 x1 (ix2 q h) = ∑ e, x0 (ix3 q h e) * x1 (ix3 q h e) := by
  unfold hostDelta
  pointwise
theorem hostO_apply (x0 : S8448x8x64.Idx → EReal) (E : S8x8448x8448.Idx → EReal) (x1 : S8x8448.Idx → EReal) (q : Fin 8448) (h : Fin 8) (e : Fin 64) :
    hostO x0 E x1 (ix3 q h e) = ∑ k, x0 (ix3 k h e) * Ideal.div (E (ix3 h q k)) (x1 (ix2 h q)) := by
  unfold hostO
  pointwise
  simp only [hostKeys_apply]
theorem hostE_apply (s : S8x8448x8448.Idx → EReal) (y : S8x8448.Idx → EReal) (q k : Fin 8448) (h : Fin 8) :
    hostE s y (ix3 h q k) = Ideal.exp (s (ix3 h q k) - y (ix2 h q)) := by
  unfold hostE
  pointwise
  rw [hostKeys_apply]

/-! A head's rows laid side by side. -/

theorem cast256 (X : S8448x8x256.Idx → EReal) (q : Fin 8448) (h : Fin 8) (e : Fin 256) :
    shapeCast S8448x2048 X shapeCasts_S8448x8x256_S8448x2048 (ix2 q ⟨256 * h.val + e.val, by omega⟩) = X (ix3 q h e) := by
  refine shapeCast_apply X _ _ _ ?_
  rw [Shape.rowMajor_val_three, Shape.rowMajor_val_two]
  show (q.val * 8 + h.val) * 256 + e.val = q.val * 2048 + (256 * h.val + e.val)
  omega
theorem cast128 (X : S8448x8x128.Idx → EReal) (q : Fin 8448) (h : Fin 8) (e : Fin 128) :
    shapeCast S8448x1024 X shapeCasts_S8448x8x128_S8448x1024 (ix2 q ⟨128 * h.val + e.val, by omega⟩) = X (ix3 q h e) := by
  refine shapeCast_apply X _ _ _ ?_
  rw [Shape.rowMajor_val_three, Shape.rowMajor_val_two]
  show (q.val * 8 + h.val) * 128 + e.val = q.val * 1024 + (128 * h.val + e.val)
  omega

/-! On arrays of real numbers. -/

variable (A : Args) (w : ℝ) (M : Fin 8 → Fin 8448 → ℝ)

/-- The lanes of a scaled query row. -/
def QL (q : Fin 8448) (h : Fin 8) (e : Fin 256) : ℝ :=
  (if h1 : e.val < 64 then A.q q h ⟨e.val, h1⟩ else if e.val - 64 < 64 then 0 else if h2 : e.val - 64 - 64 < 32 then A.qr q h ⟨e.val - 64 - 64, h2⟩ else 0) * (w * (1 / Real.log 2))
/-- The lanes of a key beside its value. -/
def KV (k : Fin 8448) (h : Fin 8) (e : Fin 128) : ℝ := if h1 : e.val < 64 then A.k k h ⟨e.val, h1⟩ else A.v k h ⟨e.val - 64, by omega⟩
/-- The lanes of a shared rotary key. -/
def KR (k : Fin 8448) (e : Fin 128) : ℝ := if h1 : e.val < 32 then A.kr k ⟨e.val, h1⟩ else 0
/-- The lanes of the output's gradient. -/
def DL (q : Fin 8448) (h : Fin 8) (e : Fin 128) : ℝ := if h1 : e.val < 64 then 0 else A.d q h ⟨e.val - 64, by omega⟩
/-- Row `r` of query block `i`. -/
def row (i : Fin 11) (r : Fin 768) : Fin 8448 := ⟨768 * i.val + r.val, by omega⟩

/-- A point's inputs are the arrays' rows of head `h` and query block `i`. -/
structure Fits (x : Inp Ideal) (h : Fin 8) (i : Fin 11) : Prop where
  q : ∀ r e, x.q (ix2 r e) = ((QL A w (row i r) h e : ℝ) : EReal)
  kv : ∀ k e, x.kv (ix2 k e) = ((KV A k h e : ℝ) : EReal)
  kr : ∀ k e, x.kr (ix2 k e) = ((KR A k e : ℝ) : EReal)
  cot : ∀ r e, x.cot (ix2 r e) = ((DL A (row i r) h e : ℝ) : EReal)
  lse : ∀ r e, x.lse (ix2 r e) = (((M h (row i r) + Real.log (L A w M h (row i r))) * (1 / Real.log 2) : ℝ) : EReal)
  dl : ∀ r e, x.dl (ix2 r e) = ((Mean A w M h (row i r) : ℝ) : EReal)

/-- The arguments' arrays. -/
structure Reads (c : Dev nD) : Prop where
  q : m ((c : Thread nD τ).loc main_arg0) = up3 A.q
  qr : m ((c : Thread nD τ).loc main_arg1) = up3 A.qr
  k : m ((c : Thread nD τ).loc main_arg2) = up3 A.k
  kr : m ((c : Thread nD τ).loc main_arg3) = up2 A.kr
  v : m ((c : Thread nD τ).loc main_arg4) = up3 A.v
  d : m ((c : Thread nD τ).loc main_arg5) = up3 A.d

variable (hw : (FloatOps.ofBits (F := Ideal) .f32 0x3DD105EC#32 : EReal) = ((w : ℝ) : EReal))
  (hM : ∀ h q, Cert.AttnReferenceIdeal.Read.val_main_v13 (F := Ideal) (up3 A.q) (up3 A.qr) (up3 A.k) (up2 A.kr) (ix2 h q) = ((M h q : ℝ) : EReal))

theorem up_QL (q : Fin 8448) (h : Fin 8) (e : Fin 256) :
    (if h1 : e.val < 64 then up3 A.q (ix3 q h ⟨e.val, h1⟩) else if e.val - 64 < 64 then (0 : EReal) else if h2 : e.val - 64 - 64 < 32 then up3 A.qr (ix3 q h ⟨e.val - 64 - 64, h2⟩) else 0)
      * (((w : ℝ) : EReal) * ((1 / Real.log 2 : ℝ) : EReal)) = ((QL A w q h e : ℝ) : EReal) := by
  unfold QL
  rw [EReal.coe_mul, EReal.coe_mul w]
  congr 1
  split_ifs
  · rfl
  · rfl
  · rfl
  · rfl

include hw hM in
theorem host_exp (h : Fin 8) (q k : Fin 8448) :
    hostE (Cert.AttnReferenceIdeal.Read.val_main_v12_0 (F := Ideal) (up3 A.q) (up3 A.qr) (up3 A.k) (up2 A.kr)) (Cert.AttnReferenceIdeal.Read.val_main_v13 (F := Ideal) (up3 A.q) (up3 A.qr) (up3 A.k) (up2 A.kr)) (ix3 h q k)
      = ((E A w M h q k : ℝ) : EReal) := by
  rw [hostE_apply, hM, score_at A w hw]
  unfold E
  by_cases hk : k ≤ q
  · rw [if_pos hk, if_pos hk, ← EReal.coe_sub]; rfl
  · rw [if_neg hk, if_neg hk, EReal.bot_sub]; rfl

section
variable (X : S8x8448x8448.Idx → EReal) (hX : ∀ h q k, X (ix3 h q k) = ((E A w M h q k : ℝ) : EReal))
include hX

theorem host_sum (h : Fin 8) (q : Fin 8448) : hostL X (ix2 h q) = ((L A w M h q : ℝ) : EReal) := by
  rw [hostL_apply]; simp only [hX]; rw [coe_sum]; rfl
theorem host_out (h : Fin 8) (q : Fin 8448) (e : Fin 64) : hostO (up3 A.v) X (hostL X) (ix3 q h e) = ((∑ k, A.v k h e * Y A w M h q k : ℝ) : EReal) := by
  rw [hostO_apply, host_sum A w M X hX, ← coe_sum]
  refine Finset.sum_congr rfl fun k _ => ?_
  rw [hX, div_real _ (L_pos A w M h q).ne', EReal.coe_mul]
  rfl
theorem host_delta (h : Fin 8) (q : Fin 8448) : hostDelta (up3 A.d) (hostO (up3 A.v) X (hostL X)) (ix2 q h) = ((Mean A w M h q : ℝ) : EReal) := by
  rw [hostDelta_apply, Mean_eq, ← coe_sum]
  refine Finset.sum_congr rfl fun e _ => ?_
  rw [host_out A w M X hX, EReal.coe_mul]
  rfl
theorem host_row (y : S8x8448.Idx → EReal) (hy : ∀ h q, y (ix2 h q) = ((M h q : ℝ) : EReal)) (h : Fin 8) (q : Fin 8448) :
    hostRow y (hostL X) (ix2 q h) = (((M h q + Real.log (L A w M h q)) * (1 / Real.log 2) : ℝ) : EReal) := by
  rw [hostRow_apply, host_sum A w M X hX, hy, Ideal.log_coe, if_neg (not_le.2 (L_pos A w M h q)), ← EReal.coe_add, ← EReal.coe_mul]
end

include hw hM in
/-- What a point is handed. -/
theorem fits (c : Dev nD) (R : Reads m A c) (h : Fin 8) (i : Fin 11) : Fits A w M (inp m c (pt h i)) h i := by
  have hE := host_exp A w M hw hM
  constructor
  · intro r e
    rw [inp_q, V_q, R.q, R.qr]
    refine (cast256 _ _ h e).trans ?_
    rw [hostQ_apply, hw]
    exact up_QL A w _ h e
  · intro k e
    rw [inp_kv, V_kv, R.k, R.v]
    refine (cast128 _ _ h e).trans ?_
    rw [hostKv_apply]; unfold KV
    split_ifs
    · rfl
    · rfl
  · intro k e
    rw [inp_kr, V_kr, R.kr]
    refine (hostKr_apply _ _ e).trans ?_
    unfold KR
    split_ifs
    · rfl
    · rfl
  · intro r e
    rw [inp_cot, V_cot, R.d]
    refine (cast128 _ _ h e).trans ?_
    rw [hostD_apply]; unfold DL
    split_ifs
    · rfl
    · rfl
  · intro r e
    rw [inp_lse, V_lse, refS, refM, R.q, R.qr, R.k, R.kr]
    refine (cast128 _ _ h e).trans ?_
    rw [hostLanes_apply]
    exact host_row A w M _ hE _ hM h _
  · intro r e
    rw [inp_dl, V_dl, refS, refM, R.q, R.qr, R.k, R.kr, R.v, R.d]
    refine (cast128 _ _ h e).trans ?_
    rw [hostLanes_apply]
    exact host_delta A w M _ hE h _

end Cert.AttnAlg
-- ==== Proof.AttnKer.lean ====
module
public import proofs.«01_k».proof.Proof.AttnEntry
@[expose] public section
set_option maxRecDepth 16384
noncomputable section
open Idealize.ShloMosaic Idealize.ShloMosaic.TcCoe Idealize.SL.Sem
namespace Cert.AttnAlg
open Cert.AttnKernelIdeal Cert.AttnKernelIdeal.Gen Cert.AttnKernelIdeal.Hand

/-! What the points add, on arrays of real numbers. -/

variable (A : Args) (w : ℝ) (M : Fin 8 → Fin 8448 → ℝ)

/-- The lanes of a key row beside its shared rotary key. -/
def CAT (k : Fin 8448) (h : Fin 8) (e : Fin 256) : ℝ := if he : e.val < 128 then KV A k h ⟨e.val, he⟩ else KR A k ⟨e.val - 128, by omega⟩

/-- A sum over 256 lanes in the four parts of a row. -/
theorem sum256 (f : Fin 256 → ℝ) : ∑ e, f e = (∑ e : Fin 64, f ⟨e.val, by omega⟩) + ((∑ e : Fin 64, f ⟨64 + e.val, by omega⟩)
    + ((∑ e : Fin 32, f ⟨128 + e.val, by omega⟩) + ∑ e : Fin 96, f ⟨160 + e.val, by omega⟩)) := by
  rw [Fin.sum_univ_add (a := 64) (b := 192) f]
  congr 1
  rw [Fin.sum_univ_add (a := 64) (b := 128) fun i => f (Fin.natAdd 64 i)]
  congr 1
  rw [Fin.sum_univ_add (a := 32) (b := 96) fun i => f (Fin.natAdd 64 (Fin.natAdd 64 i))]
  refine congrArg₂ (· + ·) ?_ ?_
  · exact Finset.sum_congr rfl fun e _ => congrArg f (Fin.ext (by show 64 + (64 + e.val) = 128 + e.val; omega))
  · exact Finset.sum_congr rfl fun e _ => congrArg f (Fin.ext (by show 64 + (64 + (32 + e.val)) = 160 + e.val; omega))

theorem sum128 (f : Fin 128 → ℝ) : ∑ e, f e = (∑ e : Fin 64, f ⟨e.val, by omega⟩) + ∑ e : Fin 64, f ⟨64 + e.val, by omega⟩ :=
  Fin.sum_univ_add (a := 64) (b := 64) f

theorem QL_q (q : Fin 8448) (h : Fin 8) (e : Fin 64) : QL A w q h ⟨e.val, by omega⟩ = A.q q h e * (w * (1 / Real.log 2)) := by
  unfold QL; rw [dif_pos e.isLt]
theorem QL_gap (q : Fin 8448) (h : Fin 8) (e : Fin 64) : QL A w q h ⟨64 + e.val, by omega⟩ = 0 := by
  unfold QL; dsimp only; rw [dif_neg (by omega), if_pos (by omega), zero_mul]
theorem QL_qr (q : Fin 8448) (h : Fin 8) (e : Fin 32) : QL A w q h ⟨128 + e.val, by omega⟩ = A.qr q h e * (w * (1 / Real.log 2)) := by
  unfold QL; dsimp only; rw [dif_neg (by omega), if_neg (by omega), dif_pos (by omega)]
  exact congrArg (fun i => A.qr q h i * _) (Fin.ext (by show 128 + e.val - 64 - 64 = e.val; omega))
theorem QL_end (q : Fin 8448) (h : Fin 8) (e : Fin 96) : QL A w q h ⟨160 + e.val, by omega⟩ = 0 := by
  unfold QL; dsimp only; rw [dif_neg (by omega), if_neg (by omega), dif_neg (by omega), zero_mul]
theorem KV_k (k : Fin 8448) (h : Fin 8) (e : Fin 64) : KV A k h ⟨e.val, by omega⟩ = A.k k h e := by
  unfold KV; rw [dif_pos e.isLt]
theorem KV_v (k : Fin 8448) (h : Fin 8) (e : Fin 64) : KV A k h ⟨64 + e.val, by omega⟩ = A.v k h e := by
  unfold KV; dsimp only; rw [dif_neg (by omega)]
  exact congrArg (A.v k h) (Fin.ext (by show 64 + e.val - 64 = e.val; omega))
theorem DL_k (q : Fin 8448) (h : Fin 8) (e : Fin 64) : DL A q h ⟨e.val, by omega⟩ = 0 := by
  unfold DL; rw [dif_pos e.isLt]
theorem DL_v (q : Fin 8448) (h : Fin 8) (e : Fin 64) : DL A q h ⟨64 + e.val, by omega⟩ = A.d q h e := by
  unfold DL; dsimp only; rw [dif_neg (by omega)]
  exact congrArg (A.d q h) (Fin.ext (by show 64 + e.val - 64 = e.val; omega))
theorem CAT_k (k : Fin 8448) (h : Fin 8) (e : Fin 64) : CAT A k h ⟨e.val, by omega⟩ = A.k k h e := by
  unfold CAT; dsimp only; rw [dif_pos (by omega), KV_k]
theorem CAT_kr (k : Fin 8448) (h : Fin 8) (e : Fin 32) : CAT A k h ⟨128 + e.val, by omega⟩ = A.kr k e := by
  unfold CAT; dsimp only; rw [dif_neg (by omega)]; unfold KR; dsimp only; rw [dif_pos (by omega)]
  exact congrArg (A.kr k) (Fin.ext (by show 128 + e.val - 128 = e.val; omega))

/-- The scaled score. -/
theorem score_eq (q k : Fin 8448) (h : Fin 8) : (∑ e : Fin 256, QL A w q h e * CAT A k h e) = S A w h q k * (1 / Real.log 2) := by
  rw [sum256]
  simp only [QL_q, QL_gap, QL_qr, QL_end, CAT_k, CAT_kr, zero_mul, Finset.sum_const_zero, zero_add, add_zero]
  unfold S
  rw [add_mul, add_mul, Finset.sum_mul, Finset.sum_mul, Finset.sum_mul, Finset.sum_mul]
  congr 1
  · exact Finset.sum_congr rfl fun e _ => by ring
  · exact Finset.sum_congr rfl fun e _ => by ring

theorem prod_eq (q k : Fin 8448) (h : Fin 8) : (∑ e : Fin 128, DL A q h e * KV A k h e) = DP A h q k := by
  rw [sum128]
  simp only [DL_k, DL_v, KV_v, zero_mul, Finset.sum_const_zero, zero_add]
  rfl

section
variable {A w M} {x : Inp Ideal} {h : Fin 8} {i : Fin 11} (H : Fits A w M x h i)
include H

theorem fit_cat (k : Fin 8448) (e : Fin 256) : cat x k e = ((CAT A k h e : ℝ) : EReal) := by
  unfold cat CAT
  split_ifs
  · exact H.kv _ _
  · exact H.kr _ _

theorem fit_sc (r : Fin 768) (k : Fin 8448) : sc x r k = ((S A w h (row i r) k * (1 / Real.log 2) : ℝ) : EReal) := by
  unfold sc
  rw [← score_eq, ← coe_sum]
  exact Finset.sum_congr rfl fun e _ => by rw [H.q, fit_cat H, EReal.coe_mul]

theorem fit_pr (r : Fin 768) (k : Fin 8448) : pr x r k = ((DP A h (row i r) k : ℝ) : EReal) := by
  unfold pr
  rw [← prod_eq, ← coe_sum]
  exact Finset.sum_congr rfl fun e _ => by rw [H.cot, H.kv, EReal.coe_mul]

theorem fit_wt (r : Fin 768) (k : Fin 8448) : wt x i.val r k = ((Y A w M h (row i r) k : ℝ) : EReal) := by
  unfold wt
  by_cases hk : k.val ≤ 768 * i.val + r.val
  · rw [if_pos hk, fit_sc H, H.lse, ← EReal.coe_sub, Ideal.exp2_coe, pow_eq A w M h (row i r) k hk]
  · rw [if_neg hk, Y_after A w M h (row i r) k hk, EReal.coe_zero]

theorem fit_ds (r : Fin 768) (k : Fin 8448) : ds x i.val r k = ((DS A w M h (row i r) k : ℝ) : EReal) := by
  unfold ds
  rw [fit_wt H, fit_pr H, H.dl, ← EReal.coe_sub, ← EReal.coe_mul]
  rfl

theorem fit_dq (r : Fin 768) (e : Fin 256) : (∑ k : Fin 8448, ds x i.val r k * cat x k e) = ((∑ k, DS A w M h (row i r) k * CAT A k h e : ℝ) : EReal) := by
  rw [← coe_sum]
  exact Finset.sum_congr rfl fun k _ => by rw [fit_ds H, fit_cat H, EReal.coe_mul]

theorem fit_tkv (k : Fin 8448) (e : Fin 128) : tkv x i.val k e
    = ((∑ r : Fin 768, (Y A w M h (row i r) k * DL A (row i r) h e + DS A w M h (row i r) k * QL A w (row i r) h ⟨e.val, by omega⟩ * Real.log 2) : ℝ) : EReal) := by
  unfold tkv
  rw [Finset.sum_add_distrib, ← Finset.sum_mul, EReal.coe_add, EReal.coe_mul, ← coe_sum, ← coe_sum]
  refine congrArg₂ (fun a b : EReal => a + b * _) (Finset.sum_congr rfl fun r _ => ?_) (Finset.sum_congr rfl fun r _ => ?_)
  · rw [fit_wt H, H.cot, EReal.coe_mul]
  · rw [fit_ds H, H.q, EReal.coe_mul]

theorem fit_tkr (k : Fin 8448) (e : Fin 128) : tkr x i.val k e
    = ((∑ r : Fin 768, DS A w M h (row i r) k * QL A w (row i r) h ⟨128 + e.val, by omega⟩ * Real.log 2 : ℝ) : EReal) := by
  unfold tkr
  rw [← Finset.sum_mul, EReal.coe_mul, ← coe_sum]
  refine congrArg (fun b : EReal => b * _) (Finset.sum_congr rfl fun r _ => ?_)
  rw [fit_ds H, H.q, EReal.coe_mul]
end

/-! The three arrays the kernel leaves. -/

variable (m : (ℓ : Loc nD τ sig) → Buf (Elt Ideal) ℓ) (c : Dev nD)
  (H : ∀ h i, Fits A w M (inp m c (pt h i)) h i)

/-- The array of the queries' gradients. -/
def K6 : S8448x2048.Idx → EReal := (dats m 0 c).arrAt 6 cfg0.N
/-- The array of the keys' and values' gradients. -/
def K7 : S8448x1024.Idx → EReal := (dats m 0 c).arrAt 7 cfg0.N
/-- The array of the shared keys' gradients. -/
def K8 : S8448x128.Idx → EReal := (dats m 0 c).arrAt 8 cfg0.N

theorem K6_apply (h : Fin 8) (i : Fin 11) (r : Fin 768) (e : Fin 256) : K6 m c (ix2 (row i r) ⟨256 * h.val + e.val, by omega⟩)
    = ∑ k : Fin 8448, ds (inp m c (pt h i)) i.val r k * cat (inp m c (pt h i)) k e := out6 m c h i r e
theorem K7_apply (h : Fin 8) (k : Fin 8448) (e : Fin 128) : K7 m c (ix2 k ⟨128 * h.val + e.val, by omega⟩)
    = ∑ i : Fin 11, tkv (inp m c (pt h i)) i.val k e := out7 m c h k e
theorem K8_apply (k : Fin 8448) (e : Fin 128) : K8 m c (ix2 k e) = ∑ h : Fin 8, ∑ i : Fin 11, tkr (inp m c (pt h i)) i.val k e := out8 m c k e

include H

theorem ker_dq (q : Fin 8448) (h : Fin 8) (e : Fin 256) : K6 m c (ix2 q ⟨256 * h.val + e.val, by omega⟩)
    = ((∑ k, DS A w M h q k * CAT A k h e : ℝ) : EReal) := by
  obtain ⟨i, r, rfl⟩ : ∃ (i : Fin 11) (r : Fin 768), q = row i r :=
    ⟨⟨q.val / 768, by omega⟩, ⟨q.val % 768, by omega⟩, Fin.ext (by show q.val = 768 * (q.val / 768) + q.val % 768; omega)⟩
  exact (K6_apply m c h i r e).trans (fit_dq (H h i) r e)

theorem ker_dkv (k : Fin 8448) (h : Fin 8) (e : Fin 128) : K7 m c (ix2 k ⟨128 * h.val + e.val, by omega⟩)
    = ((∑ q, (Y A w M h q k * DL A q h e + DS A w M h q k * QL A w q h ⟨e.val, by omega⟩ * Real.log 2) : ℝ) : EReal) := by
  refine (K7_apply m c h k e).trans ?_
  rw [← sum_rows fun q => Y A w M h q k * DL A q h e + DS A w M h q k * QL A w q h ⟨e.val, by omega⟩ * Real.log 2, ← coe_sum]
  exact Finset.sum_congr rfl fun i _ => fit_tkv (H h i) k e

theorem ker_dkr (k : Fin 8448) (e : Fin 128) : K8 m c (ix2 k e)
    = ((∑ h, ∑ q, DS A w M h q k * QL A w q h ⟨128 + e.val, by omega⟩ * Real.log 2 : ℝ) : EReal) := by
  refine (K8_apply m c k e).trans ?_
  rw [← coe_sum]
  refine Finset.sum_congr rfl fun h _ => ?_
  rw [← sum_rows fun q => DS A w M h q k * QL A w q h ⟨128 + e.val, by omega⟩ * Real.log 2, ← coe_sum]
  exact Finset.sum_congr rfl fun i _ => fit_tkr (H h i) k e

/-! Their lanes. -/

theorem lane_dq (q : Fin 8448) (h : Fin 8) (e : Fin 64) : K6 m c (ix2 q ⟨256 * h.val + e.val, by omega⟩)
    * ((w : ℝ) : EReal) = ((∑ k, DS A w M h q k * w * A.k k h e : ℝ) : EReal) := by
  refine (congrArg (fun a : EReal => a * _) (ker_dq A w M m c H q h ⟨e.val, by omega⟩)).trans ?_
  rw [← EReal.coe_mul, Finset.sum_mul]
  refine congrArg (fun r : ℝ => (r : EReal)) ?_
  exact Finset.sum_congr rfl fun k _ => by rw [CAT_k]; ring

theorem lane_dqr (q : Fin 8448) (h : Fin 8) (e : Fin 32) : K6 m c (ix2 q ⟨256 * h.val + (128 + e.val), by omega⟩)
    * ((w : ℝ) : EReal) = ((∑ k, DS A w M h q k * w * A.kr k e : ℝ) : EReal) := by
  refine (congrArg (fun a : EReal => a * _) (ker_dq A w M m c H q h ⟨128 + e.val, by omega⟩)).trans ?_
  rw [← EReal.coe_mul, Finset.sum_mul]
  refine congrArg (fun r : ℝ => (r : EReal)) ?_
  exact Finset.sum_congr rfl fun k _ => by rw [CAT_kr]; ring

theorem lane_dk (k : Fin 8448) (h : Fin 8) (e : Fin 64) : K7 m c (ix2 k ⟨128 * h.val + e.val, by omega⟩)
    = ((∑ q, DS A w M h q k * w * A.q q h e : ℝ) : EReal) := by
  refine (ker_dkv A w M m c H k h ⟨e.val, by omega⟩).trans ?_
  refine congrArg (fun r : ℝ => (r : EReal)) ?_
  have h2 : Real.log 2 ≠ 0 := (Real.log_pos (by norm_num)).ne'
  exact Finset.sum_congr rfl fun q _ => by rw [DL_k, QL_q]; field_simp; ring

theorem lane_dv (k : Fin 8448) (h : Fin 8) (e : Fin 64) : K7 m c (ix2 k ⟨128 * h.val + (64 + e.val), by omega⟩)
    = ((∑ q, A.d q h e * Y A w M h q k : ℝ) : EReal) := by
  refine (ker_dkv A w M m c H k h ⟨64 + e.val, by omega⟩).trans ?_
  refine congrArg (fun r : ℝ => (r : EReal)) ?_
  exact Finset.sum_congr rfl fun q _ => by rw [DL_v, QL_gap]; ring

theorem lane_dkr (k : Fin 8448) (e : Fin 32) : K8 m c (ix2 k ⟨e.val, by omega⟩)
    = ((∑ q, ∑ h, DS A w M h q k * w * A.qr q h e : ℝ) : EReal) := by
  refine (ker_dkr A w M m c H k ⟨e.val, by omega⟩).trans ?_
  refine congrArg (fun r : ℝ => (r : EReal)) ?_
  rw [Finset.sum_comm]
  have h2 : Real.log 2 ≠ 0 := (Real.log_pos (by norm_num)).ne'
  exact Finset.sum_congr rfl fun q _ => Finset.sum_congr rfl fun h _ => by rw [QL_qr]; field_simp

end Cert.AttnAlg
-- ==== Proof.AttnAlg.lean ====
module
public import proofs.«01_k».proof.Defs
public import proofs.«01_k».proof.Proof.AttnKer
public import proofs.«01_k».proof.Proof.AttnFrame
public import proofs.«01_k».proof.Proof.Gen.AttnReferenceIdeal.Run
public import Idealize.ShloMosaic.Lib.ReduceAll
public import Idealize.ShloMosaic.Lib.Affine
public import proofs.«01_k».proof.Proof.Gen.Pre_attn_finite
@[expose] public section
set_option maxRecDepth 16384
noncomputable section
open Idealize.ShloMosaic Idealize.ShloMosaic.TcCoe Idealize.SL.Sem
namespace Cert.AttnAlg
open Cert.AttnKernelIdeal Cert.AttnKernelIdeal.Gen Cert.AttnKernelIdeal.Hand

/-! The arrays the host cuts out of what the kernel leaves. -/

/-- The scaled gradients of the query rows. -/
def cutQ (X : FVec Ideal S8448x2048 .bf16) : FVec Ideal S8448x8x256 .f32 :=
  mulf (shapeCast S8448x8x256 (extf .f32 X bitsLt_bf16_f32) shapeCasts_S8448x2048_S8448x8x256) (broadcastInDim S8448x8x256 ![] bcast_S_S8448x8x256 (constant (F := Ideal) S_ .f32 0x3DD105EC#32))
/-- The gradients of the key and value rows. -/
def cutKv (X : FVec Ideal S8448x1024 .f32) : FVec Ideal S8448x8x128 .f32 := shapeCast S8448x8x128 X shapeCasts_S8448x1024_S8448x8x128

theorem cutQ_apply (X : S8448x2048.Idx → EReal) (q : Fin 8448) (h : Fin 8) (e : Fin 256) :
    cutQ X (ix3 q h e) = X (ix2 q ⟨256 * h.val + e.val, by omega⟩) * (FloatOps.ofBits (F := Ideal) .f32 0x3DD105EC#32 : EReal) := by
  refine congrArg (fun a : EReal => a * _) (shapeCast_apply (α := EReal) X _ _ _ ?_)
  rw [Shape.rowMajor_val_three, Shape.rowMajor_val_two]
  show q.val * 2048 + (256 * h.val + e.val) = (q.val * 8 + h.val) * 256 + e.val
  omega
theorem cutKv_apply (X : S8448x1024.Idx → EReal) (q : Fin 8448) (h : Fin 8) (e : Fin 128) :
    cutKv X (ix3 q h e) = X (ix2 q ⟨128 * h.val + e.val, by omega⟩) := by
  refine shapeCast_apply X _ _ _ ?_
  rw [Shape.rowMajor_val_three, Shape.rowMajor_val_two]
  show q.val * 1024 + (128 * h.val + e.val) = (q.val * 8 + h.val) * 128 + e.val
  omega

/-- The five results. -/
def resDq (X : FVec Ideal S8448x2048 .bf16) : FVec Ideal S8448x8x64 .f32 := extractStridedSlice S8448x8x64 ![0, 0, 0] (cutQ X) slices_S8448x8x256_S8448x8x64_0_0_0
def resDqr (X : FVec Ideal S8448x2048 .bf16) : FVec Ideal S8448x8x32 .f32 := extractStridedSlice S8448x8x32 ![0, 0, 128] (cutQ X) slices_S8448x8x256_S8448x8x32_0_0_128
def resDk (X : FVec Ideal S8448x1024 .f32) : FVec Ideal S8448x8x64 .f32 := extractStridedSlice S8448x8x64 ![0, 0, 0] (cutKv X) slices_S8448x8x128_S8448x8x64_0_0_0
def resDkr (X : FVec Ideal S8448x128 .f32) : FVec Ideal S8448x32 .f32 := extractStridedSlice S8448x32 ![0, 0] X slices_S8448x128_S8448x32_0_0
def resDv (X : FVec Ideal S8448x1024 .f32) : FVec Ideal S8448x8x64 .f32 := extractStridedSlice S8448x8x64 ![0, 0, 64] (cutKv X) slices_S8448x8x128_S8448x8x64_0_0_64

theorem resDq_apply (X : S8448x2048.Idx → EReal) (q : Fin 8448) (h : Fin 8) (e : Fin 64) :
    resDq X (ix3 q h e) = X (ix2 q ⟨256 * h.val + e.val, by omega⟩) * (FloatOps.ofBits (F := Ideal) .f32 0x3DD105EC#32 : EReal) := by
  refine Eq.trans ?_ (cutQ_apply X q h ⟨e.val, by omega⟩)
  unfold resDq
  generalize cutQ X = Y
  pointwise
theorem resDqr_apply (X : S8448x2048.Idx → EReal) (q : Fin 8448) (h : Fin 8) (e : Fin 32) :
    resDqr X (ix3 q h e) = X (ix2 q ⟨256 * h.val + (128 + e.val), by omega⟩) * (FloatOps.ofBits (F := Ideal) .f32 0x3DD105EC#32 : EReal) := by
  refine Eq.trans ?_ (cutQ_apply X q h ⟨128 + e.val, by omega⟩)
  unfold resDqr
  generalize cutQ X = Y
  pointwise
theorem resDk_apply (X : S8448x1024.Idx → EReal) (q : Fin 8448) (h : Fin 8) (e : Fin 64) :
    resDk X (ix3 q h e) = X (ix2 q ⟨128 * h.val + e.val, by omega⟩) := by
  refine Eq.trans ?_ (cutKv_apply X q h ⟨e.val, by omega⟩)
  unfold resDk
  generalize cutKv X = Y
  pointwise
theorem resDv_apply (X : S8448x1024.Idx → EReal) (q : Fin 8448) (h : Fin 8) (e : Fin 64) :
    resDv X (ix3 q h e) = X (ix2 q ⟨128 * h.val + (64 + e.val), by omega⟩) := by
  refine Eq.trans ?_ (cutKv_apply X q h ⟨64 + e.val, by omega⟩)
  unfold resDv
  generalize cutKv X = Y
  pointwise
theorem resDkr_apply (X : S8448x128.Idx → EReal) (k : Fin 8448) (e : Fin 32) : resDkr X (ix2 k e) = X (ix2 k ⟨e.val, by omega⟩) := by
  unfold resDkr
  pointwise

section
variable (W : Valuation τ sig (Elt Ideal))
theorem tail_dq : StableHlo.after hostOps1 W (Proc.devRef .tc main_v63) = resDq (W (Proc.devRef .tc main_v57_0)) := by
  after_results_simp
  rfl
theorem tail_dqr : StableHlo.after hostOps1 W (Proc.devRef .tc main_v64) = resDqr (W (Proc.devRef .tc main_v57_0)) := by
  after_results_simp
  rfl
theorem tail_dk : StableHlo.after hostOps1 W (Proc.devRef .tc main_v65) = resDk (W (Proc.devRef .tc main_v57_1)) := by
  after_results_simp
  rfl
theorem tail_dkr : StableHlo.after hostOps1 W (Proc.devRef .tc main_v66) = resDkr (W (Proc.devRef .tc main_v57_2)) := by
  after_results_simp
  rfl
theorem tail_dv : StableHlo.after hostOps1 W (Proc.devRef .tc main_v67) = resDv (W (Proc.devRef .tc main_v57_1)) := by
  after_results_simp
  rfl
end

variable (m : (ℓ : Loc nD τ sig) → Buf (Elt Ideal) ℓ) (ρ : Dev nD → PrngReg)

/-- The buffers after the kernel, before the host's last lines. -/
abbrev mid (c : Dev nD) : Valuation τ sig (Elt Ideal) := Pipeline.withArrays spec0 c (V0 m c) fun w => (dats m 0 c).arrAt w cfg0.N

theorem arr_inj : Function.Injective (Pipeline.arrRef spec0) := by decide

theorem mid6 (c : Dev nD) : mid m c (Proc.devRef .tc main_v57_0) = K6 m c := Pipeline.withArrays_arr spec0 arr_inj c (V0 m c) _ 6
theorem mid7 (c : Dev nD) : mid m c (Proc.devRef .tc main_v57_1) = K7 m c := Pipeline.withArrays_arr spec0 arr_inj c (V0 m c) _ 7
theorem mid8 (c : Dev nD) : mid m c (Proc.devRef .tc main_v57_2) = K8 m c := Pipeline.withArrays_arr spec0 arr_inj c (V0 m c) _ 8

/-- The kernel's program leaves the five results. -/
theorem run_results : θ_run defs (onTc (τ := τ) (main (F := Ideal))) ⟨m, fun _ => 0, ρ⟩ (fun r => ∀ c : Dev nD,
      r.2.mem ((c.tc : Thread nD τ).loc main_v63) = resDq (K6 m c)
      ∧ r.2.mem ((c.tc : Thread nD τ).loc main_v64) = resDqr (K6 m c)
      ∧ r.2.mem ((c.tc : Thread nD τ).loc main_v65) = resDk (K7 m c)
      ∧ r.2.mem ((c.tc : Thread nD τ).loc main_v66) = resDkr (K8 m c)
      ∧ r.2.mem ((c.tc : Thread nD τ).loc main_v67) = resDv (K7 m c)) :=
  (θ_run defs _ _).mono (fun _ h c =>
    ⟨((h c).2 main_v63 (Pipeline.mem_restRefs_of main_v63 (by decide) (by decide))).trans ((tail_dq (mid m c)).trans (congrArg resDq (mid6 m c))),
      ((h c).2 main_v64 (Pipeline.mem_restRefs_of main_v64 (by decide) (by decide))).trans ((tail_dqr (mid m c)).trans (congrArg resDqr (mid6 m c))),
      ((h c).2 main_v65 (Pipeline.mem_restRefs_of main_v65 (by decide) (by decide))).trans ((tail_dk (mid m c)).trans (congrArg resDk (mid7 m c))),
      ((h c).2 main_v66 (Pipeline.mem_restRefs_of main_v66 (by decide) (by decide))).trans ((tail_dkr (mid m c)).trans (congrArg resDkr (mid8 m c))),
      ((h c).2 main_v67 (Pipeline.mem_restRefs_of main_v67 (by decide) (by decide))).trans ((tail_dv (mid m c)).trans (congrArg resDv (mid7 m c)))⟩) (run_post m ρ)

/-! Finite arguments are arrays of real numbers. -/

/-- The scale is a real number. -/
theorem exists_scale : ∃ w : ℝ, (FloatOps.ofBits (F := Ideal) .f32 0x3DD105EC#32 : EReal) = ((w : ℝ) : EReal) := by
  show ∃ w : ℝ, Ideal.ofBits .f32 0x3DD105EC#32 = ((w : ℝ) : EReal)
  simp [Ideal.ofBits, Ideal.ieee]
  exact ⟨_, (EReal.coe_mul _ _).symm⟩

/-- The arguments the claim speaks of. -/
theorem exists_args (h : Cert.Pre_AttnKernelIdeal_attn_finite m) (c : Dev nD) : ∃ A : Args, Reads m A c := by
  have h0 := congrFun (h c) (fun a => a.elim0)
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  obtain ⟨q, hq⟩ := exists_up3 _ fun i => finite_of _ (Host.reduce_andi_all _ _ _ _ _ h0 i)
  obtain ⟨qr, hqr⟩ := exists_up3 _ fun i => finite_of _ (Host.reduce_andi_all _ _ _ _ _ h1 i)
  obtain ⟨k, hk⟩ := exists_up3 _ fun i => finite_of _ (Host.reduce_andi_all _ _ _ _ _ h2 i)
  obtain ⟨kr, hkr⟩ := exists_up2 _ fun i => finite_of _ (Host.reduce_andi_all _ _ _ _ _ h3 i)
  obtain ⟨v, hv⟩ := exists_up3 _ fun i => finite_of _ (Host.reduce_andi_all _ _ _ _ _ h4 i)
  obtain ⟨d, hd⟩ := exists_up3 _ fun i => finite_of _ (Host.reduce_andi_all _ _ _ _ _ h5 i)
  exact ⟨⟨q, qr, k, kr, v, d⟩, hq, hqr, hk, hkr, hv, hd⟩

/-! The results are the reference's. -/

section
open Cert.AttnReferenceIdeal.Read
variable (c : Dev nD) (hp : Cert.Pre_AttnKernelIdeal_attn_finite m)
include hp

/-- Every result at every index. -/
theorem results_eq :
    resDq (K6 m c) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ resDqr (K6 m c) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ resDk (K7 m c) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ resDkr (K8 m c) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ resDv (K7 m c) = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  obtain ⟨A, R⟩ := exists_args m hp c
  obtain ⟨w, hw⟩ := exists_scale
  obtain ⟨M, hM⟩ := exists_max A w hw
  have H := fits m A w M hw hM c R
  rw [R.q, R.qr, R.k, R.kr, R.v, R.d]
  refine ⟨funext fun i => ?_, funext fun i => ?_, funext fun i => ?_, funext fun i => ?_, funext fun i => ?_⟩
  · obtain ⟨q, h, e, rfl⟩ : ∃ (q : Fin 8448) (h : Fin 8) (e : Fin 64), i = (ix3 q h e : S8448x8x64.Idx) := ⟨i 0, i 1, i 2, eq_ix3 i⟩
    rw [resDq_apply, hw, lane_dq A w M m c H]
    exact (ref_dq A w hw M hM q h e).symm
  · obtain ⟨q, h, e, rfl⟩ : ∃ (q : Fin 8448) (h : Fin 8) (e : Fin 32), i = (ix3 q h e : S8448x8x32.Idx) := ⟨i 0, i 1, i 2, eq_ix3 i⟩
    rw [resDqr_apply, hw, lane_dqr A w M m c H]
    exact (ref_dqr A w hw M hM q h e).symm
  · obtain ⟨q, h, e, rfl⟩ : ∃ (q : Fin 8448) (h : Fin 8) (e : Fin 64), i = (ix3 q h e : S8448x8x64.Idx) := ⟨i 0, i 1, i 2, eq_ix3 i⟩
    rw [resDk_apply, lane_dk A w M m c H]
    exact (ref_dk A w hw M hM q h e).symm
  · obtain ⟨k, e, rfl⟩ : ∃ (k : Fin 8448) (e : Fin 32), i = (ix2 k e : S8448x32.Idx) := ⟨i 0, i 1, eq_ix2 i⟩
    rw [resDkr_apply, lane_dkr A w M m c H]
    exact (ref_dkr A w hw M hM k e).symm
  · obtain ⟨q, h, e, rfl⟩ : ∃ (q : Fin 8448) (h : Fin 8) (e : Fin 64), i = (ix3 q h e : S8448x8x64.Idx) := ⟨i 0, i 1, i 2, eq_ix3 i⟩
    rw [resDv_apply, lane_dv A w M m c H]
    exact (ref_dv A w hw M hM q h e).symm
end

/-- The kernel computes the reference's five results. -/
theorem algebraic : Cert.algebraic_AttnKernelIdeal_AttnReferenceIdeal_pre_attn_finite := by
  intro m g m' g' hp hag
  refine ⟨fun c => resDq (K6 m c), fun c => resDqr (K6 m c), fun c => resDk (K7 m c), fun c => resDkr (K8 m c), fun c => resDv (K7 m c), ?_, ?_⟩
  · refine (θ_run _ _ _).mono (fun r h c => ?_) (θ_run_and (run_results m g) (frame_attn (F := Ideal) m g))
    obtain ⟨r0, r1, r2, r3, r4⟩ := h.1 c
    exact ⟨r0, r1, r2, r3, r4, h.2.1 c⟩
  · refine (θ_run _ _ _).mono (fun r h c => ?_) (Cert.AttnReferenceIdeal.Value.run m' g')
    obtain ⟨h0, h1, h2, h3, h4, ha⟩ := h c
    obtain ⟨e0, e1, e2, e3, e4, e5⟩ := hag c
    obtain ⟨q0, q1, q2, q3, q4⟩ := results_eq m c hp
    refine ⟨?_, ?_, ?_, ?_, ?_, ha⟩
    · refine Eq.trans ?_ q0.symm
      rw [← e0, ← e1, ← e2, ← e3, ← e4, ← e5]
      exact h0.trans (Cert.AttnReferenceIdeal.Read.val_main_v68_eq m' c)
    · refine Eq.trans ?_ q1.symm
      rw [← e0, ← e1, ← e2, ← e3, ← e4, ← e5]
      exact h1.trans (Cert.AttnReferenceIdeal.Read.val_main_v63_eq m' c)
    · refine Eq.trans ?_ q2.symm
      rw [← e0, ← e1, ← e2, ← e3, ← e4, ← e5]
      exact h2.trans (Cert.AttnReferenceIdeal.Read.val_main_v66_eq m' c)
    · refine Eq.trans ?_ q3.symm
      rw [← e0, ← e1, ← e2, ← e3, ← e4, ← e5]
      exact h3.trans (Cert.AttnReferenceIdeal.Read.val_main_v64_eq m' c)
    · refine Eq.trans ?_ q4.symm
      rw [← e0, ← e1, ← e2, ← e3, ← e5]
      exact h4.trans (Cert.AttnReferenceIdeal.Read.val_main_v46_eq m' c)

/-- The reference runs, leaves its arguments unchanged and ends with every counter at zero. -/
theorem frame_reference : Cert.quiescent_AttnReferenceIdeal := by
  intro m ρ _
  exact (θ_run Cert.AttnReferenceIdeal.defs _ _).mono (fun r h => ⟨fun c => (h c).2.2.2.2.2,
      Idealize.ShloMosaic.sem_eq_zero_of_no_sems (by decide) r.2⟩) (Cert.AttnReferenceIdeal.Value.run (F := Ideal) m ρ)

/-- The two constants are the numbers they are named for. -/
theorem named : Cert.preserves_AttnKernel_AttnKernelIdeal :=
  ⟨IdealRules.named_const.statement Cert.AttnKernelIdeal.κ "ln2" .f32 0x3F317218#32 _ rfl,
    IdealRules.named_const.statement Cert.AttnKernelIdeal.κ "mask" .f32 0xF149F2CA#32 ⊥ rfl⟩

end Cert.AttnAlg
end
-- ==== Proof.AttnWordOff.lean ====
module

public import proofs.«01_k».proof.Proof.Gen.AttnKernel.Frame
public import proofs.«01_k».proof.Proof.Gen.AttnKernel.Loops

@[expose] public section

set_option warn.classDefReducibility false

noncomputable section

/-! Where the attention's body reads and writes its key rows: closed forms of the offsets and of the loop counts. -/

namespace Cert.AttnKernel.Hand

open Idealize.ShloMosaic Idealize.SL.Sem

/-- The loop takes one trip per pair of key blocks before the diagonal block. -/
theorem trips1 : ∀ i : grid0.Coords, (k0_t1_loop i).trips = (i 1).val / 2 := by decide +kernel

/-- The remainder loop takes no trip. -/
theorem trips2 : ∀ i : grid0.Coords, (k0_t2_loop i).trips = 0 := by decide +kernel

/-- A trip's second key block, and the next trip's first. -/
theorem off1_eq : ∀ (i : grid0.Coords) (k : Fin (k0_t1_loop i).trips),
    k0_off1 i k 1#32 = ![768 * (2 * k.val + 1), 0] ∧ k0_off1 i k 2#32 = ![768 * (2 * k.val + 2), 0] := by decide +kernel

/-- A trip's first key block. -/
theorem off2_eq : ∀ (i : grid0.Coords) (k : Fin (k0_t1_loop i).trips), k0_off2 i k = ![768 * (2 * k.val), 0] := by decide +kernel

/-- The diagonal block of an odd point. -/
theorem off5_eq : ∀ i : grid0.Coords, k0_off5 i = ![768 * (i 1).val, 0] := by decide +kernel

/-- The block before the diagonal. -/
theorem off6_eq : ∀ i : grid0.Coords, k0_cond3 i = 1#1 → k0_off6 i = ![768 * ((i 1).val - 1), 0] := by decide +kernel

/-- The diagonal block of an even point. -/
theorem off7_eq : ∀ i : grid0.Coords, k0_off7 i = ![768 * (i 1).val, 0] := by decide +kernel

end Cert.AttnKernel.Hand

end
-- ==== Proof.FdbAlg.lean ====
module
public import proofs.«01_k».proof.Defs
public import proofs.«01_k».proof.Proof.AttnReal
public import proofs.«01_k».proof.Proof.Gen.FdbKernelIdeal.Value
public import proofs.«01_k».proof.Proof.Gen.FdbReferenceIdeal.Run
public import proofs.«01_k».proof.Proof.Gen.FdbReferenceIdeal.Read
public import proofs.«01_k».proof.Proof.Gen.Pre_fdb_finite
public import Idealize.ShloMosaic.Lib.Pointwise
public import Idealize.ShloMosaic.Lib.WritesUnit
public import Idealize.ShloMosaic.Lib.ReduceAll
@[expose] public section
set_option maxRecDepth 16384
noncomputable section
open Idealize.ShloMosaic Idealize.ShloMosaic.TcCoe Idealize.SL.Sem
namespace Cert.FdbAlg
open Cert.FdbKernelIdeal Cert.FdbKernelIdeal.Gen

/-! The gradients in the two inputs of the gated unit. -/

/-- The offsets of a load or store of a whole rank-2 buffer. -/
theorem hz2 : (![0, 0] : Fin 2 → Nat) = fun _ => 0 := funext fun a => by fin_cases a <;> rfl

/-- The product a block computes, at a row and a column. -/
def D (x0 : S768x1024.Idx → EReal) (x1 : S2x704x1024.Idx → EReal) (r : Fin 768) (j : Fin 1408) : EReal :=
  ∑ x : Fin 1024, x0 (ix2 r x) * x1 (ix3 ⟨j.val / 704, by omega⟩ ⟨j.val % 704, by omega⟩ x)

theorem pay1_apply (x1 : Vec Ideal S2x704x1024 .bf16) (x0 : Vec Ideal S768x1024 .bf16) (r : Fin 768) (j : Fin 1408) :
    k0_pay1 (View.ld x1 r0_0) (View.ld x1 r0_1) x0 (ix2 r j) = D x0 x1 r j := by
  unfold k0_pay1 D
  pointwise
  refine Finset.sum_congr rfl fun x _ => congrArg (x0 (ix2 r x) * ·) ?_
  by_cases h : j.val < 704
  · rw [dif_pos h]
    exact congrArg₂ (fun a b => x1 (ix3 a b x)) (Fin.ext (by show 0 = j.val / 704; omega)) (Fin.ext (by show j.val = j.val % 704; omega))
  · rw [dif_neg h]
    exact congrArg₂ (fun a b => x1 (ix3 a b x)) (Fin.ext (by show 1 = j.val / 704; omega)) (Fin.ext (by show j.val - 704 = j.val % 704; omega))

/-- The gate's gradient a point leaves, at a row and a column. -/
theorem out4_apply (x0 : Vec Ideal S768x1024 .bf16) (x1 : Vec Ideal S2x704x1024 .bf16) (x2 x3 : Vec Ideal S768x1408 .bf16) (r : Fin 768) (j : Fin 1408) :
    out0_4 x0 x1 x2 x3 (ix2 r j) = D x0 x1 r j * x3 (ix2 r j) * Ideal.logistic (x2 (ix2 r j)) * (1 + x2 (ix2 r j) * (1 - Ideal.logistic (x2 (ix2 r j)))) := by
  unfold out0_4
  rw [View.canon_unit_zero hz2, View.ld_unit_zero (S := S768x1408) hz2, View.ld_unit_zero (S := S768x1408) hz2, View.ld_unit_zero (S := S768x1024) hz2]
  unfold k0_pay4 k0_pay3 k0_pay2
  rw [← pay1_apply]
  pointwise

/-- The other input's gradient a point leaves, at a row and a column. -/
theorem out5_apply (x0 : Vec Ideal S768x1024 .bf16) (x1 : Vec Ideal S2x704x1024 .bf16) (x2 x3 : Vec Ideal S768x1408 .bf16) (r : Fin 768) (j : Fin 1408) :
    out0_5 x0 x1 x2 x3 (ix2 r j) = D x0 x1 r j * x2 (ix2 r j) * Ideal.logistic (x2 (ix2 r j)) := by
  unfold out0_5
  rw [View.canon_unit_zero hz2, View.ld_unit_zero (S := S768x1408) hz2, View.ld_unit_zero (S := S768x1024) hz2]
  unfold k0_pay5 k0_pay3 k0_pay2
  rw [← pay1_apply]
  pointwise

section
variable (x0 : S8448x1024.Idx → EReal) (x1 x2 : S8448x2816.Idx → EReal) (x3 : S2816x1024.Idx → EReal) (t : Fin 8448) (j : Fin 2816)
/-- The gradient in the unit's output, at a row and a column. -/
def DA : EReal := ∑ x : Fin 1024, x0 (ix2 t x) * x3 (ix2 j x)

/-- The gate's gradient as the kernel writes it. -/
def gateOf : EReal := DA x0 x3 t j * x2 (ix2 t j) * Ideal.logistic (x1 (ix2 t j)) * (1 + x1 (ix2 t j) * (1 - Ideal.logistic (x1 (ix2 t j))))
/-- The other input's gradient as the kernel writes it. -/
def upOf : EReal := DA x0 x3 t j * x1 (ix2 t j) * Ideal.logistic (x1 (ix2 t j))

open Cert.FdbReferenceIdeal.Read
theorem ref_gate : val_main_v10 (F := Ideal) x0 x1 x2 x3 (ix2 t j)
    = (DA x0 x3 t j * x2 (ix2 t j)) * Ideal.logistic (x1 (ix2 t j))
      + (x1 (ix2 t j) * (DA x0 x3 t j * x2 (ix2 t j))) * (Ideal.logistic (x1 (ix2 t j)) * (1 - Ideal.logistic (x1 (ix2 t j)))) := by
  unfold val_main_v10 val_main_v9 val_main_call1_v2 val_main_call1_v1 val_main_call1_v0 val_main_v8 val_main_v6 val_main_v5 val_main_v2_1 val_main_call0_v7 val_main_call0_v6
    val_main_call0_cst_1 val_main_v2_2 val_main_call0_v4 val_main_call0_cst_0 val_main_call0_v3 val_main_call0_v2 val_main_call0_cst val_main_call0_v1 val_main_call0_v0 val_main_v1 val_main_v0
  pointwise
  rfl

theorem ref_up : val_main_v11 (F := Ideal) x0 x1 x3 (ix2 t j) = (x1 (ix2 t j) * Ideal.logistic (x1 (ix2 t j))) * DA x0 x3 t j := by
  unfold val_main_v11 val_main_v7 val_main_v6 val_main_v5 val_main_v2_0
    val_main_v2_2 val_main_call0_v4 val_main_call0_cst_0 val_main_call0_v3 val_main_call0_v2 val_main_call0_cst val_main_call0_v1 val_main_call0_v0 val_main_v0
  pointwise
  rfl
end

/-- The gradient of `silu`, as the kernel and as the reference write it. -/
theorem silu_eq (X : ℝ) (g : EReal) :
    (X : EReal) * Ideal.logistic g * (1 + g * (1 - Ideal.logistic g)) = X * Ideal.logistic g + (g * X) * (Ideal.logistic g * (1 - Ideal.logistic g)) := by
  induction g with
  | bot => rw [Ideal.logistic_bot]; simp
  | top =>
    rw [Ideal.logistic_top, show (1 : EReal) - 1 = 0 by rw [← EReal.coe_one, ← EReal.coe_sub, sub_self]; rfl]
    simp
  | coe g =>
    rw [Ideal.logistic_coe, ← EReal.coe_one]
    norm_cast
    ring

variable (m : (ℓ : Loc nD τ sig) → Buf (Elt Ideal) ℓ)

/-- The weights the kernel is handed: chip `s` holds 704 rows. -/
theorem w_entry (c : Dev nD) (s : Fin 4) (d : Fin 704) (x : Fin 1024) :
    V m c main_v1 (ix3 s d x : S4x704x1024.Idx) = m ((c : Thread nD τ).loc main_arg3) (ix2 ⟨704 * s.val + d.val, by omega⟩ x : S2816x1024.Idx) := by
  unfold V
  after_results_simp
  generalize m ((c : Thread nD τ).loc main_arg3) = W
  pointwise
  exact congrArg W (congrArg (fun y => ix2 y x) (Fin.ext (by show s.val * 704 + d.val = 704 * s.val + d.val; omega)))

theorem index_all : ∀ t : Fin cfg0.N, win0_0.index t 0 = t.val / 2 ∧ win0_0.index t 1 = 0
    ∧ win0_1.index t 0 = t.val % 2 ∧ win0_1.index t 1 = 0 ∧ win0_1.index t 2 = 0
    ∧ win0_2.index t 0 = t.val / 2 ∧ win0_2.index t 1 = t.val % 2
    ∧ win0_3.index t 0 = t.val / 2 ∧ win0_3.index t 1 = t.val % 2
    ∧ win0_4.index t 0 = t.val / 2 ∧ win0_4.index t 1 = t.val % 2 ∧ win0_5.index t 0 = t.val / 2 ∧ win0_5.index t 1 = t.val % 2 :=
  (by decide +kernel : ∀ t : Fin grid0.N, win0_0.index t 0 = t.val / 2 ∧ win0_0.index t 1 = 0
    ∧ win0_1.index t 0 = t.val % 2 ∧ win0_1.index t 1 = 0 ∧ win0_1.index t 2 = 0
    ∧ win0_2.index t 0 = t.val / 2 ∧ win0_2.index t 1 = t.val % 2
    ∧ win0_3.index t 0 = t.val / 2 ∧ win0_3.index t 1 = t.val % 2
    ∧ win0_4.index t 0 = t.val / 2 ∧ win0_4.index t 1 = t.val % 2 ∧ win0_5.index t 0 = t.val / 2 ∧ win0_5.index t 1 = t.val % 2)

theorem iblk0_apply (c : Dev nD) (t : Fin cfg0.N) (r : Fin 768) (j : Fin 1024) (hr : 768 * (t.val / 2) + r.val < 8448) :
    (iblk m c 0 t : Vec Ideal S768x1024 .bf16) (ix2 r j) = m ((c : Thread nD τ).loc main_arg0) (ix2 ⟨768 * (t.val / 2) + r.val, hr⟩ j : S8448x1024.Idx) := by
  obtain ⟨h0, h1, -⟩ := index_all t
  unfold iblk
  rw [View.read_apply, ← V_main_arg0 m c]
  refine congrArg (V m c main_arg0) (funext fun a => Fin.ext ?_)
  match a with
  | ⟨0, _⟩ => show win0_0.index t 0 * 768 + 1 * r.val = 768 * (t.val / 2) + r.val; rw [h0]; omega
  | ⟨1, _⟩ => show win0_0.index t 1 * 1024 + 1 * j.val = j.val; rw [h1]; omega

theorem iblk1_apply (c : Dev nD) (t : Fin cfg0.N) (s : Fin 2) (r : Fin 704) (x : Fin 1024) :
    (iblk m c 1 t : Vec Ideal S2x704x1024 .bf16) (ix3 s r x) = V m c main_v1 (ix3 ⟨2 * (t.val % 2) + s.val, by omega⟩ r x : S4x704x1024.Idx) := by
  obtain ⟨-, -, h0, h1, h2, -⟩ := index_all t
  unfold iblk
  rw [View.read_apply]
  refine congrArg (V m c main_v1) (funext fun a => Fin.ext ?_)
  match a with
  | ⟨0, _⟩ => show win0_1.index t 0 * 2 + 1 * s.val = 2 * (t.val % 2) + s.val; rw [h0]; omega
  | ⟨1, _⟩ => show win0_1.index t 1 * 704 + 1 * r.val = r.val; rw [h1]; omega
  | ⟨2, _⟩ => show win0_1.index t 2 * 1024 + 1 * x.val = x.val; rw [h2]; omega

theorem iblk2_apply (c : Dev nD) (t : Fin cfg0.N) (r : Fin 768) (j : Fin 1408) (hr : 768 * (t.val / 2) + r.val < 8448) :
    (iblk m c 2 t : Vec Ideal S768x1408 .bf16) (ix2 r j) = m ((c : Thread nD τ).loc main_arg1) (ix2 ⟨768 * (t.val / 2) + r.val, hr⟩ ⟨1408 * (t.val % 2) + j.val, by omega⟩ : S8448x2816.Idx) := by
  obtain ⟨-, -, -, -, -, h0, h1, -⟩ := index_all t
  unfold iblk
  rw [View.read_apply, ← V_main_arg1 m c]
  refine congrArg (V m c main_arg1) (funext fun a => Fin.ext ?_)
  match a with
  | ⟨0, _⟩ => show win0_2.index t 0 * 768 + 1 * r.val = 768 * (t.val / 2) + r.val; rw [h0]; omega
  | ⟨1, _⟩ => show win0_2.index t 1 * 1408 + 1 * j.val = 1408 * (t.val % 2) + j.val; rw [h1]; omega

theorem iblk3_apply (c : Dev nD) (t : Fin cfg0.N) (r : Fin 768) (j : Fin 1408) (hr : 768 * (t.val / 2) + r.val < 8448) :
    (iblk m c 3 t : Vec Ideal S768x1408 .bf16) (ix2 r j) = m ((c : Thread nD τ).loc main_arg2) (ix2 ⟨768 * (t.val / 2) + r.val, hr⟩ ⟨1408 * (t.val % 2) + j.val, by omega⟩ : S8448x2816.Idx) := by
  obtain ⟨-, -, -, -, -, -, -, h0, h1, -⟩ := index_all t
  unfold iblk
  rw [View.read_apply, ← V_main_arg2 m c]
  refine congrArg (V m c main_arg2) (funext fun a => Fin.ext ?_)
  match a with
  | ⟨0, _⟩ => show win0_3.index t 0 * 768 + 1 * r.val = 768 * (t.val / 2) + r.val; rw [h0]; omega
  | ⟨1, _⟩ => show win0_3.index t 1 * 1408 + 1 * j.val = 1408 * (t.val % 2) + j.val; rw [h1]; omega

/-- The product a point computes is the gradient in the unit's output. -/
theorem D_eq (c : Dev nD) (n : Fin cfg0.N) (r : Fin 768) (j : Fin 1408) (hr : 768 * (n.val / 2) + r.val < 8448) :
    D (iblk m c 0 n) (iblk m c 1 n) r j
      = DA (m ((c : Thread nD τ).loc main_arg0)) (m ((c : Thread nD τ).loc main_arg3)) ⟨768 * (n.val / 2) + r.val, hr⟩ ⟨1408 * (n.val % 2) + j.val, by omega⟩ := by
  unfold D DA
  refine Finset.sum_congr rfl fun x _ => congrArg₂ (fun a b : EReal => a * b) (iblk0_apply m c n r x hr) ?_
  rw [iblk1_apply, w_entry]
  refine congrArg (fun y => m ((c : Thread nD τ).loc main_arg3) (ix2 y x : S2816x1024.Idx)) (Fin.ext ?_)
  show 704 * (2 * (n.val % 2) + j.val / 704) + j.val % 704 = 1408 * (n.val % 2) + j.val
  omega

/-- The kernel's two arrays at a row and a column. -/
theorem ker_apply (c : Dev nD) (t : Fin 8448) (j : Fin 2816) :
    (dats m 0 c).arrAt 4 cfg0.N (ix2 t j : S8448x2816.Idx)
      = gateOf (m ((c : Thread nD τ).loc main_arg0)) (m ((c : Thread nD τ).loc main_arg1)) (m ((c : Thread nD τ).loc main_arg2)) (m ((c : Thread nD τ).loc main_arg3)) t j
    ∧ (dats m 0 c).arrAt 5 cfg0.N (ix2 t j : S8448x2816.Idx) = upOf (m ((c : Thread nD τ).loc main_arg0)) (m ((c : Thread nD τ).loc main_arg1)) (m ((c : Thread nD τ).loc main_arg3)) t j := by
  let n : Fin cfg0.N := ⟨2 * (t.val / 768) + j.val / 1408, lt_of_lt_of_eq (show 2 * (t.val / 768) + j.val / 1408 < 22 by omega) N_0.symm⟩
  have hd : n.val / 2 = t.val / 768 := by show (2 * (t.val / 768) + j.val / 1408) / 2 = t.val / 768; omega
  have hm : n.val % 2 = j.val / 1408 := by show (2 * (t.val / 768) + j.val / 1408) % 2 = j.val / 1408; omega
  obtain ⟨-, -, -, -, -, -, -, -, -, i0, i1, k0, k1⟩ := index_all n
  have hr : 768 * (n.val / 2) + t.val % 768 = t.val := by rw [hd]; omega
  have hc : 1408 * (n.val % 2) + j.val % 1408 = j.val := by rw [hm]; omega
  have hr' : 768 * (n.val / 2) + (⟨t.val % 768, by omega⟩ : Fin 768).val < 8448 := by show 768 * (n.val / 2) + t.val % 768 < 8448; omega
  have et : (⟨768 * (n.val / 2) + (⟨t.val % 768, by omega⟩ : Fin 768).val, hr'⟩ : Fin 8448) = t := Fin.ext hr
  have ej : (⟨1408 * (n.val % 2) + (⟨j.val % 1408, by omega⟩ : Fin 1408).val, by show 1408 * (n.val % 2) + j.val % 1408 < 2816; omega⟩ : Fin 2816) = j := Fin.ext hc
  have eD := D_eq m c n ⟨t.val % 768, by omega⟩ ⟨j.val % 1408, by omega⟩ hr'
  have e2 := iblk2_apply m c n ⟨t.val % 768, by omega⟩ ⟨j.val % 1408, by omega⟩ hr'
  have e3 := iblk3_apply m c n ⟨t.val % 768, by omega⟩ ⟨j.val % 1408, by omega⟩ hr'
  rw [et, ej] at eD e2 e3
  constructor
  · have hb := congrFun (Value.blocks4 m c n (flush0_4 n)) (ix2 ⟨t.val % 768, by omega⟩ ⟨j.val % 1408, by omega⟩ : S768x1408.Idx)
    rw [Value.flushed4, View.read_apply] at hb
    refine Eq.trans ?_ (hb.trans ((out4_apply (iblk m c 0 n) (iblk m c 1 n) (iblk m c 2 n) (iblk m c 3 n) ⟨t.val % 768, by omega⟩ ⟨j.val % 1408, by omega⟩).trans ?_))
    · refine congrArg ((dats m 0 c).arrAt 4 cfg0.N) (funext fun a => Fin.ext ?_)
      match a with
      | ⟨0, _⟩ => show t.val = win0_4.index n 0 * 768 + 1 * (t.val % 768); rw [i0, hd]; omega
      | ⟨1, _⟩ => show j.val = win0_4.index n 1 * 1408 + 1 * (j.val % 1408); rw [i1, hm]; omega
    · rw [eD, e2, e3]
      rfl
  · have hb := congrFun (Value.blocks5 m c n (flush0_5 n)) (ix2 ⟨t.val % 768, by omega⟩ ⟨j.val % 1408, by omega⟩ : S768x1408.Idx)
    rw [Value.flushed5, View.read_apply] at hb
    refine Eq.trans ?_ (hb.trans ((out5_apply (iblk m c 0 n) (iblk m c 1 n) (iblk m c 2 n) (iblk m c 3 n) ⟨t.val % 768, by omega⟩ ⟨j.val % 1408, by omega⟩).trans ?_))
    · refine congrArg ((dats m 0 c).arrAt 5 cfg0.N) (funext fun a => Fin.ext ?_)
      match a with
      | ⟨0, _⟩ => show t.val = win0_5.index n 0 * 768 + 1 * (t.val % 768); rw [k0, hd]; omega
      | ⟨1, _⟩ => show j.val = win0_5.index n 1 * 1408 + 1 * (j.val % 1408); rw [k1, hm]; omega
    · rw [eD, e2]
      rfl

/-- The arguments but the gate are arrays of real numbers. -/
theorem exists_args (h : Cert.Pre_FdbKernelIdeal_fdb_finite m) (c : Dev nD) : ∃ (z : Fin 8448 → Fin 1024 → ℝ) (u : Fin 8448 → Fin 2816 → ℝ) (w : Fin 2816 → Fin 1024 → ℝ),
    m ((c : Thread nD τ).loc main_arg0) = Cert.AttnAlg.up2 z ∧ m ((c : Thread nD τ).loc main_arg2) = Cert.AttnAlg.up2 u ∧ m ((c : Thread nD τ).loc main_arg3) = Cert.AttnAlg.up2 w := by
  have h0 := congrFun (h c) (fun a => a.elim0)
  obtain ⟨h0, h3⟩ := IntOp.andi_eq_one.1 h0
  obtain ⟨h0, h2⟩ := IntOp.andi_eq_one.1 h0
  obtain ⟨z, hz⟩ := Cert.AttnAlg.exists_up2 _ fun i => Cert.AttnAlg.finite_of _ (Host.reduce_andi_all _ _ _ _ _ h0 i)
  obtain ⟨u, hu⟩ := Cert.AttnAlg.exists_up2 _ fun i => Cert.AttnAlg.finite_of _ (Host.reduce_andi_all _ _ _ _ _ h2 i)
  obtain ⟨w, hw⟩ := Cert.AttnAlg.exists_up2 _ fun i => Cert.AttnAlg.finite_of _ (Host.reduce_andi_all _ _ _ _ _ h3 i)
  exact ⟨z, u, w, hz, hu, hw⟩

/-- With real arguments the gradient in the unit's output, times the other input, is a real number. -/
theorem DA_real (z : Fin 8448 → Fin 1024 → ℝ) (u : Fin 8448 → Fin 2816 → ℝ) (w : Fin 2816 → Fin 1024 → ℝ) (t : Fin 8448) (j : Fin 2816) :
    ∃ X : ℝ, DA (Cert.AttnAlg.up2 z) (Cert.AttnAlg.up2 w) t j * Cert.AttnAlg.up2 u (ix2 t j) = (X : EReal) := by
  refine ⟨(∑ x : Fin 1024, z t x * w j x) * u t j, ?_⟩
  unfold DA
  have e : ∀ x : Fin 1024, Cert.AttnAlg.up2 z (ix2 t x) * Cert.AttnAlg.up2 w (ix2 j x) = ((z t x * w j x : ℝ) : EReal) := fun x => (EReal.coe_mul _ _).symm
  rw [Finset.sum_congr rfl fun x _ => e x, Cert.AttnAlg.coe_sum]
  exact (EReal.coe_mul _ _).symm

/-- The gate's gradient is the reference's. -/
theorem gate_eq (hp : Cert.Pre_FdbKernelIdeal_fdb_finite m) (c : Dev nD) : (dats m 0 c).arrAt 4 cfg0.N
    = Cert.FdbReferenceIdeal.Read.val_main_v10 (F := Ideal) (m ((c : Thread nD τ).loc main_arg0)) (m ((c : Thread nD τ).loc main_arg1)) (m ((c : Thread nD τ).loc main_arg2)) (m ((c : Thread nD τ).loc main_arg3)) := by
  funext i
  obtain ⟨t, j, rfl⟩ : ∃ (t : Fin 8448) (j : Fin 2816), i = (ix2 t j : S8448x2816.Idx) := ⟨i 0, i 1, eq_ix2 i⟩
  obtain ⟨z, u, w, hz, hu, hw⟩ := exists_args m hp c
  rw [ref_gate, (ker_apply m c t j).1, hz, hu, hw]
  unfold gateOf
  obtain ⟨X, hX⟩ := DA_real z u w t j
  rw [hX]
  exact silu_eq X _

/-- The other input's gradient is the reference's. -/
theorem up_eq (c : Dev nD) : (dats m 0 c).arrAt 5 cfg0.N
    = Cert.FdbReferenceIdeal.Read.val_main_v11 (F := Ideal) (m ((c : Thread nD τ).loc main_arg0)) (m ((c : Thread nD τ).loc main_arg1)) (m ((c : Thread nD τ).loc main_arg3)) := by
  funext i
  obtain ⟨t, j, rfl⟩ : ∃ (t : Fin 8448) (j : Fin 2816), i = (ix2 t j : S8448x2816.Idx) := ⟨i 0, i 1, eq_ix2 i⟩
  rw [ref_up, (ker_apply m c t j).2]
  unfold upOf
  rw [mul_assoc]
  exact mul_comm (G := EReal) _ _

/-- The kernel computes the reference's two results. -/
theorem algebraic : Cert.algebraic_FdbKernelIdeal_FdbReferenceIdeal_pre_fdb_finite := by
  intro m g m' g' hp hag
  refine ⟨fun c => (dats m 0 c).arrAt 4 cfg0.N, fun c => (dats m 0 c).arrAt 5 cfg0.N, Cert.FdbKernelIdeal.Value.run_blocks m g, ?_⟩
  refine (θ_run _ _ _).mono (fun r h c => ?_) (Cert.FdbReferenceIdeal.Value.run m' g')
  obtain ⟨h0, h1, ha⟩ := h c
  obtain ⟨e0, e1, e2, e3⟩ := hag c
  refine ⟨?_, ?_, ha⟩
  · refine Eq.trans ?_ (gate_eq m hp c).symm
    rw [← e0, ← e1, ← e2, ← e3]
    exact h0.trans (Cert.FdbReferenceIdeal.Read.val_main_v10_eq _ _ _ _)
  · refine Eq.trans ?_ (up_eq m c).symm
    rw [← e0, ← e1, ← e3]
    exact h1.trans (Cert.FdbReferenceIdeal.Read.val_main_v11_eq _ _ _)

/-- The reference runs, leaves its arguments unchanged and ends with every counter at zero. -/
theorem frame_reference : Cert.quiescent_FdbReferenceIdeal := by
  intro m ρ _
  exact (θ_run Cert.FdbReferenceIdeal.defs _ _).mono (fun r h => ⟨fun c => (h c).2.2,
      Idealize.ShloMosaic.sem_eq_zero_of_no_sems (by decide) r.2⟩) (Cert.FdbReferenceIdeal.Value.run (F := Ideal) m ρ)

end Cert.FdbAlg
end
-- ==== Proof.FubAlg.lean ====
module
public import proofs.«01_k».proof.Defs
public import proofs.«01_k».proof.Proof.Gen.FubKernelIdeal.Value
public import proofs.«01_k».proof.Proof.Gen.FubReferenceIdeal.Run
public import proofs.«01_k».proof.Proof.Gen.FubReferenceIdeal.Read
public import Idealize.ShloMosaic.Lib.Pointwise
public import Idealize.ShloMosaic.Lib.WritesUnit
@[expose] public section
set_option maxRecDepth 16384
noncomputable section
open Idealize.ShloMosaic Idealize.ShloMosaic.TcCoe Idealize.SL.Sem
namespace Cert.FubAlg
open Cert.FubKernelIdeal Cert.FubKernelIdeal.Gen

/-! The gradient in the input of the feed-forward's input products. -/

/-- The offsets of a load or store of a whole rank-2 buffer. -/
theorem hz2 : (![0, 0] : Fin 2 → Nat) = fun _ => 0 := funext fun a => by fin_cases a <;> rfl
/-- The offsets of a load or store of a whole rank-3 buffer. -/
theorem hz3 : (![0, 0, 0] : Fin 3 → Nat) = fun _ => 0 := funext fun a => by fin_cases a <;> rfl

/-- One block of the result at a row and a column: the products with the two halves of both weights, and the residual. -/
theorem pay1_apply (v0 v9 : Vec Ideal S768x2816 .bf16) (v1 v10 : Vec Ideal S2x512x1408 .bf16) (v19 : Vec Ideal S768x512 .bf16) (r : Fin 768) (j : Fin 512) :
    k0_pay1 v0 v1 v9 v10 v19 (ix2 r j)
      = ((∑ x : Fin 1408, v0 (ix2 r ⟨x.val, by omega⟩) * v1 (ix3 0 j x)) + ∑ x : Fin 1408, v0 (ix2 r ⟨1408 + x.val, by omega⟩) * v1 (ix3 1 j x))
        + ((∑ x : Fin 1408, v9 (ix2 r ⟨x.val, by omega⟩) * v10 (ix3 0 j x)) + ∑ x : Fin 1408, v9 (ix2 r ⟨1408 + x.val, by omega⟩) * v10 (ix3 1 j x))
        + Ideal.ofBits FTy.f32 0x403504F3#32 * v19 (ix2 r j) := by
  unfold k0_pay1
  pointwise

/-- The block a point leaves is its payload of the blocks it reads. -/
theorem out_eq (x0 : Vec Ideal S768x2816 .bf16) (x1 : Vec Ideal S2x512x1408 .bf16) (x2 : Vec Ideal S768x2816 .bf16) (x3 : Vec Ideal S2x512x1408 .bf16) (x4 : Vec Ideal S768x512 .bf16) :
    out0_5 x0 x1 x2 x3 x4 = k0_pay1 x0 x1 x2 x3 x4 := by
  unfold out0_5
  rw [View.canon_unit_zero hz2, View.ld_unit_zero (S := S768x2816) hz2, View.ld_unit_zero (S := S768x2816) hz2,
    View.ld_unit_zero (S := S2x512x1408) hz3, View.ld_unit_zero (S := S2x512x1408) hz3, View.ld_unit_zero (S := S768x512) hz2]

/-- The gradient at a row and a column, from the arguments. -/
def G (x0 x1 : S8448x2816.Idx → EReal) (x2 : S1024x5632.Idx → EReal) (x3 : S8448x1024.Idx → EReal) (t : Fin 8448) (j : Fin 1024) : EReal :=
  Ideal.ofBits FTy.f32 0x3FB504F3#32 * x3 (ix2 t j)
    + ((∑ x : Fin 2816, x0 (ix2 t x) * x2 (ix2 j ⟨x.val, by omega⟩)) + ∑ x : Fin 2816, x1 (ix2 t x) * x2 (ix2 j ⟨2816 + x.val, by omega⟩))

theorem ref_apply (x0 x1 : S8448x2816.Idx → EReal) (x2 : S1024x5632.Idx → EReal) (x3 : S8448x1024.Idx → EReal) (t : Fin 8448) (j : Fin 1024) :
    Cert.FubReferenceIdeal.Read.val_main_v12 (F := Ideal) x0 x1 x2 x3 (ix2 t j) = G x0 x1 x2 x3 t j := by
  unfold Cert.FubReferenceIdeal.Read.val_main_v12 Cert.FubReferenceIdeal.Read.val_main_v11 Cert.FubReferenceIdeal.Read.val_main_v10 Cert.FubReferenceIdeal.Read.val_main_v9 Cert.FubReferenceIdeal.Read.val_main_v8 Cert.FubReferenceIdeal.Read.val_main_v7 Cert.FubReferenceIdeal.Read.val_main_v6 Cert.FubReferenceIdeal.Read.val_main_cst_1
  pointwise
  rfl

/-- Twice the residual's factor, of one half, is the factor. -/
theorem residual (x : EReal) : Ideal.ofBits FTy.f32 0x403504F3#32 * (Ideal.ofBits FTy.f32 0x3F000000#32 * x) = Ideal.ofBits FTy.f32 0x3FB504F3#32 * x := by
  rw [← mul_assoc]
  refine congrArg (· * x) ?_
  simp [Ideal.ofBits, Ideal.ieee, -EReal.coe_mul]
  rw [← EReal.coe_mul]
  refine congrArg (fun r : ℝ => (r : EReal)) ?_
  norm_num

/-- A sum over 2816 columns, half by half. -/
theorem sum_halves (f : Fin 2816 → EReal) : ∑ x, f x = (∑ x : Fin 1408, f ⟨x.val, by omega⟩) + ∑ x : Fin 1408, f ⟨1408 + x.val, by omega⟩ :=
  Fin.sum_univ_add (a := 1408) (b := 1408) f

variable (m : (ℓ : Loc nD τ sig) → Buf (Elt Ideal) ℓ)

/-- The weights the kernel is handed: chip `s` holds 1408 columns. -/
theorem w_entry (c : Dev nD) (s : Fin 4) (d : Fin 1024) (j : Fin 1408) :
    V m c main_v2 (ix3 s d j : S4x1024x1408.Idx) = m ((c : Thread nD τ).loc main_arg2) (ix2 d ⟨1408 * s.val + j.val, by omega⟩ : S1024x5632.Idx) := by
  unfold V
  after_results_simp
  generalize m ((c : Thread nD τ).loc main_arg2) = W
  pointwise
  exact congrArg W (congrArg (ix2 d) (Fin.ext (by show s.val * 1408 + j.val = 1408 * s.val + j.val; omega)))

/-- Half the gradient of the sum, as the kernel is handed it. -/
theorem z_entry (c : Dev nD) (t : Fin 8448) (d : Fin 1024) :
    V m c main_v5 (ix2 t d : S8448x1024.Idx) = Ideal.ofBits FTy.f32 0x3F000000#32 * m ((c : Thread nD τ).loc main_arg3) (ix2 t d : S8448x1024.Idx) := by
  unfold V
  after_results_simp
  generalize m ((c : Thread nD τ).loc main_arg3) = W
  pointwise

theorem hN (t : Fin cfg0.N) : t.val < 22 := lt_of_lt_of_eq t.isLt N_0

theorem index_all : ∀ t : Fin cfg0.N, win0_0.index t 0 = t.val / 2 ∧ win0_0.index t 1 = 0
    ∧ win0_1.index t 0 = 0 ∧ win0_1.index t 1 = t.val % 2 ∧ win0_1.index t 2 = 0
    ∧ win0_2.index t 0 = t.val / 2 ∧ win0_2.index t 1 = 0
    ∧ win0_3.index t 0 = 1 ∧ win0_3.index t 1 = t.val % 2 ∧ win0_3.index t 2 = 0
    ∧ win0_4.index t 0 = t.val / 2 ∧ win0_4.index t 1 = t.val % 2 ∧ win0_5.index t 0 = t.val / 2 ∧ win0_5.index t 1 = t.val % 2 :=
  (by decide +kernel : ∀ t : Fin grid0.N, win0_0.index t 0 = t.val / 2 ∧ win0_0.index t 1 = 0
    ∧ win0_1.index t 0 = 0 ∧ win0_1.index t 1 = t.val % 2 ∧ win0_1.index t 2 = 0
    ∧ win0_2.index t 0 = t.val / 2 ∧ win0_2.index t 1 = 0
    ∧ win0_3.index t 0 = 1 ∧ win0_3.index t 1 = t.val % 2 ∧ win0_3.index t 2 = 0
    ∧ win0_4.index t 0 = t.val / 2 ∧ win0_4.index t 1 = t.val % 2 ∧ win0_5.index t 0 = t.val / 2 ∧ win0_5.index t 1 = t.val % 2)

theorem iblk0_apply (c : Dev nD) (t : Fin cfg0.N) (r : Fin 768) (j : Fin 2816) (hr : 768 * (t.val / 2) + r.val < 8448) :
    (iblk m c 0 t : Vec Ideal S768x2816 .bf16) (ix2 r j) = V m c main_arg0 (ix2 ⟨768 * (t.val / 2) + r.val, hr⟩ j : S8448x2816.Idx) := by
  have hi := index_all t
  unfold iblk
  rw [View.read_apply]
  refine congrArg (V m c main_arg0) (funext fun a => Fin.ext ?_)
  match a with
  | ⟨0, _⟩ => show win0_0.index t 0 * 768 + 1 * r.val = 768 * (t.val / 2) + r.val; rw [hi.1]; omega
  | ⟨1, _⟩ => show win0_0.index t 1 * 2816 + 1 * j.val = j.val; rw [hi.2.1]; omega

theorem iblk1_apply (c : Dev nD) (t : Fin cfg0.N) (s : Fin 2) (r : Fin 512) (j : Fin 1408) :
    (iblk m c 1 t : Vec Ideal S2x512x1408 .bf16) (ix3 s r j) = V m c main_v2 (ix3 ⟨s.val, by omega⟩ ⟨512 * (t.val % 2) + r.val, by omega⟩ j : S4x1024x1408.Idx) := by
  have hi := index_all t
  unfold iblk
  rw [View.read_apply]
  refine congrArg (V m c main_v2) (funext fun a => Fin.ext ?_)
  match a with
  | ⟨0, _⟩ => show win0_1.index t 0 * 2 + 1 * s.val = s.val; rw [hi.2.2.1]; omega
  | ⟨1, _⟩ => show win0_1.index t 1 * 512 + 1 * r.val = 512 * (t.val % 2) + r.val; rw [hi.2.2.2.1]; omega
  | ⟨2, _⟩ => show win0_1.index t 2 * 1408 + 1 * j.val = j.val; rw [hi.2.2.2.2.1]; omega

theorem iblk2_apply (c : Dev nD) (t : Fin cfg0.N) (r : Fin 768) (j : Fin 2816) (hr : 768 * (t.val / 2) + r.val < 8448) :
    (iblk m c 2 t : Vec Ideal S768x2816 .bf16) (ix2 r j) = V m c main_arg1 (ix2 ⟨768 * (t.val / 2) + r.val, hr⟩ j : S8448x2816.Idx) := by
  have hi := index_all t
  unfold iblk
  rw [View.read_apply]
  refine congrArg (V m c main_arg1) (funext fun a => Fin.ext ?_)
  match a with
  | ⟨0, _⟩ => show win0_2.index t 0 * 768 + 1 * r.val = 768 * (t.val / 2) + r.val; rw [hi.2.2.2.2.2.1]; omega
  | ⟨1, _⟩ => show win0_2.index t 1 * 2816 + 1 * j.val = j.val; rw [hi.2.2.2.2.2.2.1]; omega

theorem iblk3_apply (c : Dev nD) (t : Fin cfg0.N) (s : Fin 2) (r : Fin 512) (j : Fin 1408) :
    (iblk m c 3 t : Vec Ideal S2x512x1408 .bf16) (ix3 s r j) = V m c main_v2 (ix3 ⟨2 + s.val, by omega⟩ ⟨512 * (t.val % 2) + r.val, by omega⟩ j : S4x1024x1408.Idx) := by
  have hi := index_all t
  unfold iblk
  rw [View.read_apply]
  refine congrArg (V m c main_v2) (funext fun a => Fin.ext ?_)
  match a with
  | ⟨0, _⟩ => show win0_3.index t 0 * 2 + 1 * s.val = 2 + s.val; rw [hi.2.2.2.2.2.2.2.1]; omega
  | ⟨1, _⟩ => show win0_3.index t 1 * 512 + 1 * r.val = 512 * (t.val % 2) + r.val; rw [hi.2.2.2.2.2.2.2.2.1]; omega
  | ⟨2, _⟩ => show win0_3.index t 2 * 1408 + 1 * j.val = j.val; rw [hi.2.2.2.2.2.2.2.2.2.1]; omega

theorem iblk4_apply (c : Dev nD) (t : Fin cfg0.N) (r : Fin 768) (j : Fin 512) (hr : 768 * (t.val / 2) + r.val < 8448) :
    (iblk m c 4 t : Vec Ideal S768x512 .bf16) (ix2 r j) = V m c main_v5 (ix2 ⟨768 * (t.val / 2) + r.val, hr⟩ ⟨512 * (t.val % 2) + j.val, by omega⟩ : S8448x1024.Idx) := by
  have hi := index_all t
  unfold iblk
  rw [View.read_apply]
  refine congrArg (V m c main_v5) (funext fun a => Fin.ext ?_)
  match a with
  | ⟨0, _⟩ => show win0_4.index t 0 * 768 + 1 * r.val = 768 * (t.val / 2) + r.val; rw [hi.2.2.2.2.2.2.2.2.2.2.1]; omega
  | ⟨1, _⟩ => show win0_4.index t 1 * 512 + 1 * j.val = 512 * (t.val % 2) + j.val; rw [hi.2.2.2.2.2.2.2.2.2.2.2.1]; omega

/-- The kernel's array at a row and a column is the gradient. -/
theorem ker_apply (c : Dev nD) (t : Fin 8448) (j : Fin 1024) :
    (dats m 0 c).arrAt 5 cfg0.N (ix2 t j : S8448x1024.Idx)
      = G (m ((c : Thread nD τ).loc main_arg0)) (m ((c : Thread nD τ).loc main_arg1)) (m ((c : Thread nD τ).loc main_arg2)) (m ((c : Thread nD τ).loc main_arg3)) t j := by
  let n : Fin cfg0.N := ⟨2 * (t.val / 768) + j.val / 512, lt_of_lt_of_eq (show 2 * (t.val / 768) + j.val / 512 < 22 by omega) N_0.symm⟩
  have hd : n.val / 2 = t.val / 768 := by show (2 * (t.val / 768) + j.val / 512) / 2 = t.val / 768; omega
  have hm : n.val % 2 = j.val / 512 := by show (2 * (t.val / 768) + j.val / 512) % 2 = j.val / 512; omega
  have hi := index_all n
  have hb := congrFun (Value.blocks5 m c n (flush0_5 n)) (ix2 ⟨t.val % 768, by omega⟩ ⟨j.val % 512, by omega⟩ : S768x512.Idx)
  rw [Value.flushed5, out_eq, View.read_apply] at hb
  have hr : 768 * (n.val / 2) + t.val % 768 = t.val := by rw [hd]; omega
  have hc : 512 * (n.val % 2) + j.val % 512 = j.val := by rw [hm]; omega
  refine Eq.trans ?_ (hb.trans (Eq.trans (b := k0_pay1 (iblk m c 0 n) (iblk m c 1 n) (iblk m c 2 n) (iblk m c 3 n) (iblk m c 4 n) (ix2 ⟨t.val % 768, by omega⟩ ⟨j.val % 512, by omega⟩ : S768x512.Idx)) rfl ?_))
  · refine congrArg ((dats m 0 c).arrAt 5 cfg0.N) (funext fun a => Fin.ext ?_)
    match a with
    | ⟨0, _⟩ => show t.val = win0_5.index n 0 * 768 + 1 * (t.val % 768); rw [hi.2.2.2.2.2.2.2.2.2.2.2.2.1, hd]; omega
    | ⟨1, _⟩ => show j.val = win0_5.index n 1 * 512 + 1 * (j.val % 512); rw [hi.2.2.2.2.2.2.2.2.2.2.2.2.2, hm]; omega
  · rw [pay1_apply]
    unfold G
    rw [sum_halves, sum_halves (fun x => _ * _), add_comm]
    refine congrArg₂ (· + ·) ?_ (congrArg₂ (· + ·) (congrArg₂ (· + ·) ?_ ?_) (congrArg₂ (· + ·) ?_ ?_))
    · rw [iblk4_apply m c n _ _ (by show 768 * (n.val / 2) + t.val % 768 < 8448; omega), z_entry, residual]
      refine congrArg (fun i => _ * m ((c : Thread nD τ).loc main_arg3) i) ?_
      exact congrArg₂ ix2 (Fin.ext hr) (Fin.ext hc)
    · refine Finset.sum_congr rfl fun x _ => congrArg₂ (· * ·) ?_ ?_
      · rw [iblk0_apply m c n _ _ (by show 768 * (n.val / 2) + t.val % 768 < 8448; omega), V_main_arg0]
        exact congrArg (m ((c : Thread nD τ).loc main_arg0)) (congrArg₂ ix2 (Fin.ext hr) rfl)
      · rw [iblk1_apply, w_entry]
        exact congrArg (m ((c : Thread nD τ).loc main_arg2)) (congrArg₂ ix2 (Fin.ext hc) (Fin.ext (by show 1408 * 0 + x.val = x.val; omega)))
    · refine Finset.sum_congr rfl fun x _ => congrArg₂ (· * ·) ?_ ?_
      · rw [iblk0_apply m c n _ _ (by show 768 * (n.val / 2) + t.val % 768 < 8448; omega), V_main_arg0]
        exact congrArg (m ((c : Thread nD τ).loc main_arg0)) (congrArg₂ ix2 (Fin.ext hr) rfl)
      · rw [iblk1_apply, w_entry]
        exact congrArg (m ((c : Thread nD τ).loc main_arg2)) (congrArg₂ ix2 (Fin.ext hc) (Fin.ext (by show 1408 * 1 + x.val = 1408 + x.val; omega)))
    · refine Finset.sum_congr rfl fun x _ => congrArg₂ (· * ·) ?_ ?_
      · rw [iblk2_apply m c n _ _ (by show 768 * (n.val / 2) + t.val % 768 < 8448; omega), V_main_arg1]
        exact congrArg (m ((c : Thread nD τ).loc main_arg1)) (congrArg₂ ix2 (Fin.ext hr) rfl)
      · rw [iblk3_apply, w_entry]
        exact congrArg (m ((c : Thread nD τ).loc main_arg2)) (congrArg₂ ix2 (Fin.ext hc) (Fin.ext (by show 1408 * (2 + 0) + x.val = 2816 + x.val; omega)))
    · refine Finset.sum_congr rfl fun x _ => congrArg₂ (· * ·) ?_ ?_
      · rw [iblk2_apply m c n _ _ (by show 768 * (n.val / 2) + t.val % 768 < 8448; omega), V_main_arg1]
        exact congrArg (m ((c : Thread nD τ).loc main_arg1)) (congrArg₂ ix2 (Fin.ext hr) rfl)
      · rw [iblk3_apply, w_entry]
        exact congrArg (m ((c : Thread nD τ).loc main_arg2)) (congrArg₂ ix2 (Fin.ext hc) (Fin.ext (by show 1408 * (2 + 1) + x.val = 2816 + (1408 + x.val); omega)))

theorem arr_eq (c : Dev nD) : (dats m 0 c).arrAt 5 cfg0.N
    = Cert.FubReferenceIdeal.Read.val_main_v12 (F := Ideal) (m ((c : Thread nD τ).loc main_arg0)) (m ((c : Thread nD τ).loc main_arg1))
        (m ((c : Thread nD τ).loc main_arg2)) (m ((c : Thread nD τ).loc main_arg3)) := by
  funext i
  obtain ⟨t, j, rfl⟩ : ∃ (t : Fin 8448) (j : Fin 1024), i = (ix2 t j : S8448x1024.Idx) := ⟨i 0, i 1, eq_ix2 i⟩
  rw [ref_apply, ker_apply]

/-- The kernel computes the reference's result. -/
theorem algebraic : Cert.algebraic_FubKernelIdeal_FubReferenceIdeal := by
  intro m g m' g' _ hag
  refine ⟨fun c => (dats m 0 c).arrAt 5 cfg0.N, Cert.FubKernelIdeal.Value.run_blocks m g, ?_⟩
  refine (θ_run _ _ _).mono (fun r h c => ?_) (Cert.FubReferenceIdeal.Value.run m' g')
  obtain ⟨h0, ha⟩ := h c
  obtain ⟨e0, e1, e2, e3⟩ := hag c
  refine ⟨?_, ha⟩
  refine Eq.trans ?_ (arr_eq m c).symm
  rw [← e0, ← e1, ← e2, ← e3]
  exact h0.trans (Cert.FubReferenceIdeal.Read.val_main_v12_eq _ _ _ _)

/-- The reference runs, leaves its arguments unchanged and ends with every counter at zero. -/
theorem frame_reference : Cert.quiescent_FubReferenceIdeal := by
  intro m ρ _
  exact (θ_run Cert.FubReferenceIdeal.defs _ _).mono (fun r h => ⟨fun c => (h c).2,
      Idealize.ShloMosaic.sem_eq_zero_of_no_sems (by decide) r.2⟩) (Cert.FubReferenceIdeal.Value.run (F := Ideal) m ρ)

end Cert.FubAlg
end
-- ==== Proof.TnSum.lean ====
module
public import proofs.«01_k».proof.Proof.Rows
@[expose] public section
noncomputable section
open Idealize.ShloMosaic
namespace Cert.TnSum
open Cert.Rows

/-! The product of a transposed matrix with another, its rows summed from the first up. -/

/-- The sum over the first `n` rows of column `u` of one matrix times column `j` of the other. -/
def upto {p a b : ℕ} (x0 : (⟨2, ![p, a]⟩ : Shape).Idx → EReal) (x1 : (⟨2, ![p, b]⟩ : Shape).Idx → EReal) (n u j : ℕ) : EReal :=
  ∑ i ∈ Finset.range n, at2 x0 i u * at2 x1 i j

theorem upto_zero {p a b : ℕ} (x0 : (⟨2, ![p, a]⟩ : Shape).Idx → EReal) (x1 : (⟨2, ![p, b]⟩ : Shape).Idx → EReal) (u j : ℕ) :
    upto x0 x1 0 u j = 0 := Finset.sum_range_zero _

/-- One block of rows more. -/
theorem upto_step {p a b : ℕ} (x0 : (⟨2, ![p, a]⟩ : Shape).Idx → EReal) (x1 : (⟨2, ![p, b]⟩ : Shape).Idx → EReal) (n u j w : ℕ)
    (f g : Fin w → EReal) (hf : ∀ r, f r = at2 x0 (n + r.val) u) (hg : ∀ r, g r = at2 x1 (n + r.val) j) :
    upto x0 x1 n u j + ∑ r, f r * g r = upto x0 x1 (n + w) u j := by
  unfold upto
  rw [← sum_block_up]
  exact congrArg _ (Finset.sum_congr rfl fun r _ => by rw [hf, hg])

/-- The entry of the product: the sum over all the rows. -/
def prod {p a b : ℕ} (x0 : (⟨2, ![p, a]⟩ : Shape).Idx → EReal) (x1 : (⟨2, ![p, b]⟩ : Shape).Idx → EReal) (u : Fin a) (j : Fin b) : EReal :=
  ∑ i : Fin p, x0 (ix2 i u) * x1 (ix2 i j)

theorem prod_comm {p a b : ℕ} (x0 : (⟨2, ![p, a]⟩ : Shape).Idx → EReal) (x1 : (⟨2, ![p, b]⟩ : Shape).Idx → EReal) (u : Fin a) (j : Fin b) :
    ∑ i : Fin p, x1 (ix2 i j) * x0 (ix2 i u) = prod x0 x1 u j := Finset.sum_congr rfl fun _ _ => mul_comm _ _

theorem upto_all {p a b : ℕ} (x0 : (⟨2, ![p, a]⟩ : Shape).Idx → EReal) (x1 : (⟨2, ![p, b]⟩ : Shape).Idx → EReal) (u : Fin a) (j : Fin b) :
    upto x0 x1 p u.val j.val = prod x0 x1 u j := by
  unfold upto prod
  rw [Finset.sum_range]
  exact Finset.sum_congr rfl fun i _ => by rw [at2_eq, at2_eq]

end Cert.TnSum
end
-- ==== Proof.DwdAlg.lean ====
module
public import proofs.«01_k».proof.Defs
public import proofs.«01_k».proof.Proof.TnSum
public import proofs.«01_k».proof.Proof.Gen.DwdKernelIdeal.Value
public import proofs.«01_k».proof.Proof.Gen.DwdReferenceIdeal.Run
public import proofs.«01_k».proof.Proof.Gen.DwdReferenceIdeal.Read
public import Idealize.ShloMosaic.Lib.Pointwise
public import Idealize.ShloMosaic.Lib.WritesUnit
public import Idealize.ShloMosaic.Lib.Tactic
@[expose] public section
set_option maxRecDepth 16384
noncomputable section
open Idealize.ShloMosaic Idealize.ShloMosaic.TcCoe Idealize.SL.Sem
namespace Cert.DwdAlg
open Cert.DwdKernelIdeal Cert.DwdKernelIdeal.Gen Cert.Rows Cert.TnSum

/-! The gradient in the weights of the feed-forward's output product, laid out by the chips. -/

/-- The offsets of a load or store of a whole rank-2 buffer. -/
theorem hz2 : (![0, 0] : Fin 2 → Nat) = fun _ => 0 := funext fun a => by fin_cases a <;> rfl

/-- The zeros a block of the result starts from. -/
theorem pay1_apply (r : Fin 1408) (j : Fin 1024) : (k0_pay1 (F := Ideal)) (ix2 r j) = (0 : EReal) := by
  unfold k0_pay1
  pointwise

/-- One block of rows added. -/
theorem pay2_apply (v3 : Vec Ideal S1408x1024 .f32) (v4 : Vec Ideal S768x1408 .bf16) (v5 : Vec Ideal S768x1024 .bf16) (r : Fin 1408) (j : Fin 1024) :
    k0_pay2 v3 v4 v5 (ix2 r j) = v3 (ix2 r j) + ∑ x : Fin 768, v4 (ix2 x r) * v5 (ix2 x j) := by
  unfold k0_pay2
  pointwise

/-- What a first point of a block leaves in the scratch. -/
theorem sout0_A_0_eq (c : Dev nD) (i : grid0.Coords) (arg2 : Memref sig .tc .vmem S768x1408 .bf16) (harg2 : arg2.IsWhole) (arg3 : Memref sig .tc .vmem S768x1024 .bf16) (harg3 : arg3.IsWhole) (arg4 : Memref sig .tc .vmem S2x704x1024 .bf16) (harg4 : arg4.IsWhole) (arg5 : Memref sig .tc .vmem S1408x1024 .f32) (harg5 : arg5.IsWhole) (hc0 : cond0_0 i) (hc1 : ¬cond0_1 i)
    (x0 : Vec Ideal S768x1408 .bf16) (x1 : Vec Ideal S768x1024 .bf16) :
    sout0_A_0 c i arg2 harg2 arg3 harg3 arg4 harg4 arg5 harg5 hc0 hc1 x0 x1 = k0_pay2 k0_pay1 x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  first
  | rw [View.canon_unit_zero hz2]
  | rw [View.canon_cons_unit_zero (S := S1408x1024) hz2, View.readCov_unit_zero (S := S1408x1024) _ hz2]
  simp only [View.readAt_eq_ld, harg2.read_unread, harg3.read_unread, harg4.read_unread, harg5.read_unread, View.ld_unit_zero (S := S1408x1024) hz2, View.ld_unit_zero (S := S768x1408) hz2, View.ld_unit_zero (S := S768x1024) hz2]

/-- What a middle point of a block leaves in the scratch. -/
theorem sout0_B_0_eq (c : Dev nD) (i : grid0.Coords) (arg2 : Memref sig .tc .vmem S768x1408 .bf16) (harg2 : arg2.IsWhole) (arg3 : Memref sig .tc .vmem S768x1024 .bf16) (harg3 : arg3.IsWhole) (arg4 : Memref sig .tc .vmem S2x704x1024 .bf16) (harg4 : arg4.IsWhole) (arg5 : Memref sig .tc .vmem S1408x1024 .f32) (harg5 : arg5.IsWhole) (hc0 : ¬cond0_0 i) (hc1 : ¬cond0_1 i)
    (x0 : Vec Ideal S768x1408 .bf16) (x1 : Vec Ideal S768x1024 .bf16) (xs0 : Vec Ideal S1408x1024 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  first
  | rw [View.canon_unit_zero hz2]
  | rw [View.canon_cons_unit_zero (S := S1408x1024) hz2, View.readCov_unit_zero (S := S1408x1024) _ hz2]
  simp only [View.readAt_eq_ld, harg2.read_unread, harg3.read_unread, harg4.read_unread, harg5.read_unread, View.ld_unit_zero (S := S1408x1024) hz2, View.ld_unit_zero (S := S768x1408) hz2, View.ld_unit_zero (S := S768x1024) hz2]

/-- What a last point of a block leaves in the scratch. -/
theorem sout0_C_0_eq (c : Dev nD) (i : grid0.Coords) (arg2 : Memref sig .tc .vmem S768x1408 .bf16) (harg2 : arg2.IsWhole) (arg3 : Memref sig .tc .vmem S768x1024 .bf16) (harg3 : arg3.IsWhole) (arg4 : Memref sig .tc .vmem S2x704x1024 .bf16) (harg4 : arg4.IsWhole) (arg5 : Memref sig .tc .vmem S1408x1024 .f32) (harg5 : arg5.IsWhole) (hc0 : ¬cond0_0 i) (hc1 : cond0_1 i)
    (x0 : Vec Ideal S768x1408 .bf16) (x1 : Vec Ideal S768x1024 .bf16) (xs0 : Vec Ideal S1408x1024 .f32) :
    sout0_C_0 c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  first
  | rw [View.canon_unit_zero hz2]
  | rw [View.canon_cons_unit_zero (S := S1408x1024) hz2, View.readCov_unit_zero (S := S1408x1024) _ hz2]
  simp only [View.readAt_eq_ld, harg2.read_unread, harg3.read_unread, harg4.read_unread, harg5.read_unread, View.ld_unit_zero (S := S1408x1024) hz2, View.ld_unit_zero (S := S768x1408) hz2, View.ld_unit_zero (S := S768x1024) hz2]

/-- What the last point of a block writes out, by chips. -/
theorem out0_C_2_eq (c : Dev nD) (i : grid0.Coords) (arg2 : Memref sig .tc .vmem S768x1408 .bf16) (harg2 : arg2.IsWhole) (arg3 : Memref sig .tc .vmem S768x1024 .bf16) (harg3 : arg3.IsWhole) (arg4 : Memref sig .tc .vmem S2x704x1024 .bf16) (harg4 : arg4.IsWhole) (arg5 : Memref sig .tc .vmem S1408x1024 .f32) (harg5 : arg5.IsWhole) (hc0 : ¬cond0_0 i) (hc1 : cond0_1 i)
    (x0 : Vec Ideal S768x1408 .bf16) (x1 : Vec Ideal S768x1024 .bf16) (xs0 : Vec Ideal S1408x1024 .f32) (s : Fin 2) (r : Fin 704) (j : Fin 1024) :
    out0_C_2 c i arg2 harg2 arg3 harg3 arg4 harg4 arg5 harg5 hc0 hc1 x0 x1 xs0 (ix3 s r j) = k0_pay2 xs0 x0 x1 (ix2 ⟨704 * s.val + r.val, by omega⟩ j) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  simp only [View.readAt_eq_ld, harg2.read_unread, harg3.read_unread, harg4.read_unread, harg5.read_unread, View.ld_unit_zero (S := S1408x1024) hz2, View.ld_unit_zero (S := S768x1408) hz2, View.ld_unit_zero (S := S768x1024) hz2]
  rw [← View.read_writes_junk_apply_eq_canon arg4.view]
  obtain rfl | rfl : s = 0 ∨ s = 1 := by omega
  · refine (View.read_writes_cons_unit_of_not_mem (off' := ![1, 0, 0]) arg4.view _ _ _ _ _ rfl (0 : Fin 3) (Or.inl (by show 0 < 1; omega))).trans
      ((View.read_writes_cons_unit_of_mem (off' := ![0, 0, 0]) arg4.view _ _ _ _ _ (ix3 (0 : Fin 1) r j) rfl ?_).trans ?_)
    · intro a
      match a with
      | ⟨0, _⟩ => rfl
      | ⟨1, _⟩ => exact (Nat.zero_add _).symm
      | ⟨2, _⟩ => exact (Nat.zero_add _).symm
    unfold k0_pay3
    pointwise
    rw [View.readCov_eq_canon', View.canon_unit_zero hz2]
    refine congrArg (k0_pay2 xs0 x0 x1) (funext fun a => Fin.ext ?_)
    match a with
    | ⟨0, _⟩ => show 0 + 1 * r.val = _; show 0 + 1 * r.val = r.val; omega
    | ⟨1, _⟩ => show 0 + 1 * j.val = _; show 0 + 1 * j.val = j.val; omega
  · refine (View.read_writes_cons_unit_of_mem (off' := ![1, 0, 0]) arg4.view _ _ _ _ _ (ix3 (0 : Fin 1) r j) rfl ?_).trans ?_
    · intro a
      match a with
      | ⟨0, _⟩ => rfl
      | ⟨1, _⟩ => exact (Nat.zero_add _).symm
      | ⟨2, _⟩ => exact (Nat.zero_add _).symm
    unfold k0_pay4
    pointwise
    rw [View.readCov_eq_canon', View.canon_unit_zero hz2]
    refine congrArg (k0_pay2 xs0 x0 x1) (funext fun a => Fin.ext ?_)
    match a with
    | ⟨0, _⟩ => show 704 + 1 * r.val = 704 + r.val; omega
    | ⟨1, _⟩ => show 0 + 1 * j.val = j.val; omega

variable (m : (ℓ : Loc nD τ sig) → Buf (Elt Ideal) ℓ)

theorem index_all : ∀ t : Fin cfg0.N, win0_0.index t 0 = t.val % 11 ∧ win0_0.index t 1 = t.val / 11 ∧ win0_1.index t 0 = t.val % 11 ∧ win0_1.index t 1 = 0 ∧ win0_2.index t 0 = t.val / 11 ∧ win0_2.index t 1 = 0 ∧ win0_2.index t 2 = 0 :=
  (by decide +kernel : ∀ t : Fin grid0.N, win0_0.index t 0 = t.val % 11 ∧ win0_0.index t 1 = t.val / 11 ∧ win0_1.index t 0 = t.val % 11 ∧ win0_1.index t 1 = 0 ∧ win0_2.index t 0 = t.val / 11 ∧ win0_2.index t 1 = 0 ∧ win0_2.index t 2 = 0)

/-- The two matrices the kernel multiplies. -/
def A0 (c : Dev nD) : S8448x2816.Idx → EReal := V m c main_arg0
def A1 (c : Dev nD) : S8448x1024.Idx → EReal := V m c main_arg1

theorem iblk0_apply (c : Dev nD) (t : Fin cfg0.N) (r : Fin 768) (j : Fin 1408) :
    (iblk m c 0 t : Vec Ideal S768x1408 .bf16) (ix2 r j) = at2 (A0 m c) (768 * (t.val % 11) + r.val) (1408 * (t.val / 11) + j.val) := by
  obtain ⟨h0, h1, -⟩ := index_all t
  have ht : t.val < 22 := lt_of_lt_of_eq t.isLt N_0
  rw [at2_mk _ (show 768 * (t.val % 11) + r.val < 8448 by omega) (show 1408 * (t.val / 11) + j.val < 2816 by omega)]
  unfold iblk
  rw [View.read_apply]
  refine congrArg (V m c main_arg0) (funext fun a => Fin.ext ?_)
  match a with
  | ⟨0, _⟩ => show win0_0.index t 0 * 768 + 1 * r.val = 768 * (t.val % 11) + r.val; rw [h0]; omega
  | ⟨1, _⟩ => show win0_0.index t 1 * 1408 + 1 * j.val = 1408 * (t.val / 11) + j.val; rw [h1]; omega

theorem iblk1_apply (c : Dev nD) (t : Fin cfg0.N) (r : Fin 768) (j : Fin 1024) :
    (iblk m c 1 t : Vec Ideal S768x1024 .bf16) (ix2 r j) = at2 (A1 m c) (768 * (t.val % 11) + r.val) j.val := by
  obtain ⟨-, -, h0, h1, -⟩ := index_all t
  rw [at2_mk _ (show 768 * (t.val % 11) + r.val < 8448 by omega) j.isLt]
  unfold iblk
  rw [View.read_apply]
  refine congrArg (V m c main_arg1) (funext fun a => Fin.ext ?_)
  match a with
  | ⟨0, _⟩ => show win0_1.index t 0 * 768 + 1 * r.val = 768 * (t.val % 11) + r.val; rw [h0]; omega
  | ⟨1, _⟩ => show win0_1.index t 1 * 1024 + 1 * j.val = j.val; rw [h1]; omega

/-- A point adds its block of rows. -/
theorem step_apply (c : Dev nD) (t : Fin cfg0.N) (xs : Vec Ideal S1408x1024 .f32) (r : Fin 1408) (j : Fin 1024)
    (h : xs (ix2 r j) = upto (A0 m c) (A1 m c) (768 * (t.val % 11)) (1408 * (t.val / 11) + r.val) j.val) :
    k0_pay2 xs (iblk m c 0 t) (iblk m c 1 t) (ix2 r j)
      = upto (A0 m c) (A1 m c) (768 * (t.val % 11) + 768) (1408 * (t.val / 11) + r.val) j.val := by
  rw [pay2_apply, h]
  exact upto_step _ _ _ _ _ 768 _ _ (fun x => iblk0_apply m c t x r) (fun x => iblk1_apply m c t x j)

/-- The scratch after the first point of a block, and after any other. -/
theorem scr_first (c : Dev nD) (t : Fin cfg0.N) (h0 : t.val % 11 = 0) :
    (outsAt0 m c t.val t.isLt).2 = k0_pay2 k0_pay1 (iblk m c 0 t) (iblk m c 1 t) := by
  rw [outsAt0_A m c t h0 (by omega)]
  dsimp only
  rw [sout0_A_0_eq]

theorem scr_next (c : Dev nD) (t : Fin cfg0.N) (h0 : ¬t.val % 11 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 11 = 10
  · rw [outsAt0_C m c t h0 h1]
    dsimp only
    rw [sout0_C_0_eq]
  · rw [outsAt0_B m c t h0 h1]
    dsimp only
    rw [sout0_B_0_eq]

/-- The scratch after a point: the rows up to that point's block. -/
theorem scr_apply (c : Dev nD) (r : Fin 1408) (j : Fin 1024) : ∀ (n : ℕ) (t : Fin cfg0.N), t.val = n →
    (outsAt0 m c t.val t.isLt).2 (ix2 r j) = upto (A0 m c) (A1 m c) (768 * (t.val % 11) + 768) (1408 * (t.val / 11) + r.val) j.val := by
  intro n
  induction n with
  | zero =>
    intro t ht
    rw [scr_first m c t (by rw [ht])]
    exact step_apply m c t _ r j ((pay1_apply r j).trans (by rw [ht]; exact (upto_zero ..).symm))
  | succ n ih =>
    intro t ht
    by_cases h0 : t.val % 11 = 0
    · rw [scr_first m c t h0]
      exact step_apply m c t _ r j ((pay1_apply r j).trans (by rw [h0]; exact (upto_zero ..).symm))
    · rw [scr_next m c t h0]
      refine step_apply m c t _ r j ((ih ⟨t.val - 1, Nat.lt_of_le_of_lt (Nat.sub_le _ _) t.isLt⟩ (by show t.val - 1 = n; omega)).trans ?_)
      show upto (A0 m c) (A1 m c) (768 * ((t.val - 1) % 11) + 768) (1408 * ((t.val - 1) / 11) + r.val) j.val = _
      rw [show 768 * ((t.val - 1) % 11) + 768 = 768 * (t.val % 11) by omega, show (t.val - 1) / 11 = t.val / 11 by omega]

theorem disjoint_out : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun he => hne <| by
    obtain ⟨-, -, -, -, h, -⟩ := index_all t
    obtain ⟨-, -, -, -, h', -⟩ := index_all t'
    have e : win0_2.index t 0 = win0_2.index t' 0 := congrFun he 0
    have f := (flush0_2 t).mp hf
    have f' := (flush0_2 t').mp hf'
    exact Fin.ext (by omega)

/-- What the last point of a block writes back, from the scratch it leaves. -/
theorem flushed_apply (c : Dev nD) (t : Fin cfg0.N) (h1 : t.val % 11 = 10) (s : Fin 2) (r : Fin 704) (j : Fin 1024) :
    (dats m 0 c).flushed 2 t (ix3 s r j : S2x704x1024.Idx) = (outsAt0 m c t.val t.isLt).2 (ix2 ⟨704 * s.val + r.val, by omega⟩ j) := by
  have h0 : ¬t.val % 11 = 0 := by omega
  refine Eq.trans (b := (outsAt0 m c t.val t.isLt).1 (ix3 s r j : S2x704x1024.Idx)) ?_ ?_
  · rw [show (dats m 0 c).flushed 2 t = (cfg0.win 2).cut (grid0.coords t) ((dats m 0 c).after 2 t) from rfl, after0_2]
    rfl
  · rw [scr_next m c t h0, outsAt0_C m c t h0 h1]
    dsimp only
    rw [out0_C_2_eq]

/-- A block of the array after the run. -/
theorem block_apply (c : Dev nD) (t : Fin cfg0.N) (h1 : t.val % 11 = 10) (s : Fin 2) (r : Fin 704) (j : Fin 1024) :
    (dats m 0 c).arrAt 2 cfg0.N (((cfg0.win 2).blk t).view.emb (ix3 s r j : S2x704x1024.Idx))
      = upto (A0 m c) (A1 m c) 8448 (1408 * (t.val / 11) + (704 * s.val + r.val)) j.val := by
  have hb := (congrFun ((dats m 0 c).read_blk_arrAt_eq_flushed 2 disjoint_out cfg0.N t t.isLt ((flush0_2 t).mpr h1)) (ix3 s r j : S2x704x1024.Idx)).trans
    (flushed_apply m c t h1 s r j)
  rw [scr_apply m c _ _ t.val t rfl, h1] at hb
  exact hb

/-- The kernel's array at a chip, a row and a column: the product's entry. -/
theorem ker_apply (c : Dev nD) (q : Fin 4) (r : Fin 704) (j : Fin 1024) :
    (dats m 0 c).arrAt 2 cfg0.N (ix3 q r j : S4x704x1024.Idx)
      = prod (p := 8448) (a := 2816) (b := 1024) (m ((c : Thread nD τ).loc main_arg0)) (m ((c : Thread nD τ).loc main_arg1)) ⟨704 * q.val + r.val, by omega⟩ j := by
  let t : Fin cfg0.N := ⟨11 * (q.val / 2) + 10, lt_of_lt_of_eq (show 11 * (q.val / 2) + 10 < 22 by omega) N_0.symm⟩
  have h1 : t.val % 11 = 10 := by show (11 * (q.val / 2) + 10) % 11 = 10; omega
  have hd : t.val / 11 = q.val / 2 := by show (11 * (q.val / 2) + 10) / 11 = q.val / 2; omega
  obtain ⟨-, -, -, -, i0, i1, i2⟩ := index_all t
  refine Eq.trans ?_ ((block_apply m c t h1 ⟨q.val % 2, by omega⟩ r j).trans ?_)
  · refine congrArg ((dats m 0 c).arrAt 2 cfg0.N) (funext fun a => Fin.ext ?_)
    match a with
    | ⟨0, _⟩ => show q.val = win0_2.index t 0 * 2 + 1 * (q.val % 2); rw [i0, hd]; omega
    | ⟨1, _⟩ => show r.val = win0_2.index t 1 * 704 + 1 * r.val; rw [i1]; omega
    | ⟨2, _⟩ => show j.val = win0_2.index t 2 * 1024 + 1 * j.val; rw [i2]; omega
  · rw [hd, show 1408 * (q.val / 2) + (704 * (q.val % 2) + r.val) = (⟨704 * q.val + r.val, by omega⟩ : Fin 2816).val by show _ = 704 * q.val + r.val; omega, upto_all]
    unfold A0 A1
    rw [V_main_arg0, V_main_arg1]

/-- The reference's result at the same place. -/
theorem ref_apply (x0 : S8448x2816.Idx → EReal) (x1 : S8448x1024.Idx → EReal) (q : Fin 4) (r : Fin 704) (j : Fin 1024) :
    Cert.DwdReferenceIdeal.Read.val_main_v7 (F := Ideal) x0 x1 (ix3 q r j : S4x704x1024.Idx)
      = prod (p := 8448) (a := 2816) (b := 1024) x0 x1 ⟨704 * q.val + r.val, by omega⟩ j := by
  unfold Cert.DwdReferenceIdeal.Read.val_main_v7 Cert.DwdReferenceIdeal.Read.val_main_v6 Cert.DwdReferenceIdeal.Read.val_main_v5 Cert.DwdReferenceIdeal.Read.val_main_v4 Cert.DwdReferenceIdeal.Read.val_main_v3 Cert.DwdReferenceIdeal.Read.val_main_v1
  pointwise
  rw [prod_comm (p := 8448) (a := 2816) (b := 1024)]
  exact congrArg (fun u => prod (p := 8448) (a := 2816) (b := 1024) x0 x1 u j) (Fin.ext (by show q.val * 704 + r.val = 704 * q.val + r.val; omega))

theorem arr_eq (c : Dev nD) : (dats m 0 c).arrAt 2 cfg0.N = Cert.DwdReferenceIdeal.Read.val_main_v7 (F := Ideal) (m ((c : Thread nD τ).loc main_arg0)) (m ((c : Thread nD τ).loc main_arg1)) := by
  funext i
  obtain ⟨q, r, j, rfl⟩ : ∃ (q : Fin 4) (r : Fin 704) (j : Fin 1024), i = (ix3 q r j : S4x704x1024.Idx) := ⟨i 0, i 1, i 2, eq_ix3 i⟩
  rw [ref_apply, ker_apply]

/-- The kernel computes the reference's result. -/
theorem algebraic : Cert.algebraic_DwdKernelIdeal_DwdReferenceIdeal := by
  intro m g m' g' _ hag
  refine ⟨fun c => (dats m 0 c).arrAt 2 cfg0.N, Cert.DwdKernelIdeal.Value.run_blocks m g, ?_⟩
  refine (θ_run _ _ _).mono (fun r h c => ?_) (Cert.DwdReferenceIdeal.Value.run m' g')
  obtain ⟨h0, ha⟩ := h c
  obtain ⟨e0, e1⟩ := hag c
  refine ⟨?_, ha⟩
  refine Eq.trans ?_ (arr_eq m c).symm
  rw [← e0, ← e1]
  exact h0.trans (Cert.DwdReferenceIdeal.Read.val_main_v7_eq _ _)

/-- The reference runs, leaves its arguments unchanged and ends with every counter at zero. -/
theorem frame_reference : Cert.quiescent_DwdReferenceIdeal := by
  intro m ρ _
  exact (θ_run Cert.DwdReferenceIdeal.defs _ _).mono (fun r h => ⟨fun c => (h c).2,
      Idealize.ShloMosaic.sem_eq_zero_of_no_sems (by decide) r.2⟩) (Cert.DwdReferenceIdeal.Value.run (F := Ideal) m ρ)

end Cert.DwdAlg
-- ==== Proof.DwbAlg.lean ====
module
public import proofs.«01_k».proof.Defs
public import proofs.«01_k».proof.Proof.TnSum
public import proofs.«01_k».proof.Proof.Gen.DwbKernelIdeal.Value
public import proofs.«01_k».proof.Proof.Gen.DwbReferenceIdeal.Run
public import proofs.«01_k».proof.Proof.Gen.DwbReferenceIdeal.Read
public import Idealize.ShloMosaic.Lib.Pointwise
public import Idealize.ShloMosaic.Lib.WritesUnit
public import Idealize.ShloMosaic.Lib.Tactic
@[expose] public section
set_option maxRecDepth 16384
noncomputable section
open Idealize.ShloMosaic Idealize.ShloMosaic.TcCoe Idealize.SL.Sem
namespace Cert.DwbAlg
open Cert.DwbKernelIdeal Cert.DwbKernelIdeal.Gen Cert.Rows Cert.TnSum

/-! The gradient in the second half of the columns of the feed-forward's input weights, laid out by the chips. -/

/-- The offsets of a load or store of a whole rank-2 buffer. -/
theorem hz2 : (![0, 0] : Fin 2 → Nat) = fun _ => 0 := funext fun a => by fin_cases a <;> rfl

/-- The zeros a block of the result starts from. -/
theorem pay1_apply (r : Fin 512) (j : Fin 2816) : (k0_pay1 (F := Ideal)) (ix2 r j) = (0 : EReal) := by
  unfold k0_pay1
  pointwise

/-- One block of rows added. -/
theorem pay2_apply (v3 : Vec Ideal S512x2816 .f32) (v4 : Vec Ideal S768x512 .bf16) (v5 : Vec Ideal S768x2816 .bf16) (r : Fin 512) (j : Fin 2816) :
    k0_pay2 v3 v4 v5 (ix2 r j) = v3 (ix2 r j) + ∑ x : Fin 768, v4 (ix2 x r) * v5 (ix2 x j) := by
  unfold k0_pay2
  pointwise

/-- What a first point of a block leaves in the scratch. -/
theorem sout0_A_0_eq (c : Dev nD) (i : grid0.Coords) (arg2 : Memref sig .tc .vmem S768x512 .bf16) (harg2 : arg2.IsWhole) (arg3 : Memref sig .tc .vmem S768x2816 .bf16) (harg3 : arg3.IsWhole) (arg5 : Memref sig .tc .vmem S2x512x1408 .bf16) (harg5 : arg5.IsWhole) (arg6 : Memref sig .tc .vmem S512x2816 .f32) (harg6 : arg6.IsWhole) (hc0 : cond0_0 i) (hc1 : ¬cond0_1 i)
    (x0 : Vec Ideal S768x512 .bf16) (x1 : Vec Ideal S768x2816 .bf16) :
    sout0_A_0 c i arg2 harg2 arg3 harg3 arg5 harg5 arg6 harg6 hc0 hc1 x0 x1 = k0_pay2 k0_pay1 x0 x1 := by
  unfold sout0_A_0
  rw [View.read_writes_eq_canon _ _ _ (scover0_A_0 c i arg2 harg2 arg3 harg3 arg5 harg5 arg6 harg6 hc0 hc1 x0 x1)]
  unfold kernelRun0_A
  dsimp only
  sl_unfold_words
  first
  | rw [View.canon_unit_zero hz2]
  | rw [View.canon_cons_unit_zero (S := S512x2816) hz2, View.readCov_unit_zero (S := S512x2816) _ hz2]
  simp only [View.readAt_eq_ld, harg2.read_unread, harg3.read_unread, harg5.read_unread, harg6.read_unread, View.ld_unit_zero (S := S512x2816) hz2, View.ld_unit_zero (S := S768x512) hz2, View.ld_unit_zero (S := S768x2816) hz2]

/-- What a middle point of a block leaves in the scratch. -/
theorem sout0_B_0_eq (c : Dev nD) (i : grid0.Coords) (arg2 : Memref sig .tc .vmem S768x512 .bf16) (harg2 : arg2.IsWhole) (arg3 : Memref sig .tc .vmem S768x2816 .bf16) (harg3 : arg3.IsWhole) (arg5 : Memref sig .tc .vmem S2x512x1408 .bf16) (harg5 : arg5.IsWhole) (arg6 : Memref sig .tc .vmem S512x2816 .f32) (harg6 : arg6.IsWhole) (hc0 : ¬cond0_0 i) (hc1 : ¬cond0_1 i)
    (x0 : Vec Ideal S768x512 .bf16) (x1 : Vec Ideal S768x2816 .bf16) (xs0 : Vec Ideal S512x2816 .f32) :
    sout0_B_0 c i arg2 harg2 arg3 harg3 arg5 harg5 arg6 harg6 hc0 hc1 x0 x1 xs0 = k0_pay2 xs0 x0 x1 := by
  unfold sout0_B_0
  rw [View.read_writes_eq_canon _ _ _ (scover0_B_0 c i arg2 harg2 arg3 harg3 arg5 harg5 arg6 harg6 hc0 hc1 x0 x1 xs0)]
  unfold kernelRun0_B
  dsimp only
  sl_unfold_words
  first
  | rw [View.canon_unit_zero hz2]
  | rw [View.canon_cons_unit_zero (S := S512x2816) hz2, View.readCov_unit_zero (S := S512x2816) _ hz2]
  simp only [View.readAt_eq_ld, harg2.read_unread, harg3.read_unread, harg5.read_unread, harg6.read_unread, View.ld_unit_zero (S := S512x2816) hz2, View.ld_unit_zero (S := S768x512) hz2, View.ld_unit_zero (S := S768x2816) hz2]

/-- What a last point of a block leaves in the scratch. -/
theorem sout0_C_0_eq (c : Dev nD) (i : grid0.Coords) (arg2 : Memref sig .tc .vmem S768x512 .bf16) (harg2 : arg2.IsWhole) (arg3 : Memref sig .tc .vmem S768x2816 .bf16) (harg3 : arg3.IsWhole) (arg5 : Memref sig .tc .vmem S2x512x1408 .bf16) (harg5 : arg5.IsWhole) (arg6 : Memref sig .tc .vmem S512x2816 .f32) (harg6 : arg6.IsWhole) (hc0 : ¬cond0_0 i) (hc1 : cond0_1 i)
    (x0 : Vec Ideal S768x512 .bf16) (x1 : Vec Ideal S768x2816 .bf16) (xs0 : Vec Ideal S512x2816 .f32) :
    sout0_C_0 c i arg2 harg2 arg3 harg3 arg5 harg5 arg6 harg6 hc0 hc1 x0 x1 xs0 = k0_pay2 xs0 x0 x1 := by
  unfold sout0_C_0
  rw [View.read_writes_eq_canon _ _ _ (scover0_C_0 c i arg2 harg2 arg3 harg3 arg5 harg5 arg6 harg6 hc0 hc1 x0 x1 xs0)]
  unfold kernelRun0_C
  dsimp only
  sl_unfold_words
  first
  | rw [View.canon_unit_zero hz2]
  | rw [View.canon_cons_unit_zero (S := S512x2816) hz2, View.readCov_unit_zero (S := S512x2816) _ hz2]
  simp only [View.readAt_eq_ld, harg2.read_unread, harg3.read_unread, harg5.read_unread, harg6.read_unread, View.ld_unit_zero (S := S512x2816) hz2, View.ld_unit_zero (S := S768x512) hz2, View.ld_unit_zero (S := S768x2816) hz2]

/-- What the last point of a block writes out, by chips. -/
theorem out0_C_2_eq (c : Dev nD) (i : grid0.Coords) (arg2 : Memref sig .tc .vmem S768x512 .bf16) (harg2 : arg2.IsWhole) (arg3 : Memref sig .tc .vmem S768x2816 .bf16) (harg3 : arg3.IsWhole) (arg5 : Memref sig .tc .vmem S2x512x1408 .bf16) (harg5 : arg5.IsWhole) (arg6 : Memref sig .tc .vmem S512x2816 .f32) (harg6 : arg6.IsWhole) (hc0 : ¬cond0_0 i) (hc1 : cond0_1 i)
    (x0 : Vec Ideal S768x512 .bf16) (x1 : Vec Ideal S768x2816 .bf16) (xs0 : Vec Ideal S512x2816 .f32) (s : Fin 2) (r : Fin 512) (j : Fin 1408) :
    out0_C_2 c i arg2 harg2 arg3 harg3 arg5 harg5 arg6 harg6 hc0 hc1 x0 x1 xs0 (ix3 s r j) = k0_pay2 xs0 x0 x1 (ix2 r ⟨1408 * s.val + j.val, by omega⟩) := by
  unfold out0_C_2
  rw [View.read_writes_eq_canon _ _ _ (cover0_C_2 c i arg2 harg2 arg3 harg3 arg5 harg5 arg6 harg6 hc0 hc1 x0 x1 xs0)]
  unfold kernelRun0_C
  dsimp only
  sl_unfold_words
  simp only [View.readAt_eq_ld, harg2.read_unread, harg3.read_unread, harg5.read_unread, harg6.read_unread, View.ld_unit_zero (S := S512x2816) hz2, View.ld_unit_zero (S := S768x512) hz2, View.ld_unit_zero (S := S768x2816) hz2]
  rw [← View.read_writes_junk_apply_eq_canon arg5.view]
  obtain rfl | rfl : s = 0 ∨ s = 1 := by omega
  · refine (View.read_writes_cons_unit_of_not_mem (off' := ![1, 0, 0]) arg5.view _ _ _ _ _ rfl (0 : Fin 3) (Or.inl (by show 0 < 1; omega))).trans
      ((View.read_writes_cons_unit_of_mem (off' := ![0, 0, 0]) arg5.view _ _ _ _ _ (ix3 (0 : Fin 1) r j) rfl ?_).trans ?_)
    · intro a
      match a with
      | ⟨0, _⟩ => rfl
      | ⟨1, _⟩ => exact (Nat.zero_add _).symm
      | ⟨2, _⟩ => exact (Nat.zero_add _).symm
    unfold k0_pay3
    pointwise
    rw [View.readCov_eq_canon', View.canon_unit_zero hz2]
    refine congrArg (k0_pay2 xs0 x0 x1) (funext fun a => Fin.ext ?_)
    match a with
    | ⟨0, _⟩ => show 0 + 1 * r.val = _; show 0 + 1 * r.val = r.val; omega
    | ⟨1, _⟩ => show 0 + 1 * j.val = _; show 0 + 1 * j.val = j.val; omega
  · refine (View.read_writes_cons_unit_of_mem (off' := ![1, 0, 0]) arg5.view _ _ _ _ _ (ix3 (0 : Fin 1) r j) rfl ?_).trans ?_
    · intro a
      match a with
      | ⟨0, _⟩ => rfl
      | ⟨1, _⟩ => exact (Nat.zero_add _).symm
      | ⟨2, _⟩ => exact (Nat.zero_add _).symm
    unfold k0_pay4
    pointwise
    rw [View.readCov_eq_canon', View.canon_unit_zero hz2]
    refine congrArg (k0_pay2 xs0 x0 x1) (funext fun a => Fin.ext ?_)
    match a with
    | ⟨0, _⟩ => show 0 + 1 * r.val = r.val; omega
    | ⟨1, _⟩ => show 1408 + 1 * j.val = 1408 + j.val; omega

variable (m : (ℓ : Loc nD τ sig) → Buf (Elt Ideal) ℓ)

theorem index_all : ∀ t : Fin cfg0.N, win0_0.index t 0 = t.val % 11 ∧ win0_0.index t 1 = t.val / 11 ∧ win0_1.index t 0 = t.val % 11 ∧ win0_1.index t 1 = 0 ∧ win0_2.index t 0 = 1 ∧ win0_2.index t 1 = t.val / 11 ∧ win0_2.index t 2 = 0 :=
  (by decide +kernel : ∀ t : Fin grid0.N, win0_0.index t 0 = t.val % 11 ∧ win0_0.index t 1 = t.val / 11 ∧ win0_1.index t 0 = t.val % 11 ∧ win0_1.index t 1 = 0 ∧ win0_2.index t 0 = 1 ∧ win0_2.index t 1 = t.val / 11 ∧ win0_2.index t 2 = 0)

/-- The two matrices the kernel multiplies. -/
def A0 (c : Dev nD) : S8448x1024.Idx → EReal := V m c main_arg0
def A1 (c : Dev nD) : S8448x2816.Idx → EReal := V m c main_arg1

theorem iblk0_apply (c : Dev nD) (t : Fin cfg0.N) (r : Fin 768) (j : Fin 512) :
    (iblk m c 0 t : Vec Ideal S768x512 .bf16) (ix2 r j) = at2 (A0 m c) (768 * (t.val % 11) + r.val) (512 * (t.val / 11) + j.val) := by
  obtain ⟨h0, h1, -⟩ := index_all t
  have ht : t.val < 22 := lt_of_lt_of_eq t.isLt N_0
  rw [at2_mk _ (show 768 * (t.val % 11) + r.val < 8448 by omega) (show 512 * (t.val / 11) + j.val < 1024 by omega)]
  unfold iblk
  rw [View.read_apply]
  refine congrArg (V m c main_arg0) (funext fun a => Fin.ext ?_)
  match a with
  | ⟨0, _⟩ => show win0_0.index t 0 * 768 + 1 * r.val = 768 * (t.val % 11) + r.val; rw [h0]; omega
  | ⟨1, _⟩ => show win0_0.index t 1 * 512 + 1 * j.val = 512 * (t.val / 11) + j.val; rw [h1]; omega

theorem iblk1_apply (c : Dev nD) (t : Fin cfg0.N) (r : Fin 768) (j : Fin 2816) :
    (iblk m c 1 t : Vec Ideal S768x2816 .bf16) (ix2 r j) = at2 (A1 m c) (768 * (t.val % 11) + r.val) j.val := by
  obtain ⟨-, -, h0, h1, -⟩ := index_all t
  rw [at2_mk _ (show 768 * (t.val % 11) + r.val < 8448 by omega) j.isLt]
  unfold iblk
  rw [View.read_apply]
  refine congrArg (V m c main_arg1) (funext fun a => Fin.ext ?_)
  match a with
  | ⟨0, _⟩ => show win0_1.index t 0 * 768 + 1 * r.val = 768 * (t.val % 11) + r.val; rw [h0]; omega
  | ⟨1, _⟩ => show win0_1.index t 1 * 2816 + 1 * j.val = j.val; rw [h1]; omega

/-- A point adds its block of rows. -/
theorem step_apply (c : Dev nD) (t : Fin cfg0.N) (xs : Vec Ideal S512x2816 .f32) (r : Fin 512) (j : Fin 2816)
    (h : xs (ix2 r j) = upto (A0 m c) (A1 m c) (768 * (t.val % 11)) (512 * (t.val / 11) + r.val) j.val) :
    k0_pay2 xs (iblk m c 0 t) (iblk m c 1 t) (ix2 r j)
      = upto (A0 m c) (A1 m c) (768 * (t.val % 11) + 768) (512 * (t.val / 11) + r.val) j.val := by
  rw [pay2_apply, h]
  exact upto_step _ _ _ _ _ 768 _ _ (fun x => iblk0_apply m c t x r) (fun x => iblk1_apply m c t x j)

/-- The scratch after the first point of a block, and after any other. -/
theorem scr_first (c : Dev nD) (t : Fin cfg0.N) (h0 : t.val % 11 = 0) :
    (outsAt0 m c t.val t.isLt).2 = k0_pay2 k0_pay1 (iblk m c 0 t) (iblk m c 1 t) := by
  rw [outsAt0_A m c t h0 (by omega)]
  dsimp only
  rw [sout0_A_0_eq]

theorem scr_next (c : Dev nD) (t : Fin cfg0.N) (h0 : ¬t.val % 11 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 11 = 10
  · rw [outsAt0_C m c t h0 h1]
    dsimp only
    rw [sout0_C_0_eq]
  · rw [outsAt0_B m c t h0 h1]
    dsimp only
    rw [sout0_B_0_eq]

/-- The scratch after a point: the rows up to that point's block. -/
theorem scr_apply (c : Dev nD) (r : Fin 512) (j : Fin 2816) : ∀ (n : ℕ) (t : Fin cfg0.N), t.val = n →
    (outsAt0 m c t.val t.isLt).2 (ix2 r j) = upto (A0 m c) (A1 m c) (768 * (t.val % 11) + 768) (512 * (t.val / 11) + r.val) j.val := by
  intro n
  induction n with
  | zero =>
    intro t ht
    rw [scr_first m c t (by rw [ht])]
    exact step_apply m c t _ r j ((pay1_apply r j).trans (by rw [ht]; exact (upto_zero ..).symm))
  | succ n ih =>
    intro t ht
    by_cases h0 : t.val % 11 = 0
    · rw [scr_first m c t h0]
      exact step_apply m c t _ r j ((pay1_apply r j).trans (by rw [h0]; exact (upto_zero ..).symm))
    · rw [scr_next m c t h0]
      refine step_apply m c t _ r j ((ih ⟨t.val - 1, Nat.lt_of_le_of_lt (Nat.sub_le _ _) t.isLt⟩ (by show t.val - 1 = n; omega)).trans ?_)
      show upto (A0 m c) (A1 m c) (768 * ((t.val - 1) % 11) + 768) (512 * ((t.val - 1) / 11) + r.val) j.val = _
      rw [show 768 * ((t.val - 1) % 11) + 768 = 768 * (t.val % 11) by omega, show (t.val - 1) / 11 = t.val / 11 by omega]

theorem disjoint_out : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun he => hne <| by
    obtain ⟨-, -, -, -, -, h, -⟩ := index_all t
    obtain ⟨-, -, -, -, -, h', -⟩ := index_all t'
    have e : win0_2.index t 1 = win0_2.index t' 1 := congrFun he 1
    have f := (flush0_2 t).mp hf
    have f' := (flush0_2 t').mp hf'
    exact Fin.ext (by omega)

/-- What the last point of a block writes back, from the scratch it leaves. -/
theorem flushed_apply (c : Dev nD) (t : Fin cfg0.N) (h1 : t.val % 11 = 10) (s : Fin 2) (r : Fin 512) (j : Fin 1408) :
    (dats m 0 c).flushed 2 t (ix3 s r j : S2x512x1408.Idx) = (outsAt0 m c t.val t.isLt).2 (ix2 r ⟨1408 * s.val + j.val, by omega⟩) := by
  have h0 : ¬t.val % 11 = 0 := by omega
  refine Eq.trans (b := (outsAt0 m c t.val t.isLt).1 (ix3 s r j : S2x512x1408.Idx)) ?_ ?_
  · rw [show (dats m 0 c).flushed 2 t = (cfg0.win 2).cut (grid0.coords t) ((dats m 0 c).after 2 t) from rfl, after0_2]
    rfl
  · rw [scr_next m c t h0, outsAt0_C m c t h0 h1]
    dsimp only
    rw [out0_C_2_eq]

/-- A block of the array after the run. -/
theorem block_apply (c : Dev nD) (t : Fin cfg0.N) (h1 : t.val % 11 = 10) (s : Fin 2) (r : Fin 512) (j : Fin 1408) :
    (dats m 0 c).arrAt 2 cfg0.N (((cfg0.win 2).blk t).view.emb (ix3 s r j : S2x512x1408.Idx))
      = upto (A0 m c) (A1 m c) 8448 (512 * (t.val / 11) + r.val) (1408 * s.val + j.val) := by
  have hb := (congrFun ((dats m 0 c).read_blk_arrAt_eq_flushed 2 disjoint_out cfg0.N t t.isLt ((flush0_2 t).mpr h1)) (ix3 s r j : S2x512x1408.Idx)).trans
    (flushed_apply m c t h1 s r j)
  rw [scr_apply m c _ _ t.val t rfl, h1] at hb
  exact hb

/-- The kernel's array at one of the last two chips, a row and a column: the product's entry. -/
theorem ker_apply (c : Dev nD) (s : Fin 2) (r : Fin 1024) (j : Fin 1408) :
    (dats m 0 c).arrAt 2 cfg0.N (ix3 ⟨2 + s.val, by omega⟩ r j : S4x1024x1408.Idx)
      = prod (p := 8448) (a := 1024) (b := 2816) (m ((c : Thread nD τ).loc main_arg0)) (m ((c : Thread nD τ).loc main_arg1)) r ⟨1408 * s.val + j.val, by omega⟩ := by
  let t : Fin cfg0.N := ⟨11 * (r.val / 512) + 10, lt_of_lt_of_eq (show 11 * (r.val / 512) + 10 < 22 by omega) N_0.symm⟩
  have h1 : t.val % 11 = 10 := by show (11 * (r.val / 512) + 10) % 11 = 10; omega
  have hd : t.val / 11 = r.val / 512 := by show (11 * (r.val / 512) + 10) / 11 = r.val / 512; omega
  obtain ⟨-, -, -, -, i0, i1, i2⟩ := index_all t
  refine Eq.trans ?_ ((block_apply m c t h1 s ⟨r.val % 512, by omega⟩ j).trans ?_)
  · refine congrArg ((dats m 0 c).arrAt 2 cfg0.N) (funext fun a => Fin.ext ?_)
    match a with
    | ⟨0, _⟩ => show 2 + s.val = win0_2.index t 0 * 2 + 1 * s.val; rw [i0]; omega
    | ⟨1, _⟩ => show r.val = win0_2.index t 1 * 512 + 1 * (r.val % 512); rw [i1, hd]; omega
    | ⟨2, _⟩ => show j.val = win0_2.index t 2 * 1408 + 1 * j.val; rw [i2]; omega
  · rw [hd, show 512 * (r.val / 512) + r.val % 512 = r.val by omega]
    refine (upto_all (p := 8448) (a := 1024) (b := 2816) _ _ r ⟨1408 * s.val + j.val, by omega⟩).trans ?_
    unfold A0 A1
    rw [V_main_arg0, V_main_arg1]

/-- At the first two chips the array keeps what it held. -/
theorem ker_kept (c : Dev nD) (s : Fin 2) (r : Fin 1024) (j : Fin 1408) :
    (dats m 0 c).arrAt 2 cfg0.N (ix3 ⟨s.val, by omega⟩ r j : S4x1024x1408.Idx)
      = m ((c : Thread nD τ).loc main_arg2) (ix3 ⟨s.val, by omega⟩ r j : S4x1024x1408.Idx) := by
  rw [Value.entry2 m c _ fun t _ hm => ?_]
  · show V m c main_v0 _ = _
    unfold V
    after_results_simp
    rfl
  · obtain ⟨-, -, -, -, i0, -⟩ := index_all t
    obtain ⟨y, -, hy⟩ := Finset.mem_map.mp hm
    have e := congrArg Fin.val (congrFun hy 0)
    have e' : win0_2.index t 0 * 2 + 1 * (y 0).val = s.val := e
    rw [i0] at e'
    omega

/-- The reference's result at the same places. -/
theorem ref_kept (x0 : S8448x1024.Idx → EReal) (x1 : S8448x2816.Idx → EReal) (x2 : S4x1024x1408.Idx → EReal) (s : Fin 2) (r : Fin 1024) (j : Fin 1408) :
    Cert.DwbReferenceIdeal.Read.val_main_v10 (F := Ideal) x0 x1 x2 (ix3 ⟨s.val, by omega⟩ r j : S4x1024x1408.Idx)
      = x2 (ix3 ⟨s.val, by omega⟩ r j) := by
  unfold Cert.DwbReferenceIdeal.Read.val_main_v10 Cert.DwbReferenceIdeal.Read.val_main_v7
  pointwise

theorem ref_apply (x0 : S8448x1024.Idx → EReal) (x1 : S8448x2816.Idx → EReal) (x2 : S4x1024x1408.Idx → EReal) (s : Fin 2) (r : Fin 1024) (j : Fin 1408) :
    Cert.DwbReferenceIdeal.Read.val_main_v10 (F := Ideal) x0 x1 x2 (ix3 ⟨2 + s.val, by omega⟩ r j : S4x1024x1408.Idx)
      = prod (p := 8448) (a := 1024) (b := 2816) x0 x1 r ⟨1408 * s.val + j.val, by omega⟩ := by
  unfold Cert.DwbReferenceIdeal.Read.val_main_v10 Cert.DwbReferenceIdeal.Read.val_main_v9 Cert.DwbReferenceIdeal.Read.val_main_v8 Cert.DwbReferenceIdeal.Read.val_main_v6 Cert.DwbReferenceIdeal.Read.val_main_v5 Cert.DwbReferenceIdeal.Read.val_main_v4 Cert.DwbReferenceIdeal.Read.val_main_v3 Cert.DwbReferenceIdeal.Read.val_main_v1
  pointwise
  rw [prod_comm (p := 8448) (a := 1024) (b := 2816)]
  exact congrArg (prod (p := 8448) (a := 1024) (b := 2816) x0 x1 r) (Fin.ext (by show s.val * 1408 + j.val = 1408 * s.val + j.val; omega))

theorem arr_eq (c : Dev nD) : (dats m 0 c).arrAt 2 cfg0.N = Cert.DwbReferenceIdeal.Read.val_main_v10 (F := Ideal) (m ((c : Thread nD τ).loc main_arg0)) (m ((c : Thread nD τ).loc main_arg1)) (m ((c : Thread nD τ).loc main_arg2)) := by
  funext i
  obtain ⟨q, r, j, rfl⟩ : ∃ (q : Fin 4) (r : Fin 1024) (j : Fin 1408), i = (ix3 q r j : S4x1024x1408.Idx) := ⟨i 0, i 1, i 2, eq_ix3 i⟩
  by_cases h : q.val < 2
  · exact (ker_kept m c ⟨q.val, h⟩ r j).trans (ref_kept _ _ _ ⟨q.val, h⟩ r j).symm
  · have e : q = ⟨2 + (⟨q.val - 2, by omega⟩ : Fin 2).val, by omega⟩ := Fin.ext (by show q.val = 2 + (q.val - 2); omega)
    rw [e, ref_apply, ker_apply]

/-- The kernel computes the reference's result. -/
theorem algebraic : Cert.algebraic_DwbKernelIdeal_DwbReferenceIdeal := by
  intro m g m' g' _ hag
  refine ⟨fun c => (dats m 0 c).arrAt 2 cfg0.N, Cert.DwbKernelIdeal.Value.run_blocks m g, ?_⟩
  refine (θ_run _ _ _).mono (fun r h c => ?_) (Cert.DwbReferenceIdeal.Value.run m' g')
  obtain ⟨h0, ha⟩ := h c
  obtain ⟨e0, e1, e2⟩ := hag c
  refine ⟨?_, ha⟩
  refine Eq.trans ?_ (arr_eq m c).symm
  rw [← e0, ← e1, ← e2]
  exact h0.trans (Cert.DwbReferenceIdeal.Read.val_main_v10_eq _ _ _)

/-- The reference runs, leaves its arguments unchanged and ends with every counter at zero. -/
theorem frame_reference : Cert.quiescent_DwbReferenceIdeal := by
  intro m ρ _
  exact (θ_run Cert.DwbReferenceIdeal.defs _ _).mono (fun r h => ⟨fun c => (h c).2,
      Idealize.ShloMosaic.sem_eq_zero_of_no_sems (by decide) r.2⟩) (Cert.DwbReferenceIdeal.Value.run (F := Ideal) m ρ)

end Cert.DwbAlg
-- ==== Proof.DwaAlg.lean ====
module
public import proofs.«01_k».proof.Defs
public import proofs.«01_k».proof.Proof.TnSum
public import proofs.«01_k».proof.Proof.Gen.DwaKernelIdeal.Frame
public import proofs.«01_k».proof.Proof.Gen.DwaReferenceIdeal.Run
public import proofs.«01_k».proof.Proof.Gen.DwaReferenceIdeal.Read
public import Idealize.ShloMosaic.Lib.Pointwise
public import Idealize.ShloMosaic.Lib.WritesUnit
public import Idealize.ShloMosaic.Lib.Tactic
@[expose] public section
set_option maxRecDepth 16384
noncomputable section
open Idealize.ShloMosaic Idealize.ShloMosaic.TcCoe Idealize.SL.Sem
namespace Cert.DwaAlg
open Cert.DwaKernelIdeal Cert.DwaKernelIdeal.Gen Cert.Rows Cert.TnSum

/-! The gradient in the first half of the columns of the feed-forward's input weights. -/

/-- The offsets of a load or store of a whole rank-2 buffer. -/
theorem hz2 : (![0, 0] : Fin 2 → Nat) = fun _ => 0 := funext fun a => by fin_cases a <;> rfl

/-- The zeros a block of the result starts from. -/
theorem pay1_apply (r : Fin 512) (j : Fin 2816) : (k0_pay1 (F := Ideal)) (ix2 r j) = (0 : EReal) := by
  unfold k0_pay1
  pointwise

/-- One block of rows added. -/
theorem pay2_apply (v3 : Vec Ideal S512x2816 .f32) (v4 : Vec Ideal S768x512 .bf16) (v5 : Vec Ideal S768x2816 .bf16) (r : Fin 512) (j : Fin 2816) :
    k0_pay2 v3 v4 v5 (ix2 r j) = v3 (ix2 r j) + ∑ x : Fin 768, v4 (ix2 x r) * v5 (ix2 x j) := by
  unfold k0_pay2
  pointwise

/-- What a first point of a block leaves in the scratch. -/
theorem sout0_A_0_eq (c : Dev nD) (i : grid0.Coords) (arg2 : Memref sig .tc .vmem S768x512 .bf16) (harg2 : arg2.IsWhole) (arg3 : Memref sig .tc .vmem S768x2816 .bf16) (harg3 : arg3.IsWhole) (arg4 : Memref sig .tc .vmem S2x512x1408 .bf16) (harg4 : arg4.IsWhole) (arg5 : Memref sig .tc .vmem S512x2816 .f32) (harg5 : arg5.IsWhole) (hc0 : cond0_0 i) (hc1 : ¬cond0_1 i)
    (x0 : Vec Ideal S768x512 .bf16) (x1 : Vec Ideal S768x2816 .bf16) :
    sout0_A_0 c i arg2 harg2 arg3 harg3 arg4 harg4 arg5 harg5 hc0 hc1 x0 x1 = k0_pay2 k0_pay1 x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  first
  | rw [View.canon_unit_zero hz2]
  | rw [View.canon_cons_unit_zero (S := S512x2816) hz2, View.readCov_unit_zero (S := S512x2816) _ hz2]
  simp only [View.readAt_eq_ld, harg2.read_unread, harg3.read_unread, harg4.read_unread, harg5.read_unread, View.ld_unit_zero (S := S512x2816) hz2, View.ld_unit_zero (S := S768x512) hz2, View.ld_unit_zero (S := S768x2816) hz2]

/-- What a middle point of a block leaves in the scratch. -/
theorem sout0_B_0_eq (c : Dev nD) (i : grid0.Coords) (arg2 : Memref sig .tc .vmem S768x512 .bf16) (harg2 : arg2.IsWhole) (arg3 : Memref sig .tc .vmem S768x2816 .bf16) (harg3 : arg3.IsWhole) (arg4 : Memref sig .tc .vmem S2x512x1408 .bf16) (harg4 : arg4.IsWhole) (arg5 : Memref sig .tc .vmem S512x2816 .f32) (harg5 : arg5.IsWhole) (hc0 : ¬cond0_0 i) (hc1 : ¬cond0_1 i)
    (x0 : Vec Ideal S768x512 .bf16) (x1 : Vec Ideal S768x2816 .bf16) (xs0 : Vec Ideal S512x2816 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  first
  | rw [View.canon_unit_zero hz2]
  | rw [View.canon_cons_unit_zero (S := S512x2816) hz2, View.readCov_unit_zero (S := S512x2816) _ hz2]
  simp only [View.readAt_eq_ld, harg2.read_unread, harg3.read_unread, harg4.read_unread, harg5.read_unread, View.ld_unit_zero (S := S512x2816) hz2, View.ld_unit_zero (S := S768x512) hz2, View.ld_unit_zero (S := S768x2816) hz2]

/-- What a last point of a block leaves in the scratch. -/
theorem sout0_C_0_eq (c : Dev nD) (i : grid0.Coords) (arg2 : Memref sig .tc .vmem S768x512 .bf16) (harg2 : arg2.IsWhole) (arg3 : Memref sig .tc .vmem S768x2816 .bf16) (harg3 : arg3.IsWhole) (arg4 : Memref sig .tc .vmem S2x512x1408 .bf16) (harg4 : arg4.IsWhole) (arg5 : Memref sig .tc .vmem S512x2816 .f32) (harg5 : arg5.IsWhole) (hc0 : ¬cond0_0 i) (hc1 : cond0_1 i)
    (x0 : Vec Ideal S768x512 .bf16) (x1 : Vec Ideal S768x2816 .bf16) (xs0 : Vec Ideal S512x2816 .f32) :
    sout0_C_0 c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  first
  | rw [View.canon_unit_zero hz2]
  | rw [View.canon_cons_unit_zero (S := S512x2816) hz2, View.readCov_unit_zero (S := S512x2816) _ hz2]
  simp only [View.readAt_eq_ld, harg2.read_unread, harg3.read_unread, harg4.read_unread, harg5.read_unread, View.ld_unit_zero (S := S512x2816) hz2, View.ld_unit_zero (S := S768x512) hz2, View.ld_unit_zero (S := S768x2816) hz2]

/-- What the last point of a block writes out, by chips. -/
theorem out0_C_2_eq (c : Dev nD) (i : grid0.Coords) (arg2 : Memref sig .tc .vmem S768x512 .bf16) (harg2 : arg2.IsWhole) (arg3 : Memref sig .tc .vmem S768x2816 .bf16) (harg3 : arg3.IsWhole) (arg4 : Memref sig .tc .vmem S2x512x1408 .bf16) (harg4 : arg4.IsWhole) (arg5 : Memref sig .tc .vmem S512x2816 .f32) (harg5 : arg5.IsWhole) (hc0 : ¬cond0_0 i) (hc1 : cond0_1 i)
    (x0 : Vec Ideal S768x512 .bf16) (x1 : Vec Ideal S768x2816 .bf16) (xs0 : Vec Ideal S512x2816 .f32) (s : Fin 2) (r : Fin 512) (j : Fin 1408) :
    out0_C_2 c i arg2 harg2 arg3 harg3 arg4 harg4 arg5 harg5 hc0 hc1 x0 x1 xs0 (ix3 s r j) = k0_pay2 xs0 x0 x1 (ix2 r ⟨1408 * s.val + j.val, by omega⟩) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  simp only [View.readAt_eq_ld, harg2.read_unread, harg3.read_unread, harg4.read_unread, harg5.read_unread, View.ld_unit_zero (S := S512x2816) hz2, View.ld_unit_zero (S := S768x512) hz2, View.ld_unit_zero (S := S768x2816) hz2]
  rw [← View.read_writes_junk_apply_eq_canon arg4.view]
  obtain rfl | rfl : s = 0 ∨ s = 1 := by omega
  · refine (View.read_writes_cons_unit_of_not_mem (off' := ![1, 0, 0]) arg4.view _ _ _ _ _ rfl (0 : Fin 3) (Or.inl (by show 0 < 1; omega))).trans
      ((View.read_writes_cons_unit_of_mem (off' := ![0, 0, 0]) arg4.view _ _ _ _ _ (ix3 (0 : Fin 1) r j) rfl ?_).trans ?_)
    · intro a
      match a with
      | ⟨0, _⟩ => rfl
      | ⟨1, _⟩ => exact (Nat.zero_add _).symm
      | ⟨2, _⟩ => exact (Nat.zero_add _).symm
    unfold k0_pay3
    pointwise
    rw [View.readCov_eq_canon', View.canon_unit_zero hz2]
    refine congrArg (k0_pay2 xs0 x0 x1) (funext fun a => Fin.ext ?_)
    match a with
    | ⟨0, _⟩ => show 0 + 1 * r.val = _; show 0 + 1 * r.val = r.val; omega
    | ⟨1, _⟩ => show 0 + 1 * j.val = _; show 0 + 1 * j.val = j.val; omega
  · refine (View.read_writes_cons_unit_of_mem (off' := ![1, 0, 0]) arg4.view _ _ _ _ _ (ix3 (0 : Fin 1) r j) rfl ?_).trans ?_
    · intro a
      match a with
      | ⟨0, _⟩ => rfl
      | ⟨1, _⟩ => exact (Nat.zero_add _).symm
      | ⟨2, _⟩ => exact (Nat.zero_add _).symm
    unfold k0_pay4
    pointwise
    rw [View.readCov_eq_canon', View.canon_unit_zero hz2]
    refine congrArg (k0_pay2 xs0 x0 x1) (funext fun a => Fin.ext ?_)
    match a with
    | ⟨0, _⟩ => show 0 + 1 * r.val = r.val; omega
    | ⟨1, _⟩ => show 1408 + 1 * j.val = 1408 + j.val; omega

variable (m : (ℓ : Loc nD τ sig) → Buf (Elt Ideal) ℓ)

theorem index_all : ∀ t : Fin cfg0.N, win0_0.index t 0 = t.val % 11 ∧ win0_0.index t 1 = t.val / 11 ∧ win0_1.index t 0 = t.val % 11 ∧ win0_1.index t 1 = 0 ∧ win0_2.index t 0 = 0 ∧ win0_2.index t 1 = t.val / 11 ∧ win0_2.index t 2 = 0 :=
  (by decide +kernel : ∀ t : Fin grid0.N, win0_0.index t 0 = t.val % 11 ∧ win0_0.index t 1 = t.val / 11 ∧ win0_1.index t 0 = t.val % 11 ∧ win0_1.index t 1 = 0 ∧ win0_2.index t 0 = 0 ∧ win0_2.index t 1 = t.val / 11 ∧ win0_2.index t 2 = 0)

/-- The two matrices the kernel multiplies. -/
def A0 (c : Dev nD) : S8448x1024.Idx → EReal := V m c main_arg0
def A1 (c : Dev nD) : S8448x2816.Idx → EReal := V m c main_arg1

theorem iblk0_apply (c : Dev nD) (t : Fin cfg0.N) (r : Fin 768) (j : Fin 512) :
    (iblk m c 0 t : Vec Ideal S768x512 .bf16) (ix2 r j) = at2 (A0 m c) (768 * (t.val % 11) + r.val) (512 * (t.val / 11) + j.val) := by
  obtain ⟨h0, h1, -⟩ := index_all t
  have ht : t.val < 22 := lt_of_lt_of_eq t.isLt N_0
  rw [at2_mk _ (show 768 * (t.val % 11) + r.val < 8448 by omega) (show 512 * (t.val / 11) + j.val < 1024 by omega)]
  unfold iblk
  rw [View.read_apply]
  refine congrArg (V m c main_arg0) (funext fun a => Fin.ext ?_)
  match a with
  | ⟨0, _⟩ => show win0_0.index t 0 * 768 + 1 * r.val = 768 * (t.val % 11) + r.val; rw [h0]; omega
  | ⟨1, _⟩ => show win0_0.index t 1 * 512 + 1 * j.val = 512 * (t.val / 11) + j.val; rw [h1]; omega

theorem iblk1_apply (c : Dev nD) (t : Fin cfg0.N) (r : Fin 768) (j : Fin 2816) :
    (iblk m c 1 t : Vec Ideal S768x2816 .bf16) (ix2 r j) = at2 (A1 m c) (768 * (t.val % 11) + r.val) j.val := by
  obtain ⟨-, -, h0, h1, -⟩ := index_all t
  rw [at2_mk _ (show 768 * (t.val % 11) + r.val < 8448 by omega) j.isLt]
  unfold iblk
  rw [View.read_apply]
  refine congrArg (V m c main_arg1) (funext fun a => Fin.ext ?_)
  match a with
  | ⟨0, _⟩ => show win0_1.index t 0 * 768 + 1 * r.val = 768 * (t.val % 11) + r.val; rw [h0]; omega
  | ⟨1, _⟩ => show win0_1.index t 1 * 2816 + 1 * j.val = j.val; rw [h1]; omega

/-- A point adds its block of rows. -/
theorem step_apply (c : Dev nD) (t : Fin cfg0.N) (xs : Vec Ideal S512x2816 .f32) (r : Fin 512) (j : Fin 2816)
    (h : xs (ix2 r j) = upto (A0 m c) (A1 m c) (768 * (t.val % 11)) (512 * (t.val / 11) + r.val) j.val) :
    k0_pay2 xs (iblk m c 0 t) (iblk m c 1 t) (ix2 r j)
      = upto (A0 m c) (A1 m c) (768 * (t.val % 11) + 768) (512 * (t.val / 11) + r.val) j.val := by
  rw [pay2_apply, h]
  exact upto_step _ _ _ _ _ 768 _ _ (fun x => iblk0_apply m c t x r) (fun x => iblk1_apply m c t x j)

/-- The scratch after the first point of a block, and after any other. -/
theorem scr_first (c : Dev nD) (t : Fin cfg0.N) (h0 : t.val % 11 = 0) :
    (outsAt0 m c t.val t.isLt).2 = k0_pay2 k0_pay1 (iblk m c 0 t) (iblk m c 1 t) := by
  rw [outsAt0_A m c t h0 (by omega)]
  dsimp only
  rw [sout0_A_0_eq]

theorem scr_next (c : Dev nD) (t : Fin cfg0.N) (h0 : ¬t.val % 11 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 11 = 10
  · rw [outsAt0_C m c t h0 h1]
    dsimp only
    rw [sout0_C_0_eq]
  · rw [outsAt0_B m c t h0 h1]
    dsimp only
    rw [sout0_B_0_eq]

/-- The scratch after a point: the rows up to that point's block. -/
theorem scr_apply (c : Dev nD) (r : Fin 512) (j : Fin 2816) : ∀ (n : ℕ) (t : Fin cfg0.N), t.val = n →
    (outsAt0 m c t.val t.isLt).2 (ix2 r j) = upto (A0 m c) (A1 m c) (768 * (t.val % 11) + 768) (512 * (t.val / 11) + r.val) j.val := by
  intro n
  induction n with
  | zero =>
    intro t ht
    rw [scr_first m c t (by rw [ht])]
    exact step_apply m c t _ r j ((pay1_apply r j).trans (by rw [ht]; exact (upto_zero ..).symm))
  | succ n ih =>
    intro t ht
    by_cases h0 : t.val % 11 = 0
    · rw [scr_first m c t h0]
      exact step_apply m c t _ r j ((pay1_apply r j).trans (by rw [h0]; exact (upto_zero ..).symm))
    · rw [scr_next m c t h0]
      refine step_apply m c t _ r j ((ih ⟨t.val - 1, Nat.lt_of_le_of_lt (Nat.sub_le _ _) t.isLt⟩ (by show t.val - 1 = n; omega)).trans ?_)
      show upto (A0 m c) (A1 m c) (768 * ((t.val - 1) % 11) + 768) (512 * ((t.val - 1) / 11) + r.val) j.val = _
      rw [show 768 * ((t.val - 1) % 11) + 768 = 768 * (t.val % 11) by omega, show (t.val - 1) / 11 = t.val / 11 by omega]

theorem disjoint_out : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun he => hne <| by
    obtain ⟨-, -, -, -, -, h, -⟩ := index_all t
    obtain ⟨-, -, -, -, -, h', -⟩ := index_all t'
    have e : win0_2.index t 1 = win0_2.index t' 1 := congrFun he 1
    have f := (flush0_2 t).mp hf
    have f' := (flush0_2 t').mp hf'
    exact Fin.ext (by omega)

/-- What the last point of a block writes back, from the scratch it leaves. -/
theorem flushed_apply (c : Dev nD) (t : Fin cfg0.N) (h1 : t.val % 11 = 10) (s : Fin 2) (r : Fin 512) (j : Fin 1408) :
    (dats m 0 c).flushed 2 t (ix3 s r j : S2x512x1408.Idx) = (outsAt0 m c t.val t.isLt).2 (ix2 r ⟨1408 * s.val + j.val, by omega⟩) := by
  have h0 : ¬t.val % 11 = 0 := by omega
  refine Eq.trans (b := (outsAt0 m c t.val t.isLt).1 (ix3 s r j : S2x512x1408.Idx)) ?_ ?_
  · rw [show (dats m 0 c).flushed 2 t = (cfg0.win 2).cut (grid0.coords t) ((dats m 0 c).after 2 t) from rfl, after0_2]
    rfl
  · rw [scr_next m c t h0, outsAt0_C m c t h0 h1]
    dsimp only
    rw [out0_C_2_eq]

/-- A block of the array after the run. -/
theorem block_apply (c : Dev nD) (t : Fin cfg0.N) (h1 : t.val % 11 = 10) (s : Fin 2) (r : Fin 512) (j : Fin 1408) :
    (dats m 0 c).arrAt 2 cfg0.N (((cfg0.win 2).blk t).view.emb (ix3 s r j : S2x512x1408.Idx))
      = upto (A0 m c) (A1 m c) 8448 (512 * (t.val / 11) + r.val) (1408 * s.val + j.val) := by
  have hb := (congrFun ((dats m 0 c).read_blk_arrAt_eq_flushed 2 disjoint_out cfg0.N t t.isLt ((flush0_2 t).mpr h1)) (ix3 s r j : S2x512x1408.Idx)).trans
    (flushed_apply m c t h1 s r j)
  rw [scr_apply m c _ _ t.val t rfl, h1] at hb
  exact hb

/-- The kernel's array at one of the first two chips, a row and a column: the product's entry. -/
theorem ker_apply (c : Dev nD) (s : Fin 2) (r : Fin 1024) (j : Fin 1408) :
    (dats m 0 c).arrAt 2 cfg0.N (ix3 ⟨s.val, by omega⟩ r j : S4x1024x1408.Idx)
      = prod (p := 8448) (a := 1024) (b := 2816) (m ((c : Thread nD τ).loc main_arg0)) (m ((c : Thread nD τ).loc main_arg1)) r ⟨1408 * s.val + j.val, by omega⟩ := by
  let t : Fin cfg0.N := ⟨11 * (r.val / 512) + 10, lt_of_lt_of_eq (show 11 * (r.val / 512) + 10 < 22 by omega) N_0.symm⟩
  have h1 : t.val % 11 = 10 := by show (11 * (r.val / 512) + 10) % 11 = 10; omega
  have hd : t.val / 11 = r.val / 512 := by show (11 * (r.val / 512) + 10) / 11 = r.val / 512; omega
  obtain ⟨-, -, -, -, i0, i1, i2⟩ := index_all t
  refine Eq.trans ?_ ((block_apply m c t h1 s ⟨r.val % 512, by omega⟩ j).trans ?_)
  · refine congrArg ((dats m 0 c).arrAt 2 cfg0.N) (funext fun a => Fin.ext ?_)
    match a with
    | ⟨0, _⟩ => show s.val = win0_2.index t 0 * 2 + 1 * s.val; rw [i0]; omega
    | ⟨1, _⟩ => show r.val = win0_2.index t 1 * 512 + 1 * (r.val % 512); rw [i1, hd]; omega
    | ⟨2, _⟩ => show j.val = win0_2.index t 2 * 1408 + 1 * j.val; rw [i2]; omega
  · rw [hd, show 512 * (r.val / 512) + r.val % 512 = r.val by omega]
    refine (upto_all (p := 8448) (a := 1024) (b := 2816) _ _ r ⟨1408 * s.val + j.val, by omega⟩).trans ?_
    unfold A0 A1
    rw [V_main_arg0, V_main_arg1]

/-- The chips' columns side by side again. -/
def res (X : S4x1024x1408.Idx → EReal) : S1024x2816.Idx → EReal :=
  shapeCast S1024x2816 (transpose S1024x2x1408 [1, 0, 2] (extractStridedSlice S2x1024x1408 ![0, 0, 0] X slices_S4x1024x1408_S2x1024x1408_0_0_0)
    transposes_S2x1024x1408_S1024x2x1408_1_0_2) shapeCasts_S1024x2x1408_S1024x2816

theorem res_apply (X : S4x1024x1408.Idx → EReal) (s : Fin 2) (r : Fin 1024) (j : Fin 1408) :
    res X (ix2 r ⟨1408 * s.val + j.val, by omega⟩) = X (ix3 ⟨s.val, by omega⟩ r j) := by
  unfold res
  pointwise

/-- The reference's result. -/
theorem ref_apply (x0 : S8448x1024.Idx → EReal) (x1 : S8448x2816.Idx → EReal) (r : Fin 1024) (j : Fin 2816) :
    Cert.DwaReferenceIdeal.Read.val_main_v6 (F := Ideal) x0 x1 (ix2 r j : S1024x2816.Idx)
      = prod (p := 8448) (a := 1024) (b := 2816) x0 x1 r j := by
  unfold Cert.DwaReferenceIdeal.Read.val_main_v6 Cert.DwaReferenceIdeal.Read.val_main_v5 Cert.DwaReferenceIdeal.Read.val_main_v4 Cert.DwaReferenceIdeal.Read.val_main_v3 Cert.DwaReferenceIdeal.Read.val_main_v1
  pointwise
  exact prod_comm (p := 8448) (a := 1024) (b := 2816) x0 x1 r j

theorem tail_res (W : Valuation τ sig (Elt Ideal)) : StableHlo.after hostOps1 W (Proc.devRef .tc main_v3) = res (W (Proc.devRef .tc main_v0)) := by
  after_results_simp
  rfl

/-- The buffers after the kernel, before the host's last lines. -/
abbrev mid (c : Dev nD) : Valuation τ sig (Elt Ideal) := Pipeline.withArrays spec0 c (V0 m c) fun w => (dats m 0 c).arrAt w cfg0.N

theorem arr_inj : Function.Injective (Pipeline.arrRef spec0) := by decide

theorem mid_out (c : Dev nD) : mid m c (Proc.devRef .tc main_v0) = (dats m 0 c).arrAt 2 cfg0.N := Pipeline.withArrays_arr spec0 arr_inj c (V0 m c) _ 2

/-- The kernel's program leaves the result and its arguments. -/
theorem run_result (ρ : Dev nD → PrngReg) : θ_run defs (onTc (τ := τ) (main (F := Ideal))) ⟨m, fun _ => 0, ρ⟩ (fun r => ∀ c : Dev nD,
      r.2.mem ((c : Thread nD τ).loc main_v3) = res ((dats m 0 c).arrAt 2 cfg0.N)) :=
  (θ_run defs _ _).mono (fun _ h c =>
    ((h c).2 main_v3 (Pipeline.mem_restRefs_of main_v3 (by decide) (by decide))).trans ((tail_res (mid m c)).trans (congrArg res (mid_out m c)))) (run_main m ρ)

theorem arr_eq (c : Dev nD) : res ((dats m 0 c).arrAt 2 cfg0.N) = Cert.DwaReferenceIdeal.Read.val_main_v6 (F := Ideal) (m ((c : Thread nD τ).loc main_arg0)) (m ((c : Thread nD τ).loc main_arg1)) := by
  funext i
  obtain ⟨r, j, rfl⟩ : ∃ (r : Fin 1024) (j : Fin 2816), i = (ix2 r j : S1024x2816.Idx) := ⟨i 0, i 1, eq_ix2 i⟩
  have e : j = ⟨1408 * (⟨j.val / 1408, by omega⟩ : Fin 2).val + (⟨j.val % 1408, by omega⟩ : Fin 1408).val, by have := j.isLt; show 1408 * (j.val / 1408) + j.val % 1408 < 2816; omega⟩ :=
    Fin.ext (by show j.val = 1408 * (j.val / 1408) + j.val % 1408; omega)
  rw [e, res_apply, ref_apply, ker_apply]

/-- The kernel computes the reference's result. -/
theorem algebraic : Cert.algebraic_DwaKernelIdeal_DwaReferenceIdeal := by
  intro m g m' g' _ hag
  refine ⟨fun c => res ((dats m 0 c).arrAt 2 cfg0.N), (θ_run _ _ _).mono (fun r h c => ⟨h.1 c, h.2 c⟩) (θ_run_and (run_result m g) (Cert.DwaKernelIdeal.Gen.unchanged m g)), ?_⟩
  refine (θ_run _ _ _).mono (fun r h c => ?_) (Cert.DwaReferenceIdeal.Value.run m' g')
  obtain ⟨h0, ha⟩ := h c
  obtain ⟨e0, e1⟩ := hag c
  refine ⟨?_, ha⟩
  refine Eq.trans ?_ (arr_eq m c).symm
  rw [← e0, ← e1]
  exact h0.trans (Cert.DwaReferenceIdeal.Read.val_main_v6_eq _ _)

/-- The reference runs, leaves its arguments unchanged and ends with every counter at zero. -/
theorem frame_reference : Cert.quiescent_DwaReferenceIdeal := by
  intro m ρ _
  exact (θ_run Cert.DwaReferenceIdeal.defs _ _).mono (fun r h => ⟨fun c => (h c).2,
      Idealize.ShloMosaic.sem_eq_zero_of_no_sems (by decide) r.2⟩) (Cert.DwaReferenceIdeal.Value.run (F := Ideal) m ρ)

end Cert.DwaAlg
-- ==== Proof.MxbAlg.lean ====
module
public import proofs.«01_k».proof.Defs
public import proofs.«01_k».proof.Proof.Gen.MxbKernelIdeal.Value
public import proofs.«01_k».proof.Proof.Gen.MxbReferenceIdeal.Run
public import proofs.«01_k».proof.Proof.Gen.MxbReferenceIdeal.Read
public import Idealize.ShloMosaic.Lib.Pointwise
public import Idealize.ShloMosaic.Lib.WritesUnit
@[expose] public section
set_option maxRecDepth 16384
noncomputable section
open Idealize.ShloMosaic Idealize.ShloMosaic.TcCoe Idealize.SL.Sem
namespace Cert.MxbAlg
open Cert.MxbKernelIdeal Cert.MxbKernelIdeal.Gen

/-! The gradient in the input of the token mixer's input product. -/

/-- The offsets of a load or store of a whole rank-2 buffer. -/
theorem hz2 : (![0, 0] : Fin 2 → Nat) = fun _ => 0 := funext fun a => by fin_cases a <;> rfl

/-- One block of the result at a row and a column: the product over the padded columns, and the residual. -/
theorem pay1_apply (v0 : Vec Ideal S768x4096 .bf16) (v2 : Vec Ideal S512x4096 .bf16) (v5 : Vec Ideal S768x512 .bf16) (r : Fin 768) (j : Fin 512) :
    k0_pay1 v0 v2 v5 (ix2 r j)
      = (∑ x : Fin 4096, v0 (ix2 r x) * v2 (ix2 j x)) + Ideal.ofBits FTy.f32 0x3FB504F3#32 * v5 (ix2 r j) := by
  unfold k0_pay1
  pointwise

/-- The block a point leaves is its payload of the blocks it reads. -/
theorem out_eq (x0 : Vec Ideal S768x4096 .bf16) (x1 : Vec Ideal S512x4096 .bf16) (x2 : Vec Ideal S768x512 .bf16) :
    out0_3 x0 x1 x2 = k0_pay1 x0 x1 x2 := by
  unfold out0_3
  rw [View.canon_unit_zero hz2, View.ld_unit_zero (S := S768x4096) hz2, View.ld_unit_zero (S := S512x4096) hz2, View.ld_unit_zero (S := S768x512) hz2]

/-- The gradient at a row and a column, from the arguments. -/
def G (x0 : S8448x4000.Idx → EReal) (x1 : S1024x4000.Idx → EReal) (x2 : S8448x1024.Idx → EReal) (t : Fin 8448) (j : Fin 1024) : EReal :=
  Ideal.ofBits FTy.f32 0x3FB504F3#32 * x2 (ix2 t j) + ∑ x : Fin 4000, x0 (ix2 t x) * x1 (ix2 j x)

theorem ref_apply (x0 : S8448x4000.Idx → EReal) (x1 : S1024x4000.Idx → EReal) (x2 : S8448x1024.Idx → EReal) (t : Fin 8448) (j : Fin 1024) :
    Cert.MxbReferenceIdeal.Read.val_main_v8 (F := Ideal) x0 x1 x2 (ix2 t j) = G x0 x1 x2 t j := by
  unfold Cert.MxbReferenceIdeal.Read.val_main_v8 Cert.MxbReferenceIdeal.Read.val_main_v7 Cert.MxbReferenceIdeal.Read.val_main_v6 Cert.MxbReferenceIdeal.Read.val_main_v5 Cert.MxbReferenceIdeal.Read.val_main_v4 Cert.MxbReferenceIdeal.Read.val_main_cst_1
  pointwise
  rfl

/-- A sum over the padded columns whose padding adds nothing is the sum over the columns. -/
theorem sum_padded (f : Fin 4096 → EReal) (g : Fin 4000 → EReal) (h0 : ∀ x : Fin 1952, f ⟨x.val, by omega⟩ = g ⟨x.val, by omega⟩)
    (h1 : ∀ x : Fin 96, f ⟨1952 + x.val, by omega⟩ = 0) (h2 : ∀ x : Fin 2048, f ⟨2048 + x.val, by omega⟩ = g ⟨1952 + x.val, by omega⟩) :
    ∑ x, f x = ∑ x, g x := by
  have e : ∑ x, f x = (∑ x : Fin 2048, f ⟨x.val, by omega⟩) + ∑ x : Fin 2048, f ⟨2048 + x.val, by omega⟩ := Fin.sum_univ_add (a := 2048) (b := 2048) f
  have e' : ∑ x : Fin 2048, f ⟨x.val, by omega⟩ = (∑ x : Fin 1952, f ⟨x.val, by omega⟩) + ∑ x : Fin 96, f ⟨1952 + x.val, by omega⟩ :=
    Fin.sum_univ_add (a := 1952) (b := 96) (fun x : Fin 2048 => f ⟨x.val, by omega⟩)
  have e2 : ∑ x, g x = (∑ x : Fin 1952, g ⟨x.val, by omega⟩) + ∑ x : Fin 2048, g ⟨1952 + x.val, by omega⟩ := Fin.sum_univ_add (a := 1952) (b := 2048) g
  rw [e, e', e2, Finset.sum_congr rfl fun x _ => h0 x, Finset.sum_congr rfl fun x _ => h1 x, Finset.sum_congr rfl fun x _ => h2 x,
    Finset.sum_const_zero, add_zero]

variable (m : (ℓ : Loc nD τ sig) → Buf (Elt Ideal) ℓ)

/-- The projections' gradient the kernel is handed, padded. -/
theorem p_entry (c : Dev nD) (t : Fin 8448) (x : Fin 4096) :
    V m c main_v3 (ix2 t x : S8448x4096.Idx) = if h : x.val < 1952 then m ((c : Thread nD τ).loc main_arg0) (ix2 t ⟨x.val, by omega⟩ : S8448x4000.Idx)
      else if h : x.val < 2048 then (0 : EReal) else m ((c : Thread nD τ).loc main_arg0) (ix2 t ⟨x.val - 96, by omega⟩ : S8448x4000.Idx) := by
  unfold V
  after_results_simp
  pointwise
  after_results_simp
  generalize m ((c : Thread nD τ).loc main_arg0) = W
  pointwise
  by_cases h0 : x.val < 1952
  · rw [dif_pos h0, dif_pos h0]
  by_cases h1 : x.val < 2048
  · rw [dif_neg h0, dif_neg h0, dif_pos h1, dif_pos (by omega)]
  · rw [dif_neg h0, dif_neg h0, dif_neg h1, dif_neg (by omega)]
    exact congrArg W (congrArg (ix2 t) (Fin.ext (by show 1952 + (x.val - 1952 - 96) = x.val - 96; omega)))

/-- The weights the kernel is handed, padded. -/
theorem w_entry (c : Dev nD) (t : Fin 1024) (x : Fin 4096) :
    V m c main_v8 (ix2 t x : S1024x4096.Idx) = if h : x.val < 1952 then m ((c : Thread nD τ).loc main_arg1) (ix2 t ⟨x.val, by omega⟩ : S1024x4000.Idx)
      else if h : x.val < 2048 then (0 : EReal) else m ((c : Thread nD τ).loc main_arg1) (ix2 t ⟨x.val - 96, by omega⟩ : S1024x4000.Idx) := by
  unfold V
  after_results_simp
  pointwise
  after_results_simp
  generalize m ((c : Thread nD τ).loc main_arg1) = W
  pointwise
  by_cases h0 : x.val < 1952
  · rw [dif_pos h0, dif_pos h0]
  by_cases h1 : x.val < 2048
  · rw [dif_neg h0, dif_neg h0, dif_pos h1, dif_pos (by omega)]
  · rw [dif_neg h0, dif_neg h0, dif_neg h1, dif_neg (by omega)]
    exact congrArg W (congrArg (ix2 t) (Fin.ext (by show 1952 + (x.val - 1952 - 96) = x.val - 96; omega)))

/-- The gradient of the sum, as the kernel is handed it. -/
theorem z_entry (c : Dev nD) (t : Fin 8448) (d : Fin 1024) :
    V m c main_v9 (ix2 t d : S8448x1024.Idx) = m ((c : Thread nD τ).loc main_arg2) (ix2 t d : S8448x1024.Idx) := by
  unfold V
  after_results_simp
  generalize m ((c : Thread nD τ).loc main_arg2) = W
  pointwise

theorem index_all : ∀ t : Fin cfg0.N, win0_0.index t 0 = t.val / 2 ∧ win0_0.index t 1 = 0
    ∧ win0_1.index t 0 = t.val % 2 ∧ win0_1.index t 1 = 0
    ∧ win0_2.index t 0 = t.val / 2 ∧ win0_2.index t 1 = t.val % 2 ∧ win0_3.index t 0 = t.val / 2 ∧ win0_3.index t 1 = t.val % 2 :=
  (by decide +kernel : ∀ t : Fin grid0.N, win0_0.index t 0 = t.val / 2 ∧ win0_0.index t 1 = 0
    ∧ win0_1.index t 0 = t.val % 2 ∧ win0_1.index t 1 = 0
    ∧ win0_2.index t 0 = t.val / 2 ∧ win0_2.index t 1 = t.val % 2 ∧ win0_3.index t 0 = t.val / 2 ∧ win0_3.index t 1 = t.val % 2)

theorem iblk0_apply (c : Dev nD) (t : Fin cfg0.N) (r : Fin 768) (j : Fin 4096) (hr : 768 * (t.val / 2) + r.val < 8448) :
    (iblk m c 0 t : Vec Ideal S768x4096 .bf16) (ix2 r j) = V m c main_v3 (ix2 ⟨768 * (t.val / 2) + r.val, hr⟩ j : S8448x4096.Idx) := by
  obtain ⟨h0, h1, -⟩ := index_all t
  unfold iblk
  rw [View.read_apply]
  refine congrArg (V m c main_v3) (funext fun a => Fin.ext ?_)
  match a with
  | ⟨0, _⟩ => show win0_0.index t 0 * 768 + 1 * r.val = 768 * (t.val / 2) + r.val; rw [h0]; omega
  | ⟨1, _⟩ => show win0_0.index t 1 * 4096 + 1 * j.val = j.val; rw [h1]; omega

theorem iblk1_apply (c : Dev nD) (t : Fin cfg0.N) (r : Fin 512) (j : Fin 4096) :
    (iblk m c 1 t : Vec Ideal S512x4096 .bf16) (ix2 r j) = V m c main_v8 (ix2 ⟨512 * (t.val % 2) + r.val, by omega⟩ j : S1024x4096.Idx) := by
  obtain ⟨-, -, h0, h1, -⟩ := index_all t
  unfold iblk
  rw [View.read_apply]
  refine congrArg (V m c main_v8) (funext fun a => Fin.ext ?_)
  match a with
  | ⟨0, _⟩ => show win0_1.index t 0 * 512 + 1 * r.val = 512 * (t.val % 2) + r.val; rw [h0]; omega
  | ⟨1, _⟩ => show win0_1.index t 1 * 4096 + 1 * j.val = j.val; rw [h1]; omega

theorem iblk2_apply (c : Dev nD) (t : Fin cfg0.N) (r : Fin 768) (j : Fin 512) (hr : 768 * (t.val / 2) + r.val < 8448) :
    (iblk m c 2 t : Vec Ideal S768x512 .bf16) (ix2 r j) = V m c main_v9 (ix2 ⟨768 * (t.val / 2) + r.val, hr⟩ ⟨512 * (t.val % 2) + j.val, by omega⟩ : S8448x1024.Idx) := by
  obtain ⟨-, -, -, -, h0, h1, -⟩ := index_all t
  unfold iblk
  rw [View.read_apply]
  refine congrArg (V m c main_v9) (funext fun a => Fin.ext ?_)
  match a with
  | ⟨0, _⟩ => show win0_2.index t 0 * 768 + 1 * r.val = 768 * (t.val / 2) + r.val; rw [h0]; omega
  | ⟨1, _⟩ => show win0_2.index t 1 * 512 + 1 * j.val = 512 * (t.val % 2) + j.val; rw [h1]; omega

/-- The kernel's array at a row and a column is the gradient. -/
theorem ker_apply (c : Dev nD) (t : Fin 8448) (j : Fin 1024) :
    (dats m 0 c).arrAt 3 cfg0.N (ix2 t j : S8448x1024.Idx)
      = G (m ((c : Thread nD τ).loc main_arg0)) (m ((c : Thread nD τ).loc main_arg1)) (m ((c : Thread nD τ).loc main_arg2)) t j := by
  let n : Fin cfg0.N := ⟨2 * (t.val / 768) + j.val / 512, lt_of_lt_of_eq (show 2 * (t.val / 768) + j.val / 512 < 22 by omega) N_0.symm⟩
  have hd : n.val / 2 = t.val / 768 := by show (2 * (t.val / 768) + j.val / 512) / 2 = t.val / 768; omega
  have hm : n.val % 2 = j.val / 512 := by show (2 * (t.val / 768) + j.val / 512) % 2 = j.val / 512; omega
  obtain ⟨-, -, -, -, -, -, i0, i1⟩ := index_all n
  have hb := congrFun (Value.blocks3 m c n (flush0_3 n)) (ix2 ⟨t.val % 768, by omega⟩ ⟨j.val % 512, by omega⟩ : S768x512.Idx)
  rw [Value.flushed3, out_eq, View.read_apply] at hb
  have hr : 768 * (n.val / 2) + t.val % 768 = t.val := by rw [hd]; omega
  have hc : 512 * (n.val % 2) + j.val % 512 = j.val := by rw [hm]; omega
  refine Eq.trans ?_ (hb.trans (Eq.trans (b := k0_pay1 (iblk m c 0 n) (iblk m c 1 n) (iblk m c 2 n) (ix2 ⟨t.val % 768, by omega⟩ ⟨j.val % 512, by omega⟩ : S768x512.Idx)) rfl ?_))
  · refine congrArg ((dats m 0 c).arrAt 3 cfg0.N) (funext fun a => Fin.ext ?_)
    match a with
    | ⟨0, _⟩ => show t.val = win0_3.index n 0 * 768 + 1 * (t.val % 768); rw [i0, hd]; omega
    | ⟨1, _⟩ => show j.val = win0_3.index n 1 * 512 + 1 * (j.val % 512); rw [i1, hm]; omega
  · rw [pay1_apply]
    unfold G
    rw [add_comm]
    have hr' : 768 * (n.val / 2) + t.val % 768 < 8448 := by omega
    have et : (⟨768 * (n.val / 2) + t.val % 768, hr'⟩ : Fin 8448) = t := Fin.ext hr
    have ej : (⟨512 * (n.val % 2) + j.val % 512, by omega⟩ : Fin 1024) = j := Fin.ext hc
    refine congrArg₂ (· + ·) ?_ ?_
    · rw [iblk2_apply m c n _ _ hr', z_entry]
      exact congrArg (fun i => _ * m ((c : Thread nD τ).loc main_arg2) i) (congrArg₂ ix2 et ej)
    · refine (Finset.sum_congr rfl (g := fun x : Fin 4096 => (HMul.hMul (α := EReal) (β := EReal) (γ := EReal) (V m c main_v3 (ix2 t x : S8448x4096.Idx)) (V m c main_v8 (ix2 j x : S1024x4096.Idx)))) fun x _ => congrArg₂ (fun a b : EReal => a * b) ?_ ?_).trans
        (sum_padded _ _ (fun x => ?_) (fun x => ?_) (fun x => ?_))
      · rw [iblk0_apply m c n _ _ hr']
        exact congrArg (fun a => V m c main_v3 (ix2 a x : S8448x4096.Idx)) et
      · rw [iblk1_apply]
        exact congrArg (fun a => V m c main_v8 (ix2 a x : S1024x4096.Idx)) ej
      · rw [p_entry, w_entry, dif_pos x.isLt, dif_pos x.isLt]
      · rw [p_entry, dif_neg (by show ¬ 1952 + x.val < 1952; omega), dif_pos (by show 1952 + x.val < 2048; omega), zero_mul]
      · have a1 : ¬ 2048 + x.val < 1952 := by omega
        have a2 : ¬ 2048 + x.val < 2048 := by omega
        rw [p_entry, w_entry, dif_neg a1, dif_neg a2, dif_neg a1, dif_neg a2]
        have ex : (⟨2048 + x.val - 96, by omega⟩ : Fin 4000) = ⟨1952 + x.val, by omega⟩ := Fin.ext (by show 2048 + x.val - 96 = 1952 + x.val; omega)
        exact congrArg (fun y => HMul.hMul (α := EReal) (β := EReal) (γ := EReal) (m ((c : Thread nD τ).loc main_arg0) (ix2 t y : S8448x4000.Idx)) (m ((c : Thread nD τ).loc main_arg1) (ix2 j y : S1024x4000.Idx))) ex

theorem arr_eq (c : Dev nD) : (dats m 0 c).arrAt 3 cfg0.N
    = Cert.MxbReferenceIdeal.Read.val_main_v8 (F := Ideal) (m ((c : Thread nD τ).loc main_arg0)) (m ((c : Thread nD τ).loc main_arg1)) (m ((c : Thread nD τ).loc main_arg2)) := by
  funext i
  obtain ⟨t, j, rfl⟩ : ∃ (t : Fin 8448) (j : Fin 1024), i = (ix2 t j : S8448x1024.Idx) := ⟨i 0, i 1, eq_ix2 i⟩
  rw [ref_apply, ker_apply]

/-- The kernel computes the reference's result. -/
theorem algebraic : Cert.algebraic_MxbKernelIdeal_MxbReferenceIdeal := by
  intro m g m' g' _ hag
  refine ⟨fun c => (dats m 0 c).arrAt 3 cfg0.N, Cert.MxbKernelIdeal.Value.run_blocks m g, ?_⟩
  refine (θ_run _ _ _).mono (fun r h c => ?_) (Cert.MxbReferenceIdeal.Value.run m' g')
  obtain ⟨h0, ha⟩ := h c
  obtain ⟨e0, e1, e2⟩ := hag c
  refine ⟨?_, ha⟩
  refine Eq.trans ?_ (arr_eq m c).symm
  rw [← e0, ← e1, ← e2]
  exact h0.trans (Cert.MxbReferenceIdeal.Read.val_main_v8_eq _ _ _)

/-- The reference runs, leaves its arguments unchanged and ends with every counter at zero. -/
theorem frame_reference : Cert.quiescent_MxbReferenceIdeal := by
  intro m ρ _
  exact (θ_run Cert.MxbReferenceIdeal.defs _ _).mono (fun r h => ⟨fun c => (h c).2,
      Idealize.ShloMosaic.sem_eq_zero_of_no_sems (by decide) r.2⟩) (Cert.MxbReferenceIdeal.Value.run (F := Ideal) m ρ)

end Cert.MxbAlg
end
-- ==== Proof.DwiAlg.lean ====
module
public import proofs.«01_k».proof.Defs
public import proofs.«01_k».proof.Proof.TnSum
public import proofs.«01_k».proof.Proof.Gen.DwiKernelIdeal.Frame
public import proofs.«01_k».proof.Proof.Gen.DwiReferenceIdeal.Run
public import proofs.«01_k».proof.Proof.Gen.DwiReferenceIdeal.Read
public import Idealize.ShloMosaic.Lib.Pointwise
public import Idealize.ShloMosaic.Lib.WritesUnit
public import Idealize.ShloMosaic.Lib.Tactic
@[expose] public section
set_option maxRecDepth 16384
noncomputable section
open Idealize.ShloMosaic Idealize.ShloMosaic.TcCoe Idealize.SL.Sem
namespace Cert.DwiAlg
open Cert.DwiKernelIdeal Cert.DwiKernelIdeal.Gen Cert.Rows Cert.TnSum

/-! The gradient in the weights of the token mixer's input product, with padded columns. -/

/-- The offsets of a load or store of a whole rank-2 buffer. -/
theorem hz2 : (![0, 0] : Fin 2 → Nat) = fun _ => 0 := funext fun a => by fin_cases a <;> rfl

/-- The zeros a block of the result starts from. -/
theorem pay1_apply (r : Fin 512) (j : Fin 4096) : (k0_pay1 (F := Ideal)) (ix2 r j) = (0 : EReal) := by
  unfold k0_pay1
  pointwise

/-- One block of rows added. -/
theorem pay2_apply (v3 : Vec Ideal S512x4096 .f32) (v4 : Vec Ideal S768x512 .bf16) (v5 : Vec Ideal S768x4096 .bf16) (r : Fin 512) (j : Fin 4096) :
    k0_pay2 v3 v4 v5 (ix2 r j) = v3 (ix2 r j) + ∑ x : Fin 768, v4 (ix2 x r) * v5 (ix2 x j) := by
  unfold k0_pay2
  pointwise

/-- What a first point of a block leaves in the scratch. -/
theorem sout0_A_0_eq (c : Dev nD) (i : grid0.Coords) (arg2 : Memref sig .tc .vmem S768x512 .bf16) (harg2 : arg2.IsWhole) (arg3 : Memref sig .tc .vmem S768x4096 .bf16) (harg3 : arg3.IsWhole) (arg4 : Memref sig .tc .vmem S512x4096 .bf16) (harg4 : arg4.IsWhole) (arg5 : Memref sig .tc .vmem S512x4096 .f32) (harg5 : arg5.IsWhole) (hc0 : cond0_0 i) (hc1 : ¬cond0_1 i)
    (x0 : Vec Ideal S768x512 .bf16) (x1 : Vec Ideal S768x4096 .bf16) :
    sout0_A_0 c i arg2 harg2 arg3 harg3 arg4 harg4 arg5 harg5 hc0 hc1 x0 x1 = k0_pay2 k0_pay1 x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  first
  | rw [View.canon_unit_zero hz2]
  | rw [View.canon_cons_unit_zero (S := S512x4096) hz2, View.readCov_unit_zero (S := S512x4096) _ hz2]
  simp only [View.readAt_eq_ld, harg2.read_unread, harg3.read_unread, harg4.read_unread, harg5.read_unread, View.ld_unit_zero (S := S512x4096) hz2, View.ld_unit_zero (S := S768x512) hz2, View.ld_unit_zero (S := S768x4096) hz2]

/-- What a middle point of a block leaves in the scratch. -/
theorem sout0_B_0_eq (c : Dev nD) (i : grid0.Coords) (arg2 : Memref sig .tc .vmem S768x512 .bf16) (harg2 : arg2.IsWhole) (arg3 : Memref sig .tc .vmem S768x4096 .bf16) (harg3 : arg3.IsWhole) (arg4 : Memref sig .tc .vmem S512x4096 .bf16) (harg4 : arg4.IsWhole) (arg5 : Memref sig .tc .vmem S512x4096 .f32) (harg5 : arg5.IsWhole) (hc0 : ¬cond0_0 i) (hc1 : ¬cond0_1 i)
    (x0 : Vec Ideal S768x512 .bf16) (x1 : Vec Ideal S768x4096 .bf16) (xs0 : Vec Ideal S512x4096 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  first
  | rw [View.canon_unit_zero hz2]
  | rw [View.canon_cons_unit_zero (S := S512x4096) hz2, View.readCov_unit_zero (S := S512x4096) _ hz2]
  simp only [View.readAt_eq_ld, harg2.read_unread, harg3.read_unread, harg4.read_unread, harg5.read_unread, View.ld_unit_zero (S := S512x4096) hz2, View.ld_unit_zero (S := S768x512) hz2, View.ld_unit_zero (S := S768x4096) hz2]

/-- What a last point of a block leaves in the scratch. -/
theorem sout0_C_0_eq (c : Dev nD) (i : grid0.Coords) (arg2 : Memref sig .tc .vmem S768x512 .bf16) (harg2 : arg2.IsWhole) (arg3 : Memref sig .tc .vmem S768x4096 .bf16) (harg3 : arg3.IsWhole) (arg4 : Memref sig .tc .vmem S512x4096 .bf16) (harg4 : arg4.IsWhole) (arg5 : Memref sig .tc .vmem S512x4096 .f32) (harg5 : arg5.IsWhole) (hc0 : ¬cond0_0 i) (hc1 : cond0_1 i)
    (x0 : Vec Ideal S768x512 .bf16) (x1 : Vec Ideal S768x4096 .bf16) (xs0 : Vec Ideal S512x4096 .f32) :
    sout0_C_0 c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  first
  | rw [View.canon_unit_zero hz2]
  | rw [View.canon_cons_unit_zero (S := S512x4096) hz2, View.readCov_unit_zero (S := S512x4096) _ hz2]
  simp only [View.readAt_eq_ld, harg2.read_unread, harg3.read_unread, harg4.read_unread, harg5.read_unread, View.ld_unit_zero (S := S512x4096) hz2, View.ld_unit_zero (S := S768x512) hz2, View.ld_unit_zero (S := S768x4096) hz2]

/-- What the last point of a block writes out. -/
theorem out0_C_2_eq (c : Dev nD) (i : grid0.Coords) (arg2 : Memref sig .tc .vmem S768x512 .bf16) (harg2 : arg2.IsWhole) (arg3 : Memref sig .tc .vmem S768x4096 .bf16) (harg3 : arg3.IsWhole) (arg4 : Memref sig .tc .vmem S512x4096 .bf16) (harg4 : arg4.IsWhole) (arg5 : Memref sig .tc .vmem S512x4096 .f32) (harg5 : arg5.IsWhole) (hc0 : ¬cond0_0 i) (hc1 : cond0_1 i)
    (x0 : Vec Ideal S768x512 .bf16) (x1 : Vec Ideal S768x4096 .bf16) (xs0 : Vec Ideal S512x4096 .f32) (r : Fin 512) (j : Fin 4096) :
    out0_C_2 c i arg2 harg2 arg3 harg3 arg4 harg4 arg5 harg5 hc0 hc1 x0 x1 xs0 (ix2 r j) = k0_pay2 xs0 x0 x1 (ix2 r j) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2, View.readCov_unit_zero (S := S512x4096) _ hz2]
  simp only [View.readAt_eq_ld, harg2.read_unread, harg3.read_unread, harg4.read_unread, harg5.read_unread, View.ld_unit_zero (S := S512x4096) hz2, View.ld_unit_zero (S := S768x512) hz2, View.ld_unit_zero (S := S768x4096) hz2]
  unfold k0_pay3
  pointwise

variable (m : (ℓ : Loc nD τ sig) → Buf (Elt Ideal) ℓ)

theorem index_all : ∀ t : Fin cfg0.N, win0_0.index t 0 = t.val % 11 ∧ win0_0.index t 1 = t.val / 11 ∧ win0_1.index t 0 = t.val % 11 ∧ win0_1.index t 1 = 0 ∧ win0_2.index t 0 = t.val / 11 ∧ win0_2.index t 1 = 0 :=
  (by decide +kernel : ∀ t : Fin grid0.N, win0_0.index t 0 = t.val % 11 ∧ win0_0.index t 1 = t.val / 11 ∧ win0_1.index t 0 = t.val % 11 ∧ win0_1.index t 1 = 0 ∧ win0_2.index t 0 = t.val / 11 ∧ win0_2.index t 1 = 0)

/-- The two matrices the kernel multiplies. -/
def A0 (c : Dev nD) : S8448x1024.Idx → EReal := V m c main_arg0
def A1 (c : Dev nD) : S8448x4096.Idx → EReal := V m c main_v3

theorem iblk0_apply (c : Dev nD) (t : Fin cfg0.N) (r : Fin 768) (j : Fin 512) :
    (iblk m c 0 t : Vec Ideal S768x512 .bf16) (ix2 r j) = at2 (A0 m c) (768 * (t.val % 11) + r.val) (512 * (t.val / 11) + j.val) := by
  obtain ⟨h0, h1, -⟩ := index_all t
  have ht : t.val < 22 := lt_of_lt_of_eq t.isLt N_0
  rw [at2_mk _ (show 768 * (t.val % 11) + r.val < 8448 by omega) (show 512 * (t.val / 11) + j.val < 1024 by omega)]
  unfold iblk
  rw [View.read_apply]
  refine congrArg (V m c main_arg0) (funext fun a => Fin.ext ?_)
  match a with
  | ⟨0, _⟩ => show win0_0.index t 0 * 768 + 1 * r.val = 768 * (t.val % 11) + r.val; rw [h0]; omega
  | ⟨1, _⟩ => show win0_0.index t 1 * 512 + 1 * j.val = 512 * (t.val / 11) + j.val; rw [h1]; omega

theorem iblk1_apply (c : Dev nD) (t : Fin cfg0.N) (r : Fin 768) (j : Fin 4096) :
    (iblk m c 1 t : Vec Ideal S768x4096 .bf16) (ix2 r j) = at2 (A1 m c) (768 * (t.val % 11) + r.val) j.val := by
  obtain ⟨-, -, h0, h1, -⟩ := index_all t
  rw [at2_mk _ (show 768 * (t.val % 11) + r.val < 8448 by omega) j.isLt]
  unfold iblk
  rw [View.read_apply]
  refine congrArg (V m c main_v3) (funext fun a => Fin.ext ?_)
  match a with
  | ⟨0, _⟩ => show win0_1.index t 0 * 768 + 1 * r.val = 768 * (t.val % 11) + r.val; rw [h0]; omega
  | ⟨1, _⟩ => show win0_1.index t 1 * 4096 + 1 * j.val = j.val; rw [h1]; omega

/-- A point adds its block of rows. -/
theorem step_apply (c : Dev nD) (t : Fin cfg0.N) (xs : Vec Ideal S512x4096 .f32) (r : Fin 512) (j : Fin 4096)
    (h : xs (ix2 r j) = upto (A0 m c) (A1 m c) (768 * (t.val % 11)) (512 * (t.val / 11) + r.val) j.val) :
    k0_pay2 xs (iblk m c 0 t) (iblk m c 1 t) (ix2 r j)
      = upto (A0 m c) (A1 m c) (768 * (t.val % 11) + 768) (512 * (t.val / 11) + r.val) j.val := by
  rw [pay2_apply, h]
  exact upto_step _ _ _ _ _ 768 _ _ (fun x => iblk0_apply m c t x r) (fun x => iblk1_apply m c t x j)

/-- The scratch after the first point of a block, and after any other. -/
theorem scr_first (c : Dev nD) (t : Fin cfg0.N) (h0 : t.val % 11 = 0) :
    (outsAt0 m c t.val t.isLt).2 = k0_pay2 k0_pay1 (iblk m c 0 t) (iblk m c 1 t) := by
  rw [outsAt0_A m c t h0 (by omega)]
  dsimp only
  rw [sout0_A_0_eq]

theorem scr_next (c : Dev nD) (t : Fin cfg0.N) (h0 : ¬t.val % 11 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 11 = 10
  · rw [outsAt0_C m c t h0 h1]
    dsimp only
    rw [sout0_C_0_eq]
  · rw [outsAt0_B m c t h0 h1]
    dsimp only
    rw [sout0_B_0_eq]

/-- The scratch after a point: the rows up to that point's block. -/
theorem scr_apply (c : Dev nD) (r : Fin 512) (j : Fin 4096) : ∀ (n : ℕ) (t : Fin cfg0.N), t.val = n →
    (outsAt0 m c t.val t.isLt).2 (ix2 r j) = upto (A0 m c) (A1 m c) (768 * (t.val % 11) + 768) (512 * (t.val / 11) + r.val) j.val := by
  intro n
  induction n with
  | zero =>
    intro t ht
    rw [scr_first m c t (by rw [ht])]
    exact step_apply m c t _ r j ((pay1_apply r j).trans (by rw [ht]; exact (upto_zero ..).symm))
  | succ n ih =>
    intro t ht
    by_cases h0 : t.val % 11 = 0
    · rw [scr_first m c t h0]
      exact step_apply m c t _ r j ((pay1_apply r j).trans (by rw [h0]; exact (upto_zero ..).symm))
    · rw [scr_next m c t h0]
      refine step_apply m c t _ r j ((ih ⟨t.val - 1, Nat.lt_of_le_of_lt (Nat.sub_le _ _) t.isLt⟩ (by show t.val - 1 = n; omega)).trans ?_)
      show upto (A0 m c) (A1 m c) (768 * ((t.val - 1) % 11) + 768) (512 * ((t.val - 1) / 11) + r.val) j.val = _
      rw [show 768 * ((t.val - 1) % 11) + 768 = 768 * (t.val % 11) by omega, show (t.val - 1) / 11 = t.val / 11 by omega]

theorem disjoint_out : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun he => hne <| by
    obtain ⟨-, -, -, -, h, -⟩ := index_all t
    obtain ⟨-, -, -, -, h', -⟩ := index_all t'
    have e : win0_2.index t 0 = win0_2.index t' 0 := congrFun he 0
    have f := (flush0_2 t).mp hf
    have f' := (flush0_2 t').mp hf'
    exact Fin.ext (by omega)

/-- What the last point of a block writes back, from the scratch it leaves. -/
theorem flushed_apply (c : Dev nD) (t : Fin cfg0.N) (h1 : t.val % 11 = 10) (r : Fin 512) (j : Fin 4096) :
    (dats m 0 c).flushed 2 t (ix2 r j : S512x4096.Idx) = (outsAt0 m c t.val t.isLt).2 (ix2 r j) := by
  have h0 : ¬t.val % 11 = 0 := by omega
  refine Eq.trans (b := (outsAt0 m c t.val t.isLt).1 (ix2 r j : S512x4096.Idx)) ?_ ?_
  · rw [show (dats m 0 c).flushed 2 t = (cfg0.win 2).cut (grid0.coords t) ((dats m 0 c).after 2 t) from rfl, after0_2]
    rfl
  · rw [scr_next m c t h0, outsAt0_C m c t h0 h1]
    dsimp only
    rw [out0_C_2_eq]

/-- A block of the array after the run. -/
theorem block_apply (c : Dev nD) (t : Fin cfg0.N) (h1 : t.val % 11 = 10) (r : Fin 512) (j : Fin 4096) :
    (dats m 0 c).arrAt 2 cfg0.N (((cfg0.win 2).blk t).view.emb (ix2 r j : S512x4096.Idx))
      = upto (A0 m c) (A1 m c) 8448 (512 * (t.val / 11) + r.val) j.val := by
  have hb := (congrFun ((dats m 0 c).read_blk_arrAt_eq_flushed 2 disjoint_out cfg0.N t t.isLt ((flush0_2 t).mpr h1)) (ix2 r j : S512x4096.Idx)).trans
    (flushed_apply m c t h1 r j)
  rw [scr_apply m c _ _ t.val t rfl, h1] at hb
  exact hb

/-- The projections' gradient the kernel is handed, padded. -/
theorem p_entry (c : Dev nD) (t : Fin 8448) (x : Fin 4096) :
    V m c main_v3 (ix2 t x : S8448x4096.Idx) = if h : x.val < 1952 then m ((c : Thread nD τ).loc main_arg1) (ix2 t ⟨x.val, by omega⟩ : S8448x4000.Idx)
      else if h : x.val < 2048 then (0 : EReal) else m ((c : Thread nD τ).loc main_arg1) (ix2 t ⟨x.val - 96, by omega⟩ : S8448x4000.Idx) := by
  unfold V V0
  simp only [List.flatten_cons, List.flatten_nil, List.append_nil, List.cons_append, List.nil_append]
  after_results_simp
  pointwise
  after_results_simp
  generalize m ((c : Thread nD τ).loc main_arg1) = W
  pointwise
  by_cases h0 : x.val < 1952
  · rw [dif_pos h0, dif_pos h0]
  by_cases h1 : x.val < 2048
  · rw [dif_neg h0, dif_neg h0, dif_pos h1, dif_pos (by omega)]
  · rw [dif_neg h0, dif_neg h0, dif_neg h1, dif_neg (by omega)]
    exact congrArg W (congrArg (ix2 t) (Fin.ext (by show 1952 + (x.val - 1952 - 96) = x.val - 96; omega)))

/-- The gradient's entry at a row and an unpadded column. -/
def G (x0 : S8448x1024.Idx → EReal) (x1 : S8448x4000.Idx → EReal) (r : Fin 1024) (j : Fin 4000) : EReal :=
  prod (p := 8448) (a := 1024) (b := 4000) x0 x1 r j

/-- The kernel's array at a row and a column: the product's entry, and zero in the padding. -/
theorem ker_apply (c : Dev nD) (r : Fin 1024) (j : Fin 4096) :
    (dats m 0 c).arrAt 2 cfg0.N (ix2 r j : S1024x4096.Idx)
      = if h : j.val < 1952 then G (m ((c : Thread nD τ).loc main_arg0)) (m ((c : Thread nD τ).loc main_arg1)) r ⟨j.val, by omega⟩
        else if h : j.val < 2048 then (0 : EReal) else G (m ((c : Thread nD τ).loc main_arg0)) (m ((c : Thread nD τ).loc main_arg1)) r ⟨j.val - 96, by omega⟩ := by
  let t : Fin cfg0.N := ⟨11 * (r.val / 512) + 10, lt_of_lt_of_eq (show 11 * (r.val / 512) + 10 < 22 by omega) N_0.symm⟩
  have h1 : t.val % 11 = 10 := by show (11 * (r.val / 512) + 10) % 11 = 10; omega
  have hd : t.val / 11 = r.val / 512 := by show (11 * (r.val / 512) + 10) / 11 = r.val / 512; omega
  obtain ⟨-, -, -, -, i0, i1⟩ := index_all t
  refine Eq.trans ?_ ((block_apply m c t h1 ⟨r.val % 512, by omega⟩ j).trans ?_)
  · refine congrArg ((dats m 0 c).arrAt 2 cfg0.N) (funext fun a => Fin.ext ?_)
    match a with
    | ⟨0, _⟩ => show r.val = win0_2.index t 0 * 512 + 1 * (r.val % 512); rw [i0, hd]; omega
    | ⟨1, _⟩ => show j.val = win0_2.index t 1 * 4096 + 1 * j.val; rw [i1]; omega
  · rw [hd, show 512 * (r.val / 512) + r.val % 512 = r.val by omega, upto_all]
    unfold A0 A1 G prod
    rw [V_main_arg0]
    by_cases h0 : j.val < 1952
    · rw [dif_pos h0]
      exact Finset.sum_congr (M := EReal) rfl fun x _ => congrArg₂ (fun a b : EReal => a * b) rfl ((p_entry m c x j).trans (dif_pos h0))
    by_cases h2 : j.val < 2048
    · rw [dif_neg h0, dif_pos h2]
      exact Finset.sum_eq_zero (M := EReal) fun x _ => (congrArg₂ (fun a b : EReal => a * b) rfl ((p_entry m c x j).trans ((dif_neg h0).trans (dif_pos h2)))).trans (mul_zero _)
    · rw [dif_neg h0, dif_neg h2]
      exact Finset.sum_congr (M := EReal) rfl fun x _ => congrArg₂ (fun a b : EReal => a * b) rfl ((p_entry m c x j).trans ((dif_neg h0).trans (dif_neg h2)))

/-- The columns without the padding. -/
def res (X : S1024x4096.Idx → EReal) : S1024x4000.Idx → EReal :=
  concatenate S1024x4000 1 [⟨S1024x1952, (extractStridedSlice S1024x1952 ![0, 0] X slices_S1024x4096_S1024x1952_0_0 : S1024x1952.Idx → EReal)⟩,
    ⟨S1024x2048, (extractStridedSlice S1024x2048 ![0, 2048] X slices_S1024x4096_S1024x2048_0_2048 : S1024x2048.Idx → EReal)⟩] concatenates_S1024x1952_S1024x2048_S1024x4000_d1

theorem res_apply (X : S1024x4096.Idx → EReal) (r : Fin 1024) (j : Fin 4000) :
    res X (ix2 r j) = if h : j.val < 1952 then X (ix2 r ⟨j.val, by omega⟩) else X (ix2 r ⟨2048 + (j.val - 1952), by omega⟩) := by
  unfold res
  pointwise

/-- The reference's result. -/
theorem ref_apply (x0 : S8448x1024.Idx → EReal) (x1 : S8448x4000.Idx → EReal) (r : Fin 1024) (j : Fin 4000) :
    Cert.DwiReferenceIdeal.Read.val_main_v6 (F := Ideal) x0 x1 (ix2 r j : S1024x4000.Idx) = G x0 x1 r j := by
  unfold Cert.DwiReferenceIdeal.Read.val_main_v6 Cert.DwiReferenceIdeal.Read.val_main_v5 Cert.DwiReferenceIdeal.Read.val_main_v4 Cert.DwiReferenceIdeal.Read.val_main_v3 Cert.DwiReferenceIdeal.Read.val_main_v1
  pointwise
  exact prod_comm (p := 8448) (a := 1024) (b := 4000) x0 x1 r j

theorem tail_res (W : Valuation τ sig (Elt Ideal)) : StableHlo.after hostOps1 W (Proc.devRef .tc main_v7) = res (W (Proc.devRef .tc main_v4)) := by
  after_results_simp
  rfl

/-- The buffers after the kernel, before the host's last lines. -/
abbrev mid (c : Dev nD) : Valuation τ sig (Elt Ideal) := Pipeline.withArrays spec0 c (V0 m c) fun w => (dats m 0 c).arrAt w cfg0.N

theorem arr_inj : Function.Injective (Pipeline.arrRef spec0) := by decide

theorem mid_out (c : Dev nD) : mid m c (Proc.devRef .tc main_v4) = (dats m 0 c).arrAt 2 cfg0.N := Pipeline.withArrays_arr spec0 arr_inj c (V0 m c) _ 2

/-- The kernel's program leaves the result and its arguments. -/
theorem run_result (ρ : Dev nD → PrngReg) : θ_run defs (onTc (τ := τ) (main (F := Ideal))) ⟨m, fun _ => 0, ρ⟩ (fun r => ∀ c : Dev nD,
      r.2.mem ((c : Thread nD τ).loc main_v7) = res ((dats m 0 c).arrAt 2 cfg0.N)) :=
  (θ_run defs _ _).mono (fun _ h c =>
    ((h c).2 main_v7 (Pipeline.mem_restRefs_of main_v7 (by decide) (by decide))).trans ((tail_res (mid m c)).trans (congrArg res (mid_out m c)))) (run_main m ρ)

theorem arr_eq (c : Dev nD) : res ((dats m 0 c).arrAt 2 cfg0.N) = Cert.DwiReferenceIdeal.Read.val_main_v6 (F := Ideal) (m ((c : Thread nD τ).loc main_arg0)) (m ((c : Thread nD τ).loc main_arg1)) := by
  funext i
  obtain ⟨r, j, rfl⟩ : ∃ (r : Fin 1024) (j : Fin 4000), i = (ix2 r j : S1024x4000.Idx) := ⟨i 0, i 1, eq_ix2 i⟩
  rw [res_apply, ref_apply]
  by_cases h : j.val < 1952
  · rw [dif_pos h, ker_apply, dif_pos h]
  · rw [dif_neg h, ker_apply, dif_neg (by show ¬ 2048 + (j.val - 1952) < 1952; omega), dif_neg (by show ¬ 2048 + (j.val - 1952) < 2048; omega)]
    exact congrArg (G _ _ r) (Fin.ext (by show 2048 + (j.val - 1952) - 96 = j.val; omega))

/-- The kernel computes the reference's result. -/
theorem algebraic : Cert.algebraic_DwiKernelIdeal_DwiReferenceIdeal := by
  intro m g m' g' _ hag
  refine ⟨fun c => res ((dats m 0 c).arrAt 2 cfg0.N), (θ_run _ _ _).mono (fun r h c => ⟨h.1 c, h.2 c⟩) (θ_run_and (run_result m g) (Cert.DwiKernelIdeal.Gen.unchanged m g)), ?_⟩
  refine (θ_run _ _ _).mono (fun r h c => ?_) (Cert.DwiReferenceIdeal.Value.run m' g')
  obtain ⟨h0, ha⟩ := h c
  obtain ⟨e0, e1⟩ := hag c
  refine ⟨?_, ha⟩
  refine Eq.trans ?_ (arr_eq m c).symm
  rw [← e0, ← e1]
  exact h0.trans (Cert.DwiReferenceIdeal.Read.val_main_v6_eq _ _)

/-- The reference runs, leaves its arguments unchanged and ends with every counter at zero. -/
theorem frame_reference : Cert.quiescent_DwiReferenceIdeal := by
  intro m ρ _
  exact (θ_run Cert.DwiReferenceIdeal.defs _ _).mono (fun r h => ⟨fun c => (h c).2,
      Idealize.ShloMosaic.sem_eq_zero_of_no_sems (by decide) r.2⟩) (Cert.DwiReferenceIdeal.Value.run (F := Ideal) m ρ)

end Cert.DwiAlg
-- ==== Proof.FupAlg.lean ====
module
public import proofs.«01_k».proof.Defs
public import proofs.«01_k».proof.Proof.Gen.FupKernelIdeal.Value
public import proofs.«01_k».proof.Proof.Gen.FupReferenceIdeal.Run
public import proofs.«01_k».proof.Proof.Gen.FupReferenceIdeal.Read
public import Idealize.ShloMosaic.Lib.Pointwise
public import Idealize.ShloMosaic.Lib.WritesUnit
@[expose] public section
set_option maxRecDepth 16384
noncomputable section
open Idealize.ShloMosaic Idealize.ShloMosaic.TcCoe Idealize.SL.Sem
namespace Cert.FupAlg
open Cert.FupKernelIdeal Cert.FupKernelIdeal.Gen

/-! The feed-forward's gated unit: its two input products and their gated product. -/

/-- The offsets of a load or store of a whole rank-2 buffer. -/
theorem hz2 : (![0, 0] : Fin 2 → Nat) = fun _ => 0 := funext fun a => by fin_cases a <;> rfl
/-- The offsets of a load of a whole rank-3 buffer. -/
theorem hz3 : (![0, 0, 0] : Fin 3 → Nat) = fun _ => 0 := funext fun a => by fin_cases a <;> rfl

/-- The product of a row block with one chip's columns, at a row and a column. -/
def D (x0 : S768x1024.Idx → EReal) (x1 : S1x1024x1408.Idx → EReal) (r : Fin 768) (j : Fin 1408) : EReal :=
  ∑ x : Fin 1024, x0 (ix2 r x) * x1 (ix3 0 x j)

theorem pay1_apply (x0 : Vec Ideal S768x1024 .bf16) (x1 : Vec Ideal S1x1024x1408 .bf16) (r : Fin 768) (j : Fin 1408) :
    k0_pay1 x0 x1 (ix2 r j) = D x0 x1 r j := by
  unfold k0_pay1 D
  pointwise

theorem pay2_apply (x0 : Vec Ideal S768x1024 .bf16) (x1 : Vec Ideal S1x1024x1408 .bf16) (r : Fin 768) (j : Fin 1408) :
    k0_pay2 x0 x1 (ix2 r j) = D x0 x1 r j := by
  unfold k0_pay2 D
  pointwise

variable (x0 : Vec Ideal S768x1024 .bf16) (x1 x2 : Vec Ideal S1x1024x1408 .bf16) (r : Fin 768) (j : Fin 1408)

/-- The gate a point leaves. -/
theorem out3_apply : out0_3 x0 x1 x2 (ix2 r j) = D x0 x1 r j := by
  unfold out0_3
  rw [View.canon_unit_zero hz2, View.ld_unit_zero (S := S1x1024x1408) hz3, View.ld_unit_zero (S := S768x1024) hz2]
  unfold k0_pay3
  rw [← pay1_apply]
  pointwise

/-- The other factor a point leaves. -/
theorem out4_apply : out0_4 x0 x1 x2 (ix2 r j) = D x0 x2 r j := by
  unfold out0_4
  rw [View.canon_unit_zero hz2, View.ld_unit_zero (S := S1x1024x1408) hz3, View.ld_unit_zero (S := S768x1024) hz2]
  unfold k0_pay4
  rw [← pay2_apply]
  pointwise

/-- The gated product a point leaves. -/
theorem out5_apply : out0_5 x0 x1 x2 (ix2 r j) = D x0 x1 r j * Ideal.logistic (D x0 x1 r j) * D x0 x2 r j := by
  unfold out0_5
  rw [View.canon_unit_zero hz2, View.ld_unit_zero (S := S1x1024x1408) hz3, View.ld_unit_zero (S := S1x1024x1408) hz3, View.ld_unit_zero (S := S768x1024) hz2]
  unfold k0_pay5
  rw [← pay1_apply, ← pay2_apply]
  pointwise

/-- An input product at a row and a column: the gate's columns come first, the other factor's after them. -/
def P (x0 : S8448x1024.Idx → EReal) (x1 : S1024x5632.Idx → EReal) (t : Fin 8448) (j : Fin 5632) : EReal :=
  ∑ x : Fin 1024, x0 (ix2 t x) * x1 (ix2 x j)
/-- The gate. -/
def gateOf (x0 : S8448x1024.Idx → EReal) (x1 : S1024x5632.Idx → EReal) (t : Fin 8448) (j : Fin 2816) : EReal := P x0 x1 t ⟨j.val, by omega⟩
/-- The other factor. -/
def upOf (x0 : S8448x1024.Idx → EReal) (x1 : S1024x5632.Idx → EReal) (t : Fin 8448) (j : Fin 2816) : EReal := P x0 x1 t ⟨2816 + j.val, by omega⟩
/-- The gated product. -/
def actOf (x0 : S8448x1024.Idx → EReal) (x1 : S1024x5632.Idx → EReal) (t : Fin 8448) (j : Fin 2816) : EReal :=
  gateOf x0 x1 t j * Ideal.logistic (gateOf x0 x1 t j) * upOf x0 x1 t j

section
variable (x0 : S8448x1024.Idx → EReal) (x1 : S1024x5632.Idx → EReal) (t : Fin 8448) (j : Fin 2816)
open Cert.FupReferenceIdeal.Read
theorem ref_gate32 : val_main_v2 (F := Ideal) x0 x1 (ix2 t j) = gateOf x0 x1 t j := by
  unfold val_main_v2 val_main_v1 val_main_v0 gateOf P
  pointwise

theorem ref_up32 : val_main_v3 (F := Ideal) x0 x1 (ix2 t j) = upOf x0 x1 t j := by
  unfold val_main_v3 val_main_v1 val_main_v0 upOf P
  pointwise

theorem ref_gate : val_main_v6 (F := Ideal) x0 x1 (ix2 t j) = gateOf x0 x1 t j := ref_gate32 x0 x1 t j

theorem ref_up : val_main_v7 (F := Ideal) x0 x1 (ix2 t j) = upOf x0 x1 t j := ref_up32 x0 x1 t j

theorem ref_act : val_main_v8 (F := Ideal) x0 x1 (ix2 t j) = actOf x0 x1 t j := by
  unfold actOf
  rw [← ref_gate32, ← ref_up32]
  unfold val_main_v8 val_main_v5 val_main_v4 val_main_call0_v5 val_main_call0_v4 val_main_call0_cst_0 val_main_call0_v3 val_main_call0_v2 val_main_call0_cst val_main_call0_v1 val_main_call0_v0
  pointwise
  rfl
end

variable (m : (ℓ : Loc nD τ sig) → Buf (Elt Ideal) ℓ)

/-- The weights the kernel is handed: chip `s` holds 1408 columns. -/
theorem w_entry (c : Dev nD) (s : Fin 4) (d : Fin 1024) (x : Fin 1408) :
    V m c main_v2 (ix3 s d x : S4x1024x1408.Idx) = m ((c : Thread nD τ).loc main_arg1) (ix2 d ⟨1408 * s.val + x.val, by omega⟩ : S1024x5632.Idx) := by
  unfold V
  after_results_simp
  generalize m ((c : Thread nD τ).loc main_arg1) = W
  pointwise
  exact congrArg W (congrArg (ix2 d) (Fin.ext (by show s.val * 1408 + x.val = 1408 * s.val + x.val; omega)))

theorem index_all : ∀ t : Fin cfg0.N, win0_0.index t 0 = t.val / 2 ∧ win0_0.index t 1 = 0 ∧ win0_1.index t 0 = t.val % 2 ∧ win0_1.index t 1 = 0
    ∧ win0_1.index t 2 = 0 ∧ win0_2.index t 0 = t.val % 2 + 2 ∧ win0_2.index t 1 = 0 ∧ win0_2.index t 2 = 0
    ∧ win0_3.index t 0 = t.val / 2 ∧ win0_3.index t 1 = t.val % 2 ∧ win0_4.index t 0 = t.val / 2 ∧ win0_4.index t 1 = t.val % 2
    ∧ win0_5.index t 0 = t.val / 2 ∧ win0_5.index t 1 = t.val % 2 :=
  (by decide +kernel : ∀ t : Fin grid0.N, win0_0.index t 0 = t.val / 2 ∧ win0_0.index t 1 = 0 ∧ win0_1.index t 0 = t.val % 2 ∧ win0_1.index t 1 = 0
    ∧ win0_1.index t 2 = 0 ∧ win0_2.index t 0 = t.val % 2 + 2 ∧ win0_2.index t 1 = 0 ∧ win0_2.index t 2 = 0
    ∧ win0_3.index t 0 = t.val / 2 ∧ win0_3.index t 1 = t.val % 2 ∧ win0_4.index t 0 = t.val / 2 ∧ win0_4.index t 1 = t.val % 2
    ∧ win0_5.index t 0 = t.val / 2 ∧ win0_5.index t 1 = t.val % 2)

theorem iblk0_apply (c : Dev nD) (t : Fin cfg0.N) (r : Fin 768) (j : Fin 1024) (hr : 768 * (t.val / 2) + r.val < 8448) :
    (iblk m c 0 t : Vec Ideal S768x1024 .bf16) (ix2 r j) = m ((c : Thread nD τ).loc main_arg0) (ix2 ⟨768 * (t.val / 2) + r.val, hr⟩ j : S8448x1024.Idx) := by
  obtain ⟨h0, h1, -⟩ := index_all t
  unfold iblk
  rw [View.read_apply, ← V_main_arg0 m c]
  refine congrArg (V m c main_arg0) (funext fun a => Fin.ext ?_)
  match a with
  | ⟨0, _⟩ => show win0_0.index t 0 * 768 + 1 * r.val = 768 * (t.val / 2) + r.val; rw [h0]; omega
  | ⟨1, _⟩ => show win0_0.index t 1 * 1024 + 1 * j.val = j.val; rw [h1]; omega

theorem iblk1_apply (c : Dev nD) (t : Fin cfg0.N) (x : Fin 1024) (j : Fin 1408) :
    (iblk m c 1 t : Vec Ideal S1x1024x1408 .bf16) (ix3 0 x j) = V m c main_v2 (ix3 ⟨t.val % 2, by omega⟩ x j : S4x1024x1408.Idx) := by
  obtain ⟨-, -, h0, h1, h2, -⟩ := index_all t
  unfold iblk
  rw [View.read_apply]
  refine congrArg (V m c main_v2) (funext fun a => Fin.ext ?_)
  match a with
  | ⟨0, _⟩ => show win0_1.index t 0 * 1 + 1 * 0 = t.val % 2; rw [h0]; omega
  | ⟨1, _⟩ => show win0_1.index t 1 * 1024 + 1 * x.val = x.val; rw [h1]; omega
  | ⟨2, _⟩ => show win0_1.index t 2 * 1408 + 1 * j.val = j.val; rw [h2]; omega

theorem iblk2_apply (c : Dev nD) (t : Fin cfg0.N) (x : Fin 1024) (j : Fin 1408) :
    (iblk m c 2 t : Vec Ideal S1x1024x1408 .bf16) (ix3 0 x j) = V m c main_v2 (ix3 ⟨t.val % 2 + 2, by omega⟩ x j : S4x1024x1408.Idx) := by
  obtain ⟨-, -, -, -, -, h0, h1, h2, -⟩ := index_all t
  unfold iblk
  rw [View.read_apply]
  refine congrArg (V m c main_v2) (funext fun a => Fin.ext ?_)
  match a with
  | ⟨0, _⟩ => show win0_2.index t 0 * 1 + 1 * 0 = t.val % 2 + 2; rw [h0]; omega
  | ⟨1, _⟩ => show win0_2.index t 1 * 1024 + 1 * x.val = x.val; rw [h1]; omega
  | ⟨2, _⟩ => show win0_2.index t 2 * 1408 + 1 * j.val = j.val; rw [h2]; omega

/-- The product a point computes is the whole arrays'. -/
theorem D_gate (c : Dev nD) (n : Fin cfg0.N) (r : Fin 768) (j : Fin 1408) (hr : 768 * (n.val / 2) + r.val < 8448) :
    D (iblk m c 0 n) (iblk m c 1 n) r j
      = gateOf (m ((c : Thread nD τ).loc main_arg0)) (m ((c : Thread nD τ).loc main_arg1)) ⟨768 * (n.val / 2) + r.val, hr⟩ ⟨1408 * (n.val % 2) + j.val, by omega⟩ := by
  unfold D gateOf P
  refine Finset.sum_congr rfl fun x _ => congrArg₂ (fun a b : EReal => a * b) (iblk0_apply m c n r x hr) ?_
  rw [iblk1_apply, w_entry]

/-- The product a point computes is the whole arrays'. -/
theorem D_up (c : Dev nD) (n : Fin cfg0.N) (r : Fin 768) (j : Fin 1408) (hr : 768 * (n.val / 2) + r.val < 8448) :
    D (iblk m c 0 n) (iblk m c 2 n) r j
      = upOf (m ((c : Thread nD τ).loc main_arg0)) (m ((c : Thread nD τ).loc main_arg1)) ⟨768 * (n.val / 2) + r.val, hr⟩ ⟨1408 * (n.val % 2) + j.val, by omega⟩ := by
  unfold D upOf P
  refine Finset.sum_congr rfl fun x _ => congrArg₂ (fun a b : EReal => a * b) (iblk0_apply m c n r x hr) ?_
  rw [iblk2_apply, w_entry]
  refine congrArg (fun y => m ((c : Thread nD τ).loc main_arg1) (ix2 x y : S1024x5632.Idx)) (Fin.ext ?_)
  show 1408 * (n.val % 2 + 2) + j.val = 2816 + (1408 * (n.val % 2) + j.val)
  omega

/-- The kernel's three arrays at a row and a column. -/
theorem ker_apply (c : Dev nD) (t : Fin 8448) (j : Fin 2816) :
    (dats m 0 c).arrAt 3 cfg0.N (ix2 t j : S8448x2816.Idx) = gateOf (m ((c : Thread nD τ).loc main_arg0)) (m ((c : Thread nD τ).loc main_arg1)) t j
    ∧ (dats m 0 c).arrAt 4 cfg0.N (ix2 t j : S8448x2816.Idx) = upOf (m ((c : Thread nD τ).loc main_arg0)) (m ((c : Thread nD τ).loc main_arg1)) t j
    ∧ (dats m 0 c).arrAt 5 cfg0.N (ix2 t j : S8448x2816.Idx) = actOf (m ((c : Thread nD τ).loc main_arg0)) (m ((c : Thread nD τ).loc main_arg1)) t j := by
  let n : Fin cfg0.N := ⟨2 * (t.val / 768) + j.val / 1408, lt_of_lt_of_eq (show 2 * (t.val / 768) + j.val / 1408 < 22 by omega) N_0.symm⟩
  have hd : n.val / 2 = t.val / 768 := by show (2 * (t.val / 768) + j.val / 1408) / 2 = t.val / 768; omega
  have hm : n.val % 2 = j.val / 1408 := by show (2 * (t.val / 768) + j.val / 1408) % 2 = j.val / 1408; omega
  obtain ⟨-, -, -, -, -, -, -, -, i0, i1, k0, k1, l0, l1⟩ := index_all n
  have hr : 768 * (n.val / 2) + t.val % 768 = t.val := by rw [hd]; omega
  have hc : 1408 * (n.val % 2) + j.val % 1408 = j.val := by rw [hm]; omega
  have hr' : 768 * (n.val / 2) + (⟨t.val % 768, by omega⟩ : Fin 768).val < 8448 := by show 768 * (n.val / 2) + t.val % 768 < 8448; omega
  have et : (⟨768 * (n.val / 2) + (⟨t.val % 768, by omega⟩ : Fin 768).val, hr'⟩ : Fin 8448) = t := Fin.ext hr
  have ej : (⟨1408 * (n.val % 2) + (⟨j.val % 1408, by omega⟩ : Fin 1408).val, by show 1408 * (n.val % 2) + j.val % 1408 < 2816; omega⟩ : Fin 2816) = j := Fin.ext hc
  have e1 := D_gate m c n ⟨t.val % 768, by omega⟩ ⟨j.val % 1408, by omega⟩ hr'
  have e2 := D_up m c n ⟨t.val % 768, by omega⟩ ⟨j.val % 1408, by omega⟩ hr'
  rw [et, ej] at e1 e2
  refine ⟨?_, ?_, ?_⟩
  · have hb := congrFun (Value.blocks3 m c n (flush0_3 n)) (ix2 ⟨t.val % 768, by omega⟩ ⟨j.val % 1408, by omega⟩ : S768x1408.Idx)
    rw [Value.flushed3, View.read_apply] at hb
    refine Eq.trans ?_ (hb.trans ((out3_apply (iblk m c 0 n) (iblk m c 1 n) (iblk m c 2 n) ⟨t.val % 768, by omega⟩ ⟨j.val % 1408, by omega⟩).trans ?_))
    · refine congrArg ((dats m 0 c).arrAt 3 cfg0.N) (funext fun a => Fin.ext ?_)
      match a with
      | ⟨0, _⟩ => show t.val = win0_3.index n 0 * 768 + 1 * (t.val % 768); rw [i0, hd]; omega
      | ⟨1, _⟩ => show j.val = win0_3.index n 1 * 1408 + 1 * (j.val % 1408); rw [i1, hm]; omega
    · exact e1
  · have hb := congrFun (Value.blocks4 m c n (flush0_4 n)) (ix2 ⟨t.val % 768, by omega⟩ ⟨j.val % 1408, by omega⟩ : S768x1408.Idx)
    rw [Value.flushed4, View.read_apply] at hb
    refine Eq.trans ?_ (hb.trans ((out4_apply (iblk m c 0 n) (iblk m c 1 n) (iblk m c 2 n) ⟨t.val % 768, by omega⟩ ⟨j.val % 1408, by omega⟩).trans ?_))
    · refine congrArg ((dats m 0 c).arrAt 4 cfg0.N) (funext fun a => Fin.ext ?_)
      match a with
      | ⟨0, _⟩ => show t.val = win0_4.index n 0 * 768 + 1 * (t.val % 768); rw [k0, hd]; omega
      | ⟨1, _⟩ => show j.val = win0_4.index n 1 * 1408 + 1 * (j.val % 1408); rw [k1, hm]; omega
    · exact e2
  · have hb := congrFun (Value.blocks5 m c n (flush0_5 n)) (ix2 ⟨t.val % 768, by omega⟩ ⟨j.val % 1408, by omega⟩ : S768x1408.Idx)
    rw [Value.flushed5, View.read_apply] at hb
    refine Eq.trans ?_ (hb.trans ((out5_apply (iblk m c 0 n) (iblk m c 1 n) (iblk m c 2 n) ⟨t.val % 768, by omega⟩ ⟨j.val % 1408, by omega⟩).trans ?_))
    · refine congrArg ((dats m 0 c).arrAt 5 cfg0.N) (funext fun a => Fin.ext ?_)
      match a with
      | ⟨0, _⟩ => show t.val = win0_5.index n 0 * 768 + 1 * (t.val % 768); rw [l0, hd]; omega
      | ⟨1, _⟩ => show j.val = win0_5.index n 1 * 1408 + 1 * (j.val % 1408); rw [l1, hm]; omega
    · rw [e1, e2]
      rfl

theorem gate_eq (c : Dev nD) : (dats m 0 c).arrAt 3 cfg0.N
    = Cert.FupReferenceIdeal.Read.val_main_v6 (F := Ideal) (m ((c : Thread nD τ).loc main_arg0)) (m ((c : Thread nD τ).loc main_arg1)) := by
  funext i
  obtain ⟨t, j, rfl⟩ : ∃ (t : Fin 8448) (j : Fin 2816), i = (ix2 t j : S8448x2816.Idx) := ⟨i 0, i 1, eq_ix2 i⟩
  rw [ref_gate, (ker_apply m c t j).1]

theorem up_eq (c : Dev nD) : (dats m 0 c).arrAt 4 cfg0.N
    = Cert.FupReferenceIdeal.Read.val_main_v7 (F := Ideal) (m ((c : Thread nD τ).loc main_arg0)) (m ((c : Thread nD τ).loc main_arg1)) := by
  funext i
  obtain ⟨t, j, rfl⟩ : ∃ (t : Fin 8448) (j : Fin 2816), i = (ix2 t j : S8448x2816.Idx) := ⟨i 0, i 1, eq_ix2 i⟩
  rw [ref_up, (ker_apply m c t j).2.1]

theorem act_eq (c : Dev nD) : (dats m 0 c).arrAt 5 cfg0.N
    = Cert.FupReferenceIdeal.Read.val_main_v8 (F := Ideal) (m ((c : Thread nD τ).loc main_arg0)) (m ((c : Thread nD τ).loc main_arg1)) := by
  funext i
  obtain ⟨t, j, rfl⟩ : ∃ (t : Fin 8448) (j : Fin 2816), i = (ix2 t j : S8448x2816.Idx) := ⟨i 0, i 1, eq_ix2 i⟩
  rw [ref_act, (ker_apply m c t j).2.2]

/-- The kernel computes the reference's three results. -/
theorem algebraic : Cert.algebraic_FupKernelIdeal_FupReferenceIdeal := by
  intro m g m' g' _ hag
  refine ⟨fun c => (dats m 0 c).arrAt 3 cfg0.N, fun c => (dats m 0 c).arrAt 4 cfg0.N, fun c => (dats m 0 c).arrAt 5 cfg0.N, Cert.FupKernelIdeal.Value.run_blocks m g, ?_⟩
  refine (θ_run _ _ _).mono (fun r h c => ?_) (Cert.FupReferenceIdeal.Value.run m' g')
  obtain ⟨h0, h1, h2, ha⟩ := h c
  obtain ⟨e0, e1⟩ := hag c
  refine ⟨?_, ?_, ?_, ha⟩
  · refine Eq.trans ?_ (gate_eq m c).symm
    rw [← e0, ← e1]
    exact h0.trans (Cert.FupReferenceIdeal.Read.val_main_v6_eq _ _)
  · refine Eq.trans ?_ (up_eq m c).symm
    rw [← e0, ← e1]
    exact h1.trans (Cert.FupReferenceIdeal.Read.val_main_v7_eq _ _)
  · refine Eq.trans ?_ (act_eq m c).symm
    rw [← e0, ← e1]
    exact h2.trans (Cert.FupReferenceIdeal.Read.val_main_v8_eq _ _)

/-- The reference runs, leaves its arguments unchanged and ends with every counter at zero. -/
theorem frame_reference : Cert.quiescent_FupReferenceIdeal := by
  intro m ρ _
  exact (θ_run Cert.FupReferenceIdeal.defs _ _).mono (fun r h => ⟨fun c => (h c).2.2.2,
      Idealize.ShloMosaic.sem_eq_zero_of_no_sems (by decide) r.2⟩) (Cert.FupReferenceIdeal.Value.run (F := Ideal) m ρ)

end Cert.FupAlg
end
-- ==== Proof.MxfAlg.lean ====
module
public import proofs.«01_k».proof.Defs
public import proofs.«01_k».proof.Proof.Gen.MxfKernelIdeal.Frame
public import proofs.«01_k».proof.Proof.Gen.MxfReferenceIdeal.Run
public import proofs.«01_k».proof.Proof.Gen.MxfReferenceIdeal.Read
public import Idealize.ShloMosaic.Lib.Pointwise
public import Idealize.ShloMosaic.Lib.WritesUnit
@[expose] public section
set_option maxRecDepth 16384
noncomputable section
open Idealize.ShloMosaic Idealize.ShloMosaic.TcCoe Idealize.SL.Sem
namespace Cert.MxfAlg
open Cert.MxfKernelIdeal Cert.MxfKernelIdeal.Gen

/-! The token mixer's input projection. -/

/-- The offsets of a load or store of a whole rank-2 buffer. -/
theorem hz2 : (![0, 0] : Fin 2 → Nat) = fun _ => 0 := funext fun a => by fin_cases a <;> rfl

/-- The sum of the products of a row of the left array with a column of the right. -/
def mm {p a b : Nat} (x0 : (⟨2, ![p, a]⟩ : Shape).Idx → EReal) (x1 : (⟨2, ![a, b]⟩ : Shape).Idx → EReal) (r : Fin p) (j : Fin b) : EReal :=
  ∑ x : Fin a, x0 (ix2 r x) * x1 (ix2 x j)

/-- The block a point leaves, at a row and a column. -/
theorem out_apply (x0 : Vec Ideal S768x1024 .bf16) (x1 : Vec Ideal S1024x1024 .bf16) (r : Fin 768) (j : Fin 1024) :
    out0_2 x0 x1 (ix2 r j) = mm (p := 768) (a := 1024) (b := 1024) x0 x1 r j := by
  unfold out0_2
  rw [View.canon_unit_zero hz2, View.ld_unit_zero (S := S768x1024) hz2, View.ld_unit_zero (S := S1024x1024) hz2]
  unfold k0_pay1 mm
  pointwise

variable (m : (ℓ : Loc nD τ sig) → Buf (Elt Ideal) ℓ)

/-- The weights the kernel is handed, padded. -/
theorem w_entry (c : Dev nD) (d : Fin 1024) (x : Fin 4096) :
    V m c main_v4 (ix2 d x : S1024x4096.Idx) = if h : x.val < 1952 then m ((c : Thread nD τ).loc main_arg1) (ix2 d ⟨x.val, by omega⟩ : S1024x4000.Idx)
      else if h : x.val < 2048 then (0 : EReal) else m ((c : Thread nD τ).loc main_arg1) (ix2 d ⟨x.val - 96, by omega⟩ : S1024x4000.Idx) := by
  unfold V V0
  simp only [List.flatten_cons, List.flatten_nil, List.append_nil, List.cons_append, List.nil_append]
  after_results_simp
  pointwise
  after_results_simp
  generalize m ((c : Thread nD τ).loc main_arg1) = W
  pointwise
  by_cases h0 : x.val < 1952
  · rw [dif_pos h0, dif_pos h0]
  by_cases h1 : x.val < 2048
  · rw [dif_neg h0, dif_neg h0, dif_pos h1, dif_pos (by omega)]
  · rw [dif_neg h0, dif_neg h0, dif_neg h1, dif_neg (by omega)]
    exact congrArg W (congrArg (ix2 d) (Fin.ext (by show 1952 + (x.val - 1952 - 96) = x.val - 96; omega)))

theorem index_all : ∀ t : Fin cfg0.N, win0_0.index t 0 = t.val / 4 ∧ win0_0.index t 1 = 0 ∧ win0_1.index t 0 = 0 ∧ win0_1.index t 1 = t.val % 4
    ∧ win0_2.index t 0 = t.val / 4 ∧ win0_2.index t 1 = t.val % 4 :=
  (by decide +kernel : ∀ t : Fin grid0.N, win0_0.index t 0 = t.val / 4 ∧ win0_0.index t 1 = 0 ∧ win0_1.index t 0 = 0 ∧ win0_1.index t 1 = t.val % 4
    ∧ win0_2.index t 0 = t.val / 4 ∧ win0_2.index t 1 = t.val % 4)

theorem iblk0_apply (c : Dev nD) (t : Fin cfg0.N) (r : Fin 768) (j : Fin 1024) (hr : 768 * (t.val / 4) + r.val < 8448) :
    (iblk m c 0 t : Vec Ideal S768x1024 .bf16) (ix2 r j) = m ((c : Thread nD τ).loc main_arg0) (ix2 ⟨768 * (t.val / 4) + r.val, hr⟩ j : S8448x1024.Idx) := by
  obtain ⟨h0, h1, -⟩ := index_all t
  unfold iblk
  rw [View.read_apply, ← V_main_arg0 m c]
  refine congrArg (V m c main_arg0) (funext fun a => Fin.ext ?_)
  match a with
  | ⟨0, _⟩ => show win0_0.index t 0 * 768 + 1 * r.val = 768 * (t.val / 4) + r.val; rw [h0]; omega
  | ⟨1, _⟩ => show win0_0.index t 1 * 1024 + 1 * j.val = j.val; rw [h1]; omega

theorem iblk1_apply (c : Dev nD) (t : Fin cfg0.N) (x : Fin 1024) (j : Fin 1024) :
    (iblk m c 1 t : Vec Ideal S1024x1024 .bf16) (ix2 x j) = V m c main_v4 (ix2 x ⟨1024 * (t.val % 4) + j.val, by omega⟩ : S1024x4096.Idx) := by
  obtain ⟨-, -, h0, h1, -⟩ := index_all t
  unfold iblk
  rw [View.read_apply]
  refine congrArg (V m c main_v4) (funext fun a => Fin.ext ?_)
  match a with
  | ⟨0, _⟩ => show win0_1.index t 0 * 1024 + 1 * x.val = x.val; rw [h0]; omega
  | ⟨1, _⟩ => show win0_1.index t 1 * 1024 + 1 * j.val = 1024 * (t.val % 4) + j.val; rw [h1]; omega

theorem disjoint_out : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun he => hne <| by
    obtain ⟨-, -, -, -, h, k⟩ := index_all t
    obtain ⟨-, -, -, -, h', k'⟩ := index_all t'
    have e : win0_2.index t 0 = win0_2.index t' 0 := congrFun he 0
    have f : win0_2.index t 1 = win0_2.index t' 1 := congrFun he 1
    exact Fin.ext (by omega)

theorem flush_all : ∀ t : Fin cfg0.N, (cfg0.win 2).flush t = true :=
  (by decide +kernel : ∀ t : Fin grid0.N, win0_2.flush t = true)

/-- A block of the array after the run. -/
theorem block_apply (c : Dev nD) (t : Fin cfg0.N) (r : Fin 768) (j : Fin 1024) :
    (dats m 0 c).arrAt 2 cfg0.N (((cfg0.win 2).blk t).view.emb (ix2 r j : S768x1024.Idx))
      = mm (p := 768) (a := 1024) (b := 1024) (iblk m c 0 t) (iblk m c 1 t) r j := by
  have hb := congrFun ((dats m 0 c).read_blk_arrAt_eq_flushed 2 disjoint_out cfg0.N t t.isLt (flush_all t)) (ix2 r j : S768x1024.Idx)
  refine Eq.trans hb ?_
  rw [show (dats m 0 c).flushed 2 t = (cfg0.win 2).cut (grid0.coords t) ((dats m 0 c).after 2 t) from rfl, after0_2]
  exact out_apply (iblk m c 0 t) (iblk m c 1 t) r j

/-- The projection at a row and an unpadded column. -/
def G (x0 : S8448x1024.Idx → EReal) (x1 : S1024x4000.Idx → EReal) (t : Fin 8448) (j : Fin 4000) : EReal :=
  mm (p := 8448) (a := 1024) (b := 4000) x0 x1 t j

/-- The kernel's array at a row and a padded column that stands for column `k`. -/
theorem ker_apply (c : Dev nD) (t : Fin 8448) (j : Fin 4096) (k : Fin 4000)
    (hw : ∀ d : Fin 1024, V m c main_v4 (ix2 d j : S1024x4096.Idx) = m ((c : Thread nD τ).loc main_arg1) (ix2 d k : S1024x4000.Idx)) :
    (dats m 0 c).arrAt 2 cfg0.N (ix2 t j : S8448x4096.Idx) = G (m ((c : Thread nD τ).loc main_arg0)) (m ((c : Thread nD τ).loc main_arg1)) t k := by
  let n : Fin cfg0.N := ⟨4 * (t.val / 768) + j.val / 1024, lt_of_lt_of_eq (show 4 * (t.val / 768) + j.val / 1024 < 44 by omega) N_0.symm⟩
  have hd : n.val / 4 = t.val / 768 := by show (4 * (t.val / 768) + j.val / 1024) / 4 = t.val / 768; omega
  have hm : n.val % 4 = j.val / 1024 := by show (4 * (t.val / 768) + j.val / 1024) % 4 = j.val / 1024; omega
  obtain ⟨-, -, -, -, i0, i1⟩ := index_all n
  have hr : 768 * (n.val / 4) + t.val % 768 = t.val := by rw [hd]; omega
  have hc : 1024 * (n.val % 4) + j.val % 1024 = j.val := by rw [hm]; omega
  have hr' : 768 * (n.val / 4) + (⟨t.val % 768, by omega⟩ : Fin 768).val < 8448 := by show 768 * (n.val / 4) + t.val % 768 < 8448; omega
  have et : (⟨768 * (n.val / 4) + (⟨t.val % 768, by omega⟩ : Fin 768).val, hr'⟩ : Fin 8448) = t := Fin.ext hr
  have ej : (⟨1024 * (n.val % 4) + (⟨j.val % 1024, by omega⟩ : Fin 1024).val, by show 1024 * (n.val % 4) + j.val % 1024 < 4096; omega⟩ : Fin 4096) = j := Fin.ext hc
  refine Eq.trans ?_ ((block_apply m c n ⟨t.val % 768, by omega⟩ ⟨j.val % 1024, by omega⟩).trans ?_)
  · refine congrArg ((dats m 0 c).arrAt 2 cfg0.N) (funext fun a => Fin.ext ?_)
    match a with
    | ⟨0, _⟩ => show t.val = win0_2.index n 0 * 768 + 1 * (t.val % 768); rw [i0, hd]; omega
    | ⟨1, _⟩ => show j.val = win0_2.index n 1 * 1024 + 1 * (j.val % 1024); rw [i1, hm]; omega
  · unfold G mm
    refine Finset.sum_congr (M := EReal) rfl fun x _ => congrArg₂ (fun a b : EReal => a * b) ?_ ?_
    · refine (iblk0_apply m c n _ x hr').trans ?_
      rw [et]
    · refine (iblk1_apply m c n x _).trans ?_
      rw [ej]
      exact hw x

/-- The columns without the padding. -/
def res (X : S8448x4096.Idx → EReal) : S8448x4000.Idx → EReal :=
  concatenate S8448x4000 1 [⟨S8448x1952, (extractStridedSlice S8448x1952 ![0, 0] X slices_S8448x4096_S8448x1952_0_0 : S8448x1952.Idx → EReal)⟩,
    ⟨S8448x2048, (extractStridedSlice S8448x2048 ![0, 2048] X slices_S8448x4096_S8448x2048_0_2048 : S8448x2048.Idx → EReal)⟩] concatenates_S8448x1952_S8448x2048_S8448x4000_d1

theorem res_apply (X : S8448x4096.Idx → EReal) (r : Fin 8448) (j : Fin 4000) :
    res X (ix2 r j) = if h : j.val < 1952 then X (ix2 r ⟨j.val, by omega⟩) else X (ix2 r ⟨2048 + (j.val - 1952), by omega⟩) := by
  unfold res
  pointwise

/-- The reference's result. -/
theorem ref_apply (x0 : S8448x1024.Idx → EReal) (x1 : S1024x4000.Idx → EReal) (r : Fin 8448) (j : Fin 4000) :
    Cert.MxfReferenceIdeal.Read.val_main_v2 (F := Ideal) x0 x1 (ix2 r j : S8448x4000.Idx) = G x0 x1 r j := by
  unfold Cert.MxfReferenceIdeal.Read.val_main_v2 Cert.MxfReferenceIdeal.Read.val_main_v1 Cert.MxfReferenceIdeal.Read.val_main_v0 G mm
  pointwise

theorem tail_res (W : Valuation τ sig (Elt Ideal)) : StableHlo.after hostOps1 W (Proc.devRef .tc main_v8) = res (W (Proc.devRef .tc main_v5)) := by
  after_results_simp
  rfl

/-- The buffers after the kernel, before the host's last lines. -/
abbrev mid (c : Dev nD) : Valuation τ sig (Elt Ideal) := Pipeline.withArrays spec0 c (V0 m c) fun w => (dats m 0 c).arrAt w cfg0.N

theorem arr_inj : Function.Injective (Pipeline.arrRef spec0) := by decide

theorem mid_out (c : Dev nD) : mid m c (Proc.devRef .tc main_v5) = (dats m 0 c).arrAt 2 cfg0.N := Pipeline.withArrays_arr spec0 arr_inj c (V0 m c) _ 2

/-- The kernel's program leaves the result. -/
theorem run_result (ρ : Dev nD → PrngReg) : θ_run defs (onTc (τ := τ) (main (F := Ideal))) ⟨m, fun _ => 0, ρ⟩ (fun r => ∀ c : Dev nD,
      r.2.mem ((c : Thread nD τ).loc main_v8) = res ((dats m 0 c).arrAt 2 cfg0.N)) :=
  (θ_run defs _ _).mono (fun _ h c =>
    ((h c).2 main_v8 (Pipeline.mem_restRefs_of main_v8 (by decide) (by decide))).trans ((tail_res (mid m c)).trans (congrArg res (mid_out m c)))) (run_main m ρ)

theorem arr_eq (c : Dev nD) : res ((dats m 0 c).arrAt 2 cfg0.N) = Cert.MxfReferenceIdeal.Read.val_main_v2 (F := Ideal) (m ((c : Thread nD τ).loc main_arg0)) (m ((c : Thread nD τ).loc main_arg1)) := by
  funext i
  obtain ⟨r, j, rfl⟩ : ∃ (r : Fin 8448) (j : Fin 4000), i = (ix2 r j : S8448x4000.Idx) := ⟨i 0, i 1, eq_ix2 i⟩
  rw [res_apply, ref_apply]
  by_cases h : j.val < 1952
  · rw [dif_pos h]
    exact ker_apply m c r _ j fun d => (w_entry m c d _).trans (dif_pos h)
  · rw [dif_neg h]
    refine ker_apply m c r _ j fun d => (w_entry m c d _).trans ((dif_neg (by show ¬ 2048 + (j.val - 1952) < 1952; omega)).trans
      ((dif_neg (by show ¬ 2048 + (j.val - 1952) < 2048; omega)).trans ?_))
    exact congrArg (fun y => m ((c : Thread nD τ).loc main_arg1) (ix2 d y : S1024x4000.Idx)) (Fin.ext (by show 2048 + (j.val - 1952) - 96 = j.val; omega))

/-- The kernel computes the reference's result. -/
theorem algebraic : Cert.algebraic_MxfKernelIdeal_MxfReferenceIdeal := by
  intro m g m' g' _ hag
  refine ⟨fun c => res ((dats m 0 c).arrAt 2 cfg0.N), (θ_run _ _ _).mono (fun r h c => ⟨h.1 c, h.2 c⟩) (θ_run_and (run_result m g) (Cert.MxfKernelIdeal.Gen.unchanged m g)), ?_⟩
  refine (θ_run _ _ _).mono (fun r h c => ?_) (Cert.MxfReferenceIdeal.Value.run m' g')
  obtain ⟨h0, ha⟩ := h c
  obtain ⟨e0, e1⟩ := hag c
  refine ⟨?_, ha⟩
  refine Eq.trans ?_ (arr_eq m c).symm
  rw [← e0, ← e1]
  exact h0.trans (Cert.MxfReferenceIdeal.Read.val_main_v2_eq _ _)

/-- The reference runs, leaves its arguments unchanged and ends with every counter at zero. -/
theorem frame_reference : Cert.quiescent_MxfReferenceIdeal := by
  intro m ρ _
  exact (θ_run Cert.MxfReferenceIdeal.defs _ _).mono (fun r h => ⟨fun c => (h c).2,
      Idealize.ShloMosaic.sem_eq_zero_of_no_sems (by decide) r.2⟩) (Cert.MxfReferenceIdeal.Value.run (F := Ideal) m ρ)

end Cert.MxfAlg
end
-- ==== Proof.DlnAlg.lean ====
module
public import proofs.«01_k».proof.Defs
public import proofs.«01_k».proof.Proof.Gen.DlnKernelIdeal.Value
public import proofs.«01_k».proof.Proof.Gen.DlnReferenceIdeal.Run
public import proofs.«01_k».proof.Proof.Gen.DlnReferenceIdeal.Read
public import Idealize.ShloMosaic.Lib.Pointwise
public import Idealize.ShloMosaic.Lib.WritesUnit
@[expose] public section
set_option maxRecDepth 16384
noncomputable section
open Idealize.ShloMosaic Idealize.ShloMosaic.TcCoe Idealize.SL.Sem
namespace Cert.DlnAlg
open Cert.DlnKernelIdeal Cert.DlnKernelIdeal.Gen

/-! The feed-forward's output product with the residual and the layer norm. -/

/-- The offsets of a load or store of a whole rank-2 buffer. -/
theorem hz2 : (![0, 0] : Fin 2 → Nat) = fun _ => 0 := funext fun a => by fin_cases a <;> rfl

/-- The sum before the norm, of one row: the residual of the scaled and shifted row `xp`, and half the product of the row `a` with the weights. -/
def zOf (a : Fin 2816 → EReal) (w : Fin 2816 → Fin 1024 → EReal) (xp gp bp : Fin 1024 → EReal) (d : Fin 1024) : EReal :=
  Ideal.ofBits FTy.f32 0x3FB504F3#32 * (xp d * gp d + bp d) + Ideal.ofBits FTy.f32 0x3F000000#32 * ∑ x, a x * w x d
/-- The mean of a row. -/
def mean (z : Fin 1024 → EReal) : EReal := Ideal.div (∑ x, z x) (Ideal.ofBits FTy.f32 0x44800000#32)
/-- The reciprocal of a row's deviation. -/
def rstd (z : Fin 1024 → EReal) : EReal :=
  Ideal.rsqrt (Ideal.div (∑ x, (z x - mean z) * (z x - mean z)) (Ideal.ofBits FTy.f32 0x44800000#32) + Ideal.ofBits FTy.f32 0x3727C5AC#32)
/-- A row normed. -/
def normed (z : Fin 1024 → EReal) (d : Fin 1024) : EReal := (z d - mean z) * rstd z

section
variable (x0 : Vec Ideal S768x2816 .bf16) (x1 : Vec Ideal S4x704x1024 .bf16) (x2 : Vec Ideal S768x1024 .f32) (x3 x4 x5 x6 : Vec Ideal S1x1024 .f32) (r : Fin 768) (d : Fin 1024)

/-- The sum before the norm of one row of a block. -/
def zBlk : Fin 1024 → EReal :=
  zOf (fun x => x0 (ix2 r x)) (fun x e => x1 (ix3 ⟨x.val / 704, by omega⟩ ⟨x.val % 704, by omega⟩ e)) (fun e => x2 (ix2 r e)) (fun e => x3 (ix2 0 e)) (fun e => x4 (ix2 0 e))

/-- Four chips' rows, one under another. -/
def four (w0 w1 w2 w3 : Vec Ideal S1x704x1024 .bf16) (x : Fin 2816) (e : Fin 1024) : EReal :=
  if h : x.val < 704 then w0 (ix3 0 ⟨x.val, h⟩ e) else if h : x.val - 704 < 704 then w1 (ix3 0 ⟨x.val - 704, h⟩ e)
    else if h : x.val - 704 - 704 < 704 then w2 (ix3 0 ⟨x.val - 704 - 704, h⟩ e) else w3 (ix3 0 ⟨x.val - 704 - 704 - 704, by omega⟩ e)

theorem four_apply (x : Fin 2816) (e : Fin 1024) :
    four (View.ld x1 r0_0) (View.ld x1 r0_1) (View.ld x1 r0_2) (View.ld x1 r0_3) x e = x1 (ix3 ⟨x.val / 704, by omega⟩ ⟨x.val % 704, by omega⟩ e) := by
  have key : ∀ (q : Fin 3 → Nat) (i : S1x704x1024.Idx) (h : q 2 = 0) (h0 : q 0 * 704 + q 1 + (i 1).val = x.val) (h1 : q 1 = 0) (hi : (i 0).val = 0) (h2 : (i 2).val = e.val) (hf : _),
      View.ld x1 (Rect.unit q S1x704x1024.size hf) i = x1 (ix3 ⟨x.val / 704, by omega⟩ ⟨x.val % 704, by omega⟩ e) := by
    intro q i h h0 h1 hi h2 hf
    have hl : (i 1).val < 704 := (i 1).isLt
    refine congrArg x1 (funext fun a => Fin.ext ?_)
    match a with
    | ⟨0, _⟩ => show q 0 + 1 * (i 0).val = x.val / 704; omega
    | ⟨1, _⟩ => show q 1 + 1 * (i 1).val = x.val % 704; omega
    | ⟨2, _⟩ => show q 2 + 1 * (i 2).val = e.val; omega
  unfold four
  split
  · exact key _ _ rfl (by show 0 * 704 + 0 + x.val = x.val; omega) rfl rfl rfl _
  split
  · exact key _ _ rfl (by show 1 * 704 + 0 + (x.val - 704) = x.val; omega) rfl rfl rfl _
  split
  · exact key _ _ rfl (by show 2 * 704 + 0 + (x.val - 704 - 704) = x.val; omega) rfl rfl rfl _
  · exact key _ _ rfl (by show 3 * 704 + 0 + (x.val - 704 - 704 - 704) = x.val; omega) rfl rfl rfl _

theorem pay4_apply (w0 w1 w2 w3 : Vec Ideal S1x704x1024 .bf16) (r : Fin 768) (d : Fin 1024) : k0_pay4 w0 w1 w2 w3 x0 x2 x3 x4 (ix2 r d)
    = zOf (fun x => x0 (ix2 r x)) (four w0 w1 w2 w3) (fun e => x2 (ix2 r e)) (fun e => x3 (ix2 0 e)) (fun e => x4 (ix2 0 e)) d
      - mean (zOf (fun x => x0 (ix2 r x)) (four w0 w1 w2 w3) (fun e => x2 (ix2 r e)) (fun e => x3 (ix2 0 e)) (fun e => x4 (ix2 0 e))) := by
  unfold k0_pay4 mean zOf four
  pointwise

theorem pay6_apply : k0_pay6 x0 x1 x2 x3 x4 x5 x6 (ix2 r d) = zBlk x0 x1 x2 x3 x4 r d - mean (zBlk x0 x1 x2 x3 x4 r) := by
  unfold k0_pay6
  rw [View.ld_unit_zero (S := S768x2816) hz2, View.ld_unit_zero (S := S768x1024) hz2, View.ld_unit_zero (S := S1x1024) hz2, View.ld_unit_zero (S := S1x1024) hz2, pay4_apply,
    show four (View.ld x1 r0_0) (View.ld x1 r0_1) (View.ld x1 r0_2) (View.ld x1 r0_3) = _ from funext fun x => funext fun e => four_apply x1 x e]
  rfl

theorem pay7_apply : k0_pay7 x0 x1 x2 x3 x4 x5 x6 (ix1 r)
    = ∑ e, (zBlk x0 x1 x2 x3 x4 r e - mean (zBlk x0 x1 x2 x3 x4 r)) * (zBlk x0 x1 x2 x3 x4 r e - mean (zBlk x0 x1 x2 x3 x4 r)) := by
  refine Eq.trans ?_ (Finset.sum_congr rfl fun e _ => congrArg₂ (fun a b : EReal => a * b) (pay6_apply x0 x1 x2 x3 x4 x5 x6 r e) (pay6_apply x0 x1 x2 x3 x4 x5 x6 r e))
  unfold k0_pay7 k0_pay6 k0_pay5
  generalize k0_pay4 (F := Ideal) _ _ _ _ _ _ _ _ = W
  pointwise

theorem pay1_apply : k0_pay1 (k0_pay7 x0 x1 x2 x3 x4 x5 x6) (ix2 r 0) = rstd (zBlk x0 x1 x2 x3 x4 r) := by
  unfold k0_pay1 rstd
  rw [← pay7_apply x0 x1 x2 x3 x4 x5 x6]
  generalize k0_pay7 x0 x1 x2 x3 x4 x5 x6 = W
  pointwise

theorem pay2_apply : k0_pay2 (k0_pay6 x0 x1 x2 x3 x4 x5 x6) (k0_pay7 x0 x1 x2 x3 x4 x5 x6) (ix2 r d) = normed (zBlk x0 x1 x2 x3 x4 r) d := by
  unfold k0_pay2 normed
  rw [← pay1_apply x0 x1 x2 x3 x4 x5 x6, ← pay6_apply x0 x1 x2 x3 x4 x5 x6]
  generalize k0_pay7 x0 x1 x2 x3 x4 x5 x6 = W
  generalize k0_pay6 x0 x1 x2 x3 x4 x5 x6 = U
  pointwise

/-- The normed row a point leaves. -/
theorem out7_apply : out0_7 x0 x1 x2 x3 x4 x5 x6 (ix2 r d) = normed (zBlk x0 x1 x2 x3 x4 r) d := by
  unfold out0_7
  rw [View.canon_unit_zero hz2, pay2_apply]

/-- The reciprocal deviation a point leaves. -/
theorem out8_apply : out0_8 x0 x1 x2 x3 x4 x5 x6 (ix2 r 0) = rstd (zBlk x0 x1 x2 x3 x4 r) := by
  unfold out0_8
  rw [View.canon_unit_zero hz2, pay1_apply]

/-- The scaled and shifted row a point leaves. -/
theorem out9_apply : out0_9 x0 x1 x2 x3 x4 x5 x6 (ix2 r d) = normed (zBlk x0 x1 x2 x3 x4 r) d * x5 (ix2 0 d) + x6 (ix2 0 d) := by
  unfold out0_9
  rw [View.canon_unit_zero hz2, View.ld_unit_zero (S := S1x1024) hz2, View.ld_unit_zero (S := S1x1024) hz2, ← pay2_apply x0 x1 x2 x3 x4 x5 x6]
  unfold k0_pay3
  generalize k0_pay7 x0 x1 x2 x3 x4 x5 x6 = W
  generalize k0_pay6 x0 x1 x2 x3 x4 x5 x6 = U
  pointwise
end

section
variable (x0 : S8448x2816.Idx → EReal) (x1 : S2816x1024.Idx → EReal) (x2 : S8448x1024.Idx → EReal) (x3 x4 x5 x6 : S1024.Idx → EReal) (t : Fin 8448) (d : Fin 1024)

/-- The sum before the norm of one row of the arrays. -/
def zRow : Fin 1024 → EReal :=
  zOf (fun x => x0 (ix2 t x)) (fun x e => x1 (ix2 x e)) (fun e => x2 (ix2 t e)) (fun e => x3 (ix1 e)) (fun e => x4 (ix1 e))

open Cert.DlnReferenceIdeal.Read

theorem ref_z : val_main_v12 (F := Ideal) x0 x1 x2 x3 x4 (ix2 t d) = zRow x0 x1 x2 x3 x4 t d := by
  unfold val_main_v12 val_main_v11 val_main_v10 val_main_cst_0 val_main_v9 val_main_v8 val_main_v7 val_main_v6 val_main_cst val_main_v5 val_main_v4 val_main_v3 val_main_v2 val_main_v1 val_main_v0
  pointwise
  rfl

theorem ref_mean : val_main_v16 (F := Ideal) x0 x1 x2 x3 x4 (ix2 t 0) = mean (zRow x0 x1 x2 x3 x4 t) := by
  unfold val_main_v16 val_main_v15 val_main_cst_2 val_main_v14 val_main_v13 val_main_cst_1
  pointwise
  simp only [ref_z]
  rfl

theorem ref_rstd : val_main_v26 (F := Ideal) x0 x1 x2 x3 x4 (ix2 t 0) = rstd (zRow x0 x1 x2 x3 x4 t) := by
  unfold val_main_v26 val_main_v25 val_main_v24 val_main_cst_5 val_main_v23 val_main_v22 val_main_cst_4 val_main_v21 val_main_v20 val_main_cst_3 val_main_v19 val_main_v18 val_main_v17
  pointwise
  simp only [ref_z, ref_mean]
  rfl

theorem ref_normed : val_main_v30 (F := Ideal) x0 x1 x2 x3 x4 (ix2 t d) = normed (zRow x0 x1 x2 x3 x4 t) d := by
  unfold val_main_v30 val_main_v29 val_main_v28 val_main_v27
  pointwise
  rw [ref_z, ref_mean, ref_rstd]
  rfl

theorem ref_out : val_main_v37 (F := Ideal) x0 x1 x2 x3 x4 x5 x6 (ix2 t d) = normed (zRow x0 x1 x2 x3 x4 t) d * x5 (ix1 d) + x6 (ix1 d) := by
  unfold val_main_v37 val_main_v36 val_main_v35 val_main_v34 val_main_v33 val_main_v32 val_main_v31
  pointwise
  rw [ref_normed]
end

variable (m : (ℓ : Loc nD τ sig) → Buf (Elt Ideal) ℓ)

/-- The weights the kernel is handed: chip `s` holds 704 rows. -/
theorem w_entry (c : Dev nD) (s : Fin 4) (d : Fin 704) (x : Fin 1024) :
    V m c main_v1 (ix3 s d x : S4x704x1024.Idx) = m ((c : Thread nD τ).loc main_arg1) (ix2 ⟨704 * s.val + d.val, by omega⟩ x : S2816x1024.Idx) := by
  unfold V
  after_results_simp
  generalize m ((c : Thread nD τ).loc main_arg1) = W
  pointwise
  exact congrArg W (congrArg (fun y => ix2 y x) (Fin.ext (by show s.val * 704 + d.val = 704 * s.val + d.val; omega)))

theorem row3_entry (c : Dev nD) (e : Fin 1024) : V m c main_v2 (ix2 0 e : S1x1024.Idx) = m ((c : Thread nD τ).loc main_arg3) (ix1 e : S1024.Idx) := by
  unfold V
  after_results_simp
  generalize m ((c : Thread nD τ).loc main_arg3) = W
  pointwise

theorem row4_entry (c : Dev nD) (e : Fin 1024) : V m c main_v3 (ix2 0 e : S1x1024.Idx) = m ((c : Thread nD τ).loc main_arg4) (ix1 e : S1024.Idx) := by
  unfold V
  after_results_simp
  generalize m ((c : Thread nD τ).loc main_arg4) = W
  pointwise

theorem row5_entry (c : Dev nD) (e : Fin 1024) : V m c main_v4 (ix2 0 e : S1x1024.Idx) = m ((c : Thread nD τ).loc main_arg5) (ix1 e : S1024.Idx) := by
  unfold V
  after_results_simp
  generalize m ((c : Thread nD τ).loc main_arg5) = W
  pointwise

theorem row6_entry (c : Dev nD) (e : Fin 1024) : V m c main_v5 (ix2 0 e : S1x1024.Idx) = m ((c : Thread nD τ).loc main_arg6) (ix1 e : S1024.Idx) := by
  unfold V
  after_results_simp
  generalize m ((c : Thread nD τ).loc main_arg6) = W
  pointwise

theorem index_all : ∀ t : Fin cfg0.N, win0_0.index t 0 = t.val ∧ win0_0.index t 1 = 0 ∧ win0_2.index t 0 = t.val ∧ win0_2.index t 1 = 0
    ∧ win0_7.index t 0 = t.val ∧ win0_7.index t 1 = 0 ∧ win0_8.index t 0 = t.val ∧ win0_8.index t 1 = 0
    ∧ win0_9.index t 0 = t.val ∧ win0_9.index t 1 = 0 ∧ win0_1.index t 0 = 0 ∧ win0_1.index t 1 = 0
    ∧ win0_1.index t 2 = 0 ∧ win0_3.index t 0 = 0 ∧ win0_3.index t 1 = 0 ∧ win0_4.index t 0 = 0
    ∧ win0_4.index t 1 = 0 ∧ win0_5.index t 0 = 0 ∧ win0_5.index t 1 = 0 ∧ win0_6.index t 0 = 0
    ∧ win0_6.index t 1 = 0 :=
  (by decide +kernel : ∀ t : Fin grid0.N, win0_0.index t 0 = t.val ∧ win0_0.index t 1 = 0 ∧ win0_2.index t 0 = t.val ∧ win0_2.index t 1 = 0
    ∧ win0_7.index t 0 = t.val ∧ win0_7.index t 1 = 0 ∧ win0_8.index t 0 = t.val ∧ win0_8.index t 1 = 0
    ∧ win0_9.index t 0 = t.val ∧ win0_9.index t 1 = 0 ∧ win0_1.index t 0 = 0 ∧ win0_1.index t 1 = 0
    ∧ win0_1.index t 2 = 0 ∧ win0_3.index t 0 = 0 ∧ win0_3.index t 1 = 0 ∧ win0_4.index t 0 = 0
    ∧ win0_4.index t 1 = 0 ∧ win0_5.index t 0 = 0 ∧ win0_5.index t 1 = 0 ∧ win0_6.index t 0 = 0
    ∧ win0_6.index t 1 = 0)

theorem iblk0_apply (c : Dev nD) (t : Fin cfg0.N) (r : Fin 768) (j : Fin 2816) (hr : 768 * t.val + r.val < 8448) :
    (iblk m c 0 t : Vec Ideal S768x2816 .bf16) (ix2 r j) = m ((c : Thread nD τ).loc main_arg0) (ix2 ⟨768 * t.val + r.val, hr⟩ j : S8448x2816.Idx) := by
  obtain ⟨i0_0, i0_1, i2_0, i2_1, i7_0, i7_1, i8_0, i8_1, i9_0, i9_1, i1_0, i1_1, i1_2, i3_0, i3_1, i4_0, i4_1, i5_0, i5_1, i6_0, i6_1⟩ := index_all t
  unfold iblk
  rw [View.read_apply, ← V_main_arg0 m c]
  refine congrArg (V m c main_arg0) (funext fun a => Fin.ext ?_)
  match a with
  | ⟨0, _⟩ => show win0_0.index t 0 * 768 + 1 * r.val = 768 * t.val + r.val; rw [i0_0]; omega
  | ⟨1, _⟩ => show win0_0.index t 1 * 2816 + 1 * j.val = j.val; rw [i0_1]; omega

theorem iblk2_apply (c : Dev nD) (t : Fin cfg0.N) (r : Fin 768) (j : Fin 1024) (hr : 768 * t.val + r.val < 8448) :
    (iblk m c 2 t : Vec Ideal S768x1024 .f32) (ix2 r j) = m ((c : Thread nD τ).loc main_arg2) (ix2 ⟨768 * t.val + r.val, hr⟩ j : S8448x1024.Idx) := by
  obtain ⟨i0_0, i0_1, i2_0, i2_1, i7_0, i7_1, i8_0, i8_1, i9_0, i9_1, i1_0, i1_1, i1_2, i3_0, i3_1, i4_0, i4_1, i5_0, i5_1, i6_0, i6_1⟩ := index_all t
  unfold iblk
  rw [View.read_apply, ← V_main_arg2 m c]
  refine congrArg (V m c main_arg2) (funext fun a => Fin.ext ?_)
  match a with
  | ⟨0, _⟩ => show win0_2.index t 0 * 768 + 1 * r.val = 768 * t.val + r.val; rw [i2_0]; omega
  | ⟨1, _⟩ => show win0_2.index t 1 * 1024 + 1 * j.val = j.val; rw [i2_1]; omega

theorem iblk1_apply (c : Dev nD) (t : Fin cfg0.N) (s : Fin 4) (r : Fin 704) (x : Fin 1024) :
    (iblk m c 1 t : Vec Ideal S4x704x1024 .bf16) (ix3 s r x) = V m c main_v1 (ix3 s r x : S4x704x1024.Idx) := by
  obtain ⟨i0_0, i0_1, i2_0, i2_1, i7_0, i7_1, i8_0, i8_1, i9_0, i9_1, i1_0, i1_1, i1_2, i3_0, i3_1, i4_0, i4_1, i5_0, i5_1, i6_0, i6_1⟩ := index_all t
  unfold iblk
  rw [View.read_apply]
  refine congrArg (V m c main_v1) (funext fun a => Fin.ext ?_)
  match a with
  | ⟨0, _⟩ => show win0_1.index t 0 * 4 + 1 * s.val = s.val; rw [i1_0]; omega
  | ⟨1, _⟩ => show win0_1.index t 1 * 704 + 1 * r.val = r.val; rw [i1_1]; omega
  | ⟨2, _⟩ => show win0_1.index t 2 * 1024 + 1 * x.val = x.val; rw [i1_2]; omega

theorem iblk3_apply (c : Dev nD) (t : Fin cfg0.N) (e : Fin 1024) :
    (iblk m c 3 t : Vec Ideal S1x1024 .f32) (ix2 0 e) = m ((c : Thread nD τ).loc main_arg3) (ix1 e : S1024.Idx) := by
  obtain ⟨i0_0, i0_1, i2_0, i2_1, i7_0, i7_1, i8_0, i8_1, i9_0, i9_1, i1_0, i1_1, i1_2, i3_0, i3_1, i4_0, i4_1, i5_0, i5_1, i6_0, i6_1⟩ := index_all t
  refine Eq.trans ?_ (row3_entry m c e)
  unfold iblk
  rw [View.read_apply]
  refine congrArg (V m c main_v2) (funext fun a => Fin.ext ?_)
  match a with
  | ⟨0, _⟩ => show win0_3.index t 0 * 1 + 1 * 0 = 0; rw [i3_0]
  | ⟨1, _⟩ => show win0_3.index t 1 * 1024 + 1 * e.val = e.val; rw [i3_1]; omega

theorem iblk4_apply (c : Dev nD) (t : Fin cfg0.N) (e : Fin 1024) :
    (iblk m c 4 t : Vec Ideal S1x1024 .f32) (ix2 0 e) = m ((c : Thread nD τ).loc main_arg4) (ix1 e : S1024.Idx) := by
  obtain ⟨i0_0, i0_1, i2_0, i2_1, i7_0, i7_1, i8_0, i8_1, i9_0, i9_1, i1_0, i1_1, i1_2, i3_0, i3_1, i4_0, i4_1, i5_0, i5_1, i6_0, i6_1⟩ := index_all t
  refine Eq.trans ?_ (row4_entry m c e)
  unfold iblk
  rw [View.read_apply]
  refine congrArg (V m c main_v3) (funext fun a => Fin.ext ?_)
  match a with
  | ⟨0, _⟩ => show win0_4.index t 0 * 1 + 1 * 0 = 0; rw [i4_0]
  | ⟨1, _⟩ => show win0_4.index t 1 * 1024 + 1 * e.val = e.val; rw [i4_1]; omega

theorem iblk5_apply (c : Dev nD) (t : Fin cfg0.N) (e : Fin 1024) :
    (iblk m c 5 t : Vec Ideal S1x1024 .f32) (ix2 0 e) = m ((c : Thread nD τ).loc main_arg5) (ix1 e : S1024.Idx) := by
  obtain ⟨i0_0, i0_1, i2_0, i2_1, i7_0, i7_1, i8_0, i8_1, i9_0, i9_1, i1_0, i1_1, i1_2, i3_0, i3_1, i4_0, i4_1, i5_0, i5_1, i6_0, i6_1⟩ := index_all t
  refine Eq.trans ?_ (row5_entry m c e)
  unfold iblk
  rw [View.read_apply]
  refine congrArg (V m c main_v4) (funext fun a => Fin.ext ?_)
  match a with
  | ⟨0, _⟩ => show win0_5.index t 0 * 1 + 1 * 0 = 0; rw [i5_0]
  | ⟨1, _⟩ => show win0_5.index t 1 * 1024 + 1 * e.val = e.val; rw [i5_1]; omega

theorem iblk6_apply (c : Dev nD) (t : Fin cfg0.N) (e : Fin 1024) :
    (iblk m c 6 t : Vec Ideal S1x1024 .f32) (ix2 0 e) = m ((c : Thread nD τ).loc main_arg6) (ix1 e : S1024.Idx) := by
  obtain ⟨i0_0, i0_1, i2_0, i2_1, i7_0, i7_1, i8_0, i8_1, i9_0, i9_1, i1_0, i1_1, i1_2, i3_0, i3_1, i4_0, i4_1, i5_0, i5_1, i6_0, i6_1⟩ := index_all t
  refine Eq.trans ?_ (row6_entry m c e)
  unfold iblk
  rw [View.read_apply]
  refine congrArg (V m c main_v5) (funext fun a => Fin.ext ?_)
  match a with
  | ⟨0, _⟩ => show win0_6.index t 0 * 1 + 1 * 0 = 0; rw [i6_0]
  | ⟨1, _⟩ => show win0_6.index t 1 * 1024 + 1 * e.val = e.val; rw [i6_1]; omega

/-- The row before the norm, of the arguments. -/
abbrev z (c : Dev nD) (t : Fin 8448) : Fin 1024 → EReal := zRow (m ((c : Thread nD τ).loc main_arg0)) (m ((c : Thread nD τ).loc main_arg1)) (m ((c : Thread nD τ).loc main_arg2)) (m ((c : Thread nD τ).loc main_arg3)) (m ((c : Thread nD τ).loc main_arg4)) t

/-- The row before the norm a point computes is the whole arrays'. -/
theorem z_eq (c : Dev nD) (n : Fin cfg0.N) (r : Fin 768) (hr : 768 * n.val + r.val < 8448) :
    zBlk (iblk m c 0 n) (iblk m c 1 n) (iblk m c 2 n) (iblk m c 3 n) (iblk m c 4 n) r = z m c ⟨768 * n.val + r.val, hr⟩ := by
  funext d
  unfold zBlk z zRow zOf
  refine congrArg₂ (fun a b : EReal => a + b) (congrArg (fun a : EReal => _ * a) (congrArg₂ (fun a b : EReal => a + b)
    (congrArg₂ (fun a b : EReal => a * b) (iblk2_apply m c n r d hr) (iblk3_apply m c n d)) (iblk4_apply m c n d)))
    (congrArg (fun a : EReal => _ * a) (Finset.sum_congr (M := EReal) rfl fun x _ => congrArg₂ (fun a b : EReal => a * b) (iblk0_apply m c n r x hr) ?_))
  refine (iblk1_apply m c n _ _ d).trans ((w_entry m c _ _ d).trans ?_)
  refine congrArg (fun y => m ((c : Thread nD τ).loc main_arg1) (ix2 y d : S2816x1024.Idx)) (Fin.ext ?_)
  show 704 * (x.val / 704) + x.val % 704 = x.val
  omega

/-- The kernel's three arrays at a row and a column. -/
theorem ker_apply (c : Dev nD) (t : Fin 8448) (d : Fin 1024) :
    (dats m 0 c).arrAt 7 cfg0.N (ix2 t d : S8448x1024.Idx) = normed (z m c t) d
    ∧ (dats m 0 c).arrAt 8 cfg0.N (ix2 t 0 : S8448x1.Idx) = rstd (z m c t)
    ∧ (dats m 0 c).arrAt 9 cfg0.N (ix2 t d : S8448x1024.Idx)
      = normed (z m c t) d * (fun i : S1024.Idx => (m ((c : Thread nD τ).loc main_arg5) i : EReal)) (ix1 d) + (fun i : S1024.Idx => (m ((c : Thread nD τ).loc main_arg6) i : EReal)) (ix1 d) := by
  let n : Fin cfg0.N := ⟨t.val / 768, lt_of_lt_of_eq (show t.val / 768 < 11 by omega) N_0.symm⟩
  obtain ⟨i0_0, i0_1, i2_0, i2_1, i7_0, i7_1, i8_0, i8_1, i9_0, i9_1, i1_0, i1_1, i1_2, i3_0, i3_1, i4_0, i4_1, i5_0, i5_1, i6_0, i6_1⟩ := index_all n
  have hn : n.val = t.val / 768 := rfl
  have hr : 768 * n.val + t.val % 768 = t.val := by rw [hn]; omega
  have hr' : 768 * n.val + (⟨t.val % 768, by omega⟩ : Fin 768).val < 8448 := by show 768 * n.val + t.val % 768 < 8448; omega
  have ez := z_eq m c n ⟨t.val % 768, by omega⟩ hr'
  rw [show (⟨768 * n.val + (⟨t.val % 768, by omega⟩ : Fin 768).val, hr'⟩ : Fin 8448) = t from Fin.ext hr] at ez
  refine ⟨?_, ?_, ?_⟩
  · have hb := congrFun (Value.blocks7 m c n (flush0_7 n)) (ix2 ⟨t.val % 768, by omega⟩ d : S768x1024.Idx)
    rw [Value.flushed7, View.read_apply] at hb
    refine Eq.trans ?_ (hb.trans ((out7_apply (iblk m c 0 n) (iblk m c 1 n) (iblk m c 2 n) (iblk m c 3 n) (iblk m c 4 n) (iblk m c 5 n) (iblk m c 6 n) ⟨t.val % 768, by omega⟩ d).trans ?_))
    · refine congrArg ((dats m 0 c).arrAt 7 cfg0.N) (funext fun a => Fin.ext ?_)
      match a with
      | ⟨0, _⟩ => show t.val = win0_7.index n 0 * 768 + 1 * (t.val % 768); rw [i7_0, hn]; omega
      | ⟨1, _⟩ => show d.val = win0_7.index n 1 * 1024 + 1 * d.val; rw [i7_1]; omega
    · rw [ez]
  · have hb := congrFun (Value.blocks8 m c n (flush0_8 n)) (ix2 ⟨t.val % 768, by omega⟩ 0 : S768x1.Idx)
    rw [Value.flushed8, View.read_apply] at hb
    refine Eq.trans ?_ (hb.trans ((out8_apply (iblk m c 0 n) (iblk m c 1 n) (iblk m c 2 n) (iblk m c 3 n) (iblk m c 4 n) (iblk m c 5 n) (iblk m c 6 n) ⟨t.val % 768, by omega⟩).trans ?_))
    · refine congrArg ((dats m 0 c).arrAt 8 cfg0.N) (funext fun a => Fin.ext ?_)
      match a with
      | ⟨0, _⟩ => show t.val = win0_8.index n 0 * 768 + 1 * (t.val % 768); rw [i8_0, hn]; omega
      | ⟨1, _⟩ => show 0 = win0_8.index n 1 * 1 + 1 * 0; rw [i8_1]
    · rw [ez]
  · have hb := congrFun (Value.blocks9 m c n (flush0_9 n)) (ix2 ⟨t.val % 768, by omega⟩ d : S768x1024.Idx)
    rw [Value.flushed9, View.read_apply] at hb
    refine Eq.trans ?_ (hb.trans ((out9_apply (iblk m c 0 n) (iblk m c 1 n) (iblk m c 2 n) (iblk m c 3 n) (iblk m c 4 n) (iblk m c 5 n) (iblk m c 6 n) ⟨t.val % 768, by omega⟩ d).trans ?_))
    · refine congrArg ((dats m 0 c).arrAt 9 cfg0.N) (funext fun a => Fin.ext ?_)
      match a with
      | ⟨0, _⟩ => show t.val = win0_9.index n 0 * 768 + 1 * (t.val % 768); rw [i9_0, hn]; omega
      | ⟨1, _⟩ => show d.val = win0_9.index n 1 * 1024 + 1 * d.val; rw [i9_1]; omega
    · rw [ez]
      exact congrArg₂ (fun a b : EReal => a + b) (congrArg (fun a : EReal => _ * a) (iblk5_apply m c n d)) (iblk6_apply m c n d)

theorem normed_eq (c : Dev nD) : (dats m 0 c).arrAt 7 cfg0.N = Cert.DlnReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨t, d, rfl⟩ : ∃ (t : Fin 8448) (d : Fin 1024), i = (ix2 t d : S8448x1024.Idx) := ⟨i 0, i 1, eq_ix2 i⟩
  rw [ref_normed, (ker_apply m c t d).1]

theorem out_eq (c : Dev nD) : (dats m 0 c).arrAt 9 cfg0.N = Cert.DlnReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨t, d, rfl⟩ : ∃ (t : Fin 8448) (d : Fin 1024), i = (ix2 t d : S8448x1024.Idx) := ⟨i 0, i 1, eq_ix2 i⟩
  rw [ref_out, (ker_apply m c t d).2.2]

theorem rstd_eq (c : Dev nD) : (dats m 0 c).arrAt 8 cfg0.N = Cert.DlnReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨t, d, rfl⟩ : ∃ (t : Fin 8448) (d : Fin 1), i = (ix2 t d : S8448x1.Idx) := ⟨i 0, i 1, eq_ix2 i⟩
  obtain rfl : d = 0 := Subsingleton.elim _ _
  rw [ref_rstd, (ker_apply m c t 0).2.1]

/-- The kernel computes the reference's three results. -/
theorem algebraic : Cert.algebraic_DlnKernelIdeal_DlnReferenceIdeal := by
  intro m g m' g' _ hag
  refine ⟨fun c => (dats m 0 c).arrAt 7 cfg0.N, fun c => (dats m 0 c).arrAt 8 cfg0.N, fun c => (dats m 0 c).arrAt 9 cfg0.N, Cert.DlnKernelIdeal.Value.run_blocks m g, ?_⟩
  refine (θ_run _ _ _).mono (fun r h c => ?_) (Cert.DlnReferenceIdeal.Value.run m' g')
  obtain ⟨h0, h1, h2, ha⟩ := h c
  obtain ⟨e0, e1, e2, e3, e4, e5, e6⟩ := hag c
  refine ⟨?_, ?_, ?_, ha⟩
  · refine Eq.trans ?_ (normed_eq m c).symm
    rw [← e0, ← e1, ← e2, ← e3, ← e4]
    exact h0.trans (Cert.DlnReferenceIdeal.Read.val_main_v30_eq _ _)
  · refine Eq.trans ?_ (rstd_eq m c).symm
    rw [← e0, ← e1, ← e2, ← e3, ← e4]
    exact h1.trans (Cert.DlnReferenceIdeal.Read.val_main_v26_eq _ _ _ _ _)
  · refine Eq.trans ?_ (out_eq m c).symm
    rw [← e0, ← e1, ← e2, ← e3, ← e4, ← e5, ← e6]
    exact h2.trans (Cert.DlnReferenceIdeal.Read.val_main_v37_eq _ _)

/-- The reference runs, leaves its arguments unchanged and ends with every counter at zero. -/
theorem frame_reference : Cert.quiescent_DlnReferenceIdeal := by
  intro m ρ _
  exact (θ_run Cert.DlnReferenceIdeal.defs _ _).mono (fun r h => ⟨fun c => (h c).2.2.2,
      Idealize.ShloMosaic.sem_eq_zero_of_no_sems (by decide) r.2⟩) (Cert.DlnReferenceIdeal.Value.run (F := Ideal) m ρ)

end Cert.DlnAlg
end
-- ==== Proof.MrgAlg.lean ====
module
public import proofs.«01_k».proof.Defs
public import proofs.«01_k».proof.Proof.DlnAlg
public import proofs.«01_k».proof.Proof.Gen.MrgKernelIdeal.Value
public import proofs.«01_k».proof.Proof.Gen.MrgReferenceIdeal.Run
public import proofs.«01_k».proof.Proof.Gen.MrgReferenceIdeal.Read
public import Idealize.ShloMosaic.Lib.Pointwise
public import Idealize.ShloMosaic.Lib.WritesUnit
@[expose] public section
set_option maxRecDepth 16384
noncomputable section
open Idealize.ShloMosaic Idealize.ShloMosaic.TcCoe Idealize.SL.Sem
namespace Cert.MrgAlg
open Cert.MrgKernelIdeal Cert.MrgKernelIdeal.Gen
open Cert.DlnAlg (hz2 mean rstd normed)

/-! The merge of the mixer's two branches, its output product with the residual, and the layer norm. -/

/-- A row times a matrix. -/
def rowMul {n : ℕ} (a : Fin n → EReal) (w : Fin n → Fin 1024 → EReal) (d : Fin 1024) : EReal := ∑ x, a x * w x d
/-- A row of the merge: each branch times its gate. -/
def merged (gc gm bc bm pc pm : Fin 1024 → EReal) (d : Fin 1024) : EReal :=
  Ideal.logistic (gc d + bc d) * pc d + Ideal.logistic (gm d + bm d) * pm d
/-- A row before the norm: the residual of the scaled and shifted row `xp`, and the output product of the merged row `a`. -/
def zOf (a : Fin 1024 → EReal) (w : Fin 1024 → Fin 1024 → EReal) (xp gp bp : Fin 1024 → EReal) (d : Fin 1024) : EReal :=
  Ideal.ofBits FTy.f32 0x3FB504F3#32 * (xp d * gp d + bp d) + rowMul a w d

section
variable (x0 : Vec Ideal S384x512 .bf16) (x1 x2 x3 : Vec Ideal S384x1024 .bf16) (x4 : Vec Ideal S2x1024 .f32) (x5 : Vec Ideal S512x1024 .bf16) (x6 x7 : Vec Ideal S1024x1024 .bf16) (x8 : Vec Ideal S384x1024 .f32) (x9 x10 x11 x12 : Vec Ideal S1x1024 .f32) (r : Fin 384) (d : Fin 1024)

/-- A row of the convolution's branch, of a block. -/
def cBlk : Fin 1024 → EReal := rowMul (fun x => x0 (ix2 r x)) (fun x e => x5 (ix2 x e))
/-- A row of the attention's branch, of a block. -/
def mBlk : Fin 1024 → EReal := rowMul (fun x => x1 (ix2 r x)) (fun x e => x6 (ix2 x e))
/-- A row of the merge, of a block. -/
def gBlk : Fin 1024 → EReal :=
  merged (fun e => x2 (ix2 r e)) (fun e => x3 (ix2 r e)) (fun e => x4 (ix2 0 e)) (fun e => x4 (ix2 1 e)) (cBlk x0 x5 r) (mBlk x1 x6 r)
/-- A row before the norm, of a block, from the merged rows. -/
def zMid (v : Vec Ideal S384x1024 .bf16) : Fin 1024 → EReal :=
  zOf (fun x => v (ix2 r x)) (fun x e => x7 (ix2 x e)) (fun e => x8 (ix2 r e)) (fun e => x9 (ix2 0 e)) (fun e => x10 (ix2 0 e))
/-- A row before the norm, of a block. -/
def zBlk : Fin 1024 → EReal :=
  zOf (gBlk x0 x1 x2 x3 x4 x5 x6 r) (fun x e => x7 (ix2 x e)) (fun e => x8 (ix2 r e)) (fun e => x9 (ix2 0 e)) (fun e => x10 (ix2 0 e))

theorem pay2_apply : k0_pay2 x0 x5 (ix2 r d) = cBlk x0 x5 r d := by
  unfold k0_pay2 cBlk rowMul
  pointwise

theorem pay3_apply : k0_pay3 x1 x6 (ix2 r d) = mBlk x1 x6 r d := by
  unfold k0_pay3 mBlk rowMul
  pointwise

theorem pay4_apply : k0_pay4 x0 x5 x1 x6 x4 x2 x3 (ix2 r d) = gBlk x0 x1 x2 x3 x4 x5 x6 r d := by
  unfold gBlk merged
  rw [← pay2_apply, ← pay3_apply]
  unfold k0_pay4
  generalize k0_pay2 (F := Ideal) _ _ = U
  generalize k0_pay3 (F := Ideal) _ _ = W
  pointwise

theorem pay7_apply (v : Vec Ideal S384x1024 .bf16) : k0_pay7 v x7 x8 x9 x10 (ix2 r d) = zMid x7 x8 x9 x10 r v d - mean (zMid x7 x8 x9 x10 r v) := by
  unfold k0_pay7 mean zMid zOf rowMul
  pointwise

theorem pay8_apply (v : Vec Ideal S384x1024 .bf16) : k0_pay8 v x7 x8 x9 x10 (ix2 r 0) = rstd (zMid x7 x8 x9 x10 r v) := by
  unfold rstd
  simp only [← pay7_apply]
  unfold k0_pay8
  generalize k0_pay7 (F := Ideal) _ _ _ _ _ = U
  pointwise

theorem pay9_apply (v : Vec Ideal S384x1024 .bf16) : k0_pay9 v x7 x8 x9 x10 (ix2 r d) = normed (zMid x7 x8 x9 x10 r v) d := by
  unfold normed
  rw [← pay8_apply, ← pay7_apply]
  unfold k0_pay9
  generalize k0_pay8 (F := Ideal) _ _ _ _ _ = W
  generalize k0_pay7 (F := Ideal) _ _ _ _ _ = U
  pointwise

theorem pay1_apply (v : Vec Ideal S384x1024 .bf16) :
    k0_pay1 (k0_pay10 v x7 x8 x9 x10 x11) x12 (ix2 r d) = normed (zMid x7 x8 x9 x10 r v) d * x11 (ix2 0 d) + x12 (ix2 0 d) := by
  rw [← pay9_apply]
  unfold k0_pay1 k0_pay10
  generalize k0_pay9 (F := Ideal) _ _ _ _ _ = U
  pointwise

/-- The merged rows a point's later steps read. -/
theorem zMid_eq : zMid x7 x8 x9 x10 r (k0_pay11 x0 x1 x2 x3 x4 x5 x6 x7 x8 x9 x10 x11 x12) = zBlk x0 x1 x2 x3 x4 x5 x6 x7 x8 x9 x10 r := by
  unfold zMid zBlk
  refine congrArg (fun a => zOf a _ _ _ _) (funext fun x => ?_)
  unfold k0_pay11
  simp only [View.ld_unit_zero (S := S384x512) hz2, View.ld_unit_zero (S := S512x1024) hz2, View.ld_unit_zero (S := S384x1024) hz2, View.ld_unit_zero (S := S1024x1024) hz2, View.ld_unit_zero (S := S2x1024) hz2]
  exact pay4_apply x0 x1 x2 x3 x4 x5 x6 r x

/-- The convolution's branch a point leaves. -/
theorem out13_apply : out0_13 x0 x1 x2 x3 x4 x5 x6 x7 x8 x9 x10 x11 x12 (ix2 r d) = cBlk x0 x5 r d := by
  unfold out0_13
  rw [View.canon_unit_zero hz2]
  simp only [View.ld_unit_zero (S := S384x512) hz2, View.ld_unit_zero (S := S512x1024) hz2]
  unfold k0_pay5
  exact pay2_apply x0 x5 r d

/-- The attention's branch a point leaves. -/
theorem out14_apply : out0_14 x0 x1 x2 x3 x4 x5 x6 x7 x8 x9 x10 x11 x12 (ix2 r d) = mBlk x1 x6 r d := by
  unfold out0_14
  rw [View.canon_unit_zero hz2]
  simp only [View.ld_unit_zero (S := S384x1024) hz2, View.ld_unit_zero (S := S1024x1024) hz2]
  unfold k0_pay6
  exact pay3_apply x1 x6 r d

/-- The merged row a point leaves. -/
theorem out15_apply : out0_15 x0 x1 x2 x3 x4 x5 x6 x7 x8 x9 x10 x11 x12 (ix2 r d) = gBlk x0 x1 x2 x3 x4 x5 x6 r d := by
  unfold out0_15
  rw [View.canon_unit_zero hz2]
  simp only [View.ld_unit_zero (S := S384x512) hz2, View.ld_unit_zero (S := S512x1024) hz2, View.ld_unit_zero (S := S384x1024) hz2, View.ld_unit_zero (S := S1024x1024) hz2, View.ld_unit_zero (S := S2x1024) hz2]
  exact pay4_apply x0 x1 x2 x3 x4 x5 x6 r d

/-- The normed row a point leaves. -/
theorem out16_apply : out0_16 x0 x1 x2 x3 x4 x5 x6 x7 x8 x9 x10 x11 x12 (ix2 r d) = normed (zBlk x0 x1 x2 x3 x4 x5 x6 x7 x8 x9 x10 r) d := by
  unfold out0_16
  rw [View.canon_unit_zero hz2]
  simp only [View.ld_unit_zero (S := S384x1024) hz2, View.ld_unit_zero (S := S1024x1024) hz2, View.ld_unit_zero (S := S1x1024) hz2]
  rw [pay9_apply, zMid_eq]

/-- The reciprocal deviation a point leaves. -/
theorem out17_apply : out0_17 x0 x1 x2 x3 x4 x5 x6 x7 x8 x9 x10 x11 x12 (ix2 r 0) = rstd (zBlk x0 x1 x2 x3 x4 x5 x6 x7 x8 x9 x10 r) := by
  unfold out0_17
  rw [View.canon_unit_zero hz2]
  simp only [View.ld_unit_zero (S := S384x1024) hz2, View.ld_unit_zero (S := S1024x1024) hz2, View.ld_unit_zero (S := S1x1024) hz2]
  rw [pay8_apply, zMid_eq]

/-- The scaled and shifted row a point leaves. -/
theorem out18_apply : out0_18 x0 x1 x2 x3 x4 x5 x6 x7 x8 x9 x10 x11 x12 (ix2 r d) = normed (zBlk x0 x1 x2 x3 x4 x5 x6 x7 x8 x9 x10 r) d * x11 (ix2 0 d) + x12 (ix2 0 d) := by
  unfold out0_18
  rw [View.canon_unit_zero hz2]
  simp only [View.ld_unit_zero (S := S384x1024) hz2, View.ld_unit_zero (S := S1024x1024) hz2, View.ld_unit_zero (S := S1x1024) hz2]
  rw [pay1_apply, zMid_eq]

end

section
variable (y : S8448x512.Idx → EReal) (o : S8448x8x128.Idx → EReal) (p : S8448x4000.Idx → EReal) (bg : S2x1024.Idx → EReal) (wc wm : S512x1024.Idx → EReal) (wo : S1024x1024.Idx → EReal) (xh : S8448x1024.Idx → EReal) (gp bp g b : S1024.Idx → EReal) (t : Fin 8448) (d : Fin 1024)

/-- A row of the convolution's branch. -/
def cRow : Fin 1024 → EReal := rowMul (fun x => y (ix2 t x)) (fun x e => wc (ix2 x e))
/-- A row of the attention's branch: of each head the values' half. -/
def mRow : Fin 1024 → EReal :=
  rowMul (fun x : Fin 512 => o (ix3 t ⟨x.val / 64, by omega⟩ ⟨64 + x.val % 64, by omega⟩)) (fun x e => wm (ix2 x e))
/-- A row of the merge. -/
def gRow : Fin 1024 → EReal :=
  merged (fun e => p (ix2 t ⟨1952 + e.val, by omega⟩)) (fun e => p (ix2 t ⟨2976 + e.val, by omega⟩)) (fun e => bg (ix2 0 e)) (fun e => bg (ix2 1 e))
    (cRow y wc t) (mRow o wm t)
/-- A row before the norm. -/
def zRow : Fin 1024 → EReal :=
  zOf (gRow y o p bg wc wm t) (fun x e => wo (ix2 x e)) (fun e => xh (ix2 t e)) (fun e => gp (ix1 e)) (fun e => bp (ix1 e))

open Cert.MrgReferenceIdeal.Read

theorem ref_c32 : val_main_v7 (F := Ideal) y wc (ix2 t d) = cRow y wc t d := by
  unfold val_main_v7 val_main_v6 cRow rowMul
  pointwise

theorem ref_m32 : val_main_v8 (F := Ideal) o wm (ix2 t d) = mRow o wm t d := by
  unfold val_main_v8 val_main_v5 val_main_v4 val_main_v3 mRow rowMul
  pointwise

theorem ref_c : val_main_v62 (F := Ideal) y wc (ix2 t d) = cRow y wc t d := ref_c32 y wc t d

theorem ref_m : val_main_v63 (F := Ideal) o wm (ix2 t d) = mRow o wm t d := ref_m32 o wm t d

theorem ref_g32 : val_main_v33 (F := Ideal) y o p bg wc wm (ix2 t d) = gRow y o p bg wc wm t d := by
  unfold gRow merged
  rw [← ref_c32, ← ref_m32]
  unfold val_main_v33 val_main_v32 val_main_v31 val_main_v30 val_main_cst_2 val_main_v29 val_main_v28 val_main_cst_1 val_main_v27 val_main_v26 val_main_v25 val_main_v24 val_main_v23 val_main_v22 val_main_v21 val_main_v20 val_main_v19 val_main_v18 val_main_cst_0 val_main_v17 val_main_v16 val_main_cst val_main_v15 val_main_v14 val_main_v13 val_main_v12 val_main_v11 val_main_v10 val_main_v9 val_main_v2 val_main_v1 val_main_v0
  pointwise
  rfl

theorem ref_g : val_main_v64 (F := Ideal) y o p bg wc wm (ix2 t d) = gRow y o p bg wc wm t d := ref_g32 y o p bg wc wm t d

theorem ref_z : val_main_v43 (F := Ideal) y o p bg wc wm wo xh gp bp (ix2 t d) = zRow y o p bg wc wm wo xh gp bp t d := by
  unfold zRow zOf rowMul
  simp only [← ref_g32]
  unfold val_main_v43 val_main_v42 val_main_v41 val_main_v40 val_main_cst_3 val_main_v39 val_main_v38 val_main_v37 val_main_v36 val_main_v35 val_main_v34
  pointwise

theorem ref_mean : val_main_v47 (F := Ideal) y o p bg wc wm wo xh gp bp (ix2 t 0) = mean (zRow y o p bg wc wm wo xh gp bp t) := by
  unfold val_main_v47 val_main_v46 val_main_cst_5 val_main_v45 val_main_v44 val_main_cst_4
  pointwise
  simp only [ref_z]
  rfl

theorem ref_rstd : val_main_v57 (F := Ideal) y o p bg wc wm wo xh gp bp (ix2 t 0) = rstd (zRow y o p bg wc wm wo xh gp bp t) := by
  unfold val_main_v57 val_main_v56 val_main_v55 val_main_cst_8 val_main_v54 val_main_v53 val_main_cst_7 val_main_v52 val_main_v51 val_main_cst_6 val_main_v50 val_main_v49 val_main_v48
  pointwise
  simp only [ref_z, ref_mean]
  rfl

theorem ref_normed : val_main_v61 (F := Ideal) y o p bg wc wm wo xh gp bp (ix2 t d) = normed (zRow y o p bg wc wm wo xh gp bp t) d := by
  unfold val_main_v61 val_main_v60 val_main_v59 val_main_v58
  pointwise
  rw [ref_z, ref_mean, ref_rstd]
  rfl

theorem ref_out : val_main_v71 (F := Ideal) y o p bg wc wm wo xh gp bp g b (ix2 t d) = normed (zRow y o p bg wc wm wo xh gp bp t) d * g (ix1 d) + b (ix1 d) := by
  unfold val_main_v71 val_main_v70 val_main_v69 val_main_v68 val_main_v67 val_main_v66 val_main_v65
  pointwise
  rw [ref_normed]
end

/-- A sum over the heads' two halves, the first of which adds nothing, is the sum over the second. -/
theorem sum_halves (f : Fin 1024 → EReal) (g : Fin 512 → EReal) (h0 : ∀ x : Fin 1024, x.val % 128 < 64 → f x = 0)
    (h1 : ∀ x : Fin 512, f ⟨128 * (x.val / 64) + 64 + x.val % 64, by omega⟩ = g x) : ∑ x, f x = ∑ x, g x := by
  refine (Finset.sum_of_injOn (fun x : Fin 512 => (⟨128 * (x.val / 64) + 64 + x.val % 64, by omega⟩ : Fin 1024)) ?_ (fun _ _ => Finset.mem_univ _) ?_ (fun x _ => (h1 x).symm)).symm
  · intro a _ b _ h
    have h' : 128 * (a.val / 64) + 64 + a.val % 64 = 128 * (b.val / 64) + 64 + b.val % 64 := congrArg Fin.val h
    exact Fin.ext (by omega)
  · intro x _ hx
    refine h0 x (Nat.lt_of_not_le fun h => hx ?_)
    exact ⟨⟨64 * (x.val / 128) + (x.val % 128 - 64), by omega⟩, Finset.mem_coe.mpr (Finset.mem_univ _), Fin.ext (by
      show 128 * ((64 * (x.val / 128) + (x.val % 128 - 64)) / 64) + 64 + (64 * (x.val / 128) + (x.val % 128 - 64)) % 64 = x.val
      omega)⟩

variable (m : (ℓ : Loc nD τ sig) → Buf (Elt Ideal) ℓ)

/-- The attention's output the kernel is handed: the heads side by side. -/
theorem o_entry (c : Dev nD) (t : Fin 8448) (x : Fin 1024) :
    V m c main_v5 (ix2 t x : S8448x1024.Idx) = m ((c : Thread nD τ).loc main_arg1) (ix3 t ⟨x.val / 128, by omega⟩ ⟨x.val % 128, by omega⟩ : S8448x8x128.Idx) := by
  unfold V
  after_results_simp
  generalize m ((c : Thread nD τ).loc main_arg1) = W
  pointwise

/-- The attention's weights the kernel is handed: of each head zero rows, then its rows. -/
theorem wm_entry (c : Dev nD) (x d : Fin 1024) :
    V m c main_v4 (ix2 x d : S1024x1024.Idx) = if h : x.val % 128 < 64 then (0 : EReal)
      else m ((c : Thread nD τ).loc main_arg5) (ix2 ⟨64 * (x.val / 128) + (x.val % 128 - 64), by omega⟩ d : S512x1024.Idx) := by
  unfold V
  after_results_simp
  pointwise
  after_results_simp
  generalize m ((c : Thread nD τ).loc main_arg5) = W
  pointwise
  by_cases h0 : x.val % 128 < 64
  · rw [dif_pos h0, dif_pos h0]
  · rw [dif_neg h0, dif_neg h0]
    exact congrArg W (congrArg (fun u : Fin 512 => (ix2 u d : S512x1024.Idx)) (Fin.ext (by show x.val / 128 * 64 + (x.val % 128 - 64) = 64 * (x.val / 128) + (x.val % 128 - 64); omega)))

/-- The projections the kernel is handed, padded: their last columns. -/
theorem p_entry (c : Dev nD) (t : Fin 8448) (x : Fin 4096) (hx : ¬ x.val < 2048) :
    V m c main_v9 (ix2 t x : S8448x4096.Idx) = m ((c : Thread nD τ).loc main_arg2) (ix2 t ⟨x.val - 96, by omega⟩ : S8448x4000.Idx) := by
  unfold V
  after_results_simp
  pointwise
  after_results_simp
  generalize m ((c : Thread nD τ).loc main_arg2) = W
  pointwise
  rw [dif_neg (by omega), dif_neg (by omega)]
  exact congrArg W (congrArg (ix2 t) (Fin.ext (by show 1952 + (x.val - 1952 - 96) = x.val - 96; omega)))

theorem wc_entry (c : Dev nD) (x : Fin 512) (d : Fin 1024) : V m c main_v10 (ix2 x d : S512x1024.Idx) = m ((c : Thread nD τ).loc main_arg4) (ix2 x d : S512x1024.Idx) := by
  unfold V
  after_results_simp
  generalize m ((c : Thread nD τ).loc main_arg4) = W
  pointwise

theorem wo_entry (c : Dev nD) (x d : Fin 1024) : V m c main_v11 (ix2 x d : S1024x1024.Idx) = m ((c : Thread nD τ).loc main_arg6) (ix2 x d : S1024x1024.Idx) := by
  unfold V
  after_results_simp
  generalize m ((c : Thread nD τ).loc main_arg6) = W
  pointwise

theorem row8_entry (c : Dev nD) (e : Fin 1024) : V m c main_v12 (ix2 0 e : S1x1024.Idx) = m ((c : Thread nD τ).loc main_arg8) (ix1 e : S1024.Idx) := by
  unfold V
  after_results_simp
  generalize m ((c : Thread nD τ).loc main_arg8) = W
  pointwise

theorem row9_entry (c : Dev nD) (e : Fin 1024) : V m c main_v13 (ix2 0 e : S1x1024.Idx) = m ((c : Thread nD τ).loc main_arg9) (ix1 e : S1024.Idx) := by
  unfold V
  after_results_simp
  generalize m ((c : Thread nD τ).loc main_arg9) = W
  pointwise

theorem row10_entry (c : Dev nD) (e : Fin 1024) : V m c main_v14 (ix2 0 e : S1x1024.Idx) = m ((c : Thread nD τ).loc main_arg10) (ix1 e : S1024.Idx) := by
  unfold V
  after_results_simp
  generalize m ((c : Thread nD τ).loc main_arg10) = W
  pointwise

theorem row11_entry (c : Dev nD) (e : Fin 1024) : V m c main_v15 (ix2 0 e : S1x1024.Idx) = m ((c : Thread nD τ).loc main_arg11) (ix1 e : S1024.Idx) := by
  unfold V
  after_results_simp
  generalize m ((c : Thread nD τ).loc main_arg11) = W
  pointwise

theorem iblk0_apply (c : Dev nD) (t : Fin cfg0.N) (r : Fin 384) (j : Fin 512) (hr : 384 * t.val + r.val < 8448) :
    (iblk m c 0 t : Vec Ideal S384x512 .bf16) (ix2 r j) = m ((c : Thread nD τ).loc main_arg0) (ix2 ⟨384 * t.val + r.val, hr⟩ j : S8448x512.Idx) := by
  have i := (by decide +kernel : ∀ t : Fin grid0.N, win0_0.index t 0 = t.val ∧ win0_0.index t 1 = 0) t
  unfold iblk
  rw [View.read_apply, ← V_main_arg0 m c]
  refine congrArg (V m c main_arg0) (funext fun a => Fin.ext ?_)
  match a with
  | ⟨0, _⟩ => show win0_0.index t 0 * 384 + 1 * r.val = 384 * t.val + r.val; rw [i.1]; omega
  | ⟨1, _⟩ => show win0_0.index t 1 * 512 + 1 * j.val = j.val; rw [i.2]; omega

theorem iblk1_apply (c : Dev nD) (t : Fin cfg0.N) (r : Fin 384) (j : Fin 1024) (hr : 384 * t.val + r.val < 8448) :
    (iblk m c 1 t : Vec Ideal S384x1024 .bf16) (ix2 r j) = V m c main_v5 (ix2 ⟨384 * t.val + r.val, hr⟩ j : S8448x1024.Idx) := by
  have i := (by decide +kernel : ∀ t : Fin grid0.N, win0_1.index t 0 = t.val ∧ win0_1.index t 1 = 0) t
  unfold iblk
  rw [View.read_apply]
  refine congrArg (V m c main_v5) (funext fun a => Fin.ext ?_)
  match a with
  | ⟨0, _⟩ => show win0_1.index t 0 * 384 + 1 * r.val = 384 * t.val + r.val; rw [i.1]; omega
  | ⟨1, _⟩ => show win0_1.index t 1 * 1024 + 1 * j.val = j.val; rw [i.2]; omega

theorem iblk2_apply (c : Dev nD) (t : Fin cfg0.N) (r : Fin 384) (j : Fin 1024) (hr : 384 * t.val + r.val < 8448) :
    (iblk m c 2 t : Vec Ideal S384x1024 .bf16) (ix2 r j) = V m c main_v9 (ix2 ⟨384 * t.val + r.val, hr⟩ ⟨2048 + j.val, by omega⟩ : S8448x4096.Idx) := by
  have i := (by decide +kernel : ∀ t : Fin grid0.N, win0_2.index t 0 = t.val ∧ win0_2.index t 1 = 2) t
  unfold iblk
  rw [View.read_apply]
  refine congrArg (V m c main_v9) (funext fun a => Fin.ext ?_)
  match a with
  | ⟨0, _⟩ => show win0_2.index t 0 * 384 + 1 * r.val = 384 * t.val + r.val; rw [i.1]; omega
  | ⟨1, _⟩ => show win0_2.index t 1 * 1024 + 1 * j.val = 2048 + j.val; rw [i.2]; omega

theorem iblk3_apply (c : Dev nD) (t : Fin cfg0.N) (r : Fin 384) (j : Fin 1024) (hr : 384 * t.val + r.val < 8448) :
    (iblk m c 3 t : Vec Ideal S384x1024 .bf16) (ix2 r j) = V m c main_v9 (ix2 ⟨384 * t.val + r.val, hr⟩ ⟨3072 + j.val, by omega⟩ : S8448x4096.Idx) := by
  have i := (by decide +kernel : ∀ t : Fin grid0.N, win0_3.index t 0 = t.val ∧ win0_3.index t 1 = 3) t
  unfold iblk
  rw [View.read_apply]
  refine congrArg (V m c main_v9) (funext fun a => Fin.ext ?_)
  match a with
  | ⟨0, _⟩ => show win0_3.index t 0 * 384 + 1 * r.val = 384 * t.val + r.val; rw [i.1]; omega
  | ⟨1, _⟩ => show win0_3.index t 1 * 1024 + 1 * j.val = 3072 + j.val; rw [i.2]; omega

theorem iblk4_apply (c : Dev nD) (t : Fin cfg0.N) (r : Fin 2) (j : Fin 1024) :
    (iblk m c 4 t : Vec Ideal S2x1024 .f32) (ix2 r j) = m ((c : Thread nD τ).loc main_arg3) (ix2 r j : S2x1024.Idx) := by
  have i := (by decide +kernel : ∀ t : Fin grid0.N, win0_4.index t 0 = 0 ∧ win0_4.index t 1 = 0) t
  unfold iblk
  rw [View.read_apply, ← V_main_arg3 m c]
  refine congrArg (V m c main_arg3) (funext fun a => Fin.ext ?_)
  match a with
  | ⟨0, _⟩ => show win0_4.index t 0 * 2 + 1 * r.val = r.val; rw [i.1]; omega
  | ⟨1, _⟩ => show win0_4.index t 1 * 1024 + 1 * j.val = j.val; rw [i.2]; omega

theorem iblk5_apply (c : Dev nD) (t : Fin cfg0.N) (r : Fin 512) (j : Fin 1024) :
    (iblk m c 5 t : Vec Ideal S512x1024 .bf16) (ix2 r j) = V m c main_v10 (ix2 r j : S512x1024.Idx) := by
  have i := (by decide +kernel : ∀ t : Fin grid0.N, win0_5.index t 0 = 0 ∧ win0_5.index t 1 = 0) t
  unfold iblk
  rw [View.read_apply]
  refine congrArg (V m c main_v10) (funext fun a => Fin.ext ?_)
  match a with
  | ⟨0, _⟩ => show win0_5.index t 0 * 512 + 1 * r.val = r.val; rw [i.1]; omega
  | ⟨1, _⟩ => show win0_5.index t 1 * 1024 + 1 * j.val = j.val; rw [i.2]; omega

theorem iblk6_apply (c : Dev nD) (t : Fin cfg0.N) (r : Fin 1024) (j : Fin 1024) :
    (iblk m c 6 t : Vec Ideal S1024x1024 .bf16) (ix2 r j) = V m c main_v4 (ix2 r j : S1024x1024.Idx) := by
  have i := (by decide +kernel : ∀ t : Fin grid0.N, win0_6.index t 0 = 0 ∧ win0_6.index t 1 = 0) t
  unfold iblk
  rw [View.read_apply]
  refine congrArg (V m c main_v4) (funext fun a => Fin.ext ?_)
  match a with
  | ⟨0, _⟩ => show win0_6.index t 0 * 1024 + 1 * r.val = r.val; rw [i.1]; omega
  | ⟨1, _⟩ => show win0_6.index t 1 * 1024 + 1 * j.val = j.val; rw [i.2]; omega

theorem iblk7_apply (c : Dev nD) (t : Fin cfg0.N) (r : Fin 1024) (j : Fin 1024) :
    (iblk m c 7 t : Vec Ideal S1024x1024 .bf16) (ix2 r j) = V m c main_v11 (ix2 r j : S1024x1024.Idx) := by
  have i := (by decide +kernel : ∀ t : Fin grid0.N, win0_7.index t 0 = 0 ∧ win0_7.index t 1 = 0) t
  unfold iblk
  rw [View.read_apply]
  refine congrArg (V m c main_v11) (funext fun a => Fin.ext ?_)
  match a with
  | ⟨0, _⟩ => show win0_7.index t 0 * 1024 + 1 * r.val = r.val; rw [i.1]; omega
  | ⟨1, _⟩ => show win0_7.index t 1 * 1024 + 1 * j.val = j.val; rw [i.2]; omega

theorem iblk8_apply (c : Dev nD) (t : Fin cfg0.N) (r : Fin 384) (j : Fin 1024) (hr : 384 * t.val + r.val < 8448) :
    (iblk m c 8 t : Vec Ideal S384x1024 .f32) (ix2 r j) = m ((c : Thread nD τ).loc main_arg7) (ix2 ⟨384 * t.val + r.val, hr⟩ j : S8448x1024.Idx) := by
  have i := (by decide +kernel : ∀ t : Fin grid0.N, win0_8.index t 0 = t.val ∧ win0_8.index t 1 = 0) t
  unfold iblk
  rw [View.read_apply, ← V_main_arg7 m c]
  refine congrArg (V m c main_arg7) (funext fun a => Fin.ext ?_)
  match a with
  | ⟨0, _⟩ => show win0_8.index t 0 * 384 + 1 * r.val = 384 * t.val + r.val; rw [i.1]; omega
  | ⟨1, _⟩ => show win0_8.index t 1 * 1024 + 1 * j.val = j.val; rw [i.2]; omega

theorem iblk9_apply (c : Dev nD) (t : Fin cfg0.N) (r : Fin 1) (j : Fin 1024) :
    (iblk m c 9 t : Vec Ideal S1x1024 .f32) (ix2 r j) = V m c main_v12 (ix2 r j : S1x1024.Idx) := by
  have i := (by decide +kernel : ∀ t : Fin grid0.N, win0_9.index t 0 = 0 ∧ win0_9.index t 1 = 0) t
  unfold iblk
  rw [View.read_apply]
  refine congrArg (V m c main_v12) (funext fun a => Fin.ext ?_)
  match a with
  | ⟨0, _⟩ => show win0_9.index t 0 * 1 + 1 * r.val = r.val; rw [i.1]; omega
  | ⟨1, _⟩ => show win0_9.index t 1 * 1024 + 1 * j.val = j.val; rw [i.2]; omega

theorem iblk10_apply (c : Dev nD) (t : Fin cfg0.N) (r : Fin 1) (j : Fin 1024) :
    (iblk m c 10 t : Vec Ideal S1x1024 .f32) (ix2 r j) = V m c main_v13 (ix2 r j : S1x1024.Idx) := by
  have i := (by decide +kernel : ∀ t : Fin grid0.N, win0_10.index t 0 = 0 ∧ win0_10.index t 1 = 0) t
  unfold iblk
  rw [View.read_apply]
  refine congrArg (V m c main_v13) (funext fun a => Fin.ext ?_)
  match a with
  | ⟨0, _⟩ => show win0_10.index t 0 * 1 + 1 * r.val = r.val; rw [i.1]; omega
  | ⟨1, _⟩ => show win0_10.index t 1 * 1024 + 1 * j.val = j.val; rw [i.2]; omega

theorem iblk11_apply (c : Dev nD) (t : Fin cfg0.N) (r : Fin 1) (j : Fin 1024) :
    (iblk m c 11 t : Vec Ideal S1x1024 .f32) (ix2 r j) = V m c main_v14 (ix2 r j : S1x1024.Idx) := by
  have i := (by decide +kernel : ∀ t : Fin grid0.N, win0_11.index t 0 = 0 ∧ win0_11.index t 1 = 0) t
  unfold iblk
  rw [View.read_apply]
  refine congrArg (V m c main_v14) (funext fun a => Fin.ext ?_)
  match a with
  | ⟨0, _⟩ => show win0_11.index t 0 * 1 + 1 * r.val = r.val; rw [i.1]; omega
  | ⟨1, _⟩ => show win0_11.index t 1 * 1024 + 1 * j.val = j.val; rw [i.2]; omega

theorem iblk12_apply (c : Dev nD) (t : Fin cfg0.N) (r : Fin 1) (j : Fin 1024) :
    (iblk m c 12 t : Vec Ideal S1x1024 .f32) (ix2 r j) = V m c main_v15 (ix2 r j : S1x1024.Idx) := by
  have i := (by decide +kernel : ∀ t : Fin grid0.N, win0_12.index t 0 = 0 ∧ win0_12.index t 1 = 0) t
  unfold iblk
  rw [View.read_apply]
  refine congrArg (V m c main_v15) (funext fun a => Fin.ext ?_)
  match a with
  | ⟨0, _⟩ => show win0_12.index t 0 * 1 + 1 * r.val = r.val; rw [i.1]; omega
  | ⟨1, _⟩ => show win0_12.index t 1 * 1024 + 1 * j.val = j.val; rw [i.2]; omega

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)
abbrev a11 (c : Dev nD) := m ((c : Thread nD τ).loc main_arg11)

variable (c : Dev nD) (n : Fin cfg0.N) (r : Fin 384) (hr : 384 * n.val + r.val < 8448)

/-- The convolution's branch a point computes is the whole arrays'. -/
theorem c_eq : cBlk (iblk m c 0 n) (iblk m c 5 n) r = cRow (a0 m c) (a4 m c) ⟨384 * n.val + r.val, hr⟩ := by
  funext d
  unfold cBlk cRow rowMul
  exact Finset.sum_congr (M := EReal) rfl fun x _ => congrArg₂ (fun a b : EReal => a * b) (iblk0_apply m c n r x hr) ((iblk5_apply m c n x d).trans (wc_entry m c x d))

/-- The attention's branch a point computes is the whole arrays'. -/
theorem m_eq : mBlk (iblk m c 1 n) (iblk m c 6 n) r = mRow (a1 m c) (a5 m c) ⟨384 * n.val + r.val, hr⟩ := by
  funext d
  unfold mBlk mRow rowMul
  refine (Finset.sum_congr (M := EReal) rfl fun x _ => congrArg₂ (fun a b : EReal => a * b) ((iblk1_apply m c n r x hr).trans (o_entry m c _ x))
    ((iblk6_apply m c n x d).trans (wm_entry m c x d))).trans (sum_halves _ _ (fun x h => ?_) (fun x => ?_))
  · rw [dif_pos h]
    exact mul_zero _
  · have h : ¬ (128 * (x.val / 64) + 64 + x.val % 64) % 128 < 64 := by omega
    rw [dif_neg h]
    refine congrArg₂ (fun a b : EReal => a * b) (congrArg (a1 m c) (congrArg₂ (fun (u : Fin 8) (v : Fin 128) => (ix3 _ u v : S8448x8x128.Idx)) (Fin.ext ?_) (Fin.ext ?_)))
      (congrArg (fun u => m ((c : Thread nD τ).loc main_arg5) (ix2 u d : S512x1024.Idx)) (Fin.ext ?_))
    · show (128 * (x.val / 64) + 64 + x.val % 64) / 128 = x.val / 64
      omega
    · show (128 * (x.val / 64) + 64 + x.val % 64) % 128 = 64 + x.val % 64
      omega
    · show 64 * ((128 * (x.val / 64) + 64 + x.val % 64) / 128) + ((128 * (x.val / 64) + 64 + x.val % 64) % 128 - 64) = x.val
      omega

/-- The merged row a point computes is the whole arrays'. -/
theorem g_eq : gBlk (iblk m c 0 n) (iblk m c 1 n) (iblk m c 2 n) (iblk m c 3 n) (iblk m c 4 n) (iblk m c 5 n) (iblk m c 6 n) r = gRow (a0 m c) (a1 m c) (a2 m c) (a3 m c) (a4 m c) (a5 m c) ⟨384 * n.val + r.val, hr⟩ := by
  funext d
  unfold gBlk gRow merged
  rw [c_eq m c n r hr, m_eq m c n r hr]
  refine congrArg₂ (fun a b : EReal => a + b)
    (congrArg (fun a : EReal => Ideal.logistic a * _) (congrArg₂ (fun a b : EReal => a + b) ((iblk2_apply m c n r d hr).trans ((p_entry m c _ _ ?_).trans ?_)) (iblk4_apply m c n 0 d)))
    (congrArg (fun a : EReal => Ideal.logistic a * _) (congrArg₂ (fun a b : EReal => a + b) ((iblk3_apply m c n r d hr).trans ((p_entry m c _ _ ?_).trans ?_)) (iblk4_apply m c n 1 d)))
  · show ¬ 2048 + d.val < 2048
    omega
  · exact congrArg (fun u => m ((c : Thread nD τ).loc main_arg2) (ix2 _ u : S8448x4000.Idx)) (Fin.ext (by show 2048 + d.val - 96 = 1952 + d.val; omega))
  · show ¬ 3072 + d.val < 2048
    omega
  · exact congrArg (fun u => m ((c : Thread nD τ).loc main_arg2) (ix2 _ u : S8448x4000.Idx)) (Fin.ext (by show 3072 + d.val - 96 = 2976 + d.val; omega))

/-- The row before the norm a point computes is the whole arrays'. -/
theorem z_eq : zBlk (iblk m c 0 n) (iblk m c 1 n) (iblk m c 2 n) (iblk m c 3 n) (iblk m c 4 n) (iblk m c 5 n) (iblk m c 6 n) (iblk m c 7 n) (iblk m c 8 n) (iblk m c 9 n) (iblk m c 10 n) r = zRow (a0 m c) (a1 m c) (a2 m c) (a3 m c) (a4 m c) (a5 m c) (a6 m c) (a7 m c) (a8 m c) (a9 m c) ⟨384 * n.val + r.val, hr⟩ := by
  funext d
  unfold zBlk zRow zOf rowMul
  rw [g_eq m c n r hr]
  exact congrArg₂ (fun a b : EReal => a + b) (congrArg (fun a : EReal => _ * a) (congrArg₂ (fun a b : EReal => a + b)
    (congrArg₂ (fun a b : EReal => a * b) (iblk8_apply m c n r d hr) ((iblk9_apply m c n 0 d).trans (row8_entry m c d))) ((iblk10_apply m c n 0 d).trans (row9_entry m c d))))
    (Finset.sum_congr (M := EReal) rfl fun x _ => congrArg (fun a : EReal => _ * a) ((iblk7_apply m c n x d).trans (wo_entry m c x d)))

theorem ker_c (t : Fin 8448) (d : Fin 1024) : (dats m 0 c).arrAt 13 cfg0.N (ix2 t d : S8448x1024.Idx) = cRow (a0 m c) (a4 m c) t d := by
  let n : Fin cfg0.N := ⟨t.val / 384, lt_of_lt_of_eq (show t.val / 384 < 22 by omega) N_0.symm⟩
  have i := (by decide +kernel : ∀ t : Fin grid0.N, win0_13.index t 0 = t.val ∧ win0_13.index t 1 = 0) n
  have hn : n.val = t.val / 384 := rfl
  have hr : 384 * n.val + t.val % 384 = t.val := by rw [hn]; omega
  have hr' : 384 * n.val + (⟨t.val % 384, by omega⟩ : Fin 384).val < 8448 := by show 384 * n.val + t.val % 384 < 8448; omega
  have ez := c_eq m c n ⟨t.val % 384, by omega⟩ hr'
  rw [show (⟨384 * n.val + (⟨t.val % 384, by omega⟩ : Fin 384).val, hr'⟩ : Fin 8448) = t from Fin.ext hr] at ez
  have hb := congrFun (Value.blocks13 m c n (flush0_13 n)) (ix2 ⟨t.val % 384, by omega⟩ d : S384x1024.Idx)
  rw [Value.flushed13, View.read_apply] at hb
  refine Eq.trans ?_ (hb.trans ((out13_apply _ _ _ _ _ _ _ _ _ _ _ _ _ ⟨t.val % 384, by omega⟩ d).trans ?_))
  · refine congrArg ((dats m 0 c).arrAt 13 cfg0.N) (funext fun a => Fin.ext ?_)
    match a with
    | ⟨0, _⟩ => show t.val = win0_13.index n 0 * 384 + 1 * (t.val % 384); rw [i.1, hn]; omega
    | ⟨1, _⟩ => show d.val = win0_13.index n 1 * 1024 + 1 * d.val; rw [i.2]; omega
  · rw [ez]

theorem c_arr : (dats m 0 c).arrAt 13 cfg0.N = Cert.MrgReferenceIdeal.Read.val_main_v62 (F := Ideal) (a0 m c) (a4 m c) := by
  funext i
  obtain ⟨t, d, rfl⟩ : ∃ (t : Fin 8448) (d : Fin 1024), i = (ix2 t d : S8448x1024.Idx) := ⟨i 0, i 1, eq_ix2 i⟩
  rw [ref_c, ker_c m c t d]

theorem ker_m (t : Fin 8448) (d : Fin 1024) : (dats m 0 c).arrAt 14 cfg0.N (ix2 t d : S8448x1024.Idx) = mRow (a1 m c) (a5 m c) t d := by
  let n : Fin cfg0.N := ⟨t.val / 384, lt_of_lt_of_eq (show t.val / 384 < 22 by omega) N_0.symm⟩
  have i := (by decide +kernel : ∀ t : Fin grid0.N, win0_14.index t 0 = t.val ∧ win0_14.index t 1 = 0) n
  have hn : n.val = t.val / 384 := rfl
  have hr : 384 * n.val + t.val % 384 = t.val := by rw [hn]; omega
  have hr' : 384 * n.val + (⟨t.val % 384, by omega⟩ : Fin 384).val < 8448 := by show 384 * n.val + t.val % 384 < 8448; omega
  have ez := m_eq m c n ⟨t.val % 384, by omega⟩ hr'
  rw [show (⟨384 * n.val + (⟨t.val % 384, by omega⟩ : Fin 384).val, hr'⟩ : Fin 8448) = t from Fin.ext hr] at ez
  have hb := congrFun (Value.blocks14 m c n (flush0_14 n)) (ix2 ⟨t.val % 384, by omega⟩ d : S384x1024.Idx)
  rw [Value.flushed14, View.read_apply] at hb
  refine Eq.trans ?_ (hb.trans ((out14_apply _ _ _ _ _ _ _ _ _ _ _ _ _ ⟨t.val % 384, by omega⟩ d).trans ?_))
  · refine congrArg ((dats m 0 c).arrAt 14 cfg0.N) (funext fun a => Fin.ext ?_)
    match a with
    | ⟨0, _⟩ => show t.val = win0_14.index n 0 * 384 + 1 * (t.val % 384); rw [i.1, hn]; omega
    | ⟨1, _⟩ => show d.val = win0_14.index n 1 * 1024 + 1 * d.val; rw [i.2]; omega
  · rw [ez]

theorem m_arr : (dats m 0 c).arrAt 14 cfg0.N = Cert.MrgReferenceIdeal.Read.val_main_v63 (F := Ideal) (a1 m c) (a5 m c) := by
  funext i
  obtain ⟨t, d, rfl⟩ : ∃ (t : Fin 8448) (d : Fin 1024), i = (ix2 t d : S8448x1024.Idx) := ⟨i 0, i 1, eq_ix2 i⟩
  rw [ref_m, ker_m m c t d]

theorem ker_g (t : Fin 8448) (d : Fin 1024) : (dats m 0 c).arrAt 15 cfg0.N (ix2 t d : S8448x1024.Idx) = gRow (a0 m c) (a1 m c) (a2 m c) (a3 m c) (a4 m c) (a5 m c) t d := by
  let n : Fin cfg0.N := ⟨t.val / 384, lt_of_lt_of_eq (show t.val / 384 < 22 by omega) N_0.symm⟩
  have i := (by decide +kernel : ∀ t : Fin grid0.N, win0_15.index t 0 = t.val ∧ win0_15.index t 1 = 0) n
  have hn : n.val = t.val / 384 := rfl
  have hr : 384 * n.val + t.val % 384 = t.val := by rw [hn]; omega
  have hr' : 384 * n.val + (⟨t.val % 384, by omega⟩ : Fin 384).val < 8448 := by show 384 * n.val + t.val % 384 < 8448; omega
  have ez := g_eq m c n ⟨t.val % 384, by omega⟩ hr'
  rw [show (⟨384 * n.val + (⟨t.val % 384, by omega⟩ : Fin 384).val, hr'⟩ : Fin 8448) = t from Fin.ext hr] at ez
  have hb := congrFun (Value.blocks15 m c n (flush0_15 n)) (ix2 ⟨t.val % 384, by omega⟩ d : S384x1024.Idx)
  rw [Value.flushed15, View.read_apply] at hb
  refine Eq.trans ?_ (hb.trans ((out15_apply _ _ _ _ _ _ _ _ _ _ _ _ _ ⟨t.val % 384, by omega⟩ d).trans ?_))
  · refine congrArg ((dats m 0 c).arrAt 15 cfg0.N) (funext fun a => Fin.ext ?_)
    match a with
    | ⟨0, _⟩ => show t.val = win0_15.index n 0 * 384 + 1 * (t.val % 384); rw [i.1, hn]; omega
    | ⟨1, _⟩ => show d.val = win0_15.index n 1 * 1024 + 1 * d.val; rw [i.2]; omega
  · rw [ez]

theorem g_arr : (dats m 0 c).arrAt 15 cfg0.N = Cert.MrgReferenceIdeal.Read.val_main_v64 (F := Ideal) (a0 m c) (a1 m c) (a2 m c) (a3 m c) (a4 m c) (a5 m c) := by
  funext i
  obtain ⟨t, d, rfl⟩ : ∃ (t : Fin 8448) (d : Fin 1024), i = (ix2 t d : S8448x1024.Idx) := ⟨i 0, i 1, eq_ix2 i⟩
  rw [ref_g, ker_g m c t d]

theorem ker_normed (t : Fin 8448) (d : Fin 1024) : (dats m 0 c).arrAt 16 cfg0.N (ix2 t d : S8448x1024.Idx) = normed (zRow (a0 m c) (a1 m c) (a2 m c) (a3 m c) (a4 m c) (a5 m c) (a6 m c) (a7 m c) (a8 m c) (a9 m c) t) d := by
  let n : Fin cfg0.N := ⟨t.val / 384, lt_of_lt_of_eq (show t.val / 384 < 22 by omega) N_0.symm⟩
  have i := (by decide +kernel : ∀ t : Fin grid0.N, win0_16.index t 0 = t.val ∧ win0_16.index t 1 = 0) n
  have hn : n.val = t.val / 384 := rfl
  have hr : 384 * n.val + t.val % 384 = t.val := by rw [hn]; omega
  have hr' : 384 * n.val + (⟨t.val % 384, by omega⟩ : Fin 384).val < 8448 := by show 384 * n.val + t.val % 384 < 8448; omega
  have ez := z_eq m c n ⟨t.val % 384, by omega⟩ hr'
  rw [show (⟨384 * n.val + (⟨t.val % 384, by omega⟩ : Fin 384).val, hr'⟩ : Fin 8448) = t from Fin.ext hr] at ez
  have hb := congrFun (Value.blocks16 m c n (flush0_16 n)) (ix2 ⟨t.val % 384, by omega⟩ d : S384x1024.Idx)
  rw [Value.flushed16, View.read_apply] at hb
  refine Eq.trans ?_ (hb.trans ((out16_apply _ _ _ _ _ _ _ _ _ _ _ _ _ ⟨t.val % 384, by omega⟩ d).trans ?_))
  · refine congrArg ((dats m 0 c).arrAt 16 cfg0.N) (funext fun a => Fin.ext ?_)
    match a with
    | ⟨0, _⟩ => show t.val = win0_16.index n 0 * 384 + 1 * (t.val % 384); rw [i.1, hn]; omega
    | ⟨1, _⟩ => show d.val = win0_16.index n 1 * 1024 + 1 * d.val; rw [i.2]; omega
  · rw [ez]

theorem normed_arr : (dats m 0 c).arrAt 16 cfg0.N = Cert.MrgReferenceIdeal.Read.val_main_v61 (F := Ideal) (a0 m c) (a1 m c) (a2 m c) (a3 m c) (a4 m c) (a5 m c) (a6 m c) (a7 m c) (a8 m c) (a9 m c) := by
  funext i
  obtain ⟨t, d, rfl⟩ : ∃ (t : Fin 8448) (d : Fin 1024), i = (ix2 t d : S8448x1024.Idx) := ⟨i 0, i 1, eq_ix2 i⟩
  rw [ref_normed, ker_normed m c t d]

theorem ker_rstd (t : Fin 8448) : (dats m 0 c).arrAt 17 cfg0.N (ix2 t 0 : S8448x1.Idx) = rstd (zRow (a0 m c) (a1 m c) (a2 m c) (a3 m c) (a4 m c) (a5 m c) (a6 m c) (a7 m c) (a8 m c) (a9 m c) t) := by
  let n : Fin cfg0.N := ⟨t.val / 384, lt_of_lt_of_eq (show t.val / 384 < 22 by omega) N_0.symm⟩
  have i := (by decide +kernel : ∀ t : Fin grid0.N, win0_17.index t 0 = t.val ∧ win0_17.index t 1 = 0) n
  have hn : n.val = t.val / 384 := rfl
  have hr : 384 * n.val + t.val % 384 = t.val := by rw [hn]; omega
  have hr' : 384 * n.val + (⟨t.val % 384, by omega⟩ : Fin 384).val < 8448 := by show 384 * n.val + t.val % 384 < 8448; omega
  have ez := z_eq m c n ⟨t.val % 384, by omega⟩ hr'
  rw [show (⟨384 * n.val + (⟨t.val % 384, by omega⟩ : Fin 384).val, hr'⟩ : Fin 8448) = t from Fin.ext hr] at ez
  have hb := congrFun (Value.blocks17 m c n (flush0_17 n)) (ix2 ⟨t.val % 384, by omega⟩ 0 : S384x1.Idx)
  rw [Value.flushed17, View.read_apply] at hb
  refine Eq.trans ?_ (hb.trans ((out17_apply _ _ _ _ _ _ _ _ _ _ _ _ _ ⟨t.val % 384, by omega⟩).trans ?_))
  · refine congrArg ((dats m 0 c).arrAt 17 cfg0.N) (funext fun a => Fin.ext ?_)
    match a with
    | ⟨0, _⟩ => show t.val = win0_17.index n 0 * 384 + 1 * (t.val % 384); rw [i.1, hn]; omega
    | ⟨1, _⟩ => show 0 = win0_17.index n 1 * 1 + 1 * 0; rw [i.2]
  · rw [ez]

theorem rstd_arr : (dats m 0 c).arrAt 17 cfg0.N = Cert.MrgReferenceIdeal.Read.val_main_v57 (F := Ideal) (a0 m c) (a1 m c) (a2 m c) (a3 m c) (a4 m c) (a5 m c) (a6 m c) (a7 m c) (a8 m c) (a9 m c) := by
  funext i
  obtain ⟨t, d, rfl⟩ : ∃ (t : Fin 8448) (d : Fin 1), i = (ix2 t d : S8448x1.Idx) := ⟨i 0, i 1, eq_ix2 i⟩
  obtain rfl : d = 0 := Subsingleton.elim _ _
  rw [ref_rstd, ker_rstd m c t]

theorem ker_out (t : Fin 8448) (d : Fin 1024) : (dats m 0 c).arrAt 18 cfg0.N (ix2 t d : S8448x1024.Idx) = normed (zRow (a0 m c) (a1 m c) (a2 m c) (a3 m c) (a4 m c) (a5 m c) (a6 m c) (a7 m c) (a8 m c) (a9 m c) t) d * (fun i : S1024.Idx => (m ((c : Thread nD τ).loc main_arg10) i : EReal)) (ix1 d) + (fun i : S1024.Idx => (m ((c : Thread nD τ).loc main_arg11) i : EReal)) (ix1 d) := by
  let n : Fin cfg0.N := ⟨t.val / 384, lt_of_lt_of_eq (show t.val / 384 < 22 by omega) N_0.symm⟩
  have i := (by decide +kernel : ∀ t : Fin grid0.N, win0_18.index t 0 = t.val ∧ win0_18.index t 1 = 0) n
  have hn : n.val = t.val / 384 := rfl
  have hr : 384 * n.val + t.val % 384 = t.val := by rw [hn]; omega
  have hr' : 384 * n.val + (⟨t.val % 384, by omega⟩ : Fin 384).val < 8448 := by show 384 * n.val + t.val % 384 < 8448; omega
  have ez := z_eq m c n ⟨t.val % 384, by omega⟩ hr'
  rw [show (⟨384 * n.val + (⟨t.val % 384, by omega⟩ : Fin 384).val, hr'⟩ : Fin 8448) = t from Fin.ext hr] at ez
  have hb := congrFun (Value.blocks18 m c n (flush0_18 n)) (ix2 ⟨t.val % 384, by omega⟩ d : S384x1024.Idx)
  rw [Value.flushed18, View.read_apply] at hb
  refine Eq.trans ?_ (hb.trans ((out18_apply _ _ _ _ _ _ _ _ _ _ _ _ _ ⟨t.val % 384, by omega⟩ d).trans ?_))
  · refine congrArg ((dats m 0 c).arrAt 18 cfg0.N) (funext fun a => Fin.ext ?_)
    match a with
    | ⟨0, _⟩ => show t.val = win0_18.index n 0 * 384 + 1 * (t.val % 384); rw [i.1, hn]; omega
    | ⟨1, _⟩ => show d.val = win0_18.index n 1 * 1024 + 1 * d.val; rw [i.2]; omega
  · rw [ez]
    exact congrArg₂ (fun a b : EReal => a + b) (congrArg (fun a : EReal => _ * a) ((iblk11_apply m c n 0 d).trans (row10_entry m c d))) ((iblk12_apply m c n 0 d).trans (row11_entry m c d))

theorem out_arr : (dats m 0 c).arrAt 18 cfg0.N = Cert.MrgReferenceIdeal.Read.val_main_v71 (F := Ideal) (a0 m c) (a1 m c) (a2 m c) (a3 m c) (a4 m c) (a5 m c) (a6 m c) (a7 m c) (a8 m c) (a9 m c) (a10 m c) (a11 m c) := by
  funext i
  obtain ⟨t, d, rfl⟩ : ∃ (t : Fin 8448) (d : Fin 1024), i = (ix2 t d : S8448x1024.Idx) := ⟨i 0, i 1, eq_ix2 i⟩
  rw [ref_out, ker_out m c t d]

set_option maxHeartbeats 1600000 in
/-- The kernel computes the reference's six results. -/
theorem algebraic : Cert.algebraic_MrgKernelIdeal_MrgReferenceIdeal := by
  intro m g m' g' _ hag
  refine ⟨fun c => (dats m 0 c).arrAt 13 cfg0.N, fun c => (dats m 0 c).arrAt 14 cfg0.N, fun c => (dats m 0 c).arrAt 15 cfg0.N, fun c => (dats m 0 c).arrAt 16 cfg0.N,
    fun c => (dats m 0 c).arrAt 17 cfg0.N, fun c => (dats m 0 c).arrAt 18 cfg0.N, Cert.MrgKernelIdeal.Value.run_blocks m g, ?_⟩
  refine (θ_run _ _ _).mono (fun r h c => ?_) (Cert.MrgReferenceIdeal.Value.run m' g')
  obtain ⟨h0, h1, h2, h3, h4, h5, ha⟩ := h c
  obtain ⟨e0, e1, e2, e3, e4, e5, e6, e7, e8, e9, e10, e11⟩ := hag c
  refine ⟨?_, ?_, ?_, ?_, ?_, ?_, ha⟩
  · refine Eq.trans ?_ (c_arr m c).symm
    unfold a0 a4
    rw [← e0, ← e4]
    exact h0.trans (Cert.MrgReferenceIdeal.Read.val_main_v62_eq _ _)
  · refine Eq.trans ?_ (m_arr m c).symm
    unfold a1 a5
    rw [← e1, ← e5]
    exact h1.trans (Cert.MrgReferenceIdeal.Read.val_main_v63_eq _ _)
  · refine Eq.trans ?_ (g_arr m c).symm
    unfold a0 a1 a2 a3 a4 a5
    rw [← e0, ← e1, ← e2, ← e3, ← e4, ← e5]
    exact h2.trans (Cert.MrgReferenceIdeal.Read.val_main_v64_eq _ _ _ _ _ _)
  · refine Eq.trans ?_ (normed_arr m c).symm
    unfold a0 a1 a2 a3 a4 a5 a6 a7 a8 a9
    rw [← e0, ← e1, ← e2, ← e3, ← e4, ← e5, ← e6, ← e7, ← e8, ← e9]
    exact h3.trans (Cert.MrgReferenceIdeal.Read.val_main_v61_eq _ _)
  · refine Eq.trans ?_ (rstd_arr m c).symm
    unfold a0 a1 a2 a3 a4 a5 a6 a7 a8 a9
    rw [← e0, ← e1, ← e2, ← e3, ← e4, ← e5, ← e6, ← e7, ← e8, ← e9]
    exact h4.trans (Cert.MrgReferenceIdeal.Read.val_main_v57_eq _ _)
  · refine Eq.trans ?_ (out_arr m c).symm
    unfold a0 a1 a2 a3 a4 a5 a6 a7 a8 a9 a10 a11
    rw [← e0, ← e1, ← e2, ← e3, ← e4, ← e5, ← e6, ← e7, ← e8, ← e9, ← e10, ← e11]
    exact h5.trans (Cert.MrgReferenceIdeal.Read.val_main_v71_eq _ _)

/-- The reference runs, leaves its arguments unchanged and ends with every counter at zero. -/
theorem frame_reference : Cert.quiescent_MrgReferenceIdeal := by
  intro m ρ _
  exact (θ_run Cert.MrgReferenceIdeal.defs _ _).mono (fun r h => ⟨fun c => (h c).2.2.2.2.2.2,
      Idealize.ShloMosaic.sem_eq_zero_of_no_sems (by decide) r.2⟩) (Cert.MrgReferenceIdeal.Value.run (F := Ideal) m ρ)

end Cert.MrgAlg
end
-- ==== Proof.DwoAlg.lean ====
module
public import proofs.«01_k».proof.Defs
public import proofs.«01_k».proof.Proof.TnSum
public import proofs.«01_k».proof.Proof.Gen.DwoKernelIdeal.Value
public import proofs.«01_k».proof.Proof.Gen.DwoReferenceIdeal.Run
public import proofs.«01_k».proof.Proof.Gen.DwoReferenceIdeal.Read
public import Idealize.ShloMosaic.Lib.Pointwise
public import Idealize.ShloMosaic.Lib.WritesUnit
public import Idealize.ShloMosaic.Lib.Tactic
@[expose] public section
set_option maxRecDepth 16384
noncomputable section
open Idealize.ShloMosaic Idealize.ShloMosaic.TcCoe Idealize.SL.Sem
namespace Cert.DwoAlg
open Cert.DwoKernelIdeal Cert.DwoKernelIdeal.Gen Cert.Rows Cert.TnSum

/-! The gradient in the weights of the mixer's output product, laid out by the chips. -/

/-- The offsets of a load or store of a whole rank-2 buffer. -/
theorem hz2 : (![0, 0] : Fin 2 → Nat) = fun _ => 0 := funext fun a => by fin_cases a <;> rfl

/-- The zeros a block of the result starts from. -/
theorem pay1_apply (r : Fin 1024) (j : Fin 1024) : (k0_pay1 (F := Ideal)) (ix2 r j) = (0 : EReal) := by
  unfold k0_pay1
  pointwise

/-- One block of rows added. -/
theorem pay2_apply (v3 : Vec Ideal S1024x1024 .f32) (v4 : Vec Ideal S768x1024 .bf16) (v5 : Vec Ideal S768x1024 .bf16) (r : Fin 1024) (j : Fin 1024) :
    k0_pay2 v3 v4 v5 (ix2 r j) = v3 (ix2 r j) + ∑ x : Fin 768, v4 (ix2 x r) * v5 (ix2 x j) := by
  unfold k0_pay2
  pointwise

/-- What a first point of a block leaves in the scratch. -/
theorem sout0_A_0_eq (c : Dev nD) (i : grid0.Coords) (arg2 : Memref sig .tc .vmem S768x1024 .bf16) (harg2 : arg2.IsWhole) (arg3 : Memref sig .tc .vmem S768x1024 .bf16) (harg3 : arg3.IsWhole) (arg4 : Memref sig .tc .vmem S4x256x1024 .bf16) (harg4 : arg4.IsWhole) (arg5 : Memref sig .tc .vmem S1024x1024 .f32) (harg5 : arg5.IsWhole) (hc0 : cond0_0 i) (hc1 : ¬cond0_1 i)
    (x0 : Vec Ideal S768x1024 .bf16) (x1 : Vec Ideal S768x1024 .bf16) :
    sout0_A_0 c i arg2 harg2 arg3 harg3 arg4 harg4 arg5 harg5 hc0 hc1 x0 x1 = k0_pay2 k0_pay1 x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  first
  | rw [View.canon_unit_zero hz2]
  | rw [View.canon_cons_unit_zero (S := S1024x1024) hz2, View.readCov_unit_zero (S := S1024x1024) _ hz2]
  simp only [View.readAt_eq_ld, harg2.read_unread, harg3.read_unread, harg4.read_unread, harg5.read_unread, View.ld_unit_zero (S := S1024x1024) hz2, View.ld_unit_zero (S := S768x1024) hz2, View.ld_unit_zero (S := S768x1024) hz2]

/-- What a middle point of a block leaves in the scratch. -/
theorem sout0_B_0_eq (c : Dev nD) (i : grid0.Coords) (arg2 : Memref sig .tc .vmem S768x1024 .bf16) (harg2 : arg2.IsWhole) (arg3 : Memref sig .tc .vmem S768x1024 .bf16) (harg3 : arg3.IsWhole) (arg4 : Memref sig .tc .vmem S4x256x1024 .bf16) (harg4 : arg4.IsWhole) (arg5 : Memref sig .tc .vmem S1024x1024 .f32) (harg5 : arg5.IsWhole) (hc0 : ¬cond0_0 i) (hc1 : ¬cond0_1 i)
    (x0 : Vec Ideal S768x1024 .bf16) (x1 : Vec Ideal S768x1024 .bf16) (xs0 : Vec Ideal S1024x1024 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  first
  | rw [View.canon_unit_zero hz2]
  | rw [View.canon_cons_unit_zero (S := S1024x1024) hz2, View.readCov_unit_zero (S := S1024x1024) _ hz2]
  simp only [View.readAt_eq_ld, harg2.read_unread, harg3.read_unread, harg4.read_unread, harg5.read_unread, View.ld_unit_zero (S := S1024x1024) hz2, View.ld_unit_zero (S := S768x1024) hz2, View.ld_unit_zero (S := S768x1024) hz2]

/-- What a last point of a block leaves in the scratch. -/
theorem sout0_C_0_eq (c : Dev nD) (i : grid0.Coords) (arg2 : Memref sig .tc .vmem S768x1024 .bf16) (harg2 : arg2.IsWhole) (arg3 : Memref sig .tc .vmem S768x1024 .bf16) (harg3 : arg3.IsWhole) (arg4 : Memref sig .tc .vmem S4x256x1024 .bf16) (harg4 : arg4.IsWhole) (arg5 : Memref sig .tc .vmem S1024x1024 .f32) (harg5 : arg5.IsWhole) (hc0 : ¬cond0_0 i) (hc1 : cond0_1 i)
    (x0 : Vec Ideal S768x1024 .bf16) (x1 : Vec Ideal S768x1024 .bf16) (xs0 : Vec Ideal S1024x1024 .f32) :
    sout0_C_0 c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  first
  | rw [View.canon_unit_zero hz2]
  | rw [View.canon_cons_unit_zero (S := S1024x1024) hz2, View.readCov_unit_zero (S := S1024x1024) _ hz2]
  simp only [View.readAt_eq_ld, harg2.read_unread, harg3.read_unread, harg4.read_unread, harg5.read_unread, View.ld_unit_zero (S := S1024x1024) hz2, View.ld_unit_zero (S := S768x1024) hz2, View.ld_unit_zero (S := S768x1024) hz2]

/-- What the last point of a block writes out, by chips. -/
theorem out0_C_2_eq (c : Dev nD) (i : grid0.Coords) (arg2 : Memref sig .tc .vmem S768x1024 .bf16) (harg2 : arg2.IsWhole) (arg3 : Memref sig .tc .vmem S768x1024 .bf16) (harg3 : arg3.IsWhole) (arg4 : Memref sig .tc .vmem S4x256x1024 .bf16) (harg4 : arg4.IsWhole) (arg5 : Memref sig .tc .vmem S1024x1024 .f32) (harg5 : arg5.IsWhole) (hc0 : ¬cond0_0 i) (hc1 : cond0_1 i)
    (x0 : Vec Ideal S768x1024 .bf16) (x1 : Vec Ideal S768x1024 .bf16) (xs0 : Vec Ideal S1024x1024 .f32) (s : Fin 4) (r : Fin 256) (j : Fin 1024) :
    out0_C_2 c i arg2 harg2 arg3 harg3 arg4 harg4 arg5 harg5 hc0 hc1 x0 x1 xs0 (ix3 s r j) = k0_pay2 xs0 x0 x1 (ix2 ⟨256 * s.val + r.val, by omega⟩ j) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  simp only [View.readAt_eq_ld, harg2.read_unread, harg3.read_unread, harg4.read_unread, harg5.read_unread, View.ld_unit_zero (S := S1024x1024) hz2, View.ld_unit_zero (S := S768x1024) hz2, View.ld_unit_zero (S := S768x1024) hz2]
  rw [← View.read_writes_junk_apply_eq_canon arg4.view]
  obtain rfl | rfl | rfl | rfl : s = 0 ∨ s = 1 ∨ s = 2 ∨ s = 3 := by omega
  · refine ((View.read_writes_cons_unit_of_not_mem (off' := ![3, 0, 0]) arg4.view _ _ _ _ _ rfl (0 : Fin 3) (Or.inl (by show 0 < 3; omega))).trans
      ((View.read_writes_cons_unit_of_not_mem (off' := ![2, 0, 0]) arg4.view _ _ _ _ _ rfl (0 : Fin 3) (Or.inl (by show 0 < 2; omega))).trans
      ((View.read_writes_cons_unit_of_not_mem (off' := ![1, 0, 0]) arg4.view _ _ _ _ _ rfl (0 : Fin 3) (Or.inl (by show 0 < 1; omega))).trans
      ((View.read_writes_cons_unit_of_mem (off' := ![0, 0, 0]) arg4.view _ _ _ _ _ (ix3 (0 : Fin 1) r j) rfl ?_).trans ?_))))
    · intro a
      match a with
      | ⟨0, _⟩ => rfl
      | ⟨1, _⟩ => exact (Nat.zero_add _).symm
      | ⟨2, _⟩ => exact (Nat.zero_add _).symm
    unfold k0_pay3
    pointwise
    rw [View.readCov_eq_canon', View.canon_unit_zero hz2]
    refine congrArg (k0_pay2 xs0 x0 x1) (funext fun a => Fin.ext ?_)
    match a with
    | ⟨0, _⟩ => show 0 + 1 * r.val = r.val; omega
    | ⟨1, _⟩ => show 0 + 1 * j.val = j.val; omega
  · refine ((View.read_writes_cons_unit_of_not_mem (off' := ![3, 0, 0]) arg4.view _ _ _ _ _ rfl (0 : Fin 3) (Or.inl (by show 1 < 3; omega))).trans
      ((View.read_writes_cons_unit_of_not_mem (off' := ![2, 0, 0]) arg4.view _ _ _ _ _ rfl (0 : Fin 3) (Or.inl (by show 1 < 2; omega))).trans
      ((View.read_writes_cons_unit_of_mem (off' := ![1, 0, 0]) arg4.view _ _ _ _ _ (ix3 (0 : Fin 1) r j) rfl ?_).trans ?_)))
    · intro a
      match a with
      | ⟨0, _⟩ => rfl
      | ⟨1, _⟩ => exact (Nat.zero_add _).symm
      | ⟨2, _⟩ => exact (Nat.zero_add _).symm
    unfold k0_pay4
    pointwise
    rw [View.readCov_eq_canon', View.canon_unit_zero hz2]
    refine congrArg (k0_pay2 xs0 x0 x1) (funext fun a => Fin.ext ?_)
    match a with
    | ⟨0, _⟩ => show 256 + 1 * r.val = 256 + r.val; omega
    | ⟨1, _⟩ => show 0 + 1 * j.val = j.val; omega
  · refine ((View.read_writes_cons_unit_of_not_mem (off' := ![3, 0, 0]) arg4.view _ _ _ _ _ rfl (0 : Fin 3) (Or.inl (by show 2 < 3; omega))).trans
      ((View.read_writes_cons_unit_of_mem (off' := ![2, 0, 0]) arg4.view _ _ _ _ _ (ix3 (0 : Fin 1) r j) rfl ?_).trans ?_))
    · intro a
      match a with
      | ⟨0, _⟩ => rfl
      | ⟨1, _⟩ => exact (Nat.zero_add _).symm
      | ⟨2, _⟩ => exact (Nat.zero_add _).symm
    unfold k0_pay5
    pointwise
    rw [View.readCov_eq_canon', View.canon_unit_zero hz2]
    refine congrArg (k0_pay2 xs0 x0 x1) (funext fun a => Fin.ext ?_)
    match a with
    | ⟨0, _⟩ => show 512 + 1 * r.val = 512 + r.val; omega
    | ⟨1, _⟩ => show 0 + 1 * j.val = j.val; omega
  · refine ((View.read_writes_cons_unit_of_mem (off' := ![3, 0, 0]) arg4.view _ _ _ _ _ (ix3 (0 : Fin 1) r j) rfl ?_).trans ?_)
    · intro a
      match a with
      | ⟨0, _⟩ => rfl
      | ⟨1, _⟩ => exact (Nat.zero_add _).symm
      | ⟨2, _⟩ => exact (Nat.zero_add _).symm
    unfold k0_pay6
    pointwise
    rw [View.readCov_eq_canon', View.canon_unit_zero hz2]
    refine congrArg (k0_pay2 xs0 x0 x1) (funext fun a => Fin.ext ?_)
    match a with
    | ⟨0, _⟩ => show 768 + 1 * r.val = 768 + r.val; omega
    | ⟨1, _⟩ => show 0 + 1 * j.val = j.val; omega

variable (m : (ℓ : Loc nD τ sig) → Buf (Elt Ideal) ℓ)

theorem index_all : ∀ t : Fin cfg0.N, win0_0.index t 0 = t.val % 11 ∧ win0_0.index t 1 = t.val / 11 ∧ win0_1.index t 0 = t.val % 11 ∧ win0_1.index t 1 = 0 ∧ win0_2.index t 0 = t.val / 11 ∧ win0_2.index t 1 = 0 ∧ win0_2.index t 2 = 0 :=
  (by decide +kernel : ∀ t : Fin grid0.N, win0_0.index t 0 = t.val % 11 ∧ win0_0.index t 1 = t.val / 11 ∧ win0_1.index t 0 = t.val % 11 ∧ win0_1.index t 1 = 0 ∧ win0_2.index t 0 = t.val / 11 ∧ win0_2.index t 1 = 0 ∧ win0_2.index t 2 = 0)

/-- The two matrices the kernel multiplies. -/
def A0 (c : Dev nD) : S8448x1024.Idx → EReal := V m c main_arg0
def A1 (c : Dev nD) : S8448x1024.Idx → EReal := V m c main_arg1

theorem iblk0_apply (c : Dev nD) (t : Fin cfg0.N) (r : Fin 768) (j : Fin 1024) :
    (iblk m c 0 t : Vec Ideal S768x1024 .bf16) (ix2 r j) = at2 (A0 m c) (768 * (t.val % 11) + r.val) (1024 * (t.val / 11) + j.val) := by
  obtain ⟨h0, h1, -⟩ := index_all t
  have ht : t.val < 11 := lt_of_lt_of_eq t.isLt N_0
  rw [at2_mk _ (show 768 * (t.val % 11) + r.val < 8448 by omega) (show 1024 * (t.val / 11) + j.val < 1024 by omega)]
  unfold iblk
  rw [View.read_apply]
  refine congrArg (V m c main_arg0) (funext fun a => Fin.ext ?_)
  match a with
  | ⟨0, _⟩ => show win0_0.index t 0 * 768 + 1 * r.val = 768 * (t.val % 11) + r.val; rw [h0]; omega
  | ⟨1, _⟩ => show win0_0.index t 1 * 1024 + 1 * j.val = 1024 * (t.val / 11) + j.val; rw [h1]; omega

theorem iblk1_apply (c : Dev nD) (t : Fin cfg0.N) (r : Fin 768) (j : Fin 1024) :
    (iblk m c 1 t : Vec Ideal S768x1024 .bf16) (ix2 r j) = at2 (A1 m c) (768 * (t.val % 11) + r.val) j.val := by
  obtain ⟨-, -, h0, h1, -⟩ := index_all t
  rw [at2_mk _ (show 768 * (t.val % 11) + r.val < 8448 by omega) j.isLt]
  unfold iblk
  rw [View.read_apply]
  refine congrArg (V m c main_arg1) (funext fun a => Fin.ext ?_)
  match a with
  | ⟨0, _⟩ => show win0_1.index t 0 * 768 + 1 * r.val = 768 * (t.val % 11) + r.val; rw [h0]; omega
  | ⟨1, _⟩ => show win0_1.index t 1 * 1024 + 1 * j.val = j.val; rw [h1]; omega

/-- A point adds its block of rows. -/
theorem step_apply (c : Dev nD) (t : Fin cfg0.N) (xs : Vec Ideal S1024x1024 .f32) (r : Fin 1024) (j : Fin 1024)
    (h : xs (ix2 r j) = upto (A0 m c) (A1 m c) (768 * (t.val % 11)) (1024 * (t.val / 11) + r.val) j.val) :
    k0_pay2 xs (iblk m c 0 t) (iblk m c 1 t) (ix2 r j)
      = upto (A0 m c) (A1 m c) (768 * (t.val % 11) + 768) (1024 * (t.val / 11) + r.val) j.val := by
  rw [pay2_apply, h]
  exact upto_step _ _ _ _ _ 768 _ _ (fun x => iblk0_apply m c t x r) (fun x => iblk1_apply m c t x j)

/-- The scratch after the first point of a block, and after any other. -/
theorem scr_first (c : Dev nD) (t : Fin cfg0.N) (h0 : t.val % 11 = 0) :
    (outsAt0 m c t.val t.isLt).2 = k0_pay2 k0_pay1 (iblk m c 0 t) (iblk m c 1 t) := by
  rw [outsAt0_A m c t h0 (by omega)]
  dsimp only
  rw [sout0_A_0_eq]

theorem scr_next (c : Dev nD) (t : Fin cfg0.N) (h0 : ¬t.val % 11 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 11 = 10
  · rw [outsAt0_C m c t h0 h1]
    dsimp only
    rw [sout0_C_0_eq]
  · rw [outsAt0_B m c t h0 h1]
    dsimp only
    rw [sout0_B_0_eq]

/-- The scratch after a point: the rows up to that point's block. -/
theorem scr_apply (c : Dev nD) (r : Fin 1024) (j : Fin 1024) : ∀ (n : ℕ) (t : Fin cfg0.N), t.val = n →
    (outsAt0 m c t.val t.isLt).2 (ix2 r j) = upto (A0 m c) (A1 m c) (768 * (t.val % 11) + 768) (1024 * (t.val / 11) + r.val) j.val := by
  intro n
  induction n with
  | zero =>
    intro t ht
    rw [scr_first m c t (by rw [ht])]
    exact step_apply m c t _ r j ((pay1_apply r j).trans (by rw [ht]; exact (upto_zero ..).symm))
  | succ n ih =>
    intro t ht
    by_cases h0 : t.val % 11 = 0
    · rw [scr_first m c t h0]
      exact step_apply m c t _ r j ((pay1_apply r j).trans (by rw [h0]; exact (upto_zero ..).symm))
    · rw [scr_next m c t h0]
      refine step_apply m c t _ r j ((ih ⟨t.val - 1, Nat.lt_of_le_of_lt (Nat.sub_le _ _) t.isLt⟩ (by show t.val - 1 = n; omega)).trans ?_)
      show upto (A0 m c) (A1 m c) (768 * ((t.val - 1) % 11) + 768) (1024 * ((t.val - 1) / 11) + r.val) j.val = _
      rw [show 768 * ((t.val - 1) % 11) + 768 = 768 * (t.val % 11) by omega, show (t.val - 1) / 11 = t.val / 11 by omega]

theorem disjoint_out : ∀ t t' : Fin cfg0.N, (cfg0.win 2).flush t = true → (cfg0.win 2).flush t' = true → t ≠ t' →
    Disjoint ((cfg0.win 2).blk t).view.set ((cfg0.win 2).blk t').view.set :=
  fun t t' hf hf' hne => absurd (Fin.ext (by
    have f := (flush0_2 t).mp hf
    have f' := (flush0_2 t').mp hf'
    have ht : t.val < 11 := lt_of_lt_of_eq t.isLt N_0
    have ht' : t'.val < 11 := lt_of_lt_of_eq t'.isLt N_0
    omega)) hne

/-- What the last point of a block writes back, from the scratch it leaves. -/
theorem flushed_apply (c : Dev nD) (t : Fin cfg0.N) (h1 : t.val % 11 = 10) (s : Fin 4) (r : Fin 256) (j : Fin 1024) :
    (dats m 0 c).flushed 2 t (ix3 s r j : S4x256x1024.Idx) = (outsAt0 m c t.val t.isLt).2 (ix2 ⟨256 * s.val + r.val, by omega⟩ j) := by
  have h0 : ¬t.val % 11 = 0 := by omega
  refine Eq.trans (b := (outsAt0 m c t.val t.isLt).1 (ix3 s r j : S4x256x1024.Idx)) ?_ ?_
  · rw [show (dats m 0 c).flushed 2 t = (cfg0.win 2).cut (grid0.coords t) ((dats m 0 c).after 2 t) from rfl, after0_2]
    rfl
  · rw [scr_next m c t h0, outsAt0_C m c t h0 h1]
    dsimp only
    rw [out0_C_2_eq]

/-- A block of the array after the run. -/
theorem block_apply (c : Dev nD) (t : Fin cfg0.N) (h1 : t.val % 11 = 10) (s : Fin 4) (r : Fin 256) (j : Fin 1024) :
    (dats m 0 c).arrAt 2 cfg0.N (((cfg0.win 2).blk t).view.emb (ix3 s r j : S4x256x1024.Idx))
      = upto (A0 m c) (A1 m c) 8448 (1024 * (t.val / 11) + (256 * s.val + r.val)) j.val := by
  have hb := (congrFun ((dats m 0 c).read_blk_arrAt_eq_flushed 2 disjoint_out cfg0.N t t.isLt ((flush0_2 t).mpr h1)) (ix3 s r j : S4x256x1024.Idx)).trans
    (flushed_apply m c t h1 s r j)
  rw [scr_apply m c _ _ t.val t rfl, h1] at hb
  exact hb

/-- The kernel's array at a chip, a row and a column: the product's entry. -/
theorem ker_apply (c : Dev nD) (q : Fin 4) (r : Fin 256) (j : Fin 1024) :
    (dats m 0 c).arrAt 2 cfg0.N (ix3 q r j : S4x256x1024.Idx)
      = prod (p := 8448) (a := 1024) (b := 1024) (m ((c : Thread nD τ).loc main_arg0)) (m ((c : Thread nD τ).loc main_arg1)) ⟨256 * q.val + r.val, by omega⟩ j := by
  let t : Fin cfg0.N := ⟨10, lt_of_lt_of_eq (show 10 < 11 by omega) N_0.symm⟩
  have h1 : t.val % 11 = 10 := by show 10 % 11 = 10; omega
  have hd : t.val / 11 = 0 := by show 10 / 11 = 0; omega
  obtain ⟨-, -, -, -, i0, i1, i2⟩ := index_all t
  refine Eq.trans ?_ ((block_apply m c t h1 q r j).trans ?_)
  · refine congrArg ((dats m 0 c).arrAt 2 cfg0.N) (funext fun a => Fin.ext ?_)
    match a with
    | ⟨0, _⟩ => show q.val = win0_2.index t 0 * 4 + 1 * q.val; rw [i0, hd]; omega
    | ⟨1, _⟩ => show r.val = win0_2.index t 1 * 256 + 1 * r.val; rw [i1]; omega
    | ⟨2, _⟩ => show j.val = win0_2.index t 2 * 1024 + 1 * j.val; rw [i2]; omega
  · rw [hd, show 1024 * 0 + (256 * q.val + r.val) = (⟨256 * q.val + r.val, by omega⟩ : Fin 1024).val by show _ = 256 * q.val + r.val; omega, upto_all]
    unfold A0 A1
    rw [V_main_arg0, V_main_arg1]

/-- The reference's result at the same place. -/
theorem ref_apply (x0 : S8448x1024.Idx → EReal) (x1 : S8448x1024.Idx → EReal) (q : Fin 4) (r : Fin 256) (j : Fin 1024) :
    Cert.DwoReferenceIdeal.Read.val_main_v7 (F := Ideal) x0 x1 (ix3 q r j : S4x256x1024.Idx)
      = prod (p := 8448) (a := 1024) (b := 1024) x0 x1 ⟨256 * q.val + r.val, by omega⟩ j := by
  unfold Cert.DwoReferenceIdeal.Read.val_main_v7 Cert.DwoReferenceIdeal.Read.val_main_v6 Cert.DwoReferenceIdeal.Read.val_main_v5 Cert.DwoReferenceIdeal.Read.val_main_v4 Cert.DwoReferenceIdeal.Read.val_main_v3 Cert.DwoReferenceIdeal.Read.val_main_v1
  pointwise
  rw [prod_comm (p := 8448) (a := 1024) (b := 1024)]
  exact congrArg (fun u => prod (p := 8448) (a := 1024) (b := 1024) x0 x1 u j) (Fin.ext (by show q.val * 256 + r.val = 256 * q.val + r.val; omega))

theorem arr_eq (c : Dev nD) : (dats m 0 c).arrAt 2 cfg0.N = Cert.DwoReferenceIdeal.Read.val_main_v7 (F := Ideal) (m ((c : Thread nD τ).loc main_arg0)) (m ((c : Thread nD τ).loc main_arg1)) := by
  funext i
  obtain ⟨q, r, j, rfl⟩ : ∃ (q : Fin 4) (r : Fin 256) (j : Fin 1024), i = (ix3 q r j : S4x256x1024.Idx) := ⟨i 0, i 1, i 2, eq_ix3 i⟩
  rw [ref_apply, ker_apply]

/-- The kernel computes the reference's result. -/
theorem algebraic : Cert.algebraic_DwoKernelIdeal_DwoReferenceIdeal := by
  intro m g m' g' _ hag
  refine ⟨fun c => (dats m 0 c).arrAt 2 cfg0.N, Cert.DwoKernelIdeal.Value.run_blocks m g, ?_⟩
  refine (θ_run _ _ _).mono (fun r h c => ?_) (Cert.DwoReferenceIdeal.Value.run m' g')
  obtain ⟨h0, ha⟩ := h c
  obtain ⟨e0, e1⟩ := hag c
  refine ⟨?_, ha⟩
  refine Eq.trans ?_ (arr_eq m c).symm
  rw [← e0, ← e1]
  exact h0.trans (Cert.DwoReferenceIdeal.Read.val_main_v7_eq _ _)

/-- The reference runs, leaves its arguments unchanged and ends with every counter at zero. -/
theorem frame_reference : Cert.quiescent_DwoReferenceIdeal := by
  intro m ρ _
  exact (θ_run Cert.DwoReferenceIdeal.defs _ _).mono (fun r h => ⟨fun c => (h c).2,
      Idealize.ShloMosaic.sem_eq_zero_of_no_sems (by decide) r.2⟩) (Cert.DwoReferenceIdeal.Value.run (F := Ideal) m ρ)

end Cert.DwoAlg
-- ==== Proof.MgbAlg.lean ====
module
public import proofs.«01_k».proof.Defs
public import proofs.«01_k».proof.Proof.DlnAlg
public import proofs.«01_k».proof.Proof.Rows
public import proofs.«01_k».proof.Proof.Gen.MgbKernelIdeal.Frame
public import proofs.«01_k».proof.Proof.Gen.MgbReferenceIdeal.Run
public import proofs.«01_k».proof.Proof.Gen.MgbReferenceIdeal.Read
public import Idealize.ShloMosaic.Lib.Pointwise
public import Idealize.ShloMosaic.Lib.WritesUnit
public import Idealize.ShloMosaic.Lib.Tactic
@[expose] public section
set_option maxRecDepth 16384
noncomputable section
open Idealize.ShloMosaic Idealize.ShloMosaic.TcCoe Idealize.SL.Sem
namespace Cert.MgbAlg
open Cert.MgbKernelIdeal Cert.MgbKernelIdeal.Gen
open Cert.DlnAlg (hz2)

/-! The gradient of the merge of the mixer's two branches: through the output product, the gates and the branches' own products. -/

/-- A row times a transposed matrix. -/
def rowT {n : ℕ} (a : Fin 1024 → EReal) (w : Fin n → Fin 1024 → EReal) (d : Fin n) : EReal := ∑ x, a x * w d x
/-- The gradient of a branch: the merge's times the branch's gate. -/
def br (dm g b : Fin 1024 → EReal) (d : Fin 1024) : EReal := dm d * Ideal.logistic (g d + b d)
/-- The gradient of a gate before its sigmoid. -/
def gate (dm p g b : Fin 1024 → EReal) (d : Fin 1024) : EReal :=
  dm d * p d * Ideal.logistic (g d + b d) * (Ideal.ofBits FTy.f32 0x3F800000#32 - Ideal.logistic (g d + b d))

section
variable (x0 x2 x3 x4 x5 x9 : Vec Ideal S384x1024 .bf16) (x1 x8 : Vec Ideal S1024x1024 .bf16) (x6 : Vec Ideal S2x1024 .f32) (x7 : Vec Ideal S512x1024 .bf16) (r : Fin 384) (d : Fin 1024)

/-- A row of the merge's gradient, of a block. -/
def dmB : Fin 1024 → EReal := rowT (fun x => x0 (ix2 r x)) (fun e x => x1 (ix2 e x))
/-- A row of a branch's gradient, of a block, by the branch. -/
def brB (s : Fin 2) : Fin 1024 → EReal := br (dmB x0 x1 r) (fun e => x4 (ix2 r e)) (fun e => x6 (ix2 s e))
/-- A row of a gate's gradient, of a block, by the branch. -/
def gateB (s : Fin 2) : Fin 1024 → EReal := gate (dmB x0 x1 r) (fun e => x2 (ix2 r e)) (fun e => x4 (ix2 r e)) (fun e => x6 (ix2 s e))

theorem pay3_apply : k0_pay3 x0 x1 (ix2 r d) = dmB x0 x1 r d := by
  unfold k0_pay3 dmB rowT
  pointwise

theorem pay6_apply : k0_pay6 x0 x1 x6 x4 (ix2 r d) = brB x0 x4 x1 x6 r 0 d := by
  unfold brB br
  rw [← pay3_apply]
  unfold k0_pay6 k0_pay4
  generalize k0_pay3 (F := Ideal) _ _ = U
  pointwise

theorem pay7_apply : k0_pay7 x0 x1 x6 x5 (ix2 r d) = brB x0 x5 x1 x6 r 1 d := by
  unfold brB br
  rw [← pay3_apply]
  unfold k0_pay7 k0_pay5
  generalize k0_pay3 (F := Ideal) _ _ = U
  pointwise

theorem pay8_apply : k0_pay8 x0 x1 x6 x4 x2 (ix2 r d) = gateB x0 x2 x4 x1 x6 r 0 d := by
  unfold gateB gate
  rw [← pay3_apply]
  unfold k0_pay8 k0_pay4
  generalize k0_pay3 (F := Ideal) _ _ = U
  pointwise

theorem pay11_apply : k0_pay11 (k0_pay9 x0 x1 x6 x5 x3) (k0_pay10 x6 x5) (ix2 r d) = gateB x0 x3 x5 x1 x6 r 1 d := by
  unfold gateB gate
  rw [← pay3_apply]
  unfold k0_pay11 k0_pay10 k0_pay9 k0_pay5
  generalize k0_pay3 (F := Ideal) _ _ = U
  pointwise

/-- The gates' gradients side by side. -/
theorem pay12_apply (U V W : FVec Ideal S384x1024 .f32) (e : Fin 2048) :
    k0_pay12 U V W (ix2 r e) = if h : e.val < 1024 then U (ix2 r ⟨e.val, h⟩) else k0_pay11 V W (ix2 r ⟨e.val - 1024, by omega⟩) := by
  unfold k0_pay12
  generalize k0_pay11 (F := Ideal) _ _ = Y
  pointwise

/-- The gates' biases' gradients: the block's rows added. -/
theorem pay13_apply (U V W : FVec Ideal S384x1024 .f32) (A : Vec Ideal S2x1024 .f32) (s : Fin 2) :
    k0_pay13 U V W A (ix2 s d) = A (ix2 s d) + ∑ q : Fin 384, (if s.val = 0 then U (ix2 q d) else k0_pay11 V W (ix2 q d)) := by
  unfold k0_pay13
  generalize k0_pay11 (F := Ideal) _ _ = Y
  obtain rfl | rfl : s = 0 ∨ s = 1 := by omega
  · pointwise
  · pointwise

theorem pay2_apply (s : Fin 2) : k0_pay2 (F := Ideal) (ix2 s d) = 0 := by
  unfold k0_pay2
  pointwise

theorem pay14_apply (U : FVec Ideal S384x1024 .bf16) (e : Fin 512) : k0_pay14 U x7 (ix2 r e) = rowT (fun x => U (ix2 r x)) (fun f x => x7 (ix2 f x)) e := by
  unfold k0_pay14 rowT
  pointwise

theorem pay15_apply (U : FVec Ideal S384x1024 .bf16) : k0_pay15 U x8 (ix2 r d) = rowT (fun x => U (ix2 r x)) (fun f x => x8 (ix2 f x)) d := by
  unfold k0_pay15 rowT
  pointwise

theorem pay16_apply (U : FVec Ideal S384x1024 .bf16) : k0_pay16 U x8 (ix2 r d) = rowT (fun x => U (ix2 r x)) (fun f x => x8 (ix2 f x)) d := by
  rw [← pay15_apply]
  unfold k0_pay16
  pointwise

theorem pay17_apply (U : FVec Ideal S384x1024 .bf16) : k0_pay17 U x8 x9 (ix2 r d) = rowT (fun x => U (ix2 r x)) (fun f x => x8 (ix2 f x)) d * x9 (ix2 r d) := by
  rw [← pay15_apply]
  unfold k0_pay17
  generalize k0_pay15 (F := Ideal) _ _ = Y
  pointwise

theorem pay18_apply (U : FVec Ideal S384x1024 .bf16) (k : Fin 128) : k0_pay18 U x8 x9 (ix2 r k) = k0_pay17 U x8 x9 (ix2 r ⟨k.val, by omega⟩) := by
  unfold k0_pay18
  generalize k0_pay17 (F := Ideal) _ _ _ = Y
  pointwise

/-- The heads' sums, each in all of its head's columns. -/
theorem pay1_apply (U : FVec Ideal S384x1024 .f32) (Y : FVec Ideal S384x128 .f32) (hY : ∀ k : Fin 128, Y (ix2 r k) = U (ix2 r ⟨k.val, by omega⟩)) (h : Fin 8) (k : Fin 128) :
    k0_pay1 U Y (ix2 r ⟨128 * h.val + k.val, by omega⟩) = ∑ x : Fin 128, U (ix2 r ⟨128 * h.val + x.val, by omega⟩) := by
  unfold k0_pay1
  have hk := k.isLt
  match h with
  | ⟨0, _⟩ =>
    pointwise
    exact Finset.sum_congr (M := EReal) rfl fun x _ => hY x
  | ⟨1, _⟩ =>
    pointwise
    repeat rw [dif_neg (by omega)]
    try rw [dif_pos (by omega)]
  | ⟨2, _⟩ =>
    pointwise
    repeat rw [dif_neg (by omega)]
    try rw [dif_pos (by omega)]
  | ⟨3, _⟩ =>
    pointwise
    repeat rw [dif_neg (by omega)]
    try rw [dif_pos (by omega)]
  | ⟨4, _⟩ =>
    pointwise
    repeat rw [dif_neg (by omega)]
    try rw [dif_pos (by omega)]
  | ⟨5, _⟩ =>
    pointwise
    repeat rw [dif_neg (by omega)]
    try rw [dif_pos (by omega)]
  | ⟨6, _⟩ =>
    pointwise
    repeat rw [dif_neg (by omega)]
    try rw [dif_pos (by omega)]
  | ⟨7, _⟩ =>
    pointwise
    repeat rw [dif_neg (by omega)]
    try rw [dif_pos (by omega)]
end

section
variable (dz pc pm : S8448x1024.Idx → EReal) (o : S8448x8x128.Idx → EReal) (p : S8448x4000.Idx → EReal) (bg : S2x1024.Idx → EReal) (wo : S1024x1024.Idx → EReal) (wc wm : S512x1024.Idx → EReal) (t : Fin 8448) (d : Fin 1024)

/-- A row of the merge's gradient. -/
def dmR : Fin 1024 → EReal := rowT (fun x => dz (ix2 t x)) (fun e x => wo (ix2 e x))
/-- A row of the convolution's branch's gradient. -/
def cR : Fin 1024 → EReal := br (dmR dz wo t) (fun e => p (ix2 t ⟨1952 + e.val, by omega⟩)) (fun e => bg (ix2 0 e))
/-- A row of the attention's branch's gradient. -/
def mR : Fin 1024 → EReal := br (dmR dz wo t) (fun e => p (ix2 t ⟨2976 + e.val, by omega⟩)) (fun e => bg (ix2 1 e))
/-- A row of the convolution's gate's gradient. -/
def gcR : Fin 1024 → EReal := gate (dmR dz wo t) (fun e => pc (ix2 t e)) (fun e => p (ix2 t ⟨1952 + e.val, by omega⟩)) (fun e => bg (ix2 0 e))
/-- A row of the attention's gate's gradient. -/
def gmR : Fin 1024 → EReal := gate (dmR dz wo t) (fun e => pm (ix2 t e)) (fun e => p (ix2 t ⟨2976 + e.val, by omega⟩)) (fun e => bg (ix2 1 e))
/-- A row of the convolution's output's gradient. -/
def dyR : Fin 512 → EReal := rowT (cR dz p bg wo t) (fun f x => wc (ix2 f x))
/-- A head's row of the attention's output's gradient: the values' half is the product's, the keys' half zero. -/
def doR (h : Fin 8) (k : Fin 128) : EReal :=
  if hk : k.val < 64 then 0 else rowT (mR dz p bg wo t) (fun f x => wm (ix2 f x)) (⟨64 * h.val + (k.val - 64), by omega⟩ : Fin 512)
/-- A head's row sum of the attention's output times its gradient. -/
def dlR (h : Fin 8) : EReal := ∑ k : Fin 128, doR dz p bg wo wm t h k * o (ix3 t h k)

open Cert.MgbReferenceIdeal.Read

theorem ref_dm : val_main_v38 (F := Ideal) dz wo (ix2 t d) = dmR dz wo t d := by
  unfold val_main_v38 val_main_v37 dmR rowT
  pointwise

theorem ref_sc : val_main_v17 (F := Ideal) p bg (ix2 t d) = Ideal.logistic (p (ix2 t ⟨1952 + d.val, by omega⟩) + bg (ix2 0 d)) := by
  unfold val_main_v17 val_main_v16 val_main_cst_0 val_main_v15 val_main_v14 val_main_cst val_main_v13 val_main_v12 val_main_v11 val_main_v10 val_main_v9 val_main_v6 val_main_v5 val_main_v1 val_main_v0
  pointwise
  rfl

theorem ref_sm : val_main_v30 (F := Ideal) p bg (ix2 t d) = Ideal.logistic (p (ix2 t ⟨2976 + d.val, by omega⟩) + bg (ix2 1 d)) := by
  unfold val_main_v30 val_main_v29 val_main_cst_3 val_main_v28 val_main_v27 val_main_cst_2 val_main_v26 val_main_v25 val_main_v24 val_main_v23 val_main_v22 val_main_v8 val_main_v7 val_main_v2 val_main_v0
  pointwise
  rfl

theorem ref_c : val_main_v51 (F := Ideal) dz p bg wo (ix2 t d) = cR dz p bg wo t d := by
  unfold cR br
  rw [← ref_sc, ← ref_dm]
  exact mul_comm (val_main_v17 (F := Ideal) p bg (ix2 t d) : EReal) (val_main_v38 (F := Ideal) dz wo (ix2 t d))

theorem ref_m : val_main_v52 (F := Ideal) dz p bg wo (ix2 t d) = mR dz p bg wo t d := by
  unfold mR br
  rw [← ref_sm, ← ref_dm]
  exact mul_comm (val_main_v30 (F := Ideal) p bg (ix2 t d) : EReal) (val_main_v38 (F := Ideal) dz wo (ix2 t d))

theorem ref_gc : val_main_v47 (F := Ideal) dz pc p bg wo (ix2 t d) = gcR dz pc p bg wo t d := by
  unfold gcR gate
  rw [← ref_sc, ← ref_dm]
  exact (mul_assoc (_ : EReal) _ _).symm

theorem ref_gm : val_main_v41 (F := Ideal) dz pm p bg wo (ix2 t d) = gmR dz pm p bg wo t d := by
  unfold gmR gate
  rw [← ref_sm, ← ref_dm]
  exact (mul_assoc (_ : EReal) _ _).symm

theorem ref_dy (e : Fin 512) : val_main_v56 (F := Ideal) dz p bg wo wc (ix2 t e) = dyR dz p bg wo wc t e := by
  unfold dyR rowT
  simp only [← ref_c]
  unfold val_main_v56 val_main_v55
  pointwise

theorem ref_do (h : Fin 8) (k : Fin 128) : val_main_v64 (F := Ideal) dz p bg wo wm (ix3 t h k) = doR dz p bg wo wm t h k := by
  unfold doR rowT
  simp only [← ref_m]
  unfold val_main_v64 val_main_v63 val_main_v62 val_main_v61 val_main_cst_10
  pointwise
  by_cases hk : k.val < 64
  · rw [dif_pos hk, dif_neg (by omega)]
  · rw [dif_neg hk, dif_pos ⟨by omega, by omega⟩]
    refine Finset.sum_congr (M := EReal) rfl fun x _ => congrArg (fun e : Fin 512 => _ * wm (ix2 e x : S512x1024.Idx)) (Fin.ext ?_)
    show h.val * 64 + (k.val - 64) = 64 * h.val + (k.val - 64)
    omega

theorem ref_do' (h : Fin 8) (k : Fin 128) : val_main_v72 (F := Ideal) dz p bg wo wm (ix3 t h k) = doR dz p bg wo wm t h k := ref_do dz p bg wo wm t h k

theorem ref_dl (h : Fin 8) (k : Fin 128) : val_main_v69 (F := Ideal) dz o p bg wo wm (ix3 t h k) = dlR dz o p bg wo wm t h := by
  unfold dlR
  simp only [← ref_do]
  unfold val_main_v69 val_main_v68 val_main_v67 val_main_cst_11 val_main_v66 val_main_v65
  pointwise

theorem ref_g (e : Fin 2048) : val_main_v71 (F := Ideal) dz pc pm p bg wo (ix2 t e)
    = if h : e.val < 1024 then gcR dz pc p bg wo t ⟨e.val, h⟩ else gmR dz pm p bg wo t ⟨e.val - 1024, by omega⟩ := by
  simp only [← ref_gc, ← ref_gm]
  unfold val_main_v71 val_main_v70
  generalize val_main_v47 (F := Ideal) _ _ _ _ _ = U
  generalize val_main_v41 (F := Ideal) _ _ _ _ _ = V
  pointwise

theorem ref_db (s : Fin 2) : val_main_v75 (F := Ideal) dz pc pm p bg wo (ix2 s d)
    = ∑ q : Fin 8448, (if s.val = 0 then gcR dz pc p bg wo q d else gmR dz pm p bg wo q d) := by
  simp only [← ref_gc, ← ref_gm]
  unfold val_main_v75 val_main_v74 val_main_v73 val_main_v50 val_main_cst_8 val_main_v49 val_main_v48 val_main_cst_7 val_main_v44 val_main_cst_6 val_main_v43 val_main_v42 val_main_cst_5
  generalize val_main_v47 (F := Ideal) _ _ _ _ _ = U
  generalize val_main_v41 (F := Ideal) _ _ _ _ _ = V
  obtain rfl | rfl : s = 0 ∨ s = 1 := by omega
  · pointwise
    simp
  · pointwise
    simp
end

variable (m : (ℓ : Loc nD τ sig) → Buf (Elt Ideal) ℓ)

/-- Argument 0 of the kernel. -/
abbrev a0 (c : Dev nD) : S8448x1024.Idx → EReal := m ((c : Thread nD τ).loc main_arg0)
/-- Argument 1 of the kernel. -/
abbrev a1 (c : Dev nD) : S8448x1024.Idx → EReal := m ((c : Thread nD τ).loc main_arg1)
/-- Argument 2 of the kernel. -/
abbrev a2 (c : Dev nD) : S8448x1024.Idx → EReal := m ((c : Thread nD τ).loc main_arg2)
/-- Argument 3 of the kernel. -/
abbrev a3 (c : Dev nD) : S8448x8x128.Idx → EReal := m ((c : Thread nD τ).loc main_arg3)
/-- Argument 4 of the kernel. -/
abbrev a4 (c : Dev nD) : S8448x4000.Idx → EReal := m ((c : Thread nD τ).loc main_arg4)
/-- Argument 5 of the kernel. -/
abbrev a5 (c : Dev nD) : S2x1024.Idx → EReal := m ((c : Thread nD τ).loc main_arg5)
/-- Argument 6 of the kernel. -/
abbrev a6 (c : Dev nD) : S1024x1024.Idx → EReal := m ((c : Thread nD τ).loc main_arg6)
/-- Argument 7 of the kernel. -/
abbrev a7 (c : Dev nD) : S512x1024.Idx → EReal := m ((c : Thread nD τ).loc main_arg7)
/-- Argument 8 of the kernel. -/
abbrev a8 (c : Dev nD) : S512x1024.Idx → EReal := m ((c : Thread nD τ).loc main_arg8)

theorem V_eq (c : Dev nD) (b : Ref sig .tc) : V m c b = StableHlo.after hostOps0 (fun b => m (c, b)) (Proc.devRef .tc b) := by
  unfold V V0
  simp only [List.flatten_cons, List.flatten_nil, List.append_nil, List.cons_append, List.nil_append]

/-- The attention's output the kernel is handed: the heads side by side. -/
theorem o_entry (c : Dev nD) (t : Fin 8448) (x : Fin 1024) : V m c main_v11 (ix2 t x : S8448x1024.Idx) = a3 m c (ix3 t ⟨x.val / 128, by omega⟩ ⟨x.val % 128, by omega⟩) := by
  rw [V_eq]
  unfold a3
  after_results_simp
  generalize m ((c : Thread nD τ).loc main_arg3) = W
  pointwise

/-- The attention's weights the kernel is handed: of each head zero rows, then its rows. -/
theorem wm_entry (c : Dev nD) (x d : Fin 1024) : V m c main_v4 (ix2 x d : S1024x1024.Idx)
    = if h : x.val % 128 < 64 then (0 : EReal) else a8 m c (ix2 ⟨64 * (x.val / 128) + (x.val % 128 - 64), by omega⟩ d) := by
  rw [V_eq]
  unfold a8
  after_results_simp
  pointwise
  after_results_simp
  generalize m ((c : Thread nD τ).loc main_arg8) = W
  pointwise
  by_cases h0 : x.val % 128 < 64
  · rw [dif_pos h0, dif_pos h0]
  · rw [dif_neg h0, dif_neg h0]
    exact congrArg W (congrArg (fun u : Fin 512 => (ix2 u d : S512x1024.Idx)) (Fin.ext (by show x.val / 128 * 64 + (x.val % 128 - 64) = 64 * (x.val / 128) + (x.val % 128 - 64); omega)))

/-- The projections the kernel is handed, padded: their last columns. -/
theorem p_entry (c : Dev nD) (t : Fin 8448) (x : Fin 4096) (hx : ¬ x.val < 2048) : V m c main_v9 (ix2 t x : S8448x4096.Idx) = a4 m c (ix2 t ⟨x.val - 96, by omega⟩) := by
  rw [V_eq]
  unfold a4
  after_results_simp
  pointwise
  after_results_simp
  generalize m ((c : Thread nD τ).loc main_arg4) = W
  pointwise
  rw [dif_neg (by omega), dif_neg (by omega)]
  exact congrArg W (congrArg (ix2 t) (Fin.ext (by show 1952 + (x.val - 1952 - 96) = x.val - 96; omega)))

theorem wc_entry (c : Dev nD) (x : Fin 512) (d : Fin 1024) : V m c main_v10 (ix2 x d : S512x1024.Idx) = a7 m c (ix2 x d) := by
  rw [V_eq]
  unfold a7
  after_results_simp
  generalize m ((c : Thread nD τ).loc main_arg7) = W
  pointwise

theorem wo_entry (c : Dev nD) (x d : Fin 1024) : V m c main_v5 (ix2 x d : S1024x1024.Idx) = a6 m c (ix2 x d) := by
  rw [V_eq]
  unfold a6
  after_results_simp
  generalize m ((c : Thread nD τ).loc main_arg6) = W
  pointwise

/-- A row of a block among all rows. -/
abbrev T (n : Fin cfg0.N) (r : Fin 384) : Fin 8448 := ⟨384 * n.val + r.val, by have := lt_of_lt_of_eq n.isLt N_0; omega⟩

section
variable (c : Dev nD) (n : Fin cfg0.N) (r : Fin 384)

theorem ib0 (j : Fin 1024) : (iblk m c 0 n : Vec Ideal S384x1024 .bf16) (ix2 r j) = a0 m c (ix2 (T n r) j) := by
  obtain ⟨i0, i1⟩ := (by decide +kernel : ∀ t : Fin grid0.N, win0_0.index t 0 = t.val ∧ win0_0.index t 1 = 0) n
  refine Eq.trans (b := V m c main_arg0 (ix2 (T n r) j : S8448x1024.Idx)) ?_ (congrFun (V_main_arg0 m c) _)
  unfold iblk
  rw [View.read_apply]
  refine congrArg (V m c main_arg0) (funext fun a => Fin.ext ?_)
  match a with
  | ⟨0, _⟩ => show win0_0.index n 0 * 384 + 1 * r.val = 384 * n.val + r.val; rw [i0]; omega
  | ⟨1, _⟩ => show win0_0.index n 1 * 1024 + 1 * j.val = j.val; rw [i1]; omega

theorem ib1 (e : Fin 1024) (j : Fin 1024) : (iblk m c 1 n : Vec Ideal S1024x1024 .bf16) (ix2 e j) = a6 m c (ix2 e j) := by
  obtain ⟨i0, i1⟩ := (by decide +kernel : ∀ t : Fin grid0.N, win0_1.index t 0 = 0 ∧ win0_1.index t 1 = 0) n
  refine Eq.trans (b := V m c main_v5 (ix2 (e) j : S1024x1024.Idx)) ?_ (wo_entry m c e j)
  unfold iblk
  rw [View.read_apply]
  refine congrArg (V m c main_v5) (funext fun a => Fin.ext ?_)
  match a with
  | ⟨0, _⟩ => show win0_1.index n 0 * 1024 + 1 * e.val = e.val; rw [i0]; omega
  | ⟨1, _⟩ => show win0_1.index n 1 * 1024 + 1 * j.val = j.val; rw [i1]; omega

theorem ib2 (j : Fin 1024) : (iblk m c 2 n : Vec Ideal S384x1024 .bf16) (ix2 r j) = a1 m c (ix2 (T n r) j) := by
  obtain ⟨i0, i1⟩ := (by decide +kernel : ∀ t : Fin grid0.N, win0_2.index t 0 = t.val ∧ win0_2.index t 1 = 0) n
  refine Eq.trans (b := V m c main_arg1 (ix2 (T n r) j : S8448x1024.Idx)) ?_ (congrFun (V_main_arg1 m c) _)
  unfold iblk
  rw [View.read_apply]
  refine congrArg (V m c main_arg1) (funext fun a => Fin.ext ?_)
  match a with
  | ⟨0, _⟩ => show win0_2.index n 0 * 384 + 1 * r.val = 384 * n.val + r.val; rw [i0]; omega
  | ⟨1, _⟩ => show win0_2.index n 1 * 1024 + 1 * j.val = j.val; rw [i1]; omega

theorem ib3 (j : Fin 1024) : (iblk m c 3 n : Vec Ideal S384x1024 .bf16) (ix2 r j) = a2 m c (ix2 (T n r) j) := by
  obtain ⟨i0, i1⟩ := (by decide +kernel : ∀ t : Fin grid0.N, win0_3.index t 0 = t.val ∧ win0_3.index t 1 = 0) n
  refine Eq.trans (b := V m c main_arg2 (ix2 (T n r) j : S8448x1024.Idx)) ?_ (congrFun (V_main_arg2 m c) _)
  unfold iblk
  rw [View.read_apply]
  refine congrArg (V m c main_arg2) (funext fun a => Fin.ext ?_)
  match a with
  | ⟨0, _⟩ => show win0_3.index n 0 * 384 + 1 * r.val = 384 * n.val + r.val; rw [i0]; omega
  | ⟨1, _⟩ => show win0_3.index n 1 * 1024 + 1 * j.val = j.val; rw [i1]; omega

theorem ib4 (j : Fin 1024) : (iblk m c 4 n : Vec Ideal S384x1024 .bf16) (ix2 r j) = a4 m c (ix2 (T n r) ⟨1952 + j.val, by omega⟩) := by
  obtain ⟨i0, i1⟩ := (by decide +kernel : ∀ t : Fin grid0.N, win0_4.index t 0 = t.val ∧ win0_4.index t 1 = 2) n
  refine Eq.trans (b := V m c main_v9 (ix2 (T n r) ⟨2048 + j.val, by omega⟩ : S8448x4096.Idx)) ?_ ((p_entry m c _ _ (by show ¬ 2048 + j.val < 2048; omega)).trans (congrArg (fun u : Fin 4000 => a4 m c (ix2 (T n r) u)) (Fin.ext (by show 2048 + j.val - 96 = 1952 + j.val; omega))))
  unfold iblk
  rw [View.read_apply]
  refine congrArg (V m c main_v9) (funext fun a => Fin.ext ?_)
  match a with
  | ⟨0, _⟩ => show win0_4.index n 0 * 384 + 1 * r.val = 384 * n.val + r.val; rw [i0]; omega
  | ⟨1, _⟩ => show win0_4.index n 1 * 1024 + 1 * j.val = 2048 + j.val; rw [i1]; omega

theorem ib5 (j : Fin 1024) : (iblk m c 5 n : Vec Ideal S384x1024 .bf16) (ix2 r j) = a4 m c (ix2 (T n r) ⟨2976 + j.val, by omega⟩) := by
  obtain ⟨i0, i1⟩ := (by decide +kernel : ∀ t : Fin grid0.N, win0_5.index t 0 = t.val ∧ win0_5.index t 1 = 3) n
  refine Eq.trans (b := V m c main_v9 (ix2 (T n r) ⟨3072 + j.val, by omega⟩ : S8448x4096.Idx)) ?_ ((p_entry m c _ _ (by show ¬ 3072 + j.val < 2048; omega)).trans (congrArg (fun u : Fin 4000 => a4 m c (ix2 (T n r) u)) (Fin.ext (by show 3072 + j.val - 96 = 2976 + j.val; omega))))
  unfold iblk
  rw [View.read_apply]
  refine congrArg (V m c main_v9) (funext fun a => Fin.ext ?_)
  match a with
  | ⟨0, _⟩ => show win0_5.index n 0 * 384 + 1 * r.val = 384 * n.val + r.val; rw [i0]; omega
  | ⟨1, _⟩ => show win0_5.index n 1 * 1024 + 1 * j.val = 3072 + j.val; rw [i1]; omega

theorem ib6 (e : Fin 2) (j : Fin 1024) : (iblk m c 6 n : Vec Ideal S2x1024 .f32) (ix2 e j) = a5 m c (ix2 e j) := by
  obtain ⟨i0, i1⟩ := (by decide +kernel : ∀ t : Fin grid0.N, win0_6.index t 0 = 0 ∧ win0_6.index t 1 = 0) n
  refine Eq.trans (b := V m c main_arg5 (ix2 (e) j : S2x1024.Idx)) ?_ (congrFun (V_main_arg5 m c) _)
  unfold iblk
  rw [View.read_apply]
  refine congrArg (V m c main_arg5) (funext fun a => Fin.ext ?_)
  match a with
  | ⟨0, _⟩ => show win0_6.index n 0 * 2 + 1 * e.val = e.val; rw [i0]; omega
  | ⟨1, _⟩ => show win0_6.index n 1 * 1024 + 1 * j.val = j.val; rw [i1]; omega

theorem ib7 (e : Fin 512) (j : Fin 1024) : (iblk m c 7 n : Vec Ideal S512x1024 .bf16) (ix2 e j) = a7 m c (ix2 e j) := by
  obtain ⟨i0, i1⟩ := (by decide +kernel : ∀ t : Fin grid0.N, win0_7.index t 0 = 0 ∧ win0_7.index t 1 = 0) n
  refine Eq.trans (b := V m c main_v10 (ix2 (e) j : S512x1024.Idx)) ?_ (wc_entry m c e j)
  unfold iblk
  rw [View.read_apply]
  refine congrArg (V m c main_v10) (funext fun a => Fin.ext ?_)
  match a with
  | ⟨0, _⟩ => show win0_7.index n 0 * 512 + 1 * e.val = e.val; rw [i0]; omega
  | ⟨1, _⟩ => show win0_7.index n 1 * 1024 + 1 * j.val = j.val; rw [i1]; omega

theorem ib8 (e : Fin 1024) (j : Fin 1024) : (iblk m c 8 n : Vec Ideal S1024x1024 .bf16) (ix2 e j) = if h : e.val % 128 < 64 then (0 : EReal) else a8 m c (ix2 ⟨64 * (e.val / 128) + (e.val % 128 - 64), by omega⟩ j) := by
  obtain ⟨i0, i1⟩ := (by decide +kernel : ∀ t : Fin grid0.N, win0_8.index t 0 = 0 ∧ win0_8.index t 1 = 0) n
  refine Eq.trans (b := V m c main_v4 (ix2 (e) j : S1024x1024.Idx)) ?_ (wm_entry m c e j)
  unfold iblk
  rw [View.read_apply]
  refine congrArg (V m c main_v4) (funext fun a => Fin.ext ?_)
  match a with
  | ⟨0, _⟩ => show win0_8.index n 0 * 1024 + 1 * e.val = e.val; rw [i0]; omega
  | ⟨1, _⟩ => show win0_8.index n 1 * 1024 + 1 * j.val = j.val; rw [i1]; omega

theorem ib9 (j : Fin 1024) : (iblk m c 9 n : Vec Ideal S384x1024 .bf16) (ix2 r j) = a3 m c (ix3 (T n r) ⟨j.val / 128, by omega⟩ ⟨j.val % 128, by omega⟩) := by
  obtain ⟨i0, i1⟩ := (by decide +kernel : ∀ t : Fin grid0.N, win0_9.index t 0 = t.val ∧ win0_9.index t 1 = 0) n
  refine Eq.trans (b := V m c main_v11 (ix2 (T n r) j : S8448x1024.Idx)) ?_ (o_entry m c _ _)
  unfold iblk
  rw [View.read_apply]
  refine congrArg (V m c main_v11) (funext fun a => Fin.ext ?_)
  match a with
  | ⟨0, _⟩ => show win0_9.index n 0 * 384 + 1 * r.val = 384 * n.val + r.val; rw [i0]; omega
  | ⟨1, _⟩ => show win0_9.index n 1 * 1024 + 1 * j.val = j.val; rw [i1]; omega
abbrev rc := cR (a0 m c) (a4 m c) (a5 m c) (a6 m c)
abbrev rm := mR (a0 m c) (a4 m c) (a5 m c) (a6 m c)
abbrev rgc := gcR (a0 m c) (a1 m c) (a4 m c) (a5 m c) (a6 m c)
abbrev rgm := gmR (a0 m c) (a2 m c) (a4 m c) (a5 m c) (a6 m c)
abbrev rdy := dyR (a0 m c) (a4 m c) (a5 m c) (a6 m c) (a7 m c)
abbrev rdo := doR (a0 m c) (a4 m c) (a5 m c) (a6 m c) (a8 m c)
abbrev rdl := dlR (a0 m c) (a3 m c) (a4 m c) (a5 m c) (a6 m c) (a8 m c)

theorem dm_eq : dmB (iblk m c 0 n) (iblk m c 1 n) r = dmR (a0 m c) (a6 m c) (T n r) := by
  unfold dmB dmR
  simp only [ib0, ib1]

theorem c_eq : brB (iblk m c 0 n) (iblk m c 4 n) (iblk m c 1 n) (iblk m c 6 n) r 0 = rc m c (T n r) := by
  unfold brB rc cR
  simp only [dm_eq, ib4, ib6]

theorem m_eq : brB (iblk m c 0 n) (iblk m c 5 n) (iblk m c 1 n) (iblk m c 6 n) r 1 = rm m c (T n r) := by
  unfold brB rm mR
  simp only [dm_eq, ib5, ib6]

theorem gc_eq : gateB (iblk m c 0 n) (iblk m c 2 n) (iblk m c 4 n) (iblk m c 1 n) (iblk m c 6 n) r 0 = rgc m c (T n r) := by
  unfold gateB rgc gcR
  simp only [dm_eq, ib2, ib4, ib6]

theorem gm_eq : gateB (iblk m c 0 n) (iblk m c 3 n) (iblk m c 5 n) (iblk m c 1 n) (iblk m c 6 n) r 1 = rgm m c (T n r) := by
  unfold gateB rgm gmR
  simp only [dm_eq, ib3, ib5, ib6]

/-- A row of the attention's branch's gradient times the padded weights: a head's row. -/
theorem do_eq (d : Fin 1024) : rowT (fun x => k0_pay7 (iblk m c 0 n) (iblk m c 1 n) (iblk m c 6 n) (iblk m c 5 n) (ix2 r x)) (fun f x => ((iblk m c 8 n) : Vec Ideal S1024x1024 .bf16) (ix2 f x)) d
    = rdo m c (T n r) ⟨d.val / 128, by omega⟩ ⟨d.val % 128, by omega⟩ := by
  unfold rowT rdo doR
  simp only [pay7_apply, m_eq, ib8]
  by_cases h : d.val % 128 < 64
  · simp only [dif_pos h, mul_zero, Finset.sum_const_zero]
  · simp only [dif_neg h]
    rfl

/-- The sums of the rows before a point's block. -/
def acc : Vec Ideal S2x1024 .f32 := if n.val % 22 = 0 then k0_pay2 (F := Ideal) else (outsAt0 m c (n.val - 1) (Nat.lt_of_le_of_lt (Nat.sub_le _ _) n.isLt)).2.2.2.2.2.2

/-- The blocks a point's results are made of. -/
abbrev P6 := k0_pay6 (iblk m c 0 n) (iblk m c 1 n) (iblk m c 6 n) (iblk m c 4 n)
abbrev P7 := k0_pay7 (iblk m c 0 n) (iblk m c 1 n) (iblk m c 6 n) (iblk m c 5 n)
abbrev G8 := k0_pay8 (iblk m c 0 n) (iblk m c 1 n) (iblk m c 6 n) (iblk m c 4 n) (iblk m c 2 n)
abbrev G9 := k0_pay9 (iblk m c 0 n) (iblk m c 1 n) (iblk m c 6 n) (iblk m c 5 n) (iblk m c 3 n)
abbrev G10 := k0_pay10 (iblk m c 6 n) (iblk m c 5 n)

set_option maxHeartbeats 1600000 in
/-- What a point leaves in the results' buffers. -/
theorem outs_eq : outsAt0 m c n.val n.isLt = ((P6 m c n), (P7 m c n), k0_pay12 (G8 m c n) (G9 m c n) (G10 m c n), k0_pay14 (P6 m c n) (iblk m c 7 n), k0_pay16 (P7 m c n) (iblk m c 8 n), k0_pay1 (k0_pay17 (P7 m c n) (iblk m c 8 n) (iblk m c 9 n)) (k0_pay18 (P7 m c n) (iblk m c 8 n) (iblk m c 9 n)), k0_pay13 (G8 m c n) (G9 m c n) (G10 m c n) (acc m c n)) := by
  unfold acc
  by_cases h0 : n.val % 22 = 0
  rw [outsAt0_A m c n h0, if_pos h0]
  rotate_left
  rw [outsAt0_B m c n h0, if_neg h0]
  all_goals refine Prod.ext ?_ (Prod.ext ?_ (Prod.ext ?_ (Prod.ext ?_ (Prod.ext ?_ (Prod.ext ?_ ?_))))) <;> dsimp only
  all_goals (first
    | (unfold out0_A_10; rw [View.read_writes_eq_canon _ _ _ fun y => cover0_A_10 (y := y) ..])
    | (unfold out0_A_11; rw [View.read_writes_eq_canon _ _ _ fun y => cover0_A_11 (y := y) ..])
    | (unfold out0_A_12; rw [View.read_writes_eq_canon _ _ _ fun y => cover0_A_12 (y := y) ..])
    | (unfold out0_A_13; rw [View.read_writes_eq_canon _ _ _ fun y => cover0_A_13 (y := y) ..])
    | (unfold out0_A_14; rw [View.read_writes_eq_canon _ _ _ fun y => cover0_A_14 (y := y) ..])
    | (unfold out0_A_15; rw [View.read_writes_eq_canon _ _ _ fun y => cover0_A_15 (y := y) ..])
    | (unfold out0_A_16; rw [View.read_writes_eq_canon _ _ _ fun y => cover0_A_16 (y := y) ..])
    | (unfold out0_B_10; rw [View.read_writes_eq_canon _ _ _ fun y => cover0_B_10 (y := y) ..])
    | (unfold out0_B_11; rw [View.read_writes_eq_canon _ _ _ fun y => cover0_B_11 (y := y) ..])
    | (unfold out0_B_12; rw [View.read_writes_eq_canon _ _ _ fun y => cover0_B_12 (y := y) ..])
    | (unfold out0_B_13; rw [View.read_writes_eq_canon _ _ _ fun y => cover0_B_13 (y := y) ..])
    | (unfold out0_B_14; rw [View.read_writes_eq_canon _ _ _ fun y => cover0_B_14 (y := y) ..])
    | (unfold out0_B_15; rw [View.read_writes_eq_canon _ _ _ fun y => cover0_B_15 (y := y) ..])
    | (unfold out0_B_16; rw [View.read_writes_eq_canon _ _ _ fun y => cover0_B_16 (y := y) ..]))
  all_goals (first | unfold kernelRun0_A | unfold kernelRun0_B)
  all_goals dsimp only
  all_goals sl_unfold_words
  all_goals (first
    | rw [View.canon_unit_zero hz2]
    | rw [View.canon_cons_unit_zero (S := S2x1024) hz2, View.readCov_unit_zero (S := S2x1024) _ hz2])
  all_goals simp only [View.readAt_eq_ld, (hs0_0 n).read_unread, (hs0_1 n).read_unread, (hs0_2 n).read_unread, (hs0_3 n).read_unread, (hs0_4 n).read_unread, (hs0_5 n).read_unread, (hs0_6 n).read_unread, (hs0_7 n).read_unread, (hs0_8 n).read_unread, (hs0_9 n).read_unread, (hs0_16 n).read_unread, View.ld_unit_zero (S := S384x1024) hz2, View.ld_unit_zero (S := S1024x1024) hz2, View.ld_unit_zero (S := S2x1024) hz2, View.ld_unit_zero (S := S512x1024) hz2]

/-- The gradient of the convolution's branch the kernel leaves. -/
theorem ker10 (d : Fin 1024) : (dats m 0 c).arrAt 10 cfg0.N (ix2 (T n r) d : S8448x1024.Idx) = rc m c (T n r) d := by
  have i := (by decide +kernel : ∀ t : Fin grid0.N, win0_10.index t 0 = t.val ∧ win0_10.index t 1 = 0)
  have hb := congrFun ((dats m 0 c).read_blk_arrAt_eq_flushed 10 (fun t t' _ _ hne => (cfg0.win 10).disjoint_blk fun he => hne (Fin.ext ((i t).1.symm.trans ((congrFun he 0 : win0_10.index t 0 = win0_10.index t' 0).trans (i t').1)))) cfg0.N n n.isLt (flush0_10 n)) (ix2 r d : S384x1024.Idx)
  rw [show (dats m 0 c).flushed 10 n = (cfg0.win 10).cut (grid0.coords n) ((dats m 0 c).after 10 n) from rfl, after0_10, outs_eq] at hb
  refine Eq.trans (b := (dats m 0 c).arrAt 10 cfg0.N (((cfg0.win 10).blk n).view.emb (ix2 r d : S384x1024.Idx))) ?_ (hb.trans ?_)
  · refine congrArg ((dats m 0 c).arrAt 10 cfg0.N) (funext fun a => Fin.ext ?_)
    match a with
    | ⟨0, _⟩ => show 384 * n.val + r.val = win0_10.index n 0 * 384 + 1 * r.val; rw [(i n).1]; omega
    | ⟨1, _⟩ => show d.val = win0_10.index n 1 * 1024 + 1 * d.val; rw [(i n).2]; omega
  · refine Eq.trans (b := ((P6 m c n)) (ix2 r d)) rfl ?_
    rw [P6, pay6_apply, c_eq]

/-- The gradient of the attention's branch the kernel leaves. -/
theorem ker11 (d : Fin 1024) : (dats m 0 c).arrAt 11 cfg0.N (ix2 (T n r) d : S8448x1024.Idx) = rm m c (T n r) d := by
  have i := (by decide +kernel : ∀ t : Fin grid0.N, win0_11.index t 0 = t.val ∧ win0_11.index t 1 = 0)
  have hb := congrFun ((dats m 0 c).read_blk_arrAt_eq_flushed 11 (fun t t' _ _ hne => (cfg0.win 11).disjoint_blk fun he => hne (Fin.ext ((i t).1.symm.trans ((congrFun he 0 : win0_11.index t 0 = win0_11.index t' 0).trans (i t').1)))) cfg0.N n n.isLt (flush0_11 n)) (ix2 r d : S384x1024.Idx)
  rw [show (dats m 0 c).flushed 11 n = (cfg0.win 11).cut (grid0.coords n) ((dats m 0 c).after 11 n) from rfl, after0_11, outs_eq] at hb
  refine Eq.trans (b := (dats m 0 c).arrAt 11 cfg0.N (((cfg0.win 11).blk n).view.emb (ix2 r d : S384x1024.Idx))) ?_ (hb.trans ?_)
  · refine congrArg ((dats m 0 c).arrAt 11 cfg0.N) (funext fun a => Fin.ext ?_)
    match a with
    | ⟨0, _⟩ => show 384 * n.val + r.val = win0_11.index n 0 * 384 + 1 * r.val; rw [(i n).1]; omega
    | ⟨1, _⟩ => show d.val = win0_11.index n 1 * 1024 + 1 * d.val; rw [(i n).2]; omega
  · refine Eq.trans (b := ((P7 m c n)) (ix2 r d)) rfl ?_
    rw [P7, pay7_apply, m_eq]

/-- The gates' gradients the kernel leaves. -/
theorem ker12 (d : Fin 2048) : (dats m 0 c).arrAt 12 cfg0.N (ix2 (T n r) ⟨2048 + d.val, by omega⟩ : S8448x4096.Idx) = if h : d.val < 1024 then rgc m c (T n r) ⟨d.val, h⟩ else rgm m c (T n r) ⟨d.val - 1024, by omega⟩ := by
  have i := (by decide +kernel : ∀ t : Fin grid0.N, win0_12.index t 0 = t.val ∧ win0_12.index t 1 = 1)
  have hb := congrFun ((dats m 0 c).read_blk_arrAt_eq_flushed 12 (fun t t' _ _ hne => (cfg0.win 12).disjoint_blk fun he => hne (Fin.ext ((i t).1.symm.trans ((congrFun he 0 : win0_12.index t 0 = win0_12.index t' 0).trans (i t').1)))) cfg0.N n n.isLt (flush0_12 n)) (ix2 r d : S384x2048.Idx)
  rw [show (dats m 0 c).flushed 12 n = (cfg0.win 12).cut (grid0.coords n) ((dats m 0 c).after 12 n) from rfl, after0_12, outs_eq] at hb
  refine Eq.trans (b := (dats m 0 c).arrAt 12 cfg0.N (((cfg0.win 12).blk n).view.emb (ix2 r d : S384x2048.Idx))) ?_ (hb.trans ?_)
  · refine congrArg ((dats m 0 c).arrAt 12 cfg0.N) (funext fun a => Fin.ext ?_)
    match a with
    | ⟨0, _⟩ => show 384 * n.val + r.val = win0_12.index n 0 * 384 + 1 * r.val; rw [(i n).1]; omega
    | ⟨1, _⟩ => show 2048 + d.val = win0_12.index n 1 * 2048 + 1 * d.val; rw [(i n).2]; omega
  · refine Eq.trans (b := (k0_pay12 (G8 m c n) (G9 m c n) (G10 m c n)) (ix2 r d)) rfl ?_
    rw [pay12_apply]
    simp only [pay8_apply, pay11_apply, gc_eq, gm_eq]

/-- The gradient of the convolution's output the kernel leaves. -/
theorem ker13 (d : Fin 512) : (dats m 0 c).arrAt 13 cfg0.N (ix2 (T n r) d : S8448x512.Idx) = rdy m c (T n r) d := by
  have i := (by decide +kernel : ∀ t : Fin grid0.N, win0_13.index t 0 = t.val ∧ win0_13.index t 1 = 0)
  have hb := congrFun ((dats m 0 c).read_blk_arrAt_eq_flushed 13 (fun t t' _ _ hne => (cfg0.win 13).disjoint_blk fun he => hne (Fin.ext ((i t).1.symm.trans ((congrFun he 0 : win0_13.index t 0 = win0_13.index t' 0).trans (i t').1)))) cfg0.N n n.isLt (flush0_13 n)) (ix2 r d : S384x512.Idx)
  rw [show (dats m 0 c).flushed 13 n = (cfg0.win 13).cut (grid0.coords n) ((dats m 0 c).after 13 n) from rfl, after0_13, outs_eq] at hb
  refine Eq.trans (b := (dats m 0 c).arrAt 13 cfg0.N (((cfg0.win 13).blk n).view.emb (ix2 r d : S384x512.Idx))) ?_ (hb.trans ?_)
  · refine congrArg ((dats m 0 c).arrAt 13 cfg0.N) (funext fun a => Fin.ext ?_)
    match a with
    | ⟨0, _⟩ => show 384 * n.val + r.val = win0_13.index n 0 * 384 + 1 * r.val; rw [(i n).1]; omega
    | ⟨1, _⟩ => show d.val = win0_13.index n 1 * 512 + 1 * d.val; rw [(i n).2]; omega
  · refine Eq.trans (b := (k0_pay14 (P6 m c n) (iblk m c 7 n)) (ix2 r d)) rfl ?_
    rw [pay14_apply]
    unfold rdy dyR
    simp only [pay6_apply, c_eq, ib7]

/-- The gradient of the attention's output the kernel leaves. -/
theorem ker14 (d : Fin 1024) : (dats m 0 c).arrAt 14 cfg0.N (ix2 (T n r) d : S8448x1024.Idx) = rdo m c (T n r) ⟨d.val / 128, by omega⟩ ⟨d.val % 128, by omega⟩ := by
  have i := (by decide +kernel : ∀ t : Fin grid0.N, win0_14.index t 0 = t.val ∧ win0_14.index t 1 = 0)
  have hb := congrFun ((dats m 0 c).read_blk_arrAt_eq_flushed 14 (fun t t' _ _ hne => (cfg0.win 14).disjoint_blk fun he => hne (Fin.ext ((i t).1.symm.trans ((congrFun he 0 : win0_14.index t 0 = win0_14.index t' 0).trans (i t').1)))) cfg0.N n n.isLt (flush0_14 n)) (ix2 r d : S384x1024.Idx)
  rw [show (dats m 0 c).flushed 14 n = (cfg0.win 14).cut (grid0.coords n) ((dats m 0 c).after 14 n) from rfl, after0_14, outs_eq] at hb
  refine Eq.trans (b := (dats m 0 c).arrAt 14 cfg0.N (((cfg0.win 14).blk n).view.emb (ix2 r d : S384x1024.Idx))) ?_ (hb.trans ?_)
  · refine congrArg ((dats m 0 c).arrAt 14 cfg0.N) (funext fun a => Fin.ext ?_)
    match a with
    | ⟨0, _⟩ => show 384 * n.val + r.val = win0_14.index n 0 * 384 + 1 * r.val; rw [(i n).1]; omega
    | ⟨1, _⟩ => show d.val = win0_14.index n 1 * 1024 + 1 * d.val; rw [(i n).2]; omega
  · refine Eq.trans (b := (k0_pay16 (P7 m c n) (iblk m c 8 n)) (ix2 r d)) rfl ?_
    rw [pay16_apply, do_eq]

/-- The heads' row sums the kernel leaves. -/
theorem ker15 (d : Fin 1024) : (dats m 0 c).arrAt 15 cfg0.N (ix2 (T n r) d : S8448x1024.Idx) = rdl m c (T n r) ⟨d.val / 128, by omega⟩ := by
  have i := (by decide +kernel : ∀ t : Fin grid0.N, win0_15.index t 0 = t.val ∧ win0_15.index t 1 = 0)
  have hb := congrFun ((dats m 0 c).read_blk_arrAt_eq_flushed 15 (fun t t' _ _ hne => (cfg0.win 15).disjoint_blk fun he => hne (Fin.ext ((i t).1.symm.trans ((congrFun he 0 : win0_15.index t 0 = win0_15.index t' 0).trans (i t').1)))) cfg0.N n n.isLt (flush0_15 n)) (ix2 r d : S384x1024.Idx)
  rw [show (dats m 0 c).flushed 15 n = (cfg0.win 15).cut (grid0.coords n) ((dats m 0 c).after 15 n) from rfl, after0_15, outs_eq] at hb
  refine Eq.trans (b := (dats m 0 c).arrAt 15 cfg0.N (((cfg0.win 15).blk n).view.emb (ix2 r d : S384x1024.Idx))) ?_ (hb.trans ?_)
  · refine congrArg ((dats m 0 c).arrAt 15 cfg0.N) (funext fun a => Fin.ext ?_)
    match a with
    | ⟨0, _⟩ => show 384 * n.val + r.val = win0_15.index n 0 * 384 + 1 * r.val; rw [(i n).1]; omega
    | ⟨1, _⟩ => show d.val = win0_15.index n 1 * 1024 + 1 * d.val; rw [(i n).2]; omega
  · refine Eq.trans (b := (k0_pay1 (k0_pay17 (P7 m c n) (iblk m c 8 n) (iblk m c 9 n)) (k0_pay18 (P7 m c n) (iblk m c 8 n) (iblk m c 9 n))) (ix2 r d)) rfl ?_
    have e : d = ⟨128 * (⟨d.val / 128, by omega⟩ : Fin 8).val + (⟨d.val % 128, by omega⟩ : Fin 128).val, by have := d.isLt; show 128 * (d.val / 128) + d.val % 128 < 1024; omega⟩ :=
      Fin.ext (by show d.val = 128 * (d.val / 128) + d.val % 128; omega)
    refine (congrArg (fun u : Fin 1024 => (k0_pay1 (k0_pay17 (P7 m c n) (iblk m c 8 n) (iblk m c 9 n)) (k0_pay18 (P7 m c n) (iblk m c 8 n) (iblk m c 9 n))) (ix2 r u)) e).trans ((pay1_apply r _ _ (fun k => pay18_apply ..) _ _).trans ?_)
    unfold rdl dlR
    refine Finset.sum_congr (M := EReal) rfl fun x _ => ?_
    rw [pay17_apply, do_eq, ib9]
    have e1 : (128 * (d.val / 128) + x.val) / 128 = d.val / 128 := by omega
    have e2 : (128 * (d.val / 128) + x.val) % 128 = x.val := by omega
    simp only [e1, e2]

/-- A row's part of the gates' biases' gradients, zero where there is no row. -/
def gN (s : Fin 2) (d : Fin 1024) (i : ℕ) : EReal :=
  if h : i < 8448 then (if s.val = 0 then rgc m c ⟨i, h⟩ d else rgm m c ⟨i, h⟩ d) else 0

theorem step_apply (s : Fin 2) (d : Fin 1024) (hA : acc m c n (ix2 s d) = ∑ i ∈ Finset.range (384 * n.val), gN m c s d i) :
    (outsAt0 m c n.val n.isLt).2.2.2.2.2.2 (ix2 s d) = ∑ i ∈ Finset.range (384 * n.val + 384), gN m c s d i := by
  rw [outs_eq]
  dsimp only
  rw [pay13_apply, hA, ← Cert.Rows.sum_block_up]
  refine congrArg (fun a : EReal => _ + a) (Finset.sum_congr (M := EReal) rfl fun q _ => ?_)
  simp only [pay8_apply, pay11_apply, gc_eq, gm_eq]
  unfold gN
  rw [dif_pos (show 384 * n.val + q.val < 8448 from (T n q).isLt)]

theorem acc_apply (s : Fin 2) (d : Fin 1024) : ∀ (k : ℕ) (t : Fin cfg0.N), t.val = k →
    (outsAt0 m c t.val t.isLt).2.2.2.2.2.2 (ix2 s d) = ∑ i ∈ Finset.range (384 * t.val + 384), gN m c s d i := by
  intro k
  induction k with
  | zero =>
    intro t ht
    refine step_apply m c t s d ?_
    unfold acc
    rw [if_pos (by rw [ht]), ht]
    exact pay2_apply d s
  | succ k ih =>
    intro t ht
    refine step_apply m c t s d ?_
    have hN := lt_of_lt_of_eq t.isLt N_0
    unfold acc
    rw [if_neg (by omega)]
    refine (ih ⟨t.val - 1, Nat.lt_of_le_of_lt (Nat.sub_le _ _) t.isLt⟩ (by show t.val - 1 = k; omega)).trans ?_
    show ∑ i ∈ Finset.range (384 * (t.val - 1) + 384), gN m c s d i = _
    rw [show 384 * (t.val - 1) + 384 = 384 * t.val by omega]

theorem dis16 : ∀ t t' : Fin cfg0.N, (cfg0.win 16).flush t = true → (cfg0.win 16).flush t' = true → t ≠ t' →
    Disjoint ((cfg0.win 16).blk t).view.set ((cfg0.win 16).blk t').view.set :=
  fun t t' hf hf' hne => absurd (Fin.ext (by
    have f := (flush0_16 t).mp hf
    have f' := (flush0_16 t').mp hf'
    have := lt_of_lt_of_eq t.isLt N_0
    have := lt_of_lt_of_eq t'.isLt N_0
    omega)) hne

/-- The gates' biases' gradients the kernel leaves. -/
theorem ker16 (s : Fin 2) (d : Fin 1024) : (dats m 0 c).arrAt 16 cfg0.N (ix2 s d : S2x1024.Idx)
    = ∑ q : Fin 8448, (if s.val = 0 then rgc m c q d else rgm m c q d) := by
  let n : Fin cfg0.N := ⟨21, lt_of_lt_of_eq (show 21 < 22 by omega) N_0.symm⟩
  obtain ⟨i0, i1⟩ := (by decide +kernel : ∀ t : Fin grid0.N, win0_16.index t 0 = 0 ∧ win0_16.index t 1 = 0) n
  have hb := congrFun ((dats m 0 c).read_blk_arrAt_eq_flushed 16 dis16 cfg0.N n n.isLt ((flush0_16 n).mpr rfl)) (ix2 s d : S2x1024.Idx)
  rw [show (dats m 0 c).flushed 16 n = (cfg0.win 16).cut (grid0.coords n) ((dats m 0 c).after 16 n) from rfl, after0_16] at hb
  refine Eq.trans (b := (dats m 0 c).arrAt 16 cfg0.N (((cfg0.win 16).blk n).view.emb (ix2 s d : S2x1024.Idx))) ?_ (hb.trans ?_)
  · refine congrArg ((dats m 0 c).arrAt 16 cfg0.N) (funext fun a => Fin.ext ?_)
    match a with
    | ⟨0, _⟩ => show s.val = win0_16.index n 0 * 2 + 1 * s.val; rw [i0]; omega
    | ⟨1, _⟩ => show d.val = win0_16.index n 1 * 1024 + 1 * d.val; rw [i1]; omega
  · refine Eq.trans (acc_apply m c s d 21 n rfl) ?_
    show ∑ i ∈ Finset.range 8448, gN m c s d i = _
    rw [Finset.sum_range]
    exact Finset.sum_congr (M := EReal) rfl fun q _ => dif_pos q.isLt

end

/-- The gates' columns of the projections' gradient. -/
def gates (X : S8448x4096.Idx → EReal) : S8448x2048.Idx → EReal := extractStridedSlice S8448x2048 ![0, 2048] X slices_S8448x4096_S8448x2048_0_2048
/-- The columns by heads. -/
def heads (X : S8448x1024.Idx → EReal) : S8448x8x128.Idx → EReal := shapeCast S8448x8x128 X shapeCasts_S8448x1024_S8448x8x128

theorem gates_apply (X : S8448x4096.Idx → EReal) (t : Fin 8448) (e : Fin 2048) : gates X (ix2 t e) = X (ix2 t ⟨2048 + e.val, by omega⟩) := by
  unfold gates
  pointwise

theorem heads_apply (X : S8448x1024.Idx → EReal) (t : Fin 8448) (h : Fin 8) (k : Fin 128) : heads X (ix3 t h k) = X (ix2 t ⟨128 * h.val + k.val, by omega⟩) := by
  unfold heads
  pointwise
  exact congrArg X (congrArg (ix2 t) (Fin.ext (by show h.val * 128 + k.val = 128 * h.val + k.val; omega)))

theorem tail13 (W : Valuation τ sig (Elt Ideal)) : StableHlo.after hostOps1 W (Proc.devRef .tc main_v13) = gates (W (Proc.devRef .tc main_v12_2)) := by
  after_results_simp
  rfl

theorem tail14 (W : Valuation τ sig (Elt Ideal)) : StableHlo.after hostOps1 W (Proc.devRef .tc main_v14) = heads (W (Proc.devRef .tc main_v12_4)) := by
  after_results_simp
  rfl

theorem tail15 (W : Valuation τ sig (Elt Ideal)) : StableHlo.after hostOps1 W (Proc.devRef .tc main_v15) = heads (W (Proc.devRef .tc main_v12_5)) := by
  after_results_simp
  rfl

/-- A result of the kernel's call. -/
abbrev kr (c : Dev nD) (w : Fin cfg0.W) := (dats m 0 c).arrAt w cfg0.N
/-- The buffers after the kernel, before the host's last lines. -/
abbrev mid (c : Dev nD) : Valuation τ sig (Elt Ideal) := Pipeline.withArrays spec0 c (V0 m c) fun w => kr m c w

theorem mid12 (c : Dev nD) : mid m c (Proc.devRef .tc main_v12_2) = kr m c 12 := (dats m 0 c).withArrays_arrAt sharedIn0 (V0 m c) (A_eq m c) 12
theorem mid14 (c : Dev nD) : mid m c (Proc.devRef .tc main_v12_4) = kr m c 14 := (dats m 0 c).withArrays_arrAt sharedIn0 (V0 m c) (A_eq m c) 14
theorem mid15 (c : Dev nD) : mid m c (Proc.devRef .tc main_v12_5) = kr m c 15 := (dats m 0 c).withArrays_arrAt sharedIn0 (V0 m c) (A_eq m c) 15

/-- The kernel's program leaves these results. -/
theorem run_result (ρ : Dev nD → PrngReg) : θ_run defs (onTc (τ := τ) (main (F := Ideal))) ⟨m, fun _ => 0, ρ⟩ (fun r => ∀ c : Dev nD,
      r.2.mem ((c : Thread nD τ).loc main_v12_0) = kr m c 10 ∧ r.2.mem ((c : Thread nD τ).loc main_v12_1) = kr m c 11
      ∧ r.2.mem ((c : Thread nD τ).loc main_v13) = gates (kr m c 12) ∧ r.2.mem ((c : Thread nD τ).loc main_v12_3) = kr m c 13
      ∧ r.2.mem ((c : Thread nD τ).loc main_v14) = heads (kr m c 14) ∧ r.2.mem ((c : Thread nD τ).loc main_v15) = heads (kr m c 15)
      ∧ r.2.mem ((c : Thread nD τ).loc main_v12_6) = kr m c 16) :=
  (θ_run defs _ _).mono (fun _ h c => ⟨(h c).1 10, (h c).1 11,
    ((h c).2 main_v13 (Pipeline.mem_restRefs_of main_v13 (by decide) (by decide))).trans ((tail13 (mid m c)).trans (congrArg gates (mid12 m c))), (h c).1 13,
    ((h c).2 main_v14 (Pipeline.mem_restRefs_of main_v14 (by decide) (by decide))).trans ((tail14 (mid m c)).trans (congrArg heads (mid14 m c))),
    ((h c).2 main_v15 (Pipeline.mem_restRefs_of main_v15 (by decide) (by decide))).trans ((tail15 (mid m c)).trans (congrArg heads (mid15 m c))), (h c).1 16⟩) (run_main m ρ)

/-- Every row is a row of a block. -/
theorem row_eq (t : Fin 8448) : ∃ n r, t = T n r :=
  ⟨⟨t.val / 384, lt_of_lt_of_eq (show t.val / 384 < 22 by omega) N_0.symm⟩, ⟨t.val % 384, by omega⟩, Fin.ext (by show t.val = 384 * (t.val / 384) + t.val % 384; omega)⟩

open Cert.MgbReferenceIdeal.Read

theorem res0 (c : Dev nD) : kr m c 10 = val_main_v51 (F := Ideal) (a0 m c) (a4 m c) (a5 m c) (a6 m c) := by
  funext i
  obtain ⟨t, d, rfl⟩ : ∃ (t : Fin 8448) (d : Fin 1024), i = (ix2 t d : S8448x1024.Idx) := ⟨i 0, i 1, eq_ix2 i⟩
  obtain ⟨n, r, rfl⟩ := row_eq t
  exact (ker10 m c n r d).trans (ref_c ..).symm

theorem res1 (c : Dev nD) : kr m c 11 = val_main_v52 (F := Ideal) (a0 m c) (a4 m c) (a5 m c) (a6 m c) := by
  funext i
  obtain ⟨t, d, rfl⟩ : ∃ (t : Fin 8448) (d : Fin 1024), i = (ix2 t d : S8448x1024.Idx) := ⟨i 0, i 1, eq_ix2 i⟩
  obtain ⟨n, r, rfl⟩ := row_eq t
  exact (ker11 m c n r d).trans (ref_m ..).symm

theorem res2 (c : Dev nD) : gates (kr m c 12) = val_main_v71 (F := Ideal) (a0 m c) (a1 m c) (a2 m c) (a4 m c) (a5 m c) (a6 m c) := by
  funext i
  obtain ⟨t, d, rfl⟩ : ∃ (t : Fin 8448) (d : Fin 2048), i = (ix2 t d : S8448x2048.Idx) := ⟨i 0, i 1, eq_ix2 i⟩
  obtain ⟨n, r, rfl⟩ := row_eq t
  exact (gates_apply _ _ d).trans ((ker12 m c n r d).trans (ref_g ..).symm)

theorem res3 (c : Dev nD) : kr m c 13 = val_main_v56 (F := Ideal) (a0 m c) (a4 m c) (a5 m c) (a6 m c) (a7 m c) := by
  funext i
  obtain ⟨t, d, rfl⟩ : ∃ (t : Fin 8448) (d : Fin 512), i = (ix2 t d : S8448x512.Idx) := ⟨i 0, i 1, eq_ix2 i⟩
  obtain ⟨n, r, rfl⟩ := row_eq t
  exact (ker13 m c n r d).trans (ref_dy ..).symm

theorem res4 (c : Dev nD) : heads (kr m c 14) = val_main_v72 (F := Ideal) (a0 m c) (a4 m c) (a5 m c) (a6 m c) (a8 m c) := by
  funext i
  obtain ⟨t, h, k, rfl⟩ : ∃ (t : Fin 8448) (h : Fin 8) (k : Fin 128), i = (ix3 t h k : S8448x8x128.Idx) := ⟨i 0, i 1, i 2, eq_ix3 i⟩
  obtain ⟨n, r, rfl⟩ := row_eq t
  have e1 : (128 * h.val + k.val) / 128 = h.val := by omega
  have e2 : (128 * h.val + k.val) % 128 = k.val := by omega
  refine (heads_apply _ _ h k).trans ((ker14 m c n r _).trans (Eq.trans ?_ (ref_do' ..).symm))
  simp only [e1, e2]

theorem res5 (c : Dev nD) : heads (kr m c 15) = val_main_v69 (F := Ideal) (a0 m c) (a3 m c) (a4 m c) (a5 m c) (a6 m c) (a8 m c) := by
  funext i
  obtain ⟨t, h, k, rfl⟩ : ∃ (t : Fin 8448) (h : Fin 8) (k : Fin 128), i = (ix3 t h k : S8448x8x128.Idx) := ⟨i 0, i 1, i 2, eq_ix3 i⟩
  obtain ⟨n, r, rfl⟩ := row_eq t
  have e1 : (128 * h.val + k.val) / 128 = h.val := by omega
  have e2 : (128 * h.val + k.val) % 128 = k.val := by omega
  refine (heads_apply _ _ h k).trans ((ker15 m c n r _).trans (Eq.trans ?_ (ref_dl ..).symm))
  simp only [e1]

theorem res6 (c : Dev nD) : kr m c 16 = val_main_v75 (F := Ideal) (a0 m c) (a1 m c) (a2 m c) (a4 m c) (a5 m c) (a6 m c) := by
  funext i
  obtain ⟨t, d, rfl⟩ : ∃ (t : Fin 2) (d : Fin 1024), i = (ix2 t d : S2x1024.Idx) := ⟨i 0, i 1, eq_ix2 i⟩
  exact (ker16 m c t d).trans (ref_db ..).symm

set_option maxHeartbeats 1600000 in
/-- The kernel computes the reference's results. -/
theorem algebraic : Cert.algebraic_MgbKernelIdeal_MgbReferenceIdeal := by
  intro m g m' g' _ hag
  refine ⟨fun c => kr m c 10, fun c => kr m c 11, fun c => gates (kr m c 12), fun c => kr m c 13, fun c => heads (kr m c 14), fun c => heads (kr m c 15), fun c => kr m c 16,
    (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2, h.2 c⟩)
      (θ_run_and (run_result m g) (Cert.MgbKernelIdeal.Gen.unchanged m g)), ?_⟩
  refine (θ_run _ _ _).mono (fun r h c => ?_) (Cert.MgbReferenceIdeal.Value.run m' g')
  obtain ⟨h0, h1, h2, h3, h4, h5, h6, ha⟩ := h c
  obtain ⟨e0, e1, e2, e3, e4, e5, e6, e7, e8⟩ := hag c
  refine ⟨?_, ?_, ?_, ?_, ?_, ?_, ?_, ha⟩
  · refine Eq.trans ?_ (res0 m c).symm
    unfold a0 a4 a5 a6
    rw [← e0, ← e4, ← e5, ← e6]
    exact h0.trans (val_main_v51_eq _ _ _ _)
  · refine Eq.trans ?_ (res1 m c).symm
    unfold a0 a4 a5 a6
    rw [← e0, ← e4, ← e5, ← e6]
    exact h1.trans (val_main_v52_eq _ _ _ _)
  · refine Eq.trans ?_ (res2 m c).symm
    unfold a0 a1 a2 a4 a5 a6
    rw [← e0, ← e1, ← e2, ← e4, ← e5, ← e6]
    exact h2.trans (val_main_v71_eq _ _ _ _ _ _)
  · refine Eq.trans ?_ (res3 m c).symm
    unfold a0 a4 a5 a6 a7
    rw [← e0, ← e4, ← e5, ← e6, ← e7]
    exact h3.trans (val_main_v56_eq _ _ _ _ _)
  · refine Eq.trans ?_ (res4 m c).symm
    unfold a0 a4 a5 a6 a8
    rw [← e0, ← e4, ← e5, ← e6, ← e8]
    exact h4.trans (val_main_v72_eq _ _ _ _ _)
  · refine Eq.trans ?_ (res5 m c).symm
    unfold a0 a3 a4 a5 a6 a8
    rw [← e0, ← e3, ← e4, ← e5, ← e6, ← e8]
    exact h5.trans (val_main_v69_eq _ _ _ _ _ _)
  · refine Eq.trans ?_ (res6 m c).symm
    unfold a0 a1 a2 a4 a5 a6
    rw [← e0, ← e1, ← e2, ← e4, ← e5, ← e6]
    exact h6.trans (val_main_v75_eq _ _ _ _ _ _)

/-- The reference runs, leaves its arguments unchanged and ends with every counter at zero. -/
theorem frame_reference : Cert.quiescent_MgbReferenceIdeal := by
  intro m ρ _
  exact (θ_run Cert.MgbReferenceIdeal.defs _ _).mono (fun r h => ⟨fun c => (h c).2.2.2.2.2.2.2,
      Idealize.ShloMosaic.sem_eq_zero_of_no_sems (by decide) r.2⟩) (Cert.MgbReferenceIdeal.Value.run (F := Ideal) m ρ)

end Cert.MgbAlg
end
-- ==== Proof.lean ====
module

public import proofs.«01_k».proof.Defs
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvReferenceIdeal
public import proofs.«01_k».proof.Proof.Gen.ConvKernelIdeal.Value
public import proofs.«01_k».proof.Proof.Gen.ConvReferenceIdeal.Run
public import proofs.«01_k».proof.Proof.Gen.ConvReferenceIdeal.Read
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernel.Loops
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnKernelIdeal.Loops
public import proofs.«01_k».proof.Proof.Gen.AttnReferenceIdeal
public import proofs.«01_k».proof.Proof.Gen.Pre_attn_finite
public import proofs.«01_k».proof.Proof.Gen.AttnReferenceIdeal.Run
public import proofs.«01_k».proof.Proof.Gen.AttnReferenceIdeal.Read
public import proofs.«01_k».proof.Proof.ConvAlg
public import proofs.«01_k».proof.Proof.AttnAlg
public import proofs.«01_k».proof.Proof.AttnWordFrame
public import proofs.«01_k».proof.Proof.Gen.FdbKernel.Frame
public import proofs.«01_k».proof.Proof.Gen.FdbKernelIdeal.Value
public import proofs.«01_k».proof.Proof.Gen.FdbReferenceIdeal.Run
public import proofs.«01_k».proof.Proof.Gen.FdbReferenceIdeal.Read
public import proofs.«01_k».proof.Proof.FdbAlg
public import proofs.«01_k».proof.Proof.Gen.Pre_fdb_finite
public import proofs.«01_k».proof.Proof.Gen.FubKernel.Frame
public import proofs.«01_k».proof.Proof.Gen.FubKernelIdeal.Value
public import proofs.«01_k».proof.Proof.Gen.FubReferenceIdeal.Run
public import proofs.«01_k».proof.Proof.Gen.FubReferenceIdeal.Read
public import proofs.«01_k».proof.Proof.FubAlg
public import proofs.«01_k».proof.Proof.Gen.DwdKernel.Frame
public import proofs.«01_k».proof.Proof.Gen.DwdKernelIdeal.Value
public import proofs.«01_k».proof.Proof.Gen.DwdReferenceIdeal.Run
public import proofs.«01_k».proof.Proof.Gen.DwdReferenceIdeal.Read
public import proofs.«01_k».proof.Proof.DwdAlg
public import proofs.«01_k».proof.Proof.Gen.DwbKernel.Frame
public import proofs.«01_k».proof.Proof.Gen.DwbKernelIdeal.Value
public import proofs.«01_k».proof.Proof.Gen.DwbReferenceIdeal.Run
public import proofs.«01_k».proof.Proof.Gen.DwbReferenceIdeal.Read
public import proofs.«01_k».proof.Proof.DwbAlg
public import proofs.«01_k».proof.Proof.Gen.DwaKernel.Frame
public import proofs.«01_k».proof.Proof.Gen.DwaKernelIdeal.Frame
public import proofs.«01_k».proof.Proof.Gen.DwaReferenceIdeal.Run
public import proofs.«01_k».proof.Proof.Gen.DwaReferenceIdeal.Read
public import proofs.«01_k».proof.Proof.DwaAlg
public import proofs.«01_k».proof.Proof.Gen.MxbKernel.Frame
public import proofs.«01_k».proof.Proof.Gen.MxbKernelIdeal.Value
public import proofs.«01_k».proof.Proof.Gen.MxbReferenceIdeal.Run
public import proofs.«01_k».proof.Proof.Gen.MxbReferenceIdeal.Read
public import proofs.«01_k».proof.Proof.MxbAlg
public import proofs.«01_k».proof.Proof.Gen.DwiKernel.Frame
public import proofs.«01_k».proof.Proof.Gen.DwiKernelIdeal.Frame
public import proofs.«01_k».proof.Proof.Gen.DwiReferenceIdeal.Run
public import proofs.«01_k».proof.Proof.Gen.DwiReferenceIdeal.Read
public import proofs.«01_k».proof.Proof.DwiAlg
public import proofs.«01_k».proof.Proof.Gen.FupKernel.Frame
public import proofs.«01_k».proof.Proof.Gen.FupKernelIdeal.Value
public import proofs.«01_k».proof.Proof.Gen.FupReferenceIdeal.Run
public import proofs.«01_k».proof.Proof.Gen.FupReferenceIdeal.Read
public import proofs.«01_k».proof.Proof.FupAlg
public import proofs.«01_k».proof.Proof.Gen.MxfKernel.Frame
public import proofs.«01_k».proof.Proof.Gen.MxfKernelIdeal.Frame
public import proofs.«01_k».proof.Proof.Gen.MxfReferenceIdeal.Run
public import proofs.«01_k».proof.Proof.Gen.MxfReferenceIdeal.Read
public import proofs.«01_k».proof.Proof.MxfAlg
public import proofs.«01_k».proof.Proof.Gen.DlnKernel.Frame
public import proofs.«01_k».proof.Proof.Gen.DlnKernelIdeal.Value
public import proofs.«01_k».proof.Proof.Gen.DlnReferenceIdeal.Run
public import proofs.«01_k».proof.Proof.Gen.DlnReferenceIdeal.Read
public import proofs.«01_k».proof.Proof.DlnAlg
public import proofs.«01_k».proof.Proof.Gen.MrgKernel.Frame
public import proofs.«01_k».proof.Proof.Gen.MrgKernelIdeal.Value
public import proofs.«01_k».proof.Proof.Gen.MrgReferenceIdeal.Run
public import proofs.«01_k».proof.Proof.Gen.MrgReferenceIdeal.Read
public import proofs.«01_k».proof.Proof.MrgAlg
public import proofs.«01_k».proof.Proof.Gen.DwoKernel.Frame
public import proofs.«01_k».proof.Proof.Gen.DwoKernelIdeal.Value
public import proofs.«01_k».proof.Proof.Gen.DwoReferenceIdeal.Run
public import proofs.«01_k».proof.Proof.Gen.DwoReferenceIdeal.Read
public import proofs.«01_k».proof.Proof.DwoAlg
public import proofs.«01_k».proof.Proof.Gen.MgbKernel.Frame
public import proofs.«01_k».proof.Proof.Gen.MgbKernelIdeal.Frame
public import proofs.«01_k».proof.Proof.Gen.MgbReferenceIdeal.Run
public import proofs.«01_k».proof.Proof.Gen.MgbReferenceIdeal.Read
public import proofs.«01_k».proof.Proof.MgbAlg
public import Idealize.ShloMosaic.Adequacy
public import Idealize.ShloMosaic.Init

@[expose] public section

noncomputable section

namespace Cert.Proof

open Idealize.ShloMosaic Idealize.SL.Sem

/-- Frames, unchanged text and value claims of every program of the certificate. -/
theorem claim : Cert.Claim := ⟨Cert.ConvKernel.Gen.facts, Cert.ConvKernelIdeal.Gen.facts, Cert.ConvReferenceIdeal.Gen.facts,
  Cert.AttnKernel.Gen.facts, Cert.AttnKernelIdeal.Gen.facts, Cert.AttnReferenceIdeal.Gen.facts, Cert.FdbKernel.Gen.facts, Cert.FdbKernelIdeal.Gen.facts, Cert.FdbReferenceIdeal.Gen.facts,
  Cert.FubKernel.Gen.facts, Cert.FubKernelIdeal.Gen.facts, Cert.FubReferenceIdeal.Gen.facts,
  Cert.DwdKernel.Gen.facts, Cert.DwdKernelIdeal.Gen.facts, Cert.DwdReferenceIdeal.Gen.facts,
  Cert.DwbKernel.Gen.facts, Cert.DwbKernelIdeal.Gen.facts, Cert.DwbReferenceIdeal.Gen.facts,
  Cert.DwaKernel.Gen.facts, Cert.DwaKernelIdeal.Gen.facts, Cert.DwaReferenceIdeal.Gen.facts,
  Cert.MxbKernel.Gen.facts, Cert.MxbKernelIdeal.Gen.facts, Cert.MxbReferenceIdeal.Gen.facts,
  Cert.DwiKernel.Gen.facts, Cert.DwiKernelIdeal.Gen.facts, Cert.DwiReferenceIdeal.Gen.facts,
  Cert.FupKernel.Gen.facts, Cert.FupKernelIdeal.Gen.facts, Cert.FupReferenceIdeal.Gen.facts,
  Cert.MxfKernel.Gen.facts, Cert.MxfKernelIdeal.Gen.facts, Cert.MxfReferenceIdeal.Gen.facts,
  Cert.DlnKernel.Gen.facts, Cert.DlnKernelIdeal.Gen.facts, Cert.DlnReferenceIdeal.Gen.facts,
  Cert.MrgKernel.Gen.facts, Cert.MrgKernelIdeal.Gen.facts, Cert.MrgReferenceIdeal.Gen.facts,
  Cert.DwoKernel.Gen.facts, Cert.DwoKernelIdeal.Gen.facts, Cert.DwoReferenceIdeal.Gen.facts,
  Cert.MgbKernel.Gen.facts, Cert.MgbKernelIdeal.Gen.facts, Cert.MgbReferenceIdeal.Gen.facts,
  Cert.Pre_attn_finite.Gen.facts, Cert.Pre_fdb_finite.Gen.facts,
  fun m ρ _ => Cert.ConvKernel.Gen.frame m ρ, fun m ρ _ => Cert.ConvKernelIdeal.Gen.frame m ρ, Cert.ConvAlg.frame_reference,
  fun m ρ _ => Cert.AttnKernel.Hand.frame_attn m ρ, fun m ρ _ => Cert.AttnKernelIdeal.Hand.frame_attn m ρ,
  fun m ρ _ => Cert.AttnKernelIdeal.Hand.frame_attn m ρ, Cert.AttnAlg.frame_reference,
  fun m ρ _ => Cert.AttnAlg.frame_reference m ρ trivial,
  fun m ρ _ => Cert.FdbKernel.Gen.frame m ρ, fun m ρ _ => Cert.FdbKernelIdeal.Gen.frame m ρ, fun m ρ _ => Cert.FdbKernelIdeal.Gen.frame m ρ, Cert.FdbAlg.frame_reference, fun m ρ _ => Cert.FdbAlg.frame_reference m ρ trivial,
  fun m ρ _ => Cert.FubKernel.Gen.frame m ρ, fun m ρ _ => Cert.FubKernelIdeal.Gen.frame m ρ, Cert.FubAlg.frame_reference,
  fun m ρ _ => Cert.DwdKernel.Gen.frame m ρ, fun m ρ _ => Cert.DwdKernelIdeal.Gen.frame m ρ, Cert.DwdAlg.frame_reference,
  fun m ρ _ => Cert.DwbKernel.Gen.frame m ρ, fun m ρ _ => Cert.DwbKernelIdeal.Gen.frame m ρ, Cert.DwbAlg.frame_reference,
  fun m ρ _ => Cert.DwaKernel.Gen.frame m ρ, fun m ρ _ => Cert.DwaKernelIdeal.Gen.frame m ρ, Cert.DwaAlg.frame_reference,
  fun m ρ _ => Cert.MxbKernel.Gen.frame m ρ, fun m ρ _ => Cert.MxbKernelIdeal.Gen.frame m ρ, Cert.MxbAlg.frame_reference,
  fun m ρ _ => Cert.DwiKernel.Gen.frame m ρ, fun m ρ _ => Cert.DwiKernelIdeal.Gen.frame m ρ, Cert.DwiAlg.frame_reference,
  fun m ρ _ => Cert.FupKernel.Gen.frame m ρ, fun m ρ _ => Cert.FupKernelIdeal.Gen.frame m ρ, Cert.FupAlg.frame_reference,
  fun m ρ _ => Cert.MxfKernel.Gen.frame m ρ, fun m ρ _ => Cert.MxfKernelIdeal.Gen.frame m ρ, Cert.MxfAlg.frame_reference,
  fun m ρ _ => Cert.DlnKernel.Gen.frame m ρ, fun m ρ _ => Cert.DlnKernelIdeal.Gen.frame m ρ, Cert.DlnAlg.frame_reference,
  fun m ρ _ => Cert.MrgKernel.Gen.frame m ρ, fun m ρ _ => Cert.MrgKernelIdeal.Gen.frame m ρ, Cert.MrgAlg.frame_reference,
  fun m ρ _ => Cert.DwoKernel.Gen.frame m ρ, fun m ρ _ => Cert.DwoKernelIdeal.Gen.frame m ρ, Cert.DwoAlg.frame_reference,
  fun m ρ _ => Cert.MgbKernel.Gen.frame m ρ, fun m ρ _ => Cert.MgbKernelIdeal.Gen.frame m ρ, Cert.MgbAlg.frame_reference,
  trivial, Cert.ConvAlg.algebraic, Cert.AttnAlg.named, Cert.AttnAlg.algebraic,
  trivial, Cert.FdbAlg.algebraic,
  trivial, Cert.FubAlg.algebraic,
  trivial, Cert.DwdAlg.algebraic,
  trivial, Cert.DwbAlg.algebraic,
  trivial, Cert.DwaAlg.algebraic,
  trivial, Cert.MxbAlg.algebraic,
  trivial, Cert.DwiAlg.algebraic,
  trivial, Cert.FupAlg.algebraic,
  trivial, Cert.MxfAlg.algebraic,
  trivial, Cert.DlnAlg.algebraic,
  trivial, Cert.MrgAlg.algebraic,
  trivial, Cert.DwoAlg.algebraic,
  trivial, Cert.MgbAlg.algebraic⟩

end Cert.Proof

end
